-- ==== Defs.lean ====
def Pre_KernelFfn (m : (ℓ : Loc Cert.KernelFfn.nD Cert.KernelFfn.τ Cert.KernelFfn.sig) → Buf (Elt Bits) ℓ) : Prop :=
  True

def Pre_KernelFfnIdeal (m : (ℓ : Loc Cert.KernelFfnIdeal.nD Cert.KernelFfnIdeal.τ Cert.KernelFfnIdeal.sig) → Buf (Elt Ideal) ℓ) : Prop :=
  True

def Pre_KernelFfnIdeal_finite [hPre_finite : Cert.Pre_finite.Facts] (m : (ℓ : Loc Cert.KernelFfnIdeal.nD Cert.KernelFfnIdeal.τ Cert.KernelFfnIdeal.sig) → Buf (Elt Ideal) ℓ) : Prop :=
  ∀ c : Dev Cert.KernelFfnIdeal.nD,
    (Cert.Pre_finite.fn (F := Ideal) (m ((c.tc : Thread Cert.KernelFfnIdeal.nD Cert.KernelFfnIdeal.τ).loc Cert.KernelFfnIdeal.main_arg0)) (m ((c.tc : Thread Cert.KernelFfnIdeal.nD Cert.KernelFfnIdeal.τ).loc Cert.KernelFfnIdeal.main_arg1)) (m ((c.tc : Thread Cert.KernelFfnIdeal.nD Cert.KernelFfnIdeal.τ).loc Cert.KernelFfnIdeal.main_arg2)) (m ((c.tc : Thread Cert.KernelFfnIdeal.nD Cert.KernelFfnIdeal.τ).loc Cert.KernelFfnIdeal.main_arg3)) (m ((c.tc : Thread Cert.KernelFfnIdeal.nD Cert.KernelFfnIdeal.τ).loc Cert.KernelFfnIdeal.main_arg4)) (m ((c.tc : Thread Cert.KernelFfnIdeal.nD Cert.KernelFfnIdeal.τ).loc Cert.KernelFfnIdeal.main_arg5))) = (fun _ => 1#1)

def Pre_ReferenceFfnIdeal (m : (ℓ : Loc Cert.ReferenceFfnIdeal.nD Cert.ReferenceFfnIdeal.τ Cert.ReferenceFfnIdeal.sig) → Buf (Elt Ideal) ℓ) : Prop :=
  True

def Pre_ReferenceFfnIdeal_finite [hPre_finite : Cert.Pre_finite.Facts] (m : (ℓ : Loc Cert.ReferenceFfnIdeal.nD Cert.ReferenceFfnIdeal.τ Cert.ReferenceFfnIdeal.sig) → Buf (Elt Ideal) ℓ) : Prop :=
  ∀ c : Dev Cert.ReferenceFfnIdeal.nD,
    (Cert.Pre_finite.fn (F := Ideal) (m ((c.tc : Thread Cert.ReferenceFfnIdeal.nD Cert.ReferenceFfnIdeal.τ).loc Cert.ReferenceFfnIdeal.main_arg0)) (m ((c.tc : Thread Cert.ReferenceFfnIdeal.nD Cert.ReferenceFfnIdeal.τ).loc Cert.ReferenceFfnIdeal.main_arg1)) (m ((c.tc : Thread Cert.ReferenceFfnIdeal.nD Cert.ReferenceFfnIdeal.τ).loc Cert.ReferenceFfnIdeal.main_arg2)) (m ((c.tc : Thread Cert.ReferenceFfnIdeal.nD Cert.ReferenceFfnIdeal.τ).loc Cert.ReferenceFfnIdeal.main_arg3)) (m ((c.tc : Thread Cert.ReferenceFfnIdeal.nD Cert.ReferenceFfnIdeal.τ).loc Cert.ReferenceFfnIdeal.main_arg4)) (m ((c.tc : Thread Cert.ReferenceFfnIdeal.nD Cert.ReferenceFfnIdeal.τ).loc Cert.ReferenceFfnIdeal.main_arg5))) = (fun _ => 1#1)

def Pre_KernelGateUp (m : (ℓ : Loc Cert.KernelGateUp.nD Cert.KernelGateUp.τ Cert.KernelGateUp.sig) → Buf (Elt Bits) ℓ) : Prop :=
  True

def Pre_KernelGateUpIdeal (m : (ℓ : Loc Cert.KernelGateUpIdeal.nD Cert.KernelGateUpIdeal.τ Cert.KernelGateUpIdeal.sig) → Buf (Elt Ideal) ℓ) : Prop :=
  True

def Pre_ReferenceGateUpIdeal (m : (ℓ : Loc Cert.ReferenceGateUpIdeal.nD Cert.ReferenceGateUpIdeal.τ Cert.ReferenceGateUpIdeal.sig) → Buf (Elt Ideal) ℓ) : Prop :=
  True

def Pre_KernelDown (m : (ℓ : Loc Cert.KernelDown.nD Cert.KernelDown.τ Cert.KernelDown.sig) → Buf (Elt Bits) ℓ) : Prop :=
  True

def Pre_KernelDownIdeal (m : (ℓ : Loc Cert.KernelDownIdeal.nD Cert.KernelDownIdeal.τ Cert.KernelDownIdeal.sig) → Buf (Elt Ideal) ℓ) : Prop :=
  True

def Pre_ReferenceDownIdeal (m : (ℓ : Loc Cert.ReferenceDownIdeal.nD Cert.ReferenceDownIdeal.τ Cert.ReferenceDownIdeal.sig) → Buf (Elt Ideal) ℓ) : Prop :=
  True

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelOut (m : (ℓ : Loc Cert.KernelOut.nD Cert.KernelOut.τ Cert.KernelOut.sig) → Buf (Elt Bits) ℓ) : Prop :=
  True

def Pre_KernelOutIdeal (m : (ℓ : Loc Cert.KernelOutIdeal.nD Cert.KernelOutIdeal.τ Cert.KernelOutIdeal.sig) → Buf (Elt Ideal) ℓ) : Prop :=
  True

def Pre_ReferenceOutIdeal (m : (ℓ : Loc Cert.ReferenceOutIdeal.nD Cert.ReferenceOutIdeal.τ Cert.ReferenceOutIdeal.sig) → Buf (Elt Ideal) ℓ) : Prop :=
  True

def Pre_KernelProj (m : (ℓ : Loc Cert.KernelProj.nD Cert.KernelProj.τ Cert.KernelProj.sig) → Buf (Elt Bits) ℓ) : Prop :=
  True

def Pre_KernelProjIdeal (m : (ℓ : Loc Cert.KernelProjIdeal.nD Cert.KernelProjIdeal.τ Cert.KernelProjIdeal.sig) → Buf (Elt Ideal) ℓ) : Prop :=
  True

def Pre_ReferenceProjIdeal (m : (ℓ : Loc Cert.ReferenceProjIdeal.nD Cert.ReferenceProjIdeal.τ Cert.ReferenceProjIdeal.sig) → Buf (Elt Ideal) ℓ) : Prop :=
  True

def Pre_KernelNormProj (m : (ℓ : Loc Cert.KernelNormProj.nD Cert.KernelNormProj.τ Cert.KernelNormProj.sig) → Buf (Elt Bits) ℓ) : Prop :=
  True

def Pre_KernelNormProjIdeal (m : (ℓ : Loc Cert.KernelNormProjIdeal.nD Cert.KernelNormProjIdeal.τ Cert.KernelNormProjIdeal.sig) → Buf (Elt Ideal) ℓ) : Prop :=
  True

def Pre_ReferenceNormProjIdeal (m : (ℓ : Loc Cert.ReferenceNormProjIdeal.nD Cert.ReferenceNormProjIdeal.τ Cert.ReferenceNormProjIdeal.sig) → Buf (Elt Ideal) ℓ) : Prop :=
  True

def Pre_KernelFfnFwd (m : (ℓ : Loc Cert.KernelFfnFwd.nD Cert.KernelFfnFwd.τ Cert.KernelFfnFwd.sig) → Buf (Elt Bits) ℓ) : Prop :=
  True

def Pre_KernelFfnFwdIdeal (m : (ℓ : Loc Cert.KernelFfnFwdIdeal.nD Cert.KernelFfnFwdIdeal.τ Cert.KernelFfnFwdIdeal.sig) → Buf (Elt Ideal) ℓ) : Prop :=
  True

def Pre_ReferenceFfnFwdIdeal (m : (ℓ : Loc Cert.ReferenceFfnFwdIdeal.nD Cert.ReferenceFfnFwdIdeal.τ Cert.ReferenceFfnFwdIdeal.sig) → Buf (Elt Ideal) ℓ) : Prop :=
  True

def Pre_KernelStepNorm (m : (ℓ : Loc Cert.KernelStepNorm.nD Cert.KernelStepNorm.τ Cert.KernelStepNorm.sig) → Buf (Elt Bits) ℓ) : Prop :=
  True

def Pre_KernelStepNormIdeal (m : (ℓ : Loc Cert.KernelStepNormIdeal.nD Cert.KernelStepNormIdeal.τ Cert.KernelStepNormIdeal.sig) → Buf (Elt Ideal) ℓ) : Prop :=
  True

def Pre_ReferenceStepNormIdeal (m : (ℓ : Loc Cert.ReferenceStepNormIdeal.nD Cert.ReferenceStepNormIdeal.τ Cert.ReferenceStepNormIdeal.sig) → Buf (Elt Ideal) ℓ) : Prop :=
  True

def Pre_KernelStepConv (m : (ℓ : Loc Cert.KernelStepConv.nD Cert.KernelStepConv.τ Cert.KernelStepConv.sig) → Buf (Elt Bits) ℓ) : Prop :=
  True

def Pre_KernelStepConvIdeal (m : (ℓ : Loc Cert.KernelStepConvIdeal.nD Cert.KernelStepConvIdeal.τ Cert.KernelStepConvIdeal.sig) → Buf (Elt Ideal) ℓ) : Prop :=
  True

def Pre_ReferenceStepConvIdeal (m : (ℓ : Loc Cert.ReferenceStepConvIdeal.nD Cert.ReferenceStepConvIdeal.τ Cert.ReferenceStepConvIdeal.sig) → Buf (Elt Ideal) ℓ) : Prop :=
  True

def Pre_KernelStepHead (m : (ℓ : Loc Cert.KernelStepHead.nD Cert.KernelStepHead.τ Cert.KernelStepHead.sig) → Buf (Elt Bits) ℓ) : Prop :=
  True

def Pre_KernelStepHeadIdeal (m : (ℓ : Loc Cert.KernelStepHeadIdeal.nD Cert.KernelStepHeadIdeal.τ Cert.KernelStepHeadIdeal.sig) → Buf (Elt Ideal) ℓ) : Prop :=
  True

def Pre_ReferenceStepHeadIdeal (m : (ℓ : Loc Cert.ReferenceStepHeadIdeal.nD Cert.ReferenceStepHeadIdeal.τ Cert.ReferenceStepHeadIdeal.sig) → Buf (Elt Ideal) ℓ) : Prop :=
  True

def Pre_KernelStepSinks (m : (ℓ : Loc Cert.KernelStepSinks.nD Cert.KernelStepSinks.τ Cert.KernelStepSinks.sig) → Buf (Elt Bits) ℓ) : Prop :=
  True

def Pre_KernelStepSinksIdeal (m : (ℓ : Loc Cert.KernelStepSinksIdeal.nD Cert.KernelStepSinksIdeal.τ Cert.KernelStepSinksIdeal.sig) → Buf (Elt Ideal) ℓ) : Prop :=
  True

def Pre_ReferenceStepSinksIdeal (m : (ℓ : Loc Cert.ReferenceStepSinksIdeal.nD Cert.ReferenceStepSinksIdeal.τ Cert.ReferenceStepSinksIdeal.sig) → Buf (Elt Ideal) ℓ) : Prop :=
  True

def Pre_KernelStepOut (m : (ℓ : Loc Cert.KernelStepOut.nD Cert.KernelStepOut.τ Cert.KernelStepOut.sig) → Buf (Elt Bits) ℓ) : Prop :=
  True

def Pre_KernelStepOutIdeal (m : (ℓ : Loc Cert.KernelStepOutIdeal.nD Cert.KernelStepOutIdeal.τ Cert.KernelStepOutIdeal.sig) → Buf (Elt Ideal) ℓ) : Prop :=
  True

def Pre_ReferenceStepOutIdeal (m : (ℓ : Loc Cert.ReferenceStepOutIdeal.nD Cert.ReferenceStepOutIdeal.τ Cert.ReferenceStepOutIdeal.sig) → Buf (Elt Ideal) ℓ) : Prop :=
  True

def Pre_KernelStepWo (m : (ℓ : Loc Cert.KernelStepWo.nD Cert.KernelStepWo.τ Cert.KernelStepWo.sig) → Buf (Elt Bits) ℓ) : Prop :=
  True

def Pre_KernelStepWoIdeal (m : (ℓ : Loc Cert.KernelStepWoIdeal.nD Cert.KernelStepWoIdeal.τ Cert.KernelStepWoIdeal.sig) → Buf (Elt Ideal) ℓ) : Prop :=
  True

def Pre_ReferenceStepWoIdeal (m : (ℓ : Loc Cert.ReferenceStepWoIdeal.nD Cert.ReferenceStepWoIdeal.τ Cert.ReferenceStepWoIdeal.sig) → Buf (Elt Ideal) ℓ) : Prop :=
  True

def Pre_KernelStepIn (m : (ℓ : Loc Cert.KernelStepIn.nD Cert.KernelStepIn.τ Cert.KernelStepIn.sig) → Buf (Elt Bits) ℓ) : Prop :=
  True

def Pre_KernelStepInIdeal (m : (ℓ : Loc Cert.KernelStepInIdeal.nD Cert.KernelStepInIdeal.τ Cert.KernelStepInIdeal.sig) → Buf (Elt Ideal) ℓ) : Prop :=
  True

def Pre_ReferenceStepInIdeal (m : (ℓ : Loc Cert.ReferenceStepInIdeal.nD Cert.ReferenceStepInIdeal.τ Cert.ReferenceStepInIdeal.sig) → Buf (Elt Ideal) ℓ) : Prop :=
  True

def Pre_KernelStepFf (m : (ℓ : Loc Cert.KernelStepFf.nD Cert.KernelStepFf.τ Cert.KernelStepFf.sig) → Buf (Elt Bits) ℓ) : Prop :=
  True

def Pre_KernelStepFfIdeal (m : (ℓ : Loc Cert.KernelStepFfIdeal.nD Cert.KernelStepFfIdeal.τ Cert.KernelStepFfIdeal.sig) → Buf (Elt Ideal) ℓ) : Prop :=
  True

def Pre_ReferenceStepFfIdeal (m : (ℓ : Loc Cert.ReferenceStepFfIdeal.nD Cert.ReferenceStepFfIdeal.τ Cert.ReferenceStepFfIdeal.sig) → Buf (Elt Ideal) ℓ) : Prop :=
  True

def Pre_KernelNextWo (m : (ℓ : Loc Cert.KernelNextWo.nD Cert.KernelNextWo.τ Cert.KernelNextWo.sig) → Buf (Elt Bits) ℓ) : Prop :=
  True

def Pre_KernelNextWoIdeal (m : (ℓ : Loc Cert.KernelNextWoIdeal.nD Cert.KernelNextWoIdeal.τ Cert.KernelNextWoIdeal.sig) → Buf (Elt Ideal) ℓ) : Prop :=
  True

def Pre_ReferenceNextWoIdeal (m : (ℓ : Loc Cert.ReferenceNextWoIdeal.nD Cert.ReferenceNextWoIdeal.τ Cert.ReferenceNextWoIdeal.sig) → Buf (Elt Ideal) ℓ) : Prop :=
  True

def Pre_KernelNextIn (m : (ℓ : Loc Cert.KernelNextIn.nD Cert.KernelNextIn.τ Cert.KernelNextIn.sig) → Buf (Elt Bits) ℓ) : Prop :=
  True

def Pre_KernelNextInIdeal (m : (ℓ : Loc Cert.KernelNextInIdeal.nD Cert.KernelNextInIdeal.τ Cert.KernelNextInIdeal.sig) → Buf (Elt Ideal) ℓ) : Prop :=
  True

def Pre_ReferenceNextInIdeal (m : (ℓ : Loc Cert.ReferenceNextInIdeal.nD Cert.ReferenceNextInIdeal.τ Cert.ReferenceNextInIdeal.sig) → Buf (Elt Ideal) ℓ) : Prop :=
  True

def Pre_KernelNextFf (m : (ℓ : Loc Cert.KernelNextFf.nD Cert.KernelNextFf.τ Cert.KernelNextFf.sig) → Buf (Elt Bits) ℓ) : Prop :=
  True

def Pre_KernelNextFfIdeal (m : (ℓ : Loc Cert.KernelNextFfIdeal.nD Cert.KernelNextFfIdeal.τ Cert.KernelNextFfIdeal.sig) → Buf (Elt Ideal) ℓ) : Prop :=
  True

def Pre_ReferenceNextFfIdeal (m : (ℓ : Loc Cert.ReferenceNextFfIdeal.nD Cert.ReferenceNextFfIdeal.τ Cert.ReferenceNextFfIdeal.sig) → Buf (Elt Ideal) ℓ) : Prop :=
  True

def Pre_KernelFfnLoss (m : (ℓ : Loc Cert.KernelFfnLoss.nD Cert.KernelFfnLoss.τ Cert.KernelFfnLoss.sig) → Buf (Elt Bits) ℓ) : Prop :=
  True

def Pre_KernelFfnLossIdeal (m : (ℓ : Loc Cert.KernelFfnLossIdeal.nD Cert.KernelFfnLossIdeal.τ Cert.KernelFfnLossIdeal.sig) → Buf (Elt Ideal) ℓ) : Prop :=
  True

def Pre_ReferenceFfnLossIdeal (m : (ℓ : Loc Cert.ReferenceFfnLossIdeal.nD Cert.ReferenceFfnLossIdeal.τ Cert.ReferenceFfnLossIdeal.sig) → Buf (Elt Ideal) ℓ) : Prop :=
  True

def Pre_KernelFfnFirst (m : (ℓ : Loc Cert.KernelFfnFirst.nD Cert.KernelFfnFirst.τ Cert.KernelFfnFirst.sig) → Buf (Elt Bits) ℓ) : Prop :=
  True

def Pre_KernelFfnFirstIdeal (m : (ℓ : Loc Cert.KernelFfnFirstIdeal.nD Cert.KernelFfnFirstIdeal.τ Cert.KernelFfnFirstIdeal.sig) → Buf (Elt Ideal) ℓ) : Prop :=
  True

def Pre_ReferenceFfnFirstIdeal (m : (ℓ : Loc Cert.ReferenceFfnFirstIdeal.nD Cert.ReferenceFfnFirstIdeal.τ Cert.ReferenceFfnFirstIdeal.sig) → Buf (Elt Ideal) ℓ) : Prop :=
  True

def quiescent_KernelFfn [hKernelFfn : Cert.KernelFfn.Facts] : Prop :=
  ∀ (m : (ℓ : Loc Cert.KernelFfn.nD Cert.KernelFfn.τ Cert.KernelFfn.sig) → Buf (Elt Bits) ℓ) (g : Dev Cert.KernelFfn.nD → PrngReg), Pre_KernelFfn m →
    θ_run (Cert.KernelFfn.defs (F := Bits)) (onTc (τ := Cert.KernelFfn.τ) (Cert.KernelFfn.main (F := Bits))) ⟨m, fun _ => 0, g⟩ (fun r => (∀ c : Dev Cert.KernelFfn.nD,
      r.2.mem ((c.tc : Thread Cert.KernelFfn.nD Cert.KernelFfn.τ).loc Cert.KernelFfn.main_arg0) = m ((c.tc : Thread Cert.KernelFfn.nD Cert.KernelFfn.τ).loc Cert.KernelFfn.main_arg0)
      ∧ r.2.mem ((c.tc : Thread Cert.KernelFfn.nD Cert.KernelFfn.τ).loc Cert.KernelFfn.main_arg1) = m ((c.tc : Thread Cert.KernelFfn.nD Cert.KernelFfn.τ).loc Cert.KernelFfn.main_arg1)
      ∧ r.2.mem ((c.tc : Thread Cert.KernelFfn.nD Cert.KernelFfn.τ).loc Cert.KernelFfn.main_arg2) = m ((c.tc : Thread Cert.KernelFfn.nD Cert.KernelFfn.τ).loc Cert.KernelFfn.main_arg2)
      ∧ r.2.mem ((c.tc : Thread Cert.KernelFfn.nD Cert.KernelFfn.τ).loc Cert.KernelFfn.main_arg3) = m ((c.tc : Thread Cert.KernelFfn.nD Cert.KernelFfn.τ).loc Cert.KernelFfn.main_arg3)
      ∧ r.2.mem ((c.tc : Thread Cert.KernelFfn.nD Cert.KernelFfn.τ).loc Cert.KernelFfn.main_arg4) = m ((c.tc : Thread Cert.KernelFfn.nD Cert.KernelFfn.τ).loc Cert.KernelFfn.main_arg4)
      ∧ r.2.mem ((c.tc : Thread Cert.KernelFfn.nD Cert.KernelFfn.τ).loc Cert.KernelFfn.main_arg5) = m ((c.tc : Thread Cert.KernelFfn.nD Cert.KernelFfn.τ).loc Cert.KernelFfn.main_arg5))
      ∧ r.2.sem = fun _ => 0)

def quiescent_KernelFfnIdeal [hKernelFfnIdeal : Cert.KernelFfnIdeal.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_KernelFfnIdeal_pre_finite [hKernelFfnIdeal : Cert.KernelFfnIdeal.Facts] [hPre_finite : Cert.Pre_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg), Pre_KernelFfnIdeal_finite m →
    θ_run (Cert.KernelFfnIdeal.defs (F := Ideal)) (onTc (τ := Cert.KernelFfnIdeal.τ) (Cert.KernelFfnIdeal.main (F := Ideal))) ⟨m, fun _ => 0, g⟩ (fun r => (∀ c : Dev Cert.KernelFfnIdeal.nD,
      r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
      ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
      ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
      ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
      ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
      ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ r.2.sem = fun _ => 0)

def quiescent_ReferenceFfnIdeal [hReferenceFfnIdeal : Cert.ReferenceFfnIdeal.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_ReferenceFfnIdeal_pre_finite [hReferenceFfnIdeal : Cert.ReferenceFfnIdeal.Facts] [hPre_finite : Cert.Pre_finite.Facts] : Prop :=
  ∀ (m : (ℓ : Loc Cert.ReferenceFfnIdeal.nD Cert.ReferenceFfnIdeal.τ Cert.ReferenceFfnIdeal.sig) → Buf (Elt Ideal) ℓ) (g : Dev Cert.ReferenceFfnIdeal.nD → PrngReg), Pre_ReferenceFfnIdeal_finite m →
    θ_run (Cert.ReferenceFfnIdeal.defs (F := Ideal)) (onTc (τ := Cert.ReferenceFfnIdeal.τ) (Cert.ReferenceFfnIdeal.main (F := Ideal))) ⟨m, fun _ => 0, g⟩ (fun r => (∀ c : Dev Cert.ReferenceFfnIdeal.nD,
      r.2.mem ((c.tc : Thread Cert.ReferenceFfnIdeal.nD Cert.ReferenceFfnIdeal.τ).loc Cert.ReferenceFfnIdeal.main_arg0) = m ((c.tc : Thread Cert.ReferenceFfnIdeal.nD Cert.ReferenceFfnIdeal.τ).loc Cert.ReferenceFfnIdeal.main_arg0)
      ∧ r.2.mem ((c.tc : Thread Cert.ReferenceFfnIdeal.nD Cert.ReferenceFfnIdeal.τ).loc Cert.ReferenceFfnIdeal.main_arg1) = m ((c.tc : Thread Cert.ReferenceFfnIdeal.nD Cert.ReferenceFfnIdeal.τ).loc Cert.ReferenceFfnIdeal.main_arg1)
      ∧ r.2.mem ((c.tc : Thread Cert.ReferenceFfnIdeal.nD Cert.ReferenceFfnIdeal.τ).loc Cert.ReferenceFfnIdeal.main_arg2) = m ((c.tc : Thread Cert.ReferenceFfnIdeal.nD Cert.ReferenceFfnIdeal.τ).loc Cert.ReferenceFfnIdeal.main_arg2)
      ∧ r.2.mem ((c.tc : Thread Cert.ReferenceFfnIdeal.nD Cert.ReferenceFfnIdeal.τ).loc Cert.ReferenceFfnIdeal.main_arg3) = m ((c.tc : Thread Cert.ReferenceFfnIdeal.nD Cert.ReferenceFfnIdeal.τ).loc Cert.ReferenceFfnIdeal.main_arg3)
      ∧ r.2.mem ((c.tc : Thread Cert.ReferenceFfnIdeal.nD Cert.ReferenceFfnIdeal.τ).loc Cert.ReferenceFfnIdeal.main_arg4) = m ((c.tc : Thread Cert.ReferenceFfnIdeal.nD Cert.ReferenceFfnIdeal.τ).loc Cert.ReferenceFfnIdeal.main_arg4)
      ∧ r.2.mem ((c.tc : Thread Cert.ReferenceFfnIdeal.nD Cert.ReferenceFfnIdeal.τ).loc Cert.ReferenceFfnIdeal.main_arg5) = m ((c.tc : Thread Cert.ReferenceFfnIdeal.nD Cert.ReferenceFfnIdeal.τ).loc Cert.ReferenceFfnIdeal.main_arg5))
      ∧ r.2.sem = fun _ => 0)

def quiescent_KernelGateUp [hKernelGateUp : Cert.KernelGateUp.Facts] : Prop :=
  ∀ (m : (ℓ : Loc Cert.KernelGateUp.nD Cert.KernelGateUp.τ Cert.KernelGateUp.sig) → Buf (Elt Bits) ℓ) (g : Dev Cert.KernelGateUp.nD → PrngReg), Pre_KernelGateUp m →
    θ_run (Cert.KernelGateUp.defs (F := Bits)) (onTc (τ := Cert.KernelGateUp.τ) (Cert.KernelGateUp.main (F := Bits))) ⟨m, fun _ => 0, g⟩ (fun r => (∀ c : Dev Cert.KernelGateUp.nD,
      r.2.mem ((c.tc : Thread Cert.KernelGateUp.nD Cert.KernelGateUp.τ).loc Cert.KernelGateUp.main_arg0) = m ((c.tc : Thread Cert.KernelGateUp.nD Cert.KernelGateUp.τ).loc Cert.KernelGateUp.main_arg0)
      ∧ r.2.mem ((c.tc : Thread Cert.KernelGateUp.nD Cert.KernelGateUp.τ).loc Cert.KernelGateUp.main_arg1) = m ((c.tc : Thread Cert.KernelGateUp.nD Cert.KernelGateUp.τ).loc Cert.KernelGateUp.main_arg1)
      ∧ r.2.mem ((c.tc : Thread Cert.KernelGateUp.nD Cert.KernelGateUp.τ).loc Cert.KernelGateUp.main_arg2) = m ((c.tc : Thread Cert.KernelGateUp.nD Cert.KernelGateUp.τ).loc Cert.KernelGateUp.main_arg2))
      ∧ r.2.sem = fun _ => 0)

def quiescent_KernelGateUpIdeal [hKernelGateUpIdeal : Cert.KernelGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg), Pre_KernelGateUpIdeal m →
    θ_run (Cert.KernelGateUpIdeal.defs (F := Ideal)) (onTc (τ := Cert.KernelGateUpIdeal.τ) (Cert.KernelGateUpIdeal.main (F := Ideal))) ⟨m, fun _ => 0, g⟩ (fun r => (∀ c : Dev Cert.KernelGateUpIdeal.nD,
      r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
      ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
      ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ r.2.sem = fun _ => 0)

def quiescent_ReferenceGateUpIdeal [hReferenceGateUpIdeal : Cert.ReferenceGateUpIdeal.Facts] : Prop :=
  ∀ (m : (ℓ : Loc Cert.ReferenceGateUpIdeal.nD Cert.ReferenceGateUpIdeal.τ Cert.ReferenceGateUpIdeal.sig) → Buf (Elt Ideal) ℓ) (g : Dev Cert.ReferenceGateUpIdeal.nD → PrngReg), Pre_ReferenceGateUpIdeal m →
    θ_run (Cert.ReferenceGateUpIdeal.defs (F := Ideal)) (onTc (τ := Cert.ReferenceGateUpIdeal.τ) (Cert.ReferenceGateUpIdeal.main (F := Ideal))) ⟨m, fun _ => 0, g⟩ (fun r => (∀ c : Dev Cert.ReferenceGateUpIdeal.nD,
      r.2.mem ((c.tc : Thread Cert.ReferenceGateUpIdeal.nD Cert.ReferenceGateUpIdeal.τ).loc Cert.ReferenceGateUpIdeal.main_arg0) = m ((c.tc : Thread Cert.ReferenceGateUpIdeal.nD Cert.ReferenceGateUpIdeal.τ).loc Cert.ReferenceGateUpIdeal.main_arg0)
      ∧ r.2.mem ((c.tc : Thread Cert.ReferenceGateUpIdeal.nD Cert.ReferenceGateUpIdeal.τ).loc Cert.ReferenceGateUpIdeal.main_arg1) = m ((c.tc : Thread Cert.ReferenceGateUpIdeal.nD Cert.ReferenceGateUpIdeal.τ).loc Cert.ReferenceGateUpIdeal.main_arg1)
      ∧ r.2.mem ((c.tc : Thread Cert.ReferenceGateUpIdeal.nD Cert.ReferenceGateUpIdeal.τ).loc Cert.ReferenceGateUpIdeal.main_arg2) = m ((c.tc : Thread Cert.ReferenceGateUpIdeal.nD Cert.ReferenceGateUpIdeal.τ).loc Cert.ReferenceGateUpIdeal.main_arg2))
      ∧ r.2.sem = fun _ => 0)

def quiescent_KernelDown [hKernelDown : Cert.KernelDown.Facts] : Prop :=
  ∀ (m : (ℓ : Loc Cert.KernelDown.nD Cert.KernelDown.τ Cert.KernelDown.sig) → Buf (Elt Bits) ℓ) (g : Dev Cert.KernelDown.nD → PrngReg), Pre_KernelDown m →
    θ_run (Cert.KernelDown.defs (F := Bits)) (onTc (τ := Cert.KernelDown.τ) (Cert.KernelDown.main (F := Bits))) ⟨m, fun _ => 0, g⟩ (fun r => (∀ c : Dev Cert.KernelDown.nD,
      r.2.mem ((c.tc : Thread Cert.KernelDown.nD Cert.KernelDown.τ).loc Cert.KernelDown.main_arg0) = m ((c.tc : Thread Cert.KernelDown.nD Cert.KernelDown.τ).loc Cert.KernelDown.main_arg0)
      ∧ r.2.mem ((c.tc : Thread Cert.KernelDown.nD Cert.KernelDown.τ).loc Cert.KernelDown.main_arg1) = m ((c.tc : Thread Cert.KernelDown.nD Cert.KernelDown.τ).loc Cert.KernelDown.main_arg1))
      ∧ r.2.sem = fun _ => 0)

def quiescent_KernelDownIdeal [hKernelDownIdeal : Cert.KernelDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg), Pre_KernelDownIdeal m →
    θ_run (Cert.KernelDownIdeal.defs (F := Ideal)) (onTc (τ := Cert.KernelDownIdeal.τ) (Cert.KernelDownIdeal.main (F := Ideal))) ⟨m, fun _ => 0, g⟩ (fun r => (∀ c : Dev Cert.KernelDownIdeal.nD,
      r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
      ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ r.2.sem = fun _ => 0)

def quiescent_ReferenceDownIdeal [hReferenceDownIdeal : Cert.ReferenceDownIdeal.Facts] : Prop :=
  ∀ (m : (ℓ : Loc Cert.ReferenceDownIdeal.nD Cert.ReferenceDownIdeal.τ Cert.ReferenceDownIdeal.sig) → Buf (Elt Ideal) ℓ) (g : Dev Cert.ReferenceDownIdeal.nD → PrngReg), Pre_ReferenceDownIdeal m →
    θ_run (Cert.ReferenceDownIdeal.defs (F := Ideal)) (onTc (τ := Cert.ReferenceDownIdeal.τ) (Cert.ReferenceDownIdeal.main (F := Ideal))) ⟨m, fun _ => 0, g⟩ (fun r => (∀ c : Dev Cert.ReferenceDownIdeal.nD,
      r.2.mem ((c.tc : Thread Cert.ReferenceDownIdeal.nD Cert.ReferenceDownIdeal.τ).loc Cert.ReferenceDownIdeal.main_arg0) = m ((c.tc : Thread Cert.ReferenceDownIdeal.nD Cert.ReferenceDownIdeal.τ).loc Cert.ReferenceDownIdeal.main_arg0)
      ∧ r.2.mem ((c.tc : Thread Cert.ReferenceDownIdeal.nD Cert.ReferenceDownIdeal.τ).loc Cert.ReferenceDownIdeal.main_arg1) = m ((c.tc : Thread Cert.ReferenceDownIdeal.nD Cert.ReferenceDownIdeal.τ).loc Cert.ReferenceDownIdeal.main_arg1))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1))
      ∧ r.2.sem = fun _ => 0)

def quiescent_KernelOut [hKernelOut : Cert.KernelOut.Facts] : Prop :=
  ∀ (m : (ℓ : Loc Cert.KernelOut.nD Cert.KernelOut.τ Cert.KernelOut.sig) → Buf (Elt Bits) ℓ) (g : Dev Cert.KernelOut.nD → PrngReg), Pre_KernelOut m →
    θ_run (Cert.KernelOut.defs (F := Bits)) (onTc (τ := Cert.KernelOut.τ) (Cert.KernelOut.main (F := Bits))) ⟨m, fun _ => 0, g⟩ (fun r => (∀ c : Dev Cert.KernelOut.nD,
      r.2.mem ((c.tc : Thread Cert.KernelOut.nD Cert.KernelOut.τ).loc Cert.KernelOut.main_arg0) = m ((c.tc : Thread Cert.KernelOut.nD Cert.KernelOut.τ).loc Cert.KernelOut.main_arg0)
      ∧ r.2.mem ((c.tc : Thread Cert.KernelOut.nD Cert.KernelOut.τ).loc Cert.KernelOut.main_arg1) = m ((c.tc : Thread Cert.KernelOut.nD Cert.KernelOut.τ).loc Cert.KernelOut.main_arg1))
      ∧ r.2.sem = fun _ => 0)

def quiescent_KernelOutIdeal [hKernelOutIdeal : Cert.KernelOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg), Pre_KernelOutIdeal m →
    θ_run (Cert.KernelOutIdeal.defs (F := Ideal)) (onTc (τ := Cert.KernelOutIdeal.τ) (Cert.KernelOutIdeal.main (F := Ideal))) ⟨m, fun _ => 0, g⟩ (fun r => (∀ c : Dev Cert.KernelOutIdeal.nD,
      r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
      ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ r.2.sem = fun _ => 0)

def quiescent_ReferenceOutIdeal [hReferenceOutIdeal : Cert.ReferenceOutIdeal.Facts] : Prop :=
  ∀ (m : (ℓ : Loc Cert.ReferenceOutIdeal.nD Cert.ReferenceOutIdeal.τ Cert.ReferenceOutIdeal.sig) → Buf (Elt Ideal) ℓ) (g : Dev Cert.ReferenceOutIdeal.nD → PrngReg), Pre_ReferenceOutIdeal m →
    θ_run (Cert.ReferenceOutIdeal.defs (F := Ideal)) (onTc (τ := Cert.ReferenceOutIdeal.τ) (Cert.ReferenceOutIdeal.main (F := Ideal))) ⟨m, fun _ => 0, g⟩ (fun r => (∀ c : Dev Cert.ReferenceOutIdeal.nD,
      r.2.mem ((c.tc : Thread Cert.ReferenceOutIdeal.nD Cert.ReferenceOutIdeal.τ).loc Cert.ReferenceOutIdeal.main_arg0) = m ((c.tc : Thread Cert.ReferenceOutIdeal.nD Cert.ReferenceOutIdeal.τ).loc Cert.ReferenceOutIdeal.main_arg0)
      ∧ r.2.mem ((c.tc : Thread Cert.ReferenceOutIdeal.nD Cert.ReferenceOutIdeal.τ).loc Cert.ReferenceOutIdeal.main_arg1) = m ((c.tc : Thread Cert.ReferenceOutIdeal.nD Cert.ReferenceOutIdeal.τ).loc Cert.ReferenceOutIdeal.main_arg1))
      ∧ r.2.sem = fun _ => 0)

def quiescent_KernelProj [hKernelProj : Cert.KernelProj.Facts] : Prop :=
  ∀ (m : (ℓ : Loc Cert.KernelProj.nD Cert.KernelProj.τ Cert.KernelProj.sig) → Buf (Elt Bits) ℓ) (g : Dev Cert.KernelProj.nD → PrngReg), Pre_KernelProj m →
    θ_run (Cert.KernelProj.defs (F := Bits)) (onTc (τ := Cert.KernelProj.τ) (Cert.KernelProj.main (F := Bits))) ⟨m, fun _ => 0, g⟩ (fun r => (∀ c : Dev Cert.KernelProj.nD,
      r.2.mem ((c.tc : Thread Cert.KernelProj.nD Cert.KernelProj.τ).loc Cert.KernelProj.main_arg0) = m ((c.tc : Thread Cert.KernelProj.nD Cert.KernelProj.τ).loc Cert.KernelProj.main_arg0)
      ∧ r.2.mem ((c.tc : Thread Cert.KernelProj.nD Cert.KernelProj.τ).loc Cert.KernelProj.main_arg1) = m ((c.tc : Thread Cert.KernelProj.nD Cert.KernelProj.τ).loc Cert.KernelProj.main_arg1)
      ∧ r.2.mem ((c.tc : Thread Cert.KernelProj.nD Cert.KernelProj.τ).loc Cert.KernelProj.main_arg2) = m ((c.tc : Thread Cert.KernelProj.nD Cert.KernelProj.τ).loc Cert.KernelProj.main_arg2)
      ∧ r.2.mem ((c.tc : Thread Cert.KernelProj.nD Cert.KernelProj.τ).loc Cert.KernelProj.main_arg3) = m ((c.tc : Thread Cert.KernelProj.nD Cert.KernelProj.τ).loc Cert.KernelProj.main_arg3)
      ∧ r.2.mem ((c.tc : Thread Cert.KernelProj.nD Cert.KernelProj.τ).loc Cert.KernelProj.main_arg4) = m ((c.tc : Thread Cert.KernelProj.nD Cert.KernelProj.τ).loc Cert.KernelProj.main_arg4))
      ∧ r.2.sem = fun _ => 0)

def quiescent_KernelProjIdeal [hKernelProjIdeal : Cert.KernelProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg), Pre_KernelProjIdeal m →
    θ_run (Cert.KernelProjIdeal.defs (F := Ideal)) (onTc (τ := Cert.KernelProjIdeal.τ) (Cert.KernelProjIdeal.main (F := Ideal))) ⟨m, fun _ => 0, g⟩ (fun r => (∀ c : Dev Cert.KernelProjIdeal.nD,
      r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
      ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
      ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
      ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
      ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ r.2.sem = fun _ => 0)

def quiescent_ReferenceProjIdeal [hReferenceProjIdeal : Cert.ReferenceProjIdeal.Facts] : Prop :=
  ∀ (m : (ℓ : Loc Cert.ReferenceProjIdeal.nD Cert.ReferenceProjIdeal.τ Cert.ReferenceProjIdeal.sig) → Buf (Elt Ideal) ℓ) (g : Dev Cert.ReferenceProjIdeal.nD → PrngReg), Pre_ReferenceProjIdeal m →
    θ_run (Cert.ReferenceProjIdeal.defs (F := Ideal)) (onTc (τ := Cert.ReferenceProjIdeal.τ) (Cert.ReferenceProjIdeal.main (F := Ideal))) ⟨m, fun _ => 0, g⟩ (fun r => (∀ c : Dev Cert.ReferenceProjIdeal.nD,
      r.2.mem ((c.tc : Thread Cert.ReferenceProjIdeal.nD Cert.ReferenceProjIdeal.τ).loc Cert.ReferenceProjIdeal.main_arg0) = m ((c.tc : Thread Cert.ReferenceProjIdeal.nD Cert.ReferenceProjIdeal.τ).loc Cert.ReferenceProjIdeal.main_arg0)
      ∧ r.2.mem ((c.tc : Thread Cert.ReferenceProjIdeal.nD Cert.ReferenceProjIdeal.τ).loc Cert.ReferenceProjIdeal.main_arg1) = m ((c.tc : Thread Cert.ReferenceProjIdeal.nD Cert.ReferenceProjIdeal.τ).loc Cert.ReferenceProjIdeal.main_arg1)
      ∧ r.2.mem ((c.tc : Thread Cert.ReferenceProjIdeal.nD Cert.ReferenceProjIdeal.τ).loc Cert.ReferenceProjIdeal.main_arg2) = m ((c.tc : Thread Cert.ReferenceProjIdeal.nD Cert.ReferenceProjIdeal.τ).loc Cert.ReferenceProjIdeal.main_arg2)
      ∧ r.2.mem ((c.tc : Thread Cert.ReferenceProjIdeal.nD Cert.ReferenceProjIdeal.τ).loc Cert.ReferenceProjIdeal.main_arg3) = m ((c.tc : Thread Cert.ReferenceProjIdeal.nD Cert.ReferenceProjIdeal.τ).loc Cert.ReferenceProjIdeal.main_arg3)
      ∧ r.2.mem ((c.tc : Thread Cert.ReferenceProjIdeal.nD Cert.ReferenceProjIdeal.τ).loc Cert.ReferenceProjIdeal.main_arg4) = m ((c.tc : Thread Cert.ReferenceProjIdeal.nD Cert.ReferenceProjIdeal.τ).loc Cert.ReferenceProjIdeal.main_arg4))
      ∧ r.2.sem = fun _ => 0)

def quiescent_KernelNormProj [hKernelNormProj : Cert.KernelNormProj.Facts] : Prop :=
  ∀ (m : (ℓ : Loc Cert.KernelNormProj.nD Cert.KernelNormProj.τ Cert.KernelNormProj.sig) → Buf (Elt Bits) ℓ) (g : Dev Cert.KernelNormProj.nD → PrngReg), Pre_KernelNormProj m →
    θ_run (Cert.KernelNormProj.defs (F := Bits)) (onTc (τ := Cert.KernelNormProj.τ) (Cert.KernelNormProj.main (F := Bits))) ⟨m, fun _ => 0, g⟩ (fun r => (∀ c : Dev Cert.KernelNormProj.nD,
      r.2.mem ((c.tc : Thread Cert.KernelNormProj.nD Cert.KernelNormProj.τ).loc Cert.KernelNormProj.main_arg0) = m ((c.tc : Thread Cert.KernelNormProj.nD Cert.KernelNormProj.τ).loc Cert.KernelNormProj.main_arg0)
      ∧ r.2.mem ((c.tc : Thread Cert.KernelNormProj.nD Cert.KernelNormProj.τ).loc Cert.KernelNormProj.main_arg1) = m ((c.tc : Thread Cert.KernelNormProj.nD Cert.KernelNormProj.τ).loc Cert.KernelNormProj.main_arg1)
      ∧ r.2.mem ((c.tc : Thread Cert.KernelNormProj.nD Cert.KernelNormProj.τ).loc Cert.KernelNormProj.main_arg2) = m ((c.tc : Thread Cert.KernelNormProj.nD Cert.KernelNormProj.τ).loc Cert.KernelNormProj.main_arg2))
      ∧ r.2.sem = fun _ => 0)

def quiescent_KernelNormProjIdeal [hKernelNormProjIdeal : Cert.KernelNormProjIdeal.Facts] : Prop :=
  ∀ (m : (ℓ : Loc Cert.KernelNormProjIdeal.nD Cert.KernelNormProjIdeal.τ Cert.KernelNormProjIdeal.sig) → Buf (Elt Ideal) ℓ) (g : Dev Cert.KernelNormProjIdeal.nD → PrngReg), Pre_KernelNormProjIdeal m →
    θ_run (Cert.KernelNormProjIdeal.defs (F := Ideal)) (onTc (τ := Cert.KernelNormProjIdeal.τ) (Cert.KernelNormProjIdeal.main (F := Ideal))) ⟨m, fun _ => 0, g⟩ (fun r => (∀ c : Dev Cert.KernelNormProjIdeal.nD,
      r.2.mem ((c.tc : Thread Cert.KernelNormProjIdeal.nD Cert.KernelNormProjIdeal.τ).loc Cert.KernelNormProjIdeal.main_arg0) = m ((c.tc : Thread Cert.KernelNormProjIdeal.nD Cert.KernelNormProjIdeal.τ).loc Cert.KernelNormProjIdeal.main_arg0)
      ∧ r.2.mem ((c.tc : Thread Cert.KernelNormProjIdeal.nD Cert.KernelNormProjIdeal.τ).loc Cert.KernelNormProjIdeal.main_arg1) = m ((c.tc : Thread Cert.KernelNormProjIdeal.nD Cert.KernelNormProjIdeal.τ).loc Cert.KernelNormProjIdeal.main_arg1)
      ∧ r.2.mem ((c.tc : Thread Cert.KernelNormProjIdeal.nD Cert.KernelNormProjIdeal.τ).loc Cert.KernelNormProjIdeal.main_arg2) = m ((c.tc : Thread Cert.KernelNormProjIdeal.nD Cert.KernelNormProjIdeal.τ).loc Cert.KernelNormProjIdeal.main_arg2))
      ∧ r.2.sem = fun _ => 0)

def quiescent_ReferenceNormProjIdeal [hReferenceNormProjIdeal : Cert.ReferenceNormProjIdeal.Facts] : Prop :=
  ∀ (m : (ℓ : Loc Cert.ReferenceNormProjIdeal.nD Cert.ReferenceNormProjIdeal.τ Cert.ReferenceNormProjIdeal.sig) → Buf (Elt Ideal) ℓ) (g : Dev Cert.ReferenceNormProjIdeal.nD → PrngReg), Pre_ReferenceNormProjIdeal m →
    θ_run (Cert.ReferenceNormProjIdeal.defs (F := Ideal)) (onTc (τ := Cert.ReferenceNormProjIdeal.τ) (Cert.ReferenceNormProjIdeal.main (F := Ideal))) ⟨m, fun _ => 0, g⟩ (fun r => (∀ c : Dev Cert.ReferenceNormProjIdeal.nD,
      r.2.mem ((c.tc : Thread Cert.ReferenceNormProjIdeal.nD Cert.ReferenceNormProjIdeal.τ).loc Cert.ReferenceNormProjIdeal.main_arg0) = m ((c.tc : Thread Cert.ReferenceNormProjIdeal.nD Cert.ReferenceNormProjIdeal.τ).loc Cert.ReferenceNormProjIdeal.main_arg0)
      ∧ r.2.mem ((c.tc : Thread Cert.ReferenceNormProjIdeal.nD Cert.ReferenceNormProjIdeal.τ).loc Cert.ReferenceNormProjIdeal.main_arg1) = m ((c.tc : Thread Cert.ReferenceNormProjIdeal.nD Cert.ReferenceNormProjIdeal.τ).loc Cert.ReferenceNormProjIdeal.main_arg1)
      ∧ r.2.mem ((c.tc : Thread Cert.ReferenceNormProjIdeal.nD Cert.ReferenceNormProjIdeal.τ).loc Cert.ReferenceNormProjIdeal.main_arg2) = m ((c.tc : Thread Cert.ReferenceNormProjIdeal.nD Cert.ReferenceNormProjIdeal.τ).loc Cert.ReferenceNormProjIdeal.main_arg2))
      ∧ r.2.sem = fun _ => 0)

def quiescent_KernelFfnFwd [hKernelFfnFwd : Cert.KernelFfnFwd.Facts] : Prop :=
  ∀ (m : (ℓ : Loc Cert.KernelFfnFwd.nD Cert.KernelFfnFwd.τ Cert.KernelFfnFwd.sig) → Buf (Elt Bits) ℓ) (g : Dev Cert.KernelFfnFwd.nD → PrngReg), Pre_KernelFfnFwd m →
    θ_run (Cert.KernelFfnFwd.defs (F := Bits)) (onTc (τ := Cert.KernelFfnFwd.τ) (Cert.KernelFfnFwd.main (F := Bits))) ⟨m, fun _ => 0, g⟩ (fun r => (∀ c : Dev Cert.KernelFfnFwd.nD,
      r.2.mem ((c.tc : Thread Cert.KernelFfnFwd.nD Cert.KernelFfnFwd.τ).loc Cert.KernelFfnFwd.main_arg0) = m ((c.tc : Thread Cert.KernelFfnFwd.nD Cert.KernelFfnFwd.τ).loc Cert.KernelFfnFwd.main_arg0)
      ∧ r.2.mem ((c.tc : Thread Cert.KernelFfnFwd.nD Cert.KernelFfnFwd.τ).loc Cert.KernelFfnFwd.main_arg1) = m ((c.tc : Thread Cert.KernelFfnFwd.nD Cert.KernelFfnFwd.τ).loc Cert.KernelFfnFwd.main_arg1)
      ∧ r.2.mem ((c.tc : Thread Cert.KernelFfnFwd.nD Cert.KernelFfnFwd.τ).loc Cert.KernelFfnFwd.main_arg2) = m ((c.tc : Thread Cert.KernelFfnFwd.nD Cert.KernelFfnFwd.τ).loc Cert.KernelFfnFwd.main_arg2)
      ∧ r.2.mem ((c.tc : Thread Cert.KernelFfnFwd.nD Cert.KernelFfnFwd.τ).loc Cert.KernelFfnFwd.main_arg3) = m ((c.tc : Thread Cert.KernelFfnFwd.nD Cert.KernelFfnFwd.τ).loc Cert.KernelFfnFwd.main_arg3)
      ∧ r.2.mem ((c.tc : Thread Cert.KernelFfnFwd.nD Cert.KernelFfnFwd.τ).loc Cert.KernelFfnFwd.main_arg4) = m ((c.tc : Thread Cert.KernelFfnFwd.nD Cert.KernelFfnFwd.τ).loc Cert.KernelFfnFwd.main_arg4))
      ∧ r.2.sem = fun _ => 0)

def quiescent_KernelFfnFwdIdeal [hKernelFfnFwdIdeal : Cert.KernelFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg), Pre_KernelFfnFwdIdeal m →
    θ_run (Cert.KernelFfnFwdIdeal.defs (F := Ideal)) (onTc (τ := Cert.KernelFfnFwdIdeal.τ) (Cert.KernelFfnFwdIdeal.main (F := Ideal))) ⟨m, fun _ => 0, g⟩ (fun r => (∀ c : Dev Cert.KernelFfnFwdIdeal.nD,
      r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
      ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
      ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
      ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
      ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ r.2.sem = fun _ => 0)

def quiescent_ReferenceFfnFwdIdeal [hReferenceFfnFwdIdeal : Cert.ReferenceFfnFwdIdeal.Facts] : Prop :=
  ∀ (m : (ℓ : Loc Cert.ReferenceFfnFwdIdeal.nD Cert.ReferenceFfnFwdIdeal.τ Cert.ReferenceFfnFwdIdeal.sig) → Buf (Elt Ideal) ℓ) (g : Dev Cert.ReferenceFfnFwdIdeal.nD → PrngReg), Pre_ReferenceFfnFwdIdeal m →
    θ_run (Cert.ReferenceFfnFwdIdeal.defs (F := Ideal)) (onTc (τ := Cert.ReferenceFfnFwdIdeal.τ) (Cert.ReferenceFfnFwdIdeal.main (F := Ideal))) ⟨m, fun _ => 0, g⟩ (fun r => (∀ c : Dev Cert.ReferenceFfnFwdIdeal.nD,
      r.2.mem ((c.tc : Thread Cert.ReferenceFfnFwdIdeal.nD Cert.ReferenceFfnFwdIdeal.τ).loc Cert.ReferenceFfnFwdIdeal.main_arg0) = m ((c.tc : Thread Cert.ReferenceFfnFwdIdeal.nD Cert.ReferenceFfnFwdIdeal.τ).loc Cert.ReferenceFfnFwdIdeal.main_arg0)
      ∧ r.2.mem ((c.tc : Thread Cert.ReferenceFfnFwdIdeal.nD Cert.ReferenceFfnFwdIdeal.τ).loc Cert.ReferenceFfnFwdIdeal.main_arg1) = m ((c.tc : Thread Cert.ReferenceFfnFwdIdeal.nD Cert.ReferenceFfnFwdIdeal.τ).loc Cert.ReferenceFfnFwdIdeal.main_arg1)
      ∧ r.2.mem ((c.tc : Thread Cert.ReferenceFfnFwdIdeal.nD Cert.ReferenceFfnFwdIdeal.τ).loc Cert.ReferenceFfnFwdIdeal.main_arg2) = m ((c.tc : Thread Cert.ReferenceFfnFwdIdeal.nD Cert.ReferenceFfnFwdIdeal.τ).loc Cert.ReferenceFfnFwdIdeal.main_arg2)
      ∧ r.2.mem ((c.tc : Thread Cert.ReferenceFfnFwdIdeal.nD Cert.ReferenceFfnFwdIdeal.τ).loc Cert.ReferenceFfnFwdIdeal.main_arg3) = m ((c.tc : Thread Cert.ReferenceFfnFwdIdeal.nD Cert.ReferenceFfnFwdIdeal.τ).loc Cert.ReferenceFfnFwdIdeal.main_arg3)
      ∧ r.2.mem ((c.tc : Thread Cert.ReferenceFfnFwdIdeal.nD Cert.ReferenceFfnFwdIdeal.τ).loc Cert.ReferenceFfnFwdIdeal.main_arg4) = m ((c.tc : Thread Cert.ReferenceFfnFwdIdeal.nD Cert.ReferenceFfnFwdIdeal.τ).loc Cert.ReferenceFfnFwdIdeal.main_arg4))
      ∧ r.2.sem = fun _ => 0)

def quiescent_KernelStepNorm [hKernelStepNorm : Cert.KernelStepNorm.Facts] : Prop :=
  ∀ (m : (ℓ : Loc Cert.KernelStepNorm.nD Cert.KernelStepNorm.τ Cert.KernelStepNorm.sig) → Buf (Elt Bits) ℓ) (g : Dev Cert.KernelStepNorm.nD → PrngReg), Pre_KernelStepNorm m →
    θ_run (Cert.KernelStepNorm.defs (F := Bits)) (onTc (τ := Cert.KernelStepNorm.τ) (Cert.KernelStepNorm.main (F := Bits))) ⟨m, fun _ => 0, g⟩ (fun r => (∀ c : Dev Cert.KernelStepNorm.nD,
      r.2.mem ((c.tc : Thread Cert.KernelStepNorm.nD Cert.KernelStepNorm.τ).loc Cert.KernelStepNorm.main_arg0) = m ((c.tc : Thread Cert.KernelStepNorm.nD Cert.KernelStepNorm.τ).loc Cert.KernelStepNorm.main_arg0)
      ∧ r.2.mem ((c.tc : Thread Cert.KernelStepNorm.nD Cert.KernelStepNorm.τ).loc Cert.KernelStepNorm.main_arg1) = m ((c.tc : Thread Cert.KernelStepNorm.nD Cert.KernelStepNorm.τ).loc Cert.KernelStepNorm.main_arg1)
      ∧ r.2.mem ((c.tc : Thread Cert.KernelStepNorm.nD Cert.KernelStepNorm.τ).loc Cert.KernelStepNorm.main_arg2) = m ((c.tc : Thread Cert.KernelStepNorm.nD Cert.KernelStepNorm.τ).loc Cert.KernelStepNorm.main_arg2)
      ∧ r.2.mem ((c.tc : Thread Cert.KernelStepNorm.nD Cert.KernelStepNorm.τ).loc Cert.KernelStepNorm.main_arg3) = m ((c.tc : Thread Cert.KernelStepNorm.nD Cert.KernelStepNorm.τ).loc Cert.KernelStepNorm.main_arg3))
      ∧ r.2.sem = fun _ => 0)

def quiescent_KernelStepNormIdeal [hKernelStepNormIdeal : Cert.KernelStepNormIdeal.Facts] : Prop :=
  ∀ (m : (ℓ : Loc Cert.KernelStepNormIdeal.nD Cert.KernelStepNormIdeal.τ Cert.KernelStepNormIdeal.sig) → Buf (Elt Ideal) ℓ) (g : Dev Cert.KernelStepNormIdeal.nD → PrngReg), Pre_KernelStepNormIdeal m →
    θ_run (Cert.KernelStepNormIdeal.defs (F := Ideal)) (onTc (τ := Cert.KernelStepNormIdeal.τ) (Cert.KernelStepNormIdeal.main (F := Ideal))) ⟨m, fun _ => 0, g⟩ (fun r => (∀ c : Dev Cert.KernelStepNormIdeal.nD,
      r.2.mem ((c.tc : Thread Cert.KernelStepNormIdeal.nD Cert.KernelStepNormIdeal.τ).loc Cert.KernelStepNormIdeal.main_arg0) = m ((c.tc : Thread Cert.KernelStepNormIdeal.nD Cert.KernelStepNormIdeal.τ).loc Cert.KernelStepNormIdeal.main_arg0)
      ∧ r.2.mem ((c.tc : Thread Cert.KernelStepNormIdeal.nD Cert.KernelStepNormIdeal.τ).loc Cert.KernelStepNormIdeal.main_arg1) = m ((c.tc : Thread Cert.KernelStepNormIdeal.nD Cert.KernelStepNormIdeal.τ).loc Cert.KernelStepNormIdeal.main_arg1)
      ∧ r.2.mem ((c.tc : Thread Cert.KernelStepNormIdeal.nD Cert.KernelStepNormIdeal.τ).loc Cert.KernelStepNormIdeal.main_arg2) = m ((c.tc : Thread Cert.KernelStepNormIdeal.nD Cert.KernelStepNormIdeal.τ).loc Cert.KernelStepNormIdeal.main_arg2)
      ∧ r.2.mem ((c.tc : Thread Cert.KernelStepNormIdeal.nD Cert.KernelStepNormIdeal.τ).loc Cert.KernelStepNormIdeal.main_arg3) = m ((c.tc : Thread Cert.KernelStepNormIdeal.nD Cert.KernelStepNormIdeal.τ).loc Cert.KernelStepNormIdeal.main_arg3))
      ∧ r.2.sem = fun _ => 0)

def quiescent_ReferenceStepNormIdeal [hReferenceStepNormIdeal : Cert.ReferenceStepNormIdeal.Facts] : Prop :=
  ∀ (m : (ℓ : Loc Cert.ReferenceStepNormIdeal.nD Cert.ReferenceStepNormIdeal.τ Cert.ReferenceStepNormIdeal.sig) → Buf (Elt Ideal) ℓ) (g : Dev Cert.ReferenceStepNormIdeal.nD → PrngReg), Pre_ReferenceStepNormIdeal m →
    θ_run (Cert.ReferenceStepNormIdeal.defs (F := Ideal)) (onTc (τ := Cert.ReferenceStepNormIdeal.τ) (Cert.ReferenceStepNormIdeal.main (F := Ideal))) ⟨m, fun _ => 0, g⟩ (fun r => (∀ c : Dev Cert.ReferenceStepNormIdeal.nD,
      r.2.mem ((c.tc : Thread Cert.ReferenceStepNormIdeal.nD Cert.ReferenceStepNormIdeal.τ).loc Cert.ReferenceStepNormIdeal.main_arg0) = m ((c.tc : Thread Cert.ReferenceStepNormIdeal.nD Cert.ReferenceStepNormIdeal.τ).loc Cert.ReferenceStepNormIdeal.main_arg0)
      ∧ r.2.mem ((c.tc : Thread Cert.ReferenceStepNormIdeal.nD Cert.ReferenceStepNormIdeal.τ).loc Cert.ReferenceStepNormIdeal.main_arg1) = m ((c.tc : Thread Cert.ReferenceStepNormIdeal.nD Cert.ReferenceStepNormIdeal.τ).loc Cert.ReferenceStepNormIdeal.main_arg1)
      ∧ r.2.mem ((c.tc : Thread Cert.ReferenceStepNormIdeal.nD Cert.ReferenceStepNormIdeal.τ).loc Cert.ReferenceStepNormIdeal.main_arg2) = m ((c.tc : Thread Cert.ReferenceStepNormIdeal.nD Cert.ReferenceStepNormIdeal.τ).loc Cert.ReferenceStepNormIdeal.main_arg2)
      ∧ r.2.mem ((c.tc : Thread Cert.ReferenceStepNormIdeal.nD Cert.ReferenceStepNormIdeal.τ).loc Cert.ReferenceStepNormIdeal.main_arg3) = m ((c.tc : Thread Cert.ReferenceStepNormIdeal.nD Cert.ReferenceStepNormIdeal.τ).loc Cert.ReferenceStepNormIdeal.main_arg3))
      ∧ r.2.sem = fun _ => 0)

def quiescent_KernelStepConv [hKernelStepConv : Cert.KernelStepConv.Facts] : Prop :=
  ∀ (m : (ℓ : Loc Cert.KernelStepConv.nD Cert.KernelStepConv.τ Cert.KernelStepConv.sig) → Buf (Elt Bits) ℓ) (g : Dev Cert.KernelStepConv.nD → PrngReg), Pre_KernelStepConv m →
    θ_run (Cert.KernelStepConv.defs (F := Bits)) (onTc (τ := Cert.KernelStepConv.τ) (Cert.KernelStepConv.main (F := Bits))) ⟨m, fun _ => 0, g⟩ (fun r => (∀ c : Dev Cert.KernelStepConv.nD,
      r.2.mem ((c.tc : Thread Cert.KernelStepConv.nD Cert.KernelStepConv.τ).loc Cert.KernelStepConv.main_arg0) = m ((c.tc : Thread Cert.KernelStepConv.nD Cert.KernelStepConv.τ).loc Cert.KernelStepConv.main_arg0)
      ∧ r.2.mem ((c.tc : Thread Cert.KernelStepConv.nD Cert.KernelStepConv.τ).loc Cert.KernelStepConv.main_arg1) = m ((c.tc : Thread Cert.KernelStepConv.nD Cert.KernelStepConv.τ).loc Cert.KernelStepConv.main_arg1)
      ∧ r.2.mem ((c.tc : Thread Cert.KernelStepConv.nD Cert.KernelStepConv.τ).loc Cert.KernelStepConv.main_arg2) = m ((c.tc : Thread Cert.KernelStepConv.nD Cert.KernelStepConv.τ).loc Cert.KernelStepConv.main_arg2)
      ∧ r.2.mem ((c.tc : Thread Cert.KernelStepConv.nD Cert.KernelStepConv.τ).loc Cert.KernelStepConv.main_arg3) = m ((c.tc : Thread Cert.KernelStepConv.nD Cert.KernelStepConv.τ).loc Cert.KernelStepConv.main_arg3))
      ∧ r.2.sem = fun _ => 0)

def quiescent_KernelStepConvIdeal [hKernelStepConvIdeal : Cert.KernelStepConvIdeal.Facts] : Prop :=
  ∀ (m : (ℓ : Loc Cert.KernelStepConvIdeal.nD Cert.KernelStepConvIdeal.τ Cert.KernelStepConvIdeal.sig) → Buf (Elt Ideal) ℓ) (g : Dev Cert.KernelStepConvIdeal.nD → PrngReg), Pre_KernelStepConvIdeal m →
    θ_run (Cert.KernelStepConvIdeal.defs (F := Ideal)) (onTc (τ := Cert.KernelStepConvIdeal.τ) (Cert.KernelStepConvIdeal.main (F := Ideal))) ⟨m, fun _ => 0, g⟩ (fun r => (∀ c : Dev Cert.KernelStepConvIdeal.nD,
      r.2.mem ((c.tc : Thread Cert.KernelStepConvIdeal.nD Cert.KernelStepConvIdeal.τ).loc Cert.KernelStepConvIdeal.main_arg0) = m ((c.tc : Thread Cert.KernelStepConvIdeal.nD Cert.KernelStepConvIdeal.τ).loc Cert.KernelStepConvIdeal.main_arg0)
      ∧ r.2.mem ((c.tc : Thread Cert.KernelStepConvIdeal.nD Cert.KernelStepConvIdeal.τ).loc Cert.KernelStepConvIdeal.main_arg1) = m ((c.tc : Thread Cert.KernelStepConvIdeal.nD Cert.KernelStepConvIdeal.τ).loc Cert.KernelStepConvIdeal.main_arg1)
      ∧ r.2.mem ((c.tc : Thread Cert.KernelStepConvIdeal.nD Cert.KernelStepConvIdeal.τ).loc Cert.KernelStepConvIdeal.main_arg2) = m ((c.tc : Thread Cert.KernelStepConvIdeal.nD Cert.KernelStepConvIdeal.τ).loc Cert.KernelStepConvIdeal.main_arg2)
      ∧ r.2.mem ((c.tc : Thread Cert.KernelStepConvIdeal.nD Cert.KernelStepConvIdeal.τ).loc Cert.KernelStepConvIdeal.main_arg3) = m ((c.tc : Thread Cert.KernelStepConvIdeal.nD Cert.KernelStepConvIdeal.τ).loc Cert.KernelStepConvIdeal.main_arg3))
      ∧ r.2.sem = fun _ => 0)

def quiescent_ReferenceStepConvIdeal [hReferenceStepConvIdeal : Cert.ReferenceStepConvIdeal.Facts] : Prop :=
  ∀ (m : (ℓ : Loc Cert.ReferenceStepConvIdeal.nD Cert.ReferenceStepConvIdeal.τ Cert.ReferenceStepConvIdeal.sig) → Buf (Elt Ideal) ℓ) (g : Dev Cert.ReferenceStepConvIdeal.nD → PrngReg), Pre_ReferenceStepConvIdeal m →
    θ_run (Cert.ReferenceStepConvIdeal.defs (F := Ideal)) (onTc (τ := Cert.ReferenceStepConvIdeal.τ) (Cert.ReferenceStepConvIdeal.main (F := Ideal))) ⟨m, fun _ => 0, g⟩ (fun r => (∀ c : Dev Cert.ReferenceStepConvIdeal.nD,
      r.2.mem ((c.tc : Thread Cert.ReferenceStepConvIdeal.nD Cert.ReferenceStepConvIdeal.τ).loc Cert.ReferenceStepConvIdeal.main_arg0) = m ((c.tc : Thread Cert.ReferenceStepConvIdeal.nD Cert.ReferenceStepConvIdeal.τ).loc Cert.ReferenceStepConvIdeal.main_arg0)
      ∧ r.2.mem ((c.tc : Thread Cert.ReferenceStepConvIdeal.nD Cert.ReferenceStepConvIdeal.τ).loc Cert.ReferenceStepConvIdeal.main_arg1) = m ((c.tc : Thread Cert.ReferenceStepConvIdeal.nD Cert.ReferenceStepConvIdeal.τ).loc Cert.ReferenceStepConvIdeal.main_arg1)
      ∧ r.2.mem ((c.tc : Thread Cert.ReferenceStepConvIdeal.nD Cert.ReferenceStepConvIdeal.τ).loc Cert.ReferenceStepConvIdeal.main_arg2) = m ((c.tc : Thread Cert.ReferenceStepConvIdeal.nD Cert.ReferenceStepConvIdeal.τ).loc Cert.ReferenceStepConvIdeal.main_arg2)
      ∧ r.2.mem ((c.tc : Thread Cert.ReferenceStepConvIdeal.nD Cert.ReferenceStepConvIdeal.τ).loc Cert.ReferenceStepConvIdeal.main_arg3) = m ((c.tc : Thread Cert.ReferenceStepConvIdeal.nD Cert.ReferenceStepConvIdeal.τ).loc Cert.ReferenceStepConvIdeal.main_arg3))
      ∧ r.2.sem = fun _ => 0)

def quiescent_KernelStepHead [hKernelStepHead : Cert.KernelStepHead.Facts] : Prop :=
  ∀ (m : (ℓ : Loc Cert.KernelStepHead.nD Cert.KernelStepHead.τ Cert.KernelStepHead.sig) → Buf (Elt Bits) ℓ) (g : Dev Cert.KernelStepHead.nD → PrngReg), Pre_KernelStepHead m →
    θ_run (Cert.KernelStepHead.defs (F := Bits)) (onTc (τ := Cert.KernelStepHead.τ) (Cert.KernelStepHead.main (F := Bits))) ⟨m, fun _ => 0, g⟩ (fun r => (∀ c : Dev Cert.KernelStepHead.nD,
      r.2.mem ((c.tc : Thread Cert.KernelStepHead.nD Cert.KernelStepHead.τ).loc Cert.KernelStepHead.main_arg0) = m ((c.tc : Thread Cert.KernelStepHead.nD Cert.KernelStepHead.τ).loc Cert.KernelStepHead.main_arg0)
      ∧ r.2.mem ((c.tc : Thread Cert.KernelStepHead.nD Cert.KernelStepHead.τ).loc Cert.KernelStepHead.main_arg1) = m ((c.tc : Thread Cert.KernelStepHead.nD Cert.KernelStepHead.τ).loc Cert.KernelStepHead.main_arg1)
      ∧ r.2.mem ((c.tc : Thread Cert.KernelStepHead.nD Cert.KernelStepHead.τ).loc Cert.KernelStepHead.main_arg2) = m ((c.tc : Thread Cert.KernelStepHead.nD Cert.KernelStepHead.τ).loc Cert.KernelStepHead.main_arg2)
      ∧ r.2.mem ((c.tc : Thread Cert.KernelStepHead.nD Cert.KernelStepHead.τ).loc Cert.KernelStepHead.main_arg3) = m ((c.tc : Thread Cert.KernelStepHead.nD Cert.KernelStepHead.τ).loc Cert.KernelStepHead.main_arg3))
      ∧ r.2.sem = fun _ => 0)

def quiescent_KernelStepHeadIdeal [hKernelStepHeadIdeal : Cert.KernelStepHeadIdeal.Facts] : Prop :=
  ∀ (m : (ℓ : Loc Cert.KernelStepHeadIdeal.nD Cert.KernelStepHeadIdeal.τ Cert.KernelStepHeadIdeal.sig) → Buf (Elt Ideal) ℓ) (g : Dev Cert.KernelStepHeadIdeal.nD → PrngReg), Pre_KernelStepHeadIdeal m →
    θ_run (Cert.KernelStepHeadIdeal.defs (F := Ideal)) (onTc (τ := Cert.KernelStepHeadIdeal.τ) (Cert.KernelStepHeadIdeal.main (F := Ideal))) ⟨m, fun _ => 0, g⟩ (fun r => (∀ c : Dev Cert.KernelStepHeadIdeal.nD,
      r.2.mem ((c.tc : Thread Cert.KernelStepHeadIdeal.nD Cert.KernelStepHeadIdeal.τ).loc Cert.KernelStepHeadIdeal.main_arg0) = m ((c.tc : Thread Cert.KernelStepHeadIdeal.nD Cert.KernelStepHeadIdeal.τ).loc Cert.KernelStepHeadIdeal.main_arg0)
      ∧ r.2.mem ((c.tc : Thread Cert.KernelStepHeadIdeal.nD Cert.KernelStepHeadIdeal.τ).loc Cert.KernelStepHeadIdeal.main_arg1) = m ((c.tc : Thread Cert.KernelStepHeadIdeal.nD Cert.KernelStepHeadIdeal.τ).loc Cert.KernelStepHeadIdeal.main_arg1)
      ∧ r.2.mem ((c.tc : Thread Cert.KernelStepHeadIdeal.nD Cert.KernelStepHeadIdeal.τ).loc Cert.KernelStepHeadIdeal.main_arg2) = m ((c.tc : Thread Cert.KernelStepHeadIdeal.nD Cert.KernelStepHeadIdeal.τ).loc Cert.KernelStepHeadIdeal.main_arg2)
      ∧ r.2.mem ((c.tc : Thread Cert.KernelStepHeadIdeal.nD Cert.KernelStepHeadIdeal.τ).loc Cert.KernelStepHeadIdeal.main_arg3) = m ((c.tc : Thread Cert.KernelStepHeadIdeal.nD Cert.KernelStepHeadIdeal.τ).loc Cert.KernelStepHeadIdeal.main_arg3))
      ∧ r.2.sem = fun _ => 0)

def quiescent_ReferenceStepHeadIdeal [hReferenceStepHeadIdeal : Cert.ReferenceStepHeadIdeal.Facts] : Prop :=
  ∀ (m : (ℓ : Loc Cert.ReferenceStepHeadIdeal.nD Cert.ReferenceStepHeadIdeal.τ Cert.ReferenceStepHeadIdeal.sig) → Buf (Elt Ideal) ℓ) (g : Dev Cert.ReferenceStepHeadIdeal.nD → PrngReg), Pre_ReferenceStepHeadIdeal m →
    θ_run (Cert.ReferenceStepHeadIdeal.defs (F := Ideal)) (onTc (τ := Cert.ReferenceStepHeadIdeal.τ) (Cert.ReferenceStepHeadIdeal.main (F := Ideal))) ⟨m, fun _ => 0, g⟩ (fun r => (∀ c : Dev Cert.ReferenceStepHeadIdeal.nD,
      r.2.mem ((c.tc : Thread Cert.ReferenceStepHeadIdeal.nD Cert.ReferenceStepHeadIdeal.τ).loc Cert.ReferenceStepHeadIdeal.main_arg0) = m ((c.tc : Thread Cert.ReferenceStepHeadIdeal.nD Cert.ReferenceStepHeadIdeal.τ).loc Cert.ReferenceStepHeadIdeal.main_arg0)
      ∧ r.2.mem ((c.tc : Thread Cert.ReferenceStepHeadIdeal.nD Cert.ReferenceStepHeadIdeal.τ).loc Cert.ReferenceStepHeadIdeal.main_arg1) = m ((c.tc : Thread Cert.ReferenceStepHeadIdeal.nD Cert.ReferenceStepHeadIdeal.τ).loc Cert.ReferenceStepHeadIdeal.main_arg1)
      ∧ r.2.mem ((c.tc : Thread Cert.ReferenceStepHeadIdeal.nD Cert.ReferenceStepHeadIdeal.τ).loc Cert.ReferenceStepHeadIdeal.main_arg2) = m ((c.tc : Thread Cert.ReferenceStepHeadIdeal.nD Cert.ReferenceStepHeadIdeal.τ).loc Cert.ReferenceStepHeadIdeal.main_arg2)
      ∧ r.2.mem ((c.tc : Thread Cert.ReferenceStepHeadIdeal.nD Cert.ReferenceStepHeadIdeal.τ).loc Cert.ReferenceStepHeadIdeal.main_arg3) = m ((c.tc : Thread Cert.ReferenceStepHeadIdeal.nD Cert.ReferenceStepHeadIdeal.τ).loc Cert.ReferenceStepHeadIdeal.main_arg3))
      ∧ r.2.sem = fun _ => 0)

def quiescent_KernelStepSinks [hKernelStepSinks : Cert.KernelStepSinks.Facts] : Prop :=
  ∀ (m : (ℓ : Loc Cert.KernelStepSinks.nD Cert.KernelStepSinks.τ Cert.KernelStepSinks.sig) → Buf (Elt Bits) ℓ) (g : Dev Cert.KernelStepSinks.nD → PrngReg), Pre_KernelStepSinks m →
    θ_run (Cert.KernelStepSinks.defs (F := Bits)) (onTc (τ := Cert.KernelStepSinks.τ) (Cert.KernelStepSinks.main (F := Bits))) ⟨m, fun _ => 0, g⟩ (fun r => (∀ c : Dev Cert.KernelStepSinks.nD,
      r.2.mem ((c.tc : Thread Cert.KernelStepSinks.nD Cert.KernelStepSinks.τ).loc Cert.KernelStepSinks.main_arg0) = m ((c.tc : Thread Cert.KernelStepSinks.nD Cert.KernelStepSinks.τ).loc Cert.KernelStepSinks.main_arg0)
      ∧ r.2.mem ((c.tc : Thread Cert.KernelStepSinks.nD Cert.KernelStepSinks.τ).loc Cert.KernelStepSinks.main_arg1) = m ((c.tc : Thread Cert.KernelStepSinks.nD Cert.KernelStepSinks.τ).loc Cert.KernelStepSinks.main_arg1)
      ∧ r.2.mem ((c.tc : Thread Cert.KernelStepSinks.nD Cert.KernelStepSinks.τ).loc Cert.KernelStepSinks.main_arg2) = m ((c.tc : Thread Cert.KernelStepSinks.nD Cert.KernelStepSinks.τ).loc Cert.KernelStepSinks.main_arg2)
      ∧ r.2.mem ((c.tc : Thread Cert.KernelStepSinks.nD Cert.KernelStepSinks.τ).loc Cert.KernelStepSinks.main_arg3) = m ((c.tc : Thread Cert.KernelStepSinks.nD Cert.KernelStepSinks.τ).loc Cert.KernelStepSinks.main_arg3))
      ∧ r.2.sem = fun _ => 0)

def quiescent_KernelStepSinksIdeal [hKernelStepSinksIdeal : Cert.KernelStepSinksIdeal.Facts] : Prop :=
  ∀ (m : (ℓ : Loc Cert.KernelStepSinksIdeal.nD Cert.KernelStepSinksIdeal.τ Cert.KernelStepSinksIdeal.sig) → Buf (Elt Ideal) ℓ) (g : Dev Cert.KernelStepSinksIdeal.nD → PrngReg), Pre_KernelStepSinksIdeal m →
    θ_run (Cert.KernelStepSinksIdeal.defs (F := Ideal)) (onTc (τ := Cert.KernelStepSinksIdeal.τ) (Cert.KernelStepSinksIdeal.main (F := Ideal))) ⟨m, fun _ => 0, g⟩ (fun r => (∀ c : Dev Cert.KernelStepSinksIdeal.nD,
      r.2.mem ((c.tc : Thread Cert.KernelStepSinksIdeal.nD Cert.KernelStepSinksIdeal.τ).loc Cert.KernelStepSinksIdeal.main_arg0) = m ((c.tc : Thread Cert.KernelStepSinksIdeal.nD Cert.KernelStepSinksIdeal.τ).loc Cert.KernelStepSinksIdeal.main_arg0)
      ∧ r.2.mem ((c.tc : Thread Cert.KernelStepSinksIdeal.nD Cert.KernelStepSinksIdeal.τ).loc Cert.KernelStepSinksIdeal.main_arg1) = m ((c.tc : Thread Cert.KernelStepSinksIdeal.nD Cert.KernelStepSinksIdeal.τ).loc Cert.KernelStepSinksIdeal.main_arg1)
      ∧ r.2.mem ((c.tc : Thread Cert.KernelStepSinksIdeal.nD Cert.KernelStepSinksIdeal.τ).loc Cert.KernelStepSinksIdeal.main_arg2) = m ((c.tc : Thread Cert.KernelStepSinksIdeal.nD Cert.KernelStepSinksIdeal.τ).loc Cert.KernelStepSinksIdeal.main_arg2)
      ∧ r.2.mem ((c.tc : Thread Cert.KernelStepSinksIdeal.nD Cert.KernelStepSinksIdeal.τ).loc Cert.KernelStepSinksIdeal.main_arg3) = m ((c.tc : Thread Cert.KernelStepSinksIdeal.nD Cert.KernelStepSinksIdeal.τ).loc Cert.KernelStepSinksIdeal.main_arg3))
      ∧ r.2.sem = fun _ => 0)

def quiescent_ReferenceStepSinksIdeal [hReferenceStepSinksIdeal : Cert.ReferenceStepSinksIdeal.Facts] : Prop :=
  ∀ (m : (ℓ : Loc Cert.ReferenceStepSinksIdeal.nD Cert.ReferenceStepSinksIdeal.τ Cert.ReferenceStepSinksIdeal.sig) → Buf (Elt Ideal) ℓ) (g : Dev Cert.ReferenceStepSinksIdeal.nD → PrngReg), Pre_ReferenceStepSinksIdeal m →
    θ_run (Cert.ReferenceStepSinksIdeal.defs (F := Ideal)) (onTc (τ := Cert.ReferenceStepSinksIdeal.τ) (Cert.ReferenceStepSinksIdeal.main (F := Ideal))) ⟨m, fun _ => 0, g⟩ (fun r => (∀ c : Dev Cert.ReferenceStepSinksIdeal.nD,
      r.2.mem ((c.tc : Thread Cert.ReferenceStepSinksIdeal.nD Cert.ReferenceStepSinksIdeal.τ).loc Cert.ReferenceStepSinksIdeal.main_arg0) = m ((c.tc : Thread Cert.ReferenceStepSinksIdeal.nD Cert.ReferenceStepSinksIdeal.τ).loc Cert.ReferenceStepSinksIdeal.main_arg0)
      ∧ r.2.mem ((c.tc : Thread Cert.ReferenceStepSinksIdeal.nD Cert.ReferenceStepSinksIdeal.τ).loc Cert.ReferenceStepSinksIdeal.main_arg1) = m ((c.tc : Thread Cert.ReferenceStepSinksIdeal.nD Cert.ReferenceStepSinksIdeal.τ).loc Cert.ReferenceStepSinksIdeal.main_arg1)
      ∧ r.2.mem ((c.tc : Thread Cert.ReferenceStepSinksIdeal.nD Cert.ReferenceStepSinksIdeal.τ).loc Cert.ReferenceStepSinksIdeal.main_arg2) = m ((c.tc : Thread Cert.ReferenceStepSinksIdeal.nD Cert.ReferenceStepSinksIdeal.τ).loc Cert.ReferenceStepSinksIdeal.main_arg2)
      ∧ r.2.mem ((c.tc : Thread Cert.ReferenceStepSinksIdeal.nD Cert.ReferenceStepSinksIdeal.τ).loc Cert.ReferenceStepSinksIdeal.main_arg3) = m ((c.tc : Thread Cert.ReferenceStepSinksIdeal.nD Cert.ReferenceStepSinksIdeal.τ).loc Cert.ReferenceStepSinksIdeal.main_arg3))
      ∧ r.2.sem = fun _ => 0)

def quiescent_KernelStepOut [hKernelStepOut : Cert.KernelStepOut.Facts] : Prop :=
  ∀ (m : (ℓ : Loc Cert.KernelStepOut.nD Cert.KernelStepOut.τ Cert.KernelStepOut.sig) → Buf (Elt Bits) ℓ) (g : Dev Cert.KernelStepOut.nD → PrngReg), Pre_KernelStepOut m →
    θ_run (Cert.KernelStepOut.defs (F := Bits)) (onTc (τ := Cert.KernelStepOut.τ) (Cert.KernelStepOut.main (F := Bits))) ⟨m, fun _ => 0, g⟩ (fun r => (∀ c : Dev Cert.KernelStepOut.nD,
      r.2.mem ((c.tc : Thread Cert.KernelStepOut.nD Cert.KernelStepOut.τ).loc Cert.KernelStepOut.main_arg0) = m ((c.tc : Thread Cert.KernelStepOut.nD Cert.KernelStepOut.τ).loc Cert.KernelStepOut.main_arg0)
      ∧ r.2.mem ((c.tc : Thread Cert.KernelStepOut.nD Cert.KernelStepOut.τ).loc Cert.KernelStepOut.main_arg1) = m ((c.tc : Thread Cert.KernelStepOut.nD Cert.KernelStepOut.τ).loc Cert.KernelStepOut.main_arg1)
      ∧ r.2.mem ((c.tc : Thread Cert.KernelStepOut.nD Cert.KernelStepOut.τ).loc Cert.KernelStepOut.main_arg2) = m ((c.tc : Thread Cert.KernelStepOut.nD Cert.KernelStepOut.τ).loc Cert.KernelStepOut.main_arg2)
      ∧ r.2.mem ((c.tc : Thread Cert.KernelStepOut.nD Cert.KernelStepOut.τ).loc Cert.KernelStepOut.main_arg3) = m ((c.tc : Thread Cert.KernelStepOut.nD Cert.KernelStepOut.τ).loc Cert.KernelStepOut.main_arg3))
      ∧ r.2.sem = fun _ => 0)

def quiescent_KernelStepOutIdeal [hKernelStepOutIdeal : Cert.KernelStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg), Pre_KernelStepOutIdeal m →
    θ_run (Cert.KernelStepOutIdeal.defs (F := Ideal)) (onTc (τ := Cert.KernelStepOutIdeal.τ) (Cert.KernelStepOutIdeal.main (F := Ideal))) ⟨m, fun _ => 0, g⟩ (fun r => (∀ c : Dev Cert.KernelStepOutIdeal.nD,
      r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
      ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
      ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
      ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3))
      ∧ r.2.sem = fun _ => 0)

def quiescent_ReferenceStepOutIdeal [hReferenceStepOutIdeal : Cert.ReferenceStepOutIdeal.Facts] : Prop :=
  ∀ (m : (ℓ : Loc Cert.ReferenceStepOutIdeal.nD Cert.ReferenceStepOutIdeal.τ Cert.ReferenceStepOutIdeal.sig) → Buf (Elt Ideal) ℓ) (g : Dev Cert.ReferenceStepOutIdeal.nD → PrngReg), Pre_ReferenceStepOutIdeal m →
    θ_run (Cert.ReferenceStepOutIdeal.defs (F := Ideal)) (onTc (τ := Cert.ReferenceStepOutIdeal.τ) (Cert.ReferenceStepOutIdeal.main (F := Ideal))) ⟨m, fun _ => 0, g⟩ (fun r => (∀ c : Dev Cert.ReferenceStepOutIdeal.nD,
      r.2.mem ((c.tc : Thread Cert.ReferenceStepOutIdeal.nD Cert.ReferenceStepOutIdeal.τ).loc Cert.ReferenceStepOutIdeal.main_arg0) = m ((c.tc : Thread Cert.ReferenceStepOutIdeal.nD Cert.ReferenceStepOutIdeal.τ).loc Cert.ReferenceStepOutIdeal.main_arg0)
      ∧ r.2.mem ((c.tc : Thread Cert.ReferenceStepOutIdeal.nD Cert.ReferenceStepOutIdeal.τ).loc Cert.ReferenceStepOutIdeal.main_arg1) = m ((c.tc : Thread Cert.ReferenceStepOutIdeal.nD Cert.ReferenceStepOutIdeal.τ).loc Cert.ReferenceStepOutIdeal.main_arg1)
      ∧ r.2.mem ((c.tc : Thread Cert.ReferenceStepOutIdeal.nD Cert.ReferenceStepOutIdeal.τ).loc Cert.ReferenceStepOutIdeal.main_arg2) = m ((c.tc : Thread Cert.ReferenceStepOutIdeal.nD Cert.ReferenceStepOutIdeal.τ).loc Cert.ReferenceStepOutIdeal.main_arg2)
      ∧ r.2.mem ((c.tc : Thread Cert.ReferenceStepOutIdeal.nD Cert.ReferenceStepOutIdeal.τ).loc Cert.ReferenceStepOutIdeal.main_arg3) = m ((c.tc : Thread Cert.ReferenceStepOutIdeal.nD Cert.ReferenceStepOutIdeal.τ).loc Cert.ReferenceStepOutIdeal.main_arg3))
      ∧ r.2.sem = fun _ => 0)

def quiescent_KernelStepWo [hKernelStepWo : Cert.KernelStepWo.Facts] : Prop :=
  ∀ (m : (ℓ : Loc Cert.KernelStepWo.nD Cert.KernelStepWo.τ Cert.KernelStepWo.sig) → Buf (Elt Bits) ℓ) (g : Dev Cert.KernelStepWo.nD → PrngReg), Pre_KernelStepWo m →
    θ_run (Cert.KernelStepWo.defs (F := Bits)) (onTc (τ := Cert.KernelStepWo.τ) (Cert.KernelStepWo.main (F := Bits))) ⟨m, fun _ => 0, g⟩ (fun r => (∀ c : Dev Cert.KernelStepWo.nD,
      r.2.mem ((c.tc : Thread Cert.KernelStepWo.nD Cert.KernelStepWo.τ).loc Cert.KernelStepWo.main_arg0) = m ((c.tc : Thread Cert.KernelStepWo.nD Cert.KernelStepWo.τ).loc Cert.KernelStepWo.main_arg0)
      ∧ r.2.mem ((c.tc : Thread Cert.KernelStepWo.nD Cert.KernelStepWo.τ).loc Cert.KernelStepWo.main_arg1) = m ((c.tc : Thread Cert.KernelStepWo.nD Cert.KernelStepWo.τ).loc Cert.KernelStepWo.main_arg1)
      ∧ r.2.mem ((c.tc : Thread Cert.KernelStepWo.nD Cert.KernelStepWo.τ).loc Cert.KernelStepWo.main_arg2) = m ((c.tc : Thread Cert.KernelStepWo.nD Cert.KernelStepWo.τ).loc Cert.KernelStepWo.main_arg2)
      ∧ r.2.mem ((c.tc : Thread Cert.KernelStepWo.nD Cert.KernelStepWo.τ).loc Cert.KernelStepWo.main_arg3) = m ((c.tc : Thread Cert.KernelStepWo.nD Cert.KernelStepWo.τ).loc Cert.KernelStepWo.main_arg3)
      ∧ r.2.mem ((c.tc : Thread Cert.KernelStepWo.nD Cert.KernelStepWo.τ).loc Cert.KernelStepWo.main_arg4) = m ((c.tc : Thread Cert.KernelStepWo.nD Cert.KernelStepWo.τ).loc Cert.KernelStepWo.main_arg4)
      ∧ r.2.mem ((c.tc : Thread Cert.KernelStepWo.nD Cert.KernelStepWo.τ).loc Cert.KernelStepWo.main_arg5) = m ((c.tc : Thread Cert.KernelStepWo.nD Cert.KernelStepWo.τ).loc Cert.KernelStepWo.main_arg5)
      ∧ r.2.mem ((c.tc : Thread Cert.KernelStepWo.nD Cert.KernelStepWo.τ).loc Cert.KernelStepWo.main_arg6) = m ((c.tc : Thread Cert.KernelStepWo.nD Cert.KernelStepWo.τ).loc Cert.KernelStepWo.main_arg6)
      ∧ r.2.mem ((c.tc : Thread Cert.KernelStepWo.nD Cert.KernelStepWo.τ).loc Cert.KernelStepWo.main_arg7) = m ((c.tc : Thread Cert.KernelStepWo.nD Cert.KernelStepWo.τ).loc Cert.KernelStepWo.main_arg7)
      ∧ r.2.mem ((c.tc : Thread Cert.KernelStepWo.nD Cert.KernelStepWo.τ).loc Cert.KernelStepWo.main_arg8) = m ((c.tc : Thread Cert.KernelStepWo.nD Cert.KernelStepWo.τ).loc Cert.KernelStepWo.main_arg8))
      ∧ r.2.sem = fun _ => 0)

def quiescent_KernelStepWoIdeal [hKernelStepWoIdeal : Cert.KernelStepWoIdeal.Facts] : Prop :=
  ∀ (m : (ℓ : Loc Cert.KernelStepWoIdeal.nD Cert.KernelStepWoIdeal.τ Cert.KernelStepWoIdeal.sig) → Buf (Elt Ideal) ℓ) (g : Dev Cert.KernelStepWoIdeal.nD → PrngReg), Pre_KernelStepWoIdeal m →
    θ_run (Cert.KernelStepWoIdeal.defs (F := Ideal)) (onTc (τ := Cert.KernelStepWoIdeal.τ) (Cert.KernelStepWoIdeal.main (F := Ideal))) ⟨m, fun _ => 0, g⟩ (fun r => (∀ c : Dev Cert.KernelStepWoIdeal.nD,
      r.2.mem ((c.tc : Thread Cert.KernelStepWoIdeal.nD Cert.KernelStepWoIdeal.τ).loc Cert.KernelStepWoIdeal.main_arg0) = m ((c.tc : Thread Cert.KernelStepWoIdeal.nD Cert.KernelStepWoIdeal.τ).loc Cert.KernelStepWoIdeal.main_arg0)
      ∧ r.2.mem ((c.tc : Thread Cert.KernelStepWoIdeal.nD Cert.KernelStepWoIdeal.τ).loc Cert.KernelStepWoIdeal.main_arg1) = m ((c.tc : Thread Cert.KernelStepWoIdeal.nD Cert.KernelStepWoIdeal.τ).loc Cert.KernelStepWoIdeal.main_arg1)
      ∧ r.2.mem ((c.tc : Thread Cert.KernelStepWoIdeal.nD Cert.KernelStepWoIdeal.τ).loc Cert.KernelStepWoIdeal.main_arg2) = m ((c.tc : Thread Cert.KernelStepWoIdeal.nD Cert.KernelStepWoIdeal.τ).loc Cert.KernelStepWoIdeal.main_arg2)
      ∧ r.2.mem ((c.tc : Thread Cert.KernelStepWoIdeal.nD Cert.KernelStepWoIdeal.τ).loc Cert.KernelStepWoIdeal.main_arg3) = m ((c.tc : Thread Cert.KernelStepWoIdeal.nD Cert.KernelStepWoIdeal.τ).loc Cert.KernelStepWoIdeal.main_arg3)
      ∧ r.2.mem ((c.tc : Thread Cert.KernelStepWoIdeal.nD Cert.KernelStepWoIdeal.τ).loc Cert.KernelStepWoIdeal.main_arg4) = m ((c.tc : Thread Cert.KernelStepWoIdeal.nD Cert.KernelStepWoIdeal.τ).loc Cert.KernelStepWoIdeal.main_arg4)
      ∧ r.2.mem ((c.tc : Thread Cert.KernelStepWoIdeal.nD Cert.KernelStepWoIdeal.τ).loc Cert.KernelStepWoIdeal.main_arg5) = m ((c.tc : Thread Cert.KernelStepWoIdeal.nD Cert.KernelStepWoIdeal.τ).loc Cert.KernelStepWoIdeal.main_arg5)
      ∧ r.2.mem ((c.tc : Thread Cert.KernelStepWoIdeal.nD Cert.KernelStepWoIdeal.τ).loc Cert.KernelStepWoIdeal.main_arg6) = m ((c.tc : Thread Cert.KernelStepWoIdeal.nD Cert.KernelStepWoIdeal.τ).loc Cert.KernelStepWoIdeal.main_arg6)
      ∧ r.2.mem ((c.tc : Thread Cert.KernelStepWoIdeal.nD Cert.KernelStepWoIdeal.τ).loc Cert.KernelStepWoIdeal.main_arg7) = m ((c.tc : Thread Cert.KernelStepWoIdeal.nD Cert.KernelStepWoIdeal.τ).loc Cert.KernelStepWoIdeal.main_arg7)
      ∧ r.2.mem ((c.tc : Thread Cert.KernelStepWoIdeal.nD Cert.KernelStepWoIdeal.τ).loc Cert.KernelStepWoIdeal.main_arg8) = m ((c.tc : Thread Cert.KernelStepWoIdeal.nD Cert.KernelStepWoIdeal.τ).loc Cert.KernelStepWoIdeal.main_arg8))
      ∧ r.2.sem = fun _ => 0)

def quiescent_ReferenceStepWoIdeal [hReferenceStepWoIdeal : Cert.ReferenceStepWoIdeal.Facts] : Prop :=
  ∀ (m : (ℓ : Loc Cert.ReferenceStepWoIdeal.nD Cert.ReferenceStepWoIdeal.τ Cert.ReferenceStepWoIdeal.sig) → Buf (Elt Ideal) ℓ) (g : Dev Cert.ReferenceStepWoIdeal.nD → PrngReg), Pre_ReferenceStepWoIdeal m →
    θ_run (Cert.ReferenceStepWoIdeal.defs (F := Ideal)) (onTc (τ := Cert.ReferenceStepWoIdeal.τ) (Cert.ReferenceStepWoIdeal.main (F := Ideal))) ⟨m, fun _ => 0, g⟩ (fun r => (∀ c : Dev Cert.ReferenceStepWoIdeal.nD,
      r.2.mem ((c.tc : Thread Cert.ReferenceStepWoIdeal.nD Cert.ReferenceStepWoIdeal.τ).loc Cert.ReferenceStepWoIdeal.main_arg0) = m ((c.tc : Thread Cert.ReferenceStepWoIdeal.nD Cert.ReferenceStepWoIdeal.τ).loc Cert.ReferenceStepWoIdeal.main_arg0)
      ∧ r.2.mem ((c.tc : Thread Cert.ReferenceStepWoIdeal.nD Cert.ReferenceStepWoIdeal.τ).loc Cert.ReferenceStepWoIdeal.main_arg1) = m ((c.tc : Thread Cert.ReferenceStepWoIdeal.nD Cert.ReferenceStepWoIdeal.τ).loc Cert.ReferenceStepWoIdeal.main_arg1)
      ∧ r.2.mem ((c.tc : Thread Cert.ReferenceStepWoIdeal.nD Cert.ReferenceStepWoIdeal.τ).loc Cert.ReferenceStepWoIdeal.main_arg2) = m ((c.tc : Thread Cert.ReferenceStepWoIdeal.nD Cert.ReferenceStepWoIdeal.τ).loc Cert.ReferenceStepWoIdeal.main_arg2)
      ∧ r.2.mem ((c.tc : Thread Cert.ReferenceStepWoIdeal.nD Cert.ReferenceStepWoIdeal.τ).loc Cert.ReferenceStepWoIdeal.main_arg3) = m ((c.tc : Thread Cert.ReferenceStepWoIdeal.nD Cert.ReferenceStepWoIdeal.τ).loc Cert.ReferenceStepWoIdeal.main_arg3)
      ∧ r.2.mem ((c.tc : Thread Cert.ReferenceStepWoIdeal.nD Cert.ReferenceStepWoIdeal.τ).loc Cert.ReferenceStepWoIdeal.main_arg4) = m ((c.tc : Thread Cert.ReferenceStepWoIdeal.nD Cert.ReferenceStepWoIdeal.τ).loc Cert.ReferenceStepWoIdeal.main_arg4)
      ∧ r.2.mem ((c.tc : Thread Cert.ReferenceStepWoIdeal.nD Cert.ReferenceStepWoIdeal.τ).loc Cert.ReferenceStepWoIdeal.main_arg5) = m ((c.tc : Thread Cert.ReferenceStepWoIdeal.nD Cert.ReferenceStepWoIdeal.τ).loc Cert.ReferenceStepWoIdeal.main_arg5)
      ∧ r.2.mem ((c.tc : Thread Cert.ReferenceStepWoIdeal.nD Cert.ReferenceStepWoIdeal.τ).loc Cert.ReferenceStepWoIdeal.main_arg6) = m ((c.tc : Thread Cert.ReferenceStepWoIdeal.nD Cert.ReferenceStepWoIdeal.τ).loc Cert.ReferenceStepWoIdeal.main_arg6)
      ∧ r.2.mem ((c.tc : Thread Cert.ReferenceStepWoIdeal.nD Cert.ReferenceStepWoIdeal.τ).loc Cert.ReferenceStepWoIdeal.main_arg7) = m ((c.tc : Thread Cert.ReferenceStepWoIdeal.nD Cert.ReferenceStepWoIdeal.τ).loc Cert.ReferenceStepWoIdeal.main_arg7)
      ∧ r.2.mem ((c.tc : Thread Cert.ReferenceStepWoIdeal.nD Cert.ReferenceStepWoIdeal.τ).loc Cert.ReferenceStepWoIdeal.main_arg8) = m ((c.tc : Thread Cert.ReferenceStepWoIdeal.nD Cert.ReferenceStepWoIdeal.τ).loc Cert.ReferenceStepWoIdeal.main_arg8))
      ∧ r.2.sem = fun _ => 0)

def quiescent_KernelStepIn [hKernelStepIn : Cert.KernelStepIn.Facts] : Prop :=
  ∀ (m : (ℓ : Loc Cert.KernelStepIn.nD Cert.KernelStepIn.τ Cert.KernelStepIn.sig) → Buf (Elt Bits) ℓ) (g : Dev Cert.KernelStepIn.nD → PrngReg), Pre_KernelStepIn m →
    θ_run (Cert.KernelStepIn.defs (F := Bits)) (onTc (τ := Cert.KernelStepIn.τ) (Cert.KernelStepIn.main (F := Bits))) ⟨m, fun _ => 0, g⟩ (fun r => (∀ c : Dev Cert.KernelStepIn.nD,
      r.2.mem ((c.tc : Thread Cert.KernelStepIn.nD Cert.KernelStepIn.τ).loc Cert.KernelStepIn.main_arg0) = m ((c.tc : Thread Cert.KernelStepIn.nD Cert.KernelStepIn.τ).loc Cert.KernelStepIn.main_arg0)
      ∧ r.2.mem ((c.tc : Thread Cert.KernelStepIn.nD Cert.KernelStepIn.τ).loc Cert.KernelStepIn.main_arg1) = m ((c.tc : Thread Cert.KernelStepIn.nD Cert.KernelStepIn.τ).loc Cert.KernelStepIn.main_arg1)
      ∧ r.2.mem ((c.tc : Thread Cert.KernelStepIn.nD Cert.KernelStepIn.τ).loc Cert.KernelStepIn.main_arg2) = m ((c.tc : Thread Cert.KernelStepIn.nD Cert.KernelStepIn.τ).loc Cert.KernelStepIn.main_arg2)
      ∧ r.2.mem ((c.tc : Thread Cert.KernelStepIn.nD Cert.KernelStepIn.τ).loc Cert.KernelStepIn.main_arg3) = m ((c.tc : Thread Cert.KernelStepIn.nD Cert.KernelStepIn.τ).loc Cert.KernelStepIn.main_arg3)
      ∧ r.2.mem ((c.tc : Thread Cert.KernelStepIn.nD Cert.KernelStepIn.τ).loc Cert.KernelStepIn.main_arg4) = m ((c.tc : Thread Cert.KernelStepIn.nD Cert.KernelStepIn.τ).loc Cert.KernelStepIn.main_arg4)
      ∧ r.2.mem ((c.tc : Thread Cert.KernelStepIn.nD Cert.KernelStepIn.τ).loc Cert.KernelStepIn.main_arg5) = m ((c.tc : Thread Cert.KernelStepIn.nD Cert.KernelStepIn.τ).loc Cert.KernelStepIn.main_arg5)
      ∧ r.2.mem ((c.tc : Thread Cert.KernelStepIn.nD Cert.KernelStepIn.τ).loc Cert.KernelStepIn.main_arg6) = m ((c.tc : Thread Cert.KernelStepIn.nD Cert.KernelStepIn.τ).loc Cert.KernelStepIn.main_arg6)
      ∧ r.2.mem ((c.tc : Thread Cert.KernelStepIn.nD Cert.KernelStepIn.τ).loc Cert.KernelStepIn.main_arg7) = m ((c.tc : Thread Cert.KernelStepIn.nD Cert.KernelStepIn.τ).loc Cert.KernelStepIn.main_arg7)
      ∧ r.2.mem ((c.tc : Thread Cert.KernelStepIn.nD Cert.KernelStepIn.τ).loc Cert.KernelStepIn.main_arg8) = m ((c.tc : Thread Cert.KernelStepIn.nD Cert.KernelStepIn.τ).loc Cert.KernelStepIn.main_arg8))
      ∧ r.2.sem = fun _ => 0)

def quiescent_KernelStepInIdeal [hKernelStepInIdeal : Cert.KernelStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg), Pre_KernelStepInIdeal m →
    θ_run (Cert.KernelStepInIdeal.defs (F := Ideal)) (onTc (τ := Cert.KernelStepInIdeal.τ) (Cert.KernelStepInIdeal.main (F := Ideal))) ⟨m, fun _ => 0, g⟩ (fun r => (∀ c : Dev Cert.KernelStepInIdeal.nD,
      r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
      ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
      ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2)
      ∧ r.2.mem ((c.tc : Thread Cert.KernelStepInIdeal.nD Cert.KernelStepInIdeal.τ).loc Cert.KernelStepInIdeal.main_arg3) = m ((c.tc : Thread Cert.KernelStepInIdeal.nD Cert.KernelStepInIdeal.τ).loc Cert.KernelStepInIdeal.main_arg3)
      ∧ r.2.mem ((c.tc : Thread Cert.KernelStepInIdeal.nD Cert.KernelStepInIdeal.τ).loc Cert.KernelStepInIdeal.main_arg4) = m ((c.tc : Thread Cert.KernelStepInIdeal.nD Cert.KernelStepInIdeal.τ).loc Cert.KernelStepInIdeal.main_arg4)
      ∧ r.2.mem ((c.tc : Thread Cert.KernelStepInIdeal.nD Cert.KernelStepInIdeal.τ).loc Cert.KernelStepInIdeal.main_arg5) = m ((c.tc : Thread Cert.KernelStepInIdeal.nD Cert.KernelStepInIdeal.τ).loc Cert.KernelStepInIdeal.main_arg5)
      ∧ r.2.mem ((c.tc : Thread Cert.KernelStepInIdeal.nD Cert.KernelStepInIdeal.τ).loc Cert.KernelStepInIdeal.main_arg6) = m ((c.tc : Thread Cert.KernelStepInIdeal.nD Cert.KernelStepInIdeal.τ).loc Cert.KernelStepInIdeal.main_arg6)
      ∧ r.2.mem ((c.tc : Thread Cert.KernelStepInIdeal.nD Cert.KernelStepInIdeal.τ).loc Cert.KernelStepInIdeal.main_arg7) = m ((c.tc : Thread Cert.KernelStepInIdeal.nD Cert.KernelStepInIdeal.τ).loc Cert.KernelStepInIdeal.main_arg7)
      ∧ r.2.mem ((c.tc : Thread Cert.KernelStepInIdeal.nD Cert.KernelStepInIdeal.τ).loc Cert.KernelStepInIdeal.main_arg8) = m ((c.tc : Thread Cert.KernelStepInIdeal.nD Cert.KernelStepInIdeal.τ).loc Cert.KernelStepInIdeal.main_arg8))
      ∧ r.2.sem = fun _ => 0)

def quiescent_ReferenceStepInIdeal [hReferenceStepInIdeal : Cert.ReferenceStepInIdeal.Facts] : Prop :=
  ∀ (m : (ℓ : Loc Cert.ReferenceStepInIdeal.nD Cert.ReferenceStepInIdeal.τ Cert.ReferenceStepInIdeal.sig) → Buf (Elt Ideal) ℓ) (g : Dev Cert.ReferenceStepInIdeal.nD → PrngReg), Pre_ReferenceStepInIdeal m →
    θ_run (Cert.ReferenceStepInIdeal.defs (F := Ideal)) (onTc (τ := Cert.ReferenceStepInIdeal.τ) (Cert.ReferenceStepInIdeal.main (F := Ideal))) ⟨m, fun _ => 0, g⟩ (fun r => (∀ c : Dev Cert.ReferenceStepInIdeal.nD,
      r.2.mem ((c.tc : Thread Cert.ReferenceStepInIdeal.nD Cert.ReferenceStepInIdeal.τ).loc Cert.ReferenceStepInIdeal.main_arg0) = m ((c.tc : Thread Cert.ReferenceStepInIdeal.nD Cert.ReferenceStepInIdeal.τ).loc Cert.ReferenceStepInIdeal.main_arg0)
      ∧ r.2.mem ((c.tc : Thread Cert.ReferenceStepInIdeal.nD Cert.ReferenceStepInIdeal.τ).loc Cert.ReferenceStepInIdeal.main_arg1) = m ((c.tc : Thread Cert.ReferenceStepInIdeal.nD Cert.ReferenceStepInIdeal.τ).loc Cert.ReferenceStepInIdeal.main_arg1)
      ∧ r.2.mem ((c.tc : Thread Cert.ReferenceStepInIdeal.nD Cert.ReferenceStepInIdeal.τ).loc Cert.ReferenceStepInIdeal.main_arg2) = m ((c.tc : Thread Cert.ReferenceStepInIdeal.nD Cert.ReferenceStepInIdeal.τ).loc Cert.ReferenceStepInIdeal.main_arg2)
      ∧ r.2.mem ((c.tc : Thread Cert.ReferenceStepInIdeal.nD Cert.ReferenceStepInIdeal.τ).loc Cert.ReferenceStepInIdeal.main_arg3) = m ((c.tc : Thread Cert.ReferenceStepInIdeal.nD Cert.ReferenceStepInIdeal.τ).loc Cert.ReferenceStepInIdeal.main_arg3)
      ∧ r.2.mem ((c.tc : Thread Cert.ReferenceStepInIdeal.nD Cert.ReferenceStepInIdeal.τ).loc Cert.ReferenceStepInIdeal.main_arg4) = m ((c.tc : Thread Cert.ReferenceStepInIdeal.nD Cert.ReferenceStepInIdeal.τ).loc Cert.ReferenceStepInIdeal.main_arg4)
      ∧ r.2.mem ((c.tc : Thread Cert.ReferenceStepInIdeal.nD Cert.ReferenceStepInIdeal.τ).loc Cert.ReferenceStepInIdeal.main_arg5) = m ((c.tc : Thread Cert.ReferenceStepInIdeal.nD Cert.ReferenceStepInIdeal.τ).loc Cert.ReferenceStepInIdeal.main_arg5)
      ∧ r.2.mem ((c.tc : Thread Cert.ReferenceStepInIdeal.nD Cert.ReferenceStepInIdeal.τ).loc Cert.ReferenceStepInIdeal.main_arg6) = m ((c.tc : Thread Cert.ReferenceStepInIdeal.nD Cert.ReferenceStepInIdeal.τ).loc Cert.ReferenceStepInIdeal.main_arg6)
      ∧ r.2.mem ((c.tc : Thread Cert.ReferenceStepInIdeal.nD Cert.ReferenceStepInIdeal.τ).loc Cert.ReferenceStepInIdeal.main_arg7) = m ((c.tc : Thread Cert.ReferenceStepInIdeal.nD Cert.ReferenceStepInIdeal.τ).loc Cert.ReferenceStepInIdeal.main_arg7)
      ∧ r.2.mem ((c.tc : Thread Cert.ReferenceStepInIdeal.nD Cert.ReferenceStepInIdeal.τ).loc Cert.ReferenceStepInIdeal.main_arg8) = m ((c.tc : Thread Cert.ReferenceStepInIdeal.nD Cert.ReferenceStepInIdeal.τ).loc Cert.ReferenceStepInIdeal.main_arg8))
      ∧ r.2.sem = fun _ => 0)

def quiescent_KernelStepFf [hKernelStepFf : Cert.KernelStepFf.Facts] : Prop :=
  ∀ (m : (ℓ : Loc Cert.KernelStepFf.nD Cert.KernelStepFf.τ Cert.KernelStepFf.sig) → Buf (Elt Bits) ℓ) (g : Dev Cert.KernelStepFf.nD → PrngReg), Pre_KernelStepFf m →
    θ_run (Cert.KernelStepFf.defs (F := Bits)) (onTc (τ := Cert.KernelStepFf.τ) (Cert.KernelStepFf.main (F := Bits))) ⟨m, fun _ => 0, g⟩ (fun r => (∀ c : Dev Cert.KernelStepFf.nD,
      r.2.mem ((c.tc : Thread Cert.KernelStepFf.nD Cert.KernelStepFf.τ).loc Cert.KernelStepFf.main_arg0) = m ((c.tc : Thread Cert.KernelStepFf.nD Cert.KernelStepFf.τ).loc Cert.KernelStepFf.main_arg0)
      ∧ r.2.mem ((c.tc : Thread Cert.KernelStepFf.nD Cert.KernelStepFf.τ).loc Cert.KernelStepFf.main_arg1) = m ((c.tc : Thread Cert.KernelStepFf.nD Cert.KernelStepFf.τ).loc Cert.KernelStepFf.main_arg1)
      ∧ r.2.mem ((c.tc : Thread Cert.KernelStepFf.nD Cert.KernelStepFf.τ).loc Cert.KernelStepFf.main_arg2) = m ((c.tc : Thread Cert.KernelStepFf.nD Cert.KernelStepFf.τ).loc Cert.KernelStepFf.main_arg2)
      ∧ r.2.mem ((c.tc : Thread Cert.KernelStepFf.nD Cert.KernelStepFf.τ).loc Cert.KernelStepFf.main_arg3) = m ((c.tc : Thread Cert.KernelStepFf.nD Cert.KernelStepFf.τ).loc Cert.KernelStepFf.main_arg3)
      ∧ r.2.mem ((c.tc : Thread Cert.KernelStepFf.nD Cert.KernelStepFf.τ).loc Cert.KernelStepFf.main_arg4) = m ((c.tc : Thread Cert.KernelStepFf.nD Cert.KernelStepFf.τ).loc Cert.KernelStepFf.main_arg4)
      ∧ r.2.mem ((c.tc : Thread Cert.KernelStepFf.nD Cert.KernelStepFf.τ).loc Cert.KernelStepFf.main_arg5) = m ((c.tc : Thread Cert.KernelStepFf.nD Cert.KernelStepFf.τ).loc Cert.KernelStepFf.main_arg5)
      ∧ r.2.mem ((c.tc : Thread Cert.KernelStepFf.nD Cert.KernelStepFf.τ).loc Cert.KernelStepFf.main_arg6) = m ((c.tc : Thread Cert.KernelStepFf.nD Cert.KernelStepFf.τ).loc Cert.KernelStepFf.main_arg6)
      ∧ r.2.mem ((c.tc : Thread Cert.KernelStepFf.nD Cert.KernelStepFf.τ).loc Cert.KernelStepFf.main_arg7) = m ((c.tc : Thread Cert.KernelStepFf.nD Cert.KernelStepFf.τ).loc Cert.KernelStepFf.main_arg7)
      ∧ r.2.mem ((c.tc : Thread Cert.KernelStepFf.nD Cert.KernelStepFf.τ).loc Cert.KernelStepFf.main_arg8) = m ((c.tc : Thread Cert.KernelStepFf.nD Cert.KernelStepFf.τ).loc Cert.KernelStepFf.main_arg8))
      ∧ r.2.sem = fun _ => 0)

def quiescent_KernelStepFfIdeal [hKernelStepFfIdeal : Cert.KernelStepFfIdeal.Facts] : Prop :=
  ∀ (m : (ℓ : Loc Cert.KernelStepFfIdeal.nD Cert.KernelStepFfIdeal.τ Cert.KernelStepFfIdeal.sig) → Buf (Elt Ideal) ℓ) (g : Dev Cert.KernelStepFfIdeal.nD → PrngReg), Pre_KernelStepFfIdeal m →
    θ_run (Cert.KernelStepFfIdeal.defs (F := Ideal)) (onTc (τ := Cert.KernelStepFfIdeal.τ) (Cert.KernelStepFfIdeal.main (F := Ideal))) ⟨m, fun _ => 0, g⟩ (fun r => (∀ c : Dev Cert.KernelStepFfIdeal.nD,
      r.2.mem ((c.tc : Thread Cert.KernelStepFfIdeal.nD Cert.KernelStepFfIdeal.τ).loc Cert.KernelStepFfIdeal.main_arg0) = m ((c.tc : Thread Cert.KernelStepFfIdeal.nD Cert.KernelStepFfIdeal.τ).loc Cert.KernelStepFfIdeal.main_arg0)
      ∧ r.2.mem ((c.tc : Thread Cert.KernelStepFfIdeal.nD Cert.KernelStepFfIdeal.τ).loc Cert.KernelStepFfIdeal.main_arg1) = m ((c.tc : Thread Cert.KernelStepFfIdeal.nD Cert.KernelStepFfIdeal.τ).loc Cert.KernelStepFfIdeal.main_arg1)
      ∧ r.2.mem ((c.tc : Thread Cert.KernelStepFfIdeal.nD Cert.KernelStepFfIdeal.τ).loc Cert.KernelStepFfIdeal.main_arg2) = m ((c.tc : Thread Cert.KernelStepFfIdeal.nD Cert.KernelStepFfIdeal.τ).loc Cert.KernelStepFfIdeal.main_arg2)
      ∧ r.2.mem ((c.tc : Thread Cert.KernelStepFfIdeal.nD Cert.KernelStepFfIdeal.τ).loc Cert.KernelStepFfIdeal.main_arg3) = m ((c.tc : Thread Cert.KernelStepFfIdeal.nD Cert.KernelStepFfIdeal.τ).loc Cert.KernelStepFfIdeal.main_arg3)
      ∧ r.2.mem ((c.tc : Thread Cert.KernelStepFfIdeal.nD Cert.KernelStepFfIdeal.τ).loc Cert.KernelStepFfIdeal.main_arg4) = m ((c.tc : Thread Cert.KernelStepFfIdeal.nD Cert.KernelStepFfIdeal.τ).loc Cert.KernelStepFfIdeal.main_arg4)
      ∧ r.2.mem ((c.tc : Thread Cert.KernelStepFfIdeal.nD Cert.KernelStepFfIdeal.τ).loc Cert.KernelStepFfIdeal.main_arg5) = m ((c.tc : Thread Cert.KernelStepFfIdeal.nD Cert.KernelStepFfIdeal.τ).loc Cert.KernelStepFfIdeal.main_arg5)
      ∧ r.2.mem ((c.tc : Thread Cert.KernelStepFfIdeal.nD Cert.KernelStepFfIdeal.τ).loc Cert.KernelStepFfIdeal.main_arg6) = m ((c.tc : Thread Cert.KernelStepFfIdeal.nD Cert.KernelStepFfIdeal.τ).loc Cert.KernelStepFfIdeal.main_arg6)
      ∧ r.2.mem ((c.tc : Thread Cert.KernelStepFfIdeal.nD Cert.KernelStepFfIdeal.τ).loc Cert.KernelStepFfIdeal.main_arg7) = m ((c.tc : Thread Cert.KernelStepFfIdeal.nD Cert.KernelStepFfIdeal.τ).loc Cert.KernelStepFfIdeal.main_arg7)
      ∧ r.2.mem ((c.tc : Thread Cert.KernelStepFfIdeal.nD Cert.KernelStepFfIdeal.τ).loc Cert.KernelStepFfIdeal.main_arg8) = m ((c.tc : Thread Cert.KernelStepFfIdeal.nD Cert.KernelStepFfIdeal.τ).loc Cert.KernelStepFfIdeal.main_arg8))
      ∧ r.2.sem = fun _ => 0)

def quiescent_ReferenceStepFfIdeal [hReferenceStepFfIdeal : Cert.ReferenceStepFfIdeal.Facts] : Prop :=
  ∀ (m : (ℓ : Loc Cert.ReferenceStepFfIdeal.nD Cert.ReferenceStepFfIdeal.τ Cert.ReferenceStepFfIdeal.sig) → Buf (Elt Ideal) ℓ) (g : Dev Cert.ReferenceStepFfIdeal.nD → PrngReg), Pre_ReferenceStepFfIdeal m →
    θ_run (Cert.ReferenceStepFfIdeal.defs (F := Ideal)) (onTc (τ := Cert.ReferenceStepFfIdeal.τ) (Cert.ReferenceStepFfIdeal.main (F := Ideal))) ⟨m, fun _ => 0, g⟩ (fun r => (∀ c : Dev Cert.ReferenceStepFfIdeal.nD,
      r.2.mem ((c.tc : Thread Cert.ReferenceStepFfIdeal.nD Cert.ReferenceStepFfIdeal.τ).loc Cert.ReferenceStepFfIdeal.main_arg0) = m ((c.tc : Thread Cert.ReferenceStepFfIdeal.nD Cert.ReferenceStepFfIdeal.τ).loc Cert.ReferenceStepFfIdeal.main_arg0)
      ∧ r.2.mem ((c.tc : Thread Cert.ReferenceStepFfIdeal.nD Cert.ReferenceStepFfIdeal.τ).loc Cert.ReferenceStepFfIdeal.main_arg1) = m ((c.tc : Thread Cert.ReferenceStepFfIdeal.nD Cert.ReferenceStepFfIdeal.τ).loc Cert.ReferenceStepFfIdeal.main_arg1)
      ∧ r.2.mem ((c.tc : Thread Cert.ReferenceStepFfIdeal.nD Cert.ReferenceStepFfIdeal.τ).loc Cert.ReferenceStepFfIdeal.main_arg2) = m ((c.tc : Thread Cert.ReferenceStepFfIdeal.nD Cert.ReferenceStepFfIdeal.τ).loc Cert.ReferenceStepFfIdeal.main_arg2)
      ∧ r.2.mem ((c.tc : Thread Cert.ReferenceStepFfIdeal.nD Cert.ReferenceStepFfIdeal.τ).loc Cert.ReferenceStepFfIdeal.main_arg3) = m ((c.tc : Thread Cert.ReferenceStepFfIdeal.nD Cert.ReferenceStepFfIdeal.τ).loc Cert.ReferenceStepFfIdeal.main_arg3)
      ∧ r.2.mem ((c.tc : Thread Cert.ReferenceStepFfIdeal.nD Cert.ReferenceStepFfIdeal.τ).loc Cert.ReferenceStepFfIdeal.main_arg4) = m ((c.tc : Thread Cert.ReferenceStepFfIdeal.nD Cert.ReferenceStepFfIdeal.τ).loc Cert.ReferenceStepFfIdeal.main_arg4)
      ∧ r.2.mem ((c.tc : Thread Cert.ReferenceStepFfIdeal.nD Cert.ReferenceStepFfIdeal.τ).loc Cert.ReferenceStepFfIdeal.main_arg5) = m ((c.tc : Thread Cert.ReferenceStepFfIdeal.nD Cert.ReferenceStepFfIdeal.τ).loc Cert.ReferenceStepFfIdeal.main_arg5)
      ∧ r.2.mem ((c.tc : Thread Cert.ReferenceStepFfIdeal.nD Cert.ReferenceStepFfIdeal.τ).loc Cert.ReferenceStepFfIdeal.main_arg6) = m ((c.tc : Thread Cert.ReferenceStepFfIdeal.nD Cert.ReferenceStepFfIdeal.τ).loc Cert.ReferenceStepFfIdeal.main_arg6)
      ∧ r.2.mem ((c.tc : Thread Cert.ReferenceStepFfIdeal.nD Cert.ReferenceStepFfIdeal.τ).loc Cert.ReferenceStepFfIdeal.main_arg7) = m ((c.tc : Thread Cert.ReferenceStepFfIdeal.nD Cert.ReferenceStepFfIdeal.τ).loc Cert.ReferenceStepFfIdeal.main_arg7)
      ∧ r.2.mem ((c.tc : Thread Cert.ReferenceStepFfIdeal.nD Cert.ReferenceStepFfIdeal.τ).loc Cert.ReferenceStepFfIdeal.main_arg8) = m ((c.tc : Thread Cert.ReferenceStepFfIdeal.nD Cert.ReferenceStepFfIdeal.τ).loc Cert.ReferenceStepFfIdeal.main_arg8))
      ∧ r.2.sem = fun _ => 0)

def quiescent_KernelNextWo [hKernelNextWo : Cert.KernelNextWo.Facts] : Prop :=
  ∀ (m : (ℓ : Loc Cert.KernelNextWo.nD Cert.KernelNextWo.τ Cert.KernelNextWo.sig) → Buf (Elt Bits) ℓ) (g : Dev Cert.KernelNextWo.nD → PrngReg), Pre_KernelNextWo m →
    θ_run (Cert.KernelNextWo.defs (F := Bits)) (onTc (τ := Cert.KernelNextWo.τ) (Cert.KernelNextWo.main (F := Bits))) ⟨m, fun _ => 0, g⟩ (fun r => (∀ c : Dev Cert.KernelNextWo.nD,
      r.2.mem ((c.tc : Thread Cert.KernelNextWo.nD Cert.KernelNextWo.τ).loc Cert.KernelNextWo.main_arg0) = m ((c.tc : Thread Cert.KernelNextWo.nD Cert.KernelNextWo.τ).loc Cert.KernelNextWo.main_arg0)
      ∧ r.2.mem ((c.tc : Thread Cert.KernelNextWo.nD Cert.KernelNextWo.τ).loc Cert.KernelNextWo.main_arg1) = m ((c.tc : Thread Cert.KernelNextWo.nD Cert.KernelNextWo.τ).loc Cert.KernelNextWo.main_arg1)
      ∧ r.2.mem ((c.tc : Thread Cert.KernelNextWo.nD Cert.KernelNextWo.τ).loc Cert.KernelNextWo.main_arg2) = m ((c.tc : Thread Cert.KernelNextWo.nD Cert.KernelNextWo.τ).loc Cert.KernelNextWo.main_arg2)
      ∧ r.2.mem ((c.tc : Thread Cert.KernelNextWo.nD Cert.KernelNextWo.τ).loc Cert.KernelNextWo.main_arg3) = m ((c.tc : Thread Cert.KernelNextWo.nD Cert.KernelNextWo.τ).loc Cert.KernelNextWo.main_arg3)
      ∧ r.2.mem ((c.tc : Thread Cert.KernelNextWo.nD Cert.KernelNextWo.τ).loc Cert.KernelNextWo.main_arg4) = m ((c.tc : Thread Cert.KernelNextWo.nD Cert.KernelNextWo.τ).loc Cert.KernelNextWo.main_arg4))
      ∧ r.2.sem = fun _ => 0)

def quiescent_KernelNextWoIdeal [hKernelNextWoIdeal : Cert.KernelNextWoIdeal.Facts] : Prop :=
  ∀ (m : (ℓ : Loc Cert.KernelNextWoIdeal.nD Cert.KernelNextWoIdeal.τ Cert.KernelNextWoIdeal.sig) → Buf (Elt Ideal) ℓ) (g : Dev Cert.KernelNextWoIdeal.nD → PrngReg), Pre_KernelNextWoIdeal m →
    θ_run (Cert.KernelNextWoIdeal.defs (F := Ideal)) (onTc (τ := Cert.KernelNextWoIdeal.τ) (Cert.KernelNextWoIdeal.main (F := Ideal))) ⟨m, fun _ => 0, g⟩ (fun r => (∀ c : Dev Cert.KernelNextWoIdeal.nD,
      r.2.mem ((c.tc : Thread Cert.KernelNextWoIdeal.nD Cert.KernelNextWoIdeal.τ).loc Cert.KernelNextWoIdeal.main_arg0) = m ((c.tc : Thread Cert.KernelNextWoIdeal.nD Cert.KernelNextWoIdeal.τ).loc Cert.KernelNextWoIdeal.main_arg0)
      ∧ r.2.mem ((c.tc : Thread Cert.KernelNextWoIdeal.nD Cert.KernelNextWoIdeal.τ).loc Cert.KernelNextWoIdeal.main_arg1) = m ((c.tc : Thread Cert.KernelNextWoIdeal.nD Cert.KernelNextWoIdeal.τ).loc Cert.KernelNextWoIdeal.main_arg1)
      ∧ r.2.mem ((c.tc : Thread Cert.KernelNextWoIdeal.nD Cert.KernelNextWoIdeal.τ).loc Cert.KernelNextWoIdeal.main_arg2) = m ((c.tc : Thread Cert.KernelNextWoIdeal.nD Cert.KernelNextWoIdeal.τ).loc Cert.KernelNextWoIdeal.main_arg2)
      ∧ r.2.mem ((c.tc : Thread Cert.KernelNextWoIdeal.nD Cert.KernelNextWoIdeal.τ).loc Cert.KernelNextWoIdeal.main_arg3) = m ((c.tc : Thread Cert.KernelNextWoIdeal.nD Cert.KernelNextWoIdeal.τ).loc Cert.KernelNextWoIdeal.main_arg3)
      ∧ r.2.mem ((c.tc : Thread Cert.KernelNextWoIdeal.nD Cert.KernelNextWoIdeal.τ).loc Cert.KernelNextWoIdeal.main_arg4) = m ((c.tc : Thread Cert.KernelNextWoIdeal.nD Cert.KernelNextWoIdeal.τ).loc Cert.KernelNextWoIdeal.main_arg4))
      ∧ r.2.sem = fun _ => 0)

def quiescent_ReferenceNextWoIdeal [hReferenceNextWoIdeal : Cert.ReferenceNextWoIdeal.Facts] : Prop :=
  ∀ (m : (ℓ : Loc Cert.ReferenceNextWoIdeal.nD Cert.ReferenceNextWoIdeal.τ Cert.ReferenceNextWoIdeal.sig) → Buf (Elt Ideal) ℓ) (g : Dev Cert.ReferenceNextWoIdeal.nD → PrngReg), Pre_ReferenceNextWoIdeal m →
    θ_run (Cert.ReferenceNextWoIdeal.defs (F := Ideal)) (onTc (τ := Cert.ReferenceNextWoIdeal.τ) (Cert.ReferenceNextWoIdeal.main (F := Ideal))) ⟨m, fun _ => 0, g⟩ (fun r => (∀ c : Dev Cert.ReferenceNextWoIdeal.nD,
      r.2.mem ((c.tc : Thread Cert.ReferenceNextWoIdeal.nD Cert.ReferenceNextWoIdeal.τ).loc Cert.ReferenceNextWoIdeal.main_arg0) = m ((c.tc : Thread Cert.ReferenceNextWoIdeal.nD Cert.ReferenceNextWoIdeal.τ).loc Cert.ReferenceNextWoIdeal.main_arg0)
      ∧ r.2.mem ((c.tc : Thread Cert.ReferenceNextWoIdeal.nD Cert.ReferenceNextWoIdeal.τ).loc Cert.ReferenceNextWoIdeal.main_arg1) = m ((c.tc : Thread Cert.ReferenceNextWoIdeal.nD Cert.ReferenceNextWoIdeal.τ).loc Cert.ReferenceNextWoIdeal.main_arg1)
      ∧ r.2.mem ((c.tc : Thread Cert.ReferenceNextWoIdeal.nD Cert.ReferenceNextWoIdeal.τ).loc Cert.ReferenceNextWoIdeal.main_arg2) = m ((c.tc : Thread Cert.ReferenceNextWoIdeal.nD Cert.ReferenceNextWoIdeal.τ).loc Cert.ReferenceNextWoIdeal.main_arg2)
      ∧ r.2.mem ((c.tc : Thread Cert.ReferenceNextWoIdeal.nD Cert.ReferenceNextWoIdeal.τ).loc Cert.ReferenceNextWoIdeal.main_arg3) = m ((c.tc : Thread Cert.ReferenceNextWoIdeal.nD Cert.ReferenceNextWoIdeal.τ).loc Cert.ReferenceNextWoIdeal.main_arg3)
      ∧ r.2.mem ((c.tc : Thread Cert.ReferenceNextWoIdeal.nD Cert.ReferenceNextWoIdeal.τ).loc Cert.ReferenceNextWoIdeal.main_arg4) = m ((c.tc : Thread Cert.ReferenceNextWoIdeal.nD Cert.ReferenceNextWoIdeal.τ).loc Cert.ReferenceNextWoIdeal.main_arg4))
      ∧ r.2.sem = fun _ => 0)

def quiescent_KernelNextIn [hKernelNextIn : Cert.KernelNextIn.Facts] : Prop :=
  ∀ (m : (ℓ : Loc Cert.KernelNextIn.nD Cert.KernelNextIn.τ Cert.KernelNextIn.sig) → Buf (Elt Bits) ℓ) (g : Dev Cert.KernelNextIn.nD → PrngReg), Pre_KernelNextIn m →
    θ_run (Cert.KernelNextIn.defs (F := Bits)) (onTc (τ := Cert.KernelNextIn.τ) (Cert.KernelNextIn.main (F := Bits))) ⟨m, fun _ => 0, g⟩ (fun r => (∀ c : Dev Cert.KernelNextIn.nD,
      r.2.mem ((c.tc : Thread Cert.KernelNextIn.nD Cert.KernelNextIn.τ).loc Cert.KernelNextIn.main_arg0) = m ((c.tc : Thread Cert.KernelNextIn.nD Cert.KernelNextIn.τ).loc Cert.KernelNextIn.main_arg0)
      ∧ r.2.mem ((c.tc : Thread Cert.KernelNextIn.nD Cert.KernelNextIn.τ).loc Cert.KernelNextIn.main_arg1) = m ((c.tc : Thread Cert.KernelNextIn.nD Cert.KernelNextIn.τ).loc Cert.KernelNextIn.main_arg1)
      ∧ r.2.mem ((c.tc : Thread Cert.KernelNextIn.nD Cert.KernelNextIn.τ).loc Cert.KernelNextIn.main_arg2) = m ((c.tc : Thread Cert.KernelNextIn.nD Cert.KernelNextIn.τ).loc Cert.KernelNextIn.main_arg2)
      ∧ r.2.mem ((c.tc : Thread Cert.KernelNextIn.nD Cert.KernelNextIn.τ).loc Cert.KernelNextIn.main_arg3) = m ((c.tc : Thread Cert.KernelNextIn.nD Cert.KernelNextIn.τ).loc Cert.KernelNextIn.main_arg3)
      ∧ r.2.mem ((c.tc : Thread Cert.KernelNextIn.nD Cert.KernelNextIn.τ).loc Cert.KernelNextIn.main_arg4) = m ((c.tc : Thread Cert.KernelNextIn.nD Cert.KernelNextIn.τ).loc Cert.KernelNextIn.main_arg4))
      ∧ r.2.sem = fun _ => 0)

def quiescent_KernelNextInIdeal [hKernelNextInIdeal : Cert.KernelNextInIdeal.Facts] : Prop :=
  ∀ (m : (ℓ : Loc Cert.KernelNextInIdeal.nD Cert.KernelNextInIdeal.τ Cert.KernelNextInIdeal.sig) → Buf (Elt Ideal) ℓ) (g : Dev Cert.KernelNextInIdeal.nD → PrngReg), Pre_KernelNextInIdeal m →
    θ_run (Cert.KernelNextInIdeal.defs (F := Ideal)) (onTc (τ := Cert.KernelNextInIdeal.τ) (Cert.KernelNextInIdeal.main (F := Ideal))) ⟨m, fun _ => 0, g⟩ (fun r => (∀ c : Dev Cert.KernelNextInIdeal.nD,
      r.2.mem ((c.tc : Thread Cert.KernelNextInIdeal.nD Cert.KernelNextInIdeal.τ).loc Cert.KernelNextInIdeal.main_arg0) = m ((c.tc : Thread Cert.KernelNextInIdeal.nD Cert.KernelNextInIdeal.τ).loc Cert.KernelNextInIdeal.main_arg0)
      ∧ r.2.mem ((c.tc : Thread Cert.KernelNextInIdeal.nD Cert.KernelNextInIdeal.τ).loc Cert.KernelNextInIdeal.main_arg1) = m ((c.tc : Thread Cert.KernelNextInIdeal.nD Cert.KernelNextInIdeal.τ).loc Cert.KernelNextInIdeal.main_arg1)
      ∧ r.2.mem ((c.tc : Thread Cert.KernelNextInIdeal.nD Cert.KernelNextInIdeal.τ).loc Cert.KernelNextInIdeal.main_arg2) = m ((c.tc : Thread Cert.KernelNextInIdeal.nD Cert.KernelNextInIdeal.τ).loc Cert.KernelNextInIdeal.main_arg2)
      ∧ r.2.mem ((c.tc : Thread Cert.KernelNextInIdeal.nD Cert.KernelNextInIdeal.τ).loc Cert.KernelNextInIdeal.main_arg3) = m ((c.tc : Thread Cert.KernelNextInIdeal.nD Cert.KernelNextInIdeal.τ).loc Cert.KernelNextInIdeal.main_arg3)
      ∧ r.2.mem ((c.tc : Thread Cert.KernelNextInIdeal.nD Cert.KernelNextInIdeal.τ).loc Cert.KernelNextInIdeal.main_arg4) = m ((c.tc : Thread Cert.KernelNextInIdeal.nD Cert.KernelNextInIdeal.τ).loc Cert.KernelNextInIdeal.main_arg4))
      ∧ r.2.sem = fun _ => 0)

def quiescent_ReferenceNextInIdeal [hReferenceNextInIdeal : Cert.ReferenceNextInIdeal.Facts] : Prop :=
  ∀ (m : (ℓ : Loc Cert.ReferenceNextInIdeal.nD Cert.ReferenceNextInIdeal.τ Cert.ReferenceNextInIdeal.sig) → Buf (Elt Ideal) ℓ) (g : Dev Cert.ReferenceNextInIdeal.nD → PrngReg), Pre_ReferenceNextInIdeal m →
    θ_run (Cert.ReferenceNextInIdeal.defs (F := Ideal)) (onTc (τ := Cert.ReferenceNextInIdeal.τ) (Cert.ReferenceNextInIdeal.main (F := Ideal))) ⟨m, fun _ => 0, g⟩ (fun r => (∀ c : Dev Cert.ReferenceNextInIdeal.nD,
      r.2.mem ((c.tc : Thread Cert.ReferenceNextInIdeal.nD Cert.ReferenceNextInIdeal.τ).loc Cert.ReferenceNextInIdeal.main_arg0) = m ((c.tc : Thread Cert.ReferenceNextInIdeal.nD Cert.ReferenceNextInIdeal.τ).loc Cert.ReferenceNextInIdeal.main_arg0)
      ∧ r.2.mem ((c.tc : Thread Cert.ReferenceNextInIdeal.nD Cert.ReferenceNextInIdeal.τ).loc Cert.ReferenceNextInIdeal.main_arg1) = m ((c.tc : Thread Cert.ReferenceNextInIdeal.nD Cert.ReferenceNextInIdeal.τ).loc Cert.ReferenceNextInIdeal.main_arg1)
      ∧ r.2.mem ((c.tc : Thread Cert.ReferenceNextInIdeal.nD Cert.ReferenceNextInIdeal.τ).loc Cert.ReferenceNextInIdeal.main_arg2) = m ((c.tc : Thread Cert.ReferenceNextInIdeal.nD Cert.ReferenceNextInIdeal.τ).loc Cert.ReferenceNextInIdeal.main_arg2)
      ∧ r.2.mem ((c.tc : Thread Cert.ReferenceNextInIdeal.nD Cert.ReferenceNextInIdeal.τ).loc Cert.ReferenceNextInIdeal.main_arg3) = m ((c.tc : Thread Cert.ReferenceNextInIdeal.nD Cert.ReferenceNextInIdeal.τ).loc Cert.ReferenceNextInIdeal.main_arg3)
      ∧ r.2.mem ((c.tc : Thread Cert.ReferenceNextInIdeal.nD Cert.ReferenceNextInIdeal.τ).loc Cert.ReferenceNextInIdeal.main_arg4) = m ((c.tc : Thread Cert.ReferenceNextInIdeal.nD Cert.ReferenceNextInIdeal.τ).loc Cert.ReferenceNextInIdeal.main_arg4))
      ∧ r.2.sem = fun _ => 0)

def quiescent_KernelNextFf [hKernelNextFf : Cert.KernelNextFf.Facts] : Prop :=
  ∀ (m : (ℓ : Loc Cert.KernelNextFf.nD Cert.KernelNextFf.τ Cert.KernelNextFf.sig) → Buf (Elt Bits) ℓ) (g : Dev Cert.KernelNextFf.nD → PrngReg), Pre_KernelNextFf m →
    θ_run (Cert.KernelNextFf.defs (F := Bits)) (onTc (τ := Cert.KernelNextFf.τ) (Cert.KernelNextFf.main (F := Bits))) ⟨m, fun _ => 0, g⟩ (fun r => (∀ c : Dev Cert.KernelNextFf.nD,
      r.2.mem ((c.tc : Thread Cert.KernelNextFf.nD Cert.KernelNextFf.τ).loc Cert.KernelNextFf.main_arg0) = m ((c.tc : Thread Cert.KernelNextFf.nD Cert.KernelNextFf.τ).loc Cert.KernelNextFf.main_arg0)
      ∧ r.2.mem ((c.tc : Thread Cert.KernelNextFf.nD Cert.KernelNextFf.τ).loc Cert.KernelNextFf.main_arg1) = m ((c.tc : Thread Cert.KernelNextFf.nD Cert.KernelNextFf.τ).loc Cert.KernelNextFf.main_arg1)
      ∧ r.2.mem ((c.tc : Thread Cert.KernelNextFf.nD Cert.KernelNextFf.τ).loc Cert.KernelNextFf.main_arg2) = m ((c.tc : Thread Cert.KernelNextFf.nD Cert.KernelNextFf.τ).loc Cert.KernelNextFf.main_arg2)
      ∧ r.2.mem ((c.tc : Thread Cert.KernelNextFf.nD Cert.KernelNextFf.τ).loc Cert.KernelNextFf.main_arg3) = m ((c.tc : Thread Cert.KernelNextFf.nD Cert.KernelNextFf.τ).loc Cert.KernelNextFf.main_arg3)
      ∧ r.2.mem ((c.tc : Thread Cert.KernelNextFf.nD Cert.KernelNextFf.τ).loc Cert.KernelNextFf.main_arg4) = m ((c.tc : Thread Cert.KernelNextFf.nD Cert.KernelNextFf.τ).loc Cert.KernelNextFf.main_arg4))
      ∧ r.2.sem = fun _ => 0)

def quiescent_KernelNextFfIdeal [hKernelNextFfIdeal : Cert.KernelNextFfIdeal.Facts] : Prop :=
  ∀ (m : (ℓ : Loc Cert.KernelNextFfIdeal.nD Cert.KernelNextFfIdeal.τ Cert.KernelNextFfIdeal.sig) → Buf (Elt Ideal) ℓ) (g : Dev Cert.KernelNextFfIdeal.nD → PrngReg), Pre_KernelNextFfIdeal m →
    θ_run (Cert.KernelNextFfIdeal.defs (F := Ideal)) (onTc (τ := Cert.KernelNextFfIdeal.τ) (Cert.KernelNextFfIdeal.main (F := Ideal))) ⟨m, fun _ => 0, g⟩ (fun r => (∀ c : Dev Cert.KernelNextFfIdeal.nD,
      r.2.mem ((c.tc : Thread Cert.KernelNextFfIdeal.nD Cert.KernelNextFfIdeal.τ).loc Cert.KernelNextFfIdeal.main_arg0) = m ((c.tc : Thread Cert.KernelNextFfIdeal.nD Cert.KernelNextFfIdeal.τ).loc Cert.KernelNextFfIdeal.main_arg0)
      ∧ r.2.mem ((c.tc : Thread Cert.KernelNextFfIdeal.nD Cert.KernelNextFfIdeal.τ).loc Cert.KernelNextFfIdeal.main_arg1) = m ((c.tc : Thread Cert.KernelNextFfIdeal.nD Cert.KernelNextFfIdeal.τ).loc Cert.KernelNextFfIdeal.main_arg1)
      ∧ r.2.mem ((c.tc : Thread Cert.KernelNextFfIdeal.nD Cert.KernelNextFfIdeal.τ).loc Cert.KernelNextFfIdeal.main_arg2) = m ((c.tc : Thread Cert.KernelNextFfIdeal.nD Cert.KernelNextFfIdeal.τ).loc Cert.KernelNextFfIdeal.main_arg2)
      ∧ r.2.mem ((c.tc : Thread Cert.KernelNextFfIdeal.nD Cert.KernelNextFfIdeal.τ).loc Cert.KernelNextFfIdeal.main_arg3) = m ((c.tc : Thread Cert.KernelNextFfIdeal.nD Cert.KernelNextFfIdeal.τ).loc Cert.KernelNextFfIdeal.main_arg3)
      ∧ r.2.mem ((c.tc : Thread Cert.KernelNextFfIdeal.nD Cert.KernelNextFfIdeal.τ).loc Cert.KernelNextFfIdeal.main_arg4) = m ((c.tc : Thread Cert.KernelNextFfIdeal.nD Cert.KernelNextFfIdeal.τ).loc Cert.KernelNextFfIdeal.main_arg4))
      ∧ r.2.sem = fun _ => 0)

def quiescent_ReferenceNextFfIdeal [hReferenceNextFfIdeal : Cert.ReferenceNextFfIdeal.Facts] : Prop :=
  ∀ (m : (ℓ : Loc Cert.ReferenceNextFfIdeal.nD Cert.ReferenceNextFfIdeal.τ Cert.ReferenceNextFfIdeal.sig) → Buf (Elt Ideal) ℓ) (g : Dev Cert.ReferenceNextFfIdeal.nD → PrngReg), Pre_ReferenceNextFfIdeal m →
    θ_run (Cert.ReferenceNextFfIdeal.defs (F := Ideal)) (onTc (τ := Cert.ReferenceNextFfIdeal.τ) (Cert.ReferenceNextFfIdeal.main (F := Ideal))) ⟨m, fun _ => 0, g⟩ (fun r => (∀ c : Dev Cert.ReferenceNextFfIdeal.nD,
      r.2.mem ((c.tc : Thread Cert.ReferenceNextFfIdeal.nD Cert.ReferenceNextFfIdeal.τ).loc Cert.ReferenceNextFfIdeal.main_arg0) = m ((c.tc : Thread Cert.ReferenceNextFfIdeal.nD Cert.ReferenceNextFfIdeal.τ).loc Cert.ReferenceNextFfIdeal.main_arg0)
      ∧ r.2.mem ((c.tc : Thread Cert.ReferenceNextFfIdeal.nD Cert.ReferenceNextFfIdeal.τ).loc Cert.ReferenceNextFfIdeal.main_arg1) = m ((c.tc : Thread Cert.ReferenceNextFfIdeal.nD Cert.ReferenceNextFfIdeal.τ).loc Cert.ReferenceNextFfIdeal.main_arg1)
      ∧ r.2.mem ((c.tc : Thread Cert.ReferenceNextFfIdeal.nD Cert.ReferenceNextFfIdeal.τ).loc Cert.ReferenceNextFfIdeal.main_arg2) = m ((c.tc : Thread Cert.ReferenceNextFfIdeal.nD Cert.ReferenceNextFfIdeal.τ).loc Cert.ReferenceNextFfIdeal.main_arg2)
      ∧ r.2.mem ((c.tc : Thread Cert.ReferenceNextFfIdeal.nD Cert.ReferenceNextFfIdeal.τ).loc Cert.ReferenceNextFfIdeal.main_arg3) = m ((c.tc : Thread Cert.ReferenceNextFfIdeal.nD Cert.ReferenceNextFfIdeal.τ).loc Cert.ReferenceNextFfIdeal.main_arg3)
      ∧ r.2.mem ((c.tc : Thread Cert.ReferenceNextFfIdeal.nD Cert.ReferenceNextFfIdeal.τ).loc Cert.ReferenceNextFfIdeal.main_arg4) = m ((c.tc : Thread Cert.ReferenceNextFfIdeal.nD Cert.ReferenceNextFfIdeal.τ).loc Cert.ReferenceNextFfIdeal.main_arg4))
      ∧ r.2.sem = fun _ => 0)

def quiescent_KernelFfnLoss [hKernelFfnLoss : Cert.KernelFfnLoss.Facts] : Prop :=
  ∀ (m : (ℓ : Loc Cert.KernelFfnLoss.nD Cert.KernelFfnLoss.τ Cert.KernelFfnLoss.sig) → Buf (Elt Bits) ℓ) (g : Dev Cert.KernelFfnLoss.nD → PrngReg), Pre_KernelFfnLoss m →
    θ_run (Cert.KernelFfnLoss.defs (F := Bits)) (onTc (τ := Cert.KernelFfnLoss.τ) (Cert.KernelFfnLoss.main (F := Bits))) ⟨m, fun _ => 0, g⟩ (fun r => (∀ c : Dev Cert.KernelFfnLoss.nD,
      r.2.mem ((c.tc : Thread Cert.KernelFfnLoss.nD Cert.KernelFfnLoss.τ).loc Cert.KernelFfnLoss.main_arg0) = m ((c.tc : Thread Cert.KernelFfnLoss.nD Cert.KernelFfnLoss.τ).loc Cert.KernelFfnLoss.main_arg0)
      ∧ r.2.mem ((c.tc : Thread Cert.KernelFfnLoss.nD Cert.KernelFfnLoss.τ).loc Cert.KernelFfnLoss.main_arg1) = m ((c.tc : Thread Cert.KernelFfnLoss.nD Cert.KernelFfnLoss.τ).loc Cert.KernelFfnLoss.main_arg1)
      ∧ r.2.mem ((c.tc : Thread Cert.KernelFfnLoss.nD Cert.KernelFfnLoss.τ).loc Cert.KernelFfnLoss.main_arg2) = m ((c.tc : Thread Cert.KernelFfnLoss.nD Cert.KernelFfnLoss.τ).loc Cert.KernelFfnLoss.main_arg2)
      ∧ r.2.mem ((c.tc : Thread Cert.KernelFfnLoss.nD Cert.KernelFfnLoss.τ).loc Cert.KernelFfnLoss.main_arg3) = m ((c.tc : Thread Cert.KernelFfnLoss.nD Cert.KernelFfnLoss.τ).loc Cert.KernelFfnLoss.main_arg3)
      ∧ r.2.mem ((c.tc : Thread Cert.KernelFfnLoss.nD Cert.KernelFfnLoss.τ).loc Cert.KernelFfnLoss.main_arg4) = m ((c.tc : Thread Cert.KernelFfnLoss.nD Cert.KernelFfnLoss.τ).loc Cert.KernelFfnLoss.main_arg4)
      ∧ r.2.mem ((c.tc : Thread Cert.KernelFfnLoss.nD Cert.KernelFfnLoss.τ).loc Cert.KernelFfnLoss.main_arg5) = m ((c.tc : Thread Cert.KernelFfnLoss.nD Cert.KernelFfnLoss.τ).loc Cert.KernelFfnLoss.main_arg5)
      ∧ r.2.mem ((c.tc : Thread Cert.KernelFfnLoss.nD Cert.KernelFfnLoss.τ).loc Cert.KernelFfnLoss.main_arg6) = m ((c.tc : Thread Cert.KernelFfnLoss.nD Cert.KernelFfnLoss.τ).loc Cert.KernelFfnLoss.main_arg6)
      ∧ r.2.mem ((c.tc : Thread Cert.KernelFfnLoss.nD Cert.KernelFfnLoss.τ).loc Cert.KernelFfnLoss.main_arg7) = m ((c.tc : Thread Cert.KernelFfnLoss.nD Cert.KernelFfnLoss.τ).loc Cert.KernelFfnLoss.main_arg7)
      ∧ r.2.mem ((c.tc : Thread Cert.KernelFfnLoss.nD Cert.KernelFfnLoss.τ).loc Cert.KernelFfnLoss.main_arg8) = m ((c.tc : Thread Cert.KernelFfnLoss.nD Cert.KernelFfnLoss.τ).loc Cert.KernelFfnLoss.main_arg8))
      ∧ r.2.sem = fun _ => 0)

def quiescent_KernelFfnLossIdeal [hKernelFfnLossIdeal : Cert.KernelFfnLossIdeal.Facts] : Prop :=
  ∀ (m : (ℓ : Loc Cert.KernelFfnLossIdeal.nD Cert.KernelFfnLossIdeal.τ Cert.KernelFfnLossIdeal.sig) → Buf (Elt Ideal) ℓ) (g : Dev Cert.KernelFfnLossIdeal.nD → PrngReg), Pre_KernelFfnLossIdeal m →
    θ_run (Cert.KernelFfnLossIdeal.defs (F := Ideal)) (onTc (τ := Cert.KernelFfnLossIdeal.τ) (Cert.KernelFfnLossIdeal.main (F := Ideal))) ⟨m, fun _ => 0, g⟩ (fun r => (∀ c : Dev Cert.KernelFfnLossIdeal.nD,
      r.2.mem ((c.tc : Thread Cert.KernelFfnLossIdeal.nD Cert.KernelFfnLossIdeal.τ).loc Cert.KernelFfnLossIdeal.main_arg0) = m ((c.tc : Thread Cert.KernelFfnLossIdeal.nD Cert.KernelFfnLossIdeal.τ).loc Cert.KernelFfnLossIdeal.main_arg0)
      ∧ r.2.mem ((c.tc : Thread Cert.KernelFfnLossIdeal.nD Cert.KernelFfnLossIdeal.τ).loc Cert.KernelFfnLossIdeal.main_arg1) = m ((c.tc : Thread Cert.KernelFfnLossIdeal.nD Cert.KernelFfnLossIdeal.τ).loc Cert.KernelFfnLossIdeal.main_arg1)
      ∧ r.2.mem ((c.tc : Thread Cert.KernelFfnLossIdeal.nD Cert.KernelFfnLossIdeal.τ).loc Cert.KernelFfnLossIdeal.main_arg2) = m ((c.tc : Thread Cert.KernelFfnLossIdeal.nD Cert.KernelFfnLossIdeal.τ).loc Cert.KernelFfnLossIdeal.main_arg2)
      ∧ r.2.mem ((c.tc : Thread Cert.KernelFfnLossIdeal.nD Cert.KernelFfnLossIdeal.τ).loc Cert.KernelFfnLossIdeal.main_arg3) = m ((c.tc : Thread Cert.KernelFfnLossIdeal.nD Cert.KernelFfnLossIdeal.τ).loc Cert.KernelFfnLossIdeal.main_arg3)
      ∧ r.2.mem ((c.tc : Thread Cert.KernelFfnLossIdeal.nD Cert.KernelFfnLossIdeal.τ).loc Cert.KernelFfnLossIdeal.main_arg4) = m ((c.tc : Thread Cert.KernelFfnLossIdeal.nD Cert.KernelFfnLossIdeal.τ).loc Cert.KernelFfnLossIdeal.main_arg4)
      ∧ r.2.mem ((c.tc : Thread Cert.KernelFfnLossIdeal.nD Cert.KernelFfnLossIdeal.τ).loc Cert.KernelFfnLossIdeal.main_arg5) = m ((c.tc : Thread Cert.KernelFfnLossIdeal.nD Cert.KernelFfnLossIdeal.τ).loc Cert.KernelFfnLossIdeal.main_arg5)
      ∧ r.2.mem ((c.tc : Thread Cert.KernelFfnLossIdeal.nD Cert.KernelFfnLossIdeal.τ).loc Cert.KernelFfnLossIdeal.main_arg6) = m ((c.tc : Thread Cert.KernelFfnLossIdeal.nD Cert.KernelFfnLossIdeal.τ).loc Cert.KernelFfnLossIdeal.main_arg6)
      ∧ r.2.mem ((c.tc : Thread Cert.KernelFfnLossIdeal.nD Cert.KernelFfnLossIdeal.τ).loc Cert.KernelFfnLossIdeal.main_arg7) = m ((c.tc : Thread Cert.KernelFfnLossIdeal.nD Cert.KernelFfnLossIdeal.τ).loc Cert.KernelFfnLossIdeal.main_arg7)
      ∧ r.2.mem ((c.tc : Thread Cert.KernelFfnLossIdeal.nD Cert.KernelFfnLossIdeal.τ).loc Cert.KernelFfnLossIdeal.main_arg8) = m ((c.tc : Thread Cert.KernelFfnLossIdeal.nD Cert.KernelFfnLossIdeal.τ).loc Cert.KernelFfnLossIdeal.main_arg8))
      ∧ r.2.sem = fun _ => 0)

def quiescent_ReferenceFfnLossIdeal [hReferenceFfnLossIdeal : Cert.ReferenceFfnLossIdeal.Facts] : Prop :=
  ∀ (m : (ℓ : Loc Cert.ReferenceFfnLossIdeal.nD Cert.ReferenceFfnLossIdeal.τ Cert.ReferenceFfnLossIdeal.sig) → Buf (Elt Ideal) ℓ) (g : Dev Cert.ReferenceFfnLossIdeal.nD → PrngReg), Pre_ReferenceFfnLossIdeal m →
    θ_run (Cert.ReferenceFfnLossIdeal.defs (F := Ideal)) (onTc (τ := Cert.ReferenceFfnLossIdeal.τ) (Cert.ReferenceFfnLossIdeal.main (F := Ideal))) ⟨m, fun _ => 0, g⟩ (fun r => (∀ c : Dev Cert.ReferenceFfnLossIdeal.nD,
      r.2.mem ((c.tc : Thread Cert.ReferenceFfnLossIdeal.nD Cert.ReferenceFfnLossIdeal.τ).loc Cert.ReferenceFfnLossIdeal.main_arg0) = m ((c.tc : Thread Cert.ReferenceFfnLossIdeal.nD Cert.ReferenceFfnLossIdeal.τ).loc Cert.ReferenceFfnLossIdeal.main_arg0)
      ∧ r.2.mem ((c.tc : Thread Cert.ReferenceFfnLossIdeal.nD Cert.ReferenceFfnLossIdeal.τ).loc Cert.ReferenceFfnLossIdeal.main_arg1) = m ((c.tc : Thread Cert.ReferenceFfnLossIdeal.nD Cert.ReferenceFfnLossIdeal.τ).loc Cert.ReferenceFfnLossIdeal.main_arg1)
      ∧ r.2.mem ((c.tc : Thread Cert.ReferenceFfnLossIdeal.nD Cert.ReferenceFfnLossIdeal.τ).loc Cert.ReferenceFfnLossIdeal.main_arg2) = m ((c.tc : Thread Cert.ReferenceFfnLossIdeal.nD Cert.ReferenceFfnLossIdeal.τ).loc Cert.ReferenceFfnLossIdeal.main_arg2)
      ∧ r.2.mem ((c.tc : Thread Cert.ReferenceFfnLossIdeal.nD Cert.ReferenceFfnLossIdeal.τ).loc Cert.ReferenceFfnLossIdeal.main_arg3) = m ((c.tc : Thread Cert.ReferenceFfnLossIdeal.nD Cert.ReferenceFfnLossIdeal.τ).loc Cert.ReferenceFfnLossIdeal.main_arg3)
      ∧ r.2.mem ((c.tc : Thread Cert.ReferenceFfnLossIdeal.nD Cert.ReferenceFfnLossIdeal.τ).loc Cert.ReferenceFfnLossIdeal.main_arg4) = m ((c.tc : Thread Cert.ReferenceFfnLossIdeal.nD Cert.ReferenceFfnLossIdeal.τ).loc Cert.ReferenceFfnLossIdeal.main_arg4)
      ∧ r.2.mem ((c.tc : Thread Cert.ReferenceFfnLossIdeal.nD Cert.ReferenceFfnLossIdeal.τ).loc Cert.ReferenceFfnLossIdeal.main_arg5) = m ((c.tc : Thread Cert.ReferenceFfnLossIdeal.nD Cert.ReferenceFfnLossIdeal.τ).loc Cert.ReferenceFfnLossIdeal.main_arg5)
      ∧ r.2.mem ((c.tc : Thread Cert.ReferenceFfnLossIdeal.nD Cert.ReferenceFfnLossIdeal.τ).loc Cert.ReferenceFfnLossIdeal.main_arg6) = m ((c.tc : Thread Cert.ReferenceFfnLossIdeal.nD Cert.ReferenceFfnLossIdeal.τ).loc Cert.ReferenceFfnLossIdeal.main_arg6)
      ∧ r.2.mem ((c.tc : Thread Cert.ReferenceFfnLossIdeal.nD Cert.ReferenceFfnLossIdeal.τ).loc Cert.ReferenceFfnLossIdeal.main_arg7) = m ((c.tc : Thread Cert.ReferenceFfnLossIdeal.nD Cert.ReferenceFfnLossIdeal.τ).loc Cert.ReferenceFfnLossIdeal.main_arg7)
      ∧ r.2.mem ((c.tc : Thread Cert.ReferenceFfnLossIdeal.nD Cert.ReferenceFfnLossIdeal.τ).loc Cert.ReferenceFfnLossIdeal.main_arg8) = m ((c.tc : Thread Cert.ReferenceFfnLossIdeal.nD Cert.ReferenceFfnLossIdeal.τ).loc Cert.ReferenceFfnLossIdeal.main_arg8))
      ∧ r.2.sem = fun _ => 0)

def quiescent_KernelFfnFirst [hKernelFfnFirst : Cert.KernelFfnFirst.Facts] : Prop :=
  ∀ (m : (ℓ : Loc Cert.KernelFfnFirst.nD Cert.KernelFfnFirst.τ Cert.KernelFfnFirst.sig) → Buf (Elt Bits) ℓ) (g : Dev Cert.KernelFfnFirst.nD → PrngReg), Pre_KernelFfnFirst m →
    θ_run (Cert.KernelFfnFirst.defs (F := Bits)) (onTc (τ := Cert.KernelFfnFirst.τ) (Cert.KernelFfnFirst.main (F := Bits))) ⟨m, fun _ => 0, g⟩ (fun r => (∀ c : Dev Cert.KernelFfnFirst.nD,
      r.2.mem ((c.tc : Thread Cert.KernelFfnFirst.nD Cert.KernelFfnFirst.τ).loc Cert.KernelFfnFirst.main_arg0) = m ((c.tc : Thread Cert.KernelFfnFirst.nD Cert.KernelFfnFirst.τ).loc Cert.KernelFfnFirst.main_arg0)
      ∧ r.2.mem ((c.tc : Thread Cert.KernelFfnFirst.nD Cert.KernelFfnFirst.τ).loc Cert.KernelFfnFirst.main_arg1) = m ((c.tc : Thread Cert.KernelFfnFirst.nD Cert.KernelFfnFirst.τ).loc Cert.KernelFfnFirst.main_arg1)
      ∧ r.2.mem ((c.tc : Thread Cert.KernelFfnFirst.nD Cert.KernelFfnFirst.τ).loc Cert.KernelFfnFirst.main_arg2) = m ((c.tc : Thread Cert.KernelFfnFirst.nD Cert.KernelFfnFirst.τ).loc Cert.KernelFfnFirst.main_arg2)
      ∧ r.2.mem ((c.tc : Thread Cert.KernelFfnFirst.nD Cert.KernelFfnFirst.τ).loc Cert.KernelFfnFirst.main_arg3) = m ((c.tc : Thread Cert.KernelFfnFirst.nD Cert.KernelFfnFirst.τ).loc Cert.KernelFfnFirst.main_arg3)
      ∧ r.2.mem ((c.tc : Thread Cert.KernelFfnFirst.nD Cert.KernelFfnFirst.τ).loc Cert.KernelFfnFirst.main_arg4) = m ((c.tc : Thread Cert.KernelFfnFirst.nD Cert.KernelFfnFirst.τ).loc Cert.KernelFfnFirst.main_arg4))
      ∧ r.2.sem = fun _ => 0)

def quiescent_KernelFfnFirstIdeal [hKernelFfnFirstIdeal : Cert.KernelFfnFirstIdeal.Facts] : Prop :=
  ∀ (m : (ℓ : Loc Cert.KernelFfnFirstIdeal.nD Cert.KernelFfnFirstIdeal.τ Cert.KernelFfnFirstIdeal.sig) → Buf (Elt Ideal) ℓ) (g : Dev Cert.KernelFfnFirstIdeal.nD → PrngReg), Pre_KernelFfnFirstIdeal m →
    θ_run (Cert.KernelFfnFirstIdeal.defs (F := Ideal)) (onTc (τ := Cert.KernelFfnFirstIdeal.τ) (Cert.KernelFfnFirstIdeal.main (F := Ideal))) ⟨m, fun _ => 0, g⟩ (fun r => (∀ c : Dev Cert.KernelFfnFirstIdeal.nD,
      r.2.mem ((c.tc : Thread Cert.KernelFfnFirstIdeal.nD Cert.KernelFfnFirstIdeal.τ).loc Cert.KernelFfnFirstIdeal.main_arg0) = m ((c.tc : Thread Cert.KernelFfnFirstIdeal.nD Cert.KernelFfnFirstIdeal.τ).loc Cert.KernelFfnFirstIdeal.main_arg0)
      ∧ r.2.mem ((c.tc : Thread Cert.KernelFfnFirstIdeal.nD Cert.KernelFfnFirstIdeal.τ).loc Cert.KernelFfnFirstIdeal.main_arg1) = m ((c.tc : Thread Cert.KernelFfnFirstIdeal.nD Cert.KernelFfnFirstIdeal.τ).loc Cert.KernelFfnFirstIdeal.main_arg1)
      ∧ r.2.mem ((c.tc : Thread Cert.KernelFfnFirstIdeal.nD Cert.KernelFfnFirstIdeal.τ).loc Cert.KernelFfnFirstIdeal.main_arg2) = m ((c.tc : Thread Cert.KernelFfnFirstIdeal.nD Cert.KernelFfnFirstIdeal.τ).loc Cert.KernelFfnFirstIdeal.main_arg2)
      ∧ r.2.mem ((c.tc : Thread Cert.KernelFfnFirstIdeal.nD Cert.KernelFfnFirstIdeal.τ).loc Cert.KernelFfnFirstIdeal.main_arg3) = m ((c.tc : Thread Cert.KernelFfnFirstIdeal.nD Cert.KernelFfnFirstIdeal.τ).loc Cert.KernelFfnFirstIdeal.main_arg3)
      ∧ r.2.mem ((c.tc : Thread Cert.KernelFfnFirstIdeal.nD Cert.KernelFfnFirstIdeal.τ).loc Cert.KernelFfnFirstIdeal.main_arg4) = m ((c.tc : Thread Cert.KernelFfnFirstIdeal.nD Cert.KernelFfnFirstIdeal.τ).loc Cert.KernelFfnFirstIdeal.main_arg4))
      ∧ r.2.sem = fun _ => 0)

def quiescent_ReferenceFfnFirstIdeal [hReferenceFfnFirstIdeal : Cert.ReferenceFfnFirstIdeal.Facts] : Prop :=
  ∀ (m : (ℓ : Loc Cert.ReferenceFfnFirstIdeal.nD Cert.ReferenceFfnFirstIdeal.τ Cert.ReferenceFfnFirstIdeal.sig) → Buf (Elt Ideal) ℓ) (g : Dev Cert.ReferenceFfnFirstIdeal.nD → PrngReg), Pre_ReferenceFfnFirstIdeal m →
    θ_run (Cert.ReferenceFfnFirstIdeal.defs (F := Ideal)) (onTc (τ := Cert.ReferenceFfnFirstIdeal.τ) (Cert.ReferenceFfnFirstIdeal.main (F := Ideal))) ⟨m, fun _ => 0, g⟩ (fun r => (∀ c : Dev Cert.ReferenceFfnFirstIdeal.nD,
      r.2.mem ((c.tc : Thread Cert.ReferenceFfnFirstIdeal.nD Cert.ReferenceFfnFirstIdeal.τ).loc Cert.ReferenceFfnFirstIdeal.main_arg0) = m ((c.tc : Thread Cert.ReferenceFfnFirstIdeal.nD Cert.ReferenceFfnFirstIdeal.τ).loc Cert.ReferenceFfnFirstIdeal.main_arg0)
      ∧ r.2.mem ((c.tc : Thread Cert.ReferenceFfnFirstIdeal.nD Cert.ReferenceFfnFirstIdeal.τ).loc Cert.ReferenceFfnFirstIdeal.main_arg1) = m ((c.tc : Thread Cert.ReferenceFfnFirstIdeal.nD Cert.ReferenceFfnFirstIdeal.τ).loc Cert.ReferenceFfnFirstIdeal.main_arg1)
      ∧ r.2.mem ((c.tc : Thread Cert.ReferenceFfnFirstIdeal.nD Cert.ReferenceFfnFirstIdeal.τ).loc Cert.ReferenceFfnFirstIdeal.main_arg2) = m ((c.tc : Thread Cert.ReferenceFfnFirstIdeal.nD Cert.ReferenceFfnFirstIdeal.τ).loc Cert.ReferenceFfnFirstIdeal.main_arg2)
      ∧ r.2.mem ((c.tc : Thread Cert.ReferenceFfnFirstIdeal.nD Cert.ReferenceFfnFirstIdeal.τ).loc Cert.ReferenceFfnFirstIdeal.main_arg3) = m ((c.tc : Thread Cert.ReferenceFfnFirstIdeal.nD Cert.ReferenceFfnFirstIdeal.τ).loc Cert.ReferenceFfnFirstIdeal.main_arg3)
      ∧ r.2.mem ((c.tc : Thread Cert.ReferenceFfnFirstIdeal.nD Cert.ReferenceFfnFirstIdeal.τ).loc Cert.ReferenceFfnFirstIdeal.main_arg4) = m ((c.tc : Thread Cert.ReferenceFfnFirstIdeal.nD Cert.ReferenceFfnFirstIdeal.τ).loc Cert.ReferenceFfnFirstIdeal.main_arg4))
      ∧ r.2.sem = fun _ => 0)

def preserves_KernelFfn_KernelFfnIdeal : Prop :=
  True

def algebraic_KernelFfnIdeal_ReferenceFfnIdeal_pre_finite [hKernelFfnIdeal : Cert.KernelFfnIdeal.Facts] [hReferenceFfnIdeal : Cert.ReferenceFfnIdeal.Facts] [hPre_finite : Cert.Pre_finite.Facts] : Prop :=
  ∀ (m : (ℓ : Loc Cert.KernelFfnIdeal.nD Cert.KernelFfnIdeal.τ Cert.KernelFfnIdeal.sig) → Buf (Elt Ideal) ℓ) (g : Dev Cert.KernelFfnIdeal.nD → PrngReg)
    (m' : (ℓ : Loc Cert.ReferenceFfnIdeal.nD Cert.ReferenceFfnIdeal.τ Cert.ReferenceFfnIdeal.sig) → Buf (Elt Ideal) ℓ) (g' : Dev Cert.ReferenceFfnIdeal.nD → PrngReg), Pre_KernelFfnIdeal_finite m →
    (∀ c : Dev Cert.KernelFfnIdeal.nD,
      m' ((c.tc : Thread Cert.ReferenceFfnIdeal.nD Cert.ReferenceFfnIdeal.τ).loc Cert.ReferenceFfnIdeal.main_arg0) = m ((c.tc : Thread Cert.KernelFfnIdeal.nD Cert.KernelFfnIdeal.τ).loc Cert.KernelFfnIdeal.main_arg0)
      ∧ m' ((c.tc : Thread Cert.ReferenceFfnIdeal.nD Cert.ReferenceFfnIdeal.τ).loc Cert.ReferenceFfnIdeal.main_arg1) = m ((c.tc : Thread Cert.KernelFfnIdeal.nD Cert.KernelFfnIdeal.τ).loc Cert.KernelFfnIdeal.main_arg1)
      ∧ m' ((c.tc : Thread Cert.ReferenceFfnIdeal.nD Cert.ReferenceFfnIdeal.τ).loc Cert.ReferenceFfnIdeal.main_arg2) = m ((c.tc : Thread Cert.KernelFfnIdeal.nD Cert.KernelFfnIdeal.τ).loc Cert.KernelFfnIdeal.main_arg2)
      ∧ m' ((c.tc : Thread Cert.ReferenceFfnIdeal.nD Cert.ReferenceFfnIdeal.τ).loc Cert.ReferenceFfnIdeal.main_arg3) = m ((c.tc : Thread Cert.KernelFfnIdeal.nD Cert.KernelFfnIdeal.τ).loc Cert.KernelFfnIdeal.main_arg3)
      ∧ m' ((c.tc : Thread Cert.ReferenceFfnIdeal.nD Cert.ReferenceFfnIdeal.τ).loc Cert.ReferenceFfnIdeal.main_arg4) = m ((c.tc : Thread Cert.KernelFfnIdeal.nD Cert.KernelFfnIdeal.τ).loc Cert.KernelFfnIdeal.main_arg4)
      ∧ m' ((c.tc : Thread Cert.ReferenceFfnIdeal.nD Cert.ReferenceFfnIdeal.τ).loc Cert.ReferenceFfnIdeal.main_arg5) = m ((c.tc : Thread Cert.KernelFfnIdeal.nD Cert.KernelFfnIdeal.τ).loc Cert.KernelFfnIdeal.main_arg5)) →
    ∃ (v0 : (c : Dev Cert.KernelFfnIdeal.nD) → Buf (Elt Ideal) ((c.tc : Thread Cert.KernelFfnIdeal.nD Cert.KernelFfnIdeal.τ).loc Cert.KernelFfnIdeal.main_v24_0)) (v1 : (c : Dev Cert.KernelFfnIdeal.nD) → Buf (Elt Ideal) ((c.tc : Thread Cert.KernelFfnIdeal.nD Cert.KernelFfnIdeal.τ).loc Cert.KernelFfnIdeal.main_v24_1)) (v2 : (c : Dev Cert.KernelFfnIdeal.nD) → Buf (Elt Ideal) ((c.tc : Thread Cert.KernelFfnIdeal.nD Cert.KernelFfnIdeal.τ).loc Cert.KernelFfnIdeal.main_v24_2)) (v3 : (c : Dev Cert.KernelFfnIdeal.nD) → Buf (Elt Ideal) ((c.tc : Thread Cert.KernelFfnIdeal.nD Cert.KernelFfnIdeal.τ).loc Cert.KernelFfnIdeal.main_v24_3)),
      θ_run (Cert.KernelFfnIdeal.defs (F := Ideal)) (onTc (τ := Cert.KernelFfnIdeal.τ) (Cert.KernelFfnIdeal.main (F := Ideal))) ⟨m, fun _ => 0, g⟩ (fun r => ∀ c : Dev Cert.KernelFfnIdeal.nD,
          r.2.mem ((c.tc : Thread Cert.KernelFfnIdeal.nD Cert.KernelFfnIdeal.τ).loc Cert.KernelFfnIdeal.main_v24_0) = v0 c
          ∧ r.2.mem ((c.tc : Thread Cert.KernelFfnIdeal.nD Cert.KernelFfnIdeal.τ).loc Cert.KernelFfnIdeal.main_v24_1) = v1 c
          ∧ r.2.mem ((c.tc : Thread Cert.KernelFfnIdeal.nD Cert.KernelFfnIdeal.τ).loc Cert.KernelFfnIdeal.main_v24_2) = v2 c
          ∧ r.2.mem ((c.tc : Thread Cert.KernelFfnIdeal.nD Cert.KernelFfnIdeal.τ).loc Cert.KernelFfnIdeal.main_v24_3) = v3 c
          ∧ r.2.mem ((c.tc : Thread Cert.KernelFfnIdeal.nD Cert.KernelFfnIdeal.τ).loc Cert.KernelFfnIdeal.main_arg0) = m ((c.tc : Thread Cert.KernelFfnIdeal.nD Cert.KernelFfnIdeal.τ).loc Cert.KernelFfnIdeal.main_arg0)
          ∧ r.2.mem ((c.tc : Thread Cert.KernelFfnIdeal.nD Cert.KernelFfnIdeal.τ).loc Cert.KernelFfnIdeal.main_arg1) = m ((c.tc : Thread Cert.KernelFfnIdeal.nD Cert.KernelFfnIdeal.τ).loc Cert.KernelFfnIdeal.main_arg1)
          ∧ r.2.mem ((c.tc : Thread Cert.KernelFfnIdeal.nD Cert.KernelFfnIdeal.τ).loc Cert.KernelFfnIdeal.main_arg2) = m ((c.tc : Thread Cert.KernelFfnIdeal.nD Cert.KernelFfnIdeal.τ).loc Cert.KernelFfnIdeal.main_arg2)
          ∧ r.2.mem ((c.tc : Thread Cert.KernelFfnIdeal.nD Cert.KernelFfnIdeal.τ).loc Cert.KernelFfnIdeal.main_arg3) = m ((c.tc : Thread Cert.KernelFfnIdeal.nD Cert.KernelFfnIdeal.τ).loc Cert.KernelFfnIdeal.main_arg3)
          ∧ r.2.mem ((c.tc : Thread Cert.KernelFfnIdeal.nD Cert.KernelFfnIdeal.τ).loc Cert.KernelFfnIdeal.main_arg4) = m ((c.tc : Thread Cert.KernelFfnIdeal.nD Cert.KernelFfnIdeal.τ).loc Cert.KernelFfnIdeal.main_arg4)
          ∧ r.2.mem ((c.tc : Thread Cert.KernelFfnIdeal.nD Cert.KernelFfnIdeal.τ).loc Cert.KernelFfnIdeal.main_arg5) = m ((c.tc : Thread Cert.KernelFfnIdeal.nD Cert.KernelFfnIdeal.τ).loc Cert.KernelFfnIdeal.main_arg5))
      ∧ θ_run (Cert.ReferenceFfnIdeal.defs (F := Ideal)) (onTc (τ := Cert.ReferenceFfnIdeal.τ) (Cert.ReferenceFfnIdeal.main (F := Ideal))) ⟨m', fun _ => 0, g'⟩ (fun r => ∀ c : Dev Cert.ReferenceFfnIdeal.nD,
          r.2.mem ((c.tc : Thread Cert.ReferenceFfnIdeal.nD Cert.ReferenceFfnIdeal.τ).loc Cert.ReferenceFfnIdeal.main_v50) = v0 c
          ∧ r.2.mem ((c.tc : Thread Cert.ReferenceFfnIdeal.nD Cert.ReferenceFfnIdeal.τ).loc Cert.ReferenceFfnIdeal.main_v51) = v1 c
          ∧ r.2.mem ((c.tc : Thread Cert.ReferenceFfnIdeal.nD Cert.ReferenceFfnIdeal.τ).loc Cert.ReferenceFfnIdeal.main_v52) = v2 c
          ∧ r.2.mem ((c.tc : Thread Cert.ReferenceFfnIdeal.nD Cert.ReferenceFfnIdeal.τ).loc Cert.ReferenceFfnIdeal.main_v49) = v3 c
          ∧ r.2.mem ((c.tc : Thread Cert.ReferenceFfnIdeal.nD Cert.ReferenceFfnIdeal.τ).loc Cert.ReferenceFfnIdeal.main_arg0) = m' ((c.tc : Thread Cert.ReferenceFfnIdeal.nD Cert.ReferenceFfnIdeal.τ).loc Cert.ReferenceFfnIdeal.main_arg0)
          ∧ r.2.mem ((c.tc : Thread Cert.ReferenceFfnIdeal.nD Cert.ReferenceFfnIdeal.τ).loc Cert.ReferenceFfnIdeal.main_arg1) = m' ((c.tc : Thread Cert.ReferenceFfnIdeal.nD Cert.ReferenceFfnIdeal.τ).loc Cert.ReferenceFfnIdeal.main_arg1)
          ∧ r.2.mem ((c.tc : Thread Cert.ReferenceFfnIdeal.nD Cert.ReferenceFfnIdeal.τ).loc Cert.ReferenceFfnIdeal.main_arg2) = m' ((c.tc : Thread Cert.ReferenceFfnIdeal.nD Cert.ReferenceFfnIdeal.τ).loc Cert.ReferenceFfnIdeal.main_arg2)
          ∧ r.2.mem ((c.tc : Thread Cert.ReferenceFfnIdeal.nD Cert.ReferenceFfnIdeal.τ).loc Cert.ReferenceFfnIdeal.main_arg3) = m' ((c.tc : Thread Cert.ReferenceFfnIdeal.nD Cert.ReferenceFfnIdeal.τ).loc Cert.ReferenceFfnIdeal.main_arg3)
          ∧ r.2.mem ((c.tc : Thread Cert.ReferenceFfnIdeal.nD Cert.ReferenceFfnIdeal.τ).loc Cert.ReferenceFfnIdeal.main_arg4) = m' ((c.tc : Thread Cert.ReferenceFfnIdeal.nD Cert.ReferenceFfnIdeal.τ).loc Cert.ReferenceFfnIdeal.main_arg4)
          ∧ r.2.mem ((c.tc : Thread Cert.ReferenceFfnIdeal.nD Cert.ReferenceFfnIdeal.τ).loc Cert.ReferenceFfnIdeal.main_arg5) = m' ((c.tc : Thread Cert.ReferenceFfnIdeal.nD Cert.ReferenceFfnIdeal.τ).loc Cert.ReferenceFfnIdeal.main_arg5))

def preserves_KernelGateUp_KernelGateUpIdeal : Prop :=
  True

def algebraic_KernelGateUpIdeal_ReferenceGateUpIdeal [hKernelGateUpIdeal : Cert.KernelGateUpIdeal.Facts] [hReferenceGateUpIdeal : Cert.ReferenceGateUpIdeal.Facts] : Prop :=
  ∀ (m : (ℓ : Loc Cert.KernelGateUpIdeal.nD Cert.KernelGateUpIdeal.τ Cert.KernelGateUpIdeal.sig) → Buf (Elt Ideal) ℓ) (g : Dev Cert.KernelGateUpIdeal.nD → PrngReg)
    (m' : (ℓ : Loc Cert.ReferenceGateUpIdeal.nD Cert.ReferenceGateUpIdeal.τ Cert.ReferenceGateUpIdeal.sig) → Buf (Elt Ideal) ℓ) (g' : Dev Cert.ReferenceGateUpIdeal.nD → PrngReg), Pre_KernelGateUpIdeal m →
    (∀ c : Dev Cert.KernelGateUpIdeal.nD,
      m' ((c.tc : Thread Cert.ReferenceGateUpIdeal.nD Cert.ReferenceGateUpIdeal.τ).loc Cert.ReferenceGateUpIdeal.main_arg0) = m ((c.tc : Thread Cert.KernelGateUpIdeal.nD Cert.KernelGateUpIdeal.τ).loc Cert.KernelGateUpIdeal.main_arg0)
      ∧ m' ((c.tc : Thread Cert.ReferenceGateUpIdeal.nD Cert.ReferenceGateUpIdeal.τ).loc Cert.ReferenceGateUpIdeal.main_arg1) = m ((c.tc : Thread Cert.KernelGateUpIdeal.nD Cert.KernelGateUpIdeal.τ).loc Cert.KernelGateUpIdeal.main_arg1)
      ∧ m' ((c.tc : Thread Cert.ReferenceGateUpIdeal.nD Cert.ReferenceGateUpIdeal.τ).loc Cert.ReferenceGateUpIdeal.main_arg2) = m ((c.tc : Thread Cert.KernelGateUpIdeal.nD Cert.KernelGateUpIdeal.τ).loc Cert.KernelGateUpIdeal.main_arg2)) →
    ∃ (v0 : (c : Dev Cert.KernelGateUpIdeal.nD) → Buf (Elt Ideal) ((c.tc : Thread Cert.KernelGateUpIdeal.nD Cert.KernelGateUpIdeal.τ).loc Cert.KernelGateUpIdeal.main_v0_0)) (v1 : (c : Dev Cert.KernelGateUpIdeal.nD) → Buf (Elt Ideal) ((c.tc : Thread Cert.KernelGateUpIdeal.nD Cert.KernelGateUpIdeal.τ).loc Cert.KernelGateUpIdeal.main_v0_1)),
      θ_run (Cert.KernelGateUpIdeal.defs (F := Ideal)) (onTc (τ := Cert.KernelGateUpIdeal.τ) (Cert.KernelGateUpIdeal.main (F := Ideal))) ⟨m, fun _ => 0, g⟩ (fun r => ∀ c : Dev Cert.KernelGateUpIdeal.nD,
          r.2.mem ((c.tc : Thread Cert.KernelGateUpIdeal.nD Cert.KernelGateUpIdeal.τ).loc Cert.KernelGateUpIdeal.main_v0_0) = v0 c
          ∧ r.2.mem ((c.tc : Thread Cert.KernelGateUpIdeal.nD Cert.KernelGateUpIdeal.τ).loc Cert.KernelGateUpIdeal.main_v0_1) = v1 c
          ∧ r.2.mem ((c.tc : Thread Cert.KernelGateUpIdeal.nD Cert.KernelGateUpIdeal.τ).loc Cert.KernelGateUpIdeal.main_arg0) = m ((c.tc : Thread Cert.KernelGateUpIdeal.nD Cert.KernelGateUpIdeal.τ).loc Cert.KernelGateUpIdeal.main_arg0)
          ∧ r.2.mem ((c.tc : Thread Cert.KernelGateUpIdeal.nD Cert.KernelGateUpIdeal.τ).loc Cert.KernelGateUpIdeal.main_arg1) = m ((c.tc : Thread Cert.KernelGateUpIdeal.nD Cert.KernelGateUpIdeal.τ).loc Cert.KernelGateUpIdeal.main_arg1)
          ∧ r.2.mem ((c.tc : Thread Cert.KernelGateUpIdeal.nD Cert.KernelGateUpIdeal.τ).loc Cert.KernelGateUpIdeal.main_arg2) = m ((c.tc : Thread Cert.KernelGateUpIdeal.nD Cert.KernelGateUpIdeal.τ).loc Cert.KernelGateUpIdeal.main_arg2))
      ∧ θ_run (Cert.ReferenceGateUpIdeal.defs (F := Ideal)) (onTc (τ := Cert.ReferenceGateUpIdeal.τ) (Cert.ReferenceGateUpIdeal.main (F := Ideal))) ⟨m', fun _ => 0, g'⟩ (fun r => ∀ c : Dev Cert.ReferenceGateUpIdeal.nD,
          r.2.mem ((c.tc : Thread Cert.ReferenceGateUpIdeal.nD Cert.ReferenceGateUpIdeal.τ).loc Cert.ReferenceGateUpIdeal.main_v12) = v0 c
          ∧ r.2.mem ((c.tc : Thread Cert.ReferenceGateUpIdeal.nD Cert.ReferenceGateUpIdeal.τ).loc Cert.ReferenceGateUpIdeal.main_v14) = v1 c
          ∧ r.2.mem ((c.tc : Thread Cert.ReferenceGateUpIdeal.nD Cert.ReferenceGateUpIdeal.τ).loc Cert.ReferenceGateUpIdeal.main_arg0) = m' ((c.tc : Thread Cert.ReferenceGateUpIdeal.nD Cert.ReferenceGateUpIdeal.τ).loc Cert.ReferenceGateUpIdeal.main_arg0)
          ∧ r.2.mem ((c.tc : Thread Cert.ReferenceGateUpIdeal.nD Cert.ReferenceGateUpIdeal.τ).loc Cert.ReferenceGateUpIdeal.main_arg1) = m' ((c.tc : Thread Cert.ReferenceGateUpIdeal.nD Cert.ReferenceGateUpIdeal.τ).loc Cert.ReferenceGateUpIdeal.main_arg1)
          ∧ r.2.mem ((c.tc : Thread Cert.ReferenceGateUpIdeal.nD Cert.ReferenceGateUpIdeal.τ).loc Cert.ReferenceGateUpIdeal.main_arg2) = m' ((c.tc : Thread Cert.ReferenceGateUpIdeal.nD Cert.ReferenceGateUpIdeal.τ).loc Cert.ReferenceGateUpIdeal.main_arg2))

def preserves_KernelDown_KernelDownIdeal : Prop :=
  True

def algebraic_KernelDownIdeal_ReferenceDownIdeal [hKernelDownIdeal : Cert.KernelDownIdeal.Facts] [hReferenceDownIdeal : Cert.ReferenceDownIdeal.Facts] : Prop :=
  ∀ (m : (ℓ : Loc Cert.KernelDownIdeal.nD Cert.KernelDownIdeal.τ Cert.KernelDownIdeal.sig) → Buf (Elt Ideal) ℓ) (g : Dev Cert.KernelDownIdeal.nD → PrngReg)
    (m' : (ℓ : Loc Cert.ReferenceDownIdeal.nD Cert.ReferenceDownIdeal.τ Cert.ReferenceDownIdeal.sig) → Buf (Elt Ideal) ℓ) (g' : Dev Cert.ReferenceDownIdeal.nD → PrngReg), Pre_KernelDownIdeal m →
    (∀ c : Dev Cert.KernelDownIdeal.nD,
      m' ((c.tc : Thread Cert.ReferenceDownIdeal.nD Cert.ReferenceDownIdeal.τ).loc Cert.ReferenceDownIdeal.main_arg0) = m ((c.tc : Thread Cert.KernelDownIdeal.nD Cert.KernelDownIdeal.τ).loc Cert.KernelDownIdeal.main_arg0)
      ∧ m' ((c.tc : Thread Cert.ReferenceDownIdeal.nD Cert.ReferenceDownIdeal.τ).loc Cert.ReferenceDownIdeal.main_arg1) = m ((c.tc : Thread Cert.KernelDownIdeal.nD Cert.KernelDownIdeal.τ).loc Cert.KernelDownIdeal.main_arg1)) →
    ∃ (v0 : (c : Dev Cert.KernelDownIdeal.nD) → Buf (Elt Ideal) ((c.tc : Thread Cert.KernelDownIdeal.nD Cert.KernelDownIdeal.τ).loc Cert.KernelDownIdeal.main_v0)),
      θ_run (Cert.KernelDownIdeal.defs (F := Ideal)) (onTc (τ := Cert.KernelDownIdeal.τ) (Cert.KernelDownIdeal.main (F := Ideal))) ⟨m, fun _ => 0, g⟩ (fun r => ∀ c : Dev Cert.KernelDownIdeal.nD,
          r.2.mem ((c.tc : Thread Cert.KernelDownIdeal.nD Cert.KernelDownIdeal.τ).loc Cert.KernelDownIdeal.main_v0) = v0 c
          ∧ r.2.mem ((c.tc : Thread Cert.KernelDownIdeal.nD Cert.KernelDownIdeal.τ).loc Cert.KernelDownIdeal.main_arg0) = m ((c.tc : Thread Cert.KernelDownIdeal.nD Cert.KernelDownIdeal.τ).loc Cert.KernelDownIdeal.main_arg0)
          ∧ r.2.mem ((c.tc : Thread Cert.KernelDownIdeal.nD Cert.KernelDownIdeal.τ).loc Cert.KernelDownIdeal.main_arg1) = m ((c.tc : Thread Cert.KernelDownIdeal.nD Cert.KernelDownIdeal.τ).loc Cert.KernelDownIdeal.main_arg1))
      ∧ θ_run (Cert.ReferenceDownIdeal.defs (F := Ideal)) (onTc (τ := Cert.ReferenceDownIdeal.τ) (Cert.ReferenceDownIdeal.main (F := Ideal))) ⟨m', fun _ => 0, g'⟩ (fun r => ∀ c : Dev Cert.ReferenceDownIdeal.nD,
          r.2.mem ((c.tc : Thread Cert.ReferenceDownIdeal.nD Cert.ReferenceDownIdeal.τ).loc Cert.ReferenceDownIdeal.main_v5) = v0 c
          ∧ r.2.mem ((c.tc : Thread Cert.ReferenceDownIdeal.nD Cert.ReferenceDownIdeal.τ).loc Cert.ReferenceDownIdeal.main_arg0) = m' ((c.tc : Thread Cert.ReferenceDownIdeal.nD Cert.ReferenceDownIdeal.τ).loc Cert.ReferenceDownIdeal.main_arg0)
          ∧ r.2.mem ((c.tc : Thread Cert.ReferenceDownIdeal.nD Cert.ReferenceDownIdeal.τ).loc Cert.ReferenceDownIdeal.main_arg1) = m' ((c.tc : Thread Cert.ReferenceDownIdeal.nD Cert.ReferenceDownIdeal.τ).loc Cert.ReferenceDownIdeal.main_arg1))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v7) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1))

def preserves_KernelOut_KernelOutIdeal : Prop :=
  True

def algebraic_KernelOutIdeal_ReferenceOutIdeal [hKernelOutIdeal : Cert.KernelOutIdeal.Facts] [hReferenceOutIdeal : Cert.ReferenceOutIdeal.Facts] : Prop :=
  ∀ (m : (ℓ : Loc Cert.KernelOutIdeal.nD Cert.KernelOutIdeal.τ Cert.KernelOutIdeal.sig) → Buf (Elt Ideal) ℓ) (g : Dev Cert.KernelOutIdeal.nD → PrngReg)
    (m' : (ℓ : Loc Cert.ReferenceOutIdeal.nD Cert.ReferenceOutIdeal.τ Cert.ReferenceOutIdeal.sig) → Buf (Elt Ideal) ℓ) (g' : Dev Cert.ReferenceOutIdeal.nD → PrngReg), Pre_KernelOutIdeal m →
    (∀ c : Dev Cert.KernelOutIdeal.nD,
      m' ((c.tc : Thread Cert.ReferenceOutIdeal.nD Cert.ReferenceOutIdeal.τ).loc Cert.ReferenceOutIdeal.main_arg0) = m ((c.tc : Thread Cert.KernelOutIdeal.nD Cert.KernelOutIdeal.τ).loc Cert.KernelOutIdeal.main_arg0)
      ∧ m' ((c.tc : Thread Cert.ReferenceOutIdeal.nD Cert.ReferenceOutIdeal.τ).loc Cert.ReferenceOutIdeal.main_arg1) = m ((c.tc : Thread Cert.KernelOutIdeal.nD Cert.KernelOutIdeal.τ).loc Cert.KernelOutIdeal.main_arg1)) →
    ∃ (v0 : (c : Dev Cert.KernelOutIdeal.nD) → Buf (Elt Ideal) ((c.tc : Thread Cert.KernelOutIdeal.nD Cert.KernelOutIdeal.τ).loc Cert.KernelOutIdeal.main_v0)),
      θ_run (Cert.KernelOutIdeal.defs (F := Ideal)) (onTc (τ := Cert.KernelOutIdeal.τ) (Cert.KernelOutIdeal.main (F := Ideal))) ⟨m, fun _ => 0, g⟩ (fun r => ∀ c : Dev Cert.KernelOutIdeal.nD,
          r.2.mem ((c.tc : Thread Cert.KernelOutIdeal.nD Cert.KernelOutIdeal.τ).loc Cert.KernelOutIdeal.main_v0) = v0 c
          ∧ r.2.mem ((c.tc : Thread Cert.KernelOutIdeal.nD Cert.KernelOutIdeal.τ).loc Cert.KernelOutIdeal.main_arg0) = m ((c.tc : Thread Cert.KernelOutIdeal.nD Cert.KernelOutIdeal.τ).loc Cert.KernelOutIdeal.main_arg0)
          ∧ r.2.mem ((c.tc : Thread Cert.KernelOutIdeal.nD Cert.KernelOutIdeal.τ).loc Cert.KernelOutIdeal.main_arg1) = m ((c.tc : Thread Cert.KernelOutIdeal.nD Cert.KernelOutIdeal.τ).loc Cert.KernelOutIdeal.main_arg1))
      ∧ θ_run (Cert.ReferenceOutIdeal.defs (F := Ideal)) (onTc (τ := Cert.ReferenceOutIdeal.τ) (Cert.ReferenceOutIdeal.main (F := Ideal))) ⟨m', fun _ => 0, g'⟩ (fun r => ∀ c : Dev Cert.ReferenceOutIdeal.nD,
          r.2.mem ((c.tc : Thread Cert.ReferenceOutIdeal.nD Cert.ReferenceOutIdeal.τ).loc Cert.ReferenceOutIdeal.main_v5) = v0 c
          ∧ r.2.mem ((c.tc : Thread Cert.ReferenceOutIdeal.nD Cert.ReferenceOutIdeal.τ).loc Cert.ReferenceOutIdeal.main_arg0) = m' ((c.tc : Thread Cert.ReferenceOutIdeal.nD Cert.ReferenceOutIdeal.τ).loc Cert.ReferenceOutIdeal.main_arg0)
          ∧ r.2.mem ((c.tc : Thread Cert.ReferenceOutIdeal.nD Cert.ReferenceOutIdeal.τ).loc Cert.ReferenceOutIdeal.main_arg1) = m' ((c.tc : Thread Cert.ReferenceOutIdeal.nD Cert.ReferenceOutIdeal.τ).loc Cert.ReferenceOutIdeal.main_arg1))

def preserves_KernelProj_KernelProjIdeal : Prop :=
  True

def algebraic_KernelProjIdeal_ReferenceProjIdeal [hKernelProjIdeal : Cert.KernelProjIdeal.Facts] [hReferenceProjIdeal : Cert.ReferenceProjIdeal.Facts] : Prop :=
  ∀ (m : (ℓ : Loc Cert.KernelProjIdeal.nD Cert.KernelProjIdeal.τ Cert.KernelProjIdeal.sig) → Buf (Elt Ideal) ℓ) (g : Dev Cert.KernelProjIdeal.nD → PrngReg)
    (m' : (ℓ : Loc Cert.ReferenceProjIdeal.nD Cert.ReferenceProjIdeal.τ Cert.ReferenceProjIdeal.sig) → Buf (Elt Ideal) ℓ) (g' : Dev Cert.ReferenceProjIdeal.nD → PrngReg), Pre_KernelProjIdeal m →
    (∀ c : Dev Cert.KernelProjIdeal.nD,
      m' ((c.tc : Thread Cert.ReferenceProjIdeal.nD Cert.ReferenceProjIdeal.τ).loc Cert.ReferenceProjIdeal.main_arg0) = m ((c.tc : Thread Cert.KernelProjIdeal.nD Cert.KernelProjIdeal.τ).loc Cert.KernelProjIdeal.main_arg0)
      ∧ m' ((c.tc : Thread Cert.ReferenceProjIdeal.nD Cert.ReferenceProjIdeal.τ).loc Cert.ReferenceProjIdeal.main_arg1) = m ((c.tc : Thread Cert.KernelProjIdeal.nD Cert.KernelProjIdeal.τ).loc Cert.KernelProjIdeal.main_arg1)
      ∧ m' ((c.tc : Thread Cert.ReferenceProjIdeal.nD Cert.ReferenceProjIdeal.τ).loc Cert.ReferenceProjIdeal.main_arg2) = m ((c.tc : Thread Cert.KernelProjIdeal.nD Cert.KernelProjIdeal.τ).loc Cert.KernelProjIdeal.main_arg2)
      ∧ m' ((c.tc : Thread Cert.ReferenceProjIdeal.nD Cert.ReferenceProjIdeal.τ).loc Cert.ReferenceProjIdeal.main_arg3) = m ((c.tc : Thread Cert.KernelProjIdeal.nD Cert.KernelProjIdeal.τ).loc Cert.KernelProjIdeal.main_arg3)
      ∧ m' ((c.tc : Thread Cert.ReferenceProjIdeal.nD Cert.ReferenceProjIdeal.τ).loc Cert.ReferenceProjIdeal.main_arg4) = m ((c.tc : Thread Cert.KernelProjIdeal.nD Cert.KernelProjIdeal.τ).loc Cert.KernelProjIdeal.main_arg4)) →
    ∃ (v0 : (c : Dev Cert.KernelProjIdeal.nD) → Buf (Elt Ideal) ((c.tc : Thread Cert.KernelProjIdeal.nD Cert.KernelProjIdeal.τ).loc Cert.KernelProjIdeal.main_v2_0)) (v1 : (c : Dev Cert.KernelProjIdeal.nD) → Buf (Elt Ideal) ((c.tc : Thread Cert.KernelProjIdeal.nD Cert.KernelProjIdeal.τ).loc Cert.KernelProjIdeal.main_v2_1)),
      θ_run (Cert.KernelProjIdeal.defs (F := Ideal)) (onTc (τ := Cert.KernelProjIdeal.τ) (Cert.KernelProjIdeal.main (F := Ideal))) ⟨m, fun _ => 0, g⟩ (fun r => ∀ c : Dev Cert.KernelProjIdeal.nD,
          r.2.mem ((c.tc : Thread Cert.KernelProjIdeal.nD Cert.KernelProjIdeal.τ).loc Cert.KernelProjIdeal.main_v2_0) = v0 c
          ∧ r.2.mem ((c.tc : Thread Cert.KernelProjIdeal.nD Cert.KernelProjIdeal.τ).loc Cert.KernelProjIdeal.main_v2_1) = v1 c
          ∧ r.2.mem ((c.tc : Thread Cert.KernelProjIdeal.nD Cert.KernelProjIdeal.τ).loc Cert.KernelProjIdeal.main_arg0) = m ((c.tc : Thread Cert.KernelProjIdeal.nD Cert.KernelProjIdeal.τ).loc Cert.KernelProjIdeal.main_arg0)
          ∧ r.2.mem ((c.tc : Thread Cert.KernelProjIdeal.nD Cert.KernelProjIdeal.τ).loc Cert.KernelProjIdeal.main_arg1) = m ((c.tc : Thread Cert.KernelProjIdeal.nD Cert.KernelProjIdeal.τ).loc Cert.KernelProjIdeal.main_arg1)
          ∧ r.2.mem ((c.tc : Thread Cert.KernelProjIdeal.nD Cert.KernelProjIdeal.τ).loc Cert.KernelProjIdeal.main_arg2) = m ((c.tc : Thread Cert.KernelProjIdeal.nD Cert.KernelProjIdeal.τ).loc Cert.KernelProjIdeal.main_arg2)
          ∧ r.2.mem ((c.tc : Thread Cert.KernelProjIdeal.nD Cert.KernelProjIdeal.τ).loc Cert.KernelProjIdeal.main_arg3) = m ((c.tc : Thread Cert.KernelProjIdeal.nD Cert.KernelProjIdeal.τ).loc Cert.KernelProjIdeal.main_arg3)
          ∧ r.2.mem ((c.tc : Thread Cert.KernelProjIdeal.nD Cert.KernelProjIdeal.τ).loc Cert.KernelProjIdeal.main_arg4) = m ((c.tc : Thread Cert.KernelProjIdeal.nD Cert.KernelProjIdeal.τ).loc Cert.KernelProjIdeal.main_arg4))
      ∧ θ_run (Cert.ReferenceProjIdeal.defs (F := Ideal)) (onTc (τ := Cert.ReferenceProjIdeal.τ) (Cert.ReferenceProjIdeal.main (F := Ideal))) ⟨m', fun _ => 0, g'⟩ (fun r => ∀ c : Dev Cert.ReferenceProjIdeal.nD,
          r.2.mem ((c.tc : Thread Cert.ReferenceProjIdeal.nD Cert.ReferenceProjIdeal.τ).loc Cert.ReferenceProjIdeal.main_v41) = v0 c
          ∧ r.2.mem ((c.tc : Thread Cert.ReferenceProjIdeal.nD Cert.ReferenceProjIdeal.τ).loc Cert.ReferenceProjIdeal.main_v40) = v1 c
          ∧ r.2.mem ((c.tc : Thread Cert.ReferenceProjIdeal.nD Cert.ReferenceProjIdeal.τ).loc Cert.ReferenceProjIdeal.main_arg0) = m' ((c.tc : Thread Cert.ReferenceProjIdeal.nD Cert.ReferenceProjIdeal.τ).loc Cert.ReferenceProjIdeal.main_arg0)
          ∧ r.2.mem ((c.tc : Thread Cert.ReferenceProjIdeal.nD Cert.ReferenceProjIdeal.τ).loc Cert.ReferenceProjIdeal.main_arg1) = m' ((c.tc : Thread Cert.ReferenceProjIdeal.nD Cert.ReferenceProjIdeal.τ).loc Cert.ReferenceProjIdeal.main_arg1)
          ∧ r.2.mem ((c.tc : Thread Cert.ReferenceProjIdeal.nD Cert.ReferenceProjIdeal.τ).loc Cert.ReferenceProjIdeal.main_arg2) = m' ((c.tc : Thread Cert.ReferenceProjIdeal.nD Cert.ReferenceProjIdeal.τ).loc Cert.ReferenceProjIdeal.main_arg2)
          ∧ r.2.mem ((c.tc : Thread Cert.ReferenceProjIdeal.nD Cert.ReferenceProjIdeal.τ).loc Cert.ReferenceProjIdeal.main_arg3) = m' ((c.tc : Thread Cert.ReferenceProjIdeal.nD Cert.ReferenceProjIdeal.τ).loc Cert.ReferenceProjIdeal.main_arg3)
          ∧ r.2.mem ((c.tc : Thread Cert.ReferenceProjIdeal.nD Cert.ReferenceProjIdeal.τ).loc Cert.ReferenceProjIdeal.main_arg4) = m' ((c.tc : Thread Cert.ReferenceProjIdeal.nD Cert.ReferenceProjIdeal.τ).loc Cert.ReferenceProjIdeal.main_arg4))

def preserves_KernelNormProj_KernelNormProjIdeal : Prop :=
  True

def algebraic_KernelNormProjIdeal_ReferenceNormProjIdeal [hKernelNormProjIdeal : Cert.KernelNormProjIdeal.Facts] [hReferenceNormProjIdeal : Cert.ReferenceNormProjIdeal.Facts] : Prop :=
  ∀ (m : (ℓ : Loc Cert.KernelNormProjIdeal.nD Cert.KernelNormProjIdeal.τ Cert.KernelNormProjIdeal.sig) → Buf (Elt Ideal) ℓ) (g : Dev Cert.KernelNormProjIdeal.nD → PrngReg)
    (m' : (ℓ : Loc Cert.ReferenceNormProjIdeal.nD Cert.ReferenceNormProjIdeal.τ Cert.ReferenceNormProjIdeal.sig) → Buf (Elt Ideal) ℓ) (g' : Dev Cert.ReferenceNormProjIdeal.nD → PrngReg), Pre_KernelNormProjIdeal m →
    (∀ c : Dev Cert.KernelNormProjIdeal.nD,
      m' ((c.tc : Thread Cert.ReferenceNormProjIdeal.nD Cert.ReferenceNormProjIdeal.τ).loc Cert.ReferenceNormProjIdeal.main_arg0) = m ((c.tc : Thread Cert.KernelNormProjIdeal.nD Cert.KernelNormProjIdeal.τ).loc Cert.KernelNormProjIdeal.main_arg0)
      ∧ m' ((c.tc : Thread Cert.ReferenceNormProjIdeal.nD Cert.ReferenceNormProjIdeal.τ).loc Cert.ReferenceNormProjIdeal.main_arg1) = m ((c.tc : Thread Cert.KernelNormProjIdeal.nD Cert.KernelNormProjIdeal.τ).loc Cert.KernelNormProjIdeal.main_arg1)
      ∧ m' ((c.tc : Thread Cert.ReferenceNormProjIdeal.nD Cert.ReferenceNormProjIdeal.τ).loc Cert.ReferenceNormProjIdeal.main_arg2) = m ((c.tc : Thread Cert.KernelNormProjIdeal.nD Cert.KernelNormProjIdeal.τ).loc Cert.KernelNormProjIdeal.main_arg2)) →
    ∃ (v0 : (c : Dev Cert.KernelNormProjIdeal.nD) → Buf (Elt Ideal) ((c.tc : Thread Cert.KernelNormProjIdeal.nD Cert.KernelNormProjIdeal.τ).loc Cert.KernelNormProjIdeal.main_v2_0)) (v1 : (c : Dev Cert.KernelNormProjIdeal.nD) → Buf (Elt Ideal) ((c.tc : Thread Cert.KernelNormProjIdeal.nD Cert.KernelNormProjIdeal.τ).loc Cert.KernelNormProjIdeal.main_v2_1)),
      θ_run (Cert.KernelNormProjIdeal.defs (F := Ideal)) (onTc (τ := Cert.KernelNormProjIdeal.τ) (Cert.KernelNormProjIdeal.main (F := Ideal))) ⟨m, fun _ => 0, g⟩ (fun r => ∀ c : Dev Cert.KernelNormProjIdeal.nD,
          r.2.mem ((c.tc : Thread Cert.KernelNormProjIdeal.nD Cert.KernelNormProjIdeal.τ).loc Cert.KernelNormProjIdeal.main_v2_0) = v0 c
          ∧ r.2.mem ((c.tc : Thread Cert.KernelNormProjIdeal.nD Cert.KernelNormProjIdeal.τ).loc Cert.KernelNormProjIdeal.main_v2_1) = v1 c
          ∧ r.2.mem ((c.tc : Thread Cert.KernelNormProjIdeal.nD Cert.KernelNormProjIdeal.τ).loc Cert.KernelNormProjIdeal.main_arg0) = m ((c.tc : Thread Cert.KernelNormProjIdeal.nD Cert.KernelNormProjIdeal.τ).loc Cert.KernelNormProjIdeal.main_arg0)
          ∧ r.2.mem ((c.tc : Thread Cert.KernelNormProjIdeal.nD Cert.KernelNormProjIdeal.τ).loc Cert.KernelNormProjIdeal.main_arg1) = m ((c.tc : Thread Cert.KernelNormProjIdeal.nD Cert.KernelNormProjIdeal.τ).loc Cert.KernelNormProjIdeal.main_arg1)
          ∧ r.2.mem ((c.tc : Thread Cert.KernelNormProjIdeal.nD Cert.KernelNormProjIdeal.τ).loc Cert.KernelNormProjIdeal.main_arg2) = m ((c.tc : Thread Cert.KernelNormProjIdeal.nD Cert.KernelNormProjIdeal.τ).loc Cert.KernelNormProjIdeal.main_arg2))
      ∧ θ_run (Cert.ReferenceNormProjIdeal.defs (F := Ideal)) (onTc (τ := Cert.ReferenceNormProjIdeal.τ) (Cert.ReferenceNormProjIdeal.main (F := Ideal))) ⟨m', fun _ => 0, g'⟩ (fun r => ∀ c : Dev Cert.ReferenceNormProjIdeal.nD,
          r.2.mem ((c.tc : Thread Cert.ReferenceNormProjIdeal.nD Cert.ReferenceNormProjIdeal.τ).loc Cert.ReferenceNormProjIdeal.main_v14) = v0 c
          ∧ r.2.mem ((c.tc : Thread Cert.ReferenceNormProjIdeal.nD Cert.ReferenceNormProjIdeal.τ).loc Cert.ReferenceNormProjIdeal.main_v16) = v1 c
          ∧ r.2.mem ((c.tc : Thread Cert.ReferenceNormProjIdeal.nD Cert.ReferenceNormProjIdeal.τ).loc Cert.ReferenceNormProjIdeal.main_arg0) = m' ((c.tc : Thread Cert.ReferenceNormProjIdeal.nD Cert.ReferenceNormProjIdeal.τ).loc Cert.ReferenceNormProjIdeal.main_arg0)
          ∧ r.2.mem ((c.tc : Thread Cert.ReferenceNormProjIdeal.nD Cert.ReferenceNormProjIdeal.τ).loc Cert.ReferenceNormProjIdeal.main_arg1) = m' ((c.tc : Thread Cert.ReferenceNormProjIdeal.nD Cert.ReferenceNormProjIdeal.τ).loc Cert.ReferenceNormProjIdeal.main_arg1)
          ∧ r.2.mem ((c.tc : Thread Cert.ReferenceNormProjIdeal.nD Cert.ReferenceNormProjIdeal.τ).loc Cert.ReferenceNormProjIdeal.main_arg2) = m' ((c.tc : Thread Cert.ReferenceNormProjIdeal.nD Cert.ReferenceNormProjIdeal.τ).loc Cert.ReferenceNormProjIdeal.main_arg2))

def preserves_KernelFfnFwd_KernelFfnFwdIdeal : Prop :=
  True

def algebraic_KernelFfnFwdIdeal_ReferenceFfnFwdIdeal [hKernelFfnFwdIdeal : Cert.KernelFfnFwdIdeal.Facts] [hReferenceFfnFwdIdeal : Cert.ReferenceFfnFwdIdeal.Facts] : Prop :=
  ∀ (m : (ℓ : Loc Cert.KernelFfnFwdIdeal.nD Cert.KernelFfnFwdIdeal.τ Cert.KernelFfnFwdIdeal.sig) → Buf (Elt Ideal) ℓ) (g : Dev Cert.KernelFfnFwdIdeal.nD → PrngReg)
    (m' : (ℓ : Loc Cert.ReferenceFfnFwdIdeal.nD Cert.ReferenceFfnFwdIdeal.τ Cert.ReferenceFfnFwdIdeal.sig) → Buf (Elt Ideal) ℓ) (g' : Dev Cert.ReferenceFfnFwdIdeal.nD → PrngReg), Pre_KernelFfnFwdIdeal m →
    (∀ c : Dev Cert.KernelFfnFwdIdeal.nD,
      m' ((c.tc : Thread Cert.ReferenceFfnFwdIdeal.nD Cert.ReferenceFfnFwdIdeal.τ).loc Cert.ReferenceFfnFwdIdeal.main_arg0) = m ((c.tc : Thread Cert.KernelFfnFwdIdeal.nD Cert.KernelFfnFwdIdeal.τ).loc Cert.KernelFfnFwdIdeal.main_arg0)
      ∧ m' ((c.tc : Thread Cert.ReferenceFfnFwdIdeal.nD Cert.ReferenceFfnFwdIdeal.τ).loc Cert.ReferenceFfnFwdIdeal.main_arg1) = m ((c.tc : Thread Cert.KernelFfnFwdIdeal.nD Cert.KernelFfnFwdIdeal.τ).loc Cert.KernelFfnFwdIdeal.main_arg1)
      ∧ m' ((c.tc : Thread Cert.ReferenceFfnFwdIdeal.nD Cert.ReferenceFfnFwdIdeal.τ).loc Cert.ReferenceFfnFwdIdeal.main_arg2) = m ((c.tc : Thread Cert.KernelFfnFwdIdeal.nD Cert.KernelFfnFwdIdeal.τ).loc Cert.KernelFfnFwdIdeal.main_arg2)
      ∧ m' ((c.tc : Thread Cert.ReferenceFfnFwdIdeal.nD Cert.ReferenceFfnFwdIdeal.τ).loc Cert.ReferenceFfnFwdIdeal.main_arg3) = m ((c.tc : Thread Cert.KernelFfnFwdIdeal.nD Cert.KernelFfnFwdIdeal.τ).loc Cert.KernelFfnFwdIdeal.main_arg3)
      ∧ m' ((c.tc : Thread Cert.ReferenceFfnFwdIdeal.nD Cert.ReferenceFfnFwdIdeal.τ).loc Cert.ReferenceFfnFwdIdeal.main_arg4) = m ((c.tc : Thread Cert.KernelFfnFwdIdeal.nD Cert.KernelFfnFwdIdeal.τ).loc Cert.KernelFfnFwdIdeal.main_arg4)) →
    ∃ (v0 : (c : Dev Cert.KernelFfnFwdIdeal.nD) → Buf (Elt Ideal) ((c.tc : Thread Cert.KernelFfnFwdIdeal.nD Cert.KernelFfnFwdIdeal.τ).loc Cert.KernelFfnFwdIdeal.main_v5_0)) (v1 : (c : Dev Cert.KernelFfnFwdIdeal.nD) → Buf (Elt Ideal) ((c.tc : Thread Cert.KernelFfnFwdIdeal.nD Cert.KernelFfnFwdIdeal.τ).loc Cert.KernelFfnFwdIdeal.main_v6_0)) (v2 : (c : Dev Cert.KernelFfnFwdIdeal.nD) → Buf (Elt Ideal) ((c.tc : Thread Cert.KernelFfnFwdIdeal.nD Cert.KernelFfnFwdIdeal.τ).loc Cert.KernelFfnFwdIdeal.main_v6_1)) (v3 : (c : Dev Cert.KernelFfnFwdIdeal.nD) → Buf (Elt Ideal) ((c.tc : Thread Cert.KernelFfnFwdIdeal.nD Cert.KernelFfnFwdIdeal.τ).loc Cert.KernelFfnFwdIdeal.main_v6_2)) (v4 : (c : Dev Cert.KernelFfnFwdIdeal.nD) → Buf (Elt Ideal) ((c.tc : Thread Cert.KernelFfnFwdIdeal.nD Cert.KernelFfnFwdIdeal.τ).loc Cert.KernelFfnFwdIdeal.main_v6_3)),
      θ_run (Cert.KernelFfnFwdIdeal.defs (F := Ideal)) (onTc (τ := Cert.KernelFfnFwdIdeal.τ) (Cert.KernelFfnFwdIdeal.main (F := Ideal))) ⟨m, fun _ => 0, g⟩ (fun r => ∀ c : Dev Cert.KernelFfnFwdIdeal.nD,
          r.2.mem ((c.tc : Thread Cert.KernelFfnFwdIdeal.nD Cert.KernelFfnFwdIdeal.τ).loc Cert.KernelFfnFwdIdeal.main_v5_0) = v0 c
          ∧ r.2.mem ((c.tc : Thread Cert.KernelFfnFwdIdeal.nD Cert.KernelFfnFwdIdeal.τ).loc Cert.KernelFfnFwdIdeal.main_v6_0) = v1 c
          ∧ r.2.mem ((c.tc : Thread Cert.KernelFfnFwdIdeal.nD Cert.KernelFfnFwdIdeal.τ).loc Cert.KernelFfnFwdIdeal.main_v6_1) = v2 c
          ∧ r.2.mem ((c.tc : Thread Cert.KernelFfnFwdIdeal.nD Cert.KernelFfnFwdIdeal.τ).loc Cert.KernelFfnFwdIdeal.main_v6_2) = v3 c
          ∧ r.2.mem ((c.tc : Thread Cert.KernelFfnFwdIdeal.nD Cert.KernelFfnFwdIdeal.τ).loc Cert.KernelFfnFwdIdeal.main_v6_3) = v4 c
          ∧ r.2.mem ((c.tc : Thread Cert.KernelFfnFwdIdeal.nD Cert.KernelFfnFwdIdeal.τ).loc Cert.KernelFfnFwdIdeal.main_arg0) = m ((c.tc : Thread Cert.KernelFfnFwdIdeal.nD Cert.KernelFfnFwdIdeal.τ).loc Cert.KernelFfnFwdIdeal.main_arg0)
          ∧ r.2.mem ((c.tc : Thread Cert.KernelFfnFwdIdeal.nD Cert.KernelFfnFwdIdeal.τ).loc Cert.KernelFfnFwdIdeal.main_arg1) = m ((c.tc : Thread Cert.KernelFfnFwdIdeal.nD Cert.KernelFfnFwdIdeal.τ).loc Cert.KernelFfnFwdIdeal.main_arg1)
          ∧ r.2.mem ((c.tc : Thread Cert.KernelFfnFwdIdeal.nD Cert.KernelFfnFwdIdeal.τ).loc Cert.KernelFfnFwdIdeal.main_arg2) = m ((c.tc : Thread Cert.KernelFfnFwdIdeal.nD Cert.KernelFfnFwdIdeal.τ).loc Cert.KernelFfnFwdIdeal.main_arg2)
          ∧ r.2.mem ((c.tc : Thread Cert.KernelFfnFwdIdeal.nD Cert.KernelFfnFwdIdeal.τ).loc Cert.KernelFfnFwdIdeal.main_arg3) = m ((c.tc : Thread Cert.KernelFfnFwdIdeal.nD Cert.KernelFfnFwdIdeal.τ).loc Cert.KernelFfnFwdIdeal.main_arg3)
          ∧ r.2.mem ((c.tc : Thread Cert.KernelFfnFwdIdeal.nD Cert.KernelFfnFwdIdeal.τ).loc Cert.KernelFfnFwdIdeal.main_arg4) = m ((c.tc : Thread Cert.KernelFfnFwdIdeal.nD Cert.KernelFfnFwdIdeal.τ).loc Cert.KernelFfnFwdIdeal.main_arg4))
      ∧ θ_run (Cert.ReferenceFfnFwdIdeal.defs (F := Ideal)) (onTc (τ := Cert.ReferenceFfnFwdIdeal.τ) (Cert.ReferenceFfnFwdIdeal.main (F := Ideal))) ⟨m', fun _ => 0, g'⟩ (fun r => ∀ c : Dev Cert.ReferenceFfnFwdIdeal.nD,
          r.2.mem ((c.tc : Thread Cert.ReferenceFfnFwdIdeal.nD Cert.ReferenceFfnFwdIdeal.τ).loc Cert.ReferenceFfnFwdIdeal.main_v18) = v0 c
          ∧ r.2.mem ((c.tc : Thread Cert.ReferenceFfnFwdIdeal.nD Cert.ReferenceFfnFwdIdeal.τ).loc Cert.ReferenceFfnFwdIdeal.main_v19) = v1 c
          ∧ r.2.mem ((c.tc : Thread Cert.ReferenceFfnFwdIdeal.nD Cert.ReferenceFfnFwdIdeal.τ).loc Cert.ReferenceFfnFwdIdeal.main_v20) = v2 c
          ∧ r.2.mem ((c.tc : Thread Cert.ReferenceFfnFwdIdeal.nD Cert.ReferenceFfnFwdIdeal.τ).loc Cert.ReferenceFfnFwdIdeal.main_v21) = v3 c
          ∧ r.2.mem ((c.tc : Thread Cert.ReferenceFfnFwdIdeal.nD Cert.ReferenceFfnFwdIdeal.τ).loc Cert.ReferenceFfnFwdIdeal.main_v23) = v4 c
          ∧ r.2.mem ((c.tc : Thread Cert.ReferenceFfnFwdIdeal.nD Cert.ReferenceFfnFwdIdeal.τ).loc Cert.ReferenceFfnFwdIdeal.main_arg0) = m' ((c.tc : Thread Cert.ReferenceFfnFwdIdeal.nD Cert.ReferenceFfnFwdIdeal.τ).loc Cert.ReferenceFfnFwdIdeal.main_arg0)
          ∧ r.2.mem ((c.tc : Thread Cert.ReferenceFfnFwdIdeal.nD Cert.ReferenceFfnFwdIdeal.τ).loc Cert.ReferenceFfnFwdIdeal.main_arg1) = m' ((c.tc : Thread Cert.ReferenceFfnFwdIdeal.nD Cert.ReferenceFfnFwdIdeal.τ).loc Cert.ReferenceFfnFwdIdeal.main_arg1)
          ∧ r.2.mem ((c.tc : Thread Cert.ReferenceFfnFwdIdeal.nD Cert.ReferenceFfnFwdIdeal.τ).loc Cert.ReferenceFfnFwdIdeal.main_arg2) = m' ((c.tc : Thread Cert.ReferenceFfnFwdIdeal.nD Cert.ReferenceFfnFwdIdeal.τ).loc Cert.ReferenceFfnFwdIdeal.main_arg2)
          ∧ r.2.mem ((c.tc : Thread Cert.ReferenceFfnFwdIdeal.nD Cert.ReferenceFfnFwdIdeal.τ).loc Cert.ReferenceFfnFwdIdeal.main_arg3) = m' ((c.tc : Thread Cert.ReferenceFfnFwdIdeal.nD Cert.ReferenceFfnFwdIdeal.τ).loc Cert.ReferenceFfnFwdIdeal.main_arg3)
          ∧ r.2.mem ((c.tc : Thread Cert.ReferenceFfnFwdIdeal.nD Cert.ReferenceFfnFwdIdeal.τ).loc Cert.ReferenceFfnFwdIdeal.main_arg4) = m' ((c.tc : Thread Cert.ReferenceFfnFwdIdeal.nD Cert.ReferenceFfnFwdIdeal.τ).loc Cert.ReferenceFfnFwdIdeal.main_arg4))

def preserves_KernelStepNorm_KernelStepNormIdeal : Prop :=
  True

def algebraic_KernelStepNormIdeal_ReferenceStepNormIdeal [hKernelStepNormIdeal : Cert.KernelStepNormIdeal.Facts] [hReferenceStepNormIdeal : Cert.ReferenceStepNormIdeal.Facts] : Prop :=
  ∀ (m : (ℓ : Loc Cert.KernelStepNormIdeal.nD Cert.KernelStepNormIdeal.τ Cert.KernelStepNormIdeal.sig) → Buf (Elt Ideal) ℓ) (g : Dev Cert.KernelStepNormIdeal.nD → PrngReg)
    (m' : (ℓ : Loc Cert.ReferenceStepNormIdeal.nD Cert.ReferenceStepNormIdeal.τ Cert.ReferenceStepNormIdeal.sig) → Buf (Elt Ideal) ℓ) (g' : Dev Cert.ReferenceStepNormIdeal.nD → PrngReg), Pre_KernelStepNormIdeal m →
    (∀ c : Dev Cert.KernelStepNormIdeal.nD,
      m' ((c.tc : Thread Cert.ReferenceStepNormIdeal.nD Cert.ReferenceStepNormIdeal.τ).loc Cert.ReferenceStepNormIdeal.main_arg0) = m ((c.tc : Thread Cert.KernelStepNormIdeal.nD Cert.KernelStepNormIdeal.τ).loc Cert.KernelStepNormIdeal.main_arg0)
      ∧ m' ((c.tc : Thread Cert.ReferenceStepNormIdeal.nD Cert.ReferenceStepNormIdeal.τ).loc Cert.ReferenceStepNormIdeal.main_arg1) = m ((c.tc : Thread Cert.KernelStepNormIdeal.nD Cert.KernelStepNormIdeal.τ).loc Cert.KernelStepNormIdeal.main_arg1)
      ∧ m' ((c.tc : Thread Cert.ReferenceStepNormIdeal.nD Cert.ReferenceStepNormIdeal.τ).loc Cert.ReferenceStepNormIdeal.main_arg2) = m ((c.tc : Thread Cert.KernelStepNormIdeal.nD Cert.KernelStepNormIdeal.τ).loc Cert.KernelStepNormIdeal.main_arg2)
      ∧ m' ((c.tc : Thread Cert.ReferenceStepNormIdeal.nD Cert.ReferenceStepNormIdeal.τ).loc Cert.ReferenceStepNormIdeal.main_arg3) = m ((c.tc : Thread Cert.KernelStepNormIdeal.nD Cert.KernelStepNormIdeal.τ).loc Cert.KernelStepNormIdeal.main_arg3)) →
    ∃ (v0 : (c : Dev Cert.KernelStepNormIdeal.nD) → Buf (Elt Ideal) ((c.tc : Thread Cert.KernelStepNormIdeal.nD Cert.KernelStepNormIdeal.τ).loc Cert.KernelStepNormIdeal.main_v0_0)) (v1 : (c : Dev Cert.KernelStepNormIdeal.nD) → Buf (Elt Ideal) ((c.tc : Thread Cert.KernelStepNormIdeal.nD Cert.KernelStepNormIdeal.τ).loc Cert.KernelStepNormIdeal.main_v0_1)) (v2 : (c : Dev Cert.KernelStepNormIdeal.nD) → Buf (Elt Ideal) ((c.tc : Thread Cert.KernelStepNormIdeal.nD Cert.KernelStepNormIdeal.τ).loc Cert.KernelStepNormIdeal.main_v0_2)),
      θ_run (Cert.KernelStepNormIdeal.defs (F := Ideal)) (onTc (τ := Cert.KernelStepNormIdeal.τ) (Cert.KernelStepNormIdeal.main (F := Ideal))) ⟨m, fun _ => 0, g⟩ (fun r => ∀ c : Dev Cert.KernelStepNormIdeal.nD,
          r.2.mem ((c.tc : Thread Cert.KernelStepNormIdeal.nD Cert.KernelStepNormIdeal.τ).loc Cert.KernelStepNormIdeal.main_v0_0) = v0 c
          ∧ r.2.mem ((c.tc : Thread Cert.KernelStepNormIdeal.nD Cert.KernelStepNormIdeal.τ).loc Cert.KernelStepNormIdeal.main_v0_1) = v1 c
          ∧ r.2.mem ((c.tc : Thread Cert.KernelStepNormIdeal.nD Cert.KernelStepNormIdeal.τ).loc Cert.KernelStepNormIdeal.main_v0_2) = v2 c
          ∧ r.2.mem ((c.tc : Thread Cert.KernelStepNormIdeal.nD Cert.KernelStepNormIdeal.τ).loc Cert.KernelStepNormIdeal.main_arg0) = m ((c.tc : Thread Cert.KernelStepNormIdeal.nD Cert.KernelStepNormIdeal.τ).loc Cert.KernelStepNormIdeal.main_arg0)
          ∧ r.2.mem ((c.tc : Thread Cert.KernelStepNormIdeal.nD Cert.KernelStepNormIdeal.τ).loc Cert.KernelStepNormIdeal.main_arg1) = m ((c.tc : Thread Cert.KernelStepNormIdeal.nD Cert.KernelStepNormIdeal.τ).loc Cert.KernelStepNormIdeal.main_arg1)
          ∧ r.2.mem ((c.tc : Thread Cert.KernelStepNormIdeal.nD Cert.KernelStepNormIdeal.τ).loc Cert.KernelStepNormIdeal.main_arg2) = m ((c.tc : Thread Cert.KernelStepNormIdeal.nD Cert.KernelStepNormIdeal.τ).loc Cert.KernelStepNormIdeal.main_arg2)
          ∧ r.2.mem ((c.tc : Thread Cert.KernelStepNormIdeal.nD Cert.KernelStepNormIdeal.τ).loc Cert.KernelStepNormIdeal.main_arg3) = m ((c.tc : Thread Cert.KernelStepNormIdeal.nD Cert.KernelStepNormIdeal.τ).loc Cert.KernelStepNormIdeal.main_arg3))
      ∧ θ_run (Cert.ReferenceStepNormIdeal.defs (F := Ideal)) (onTc (τ := Cert.ReferenceStepNormIdeal.τ) (Cert.ReferenceStepNormIdeal.main (F := Ideal))) ⟨m', fun _ => 0, g'⟩ (fun r => ∀ c : Dev Cert.ReferenceStepNormIdeal.nD,
          r.2.mem ((c.tc : Thread Cert.ReferenceStepNormIdeal.nD Cert.ReferenceStepNormIdeal.τ).loc Cert.ReferenceStepNormIdeal.main_v23) = v0 c
          ∧ r.2.mem ((c.tc : Thread Cert.ReferenceStepNormIdeal.nD Cert.ReferenceStepNormIdeal.τ).loc Cert.ReferenceStepNormIdeal.main_v4) = v1 c
          ∧ r.2.mem ((c.tc : Thread Cert.ReferenceStepNormIdeal.nD Cert.ReferenceStepNormIdeal.τ).loc Cert.ReferenceStepNormIdeal.main_v10) = v2 c
          ∧ r.2.mem ((c.tc : Thread Cert.ReferenceStepNormIdeal.nD Cert.ReferenceStepNormIdeal.τ).loc Cert.ReferenceStepNormIdeal.main_arg0) = m' ((c.tc : Thread Cert.ReferenceStepNormIdeal.nD Cert.ReferenceStepNormIdeal.τ).loc Cert.ReferenceStepNormIdeal.main_arg0)
          ∧ r.2.mem ((c.tc : Thread Cert.ReferenceStepNormIdeal.nD Cert.ReferenceStepNormIdeal.τ).loc Cert.ReferenceStepNormIdeal.main_arg1) = m' ((c.tc : Thread Cert.ReferenceStepNormIdeal.nD Cert.ReferenceStepNormIdeal.τ).loc Cert.ReferenceStepNormIdeal.main_arg1)
          ∧ r.2.mem ((c.tc : Thread Cert.ReferenceStepNormIdeal.nD Cert.ReferenceStepNormIdeal.τ).loc Cert.ReferenceStepNormIdeal.main_arg2) = m' ((c.tc : Thread Cert.ReferenceStepNormIdeal.nD Cert.ReferenceStepNormIdeal.τ).loc Cert.ReferenceStepNormIdeal.main_arg2)
          ∧ r.2.mem ((c.tc : Thread Cert.ReferenceStepNormIdeal.nD Cert.ReferenceStepNormIdeal.τ).loc Cert.ReferenceStepNormIdeal.main_arg3) = m' ((c.tc : Thread Cert.ReferenceStepNormIdeal.nD Cert.ReferenceStepNormIdeal.τ).loc Cert.ReferenceStepNormIdeal.main_arg3))

def preserves_KernelStepConv_KernelStepConvIdeal : Prop :=
  True

def algebraic_KernelStepConvIdeal_ReferenceStepConvIdeal [hKernelStepConvIdeal : Cert.KernelStepConvIdeal.Facts] [hReferenceStepConvIdeal : Cert.ReferenceStepConvIdeal.Facts] : Prop :=
  ∀ (m : (ℓ : Loc Cert.KernelStepConvIdeal.nD Cert.KernelStepConvIdeal.τ Cert.KernelStepConvIdeal.sig) → Buf (Elt Ideal) ℓ) (g : Dev Cert.KernelStepConvIdeal.nD → PrngReg)
    (m' : (ℓ : Loc Cert.ReferenceStepConvIdeal.nD Cert.ReferenceStepConvIdeal.τ Cert.ReferenceStepConvIdeal.sig) → Buf (Elt Ideal) ℓ) (g' : Dev Cert.ReferenceStepConvIdeal.nD → PrngReg), Pre_KernelStepConvIdeal m →
    (∀ c : Dev Cert.KernelStepConvIdeal.nD,
      m' ((c.tc : Thread Cert.ReferenceStepConvIdeal.nD Cert.ReferenceStepConvIdeal.τ).loc Cert.ReferenceStepConvIdeal.main_arg0) = m ((c.tc : Thread Cert.KernelStepConvIdeal.nD Cert.KernelStepConvIdeal.τ).loc Cert.KernelStepConvIdeal.main_arg0)
      ∧ m' ((c.tc : Thread Cert.ReferenceStepConvIdeal.nD Cert.ReferenceStepConvIdeal.τ).loc Cert.ReferenceStepConvIdeal.main_arg1) = m ((c.tc : Thread Cert.KernelStepConvIdeal.nD Cert.KernelStepConvIdeal.τ).loc Cert.KernelStepConvIdeal.main_arg1)
      ∧ m' ((c.tc : Thread Cert.ReferenceStepConvIdeal.nD Cert.ReferenceStepConvIdeal.τ).loc Cert.ReferenceStepConvIdeal.main_arg2) = m ((c.tc : Thread Cert.KernelStepConvIdeal.nD Cert.KernelStepConvIdeal.τ).loc Cert.KernelStepConvIdeal.main_arg2)
      ∧ m' ((c.tc : Thread Cert.ReferenceStepConvIdeal.nD Cert.ReferenceStepConvIdeal.τ).loc Cert.ReferenceStepConvIdeal.main_arg3) = m ((c.tc : Thread Cert.KernelStepConvIdeal.nD Cert.KernelStepConvIdeal.τ).loc Cert.KernelStepConvIdeal.main_arg3)) →
    ∃ (v0 : (c : Dev Cert.KernelStepConvIdeal.nD) → Buf (Elt Ideal) ((c.tc : Thread Cert.KernelStepConvIdeal.nD Cert.KernelStepConvIdeal.τ).loc Cert.KernelStepConvIdeal.main_v4_0)) (v1 : (c : Dev Cert.KernelStepConvIdeal.nD) → Buf (Elt Ideal) ((c.tc : Thread Cert.KernelStepConvIdeal.nD Cert.KernelStepConvIdeal.τ).loc Cert.KernelStepConvIdeal.main_v4_1)) (v2 : (c : Dev Cert.KernelStepConvIdeal.nD) → Buf (Elt Ideal) ((c.tc : Thread Cert.KernelStepConvIdeal.nD Cert.KernelStepConvIdeal.τ).loc Cert.KernelStepConvIdeal.main_v4_2)),
      θ_run (Cert.KernelStepConvIdeal.defs (F := Ideal)) (onTc (τ := Cert.KernelStepConvIdeal.τ) (Cert.KernelStepConvIdeal.main (F := Ideal))) ⟨m, fun _ => 0, g⟩ (fun r => ∀ c : Dev Cert.KernelStepConvIdeal.nD,
          r.2.mem ((c.tc : Thread Cert.KernelStepConvIdeal.nD Cert.KernelStepConvIdeal.τ).loc Cert.KernelStepConvIdeal.main_v4_0) = v0 c
          ∧ r.2.mem ((c.tc : Thread Cert.KernelStepConvIdeal.nD Cert.KernelStepConvIdeal.τ).loc Cert.KernelStepConvIdeal.main_v4_1) = v1 c
          ∧ r.2.mem ((c.tc : Thread Cert.KernelStepConvIdeal.nD Cert.KernelStepConvIdeal.τ).loc Cert.KernelStepConvIdeal.main_v4_2) = v2 c
          ∧ r.2.mem ((c.tc : Thread Cert.KernelStepConvIdeal.nD Cert.KernelStepConvIdeal.τ).loc Cert.KernelStepConvIdeal.main_arg0) = m ((c.tc : Thread Cert.KernelStepConvIdeal.nD Cert.KernelStepConvIdeal.τ).loc Cert.KernelStepConvIdeal.main_arg0)
          ∧ r.2.mem ((c.tc : Thread Cert.KernelStepConvIdeal.nD Cert.KernelStepConvIdeal.τ).loc Cert.KernelStepConvIdeal.main_arg1) = m ((c.tc : Thread Cert.KernelStepConvIdeal.nD Cert.KernelStepConvIdeal.τ).loc Cert.KernelStepConvIdeal.main_arg1)
          ∧ r.2.mem ((c.tc : Thread Cert.KernelStepConvIdeal.nD Cert.KernelStepConvIdeal.τ).loc Cert.KernelStepConvIdeal.main_arg2) = m ((c.tc : Thread Cert.KernelStepConvIdeal.nD Cert.KernelStepConvIdeal.τ).loc Cert.KernelStepConvIdeal.main_arg2)
          ∧ r.2.mem ((c.tc : Thread Cert.KernelStepConvIdeal.nD Cert.KernelStepConvIdeal.τ).loc Cert.KernelStepConvIdeal.main_arg3) = m ((c.tc : Thread Cert.KernelStepConvIdeal.nD Cert.KernelStepConvIdeal.τ).loc Cert.KernelStepConvIdeal.main_arg3))
      ∧ θ_run (Cert.ReferenceStepConvIdeal.defs (F := Ideal)) (onTc (τ := Cert.ReferenceStepConvIdeal.τ) (Cert.ReferenceStepConvIdeal.main (F := Ideal))) ⟨m', fun _ => 0, g'⟩ (fun r => ∀ c : Dev Cert.ReferenceStepConvIdeal.nD,
          r.2.mem ((c.tc : Thread Cert.ReferenceStepConvIdeal.nD Cert.ReferenceStepConvIdeal.τ).loc Cert.ReferenceStepConvIdeal.main_v24) = v0 c
          ∧ r.2.mem ((c.tc : Thread Cert.ReferenceStepConvIdeal.nD Cert.ReferenceStepConvIdeal.τ).loc Cert.ReferenceStepConvIdeal.main_v25) = v1 c
          ∧ r.2.mem ((c.tc : Thread Cert.ReferenceStepConvIdeal.nD Cert.ReferenceStepConvIdeal.τ).loc Cert.ReferenceStepConvIdeal.main_v26) = v2 c
          ∧ r.2.mem ((c.tc : Thread Cert.ReferenceStepConvIdeal.nD Cert.ReferenceStepConvIdeal.τ).loc Cert.ReferenceStepConvIdeal.main_arg0) = m' ((c.tc : Thread Cert.ReferenceStepConvIdeal.nD Cert.ReferenceStepConvIdeal.τ).loc Cert.ReferenceStepConvIdeal.main_arg0)
          ∧ r.2.mem ((c.tc : Thread Cert.ReferenceStepConvIdeal.nD Cert.ReferenceStepConvIdeal.τ).loc Cert.ReferenceStepConvIdeal.main_arg1) = m' ((c.tc : Thread Cert.ReferenceStepConvIdeal.nD Cert.ReferenceStepConvIdeal.τ).loc Cert.ReferenceStepConvIdeal.main_arg1)
          ∧ r.2.mem ((c.tc : Thread Cert.ReferenceStepConvIdeal.nD Cert.ReferenceStepConvIdeal.τ).loc Cert.ReferenceStepConvIdeal.main_arg2) = m' ((c.tc : Thread Cert.ReferenceStepConvIdeal.nD Cert.ReferenceStepConvIdeal.τ).loc Cert.ReferenceStepConvIdeal.main_arg2)
          ∧ r.2.mem ((c.tc : Thread Cert.ReferenceStepConvIdeal.nD Cert.ReferenceStepConvIdeal.τ).loc Cert.ReferenceStepConvIdeal.main_arg3) = m' ((c.tc : Thread Cert.ReferenceStepConvIdeal.nD Cert.ReferenceStepConvIdeal.τ).loc Cert.ReferenceStepConvIdeal.main_arg3))

def preserves_KernelStepHead_KernelStepHeadIdeal : Prop :=
  True

def algebraic_KernelStepHeadIdeal_ReferenceStepHeadIdeal [hKernelStepHeadIdeal : Cert.KernelStepHeadIdeal.Facts] [hReferenceStepHeadIdeal : Cert.ReferenceStepHeadIdeal.Facts] : Prop :=
  ∀ (m : (ℓ : Loc Cert.KernelStepHeadIdeal.nD Cert.KernelStepHeadIdeal.τ Cert.KernelStepHeadIdeal.sig) → Buf (Elt Ideal) ℓ) (g : Dev Cert.KernelStepHeadIdeal.nD → PrngReg)
    (m' : (ℓ : Loc Cert.ReferenceStepHeadIdeal.nD Cert.ReferenceStepHeadIdeal.τ Cert.ReferenceStepHeadIdeal.sig) → Buf (Elt Ideal) ℓ) (g' : Dev Cert.ReferenceStepHeadIdeal.nD → PrngReg), Pre_KernelStepHeadIdeal m →
    (∀ c : Dev Cert.KernelStepHeadIdeal.nD,
      m' ((c.tc : Thread Cert.ReferenceStepHeadIdeal.nD Cert.ReferenceStepHeadIdeal.τ).loc Cert.ReferenceStepHeadIdeal.main_arg0) = m ((c.tc : Thread Cert.KernelStepHeadIdeal.nD Cert.KernelStepHeadIdeal.τ).loc Cert.KernelStepHeadIdeal.main_arg0)
      ∧ m' ((c.tc : Thread Cert.ReferenceStepHeadIdeal.nD Cert.ReferenceStepHeadIdeal.τ).loc Cert.ReferenceStepHeadIdeal.main_arg1) = m ((c.tc : Thread Cert.KernelStepHeadIdeal.nD Cert.KernelStepHeadIdeal.τ).loc Cert.KernelStepHeadIdeal.main_arg1)
      ∧ m' ((c.tc : Thread Cert.ReferenceStepHeadIdeal.nD Cert.ReferenceStepHeadIdeal.τ).loc Cert.ReferenceStepHeadIdeal.main_arg2) = m ((c.tc : Thread Cert.KernelStepHeadIdeal.nD Cert.KernelStepHeadIdeal.τ).loc Cert.KernelStepHeadIdeal.main_arg2)
      ∧ m' ((c.tc : Thread Cert.ReferenceStepHeadIdeal.nD Cert.ReferenceStepHeadIdeal.τ).loc Cert.ReferenceStepHeadIdeal.main_arg3) = m ((c.tc : Thread Cert.KernelStepHeadIdeal.nD Cert.KernelStepHeadIdeal.τ).loc Cert.KernelStepHeadIdeal.main_arg3)) →
    ∃ (v0 : (c : Dev Cert.KernelStepHeadIdeal.nD) → Buf (Elt Ideal) ((c.tc : Thread Cert.KernelStepHeadIdeal.nD Cert.KernelStepHeadIdeal.τ).loc Cert.KernelStepHeadIdeal.main_v0_0)) (v1 : (c : Dev Cert.KernelStepHeadIdeal.nD) → Buf (Elt Ideal) ((c.tc : Thread Cert.KernelStepHeadIdeal.nD Cert.KernelStepHeadIdeal.τ).loc Cert.KernelStepHeadIdeal.main_v0_1)) (v2 : (c : Dev Cert.KernelStepHeadIdeal.nD) → Buf (Elt Ideal) ((c.tc : Thread Cert.KernelStepHeadIdeal.nD Cert.KernelStepHeadIdeal.τ).loc Cert.KernelStepHeadIdeal.main_v0_2)),
      θ_run (Cert.KernelStepHeadIdeal.defs (F := Ideal)) (onTc (τ := Cert.KernelStepHeadIdeal.τ) (Cert.KernelStepHeadIdeal.main (F := Ideal))) ⟨m, fun _ => 0, g⟩ (fun r => ∀ c : Dev Cert.KernelStepHeadIdeal.nD,
          r.2.mem ((c.tc : Thread Cert.KernelStepHeadIdeal.nD Cert.KernelStepHeadIdeal.τ).loc Cert.KernelStepHeadIdeal.main_v0_0) = v0 c
          ∧ r.2.mem ((c.tc : Thread Cert.KernelStepHeadIdeal.nD Cert.KernelStepHeadIdeal.τ).loc Cert.KernelStepHeadIdeal.main_v0_1) = v1 c
          ∧ r.2.mem ((c.tc : Thread Cert.KernelStepHeadIdeal.nD Cert.KernelStepHeadIdeal.τ).loc Cert.KernelStepHeadIdeal.main_v0_2) = v2 c
          ∧ r.2.mem ((c.tc : Thread Cert.KernelStepHeadIdeal.nD Cert.KernelStepHeadIdeal.τ).loc Cert.KernelStepHeadIdeal.main_arg0) = m ((c.tc : Thread Cert.KernelStepHeadIdeal.nD Cert.KernelStepHeadIdeal.τ).loc Cert.KernelStepHeadIdeal.main_arg0)
          ∧ r.2.mem ((c.tc : Thread Cert.KernelStepHeadIdeal.nD Cert.KernelStepHeadIdeal.τ).loc Cert.KernelStepHeadIdeal.main_arg1) = m ((c.tc : Thread Cert.KernelStepHeadIdeal.nD Cert.KernelStepHeadIdeal.τ).loc Cert.KernelStepHeadIdeal.main_arg1)
          ∧ r.2.mem ((c.tc : Thread Cert.KernelStepHeadIdeal.nD Cert.KernelStepHeadIdeal.τ).loc Cert.KernelStepHeadIdeal.main_arg2) = m ((c.tc : Thread Cert.KernelStepHeadIdeal.nD Cert.KernelStepHeadIdeal.τ).loc Cert.KernelStepHeadIdeal.main_arg2)
          ∧ r.2.mem ((c.tc : Thread Cert.KernelStepHeadIdeal.nD Cert.KernelStepHeadIdeal.τ).loc Cert.KernelStepHeadIdeal.main_arg3) = m ((c.tc : Thread Cert.KernelStepHeadIdeal.nD Cert.KernelStepHeadIdeal.τ).loc Cert.KernelStepHeadIdeal.main_arg3))
      ∧ θ_run (Cert.ReferenceStepHeadIdeal.defs (F := Ideal)) (onTc (τ := Cert.ReferenceStepHeadIdeal.τ) (Cert.ReferenceStepHeadIdeal.main (F := Ideal))) ⟨m', fun _ => 0, g'⟩ (fun r => ∀ c : Dev Cert.ReferenceStepHeadIdeal.nD,
          r.2.mem ((c.tc : Thread Cert.ReferenceStepHeadIdeal.nD Cert.ReferenceStepHeadIdeal.τ).loc Cert.ReferenceStepHeadIdeal.main_v23) = v0 c
          ∧ r.2.mem ((c.tc : Thread Cert.ReferenceStepHeadIdeal.nD Cert.ReferenceStepHeadIdeal.τ).loc Cert.ReferenceStepHeadIdeal.main_v4) = v1 c
          ∧ r.2.mem ((c.tc : Thread Cert.ReferenceStepHeadIdeal.nD Cert.ReferenceStepHeadIdeal.τ).loc Cert.ReferenceStepHeadIdeal.main_v10) = v2 c
          ∧ r.2.mem ((c.tc : Thread Cert.ReferenceStepHeadIdeal.nD Cert.ReferenceStepHeadIdeal.τ).loc Cert.ReferenceStepHeadIdeal.main_arg0) = m' ((c.tc : Thread Cert.ReferenceStepHeadIdeal.nD Cert.ReferenceStepHeadIdeal.τ).loc Cert.ReferenceStepHeadIdeal.main_arg0)
          ∧ r.2.mem ((c.tc : Thread Cert.ReferenceStepHeadIdeal.nD Cert.ReferenceStepHeadIdeal.τ).loc Cert.ReferenceStepHeadIdeal.main_arg1) = m' ((c.tc : Thread Cert.ReferenceStepHeadIdeal.nD Cert.ReferenceStepHeadIdeal.τ).loc Cert.ReferenceStepHeadIdeal.main_arg1)
          ∧ r.2.mem ((c.tc : Thread Cert.ReferenceStepHeadIdeal.nD Cert.ReferenceStepHeadIdeal.τ).loc Cert.ReferenceStepHeadIdeal.main_arg2) = m' ((c.tc : Thread Cert.ReferenceStepHeadIdeal.nD Cert.ReferenceStepHeadIdeal.τ).loc Cert.ReferenceStepHeadIdeal.main_arg2)
          ∧ r.2.mem ((c.tc : Thread Cert.ReferenceStepHeadIdeal.nD Cert.ReferenceStepHeadIdeal.τ).loc Cert.ReferenceStepHeadIdeal.main_arg3) = m' ((c.tc : Thread Cert.ReferenceStepHeadIdeal.nD Cert.ReferenceStepHeadIdeal.τ).loc Cert.ReferenceStepHeadIdeal.main_arg3))

def preserves_KernelStepSinks_KernelStepSinksIdeal : Prop :=
  True

def algebraic_KernelStepSinksIdeal_ReferenceStepSinksIdeal [hKernelStepSinksIdeal : Cert.KernelStepSinksIdeal.Facts] [hReferenceStepSinksIdeal : Cert.ReferenceStepSinksIdeal.Facts] : Prop :=
  ∀ (m : (ℓ : Loc Cert.KernelStepSinksIdeal.nD Cert.KernelStepSinksIdeal.τ Cert.KernelStepSinksIdeal.sig) → Buf (Elt Ideal) ℓ) (g : Dev Cert.KernelStepSinksIdeal.nD → PrngReg)
    (m' : (ℓ : Loc Cert.ReferenceStepSinksIdeal.nD Cert.ReferenceStepSinksIdeal.τ Cert.ReferenceStepSinksIdeal.sig) → Buf (Elt Ideal) ℓ) (g' : Dev Cert.ReferenceStepSinksIdeal.nD → PrngReg), Pre_KernelStepSinksIdeal m →
    (∀ c : Dev Cert.KernelStepSinksIdeal.nD,
      m' ((c.tc : Thread Cert.ReferenceStepSinksIdeal.nD Cert.ReferenceStepSinksIdeal.τ).loc Cert.ReferenceStepSinksIdeal.main_arg0) = m ((c.tc : Thread Cert.KernelStepSinksIdeal.nD Cert.KernelStepSinksIdeal.τ).loc Cert.KernelStepSinksIdeal.main_arg0)
      ∧ m' ((c.tc : Thread Cert.ReferenceStepSinksIdeal.nD Cert.ReferenceStepSinksIdeal.τ).loc Cert.ReferenceStepSinksIdeal.main_arg1) = m ((c.tc : Thread Cert.KernelStepSinksIdeal.nD Cert.KernelStepSinksIdeal.τ).loc Cert.KernelStepSinksIdeal.main_arg1)
      ∧ m' ((c.tc : Thread Cert.ReferenceStepSinksIdeal.nD Cert.ReferenceStepSinksIdeal.τ).loc Cert.ReferenceStepSinksIdeal.main_arg2) = m ((c.tc : Thread Cert.KernelStepSinksIdeal.nD Cert.KernelStepSinksIdeal.τ).loc Cert.KernelStepSinksIdeal.main_arg2)
      ∧ m' ((c.tc : Thread Cert.ReferenceStepSinksIdeal.nD Cert.ReferenceStepSinksIdeal.τ).loc Cert.ReferenceStepSinksIdeal.main_arg3) = m ((c.tc : Thread Cert.KernelStepSinksIdeal.nD Cert.KernelStepSinksIdeal.τ).loc Cert.KernelStepSinksIdeal.main_arg3)) →
    ∃ (v0 : (c : Dev Cert.KernelStepSinksIdeal.nD) → Buf (Elt Ideal) ((c.tc : Thread Cert.KernelStepSinksIdeal.nD Cert.KernelStepSinksIdeal.τ).loc Cert.KernelStepSinksIdeal.main_v0_0)) (v1 : (c : Dev Cert.KernelStepSinksIdeal.nD) → Buf (Elt Ideal) ((c.tc : Thread Cert.KernelStepSinksIdeal.nD Cert.KernelStepSinksIdeal.τ).loc Cert.KernelStepSinksIdeal.main_v0_1)) (v2 : (c : Dev Cert.KernelStepSinksIdeal.nD) → Buf (Elt Ideal) ((c.tc : Thread Cert.KernelStepSinksIdeal.nD Cert.KernelStepSinksIdeal.τ).loc Cert.KernelStepSinksIdeal.main_v0_2)),
      θ_run (Cert.KernelStepSinksIdeal.defs (F := Ideal)) (onTc (τ := Cert.KernelStepSinksIdeal.τ) (Cert.KernelStepSinksIdeal.main (F := Ideal))) ⟨m, fun _ => 0, g⟩ (fun r => ∀ c : Dev Cert.KernelStepSinksIdeal.nD,
          r.2.mem ((c.tc : Thread Cert.KernelStepSinksIdeal.nD Cert.KernelStepSinksIdeal.τ).loc Cert.KernelStepSinksIdeal.main_v0_0) = v0 c
          ∧ r.2.mem ((c.tc : Thread Cert.KernelStepSinksIdeal.nD Cert.KernelStepSinksIdeal.τ).loc Cert.KernelStepSinksIdeal.main_v0_1) = v1 c
          ∧ r.2.mem ((c.tc : Thread Cert.KernelStepSinksIdeal.nD Cert.KernelStepSinksIdeal.τ).loc Cert.KernelStepSinksIdeal.main_v0_2) = v2 c
          ∧ r.2.mem ((c.tc : Thread Cert.KernelStepSinksIdeal.nD Cert.KernelStepSinksIdeal.τ).loc Cert.KernelStepSinksIdeal.main_arg0) = m ((c.tc : Thread Cert.KernelStepSinksIdeal.nD Cert.KernelStepSinksIdeal.τ).loc Cert.KernelStepSinksIdeal.main_arg0)
          ∧ r.2.mem ((c.tc : Thread Cert.KernelStepSinksIdeal.nD Cert.KernelStepSinksIdeal.τ).loc Cert.KernelStepSinksIdeal.main_arg1) = m ((c.tc : Thread Cert.KernelStepSinksIdeal.nD Cert.KernelStepSinksIdeal.τ).loc Cert.KernelStepSinksIdeal.main_arg1)
          ∧ r.2.mem ((c.tc : Thread Cert.KernelStepSinksIdeal.nD Cert.KernelStepSinksIdeal.τ).loc Cert.KernelStepSinksIdeal.main_arg2) = m ((c.tc : Thread Cert.KernelStepSinksIdeal.nD Cert.KernelStepSinksIdeal.τ).loc Cert.KernelStepSinksIdeal.main_arg2)
          ∧ r.2.mem ((c.tc : Thread Cert.KernelStepSinksIdeal.nD Cert.KernelStepSinksIdeal.τ).loc Cert.KernelStepSinksIdeal.main_arg3) = m ((c.tc : Thread Cert.KernelStepSinksIdeal.nD Cert.KernelStepSinksIdeal.τ).loc Cert.KernelStepSinksIdeal.main_arg3))
      ∧ θ_run (Cert.ReferenceStepSinksIdeal.defs (F := Ideal)) (onTc (τ := Cert.ReferenceStepSinksIdeal.τ) (Cert.ReferenceStepSinksIdeal.main (F := Ideal))) ⟨m', fun _ => 0, g'⟩ (fun r => ∀ c : Dev Cert.ReferenceStepSinksIdeal.nD,
          r.2.mem ((c.tc : Thread Cert.ReferenceStepSinksIdeal.nD Cert.ReferenceStepSinksIdeal.τ).loc Cert.ReferenceStepSinksIdeal.main_v23) = v0 c
          ∧ r.2.mem ((c.tc : Thread Cert.ReferenceStepSinksIdeal.nD Cert.ReferenceStepSinksIdeal.τ).loc Cert.ReferenceStepSinksIdeal.main_v4) = v1 c
          ∧ r.2.mem ((c.tc : Thread Cert.ReferenceStepSinksIdeal.nD Cert.ReferenceStepSinksIdeal.τ).loc Cert.ReferenceStepSinksIdeal.main_v10) = v2 c
          ∧ r.2.mem ((c.tc : Thread Cert.ReferenceStepSinksIdeal.nD Cert.ReferenceStepSinksIdeal.τ).loc Cert.ReferenceStepSinksIdeal.main_arg0) = m' ((c.tc : Thread Cert.ReferenceStepSinksIdeal.nD Cert.ReferenceStepSinksIdeal.τ).loc Cert.ReferenceStepSinksIdeal.main_arg0)
          ∧ r.2.mem ((c.tc : Thread Cert.ReferenceStepSinksIdeal.nD Cert.ReferenceStepSinksIdeal.τ).loc Cert.ReferenceStepSinksIdeal.main_arg1) = m' ((c.tc : Thread Cert.ReferenceStepSinksIdeal.nD Cert.ReferenceStepSinksIdeal.τ).loc Cert.ReferenceStepSinksIdeal.main_arg1)
          ∧ r.2.mem ((c.tc : Thread Cert.ReferenceStepSinksIdeal.nD Cert.ReferenceStepSinksIdeal.τ).loc Cert.ReferenceStepSinksIdeal.main_arg2) = m' ((c.tc : Thread Cert.ReferenceStepSinksIdeal.nD Cert.ReferenceStepSinksIdeal.τ).loc Cert.ReferenceStepSinksIdeal.main_arg2)
          ∧ r.2.mem ((c.tc : Thread Cert.ReferenceStepSinksIdeal.nD Cert.ReferenceStepSinksIdeal.τ).loc Cert.ReferenceStepSinksIdeal.main_arg3) = m' ((c.tc : Thread Cert.ReferenceStepSinksIdeal.nD Cert.ReferenceStepSinksIdeal.τ).loc Cert.ReferenceStepSinksIdeal.main_arg3))

def preserves_KernelStepOut_KernelStepOutIdeal : Prop :=
  True

def algebraic_KernelStepOutIdeal_ReferenceStepOutIdeal [hKernelStepOutIdeal : Cert.KernelStepOutIdeal.Facts] [hReferenceStepOutIdeal : Cert.ReferenceStepOutIdeal.Facts] : Prop :=
  ∀ (m : (ℓ : Loc Cert.KernelStepOutIdeal.nD Cert.KernelStepOutIdeal.τ Cert.KernelStepOutIdeal.sig) → Buf (Elt Ideal) ℓ) (g : Dev Cert.KernelStepOutIdeal.nD → PrngReg)
    (m' : (ℓ : Loc Cert.ReferenceStepOutIdeal.nD Cert.ReferenceStepOutIdeal.τ Cert.ReferenceStepOutIdeal.sig) → Buf (Elt Ideal) ℓ) (g' : Dev Cert.ReferenceStepOutIdeal.nD → PrngReg), Pre_KernelStepOutIdeal m →
    (∀ c : Dev Cert.KernelStepOutIdeal.nD,
      m' ((c.tc : Thread Cert.ReferenceStepOutIdeal.nD Cert.ReferenceStepOutIdeal.τ).loc Cert.ReferenceStepOutIdeal.main_arg0) = m ((c.tc : Thread Cert.KernelStepOutIdeal.nD Cert.KernelStepOutIdeal.τ).loc Cert.KernelStepOutIdeal.main_arg0)
      ∧ m' ((c.tc : Thread Cert.ReferenceStepOutIdeal.nD Cert.ReferenceStepOutIdeal.τ).loc Cert.ReferenceStepOutIdeal.main_arg1) = m ((c.tc : Thread Cert.KernelStepOutIdeal.nD Cert.KernelStepOutIdeal.τ).loc Cert.KernelStepOutIdeal.main_arg1)
      ∧ m' ((c.tc : Thread Cert.ReferenceStepOutIdeal.nD Cert.ReferenceStepOutIdeal.τ).loc Cert.ReferenceStepOutIdeal.main_arg2) = m ((c.tc : Thread Cert.KernelStepOutIdeal.nD Cert.KernelStepOutIdeal.τ).loc Cert.KernelStepOutIdeal.main_arg2)
      ∧ m' ((c.tc : Thread Cert.ReferenceStepOutIdeal.nD Cert.ReferenceStepOutIdeal.τ).loc Cert.ReferenceStepOutIdeal.main_arg3) = m ((c.tc : Thread Cert.KernelStepOutIdeal.nD Cert.KernelStepOutIdeal.τ).loc Cert.KernelStepOutIdeal.main_arg3)) →
    ∃ (v0 : (c : Dev Cert.KernelStepOutIdeal.nD) → Buf (Elt Ideal) ((c.tc : Thread Cert.KernelStepOutIdeal.nD Cert.KernelStepOutIdeal.τ).loc Cert.KernelStepOutIdeal.main_v0_0)) (v1 : (c : Dev Cert.KernelStepOutIdeal.nD) → Buf (Elt Ideal) ((c.tc : Thread Cert.KernelStepOutIdeal.nD Cert.KernelStepOutIdeal.τ).loc Cert.KernelStepOutIdeal.main_v0_1)) (v2 : (c : Dev Cert.KernelStepOutIdeal.nD) → Buf (Elt Ideal) ((c.tc : Thread Cert.KernelStepOutIdeal.nD Cert.KernelStepOutIdeal.τ).loc Cert.KernelStepOutIdeal.main_v0_2)),
      θ_run (Cert.KernelStepOutIdeal.defs (F := Ideal)) (onTc (τ := Cert.KernelStepOutIdeal.τ) (Cert.KernelStepOutIdeal.main (F := Ideal))) ⟨m, fun _ => 0, g⟩ (fun r => ∀ c : Dev Cert.KernelStepOutIdeal.nD,
          r.2.mem ((c.tc : Thread Cert.KernelStepOutIdeal.nD Cert.KernelStepOutIdeal.τ).loc Cert.KernelStepOutIdeal.main_v0_0) = v0 c
          ∧ r.2.mem ((c.tc : Thread Cert.KernelStepOutIdeal.nD Cert.KernelStepOutIdeal.τ).loc Cert.KernelStepOutIdeal.main_v0_1) = v1 c
          ∧ r.2.mem ((c.tc : Thread Cert.KernelStepOutIdeal.nD Cert.KernelStepOutIdeal.τ).loc Cert.KernelStepOutIdeal.main_v0_2) = v2 c
          ∧ r.2.mem ((c.tc : Thread Cert.KernelStepOutIdeal.nD Cert.KernelStepOutIdeal.τ).loc Cert.KernelStepOutIdeal.main_arg0) = m ((c.tc : Thread Cert.KernelStepOutIdeal.nD Cert.KernelStepOutIdeal.τ).loc Cert.KernelStepOutIdeal.main_arg0)
          ∧ r.2.mem ((c.tc : Thread Cert.KernelStepOutIdeal.nD Cert.KernelStepOutIdeal.τ).loc Cert.KernelStepOutIdeal.main_arg1) = m ((c.tc : Thread Cert.KernelStepOutIdeal.nD Cert.KernelStepOutIdeal.τ).loc Cert.KernelStepOutIdeal.main_arg1)
          ∧ r.2.mem ((c.tc : Thread Cert.KernelStepOutIdeal.nD Cert.KernelStepOutIdeal.τ).loc Cert.KernelStepOutIdeal.main_arg2) = m ((c.tc : Thread Cert.KernelStepOutIdeal.nD Cert.KernelStepOutIdeal.τ).loc Cert.KernelStepOutIdeal.main_arg2)
          ∧ r.2.mem ((c.tc : Thread Cert.KernelStepOutIdeal.nD Cert.KernelStepOutIdeal.τ).loc Cert.KernelStepOutIdeal.main_arg3) = m ((c.tc : Thread Cert.KernelStepOutIdeal.nD Cert.KernelStepOutIdeal.τ).loc Cert.KernelStepOutIdeal.main_arg3))
      ∧ θ_run (Cert.ReferenceStepOutIdeal.defs (F := Ideal)) (onTc (τ := Cert.ReferenceStepOutIdeal.τ) (Cert.ReferenceStepOutIdeal.main (F := Ideal))) ⟨m', fun _ => 0, g'⟩ (fun r => ∀ c : Dev Cert.ReferenceStepOutIdeal.nD,
          r.2.mem ((c.tc : Thread Cert.ReferenceStepOutIdeal.nD Cert.ReferenceStepOutIdeal.τ).loc Cert.ReferenceStepOutIdeal.main_v23) = v0 c
          ∧ r.2.mem ((c.tc : Thread Cert.ReferenceStepOutIdeal.nD Cert.ReferenceStepOutIdeal.τ).loc Cert.ReferenceStepOutIdeal.main_v4) = v1 c
          ∧ r.2.mem ((c.tc : Thread Cert.ReferenceStepOutIdeal.nD Cert.ReferenceStepOutIdeal.τ).loc Cert.ReferenceStepOutIdeal.main_v10) = v2 c
          ∧ r.2.mem ((c.tc : Thread Cert.ReferenceStepOutIdeal.nD Cert.ReferenceStepOutIdeal.τ).loc Cert.ReferenceStepOutIdeal.main_arg0) = m' ((c.tc : Thread Cert.ReferenceStepOutIdeal.nD Cert.ReferenceStepOutIdeal.τ).loc Cert.ReferenceStepOutIdeal.main_arg0)
          ∧ r.2.mem ((c.tc : Thread Cert.ReferenceStepOutIdeal.nD Cert.ReferenceStepOutIdeal.τ).loc Cert.ReferenceStepOutIdeal.main_arg1) = m' ((c.tc : Thread Cert.ReferenceStepOutIdeal.nD Cert.ReferenceStepOutIdeal.τ).loc Cert.ReferenceStepOutIdeal.main_arg1)
          ∧ r.2.mem ((c.tc : Thread Cert.ReferenceStepOutIdeal.nD Cert.ReferenceStepOutIdeal.τ).loc Cert.ReferenceStepOutIdeal.main_arg2) = m' ((c.tc : Thread Cert.ReferenceStepOutIdeal.nD Cert.ReferenceStepOutIdeal.τ).loc Cert.ReferenceStepOutIdeal.main_arg2)
          ∧ r.2.mem ((c.tc : Thread Cert.ReferenceStepOutIdeal.nD Cert.ReferenceStepOutIdeal.τ).loc Cert.ReferenceStepOutIdeal.main_arg3) = m' ((c.tc : Thread Cert.ReferenceStepOutIdeal.nD Cert.ReferenceStepOutIdeal.τ).loc Cert.ReferenceStepOutIdeal.main_arg3))

def preserves_KernelStepWo_KernelStepWoIdeal : Prop :=
  True

def algebraic_KernelStepWoIdeal_ReferenceStepWoIdeal [hKernelStepWoIdeal : Cert.KernelStepWoIdeal.Facts] [hReferenceStepWoIdeal : Cert.ReferenceStepWoIdeal.Facts] : Prop :=
  ∀ (m : (ℓ : Loc Cert.KernelStepWoIdeal.nD Cert.KernelStepWoIdeal.τ Cert.KernelStepWoIdeal.sig) → Buf (Elt Ideal) ℓ) (g : Dev Cert.KernelStepWoIdeal.nD → PrngReg)
    (m' : (ℓ : Loc Cert.ReferenceStepWoIdeal.nD Cert.ReferenceStepWoIdeal.τ Cert.ReferenceStepWoIdeal.sig) → Buf (Elt Ideal) ℓ) (g' : Dev Cert.ReferenceStepWoIdeal.nD → PrngReg), Pre_KernelStepWoIdeal m →
    (∀ c : Dev Cert.KernelStepWoIdeal.nD,
      m' ((c.tc : Thread Cert.ReferenceStepWoIdeal.nD Cert.ReferenceStepWoIdeal.τ).loc Cert.ReferenceStepWoIdeal.main_arg0) = m ((c.tc : Thread Cert.KernelStepWoIdeal.nD Cert.KernelStepWoIdeal.τ).loc Cert.KernelStepWoIdeal.main_arg0)
      ∧ m' ((c.tc : Thread Cert.ReferenceStepWoIdeal.nD Cert.ReferenceStepWoIdeal.τ).loc Cert.ReferenceStepWoIdeal.main_arg1) = m ((c.tc : Thread Cert.KernelStepWoIdeal.nD Cert.KernelStepWoIdeal.τ).loc Cert.KernelStepWoIdeal.main_arg1)
      ∧ m' ((c.tc : Thread Cert.ReferenceStepWoIdeal.nD Cert.ReferenceStepWoIdeal.τ).loc Cert.ReferenceStepWoIdeal.main_arg2) = m ((c.tc : Thread Cert.KernelStepWoIdeal.nD Cert.KernelStepWoIdeal.τ).loc Cert.KernelStepWoIdeal.main_arg2)
      ∧ m' ((c.tc : Thread Cert.ReferenceStepWoIdeal.nD Cert.ReferenceStepWoIdeal.τ).loc Cert.ReferenceStepWoIdeal.main_arg3) = m ((c.tc : Thread Cert.KernelStepWoIdeal.nD Cert.KernelStepWoIdeal.τ).loc Cert.KernelStepWoIdeal.main_arg3)
      ∧ m' ((c.tc : Thread Cert.ReferenceStepWoIdeal.nD Cert.ReferenceStepWoIdeal.τ).loc Cert.ReferenceStepWoIdeal.main_arg4) = m ((c.tc : Thread Cert.KernelStepWoIdeal.nD Cert.KernelStepWoIdeal.τ).loc Cert.KernelStepWoIdeal.main_arg4)
      ∧ m' ((c.tc : Thread Cert.ReferenceStepWoIdeal.nD Cert.ReferenceStepWoIdeal.τ).loc Cert.ReferenceStepWoIdeal.main_arg5) = m ((c.tc : Thread Cert.KernelStepWoIdeal.nD Cert.KernelStepWoIdeal.τ).loc Cert.KernelStepWoIdeal.main_arg5)
      ∧ m' ((c.tc : Thread Cert.ReferenceStepWoIdeal.nD Cert.ReferenceStepWoIdeal.τ).loc Cert.ReferenceStepWoIdeal.main_arg6) = m ((c.tc : Thread Cert.KernelStepWoIdeal.nD Cert.KernelStepWoIdeal.τ).loc Cert.KernelStepWoIdeal.main_arg6)
      ∧ m' ((c.tc : Thread Cert.ReferenceStepWoIdeal.nD Cert.ReferenceStepWoIdeal.τ).loc Cert.ReferenceStepWoIdeal.main_arg7) = m ((c.tc : Thread Cert.KernelStepWoIdeal.nD Cert.KernelStepWoIdeal.τ).loc Cert.KernelStepWoIdeal.main_arg7)
      ∧ m' ((c.tc : Thread Cert.ReferenceStepWoIdeal.nD Cert.ReferenceStepWoIdeal.τ).loc Cert.ReferenceStepWoIdeal.main_arg8) = m ((c.tc : Thread Cert.KernelStepWoIdeal.nD Cert.KernelStepWoIdeal.τ).loc Cert.KernelStepWoIdeal.main_arg8)) →
    ∃ (v0 : (c : Dev Cert.KernelStepWoIdeal.nD) → Buf (Elt Ideal) ((c.tc : Thread Cert.KernelStepWoIdeal.nD Cert.KernelStepWoIdeal.τ).loc Cert.KernelStepWoIdeal.main_v2_0)) (v1 : (c : Dev Cert.KernelStepWoIdeal.nD) → Buf (Elt Ideal) ((c.tc : Thread Cert.KernelStepWoIdeal.nD Cert.KernelStepWoIdeal.τ).loc Cert.KernelStepWoIdeal.main_v2_1)) (v2 : (c : Dev Cert.KernelStepWoIdeal.nD) → Buf (Elt Ideal) ((c.tc : Thread Cert.KernelStepWoIdeal.nD Cert.KernelStepWoIdeal.τ).loc Cert.KernelStepWoIdeal.main_v2_2)) (v3 : (c : Dev Cert.KernelStepWoIdeal.nD) → Buf (Elt Ideal) ((c.tc : Thread Cert.KernelStepWoIdeal.nD Cert.KernelStepWoIdeal.τ).loc Cert.KernelStepWoIdeal.main_v2_3)),
      θ_run (Cert.KernelStepWoIdeal.defs (F := Ideal)) (onTc (τ := Cert.KernelStepWoIdeal.τ) (Cert.KernelStepWoIdeal.main (F := Ideal))) ⟨m, fun _ => 0, g⟩ (fun r => ∀ c : Dev Cert.KernelStepWoIdeal.nD,
          r.2.mem ((c.tc : Thread Cert.KernelStepWoIdeal.nD Cert.KernelStepWoIdeal.τ).loc Cert.KernelStepWoIdeal.main_v2_0) = v0 c
          ∧ r.2.mem ((c.tc : Thread Cert.KernelStepWoIdeal.nD Cert.KernelStepWoIdeal.τ).loc Cert.KernelStepWoIdeal.main_v2_1) = v1 c
          ∧ r.2.mem ((c.tc : Thread Cert.KernelStepWoIdeal.nD Cert.KernelStepWoIdeal.τ).loc Cert.KernelStepWoIdeal.main_v2_2) = v2 c
          ∧ r.2.mem ((c.tc : Thread Cert.KernelStepWoIdeal.nD Cert.KernelStepWoIdeal.τ).loc Cert.KernelStepWoIdeal.main_v2_3) = v3 c
          ∧ r.2.mem ((c.tc : Thread Cert.KernelStepWoIdeal.nD Cert.KernelStepWoIdeal.τ).loc Cert.KernelStepWoIdeal.main_arg0) = m ((c.tc : Thread Cert.KernelStepWoIdeal.nD Cert.KernelStepWoIdeal.τ).loc Cert.KernelStepWoIdeal.main_arg0)
          ∧ r.2.mem ((c.tc : Thread Cert.KernelStepWoIdeal.nD Cert.KernelStepWoIdeal.τ).loc Cert.KernelStepWoIdeal.main_arg1) = m ((c.tc : Thread Cert.KernelStepWoIdeal.nD Cert.KernelStepWoIdeal.τ).loc Cert.KernelStepWoIdeal.main_arg1)
          ∧ r.2.mem ((c.tc : Thread Cert.KernelStepWoIdeal.nD Cert.KernelStepWoIdeal.τ).loc Cert.KernelStepWoIdeal.main_arg2) = m ((c.tc : Thread Cert.KernelStepWoIdeal.nD Cert.KernelStepWoIdeal.τ).loc Cert.KernelStepWoIdeal.main_arg2)
          ∧ r.2.mem ((c.tc : Thread Cert.KernelStepWoIdeal.nD Cert.KernelStepWoIdeal.τ).loc Cert.KernelStepWoIdeal.main_arg3) = m ((c.tc : Thread Cert.KernelStepWoIdeal.nD Cert.KernelStepWoIdeal.τ).loc Cert.KernelStepWoIdeal.main_arg3)
          ∧ r.2.mem ((c.tc : Thread Cert.KernelStepWoIdeal.nD Cert.KernelStepWoIdeal.τ).loc Cert.KernelStepWoIdeal.main_arg4) = m ((c.tc : Thread Cert.KernelStepWoIdeal.nD Cert.KernelStepWoIdeal.τ).loc Cert.KernelStepWoIdeal.main_arg4)
          ∧ r.2.mem ((c.tc : Thread Cert.KernelStepWoIdeal.nD Cert.KernelStepWoIdeal.τ).loc Cert.KernelStepWoIdeal.main_arg5) = m ((c.tc : Thread Cert.KernelStepWoIdeal.nD Cert.KernelStepWoIdeal.τ).loc Cert.KernelStepWoIdeal.main_arg5)
          ∧ r.2.mem ((c.tc : Thread Cert.KernelStepWoIdeal.nD Cert.KernelStepWoIdeal.τ).loc Cert.KernelStepWoIdeal.main_arg6) = m ((c.tc : Thread Cert.KernelStepWoIdeal.nD Cert.KernelStepWoIdeal.τ).loc Cert.KernelStepWoIdeal.main_arg6)
          ∧ r.2.mem ((c.tc : Thread Cert.KernelStepWoIdeal.nD Cert.KernelStepWoIdeal.τ).loc Cert.KernelStepWoIdeal.main_arg7) = m ((c.tc : Thread Cert.KernelStepWoIdeal.nD Cert.KernelStepWoIdeal.τ).loc Cert.KernelStepWoIdeal.main_arg7)
          ∧ r.2.mem ((c.tc : Thread Cert.KernelStepWoIdeal.nD Cert.KernelStepWoIdeal.τ).loc Cert.KernelStepWoIdeal.main_arg8) = m ((c.tc : Thread Cert.KernelStepWoIdeal.nD Cert.KernelStepWoIdeal.τ).loc Cert.KernelStepWoIdeal.main_arg8))
      ∧ θ_run (Cert.ReferenceStepWoIdeal.defs (F := Ideal)) (onTc (τ := Cert.ReferenceStepWoIdeal.τ) (Cert.ReferenceStepWoIdeal.main (F := Ideal))) ⟨m', fun _ => 0, g'⟩ (fun r => ∀ c : Dev Cert.ReferenceStepWoIdeal.nD,
          r.2.mem ((c.tc : Thread Cert.ReferenceStepWoIdeal.nD Cert.ReferenceStepWoIdeal.τ).loc Cert.ReferenceStepWoIdeal.main_v40) = v0 c
          ∧ r.2.mem ((c.tc : Thread Cert.ReferenceStepWoIdeal.nD Cert.ReferenceStepWoIdeal.τ).loc Cert.ReferenceStepWoIdeal.main_v42) = v1 c
          ∧ r.2.mem ((c.tc : Thread Cert.ReferenceStepWoIdeal.nD Cert.ReferenceStepWoIdeal.τ).loc Cert.ReferenceStepWoIdeal.main_v44) = v2 c
          ∧ r.2.mem ((c.tc : Thread Cert.ReferenceStepWoIdeal.nD Cert.ReferenceStepWoIdeal.τ).loc Cert.ReferenceStepWoIdeal.main_v46) = v3 c
          ∧ r.2.mem ((c.tc : Thread Cert.ReferenceStepWoIdeal.nD Cert.ReferenceStepWoIdeal.τ).loc Cert.ReferenceStepWoIdeal.main_arg0) = m' ((c.tc : Thread Cert.ReferenceStepWoIdeal.nD Cert.ReferenceStepWoIdeal.τ).loc Cert.ReferenceStepWoIdeal.main_arg0)
          ∧ r.2.mem ((c.tc : Thread Cert.ReferenceStepWoIdeal.nD Cert.ReferenceStepWoIdeal.τ).loc Cert.ReferenceStepWoIdeal.main_arg1) = m' ((c.tc : Thread Cert.ReferenceStepWoIdeal.nD Cert.ReferenceStepWoIdeal.τ).loc Cert.ReferenceStepWoIdeal.main_arg1)
          ∧ r.2.mem ((c.tc : Thread Cert.ReferenceStepWoIdeal.nD Cert.ReferenceStepWoIdeal.τ).loc Cert.ReferenceStepWoIdeal.main_arg2) = m' ((c.tc : Thread Cert.ReferenceStepWoIdeal.nD Cert.ReferenceStepWoIdeal.τ).loc Cert.ReferenceStepWoIdeal.main_arg2)
          ∧ r.2.mem ((c.tc : Thread Cert.ReferenceStepWoIdeal.nD Cert.ReferenceStepWoIdeal.τ).loc Cert.ReferenceStepWoIdeal.main_arg3) = m' ((c.tc : Thread Cert.ReferenceStepWoIdeal.nD Cert.ReferenceStepWoIdeal.τ).loc Cert.ReferenceStepWoIdeal.main_arg3)
          ∧ r.2.mem ((c.tc : Thread Cert.ReferenceStepWoIdeal.nD Cert.ReferenceStepWoIdeal.τ).loc Cert.ReferenceStepWoIdeal.main_arg4) = m' ((c.tc : Thread Cert.ReferenceStepWoIdeal.nD Cert.ReferenceStepWoIdeal.τ).loc Cert.ReferenceStepWoIdeal.main_arg4)
          ∧ r.2.mem ((c.tc : Thread Cert.ReferenceStepWoIdeal.nD Cert.ReferenceStepWoIdeal.τ).loc Cert.ReferenceStepWoIdeal.main_arg5) = m' ((c.tc : Thread Cert.ReferenceStepWoIdeal.nD Cert.ReferenceStepWoIdeal.τ).loc Cert.ReferenceStepWoIdeal.main_arg5)
          ∧ r.2.mem ((c.tc : Thread Cert.ReferenceStepWoIdeal.nD Cert.ReferenceStepWoIdeal.τ).loc Cert.ReferenceStepWoIdeal.main_arg6) = m' ((c.tc : Thread Cert.ReferenceStepWoIdeal.nD Cert.ReferenceStepWoIdeal.τ).loc Cert.ReferenceStepWoIdeal.main_arg6)
          ∧ r.2.mem ((c.tc : Thread Cert.ReferenceStepWoIdeal.nD Cert.ReferenceStepWoIdeal.τ).loc Cert.ReferenceStepWoIdeal.main_arg7) = m' ((c.tc : Thread Cert.ReferenceStepWoIdeal.nD Cert.ReferenceStepWoIdeal.τ).loc Cert.ReferenceStepWoIdeal.main_arg7)
          ∧ r.2.mem ((c.tc : Thread Cert.ReferenceStepWoIdeal.nD Cert.ReferenceStepWoIdeal.τ).loc Cert.ReferenceStepWoIdeal.main_arg8) = m' ((c.tc : Thread Cert.ReferenceStepWoIdeal.nD Cert.ReferenceStepWoIdeal.τ).loc Cert.ReferenceStepWoIdeal.main_arg8))

def preserves_KernelStepIn_KernelStepInIdeal : Prop :=
  True

def algebraic_KernelStepInIdeal_ReferenceStepInIdeal [hKernelStepInIdeal : Cert.KernelStepInIdeal.Facts] [hReferenceStepInIdeal : Cert.ReferenceStepInIdeal.Facts] : Prop :=
  ∀ (m : (ℓ : Loc Cert.KernelStepInIdeal.nD Cert.KernelStepInIdeal.τ Cert.KernelStepInIdeal.sig) → Buf (Elt Ideal) ℓ) (g : Dev Cert.KernelStepInIdeal.nD → PrngReg)
    (m' : (ℓ : Loc Cert.ReferenceStepInIdeal.nD Cert.ReferenceStepInIdeal.τ Cert.ReferenceStepInIdeal.sig) → Buf (Elt Ideal) ℓ) (g' : Dev Cert.ReferenceStepInIdeal.nD → PrngReg), Pre_KernelStepInIdeal m →
    (∀ c : Dev Cert.KernelStepInIdeal.nD,
      m' ((c.tc : Thread Cert.ReferenceStepInIdeal.nD Cert.ReferenceStepInIdeal.τ).loc Cert.ReferenceStepInIdeal.main_arg0) = m ((c.tc : Thread Cert.KernelStepInIdeal.nD Cert.KernelStepInIdeal.τ).loc Cert.KernelStepInIdeal.main_arg0)
      ∧ m' ((c.tc : Thread Cert.ReferenceStepInIdeal.nD Cert.ReferenceStepInIdeal.τ).loc Cert.ReferenceStepInIdeal.main_arg1) = m ((c.tc : Thread Cert.KernelStepInIdeal.nD Cert.KernelStepInIdeal.τ).loc Cert.KernelStepInIdeal.main_arg1)
      ∧ m' ((c.tc : Thread Cert.ReferenceStepInIdeal.nD Cert.ReferenceStepInIdeal.τ).loc Cert.ReferenceStepInIdeal.main_arg2) = m ((c.tc : Thread Cert.KernelStepInIdeal.nD Cert.KernelStepInIdeal.τ).loc Cert.KernelStepInIdeal.main_arg2)
      ∧ m' ((c.tc : Thread Cert.ReferenceStepInIdeal.nD Cert.ReferenceStepInIdeal.τ).loc Cert.ReferenceStepInIdeal.main_arg3) = m ((c.tc : Thread Cert.KernelStepInIdeal.nD Cert.KernelStepInIdeal.τ).loc Cert.KernelStepInIdeal.main_arg3)
      ∧ m' ((c.tc : Thread Cert.ReferenceStepInIdeal.nD Cert.ReferenceStepInIdeal.τ).loc Cert.ReferenceStepInIdeal.main_arg4) = m ((c.tc : Thread Cert.KernelStepInIdeal.nD Cert.KernelStepInIdeal.τ).loc Cert.KernelStepInIdeal.main_arg4)
      ∧ m' ((c.tc : Thread Cert.ReferenceStepInIdeal.nD Cert.ReferenceStepInIdeal.τ).loc Cert.ReferenceStepInIdeal.main_arg5) = m ((c.tc : Thread Cert.KernelStepInIdeal.nD Cert.KernelStepInIdeal.τ).loc Cert.KernelStepInIdeal.main_arg5)
      ∧ m' ((c.tc : Thread Cert.ReferenceStepInIdeal.nD Cert.ReferenceStepInIdeal.τ).loc Cert.ReferenceStepInIdeal.main_arg6) = m ((c.tc : Thread Cert.KernelStepInIdeal.nD Cert.KernelStepInIdeal.τ).loc Cert.KernelStepInIdeal.main_arg6)
      ∧ m' ((c.tc : Thread Cert.ReferenceStepInIdeal.nD Cert.ReferenceStepInIdeal.τ).loc Cert.ReferenceStepInIdeal.main_arg7) = m ((c.tc : Thread Cert.KernelStepInIdeal.nD Cert.KernelStepInIdeal.τ).loc Cert.KernelStepInIdeal.main_arg7)
      ∧ m' ((c.tc : Thread Cert.ReferenceStepInIdeal.nD Cert.ReferenceStepInIdeal.τ).loc Cert.ReferenceStepInIdeal.main_arg8) = m ((c.tc : Thread Cert.KernelStepInIdeal.nD Cert.KernelStepInIdeal.τ).loc Cert.KernelStepInIdeal.main_arg8)) →
    ∃ (v0 : (c : Dev Cert.KernelStepInIdeal.nD) → Buf (Elt Ideal) ((c.tc : Thread Cert.KernelStepInIdeal.nD Cert.KernelStepInIdeal.τ).loc Cert.KernelStepInIdeal.main_v2_0)) (v1 : (c : Dev Cert.KernelStepInIdeal.nD) → Buf (Elt Ideal) ((c.tc : Thread Cert.KernelStepInIdeal.nD Cert.KernelStepInIdeal.τ).loc Cert.KernelStepInIdeal.main_v2_1)) (v2 : (c : Dev Cert.KernelStepInIdeal.nD) → Buf (Elt Ideal) ((c.tc : Thread Cert.KernelStepInIdeal.nD Cert.KernelStepInIdeal.τ).loc Cert.KernelStepInIdeal.main_v2_2)) (v3 : (c : Dev Cert.KernelStepInIdeal.nD) → Buf (Elt Ideal) ((c.tc : Thread Cert.KernelStepInIdeal.nD Cert.KernelStepInIdeal.τ).loc Cert.KernelStepInIdeal.main_v2_3)),
      θ_run (Cert.KernelStepInIdeal.defs (F := Ideal)) (onTc (τ := Cert.KernelStepInIdeal.τ) (Cert.KernelStepInIdeal.main (F := Ideal))) ⟨m, fun _ => 0, g⟩ (fun r => ∀ c : Dev Cert.KernelStepInIdeal.nD,
          r.2.mem ((c.tc : Thread Cert.KernelStepInIdeal.nD Cert.KernelStepInIdeal.τ).loc Cert.KernelStepInIdeal.main_v2_0) = v0 c
          ∧ r.2.mem ((c.tc : Thread Cert.KernelStepInIdeal.nD Cert.KernelStepInIdeal.τ).loc Cert.KernelStepInIdeal.main_v2_1) = v1 c
          ∧ r.2.mem ((c.tc : Thread Cert.KernelStepInIdeal.nD Cert.KernelStepInIdeal.τ).loc Cert.KernelStepInIdeal.main_v2_2) = v2 c
          ∧ r.2.mem ((c.tc : Thread Cert.KernelStepInIdeal.nD Cert.KernelStepInIdeal.τ).loc Cert.KernelStepInIdeal.main_v2_3) = v3 c
          ∧ r.2.mem ((c.tc : Thread Cert.KernelStepInIdeal.nD Cert.KernelStepInIdeal.τ).loc Cert.KernelStepInIdeal.main_arg0) = m ((c.tc : Thread Cert.KernelStepInIdeal.nD Cert.KernelStepInIdeal.τ).loc Cert.KernelStepInIdeal.main_arg0)
          ∧ r.2.mem ((c.tc : Thread Cert.KernelStepInIdeal.nD Cert.KernelStepInIdeal.τ).loc Cert.KernelStepInIdeal.main_arg1) = m ((c.tc : Thread Cert.KernelStepInIdeal.nD Cert.KernelStepInIdeal.τ).loc Cert.KernelStepInIdeal.main_arg1)
          ∧ r.2.mem ((c.tc : Thread Cert.KernelStepInIdeal.nD Cert.KernelStepInIdeal.τ).loc Cert.KernelStepInIdeal.main_arg2) = m ((c.tc : Thread Cert.KernelStepInIdeal.nD Cert.KernelStepInIdeal.τ).loc Cert.KernelStepInIdeal.main_arg2)
          ∧ r.2.mem ((c.tc : Thread Cert.KernelStepInIdeal.nD Cert.KernelStepInIdeal.τ).loc Cert.KernelStepInIdeal.main_arg3) = m ((c.tc : Thread Cert.KernelStepInIdeal.nD Cert.KernelStepInIdeal.τ).loc Cert.KernelStepInIdeal.main_arg3)
          ∧ r.2.mem ((c.tc : Thread Cert.KernelStepInIdeal.nD Cert.KernelStepInIdeal.τ).loc Cert.KernelStepInIdeal.main_arg4) = m ((c.tc : Thread Cert.KernelStepInIdeal.nD Cert.KernelStepInIdeal.τ).loc Cert.KernelStepInIdeal.main_arg4)
          ∧ r.2.mem ((c.tc : Thread Cert.KernelStepInIdeal.nD Cert.KernelStepInIdeal.τ).loc Cert.KernelStepInIdeal.main_arg5) = m ((c.tc : Thread Cert.KernelStepInIdeal.nD Cert.KernelStepInIdeal.τ).loc Cert.KernelStepInIdeal.main_arg5)
          ∧ r.2.mem ((c.tc : Thread Cert.KernelStepInIdeal.nD Cert.KernelStepInIdeal.τ).loc Cert.KernelStepInIdeal.main_arg6) = m ((c.tc : Thread Cert.KernelStepInIdeal.nD Cert.KernelStepInIdeal.τ).loc Cert.KernelStepInIdeal.main_arg6)
          ∧ r.2.mem ((c.tc : Thread Cert.KernelStepInIdeal.nD Cert.KernelStepInIdeal.τ).loc Cert.KernelStepInIdeal.main_arg7) = m ((c.tc : Thread Cert.KernelStepInIdeal.nD Cert.KernelStepInIdeal.τ).loc Cert.KernelStepInIdeal.main_arg7)
          ∧ r.2.mem ((c.tc : Thread Cert.KernelStepInIdeal.nD Cert.KernelStepInIdeal.τ).loc Cert.KernelStepInIdeal.main_arg8) = m ((c.tc : Thread Cert.KernelStepInIdeal.nD Cert.KernelStepInIdeal.τ).loc Cert.KernelStepInIdeal.main_arg8))
      ∧ θ_run (Cert.ReferenceStepInIdeal.defs (F := Ideal)) (onTc (τ := Cert.ReferenceStepInIdeal.τ) (Cert.ReferenceStepInIdeal.main (F := Ideal))) ⟨m', fun _ => 0, g'⟩ (fun r => ∀ c : Dev Cert.ReferenceStepInIdeal.nD,
          r.2.mem ((c.tc : Thread Cert.ReferenceStepInIdeal.nD Cert.ReferenceStepInIdeal.τ).loc Cert.ReferenceStepInIdeal.main_v40) = v0 c
          ∧ r.2.mem ((c.tc : Thread Cert.ReferenceStepInIdeal.nD Cert.ReferenceStepInIdeal.τ).loc Cert.ReferenceStepInIdeal.main_v42) = v1 c
          ∧ r.2.mem ((c.tc : Thread Cert.ReferenceStepInIdeal.nD Cert.ReferenceStepInIdeal.τ).loc Cert.ReferenceStepInIdeal.main_v44) = v2 c
          ∧ r.2.mem ((c.tc : Thread Cert.ReferenceStepInIdeal.nD Cert.ReferenceStepInIdeal.τ).loc Cert.ReferenceStepInIdeal.main_v46) = v3 c
          ∧ r.2.mem ((c.tc : Thread Cert.ReferenceStepInIdeal.nD Cert.ReferenceStepInIdeal.τ).loc Cert.ReferenceStepInIdeal.main_arg0) = m' ((c.tc : Thread Cert.ReferenceStepInIdeal.nD Cert.ReferenceStepInIdeal.τ).loc Cert.ReferenceStepInIdeal.main_arg0)
          ∧ r.2.mem ((c.tc : Thread Cert.ReferenceStepInIdeal.nD Cert.ReferenceStepInIdeal.τ).loc Cert.ReferenceStepInIdeal.main_arg1) = m' ((c.tc : Thread Cert.ReferenceStepInIdeal.nD Cert.ReferenceStepInIdeal.τ).loc Cert.ReferenceStepInIdeal.main_arg1)
          ∧ r.2.mem ((c.tc : Thread Cert.ReferenceStepInIdeal.nD Cert.ReferenceStepInIdeal.τ).loc Cert.ReferenceStepInIdeal.main_arg2) = m' ((c.tc : Thread Cert.ReferenceStepInIdeal.nD Cert.ReferenceStepInIdeal.τ).loc Cert.ReferenceStepInIdeal.main_arg2)
          ∧ r.2.mem ((c.tc : Thread Cert.ReferenceStepInIdeal.nD Cert.ReferenceStepInIdeal.τ).loc Cert.ReferenceStepInIdeal.main_arg3) = m' ((c.tc : Thread Cert.ReferenceStepInIdeal.nD Cert.ReferenceStepInIdeal.τ).loc Cert.ReferenceStepInIdeal.main_arg3)
          ∧ r.2.mem ((c.tc : Thread Cert.ReferenceStepInIdeal.nD Cert.ReferenceStepInIdeal.τ).loc Cert.ReferenceStepInIdeal.main_arg4) = m' ((c.tc : Thread Cert.ReferenceStepInIdeal.nD Cert.ReferenceStepInIdeal.τ).loc Cert.ReferenceStepInIdeal.main_arg4)
          ∧ r.2.mem ((c.tc : Thread Cert.ReferenceStepInIdeal.nD Cert.ReferenceStepInIdeal.τ).loc Cert.ReferenceStepInIdeal.main_arg5) = m' ((c.tc : Thread Cert.ReferenceStepInIdeal.nD Cert.ReferenceStepInIdeal.τ).loc Cert.ReferenceStepInIdeal.main_arg5)
          ∧ r.2.mem ((c.tc : Thread Cert.ReferenceStepInIdeal.nD Cert.ReferenceStepInIdeal.τ).loc Cert.ReferenceStepInIdeal.main_arg6) = m' ((c.tc : Thread Cert.ReferenceStepInIdeal.nD Cert.ReferenceStepInIdeal.τ).loc Cert.ReferenceStepInIdeal.main_arg6)
          ∧ r.2.mem ((c.tc : Thread Cert.ReferenceStepInIdeal.nD Cert.ReferenceStepInIdeal.τ).loc Cert.ReferenceStepInIdeal.main_arg7) = m' ((c.tc : Thread Cert.ReferenceStepInIdeal.nD Cert.ReferenceStepInIdeal.τ).loc Cert.ReferenceStepInIdeal.main_arg7)
          ∧ r.2.mem ((c.tc : Thread Cert.ReferenceStepInIdeal.nD Cert.ReferenceStepInIdeal.τ).loc Cert.ReferenceStepInIdeal.main_arg8) = m' ((c.tc : Thread Cert.ReferenceStepInIdeal.nD Cert.ReferenceStepInIdeal.τ).loc Cert.ReferenceStepInIdeal.main_arg8))

def preserves_KernelStepFf_KernelStepFfIdeal : Prop :=
  True

def algebraic_KernelStepFfIdeal_ReferenceStepFfIdeal [hKernelStepFfIdeal : Cert.KernelStepFfIdeal.Facts] [hReferenceStepFfIdeal : Cert.ReferenceStepFfIdeal.Facts] : Prop :=
  ∀ (m : (ℓ : Loc Cert.KernelStepFfIdeal.nD Cert.KernelStepFfIdeal.τ Cert.KernelStepFfIdeal.sig) → Buf (Elt Ideal) ℓ) (g : Dev Cert.KernelStepFfIdeal.nD → PrngReg)
    (m' : (ℓ : Loc Cert.ReferenceStepFfIdeal.nD Cert.ReferenceStepFfIdeal.τ Cert.ReferenceStepFfIdeal.sig) → Buf (Elt Ideal) ℓ) (g' : Dev Cert.ReferenceStepFfIdeal.nD → PrngReg), Pre_KernelStepFfIdeal m →
    (∀ c : Dev Cert.KernelStepFfIdeal.nD,
      m' ((c.tc : Thread Cert.ReferenceStepFfIdeal.nD Cert.ReferenceStepFfIdeal.τ).loc Cert.ReferenceStepFfIdeal.main_arg0) = m ((c.tc : Thread Cert.KernelStepFfIdeal.nD Cert.KernelStepFfIdeal.τ).loc Cert.KernelStepFfIdeal.main_arg0)
      ∧ m' ((c.tc : Thread Cert.ReferenceStepFfIdeal.nD Cert.ReferenceStepFfIdeal.τ).loc Cert.ReferenceStepFfIdeal.main_arg1) = m ((c.tc : Thread Cert.KernelStepFfIdeal.nD Cert.KernelStepFfIdeal.τ).loc Cert.KernelStepFfIdeal.main_arg1)
      ∧ m' ((c.tc : Thread Cert.ReferenceStepFfIdeal.nD Cert.ReferenceStepFfIdeal.τ).loc Cert.ReferenceStepFfIdeal.main_arg2) = m ((c.tc : Thread Cert.KernelStepFfIdeal.nD Cert.KernelStepFfIdeal.τ).loc Cert.KernelStepFfIdeal.main_arg2)
      ∧ m' ((c.tc : Thread Cert.ReferenceStepFfIdeal.nD Cert.ReferenceStepFfIdeal.τ).loc Cert.ReferenceStepFfIdeal.main_arg3) = m ((c.tc : Thread Cert.KernelStepFfIdeal.nD Cert.KernelStepFfIdeal.τ).loc Cert.KernelStepFfIdeal.main_arg3)
      ∧ m' ((c.tc : Thread Cert.ReferenceStepFfIdeal.nD Cert.ReferenceStepFfIdeal.τ).loc Cert.ReferenceStepFfIdeal.main_arg4) = m ((c.tc : Thread Cert.KernelStepFfIdeal.nD Cert.KernelStepFfIdeal.τ).loc Cert.KernelStepFfIdeal.main_arg4)
      ∧ m' ((c.tc : Thread Cert.ReferenceStepFfIdeal.nD Cert.ReferenceStepFfIdeal.τ).loc Cert.ReferenceStepFfIdeal.main_arg5) = m ((c.tc : Thread Cert.KernelStepFfIdeal.nD Cert.KernelStepFfIdeal.τ).loc Cert.KernelStepFfIdeal.main_arg5)
      ∧ m' ((c.tc : Thread Cert.ReferenceStepFfIdeal.nD Cert.ReferenceStepFfIdeal.τ).loc Cert.ReferenceStepFfIdeal.main_arg6) = m ((c.tc : Thread Cert.KernelStepFfIdeal.nD Cert.KernelStepFfIdeal.τ).loc Cert.KernelStepFfIdeal.main_arg6)
      ∧ m' ((c.tc : Thread Cert.ReferenceStepFfIdeal.nD Cert.ReferenceStepFfIdeal.τ).loc Cert.ReferenceStepFfIdeal.main_arg7) = m ((c.tc : Thread Cert.KernelStepFfIdeal.nD Cert.KernelStepFfIdeal.τ).loc Cert.KernelStepFfIdeal.main_arg7)
      ∧ m' ((c.tc : Thread Cert.ReferenceStepFfIdeal.nD Cert.ReferenceStepFfIdeal.τ).loc Cert.ReferenceStepFfIdeal.main_arg8) = m ((c.tc : Thread Cert.KernelStepFfIdeal.nD Cert.KernelStepFfIdeal.τ).loc Cert.KernelStepFfIdeal.main_arg8)) →
    ∃ (v0 : (c : Dev Cert.KernelStepFfIdeal.nD) → Buf (Elt Ideal) ((c.tc : Thread Cert.KernelStepFfIdeal.nD Cert.KernelStepFfIdeal.τ).loc Cert.KernelStepFfIdeal.main_v2_0)) (v1 : (c : Dev Cert.KernelStepFfIdeal.nD) → Buf (Elt Ideal) ((c.tc : Thread Cert.KernelStepFfIdeal.nD Cert.KernelStepFfIdeal.τ).loc Cert.KernelStepFfIdeal.main_v2_1)) (v2 : (c : Dev Cert.KernelStepFfIdeal.nD) → Buf (Elt Ideal) ((c.tc : Thread Cert.KernelStepFfIdeal.nD Cert.KernelStepFfIdeal.τ).loc Cert.KernelStepFfIdeal.main_v2_2)) (v3 : (c : Dev Cert.KernelStepFfIdeal.nD) → Buf (Elt Ideal) ((c.tc : Thread Cert.KernelStepFfIdeal.nD Cert.KernelStepFfIdeal.τ).loc Cert.KernelStepFfIdeal.main_v2_3)),
      θ_run (Cert.KernelStepFfIdeal.defs (F := Ideal)) (onTc (τ := Cert.KernelStepFfIdeal.τ) (Cert.KernelStepFfIdeal.main (F := Ideal))) ⟨m, fun _ => 0, g⟩ (fun r => ∀ c : Dev Cert.KernelStepFfIdeal.nD,
          r.2.mem ((c.tc : Thread Cert.KernelStepFfIdeal.nD Cert.KernelStepFfIdeal.τ).loc Cert.KernelStepFfIdeal.main_v2_0) = v0 c
          ∧ r.2.mem ((c.tc : Thread Cert.KernelStepFfIdeal.nD Cert.KernelStepFfIdeal.τ).loc Cert.KernelStepFfIdeal.main_v2_1) = v1 c
          ∧ r.2.mem ((c.tc : Thread Cert.KernelStepFfIdeal.nD Cert.KernelStepFfIdeal.τ).loc Cert.KernelStepFfIdeal.main_v2_2) = v2 c
          ∧ r.2.mem ((c.tc : Thread Cert.KernelStepFfIdeal.nD Cert.KernelStepFfIdeal.τ).loc Cert.KernelStepFfIdeal.main_v2_3) = v3 c
          ∧ r.2.mem ((c.tc : Thread Cert.KernelStepFfIdeal.nD Cert.KernelStepFfIdeal.τ).loc Cert.KernelStepFfIdeal.main_arg0) = m ((c.tc : Thread Cert.KernelStepFfIdeal.nD Cert.KernelStepFfIdeal.τ).loc Cert.KernelStepFfIdeal.main_arg0)
          ∧ r.2.mem ((c.tc : Thread Cert.KernelStepFfIdeal.nD Cert.KernelStepFfIdeal.τ).loc Cert.KernelStepFfIdeal.main_arg1) = m ((c.tc : Thread Cert.KernelStepFfIdeal.nD Cert.KernelStepFfIdeal.τ).loc Cert.KernelStepFfIdeal.main_arg1)
          ∧ r.2.mem ((c.tc : Thread Cert.KernelStepFfIdeal.nD Cert.KernelStepFfIdeal.τ).loc Cert.KernelStepFfIdeal.main_arg2) = m ((c.tc : Thread Cert.KernelStepFfIdeal.nD Cert.KernelStepFfIdeal.τ).loc Cert.KernelStepFfIdeal.main_arg2)
          ∧ r.2.mem ((c.tc : Thread Cert.KernelStepFfIdeal.nD Cert.KernelStepFfIdeal.τ).loc Cert.KernelStepFfIdeal.main_arg3) = m ((c.tc : Thread Cert.KernelStepFfIdeal.nD Cert.KernelStepFfIdeal.τ).loc Cert.KernelStepFfIdeal.main_arg3)
          ∧ r.2.mem ((c.tc : Thread Cert.KernelStepFfIdeal.nD Cert.KernelStepFfIdeal.τ).loc Cert.KernelStepFfIdeal.main_arg4) = m ((c.tc : Thread Cert.KernelStepFfIdeal.nD Cert.KernelStepFfIdeal.τ).loc Cert.KernelStepFfIdeal.main_arg4)
          ∧ r.2.mem ((c.tc : Thread Cert.KernelStepFfIdeal.nD Cert.KernelStepFfIdeal.τ).loc Cert.KernelStepFfIdeal.main_arg5) = m ((c.tc : Thread Cert.KernelStepFfIdeal.nD Cert.KernelStepFfIdeal.τ).loc Cert.KernelStepFfIdeal.main_arg5)
          ∧ r.2.mem ((c.tc : Thread Cert.KernelStepFfIdeal.nD Cert.KernelStepFfIdeal.τ).loc Cert.KernelStepFfIdeal.main_arg6) = m ((c.tc : Thread Cert.KernelStepFfIdeal.nD Cert.KernelStepFfIdeal.τ).loc Cert.KernelStepFfIdeal.main_arg6)
          ∧ r.2.mem ((c.tc : Thread Cert.KernelStepFfIdeal.nD Cert.KernelStepFfIdeal.τ).loc Cert.KernelStepFfIdeal.main_arg7) = m ((c.tc : Thread Cert.KernelStepFfIdeal.nD Cert.KernelStepFfIdeal.τ).loc Cert.KernelStepFfIdeal.main_arg7)
          ∧ r.2.mem ((c.tc : Thread Cert.KernelStepFfIdeal.nD Cert.KernelStepFfIdeal.τ).loc Cert.KernelStepFfIdeal.main_arg8) = m ((c.tc : Thread Cert.KernelStepFfIdeal.nD Cert.KernelStepFfIdeal.τ).loc Cert.KernelStepFfIdeal.main_arg8))
      ∧ θ_run (Cert.ReferenceStepFfIdeal.defs (F := Ideal)) (onTc (τ := Cert.ReferenceStepFfIdeal.τ) (Cert.ReferenceStepFfIdeal.main (F := Ideal))) ⟨m', fun _ => 0, g'⟩ (fun r => ∀ c : Dev Cert.ReferenceStepFfIdeal.nD,
          r.2.mem ((c.tc : Thread Cert.ReferenceStepFfIdeal.nD Cert.ReferenceStepFfIdeal.τ).loc Cert.ReferenceStepFfIdeal.main_v40) = v0 c
          ∧ r.2.mem ((c.tc : Thread Cert.ReferenceStepFfIdeal.nD Cert.ReferenceStepFfIdeal.τ).loc Cert.ReferenceStepFfIdeal.main_v42) = v1 c
          ∧ r.2.mem ((c.tc : Thread Cert.ReferenceStepFfIdeal.nD Cert.ReferenceStepFfIdeal.τ).loc Cert.ReferenceStepFfIdeal.main_v44) = v2 c
          ∧ r.2.mem ((c.tc : Thread Cert.ReferenceStepFfIdeal.nD Cert.ReferenceStepFfIdeal.τ).loc Cert.ReferenceStepFfIdeal.main_v46) = v3 c
          ∧ r.2.mem ((c.tc : Thread Cert.ReferenceStepFfIdeal.nD Cert.ReferenceStepFfIdeal.τ).loc Cert.ReferenceStepFfIdeal.main_arg0) = m' ((c.tc : Thread Cert.ReferenceStepFfIdeal.nD Cert.ReferenceStepFfIdeal.τ).loc Cert.ReferenceStepFfIdeal.main_arg0)
          ∧ r.2.mem ((c.tc : Thread Cert.ReferenceStepFfIdeal.nD Cert.ReferenceStepFfIdeal.τ).loc Cert.ReferenceStepFfIdeal.main_arg1) = m' ((c.tc : Thread Cert.ReferenceStepFfIdeal.nD Cert.ReferenceStepFfIdeal.τ).loc Cert.ReferenceStepFfIdeal.main_arg1)
          ∧ r.2.mem ((c.tc : Thread Cert.ReferenceStepFfIdeal.nD Cert.ReferenceStepFfIdeal.τ).loc Cert.ReferenceStepFfIdeal.main_arg2) = m' ((c.tc : Thread Cert.ReferenceStepFfIdeal.nD Cert.ReferenceStepFfIdeal.τ).loc Cert.ReferenceStepFfIdeal.main_arg2)
          ∧ r.2.mem ((c.tc : Thread Cert.ReferenceStepFfIdeal.nD Cert.ReferenceStepFfIdeal.τ).loc Cert.ReferenceStepFfIdeal.main_arg3) = m' ((c.tc : Thread Cert.ReferenceStepFfIdeal.nD Cert.ReferenceStepFfIdeal.τ).loc Cert.ReferenceStepFfIdeal.main_arg3)
          ∧ r.2.mem ((c.tc : Thread Cert.ReferenceStepFfIdeal.nD Cert.ReferenceStepFfIdeal.τ).loc Cert.ReferenceStepFfIdeal.main_arg4) = m' ((c.tc : Thread Cert.ReferenceStepFfIdeal.nD Cert.ReferenceStepFfIdeal.τ).loc Cert.ReferenceStepFfIdeal.main_arg4)
          ∧ r.2.mem ((c.tc : Thread Cert.ReferenceStepFfIdeal.nD Cert.ReferenceStepFfIdeal.τ).loc Cert.ReferenceStepFfIdeal.main_arg5) = m' ((c.tc : Thread Cert.ReferenceStepFfIdeal.nD Cert.ReferenceStepFfIdeal.τ).loc Cert.ReferenceStepFfIdeal.main_arg5)
          ∧ r.2.mem ((c.tc : Thread Cert.ReferenceStepFfIdeal.nD Cert.ReferenceStepFfIdeal.τ).loc Cert.ReferenceStepFfIdeal.main_arg6) = m' ((c.tc : Thread Cert.ReferenceStepFfIdeal.nD Cert.ReferenceStepFfIdeal.τ).loc Cert.ReferenceStepFfIdeal.main_arg6)
          ∧ r.2.mem ((c.tc : Thread Cert.ReferenceStepFfIdeal.nD Cert.ReferenceStepFfIdeal.τ).loc Cert.ReferenceStepFfIdeal.main_arg7) = m' ((c.tc : Thread Cert.ReferenceStepFfIdeal.nD Cert.ReferenceStepFfIdeal.τ).loc Cert.ReferenceStepFfIdeal.main_arg7)
          ∧ r.2.mem ((c.tc : Thread Cert.ReferenceStepFfIdeal.nD Cert.ReferenceStepFfIdeal.τ).loc Cert.ReferenceStepFfIdeal.main_arg8) = m' ((c.tc : Thread Cert.ReferenceStepFfIdeal.nD Cert.ReferenceStepFfIdeal.τ).loc Cert.ReferenceStepFfIdeal.main_arg8))

def preserves_KernelNextWo_KernelNextWoIdeal : Prop :=
  True

def algebraic_KernelNextWoIdeal_ReferenceNextWoIdeal [hKernelNextWoIdeal : Cert.KernelNextWoIdeal.Facts] [hReferenceNextWoIdeal : Cert.ReferenceNextWoIdeal.Facts] : Prop :=
  ∀ (m : (ℓ : Loc Cert.KernelNextWoIdeal.nD Cert.KernelNextWoIdeal.τ Cert.KernelNextWoIdeal.sig) → Buf (Elt Ideal) ℓ) (g : Dev Cert.KernelNextWoIdeal.nD → PrngReg)
    (m' : (ℓ : Loc Cert.ReferenceNextWoIdeal.nD Cert.ReferenceNextWoIdeal.τ Cert.ReferenceNextWoIdeal.sig) → Buf (Elt Ideal) ℓ) (g' : Dev Cert.ReferenceNextWoIdeal.nD → PrngReg), Pre_KernelNextWoIdeal m →
    (∀ c : Dev Cert.KernelNextWoIdeal.nD,
      m' ((c.tc : Thread Cert.ReferenceNextWoIdeal.nD Cert.ReferenceNextWoIdeal.τ).loc Cert.ReferenceNextWoIdeal.main_arg0) = m ((c.tc : Thread Cert.KernelNextWoIdeal.nD Cert.KernelNextWoIdeal.τ).loc Cert.KernelNextWoIdeal.main_arg0)
      ∧ m' ((c.tc : Thread Cert.ReferenceNextWoIdeal.nD Cert.ReferenceNextWoIdeal.τ).loc Cert.ReferenceNextWoIdeal.main_arg1) = m ((c.tc : Thread Cert.KernelNextWoIdeal.nD Cert.KernelNextWoIdeal.τ).loc Cert.KernelNextWoIdeal.main_arg1)
      ∧ m' ((c.tc : Thread Cert.ReferenceNextWoIdeal.nD Cert.ReferenceNextWoIdeal.τ).loc Cert.ReferenceNextWoIdeal.main_arg2) = m ((c.tc : Thread Cert.KernelNextWoIdeal.nD Cert.KernelNextWoIdeal.τ).loc Cert.KernelNextWoIdeal.main_arg2)
      ∧ m' ((c.tc : Thread Cert.ReferenceNextWoIdeal.nD Cert.ReferenceNextWoIdeal.τ).loc Cert.ReferenceNextWoIdeal.main_arg3) = m ((c.tc : Thread Cert.KernelNextWoIdeal.nD Cert.KernelNextWoIdeal.τ).loc Cert.KernelNextWoIdeal.main_arg3)
      ∧ m' ((c.tc : Thread Cert.ReferenceNextWoIdeal.nD Cert.ReferenceNextWoIdeal.τ).loc Cert.ReferenceNextWoIdeal.main_arg4) = m ((c.tc : Thread Cert.KernelNextWoIdeal.nD Cert.KernelNextWoIdeal.τ).loc Cert.KernelNextWoIdeal.main_arg4)) →
    ∃ (v0 : (c : Dev Cert.KernelNextWoIdeal.nD) → Buf (Elt Ideal) ((c.tc : Thread Cert.KernelNextWoIdeal.nD Cert.KernelNextWoIdeal.τ).loc Cert.KernelNextWoIdeal.main_v4)) (v1 : (c : Dev Cert.KernelNextWoIdeal.nD) → Buf (Elt Ideal) ((c.tc : Thread Cert.KernelNextWoIdeal.nD Cert.KernelNextWoIdeal.τ).loc Cert.KernelNextWoIdeal.main_v6)) (v2 : (c : Dev Cert.KernelNextWoIdeal.nD) → Buf (Elt Ideal) ((c.tc : Thread Cert.KernelNextWoIdeal.nD Cert.KernelNextWoIdeal.τ).loc Cert.KernelNextWoIdeal.main_v8)) (v3 : (c : Dev Cert.KernelNextWoIdeal.nD) → Buf (Elt Ideal) ((c.tc : Thread Cert.KernelNextWoIdeal.nD Cert.KernelNextWoIdeal.τ).loc Cert.KernelNextWoIdeal.main_v10)),
      θ_run (Cert.KernelNextWoIdeal.defs (F := Ideal)) (onTc (τ := Cert.KernelNextWoIdeal.τ) (Cert.KernelNextWoIdeal.main (F := Ideal))) ⟨m, fun _ => 0, g⟩ (fun r => ∀ c : Dev Cert.KernelNextWoIdeal.nD,
          r.2.mem ((c.tc : Thread Cert.KernelNextWoIdeal.nD Cert.KernelNextWoIdeal.τ).loc Cert.KernelNextWoIdeal.main_v4) = v0 c
          ∧ r.2.mem ((c.tc : Thread Cert.KernelNextWoIdeal.nD Cert.KernelNextWoIdeal.τ).loc Cert.KernelNextWoIdeal.main_v6) = v1 c
          ∧ r.2.mem ((c.tc : Thread Cert.KernelNextWoIdeal.nD Cert.KernelNextWoIdeal.τ).loc Cert.KernelNextWoIdeal.main_v8) = v2 c
          ∧ r.2.mem ((c.tc : Thread Cert.KernelNextWoIdeal.nD Cert.KernelNextWoIdeal.τ).loc Cert.KernelNextWoIdeal.main_v10) = v3 c
          ∧ r.2.mem ((c.tc : Thread Cert.KernelNextWoIdeal.nD Cert.KernelNextWoIdeal.τ).loc Cert.KernelNextWoIdeal.main_arg0) = m ((c.tc : Thread Cert.KernelNextWoIdeal.nD Cert.KernelNextWoIdeal.τ).loc Cert.KernelNextWoIdeal.main_arg0)
          ∧ r.2.mem ((c.tc : Thread Cert.KernelNextWoIdeal.nD Cert.KernelNextWoIdeal.τ).loc Cert.KernelNextWoIdeal.main_arg1) = m ((c.tc : Thread Cert.KernelNextWoIdeal.nD Cert.KernelNextWoIdeal.τ).loc Cert.KernelNextWoIdeal.main_arg1)
          ∧ r.2.mem ((c.tc : Thread Cert.KernelNextWoIdeal.nD Cert.KernelNextWoIdeal.τ).loc Cert.KernelNextWoIdeal.main_arg2) = m ((c.tc : Thread Cert.KernelNextWoIdeal.nD Cert.KernelNextWoIdeal.τ).loc Cert.KernelNextWoIdeal.main_arg2)
          ∧ r.2.mem ((c.tc : Thread Cert.KernelNextWoIdeal.nD Cert.KernelNextWoIdeal.τ).loc Cert.KernelNextWoIdeal.main_arg3) = m ((c.tc : Thread Cert.KernelNextWoIdeal.nD Cert.KernelNextWoIdeal.τ).loc Cert.KernelNextWoIdeal.main_arg3)
          ∧ r.2.mem ((c.tc : Thread Cert.KernelNextWoIdeal.nD Cert.KernelNextWoIdeal.τ).loc Cert.KernelNextWoIdeal.main_arg4) = m ((c.tc : Thread Cert.KernelNextWoIdeal.nD Cert.KernelNextWoIdeal.τ).loc Cert.KernelNextWoIdeal.main_arg4))
      ∧ θ_run (Cert.ReferenceNextWoIdeal.defs (F := Ideal)) (onTc (τ := Cert.ReferenceNextWoIdeal.τ) (Cert.ReferenceNextWoIdeal.main (F := Ideal))) ⟨m', fun _ => 0, g'⟩ (fun r => ∀ c : Dev Cert.ReferenceNextWoIdeal.nD,
          r.2.mem ((c.tc : Thread Cert.ReferenceNextWoIdeal.nD Cert.ReferenceNextWoIdeal.τ).loc Cert.ReferenceNextWoIdeal.main_v5) = v0 c
          ∧ r.2.mem ((c.tc : Thread Cert.ReferenceNextWoIdeal.nD Cert.ReferenceNextWoIdeal.τ).loc Cert.ReferenceNextWoIdeal.main_v35) = v1 c
          ∧ r.2.mem ((c.tc : Thread Cert.ReferenceNextWoIdeal.nD Cert.ReferenceNextWoIdeal.τ).loc Cert.ReferenceNextWoIdeal.main_v16) = v2 c
          ∧ r.2.mem ((c.tc : Thread Cert.ReferenceNextWoIdeal.nD Cert.ReferenceNextWoIdeal.τ).loc Cert.ReferenceNextWoIdeal.main_v22) = v3 c
          ∧ r.2.mem ((c.tc : Thread Cert.ReferenceNextWoIdeal.nD Cert.ReferenceNextWoIdeal.τ).loc Cert.ReferenceNextWoIdeal.main_arg0) = m' ((c.tc : Thread Cert.ReferenceNextWoIdeal.nD Cert.ReferenceNextWoIdeal.τ).loc Cert.ReferenceNextWoIdeal.main_arg0)
          ∧ r.2.mem ((c.tc : Thread Cert.ReferenceNextWoIdeal.nD Cert.ReferenceNextWoIdeal.τ).loc Cert.ReferenceNextWoIdeal.main_arg1) = m' ((c.tc : Thread Cert.ReferenceNextWoIdeal.nD Cert.ReferenceNextWoIdeal.τ).loc Cert.ReferenceNextWoIdeal.main_arg1)
          ∧ r.2.mem ((c.tc : Thread Cert.ReferenceNextWoIdeal.nD Cert.ReferenceNextWoIdeal.τ).loc Cert.ReferenceNextWoIdeal.main_arg2) = m' ((c.tc : Thread Cert.ReferenceNextWoIdeal.nD Cert.ReferenceNextWoIdeal.τ).loc Cert.ReferenceNextWoIdeal.main_arg2)
          ∧ r.2.mem ((c.tc : Thread Cert.ReferenceNextWoIdeal.nD Cert.ReferenceNextWoIdeal.τ).loc Cert.ReferenceNextWoIdeal.main_arg3) = m' ((c.tc : Thread Cert.ReferenceNextWoIdeal.nD Cert.ReferenceNextWoIdeal.τ).loc Cert.ReferenceNextWoIdeal.main_arg3)
          ∧ r.2.mem ((c.tc : Thread Cert.ReferenceNextWoIdeal.nD Cert.ReferenceNextWoIdeal.τ).loc Cert.ReferenceNextWoIdeal.main_arg4) = m' ((c.tc : Thread Cert.ReferenceNextWoIdeal.nD Cert.ReferenceNextWoIdeal.τ).loc Cert.ReferenceNextWoIdeal.main_arg4))

def preserves_KernelNextIn_KernelNextInIdeal : Prop :=
  True

def algebraic_KernelNextInIdeal_ReferenceNextInIdeal [hKernelNextInIdeal : Cert.KernelNextInIdeal.Facts] [hReferenceNextInIdeal : Cert.ReferenceNextInIdeal.Facts] : Prop :=
  ∀ (m : (ℓ : Loc Cert.KernelNextInIdeal.nD Cert.KernelNextInIdeal.τ Cert.KernelNextInIdeal.sig) → Buf (Elt Ideal) ℓ) (g : Dev Cert.KernelNextInIdeal.nD → PrngReg)
    (m' : (ℓ : Loc Cert.ReferenceNextInIdeal.nD Cert.ReferenceNextInIdeal.τ Cert.ReferenceNextInIdeal.sig) → Buf (Elt Ideal) ℓ) (g' : Dev Cert.ReferenceNextInIdeal.nD → PrngReg), Pre_KernelNextInIdeal m →
    (∀ c : Dev Cert.KernelNextInIdeal.nD,
      m' ((c.tc : Thread Cert.ReferenceNextInIdeal.nD Cert.ReferenceNextInIdeal.τ).loc Cert.ReferenceNextInIdeal.main_arg0) = m ((c.tc : Thread Cert.KernelNextInIdeal.nD Cert.KernelNextInIdeal.τ).loc Cert.KernelNextInIdeal.main_arg0)
      ∧ m' ((c.tc : Thread Cert.ReferenceNextInIdeal.nD Cert.ReferenceNextInIdeal.τ).loc Cert.ReferenceNextInIdeal.main_arg1) = m ((c.tc : Thread Cert.KernelNextInIdeal.nD Cert.KernelNextInIdeal.τ).loc Cert.KernelNextInIdeal.main_arg1)
      ∧ m' ((c.tc : Thread Cert.ReferenceNextInIdeal.nD Cert.ReferenceNextInIdeal.τ).loc Cert.ReferenceNextInIdeal.main_arg2) = m ((c.tc : Thread Cert.KernelNextInIdeal.nD Cert.KernelNextInIdeal.τ).loc Cert.KernelNextInIdeal.main_arg2)
      ∧ m' ((c.tc : Thread Cert.ReferenceNextInIdeal.nD Cert.ReferenceNextInIdeal.τ).loc Cert.ReferenceNextInIdeal.main_arg3) = m ((c.tc : Thread Cert.KernelNextInIdeal.nD Cert.KernelNextInIdeal.τ).loc Cert.KernelNextInIdeal.main_arg3)
      ∧ m' ((c.tc : Thread Cert.ReferenceNextInIdeal.nD Cert.ReferenceNextInIdeal.τ).loc Cert.ReferenceNextInIdeal.main_arg4) = m ((c.tc : Thread Cert.KernelNextInIdeal.nD Cert.KernelNextInIdeal.τ).loc Cert.KernelNextInIdeal.main_arg4)) →
    ∃ (v0 : (c : Dev Cert.KernelNextInIdeal.nD) → Buf (Elt Ideal) ((c.tc : Thread Cert.KernelNextInIdeal.nD Cert.KernelNextInIdeal.τ).loc Cert.KernelNextInIdeal.main_v4)) (v1 : (c : Dev Cert.KernelNextInIdeal.nD) → Buf (Elt Ideal) ((c.tc : Thread Cert.KernelNextInIdeal.nD Cert.KernelNextInIdeal.τ).loc Cert.KernelNextInIdeal.main_v6)) (v2 : (c : Dev Cert.KernelNextInIdeal.nD) → Buf (Elt Ideal) ((c.tc : Thread Cert.KernelNextInIdeal.nD Cert.KernelNextInIdeal.τ).loc Cert.KernelNextInIdeal.main_v8)) (v3 : (c : Dev Cert.KernelNextInIdeal.nD) → Buf (Elt Ideal) ((c.tc : Thread Cert.KernelNextInIdeal.nD Cert.KernelNextInIdeal.τ).loc Cert.KernelNextInIdeal.main_v10)),
      θ_run (Cert.KernelNextInIdeal.defs (F := Ideal)) (onTc (τ := Cert.KernelNextInIdeal.τ) (Cert.KernelNextInIdeal.main (F := Ideal))) ⟨m, fun _ => 0, g⟩ (fun r => ∀ c : Dev Cert.KernelNextInIdeal.nD,
          r.2.mem ((c.tc : Thread Cert.KernelNextInIdeal.nD Cert.KernelNextInIdeal.τ).loc Cert.KernelNextInIdeal.main_v4) = v0 c
          ∧ r.2.mem ((c.tc : Thread Cert.KernelNextInIdeal.nD Cert.KernelNextInIdeal.τ).loc Cert.KernelNextInIdeal.main_v6) = v1 c
          ∧ r.2.mem ((c.tc : Thread Cert.KernelNextInIdeal.nD Cert.KernelNextInIdeal.τ).loc Cert.KernelNextInIdeal.main_v8) = v2 c
          ∧ r.2.mem ((c.tc : Thread Cert.KernelNextInIdeal.nD Cert.KernelNextInIdeal.τ).loc Cert.KernelNextInIdeal.main_v10) = v3 c
          ∧ r.2.mem ((c.tc : Thread Cert.KernelNextInIdeal.nD Cert.KernelNextInIdeal.τ).loc Cert.KernelNextInIdeal.main_arg0) = m ((c.tc : Thread Cert.KernelNextInIdeal.nD Cert.KernelNextInIdeal.τ).loc Cert.KernelNextInIdeal.main_arg0)
          ∧ r.2.mem ((c.tc : Thread Cert.KernelNextInIdeal.nD Cert.KernelNextInIdeal.τ).loc Cert.KernelNextInIdeal.main_arg1) = m ((c.tc : Thread Cert.KernelNextInIdeal.nD Cert.KernelNextInIdeal.τ).loc Cert.KernelNextInIdeal.main_arg1)
          ∧ r.2.mem ((c.tc : Thread Cert.KernelNextInIdeal.nD Cert.KernelNextInIdeal.τ).loc Cert.KernelNextInIdeal.main_arg2) = m ((c.tc : Thread Cert.KernelNextInIdeal.nD Cert.KernelNextInIdeal.τ).loc Cert.KernelNextInIdeal.main_arg2)
          ∧ r.2.mem ((c.tc : Thread Cert.KernelNextInIdeal.nD Cert.KernelNextInIdeal.τ).loc Cert.KernelNextInIdeal.main_arg3) = m ((c.tc : Thread Cert.KernelNextInIdeal.nD Cert.KernelNextInIdeal.τ).loc Cert.KernelNextInIdeal.main_arg3)
          ∧ r.2.mem ((c.tc : Thread Cert.KernelNextInIdeal.nD Cert.KernelNextInIdeal.τ).loc Cert.KernelNextInIdeal.main_arg4) = m ((c.tc : Thread Cert.KernelNextInIdeal.nD Cert.KernelNextInIdeal.τ).loc Cert.KernelNextInIdeal.main_arg4))
      ∧ θ_run (Cert.ReferenceNextInIdeal.defs (F := Ideal)) (onTc (τ := Cert.ReferenceNextInIdeal.τ) (Cert.ReferenceNextInIdeal.main (F := Ideal))) ⟨m', fun _ => 0, g'⟩ (fun r => ∀ c : Dev Cert.ReferenceNextInIdeal.nD,
          r.2.mem ((c.tc : Thread Cert.ReferenceNextInIdeal.nD Cert.ReferenceNextInIdeal.τ).loc Cert.ReferenceNextInIdeal.main_v5) = v0 c
          ∧ r.2.mem ((c.tc : Thread Cert.ReferenceNextInIdeal.nD Cert.ReferenceNextInIdeal.τ).loc Cert.ReferenceNextInIdeal.main_v35) = v1 c
          ∧ r.2.mem ((c.tc : Thread Cert.ReferenceNextInIdeal.nD Cert.ReferenceNextInIdeal.τ).loc Cert.ReferenceNextInIdeal.main_v16) = v2 c
          ∧ r.2.mem ((c.tc : Thread Cert.ReferenceNextInIdeal.nD Cert.ReferenceNextInIdeal.τ).loc Cert.ReferenceNextInIdeal.main_v22) = v3 c
          ∧ r.2.mem ((c.tc : Thread Cert.ReferenceNextInIdeal.nD Cert.ReferenceNextInIdeal.τ).loc Cert.ReferenceNextInIdeal.main_arg0) = m' ((c.tc : Thread Cert.ReferenceNextInIdeal.nD Cert.ReferenceNextInIdeal.τ).loc Cert.ReferenceNextInIdeal.main_arg0)
          ∧ r.2.mem ((c.tc : Thread Cert.ReferenceNextInIdeal.nD Cert.ReferenceNextInIdeal.τ).loc Cert.ReferenceNextInIdeal.main_arg1) = m' ((c.tc : Thread Cert.ReferenceNextInIdeal.nD Cert.ReferenceNextInIdeal.τ).loc Cert.ReferenceNextInIdeal.main_arg1)
          ∧ r.2.mem ((c.tc : Thread Cert.ReferenceNextInIdeal.nD Cert.ReferenceNextInIdeal.τ).loc Cert.ReferenceNextInIdeal.main_arg2) = m' ((c.tc : Thread Cert.ReferenceNextInIdeal.nD Cert.ReferenceNextInIdeal.τ).loc Cert.ReferenceNextInIdeal.main_arg2)
          ∧ r.2.mem ((c.tc : Thread Cert.ReferenceNextInIdeal.nD Cert.ReferenceNextInIdeal.τ).loc Cert.ReferenceNextInIdeal.main_arg3) = m' ((c.tc : Thread Cert.ReferenceNextInIdeal.nD Cert.ReferenceNextInIdeal.τ).loc Cert.ReferenceNextInIdeal.main_arg3)
          ∧ r.2.mem ((c.tc : Thread Cert.ReferenceNextInIdeal.nD Cert.ReferenceNextInIdeal.τ).loc Cert.ReferenceNextInIdeal.main_arg4) = m' ((c.tc : Thread Cert.ReferenceNextInIdeal.nD Cert.ReferenceNextInIdeal.τ).loc Cert.ReferenceNextInIdeal.main_arg4))

def preserves_KernelNextFf_KernelNextFfIdeal : Prop :=
  True

def algebraic_KernelNextFfIdeal_ReferenceNextFfIdeal [hKernelNextFfIdeal : Cert.KernelNextFfIdeal.Facts] [hReferenceNextFfIdeal : Cert.ReferenceNextFfIdeal.Facts] : Prop :=
  ∀ (m : (ℓ : Loc Cert.KernelNextFfIdeal.nD Cert.KernelNextFfIdeal.τ Cert.KernelNextFfIdeal.sig) → Buf (Elt Ideal) ℓ) (g : Dev Cert.KernelNextFfIdeal.nD → PrngReg)
    (m' : (ℓ : Loc Cert.ReferenceNextFfIdeal.nD Cert.ReferenceNextFfIdeal.τ Cert.ReferenceNextFfIdeal.sig) → Buf (Elt Ideal) ℓ) (g' : Dev Cert.ReferenceNextFfIdeal.nD → PrngReg), Pre_KernelNextFfIdeal m →
    (∀ c : Dev Cert.KernelNextFfIdeal.nD,
      m' ((c.tc : Thread Cert.ReferenceNextFfIdeal.nD Cert.ReferenceNextFfIdeal.τ).loc Cert.ReferenceNextFfIdeal.main_arg0) = m ((c.tc : Thread Cert.KernelNextFfIdeal.nD Cert.KernelNextFfIdeal.τ).loc Cert.KernelNextFfIdeal.main_arg0)
      ∧ m' ((c.tc : Thread Cert.ReferenceNextFfIdeal.nD Cert.ReferenceNextFfIdeal.τ).loc Cert.ReferenceNextFfIdeal.main_arg1) = m ((c.tc : Thread Cert.KernelNextFfIdeal.nD Cert.KernelNextFfIdeal.τ).loc Cert.KernelNextFfIdeal.main_arg1)
      ∧ m' ((c.tc : Thread Cert.ReferenceNextFfIdeal.nD Cert.ReferenceNextFfIdeal.τ).loc Cert.ReferenceNextFfIdeal.main_arg2) = m ((c.tc : Thread Cert.KernelNextFfIdeal.nD Cert.KernelNextFfIdeal.τ).loc Cert.KernelNextFfIdeal.main_arg2)
      ∧ m' ((c.tc : Thread Cert.ReferenceNextFfIdeal.nD Cert.ReferenceNextFfIdeal.τ).loc Cert.ReferenceNextFfIdeal.main_arg3) = m ((c.tc : Thread Cert.KernelNextFfIdeal.nD Cert.KernelNextFfIdeal.τ).loc Cert.KernelNextFfIdeal.main_arg3)
      ∧ m' ((c.tc : Thread Cert.ReferenceNextFfIdeal.nD Cert.ReferenceNextFfIdeal.τ).loc Cert.ReferenceNextFfIdeal.main_arg4) = m ((c.tc : Thread Cert.KernelNextFfIdeal.nD Cert.KernelNextFfIdeal.τ).loc Cert.KernelNextFfIdeal.main_arg4)) →
    ∃ (v0 : (c : Dev Cert.KernelNextFfIdeal.nD) → Buf (Elt Ideal) ((c.tc : Thread Cert.KernelNextFfIdeal.nD Cert.KernelNextFfIdeal.τ).loc Cert.KernelNextFfIdeal.main_v4)) (v1 : (c : Dev Cert.KernelNextFfIdeal.nD) → Buf (Elt Ideal) ((c.tc : Thread Cert.KernelNextFfIdeal.nD Cert.KernelNextFfIdeal.τ).loc Cert.KernelNextFfIdeal.main_v6)) (v2 : (c : Dev Cert.KernelNextFfIdeal.nD) → Buf (Elt Ideal) ((c.tc : Thread Cert.KernelNextFfIdeal.nD Cert.KernelNextFfIdeal.τ).loc Cert.KernelNextFfIdeal.main_v8)) (v3 : (c : Dev Cert.KernelNextFfIdeal.nD) → Buf (Elt Ideal) ((c.tc : Thread Cert.KernelNextFfIdeal.nD Cert.KernelNextFfIdeal.τ).loc Cert.KernelNextFfIdeal.main_v10)),
      θ_run (Cert.KernelNextFfIdeal.defs (F := Ideal)) (onTc (τ := Cert.KernelNextFfIdeal.τ) (Cert.KernelNextFfIdeal.main (F := Ideal))) ⟨m, fun _ => 0, g⟩ (fun r => ∀ c : Dev Cert.KernelNextFfIdeal.nD,
          r.2.mem ((c.tc : Thread Cert.KernelNextFfIdeal.nD Cert.KernelNextFfIdeal.τ).loc Cert.KernelNextFfIdeal.main_v4) = v0 c
          ∧ r.2.mem ((c.tc : Thread Cert.KernelNextFfIdeal.nD Cert.KernelNextFfIdeal.τ).loc Cert.KernelNextFfIdeal.main_v6) = v1 c
          ∧ r.2.mem ((c.tc : Thread Cert.KernelNextFfIdeal.nD Cert.KernelNextFfIdeal.τ).loc Cert.KernelNextFfIdeal.main_v8) = v2 c
          ∧ r.2.mem ((c.tc : Thread Cert.KernelNextFfIdeal.nD Cert.KernelNextFfIdeal.τ).loc Cert.KernelNextFfIdeal.main_v10) = v3 c
          ∧ r.2.mem ((c.tc : Thread Cert.KernelNextFfIdeal.nD Cert.KernelNextFfIdeal.τ).loc Cert.KernelNextFfIdeal.main_arg0) = m ((c.tc : Thread Cert.KernelNextFfIdeal.nD Cert.KernelNextFfIdeal.τ).loc Cert.KernelNextFfIdeal.main_arg0)
          ∧ r.2.mem ((c.tc : Thread Cert.KernelNextFfIdeal.nD Cert.KernelNextFfIdeal.τ).loc Cert.KernelNextFfIdeal.main_arg1) = m ((c.tc : Thread Cert.KernelNextFfIdeal.nD Cert.KernelNextFfIdeal.τ).loc Cert.KernelNextFfIdeal.main_arg1)
          ∧ r.2.mem ((c.tc : Thread Cert.KernelNextFfIdeal.nD Cert.KernelNextFfIdeal.τ).loc Cert.KernelNextFfIdeal.main_arg2) = m ((c.tc : Thread Cert.KernelNextFfIdeal.nD Cert.KernelNextFfIdeal.τ).loc Cert.KernelNextFfIdeal.main_arg2)
          ∧ r.2.mem ((c.tc : Thread Cert.KernelNextFfIdeal.nD Cert.KernelNextFfIdeal.τ).loc Cert.KernelNextFfIdeal.main_arg3) = m ((c.tc : Thread Cert.KernelNextFfIdeal.nD Cert.KernelNextFfIdeal.τ).loc Cert.KernelNextFfIdeal.main_arg3)
          ∧ r.2.mem ((c.tc : Thread Cert.KernelNextFfIdeal.nD Cert.KernelNextFfIdeal.τ).loc Cert.KernelNextFfIdeal.main_arg4) = m ((c.tc : Thread Cert.KernelNextFfIdeal.nD Cert.KernelNextFfIdeal.τ).loc Cert.KernelNextFfIdeal.main_arg4))
      ∧ θ_run (Cert.ReferenceNextFfIdeal.defs (F := Ideal)) (onTc (τ := Cert.ReferenceNextFfIdeal.τ) (Cert.ReferenceNextFfIdeal.main (F := Ideal))) ⟨m', fun _ => 0, g'⟩ (fun r => ∀ c : Dev Cert.ReferenceNextFfIdeal.nD,
          r.2.mem ((c.tc : Thread Cert.ReferenceNextFfIdeal.nD Cert.ReferenceNextFfIdeal.τ).loc Cert.ReferenceNextFfIdeal.main_v5) = v0 c
          ∧ r.2.mem ((c.tc : Thread Cert.ReferenceNextFfIdeal.nD Cert.ReferenceNextFfIdeal.τ).loc Cert.ReferenceNextFfIdeal.main_v35) = v1 c
          ∧ r.2.mem ((c.tc : Thread Cert.ReferenceNextFfIdeal.nD Cert.ReferenceNextFfIdeal.τ).loc Cert.ReferenceNextFfIdeal.main_v16) = v2 c
          ∧ r.2.mem ((c.tc : Thread Cert.ReferenceNextFfIdeal.nD Cert.ReferenceNextFfIdeal.τ).loc Cert.ReferenceNextFfIdeal.main_v22) = v3 c
          ∧ r.2.mem ((c.tc : Thread Cert.ReferenceNextFfIdeal.nD Cert.ReferenceNextFfIdeal.τ).loc Cert.ReferenceNextFfIdeal.main_arg0) = m' ((c.tc : Thread Cert.ReferenceNextFfIdeal.nD Cert.ReferenceNextFfIdeal.τ).loc Cert.ReferenceNextFfIdeal.main_arg0)
          ∧ r.2.mem ((c.tc : Thread Cert.ReferenceNextFfIdeal.nD Cert.ReferenceNextFfIdeal.τ).loc Cert.ReferenceNextFfIdeal.main_arg1) = m' ((c.tc : Thread Cert.ReferenceNextFfIdeal.nD Cert.ReferenceNextFfIdeal.τ).loc Cert.ReferenceNextFfIdeal.main_arg1)
          ∧ r.2.mem ((c.tc : Thread Cert.ReferenceNextFfIdeal.nD Cert.ReferenceNextFfIdeal.τ).loc Cert.ReferenceNextFfIdeal.main_arg2) = m' ((c.tc : Thread Cert.ReferenceNextFfIdeal.nD Cert.ReferenceNextFfIdeal.τ).loc Cert.ReferenceNextFfIdeal.main_arg2)
          ∧ r.2.mem ((c.tc : Thread Cert.ReferenceNextFfIdeal.nD Cert.ReferenceNextFfIdeal.τ).loc Cert.ReferenceNextFfIdeal.main_arg3) = m' ((c.tc : Thread Cert.ReferenceNextFfIdeal.nD Cert.ReferenceNextFfIdeal.τ).loc Cert.ReferenceNextFfIdeal.main_arg3)
          ∧ r.2.mem ((c.tc : Thread Cert.ReferenceNextFfIdeal.nD Cert.ReferenceNextFfIdeal.τ).loc Cert.ReferenceNextFfIdeal.main_arg4) = m' ((c.tc : Thread Cert.ReferenceNextFfIdeal.nD Cert.ReferenceNextFfIdeal.τ).loc Cert.ReferenceNextFfIdeal.main_arg4))

def preserves_KernelFfnLoss_KernelFfnLossIdeal : Prop :=
  True

def algebraic_KernelFfnLossIdeal_ReferenceFfnLossIdeal [hKernelFfnLossIdeal : Cert.KernelFfnLossIdeal.Facts] [hReferenceFfnLossIdeal : Cert.ReferenceFfnLossIdeal.Facts] : Prop :=
  ∀ (m : (ℓ : Loc Cert.KernelFfnLossIdeal.nD Cert.KernelFfnLossIdeal.τ Cert.KernelFfnLossIdeal.sig) → Buf (Elt Ideal) ℓ) (g : Dev Cert.KernelFfnLossIdeal.nD → PrngReg)
    (m' : (ℓ : Loc Cert.ReferenceFfnLossIdeal.nD Cert.ReferenceFfnLossIdeal.τ Cert.ReferenceFfnLossIdeal.sig) → Buf (Elt Ideal) ℓ) (g' : Dev Cert.ReferenceFfnLossIdeal.nD → PrngReg), Pre_KernelFfnLossIdeal m →
    (∀ c : Dev Cert.KernelFfnLossIdeal.nD,
      m' ((c.tc : Thread Cert.ReferenceFfnLossIdeal.nD Cert.ReferenceFfnLossIdeal.τ).loc Cert.ReferenceFfnLossIdeal.main_arg0) = m ((c.tc : Thread Cert.KernelFfnLossIdeal.nD Cert.KernelFfnLossIdeal.τ).loc Cert.KernelFfnLossIdeal.main_arg0)
      ∧ m' ((c.tc : Thread Cert.ReferenceFfnLossIdeal.nD Cert.ReferenceFfnLossIdeal.τ).loc Cert.ReferenceFfnLossIdeal.main_arg1) = m ((c.tc : Thread Cert.KernelFfnLossIdeal.nD Cert.KernelFfnLossIdeal.τ).loc Cert.KernelFfnLossIdeal.main_arg1)
      ∧ m' ((c.tc : Thread Cert.ReferenceFfnLossIdeal.nD Cert.ReferenceFfnLossIdeal.τ).loc Cert.ReferenceFfnLossIdeal.main_arg2) = m ((c.tc : Thread Cert.KernelFfnLossIdeal.nD Cert.KernelFfnLossIdeal.τ).loc Cert.KernelFfnLossIdeal.main_arg2)
      ∧ m' ((c.tc : Thread Cert.ReferenceFfnLossIdeal.nD Cert.ReferenceFfnLossIdeal.τ).loc Cert.ReferenceFfnLossIdeal.main_arg3) = m ((c.tc : Thread Cert.KernelFfnLossIdeal.nD Cert.KernelFfnLossIdeal.τ).loc Cert.KernelFfnLossIdeal.main_arg3)
      ∧ m' ((c.tc : Thread Cert.ReferenceFfnLossIdeal.nD Cert.ReferenceFfnLossIdeal.τ).loc Cert.ReferenceFfnLossIdeal.main_arg4) = m ((c.tc : Thread Cert.KernelFfnLossIdeal.nD Cert.KernelFfnLossIdeal.τ).loc Cert.KernelFfnLossIdeal.main_arg4)
      ∧ m' ((c.tc : Thread Cert.ReferenceFfnLossIdeal.nD Cert.ReferenceFfnLossIdeal.τ).loc Cert.ReferenceFfnLossIdeal.main_arg5) = m ((c.tc : Thread Cert.KernelFfnLossIdeal.nD Cert.KernelFfnLossIdeal.τ).loc Cert.KernelFfnLossIdeal.main_arg5)
      ∧ m' ((c.tc : Thread Cert.ReferenceFfnLossIdeal.nD Cert.ReferenceFfnLossIdeal.τ).loc Cert.ReferenceFfnLossIdeal.main_arg6) = m ((c.tc : Thread Cert.KernelFfnLossIdeal.nD Cert.KernelFfnLossIdeal.τ).loc Cert.KernelFfnLossIdeal.main_arg6)
      ∧ m' ((c.tc : Thread Cert.ReferenceFfnLossIdeal.nD Cert.ReferenceFfnLossIdeal.τ).loc Cert.ReferenceFfnLossIdeal.main_arg7) = m ((c.tc : Thread Cert.KernelFfnLossIdeal.nD Cert.KernelFfnLossIdeal.τ).loc Cert.KernelFfnLossIdeal.main_arg7)
      ∧ m' ((c.tc : Thread Cert.ReferenceFfnLossIdeal.nD Cert.ReferenceFfnLossIdeal.τ).loc Cert.ReferenceFfnLossIdeal.main_arg8) = m ((c.tc : Thread Cert.KernelFfnLossIdeal.nD Cert.KernelFfnLossIdeal.τ).loc Cert.KernelFfnLossIdeal.main_arg8)) →
    ∃ (v0 : (c : Dev Cert.KernelFfnLossIdeal.nD) → Buf (Elt Ideal) ((c.tc : Thread Cert.KernelFfnLossIdeal.nD Cert.KernelFfnLossIdeal.τ).loc Cert.KernelFfnLossIdeal.main_v0_0)) (v1 : (c : Dev Cert.KernelFfnLossIdeal.nD) → Buf (Elt Ideal) ((c.tc : Thread Cert.KernelFfnLossIdeal.nD Cert.KernelFfnLossIdeal.τ).loc Cert.KernelFfnLossIdeal.main_v0_1)) (v2 : (c : Dev Cert.KernelFfnLossIdeal.nD) → Buf (Elt Ideal) ((c.tc : Thread Cert.KernelFfnLossIdeal.nD Cert.KernelFfnLossIdeal.τ).loc Cert.KernelFfnLossIdeal.main_v0_2)) (v3 : (c : Dev Cert.KernelFfnLossIdeal.nD) → Buf (Elt Ideal) ((c.tc : Thread Cert.KernelFfnLossIdeal.nD Cert.KernelFfnLossIdeal.τ).loc Cert.KernelFfnLossIdeal.main_v0_3)) (v4 : (c : Dev Cert.KernelFfnLossIdeal.nD) → Buf (Elt Ideal) ((c.tc : Thread Cert.KernelFfnLossIdeal.nD Cert.KernelFfnLossIdeal.τ).loc Cert.KernelFfnLossIdeal.main_v0_4)),
      θ_run (Cert.KernelFfnLossIdeal.defs (F := Ideal)) (onTc (τ := Cert.KernelFfnLossIdeal.τ) (Cert.KernelFfnLossIdeal.main (F := Ideal))) ⟨m, fun _ => 0, g⟩ (fun r => ∀ c : Dev Cert.KernelFfnLossIdeal.nD,
          r.2.mem ((c.tc : Thread Cert.KernelFfnLossIdeal.nD Cert.KernelFfnLossIdeal.τ).loc Cert.KernelFfnLossIdeal.main_v0_0) = v0 c
          ∧ r.2.mem ((c.tc : Thread Cert.KernelFfnLossIdeal.nD Cert.KernelFfnLossIdeal.τ).loc Cert.KernelFfnLossIdeal.main_v0_1) = v1 c
          ∧ r.2.mem ((c.tc : Thread Cert.KernelFfnLossIdeal.nD Cert.KernelFfnLossIdeal.τ).loc Cert.KernelFfnLossIdeal.main_v0_2) = v2 c
          ∧ r.2.mem ((c.tc : Thread Cert.KernelFfnLossIdeal.nD Cert.KernelFfnLossIdeal.τ).loc Cert.KernelFfnLossIdeal.main_v0_3) = v3 c
          ∧ r.2.mem ((c.tc : Thread Cert.KernelFfnLossIdeal.nD Cert.KernelFfnLossIdeal.τ).loc Cert.KernelFfnLossIdeal.main_v0_4) = v4 c
          ∧ r.2.mem ((c.tc : Thread Cert.KernelFfnLossIdeal.nD Cert.KernelFfnLossIdeal.τ).loc Cert.KernelFfnLossIdeal.main_arg0) = m ((c.tc : Thread Cert.KernelFfnLossIdeal.nD Cert.KernelFfnLossIdeal.τ).loc Cert.KernelFfnLossIdeal.main_arg0)
          ∧ r.2.mem ((c.tc : Thread Cert.KernelFfnLossIdeal.nD Cert.KernelFfnLossIdeal.τ).loc Cert.KernelFfnLossIdeal.main_arg1) = m ((c.tc : Thread Cert.KernelFfnLossIdeal.nD Cert.KernelFfnLossIdeal.τ).loc Cert.KernelFfnLossIdeal.main_arg1)
          ∧ r.2.mem ((c.tc : Thread Cert.KernelFfnLossIdeal.nD Cert.KernelFfnLossIdeal.τ).loc Cert.KernelFfnLossIdeal.main_arg2) = m ((c.tc : Thread Cert.KernelFfnLossIdeal.nD Cert.KernelFfnLossIdeal.τ).loc Cert.KernelFfnLossIdeal.main_arg2)
          ∧ r.2.mem ((c.tc : Thread Cert.KernelFfnLossIdeal.nD Cert.KernelFfnLossIdeal.τ).loc Cert.KernelFfnLossIdeal.main_arg3) = m ((c.tc : Thread Cert.KernelFfnLossIdeal.nD Cert.KernelFfnLossIdeal.τ).loc Cert.KernelFfnLossIdeal.main_arg3)
          ∧ r.2.mem ((c.tc : Thread Cert.KernelFfnLossIdeal.nD Cert.KernelFfnLossIdeal.τ).loc Cert.KernelFfnLossIdeal.main_arg4) = m ((c.tc : Thread Cert.KernelFfnLossIdeal.nD Cert.KernelFfnLossIdeal.τ).loc Cert.KernelFfnLossIdeal.main_arg4)
          ∧ r.2.mem ((c.tc : Thread Cert.KernelFfnLossIdeal.nD Cert.KernelFfnLossIdeal.τ).loc Cert.KernelFfnLossIdeal.main_arg5) = m ((c.tc : Thread Cert.KernelFfnLossIdeal.nD Cert.KernelFfnLossIdeal.τ).loc Cert.KernelFfnLossIdeal.main_arg5)
          ∧ r.2.mem ((c.tc : Thread Cert.KernelFfnLossIdeal.nD Cert.KernelFfnLossIdeal.τ).loc Cert.KernelFfnLossIdeal.main_arg6) = m ((c.tc : Thread Cert.KernelFfnLossIdeal.nD Cert.KernelFfnLossIdeal.τ).loc Cert.KernelFfnLossIdeal.main_arg6)
          ∧ r.2.mem ((c.tc : Thread Cert.KernelFfnLossIdeal.nD Cert.KernelFfnLossIdeal.τ).loc Cert.KernelFfnLossIdeal.main_arg7) = m ((c.tc : Thread Cert.KernelFfnLossIdeal.nD Cert.KernelFfnLossIdeal.τ).loc Cert.KernelFfnLossIdeal.main_arg7)
          ∧ r.2.mem ((c.tc : Thread Cert.KernelFfnLossIdeal.nD Cert.KernelFfnLossIdeal.τ).loc Cert.KernelFfnLossIdeal.main_arg8) = m ((c.tc : Thread Cert.KernelFfnLossIdeal.nD Cert.KernelFfnLossIdeal.τ).loc Cert.KernelFfnLossIdeal.main_arg8))
      ∧ θ_run (Cert.ReferenceFfnLossIdeal.defs (F := Ideal)) (onTc (τ := Cert.ReferenceFfnLossIdeal.τ) (Cert.ReferenceFfnLossIdeal.main (F := Ideal))) ⟨m', fun _ => 0, g'⟩ (fun r => ∀ c : Dev Cert.ReferenceFfnLossIdeal.nD,
          r.2.mem ((c.tc : Thread Cert.ReferenceFfnLossIdeal.nD Cert.ReferenceFfnLossIdeal.τ).loc Cert.ReferenceFfnLossIdeal.main_v32) = v0 c
          ∧ r.2.mem ((c.tc : Thread Cert.ReferenceFfnLossIdeal.nD Cert.ReferenceFfnLossIdeal.τ).loc Cert.ReferenceFfnLossIdeal.main_v35) = v1 c
          ∧ r.2.mem ((c.tc : Thread Cert.ReferenceFfnLossIdeal.nD Cert.ReferenceFfnLossIdeal.τ).loc Cert.ReferenceFfnLossIdeal.main_v38) = v2 c
          ∧ r.2.mem ((c.tc : Thread Cert.ReferenceFfnLossIdeal.nD Cert.ReferenceFfnLossIdeal.τ).loc Cert.ReferenceFfnLossIdeal.main_v29) = v3 c
          ∧ r.2.mem ((c.tc : Thread Cert.ReferenceFfnLossIdeal.nD Cert.ReferenceFfnLossIdeal.τ).loc Cert.ReferenceFfnLossIdeal.main_v39) = v4 c
          ∧ r.2.mem ((c.tc : Thread Cert.ReferenceFfnLossIdeal.nD Cert.ReferenceFfnLossIdeal.τ).loc Cert.ReferenceFfnLossIdeal.main_arg0) = m' ((c.tc : Thread Cert.ReferenceFfnLossIdeal.nD Cert.ReferenceFfnLossIdeal.τ).loc Cert.ReferenceFfnLossIdeal.main_arg0)
          ∧ r.2.mem ((c.tc : Thread Cert.ReferenceFfnLossIdeal.nD Cert.ReferenceFfnLossIdeal.τ).loc Cert.ReferenceFfnLossIdeal.main_arg1) = m' ((c.tc : Thread Cert.ReferenceFfnLossIdeal.nD Cert.ReferenceFfnLossIdeal.τ).loc Cert.ReferenceFfnLossIdeal.main_arg1)
          ∧ r.2.mem ((c.tc : Thread Cert.ReferenceFfnLossIdeal.nD Cert.ReferenceFfnLossIdeal.τ).loc Cert.ReferenceFfnLossIdeal.main_arg2) = m' ((c.tc : Thread Cert.ReferenceFfnLossIdeal.nD Cert.ReferenceFfnLossIdeal.τ).loc Cert.ReferenceFfnLossIdeal.main_arg2)
          ∧ r.2.mem ((c.tc : Thread Cert.ReferenceFfnLossIdeal.nD Cert.ReferenceFfnLossIdeal.τ).loc Cert.ReferenceFfnLossIdeal.main_arg3) = m' ((c.tc : Thread Cert.ReferenceFfnLossIdeal.nD Cert.ReferenceFfnLossIdeal.τ).loc Cert.ReferenceFfnLossIdeal.main_arg3)
          ∧ r.2.mem ((c.tc : Thread Cert.ReferenceFfnLossIdeal.nD Cert.ReferenceFfnLossIdeal.τ).loc Cert.ReferenceFfnLossIdeal.main_arg4) = m' ((c.tc : Thread Cert.ReferenceFfnLossIdeal.nD Cert.ReferenceFfnLossIdeal.τ).loc Cert.ReferenceFfnLossIdeal.main_arg4)
          ∧ r.2.mem ((c.tc : Thread Cert.ReferenceFfnLossIdeal.nD Cert.ReferenceFfnLossIdeal.τ).loc Cert.ReferenceFfnLossIdeal.main_arg5) = m' ((c.tc : Thread Cert.ReferenceFfnLossIdeal.nD Cert.ReferenceFfnLossIdeal.τ).loc Cert.ReferenceFfnLossIdeal.main_arg5)
          ∧ r.2.mem ((c.tc : Thread Cert.ReferenceFfnLossIdeal.nD Cert.ReferenceFfnLossIdeal.τ).loc Cert.ReferenceFfnLossIdeal.main_arg6) = m' ((c.tc : Thread Cert.ReferenceFfnLossIdeal.nD Cert.ReferenceFfnLossIdeal.τ).loc Cert.ReferenceFfnLossIdeal.main_arg6)
          ∧ r.2.mem ((c.tc : Thread Cert.ReferenceFfnLossIdeal.nD Cert.ReferenceFfnLossIdeal.τ).loc Cert.ReferenceFfnLossIdeal.main_arg7) = m' ((c.tc : Thread Cert.ReferenceFfnLossIdeal.nD Cert.ReferenceFfnLossIdeal.τ).loc Cert.ReferenceFfnLossIdeal.main_arg7)
          ∧ r.2.mem ((c.tc : Thread Cert.ReferenceFfnLossIdeal.nD Cert.ReferenceFfnLossIdeal.τ).loc Cert.ReferenceFfnLossIdeal.main_arg8) = m' ((c.tc : Thread Cert.ReferenceFfnLossIdeal.nD Cert.ReferenceFfnLossIdeal.τ).loc Cert.ReferenceFfnLossIdeal.main_arg8))

def preserves_KernelFfnFirst_KernelFfnFirstIdeal : Prop :=
  True

def algebraic_KernelFfnFirstIdeal_ReferenceFfnFirstIdeal [hKernelFfnFirstIdeal : Cert.KernelFfnFirstIdeal.Facts] [hReferenceFfnFirstIdeal : Cert.ReferenceFfnFirstIdeal.Facts] : Prop :=
  ∀ (m : (ℓ : Loc Cert.KernelFfnFirstIdeal.nD Cert.KernelFfnFirstIdeal.τ Cert.KernelFfnFirstIdeal.sig) → Buf (Elt Ideal) ℓ) (g : Dev Cert.KernelFfnFirstIdeal.nD → PrngReg)
    (m' : (ℓ : Loc Cert.ReferenceFfnFirstIdeal.nD Cert.ReferenceFfnFirstIdeal.τ Cert.ReferenceFfnFirstIdeal.sig) → Buf (Elt Ideal) ℓ) (g' : Dev Cert.ReferenceFfnFirstIdeal.nD → PrngReg), Pre_KernelFfnFirstIdeal m →
    (∀ c : Dev Cert.KernelFfnFirstIdeal.nD,
      m' ((c.tc : Thread Cert.ReferenceFfnFirstIdeal.nD Cert.ReferenceFfnFirstIdeal.τ).loc Cert.ReferenceFfnFirstIdeal.main_arg0) = m ((c.tc : Thread Cert.KernelFfnFirstIdeal.nD Cert.KernelFfnFirstIdeal.τ).loc Cert.KernelFfnFirstIdeal.main_arg0)
      ∧ m' ((c.tc : Thread Cert.ReferenceFfnFirstIdeal.nD Cert.ReferenceFfnFirstIdeal.τ).loc Cert.ReferenceFfnFirstIdeal.main_arg1) = m ((c.tc : Thread Cert.KernelFfnFirstIdeal.nD Cert.KernelFfnFirstIdeal.τ).loc Cert.KernelFfnFirstIdeal.main_arg1)
      ∧ m' ((c.tc : Thread Cert.ReferenceFfnFirstIdeal.nD Cert.ReferenceFfnFirstIdeal.τ).loc Cert.ReferenceFfnFirstIdeal.main_arg2) = m ((c.tc : Thread Cert.KernelFfnFirstIdeal.nD Cert.KernelFfnFirstIdeal.τ).loc Cert.KernelFfnFirstIdeal.main_arg2)
      ∧ m' ((c.tc : Thread Cert.ReferenceFfnFirstIdeal.nD Cert.ReferenceFfnFirstIdeal.τ).loc Cert.ReferenceFfnFirstIdeal.main_arg3) = m ((c.tc : Thread Cert.KernelFfnFirstIdeal.nD Cert.KernelFfnFirstIdeal.τ).loc Cert.KernelFfnFirstIdeal.main_arg3)
      ∧ m' ((c.tc : Thread Cert.ReferenceFfnFirstIdeal.nD Cert.ReferenceFfnFirstIdeal.τ).loc Cert.ReferenceFfnFirstIdeal.main_arg4) = m ((c.tc : Thread Cert.KernelFfnFirstIdeal.nD Cert.KernelFfnFirstIdeal.τ).loc Cert.KernelFfnFirstIdeal.main_arg4)) →
    ∃ (v0 : (c : Dev Cert.KernelFfnFirstIdeal.nD) → Buf (Elt Ideal) ((c.tc : Thread Cert.KernelFfnFirstIdeal.nD Cert.KernelFfnFirstIdeal.τ).loc Cert.KernelFfnFirstIdeal.main_v5_0)) (v1 : (c : Dev Cert.KernelFfnFirstIdeal.nD) → Buf (Elt Ideal) ((c.tc : Thread Cert.KernelFfnFirstIdeal.nD Cert.KernelFfnFirstIdeal.τ).loc Cert.KernelFfnFirstIdeal.main_v6)) (v2 : (c : Dev Cert.KernelFfnFirstIdeal.nD) → Buf (Elt Ideal) ((c.tc : Thread Cert.KernelFfnFirstIdeal.nD Cert.KernelFfnFirstIdeal.τ).loc Cert.KernelFfnFirstIdeal.main_v7)) (v3 : (c : Dev Cert.KernelFfnFirstIdeal.nD) → Buf (Elt Ideal) ((c.tc : Thread Cert.KernelFfnFirstIdeal.nD Cert.KernelFfnFirstIdeal.τ).loc Cert.KernelFfnFirstIdeal.main_v8)) (v4 : (c : Dev Cert.KernelFfnFirstIdeal.nD) → Buf (Elt Ideal) ((c.tc : Thread Cert.KernelFfnFirstIdeal.nD Cert.KernelFfnFirstIdeal.τ).loc Cert.KernelFfnFirstIdeal.main_v5_4)),
      θ_run (Cert.KernelFfnFirstIdeal.defs (F := Ideal)) (onTc (τ := Cert.KernelFfnFirstIdeal.τ) (Cert.KernelFfnFirstIdeal.main (F := Ideal))) ⟨m, fun _ => 0, g⟩ (fun r => ∀ c : Dev Cert.KernelFfnFirstIdeal.nD,
          r.2.mem ((c.tc : Thread Cert.KernelFfnFirstIdeal.nD Cert.KernelFfnFirstIdeal.τ).loc Cert.KernelFfnFirstIdeal.main_v5_0) = v0 c
          ∧ r.2.mem ((c.tc : Thread Cert.KernelFfnFirstIdeal.nD Cert.KernelFfnFirstIdeal.τ).loc Cert.KernelFfnFirstIdeal.main_v6) = v1 c
          ∧ r.2.mem ((c.tc : Thread Cert.KernelFfnFirstIdeal.nD Cert.KernelFfnFirstIdeal.τ).loc Cert.KernelFfnFirstIdeal.main_v7) = v2 c
          ∧ r.2.mem ((c.tc : Thread Cert.KernelFfnFirstIdeal.nD Cert.KernelFfnFirstIdeal.τ).loc Cert.KernelFfnFirstIdeal.main_v8) = v3 c
          ∧ r.2.mem ((c.tc : Thread Cert.KernelFfnFirstIdeal.nD Cert.KernelFfnFirstIdeal.τ).loc Cert.KernelFfnFirstIdeal.main_v5_4) = v4 c
          ∧ r.2.mem ((c.tc : Thread Cert.KernelFfnFirstIdeal.nD Cert.KernelFfnFirstIdeal.τ).loc Cert.KernelFfnFirstIdeal.main_arg0) = m ((c.tc : Thread Cert.KernelFfnFirstIdeal.nD Cert.KernelFfnFirstIdeal.τ).loc Cert.KernelFfnFirstIdeal.main_arg0)
          ∧ r.2.mem ((c.tc : Thread Cert.KernelFfnFirstIdeal.nD Cert.KernelFfnFirstIdeal.τ).loc Cert.KernelFfnFirstIdeal.main_arg1) = m ((c.tc : Thread Cert.KernelFfnFirstIdeal.nD Cert.KernelFfnFirstIdeal.τ).loc Cert.KernelFfnFirstIdeal.main_arg1)
          ∧ r.2.mem ((c.tc : Thread Cert.KernelFfnFirstIdeal.nD Cert.KernelFfnFirstIdeal.τ).loc Cert.KernelFfnFirstIdeal.main_arg2) = m ((c.tc : Thread Cert.KernelFfnFirstIdeal.nD Cert.KernelFfnFirstIdeal.τ).loc Cert.KernelFfnFirstIdeal.main_arg2)
          ∧ r.2.mem ((c.tc : Thread Cert.KernelFfnFirstIdeal.nD Cert.KernelFfnFirstIdeal.τ).loc Cert.KernelFfnFirstIdeal.main_arg3) = m ((c.tc : Thread Cert.KernelFfnFirstIdeal.nD Cert.KernelFfnFirstIdeal.τ).loc Cert.KernelFfnFirstIdeal.main_arg3)
          ∧ r.2.mem ((c.tc : Thread Cert.KernelFfnFirstIdeal.nD Cert.KernelFfnFirstIdeal.τ).loc Cert.KernelFfnFirstIdeal.main_arg4) = m ((c.tc : Thread Cert.KernelFfnFirstIdeal.nD Cert.KernelFfnFirstIdeal.τ).loc Cert.KernelFfnFirstIdeal.main_arg4))
      ∧ θ_run (Cert.ReferenceFfnFirstIdeal.defs (F := Ideal)) (onTc (τ := Cert.ReferenceFfnFirstIdeal.τ) (Cert.ReferenceFfnFirstIdeal.main (F := Ideal))) ⟨m', fun _ => 0, g'⟩ (fun r => ∀ c : Dev Cert.ReferenceFfnFirstIdeal.nD,
          r.2.mem ((c.tc : Thread Cert.ReferenceFfnFirstIdeal.nD Cert.ReferenceFfnFirstIdeal.τ).loc Cert.ReferenceFfnFirstIdeal.main_v20) = v0 c
          ∧ r.2.mem ((c.tc : Thread Cert.ReferenceFfnFirstIdeal.nD Cert.ReferenceFfnFirstIdeal.τ).loc Cert.ReferenceFfnFirstIdeal.main_v21) = v1 c
          ∧ r.2.mem ((c.tc : Thread Cert.ReferenceFfnFirstIdeal.nD Cert.ReferenceFfnFirstIdeal.τ).loc Cert.ReferenceFfnFirstIdeal.main_v22) = v2 c
          ∧ r.2.mem ((c.tc : Thread Cert.ReferenceFfnFirstIdeal.nD Cert.ReferenceFfnFirstIdeal.τ).loc Cert.ReferenceFfnFirstIdeal.main_v23) = v3 c
          ∧ r.2.mem ((c.tc : Thread Cert.ReferenceFfnFirstIdeal.nD Cert.ReferenceFfnFirstIdeal.τ).loc Cert.ReferenceFfnFirstIdeal.main_v26) = v4 c
          ∧ r.2.mem ((c.tc : Thread Cert.ReferenceFfnFirstIdeal.nD Cert.ReferenceFfnFirstIdeal.τ).loc Cert.ReferenceFfnFirstIdeal.main_arg0) = m' ((c.tc : Thread Cert.ReferenceFfnFirstIdeal.nD Cert.ReferenceFfnFirstIdeal.τ).loc Cert.ReferenceFfnFirstIdeal.main_arg0)
          ∧ r.2.mem ((c.tc : Thread Cert.ReferenceFfnFirstIdeal.nD Cert.ReferenceFfnFirstIdeal.τ).loc Cert.ReferenceFfnFirstIdeal.main_arg1) = m' ((c.tc : Thread Cert.ReferenceFfnFirstIdeal.nD Cert.ReferenceFfnFirstIdeal.τ).loc Cert.ReferenceFfnFirstIdeal.main_arg1)
          ∧ r.2.mem ((c.tc : Thread Cert.ReferenceFfnFirstIdeal.nD Cert.ReferenceFfnFirstIdeal.τ).loc Cert.ReferenceFfnFirstIdeal.main_arg2) = m' ((c.tc : Thread Cert.ReferenceFfnFirstIdeal.nD Cert.ReferenceFfnFirstIdeal.τ).loc Cert.ReferenceFfnFirstIdeal.main_arg2)
          ∧ r.2.mem ((c.tc : Thread Cert.ReferenceFfnFirstIdeal.nD Cert.ReferenceFfnFirstIdeal.τ).loc Cert.ReferenceFfnFirstIdeal.main_arg3) = m' ((c.tc : Thread Cert.ReferenceFfnFirstIdeal.nD Cert.ReferenceFfnFirstIdeal.τ).loc Cert.ReferenceFfnFirstIdeal.main_arg3)
          ∧ r.2.mem ((c.tc : Thread Cert.ReferenceFfnFirstIdeal.nD Cert.ReferenceFfnFirstIdeal.τ).loc Cert.ReferenceFfnFirstIdeal.main_arg4) = m' ((c.tc : Thread Cert.ReferenceFfnFirstIdeal.nD Cert.ReferenceFfnFirstIdeal.τ).loc Cert.ReferenceFfnFirstIdeal.main_arg4))

def Claim : Prop :=
  ∃ (hKernelFfn : Cert.KernelFfn.Facts) (hKernelFfnIdeal : Cert.KernelFfnIdeal.Facts) (hReferenceFfnIdeal : Cert.ReferenceFfnIdeal.Facts) (hKernelGateUp : Cert.KernelGateUp.Facts) (hKernelGateUpIdeal : Cert.KernelGateUpIdeal.Facts) (hReferenceGateUpIdeal : Cert.ReferenceGateUpIdeal.Facts) (hKernelDown : Cert.KernelDown.Facts) (hKernelDownIdeal : Cert.KernelDownIdeal.Facts) (hReferenceDownIdeal : Cert.ReferenceDownIdeal.Facts) (hKernelIn : Cert.KernelIn.Facts) (hKernelInIdeal : Cert.KernelInIdeal.Facts) (hReferenceInIdeal : Cert.ReferenceInIdeal.Facts) (hKernelOut : Cert.KernelOut.Facts) (hKernelOutIdeal : Cert.KernelOutIdeal.Facts) (hReferenceOutIdeal : Cert.ReferenceOutIdeal.Facts) (hKernelProj : Cert.KernelProj.Facts) (hKernelProjIdeal : Cert.KernelProjIdeal.Facts) (hReferenceProjIdeal : Cert.ReferenceProjIdeal.Facts) (hKernelNormProj : Cert.KernelNormProj.Facts) (hKernelNormProjIdeal : Cert.KernelNormProjIdeal.Facts) (hReferenceNormProjIdeal : Cert.ReferenceNormProjIdeal.Facts) (hKernelFfnFwd : Cert.KernelFfnFwd.Facts) (hKernelFfnFwdIdeal : Cert.KernelFfnFwdIdeal.Facts) (hReferenceFfnFwdIdeal : Cert.ReferenceFfnFwdIdeal.Facts) (hKernelStepNorm : Cert.KernelStepNorm.Facts) (hKernelStepNormIdeal : Cert.KernelStepNormIdeal.Facts) (hReferenceStepNormIdeal : Cert.ReferenceStepNormIdeal.Facts) (hKernelStepConv : Cert.KernelStepConv.Facts) (hKernelStepConvIdeal : Cert.KernelStepConvIdeal.Facts) (hReferenceStepConvIdeal : Cert.ReferenceStepConvIdeal.Facts) (hKernelStepHead : Cert.KernelStepHead.Facts) (hKernelStepHeadIdeal : Cert.KernelStepHeadIdeal.Facts) (hReferenceStepHeadIdeal : Cert.ReferenceStepHeadIdeal.Facts) (hKernelStepSinks : Cert.KernelStepSinks.Facts) (hKernelStepSinksIdeal : Cert.KernelStepSinksIdeal.Facts) (hReferenceStepSinksIdeal : Cert.ReferenceStepSinksIdeal.Facts) (hKernelStepOut : Cert.KernelStepOut.Facts) (hKernelStepOutIdeal : Cert.KernelStepOutIdeal.Facts) (hReferenceStepOutIdeal : Cert.ReferenceStepOutIdeal.Facts) (hKernelStepWo : Cert.KernelStepWo.Facts) (hKernelStepWoIdeal : Cert.KernelStepWoIdeal.Facts) (hReferenceStepWoIdeal : Cert.ReferenceStepWoIdeal.Facts) (hKernelStepIn : Cert.KernelStepIn.Facts) (hKernelStepInIdeal : Cert.KernelStepInIdeal.Facts) (hReferenceStepInIdeal : Cert.ReferenceStepInIdeal.Facts) (hKernelStepFf : Cert.KernelStepFf.Facts) (hKernelStepFfIdeal : Cert.KernelStepFfIdeal.Facts) (hReferenceStepFfIdeal : Cert.ReferenceStepFfIdeal.Facts) (hKernelNextWo : Cert.KernelNextWo.Facts) (hKernelNextWoIdeal : Cert.KernelNextWoIdeal.Facts) (hReferenceNextWoIdeal : Cert.ReferenceNextWoIdeal.Facts) (hKernelNextIn : Cert.KernelNextIn.Facts) (hKernelNextInIdeal : Cert.KernelNextInIdeal.Facts) (hReferenceNextInIdeal : Cert.ReferenceNextInIdeal.Facts) (hKernelNextFf : Cert.KernelNextFf.Facts) (hKernelNextFfIdeal : Cert.KernelNextFfIdeal.Facts) (hReferenceNextFfIdeal : Cert.ReferenceNextFfIdeal.Facts) (hKernelFfnLoss : Cert.KernelFfnLoss.Facts) (hKernelFfnLossIdeal : Cert.KernelFfnLossIdeal.Facts) (hReferenceFfnLossIdeal : Cert.ReferenceFfnLossIdeal.Facts) (hKernelFfnFirst : Cert.KernelFfnFirst.Facts) (hKernelFfnFirstIdeal : Cert.KernelFfnFirstIdeal.Facts) (hReferenceFfnFirstIdeal : Cert.ReferenceFfnFirstIdeal.Facts) (hPre_finite : Cert.Pre_finite.Facts),
    quiescent_KernelFfn (hKernelFfn := hKernelFfn)
    ∧ quiescent_KernelFfnIdeal (hKernelFfnIdeal := hKernelFfnIdeal)
    ∧ quiescent_KernelFfnIdeal_pre_finite (hKernelFfnIdeal := hKernelFfnIdeal) (hPre_finite := hPre_finite)
    ∧ quiescent_ReferenceFfnIdeal (hReferenceFfnIdeal := hReferenceFfnIdeal)
    ∧ quiescent_ReferenceFfnIdeal_pre_finite (hReferenceFfnIdeal := hReferenceFfnIdeal) (hPre_finite := hPre_finite)
    ∧ quiescent_KernelGateUp (hKernelGateUp := hKernelGateUp)
    ∧ quiescent_KernelGateUpIdeal (hKernelGateUpIdeal := hKernelGateUpIdeal)
    ∧ quiescent_ReferenceGateUpIdeal (hReferenceGateUpIdeal := hReferenceGateUpIdeal)
    ∧ quiescent_KernelDown (hKernelDown := hKernelDown)
    ∧ quiescent_KernelDownIdeal (hKernelDownIdeal := hKernelDownIdeal)
    ∧ quiescent_ReferenceDownIdeal (hReferenceDownIdeal := hReferenceDownIdeal)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelOut (hKernelOut := hKernelOut)
    ∧ quiescent_KernelOutIdeal (hKernelOutIdeal := hKernelOutIdeal)
    ∧ quiescent_ReferenceOutIdeal (hReferenceOutIdeal := hReferenceOutIdeal)
    ∧ quiescent_KernelProj (hKernelProj := hKernelProj)
    ∧ quiescent_KernelProjIdeal (hKernelProjIdeal := hKernelProjIdeal)
    ∧ quiescent_ReferenceProjIdeal (hReferenceProjIdeal := hReferenceProjIdeal)
    ∧ quiescent_KernelNormProj (hKernelNormProj := hKernelNormProj)
    ∧ quiescent_KernelNormProjIdeal (hKernelNormProjIdeal := hKernelNormProjIdeal)
    ∧ quiescent_ReferenceNormProjIdeal (hReferenceNormProjIdeal := hReferenceNormProjIdeal)
    ∧ quiescent_KernelFfnFwd (hKernelFfnFwd := hKernelFfnFwd)
    ∧ quiescent_KernelFfnFwdIdeal (hKernelFfnFwdIdeal := hKernelFfnFwdIdeal)
    ∧ quiescent_ReferenceFfnFwdIdeal (hReferenceFfnFwdIdeal := hReferenceFfnFwdIdeal)
    ∧ quiescent_KernelStepNorm (hKernelStepNorm := hKernelStepNorm)
    ∧ quiescent_KernelStepNormIdeal (hKernelStepNormIdeal := hKernelStepNormIdeal)
    ∧ quiescent_ReferenceStepNormIdeal (hReferenceStepNormIdeal := hReferenceStepNormIdeal)
    ∧ quiescent_KernelStepConv (hKernelStepConv := hKernelStepConv)
    ∧ quiescent_KernelStepConvIdeal (hKernelStepConvIdeal := hKernelStepConvIdeal)
    ∧ quiescent_ReferenceStepConvIdeal (hReferenceStepConvIdeal := hReferenceStepConvIdeal)
    ∧ quiescent_KernelStepHead (hKernelStepHead := hKernelStepHead)
    ∧ quiescent_KernelStepHeadIdeal (hKernelStepHeadIdeal := hKernelStepHeadIdeal)
    ∧ quiescent_ReferenceStepHeadIdeal (hReferenceStepHeadIdeal := hReferenceStepHeadIdeal)
    ∧ quiescent_KernelStepSinks (hKernelStepSinks := hKernelStepSinks)
    ∧ quiescent_KernelStepSinksIdeal (hKernelStepSinksIdeal := hKernelStepSinksIdeal)
    ∧ quiescent_ReferenceStepSinksIdeal (hReferenceStepSinksIdeal := hReferenceStepSinksIdeal)
    ∧ quiescent_KernelStepOut (hKernelStepOut := hKernelStepOut)
    ∧ quiescent_KernelStepOutIdeal (hKernelStepOutIdeal := hKernelStepOutIdeal)
    ∧ quiescent_ReferenceStepOutIdeal (hReferenceStepOutIdeal := hReferenceStepOutIdeal)
    ∧ quiescent_KernelStepWo (hKernelStepWo := hKernelStepWo)
    ∧ quiescent_KernelStepWoIdeal (hKernelStepWoIdeal := hKernelStepWoIdeal)
    ∧ quiescent_ReferenceStepWoIdeal (hReferenceStepWoIdeal := hReferenceStepWoIdeal)
    ∧ quiescent_KernelStepIn (hKernelStepIn := hKernelStepIn)
    ∧ quiescent_KernelStepInIdeal (hKernelStepInIdeal := hKernelStepInIdeal)
    ∧ quiescent_ReferenceStepInIdeal (hReferenceStepInIdeal := hReferenceStepInIdeal)
    ∧ quiescent_KernelStepFf (hKernelStepFf := hKernelStepFf)
    ∧ quiescent_KernelStepFfIdeal (hKernelStepFfIdeal := hKernelStepFfIdeal)
    ∧ quiescent_ReferenceStepFfIdeal (hReferenceStepFfIdeal := hReferenceStepFfIdeal)
    ∧ quiescent_KernelNextWo (hKernelNextWo := hKernelNextWo)
    ∧ quiescent_KernelNextWoIdeal (hKernelNextWoIdeal := hKernelNextWoIdeal)
    ∧ quiescent_ReferenceNextWoIdeal (hReferenceNextWoIdeal := hReferenceNextWoIdeal)
    ∧ quiescent_KernelNextIn (hKernelNextIn := hKernelNextIn)
    ∧ quiescent_KernelNextInIdeal (hKernelNextInIdeal := hKernelNextInIdeal)
    ∧ quiescent_ReferenceNextInIdeal (hReferenceNextInIdeal := hReferenceNextInIdeal)
    ∧ quiescent_KernelNextFf (hKernelNextFf := hKernelNextFf)
    ∧ quiescent_KernelNextFfIdeal (hKernelNextFfIdeal := hKernelNextFfIdeal)
    ∧ quiescent_ReferenceNextFfIdeal (hReferenceNextFfIdeal := hReferenceNextFfIdeal)
    ∧ quiescent_KernelFfnLoss (hKernelFfnLoss := hKernelFfnLoss)
    ∧ quiescent_KernelFfnLossIdeal (hKernelFfnLossIdeal := hKernelFfnLossIdeal)
    ∧ quiescent_ReferenceFfnLossIdeal (hReferenceFfnLossIdeal := hReferenceFfnLossIdeal)
    ∧ quiescent_KernelFfnFirst (hKernelFfnFirst := hKernelFfnFirst)
    ∧ quiescent_KernelFfnFirstIdeal (hKernelFfnFirstIdeal := hKernelFfnFirstIdeal)
    ∧ quiescent_ReferenceFfnFirstIdeal (hReferenceFfnFirstIdeal := hReferenceFfnFirstIdeal)
    ∧ preserves_KernelFfn_KernelFfnIdeal
    ∧ algebraic_KernelFfnIdeal_ReferenceFfnIdeal_pre_finite (hKernelFfnIdeal := hKernelFfnIdeal) (hReferenceFfnIdeal := hReferenceFfnIdeal) (hPre_finite := hPre_finite)
    ∧ preserves_KernelGateUp_KernelGateUpIdeal
    ∧ algebraic_KernelGateUpIdeal_ReferenceGateUpIdeal (hKernelGateUpIdeal := hKernelGateUpIdeal) (hReferenceGateUpIdeal := hReferenceGateUpIdeal)
    ∧ preserves_KernelDown_KernelDownIdeal
    ∧ algebraic_KernelDownIdeal_ReferenceDownIdeal (hKernelDownIdeal := hKernelDownIdeal) (hReferenceDownIdeal := hReferenceDownIdeal)
    ∧ preserves_KernelIn_KernelInIdeal
    ∧ algebraic_KernelInIdeal_ReferenceInIdeal (hKernelInIdeal := hKernelInIdeal) (hReferenceInIdeal := hReferenceInIdeal)
    ∧ preserves_KernelOut_KernelOutIdeal
    ∧ algebraic_KernelOutIdeal_ReferenceOutIdeal (hKernelOutIdeal := hKernelOutIdeal) (hReferenceOutIdeal := hReferenceOutIdeal)
    ∧ preserves_KernelProj_KernelProjIdeal
    ∧ algebraic_KernelProjIdeal_ReferenceProjIdeal (hKernelProjIdeal := hKernelProjIdeal) (hReferenceProjIdeal := hReferenceProjIdeal)
    ∧ preserves_KernelNormProj_KernelNormProjIdeal
    ∧ algebraic_KernelNormProjIdeal_ReferenceNormProjIdeal (hKernelNormProjIdeal := hKernelNormProjIdeal) (hReferenceNormProjIdeal := hReferenceNormProjIdeal)
    ∧ preserves_KernelFfnFwd_KernelFfnFwdIdeal
    ∧ algebraic_KernelFfnFwdIdeal_ReferenceFfnFwdIdeal (hKernelFfnFwdIdeal := hKernelFfnFwdIdeal) (hReferenceFfnFwdIdeal := hReferenceFfnFwdIdeal)
    ∧ preserves_KernelStepNorm_KernelStepNormIdeal
    ∧ algebraic_KernelStepNormIdeal_ReferenceStepNormIdeal (hKernelStepNormIdeal := hKernelStepNormIdeal) (hReferenceStepNormIdeal := hReferenceStepNormIdeal)
    ∧ preserves_KernelStepConv_KernelStepConvIdeal
    ∧ algebraic_KernelStepConvIdeal_ReferenceStepConvIdeal (hKernelStepConvIdeal := hKernelStepConvIdeal) (hReferenceStepConvIdeal := hReferenceStepConvIdeal)
    ∧ preserves_KernelStepHead_KernelStepHeadIdeal
    ∧ algebraic_KernelStepHeadIdeal_ReferenceStepHeadIdeal (hKernelStepHeadIdeal := hKernelStepHeadIdeal) (hReferenceStepHeadIdeal := hReferenceStepHeadIdeal)
    ∧ preserves_KernelStepSinks_KernelStepSinksIdeal
    ∧ algebraic_KernelStepSinksIdeal_ReferenceStepSinksIdeal (hKernelStepSinksIdeal := hKernelStepSinksIdeal) (hReferenceStepSinksIdeal := hReferenceStepSinksIdeal)
    ∧ preserves_KernelStepOut_KernelStepOutIdeal
    ∧ algebraic_KernelStepOutIdeal_ReferenceStepOutIdeal (hKernelStepOutIdeal := hKernelStepOutIdeal) (hReferenceStepOutIdeal := hReferenceStepOutIdeal)
    ∧ preserves_KernelStepWo_KernelStepWoIdeal
    ∧ algebraic_KernelStepWoIdeal_ReferenceStepWoIdeal (hKernelStepWoIdeal := hKernelStepWoIdeal) (hReferenceStepWoIdeal := hReferenceStepWoIdeal)
    ∧ preserves_KernelStepIn_KernelStepInIdeal
    ∧ algebraic_KernelStepInIdeal_ReferenceStepInIdeal (hKernelStepInIdeal := hKernelStepInIdeal) (hReferenceStepInIdeal := hReferenceStepInIdeal)
    ∧ preserves_KernelStepFf_KernelStepFfIdeal
    ∧ algebraic_KernelStepFfIdeal_ReferenceStepFfIdeal (hKernelStepFfIdeal := hKernelStepFfIdeal) (hReferenceStepFfIdeal := hReferenceStepFfIdeal)
    ∧ preserves_KernelNextWo_KernelNextWoIdeal
    ∧ algebraic_KernelNextWoIdeal_ReferenceNextWoIdeal (hKernelNextWoIdeal := hKernelNextWoIdeal) (hReferenceNextWoIdeal := hReferenceNextWoIdeal)
    ∧ preserves_KernelNextIn_KernelNextInIdeal
    ∧ algebraic_KernelNextInIdeal_ReferenceNextInIdeal (hKernelNextInIdeal := hKernelNextInIdeal) (hReferenceNextInIdeal := hReferenceNextInIdeal)
    ∧ preserves_KernelNextFf_KernelNextFfIdeal
    ∧ algebraic_KernelNextFfIdeal_ReferenceNextFfIdeal (hKernelNextFfIdeal := hKernelNextFfIdeal) (hReferenceNextFfIdeal := hReferenceNextFfIdeal)
    ∧ preserves_KernelFfnLoss_KernelFfnLossIdeal
    ∧ algebraic_KernelFfnLossIdeal_ReferenceFfnLossIdeal (hKernelFfnLossIdeal := hKernelFfnLossIdeal) (hReferenceFfnLossIdeal := hReferenceFfnLossIdeal)
    ∧ preserves_KernelFfnFirst_KernelFfnFirstIdeal
    ∧ algebraic_KernelFfnFirstIdeal_ReferenceFfnFirstIdeal (hKernelFfnFirstIdeal := hKernelFfnFirstIdeal) (hReferenceFfnFirstIdeal := hReferenceFfnFirstIdeal)
-- ==== Pre_finite.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  main_v18

def fn {F : FTy → Type} [FloatOps F] (main_arg0 : FVec F S8192x1024 .f32) (main_arg1 : FVec F S8192x1024 .f32) (main_arg2 : FVec F S1x1024 .f32) (main_arg3 : FVec F S1024x2816 .f32) (main_arg4 : FVec F S1024x2816 .f32) (main_arg5 : FVec F S2816x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1x1024 .f32 := Host.absf main_arg2
  let main_cst_0 : FVec F S_ .f32 := constant S_ .f32 0x7F800000#32
  let main_v5 : FVec F S1x1024 .f32 := broadcastInDim S1x1024 ![] bcast_S_S1x1024 main_cst_0
  let main_v6 : IVec S1x1024 1 := cmpf .olt main_v4 main_v5
  let main_c_1 : IVec S_ 1 := constantI S_ 1 1#1
  let main_v7 : IVec S_ 1 := (fun x v => Host.reduce IntOp.andi x v reducesTo_S1x1024_S_d0_1 h_S_) main_v6 main_c_1
  let main_v8 : IVec S_ 1 := andi main_v3 main_v7
  let main_v9 : FVec F S1024x2816 .f32 := Host.absf main_arg4
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S2816x1024 .f32 := Host.absf main_arg5
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_v13 main_v16
-- ==== KernelFfn.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩
abbrev S512x1024 : Shape := ⟨2, ![512, 1024]⟩
abbrev S512x1408 : Shape := ⟨2, ![512, 1408]⟩
abbrev S1408x1024 : Shape := ⟨2, ![1408, 1024]⟩
abbrev S512x128 : Shape := ⟨2, ![512, 128]⟩
abbrev S512 : Shape := ⟨1, ![512]⟩
abbrev S512x1 : Shape := ⟨2, ![512, 1]⟩

abbrev nBuf : Space → Nat
  | .hbm => 39
  | .vmem => 36
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .bf16⟩
  | .hbm, ⟨26, _⟩ => ⟨S8192x2816, .bf16⟩
  | .hbm, ⟨27, _⟩ => ⟨S2816x1024, .f32⟩
  | .hbm, ⟨28, _⟩ => ⟨S2816x1024, .bf16⟩
  | .hbm, ⟨29, _⟩ => ⟨S2816x1024, .f32⟩
  | .hbm, ⟨30, _⟩ => ⟨S2816x1024, .bf16⟩
  | .hbm, ⟨31, _⟩ => ⟨S2816x1024, .bf16⟩
  | .hbm, ⟨32, _⟩ => ⟨S8192x2816, .bf16⟩
  | .hbm, ⟨33, _⟩ => ⟨S8192x2816, .bf16⟩
  | .hbm, ⟨34, _⟩ => ⟨S8192x1024, .f32⟩
  | .hbm, ⟨35, _⟩ => ⟨S8192x2816, .bf16⟩
  | .hbm, ⟨36, _⟩ => ⟨S8192x2816, .bf16⟩
  | .hbm, ⟨37, _⟩ => ⟨S8192x1024, .f32⟩
  | .hbm, ⟨38, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1408, .bf16⟩
  | .local _ .vmem, ⟨18, _⟩ => ⟨S512x1408, .bf16⟩
  | .local _ .vmem, ⟨19, _⟩ => ⟨S512x1408, .bf16⟩
  | .local _ .vmem, ⟨20, _⟩ => ⟨S512x1408, .bf16⟩
  | .local _ .vmem, ⟨21, _⟩ => ⟨S1408x1024, .bf16⟩
  | .local _ .vmem, ⟨22, _⟩ => ⟨S1408x1024, .bf16⟩
  | .local _ .vmem, ⟨23, _⟩ => ⟨S1408x1024, .bf16⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S1x1024, .f32⟩
  | .local _ .vmem, ⟨29, _⟩ => ⟨S512x1408, .bf16⟩
  | .local _ .vmem, ⟨30, _⟩ => ⟨S512x1408, .bf16⟩
  | .local _ .vmem, ⟨31, _⟩ => ⟨S512x1408, .bf16⟩
  | .local _ .vmem, ⟨32, _⟩ => ⟨S512x1408, .bf16⟩
  | .local _ .vmem, ⟨33, _⟩ => ⟨S512x1024, .f32⟩
  | .local _ .vmem, ⟨34, _⟩ => ⟨S512x1024, .f32⟩
  | .local _ .vmem, ⟨35, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23_0 : Ref sig .tc := ⟨.hbm, 32, rfl⟩
abbrev main_v23_1 : Ref sig .tc := ⟨.hbm, 33, rfl⟩
abbrev main_v23_2 : Ref sig .tc := ⟨.hbm, 34, rfl⟩
abbrev main_v24_0 : Ref sig .tc := ⟨.hbm, 35, rfl⟩
abbrev main_v24_1 : Ref sig .tc := ⟨.hbm, 36, rfl⟩
abbrev main_v24_2 : Ref sig .tc := ⟨.hbm, 37, rfl⟩
abbrev main_v24_3 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg6_0 : Ref sig .tc := ⟨.vmem, 24, rfl⟩
abbrev cc1_stg6_1 : Ref sig .tc := ⟨.vmem, 25, rfl⟩
abbrev cc1_stg7_0 : Ref sig .tc := ⟨.vmem, 26, rfl⟩
abbrev cc1_stg7_1 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_stg10_0 : Ref sig .tc := ⟨.vmem, 31, rfl⟩
abbrev cc1_stg10_1 : Ref sig .tc := ⟨.vmem, 32, rfl⟩
abbrev cc1_stg11_0 : Ref sig .tc := ⟨.vmem, 33, rfl⟩
abbrev cc1_stg11_1 : Ref sig .tc := ⟨.vmem, 34, rfl⟩
abbrev cc1_stg12_0 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem4_0 : DmaSem sig := 22
abbrev cc1_sem5_0 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1408x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_2 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_3 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_5 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_12 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1408 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1408 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1408x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1408x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1408x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1024 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1408 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1408 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]
-- ==== ReferenceFfnIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 83
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1024x2816, .f32⟩
  | .hbm, ⟨4, _⟩ => ⟨S1024x2816, .f32⟩
  | .hbm, ⟨5, _⟩ => ⟨S2816x1024, .f32⟩
  | .hbm, ⟨6, _⟩ => ⟨S1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S_, .f32⟩
  | .hbm, ⟨32, _⟩ => ⟨S8192x2816, .f32⟩
  | .hbm, ⟨33, _⟩ => ⟨S8192x2816, .f32⟩
  | .hbm, ⟨34, _⟩ => ⟨S_, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x1024, .f32⟩
  | .hbm, ⟨44, _⟩ => ⟨S8192x2816, .f32⟩
  | .hbm, ⟨45, _⟩ => ⟨S8192x2816, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S_, .f32⟩
  | .hbm, ⟨61, _⟩ => ⟨S1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x2816, .bf16⟩
  | .hbm, ⟨81, _⟩ => ⟨S8192x2816, .bf16⟩
  | .hbm, ⟨82, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_v19_2 : Ref sig .tc := ⟨.hbm, 36, rfl⟩
abbrev main_call0_cst_1 : Ref sig .tc := ⟨.hbm, 37, rfl⟩
abbrev main_call0_v6 : Ref sig .tc := ⟨.hbm, 38, rfl⟩
abbrev main_call0_v7 : Ref sig .tc := ⟨.hbm, 39, rfl⟩
abbrev main_v19_1 : Ref sig .tc := ⟨.hbm, 40, rfl⟩
abbrev main_v19_0 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst_3 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_cst_4 : Ref sig .tc := ⟨.hbm, 60, rfl⟩
abbrev main_v34 : Ref sig .tc := ⟨.hbm, 61, rfl⟩
abbrev main_v35 : Ref sig .tc := ⟨.hbm, 62, rfl⟩
abbrev main_cst_5 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_cst_6 : Ref sig .tc := ⟨.hbm, 69, rfl⟩
abbrev main_v41 : Ref sig .tc := ⟨.hbm, 70, rfl⟩
abbrev main_v42 : Ref sig .tc := ⟨.hbm, 71, rfl⟩
abbrev main_cst_7 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩

abbrev nD : Nat := 1
abbrev τ : Topo := Topo.v7x

variable {F : FTy → Type} [FloatOps F]
-- ==== KernelGateUp.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 5
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S2816x1024, .bf16⟩
  | .hbm, ⟨4, _⟩ => ⟨S2816x1024, .bf16⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1024, .bf16⟩
  | .local _ .vmem, ⟨5, _⟩ => ⟨S1024x1024, .bf16⟩
  | .local _ .vmem, ⟨6, _⟩ => ⟨S1408x1024, .bf16⟩
  | .local _ .vmem, ⟨7, _⟩ => ⟨S1408x1024, .bf16⟩
  | .local _ .vmem, ⟨8, _⟩ => ⟨S1408x1024, .bf16⟩
  | .local _ .vmem, ⟨9, _⟩ => ⟨S1408x1024, .bf16⟩
  | .local _ .vmem, ⟨10, _⟩ => ⟨S1408x1024, .f32⟩
  | .local _ .vmem, ⟨11, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def k0_cond4 (i : grid0.Coords) : BitVec 1 :=
  let arg1 : BitVec 32 := BitVec.ofNat 32 (i 1).val
  let c7_i32_18 : BitVec 32 := 7#32
  let v24 : BitVec 1 := Scalar.cmpi .eq arg1 c7_i32_18
  let v25 : BitVec 32 := Scalar.extui v24
  let c0_i32_19 : BitVec 32 := 0#32
  let v26 : BitVec 1 := Scalar.cmpi .ne v25 c0_i32_19
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1408x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceGateUpIdeal.lean ====
abbrev S8192x2816 : Shape := ⟨2, ![8192, 2816]⟩
abbrev S8192x1024 : Shape := ⟨2, ![8192, 1024]⟩
abbrev S_ : Shape := ⟨0, ![]⟩
abbrev S1024x2816 : Shape := ⟨2, ![1024, 2816]⟩
abbrev S2816x1024 : Shape := ⟨2, ![2816, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x1024, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S2816x1024, .f32⟩
  | .hbm, ⟨12, _⟩ => ⟨S1024x2816, .f32⟩
  | .hbm, ⟨13, _⟩ => ⟨S2816x1024, .f32⟩
  | .hbm, ⟨14, _⟩ => ⟨S1024x2816, .f32⟩
  | .hbm, ⟨15, _⟩ => ⟨S2816x1024, .f32⟩
  | .hbm, ⟨16, _⟩ => ⟨S2816x1024, .bf16⟩
  | .hbm, ⟨17, _⟩ => ⟨S2816x1024, .f32⟩
  | .hbm, ⟨18, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩

abbrev nD : Nat := 1
abbrev τ : Topo := Topo.v7x

variable {F : FTy → Type} [FloatOps F]
-- ==== KernelDown.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .f32⟩
  | .local _ .vmem, ⟨3, _⟩ => ⟨S2048x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelIn.lean ====
abbrev S8192x2304 : Shape := ⟨2, ![8192, 2304]⟩
abbrev S8192x1024 : Shape := ⟨2, ![8192, 1024]⟩
abbrev S2304x1024 : Shape := ⟨2, ![2304, 1024]⟩
abbrev S2048x1152 : Shape := ⟨2, ![2048, 1152]⟩
abbrev S2048x1024 : Shape := ⟨2, ![2048, 1024]⟩
abbrev S1152x1024 : Shape := ⟨2, ![1152, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S2304x1024, .bf16⟩
  | .local _ .vmem, ⟨0, _⟩ => ⟨S2048x1152, .bf16⟩
  | .local _ .vmem, ⟨1, _⟩ => ⟨S2048x1152, .bf16⟩
  | .local _ .vmem, ⟨2, _⟩ => ⟨S2048x1024, .bf16⟩
  | .local _ .vmem, ⟨3, _⟩ => ⟨S2048x1024, .bf16⟩
  | .local _ .vmem, ⟨4, _⟩ => ⟨S1152x1024, .bf16⟩
  | .local _ .vmem, ⟨5, _⟩ => ⟨S1152x1024, .bf16⟩
  | .local _ .vmem, ⟨6, _⟩ => ⟨S1152x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1152x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ReferenceInIdeal.lean ====
abbrev S8192x2304 : Shape := ⟨2, ![8192, 2304]⟩
abbrev S8192x1024 : Shape := ⟨2, ![8192, 1024]⟩
abbrev S_ : Shape := ⟨0, ![]⟩
abbrev S1024x2304 : Shape := ⟨2, ![1024, 2304]⟩
abbrev S2304x1024 : Shape := ⟨2, ![2304, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S8192x1024, .bf16⟩
  | .hbm, ⟨2, _⟩ => ⟨S_, .f32⟩
  | .hbm, ⟨3, _⟩ => ⟨S1024x2304, .f32⟩
  | .hbm, ⟨4, _⟩ => ⟨S8192x1024, .f32⟩
  | .hbm, ⟨5, _⟩ => ⟨S8192x2304, .f32⟩
  | .hbm, ⟨6, _⟩ => ⟨S8192x2304, .f32⟩
  | .hbm, ⟨7, _⟩ => ⟨S2304x1024, .f32⟩
  | .hbm, ⟨8, _⟩ => ⟨S1024x2304, .f32⟩
  | .hbm, ⟨9, _⟩ => ⟨S2304x1024, .f32⟩
  | .hbm, ⟨10, _⟩ => ⟨S2304x1024, .bf16⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== KernelOut.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ReferenceOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KernelProj.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S2304x1024 : Shape := ⟨2, ![2304, 1024]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 9
  | .vmem => 11
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S2304x1024, .f32⟩
  | .hbm, ⟨6, _⟩ => ⟨S2304x1024, .bf16⟩
  | .hbm, ⟨7, _⟩ => ⟨S8192x1024, .f32⟩
  | .hbm, ⟨8, _⟩ => ⟨S1x1024, .f32⟩
  | .local _ .vmem, ⟨0, _⟩ => ⟨S1024x2304, .bf16⟩
  | .local _ .vmem, ⟨1, _⟩ => ⟨S1024x2304, .bf16⟩
  | .local _ .vmem, ⟨2, _⟩ => ⟨S2304x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2304, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2304 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceProjIdeal.lean ====
abbrev S8192x2304 : Shape := ⟨2, ![8192, 2304]⟩
abbrev S1024x2304 : Shape := ⟨2, ![1024, 2304]⟩
abbrev S8192x1024 : Shape := ⟨2, ![8192, 1024]⟩
abbrev S1x1024 : Shape := ⟨2, ![1, 1024]⟩
abbrev S1024 : Shape := ⟨1, ![1024]⟩
abbrev S_ : Shape := ⟨0, ![]⟩
abbrev S8192 : Shape := ⟨1, ![8192]⟩
abbrev S8192x1 : Shape := ⟨2, ![8192, 1]⟩

abbrev nBuf : Space → Nat
  | .hbm => 56
  | .vmem => 0
  | .smem => 0
  | _ => 0

abbrev bufTy : (tb : Table) → Fin (tcTables nBuf tb) → BufTy
  | .hbm, ⟨0, _⟩ => ⟨S8192x2304, .bf16⟩
  | .hbm, ⟨1, _⟩ => ⟨S1024x2304, .f32⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2304, .f32⟩
  | .hbm, ⟨27, _⟩ => ⟨S8192x2304, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S8192x1024, .f32⟩
  | .hbm, ⟨38, _⟩ => ⟨S_, .f32⟩
  | .hbm, ⟨39, _⟩ => ⟨S8192, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S1x1024, .f32⟩
  | .hbm, ⟨55, _⟩ => ⟨S8192x1024, .f32⟩
  | _, _ => ⟨S8192x2304, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_cst_5 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_v32 : Ref sig .tc := ⟨.hbm, 45, rfl⟩
abbrev main_v33 : Ref sig .tc := ⟨.hbm, 46, rfl⟩
abbrev main_cst_7 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩

abbrev nD : Nat := 1
abbrev τ : Topo := Topo.v7x

variable {F : FTy → Type} [FloatOps F]
-- ==== KernelNormProj.lean ====
abbrev S8192x1024 : Shape := ⟨2, ![8192, 1024]⟩
abbrev S1x1024 : Shape := ⟨2, ![1, 1024]⟩
abbrev S1024x2304 : Shape := ⟨2, ![1024, 2304]⟩
abbrev S2304x1024 : Shape := ⟨2, ![2304, 1024]⟩
abbrev S8192x2304 : Shape := ⟨2, ![8192, 2304]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S2304x1024, .f32⟩
  | .hbm, ⟨4, _⟩ => ⟨S2304x1024, .bf16⟩
  | .hbm, ⟨5, _⟩ => ⟨S8192x1024, .bf16⟩
  | .hbm, ⟨6, _⟩ => ⟨S8192x2304, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S2304x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x2304, .bf16⟩
  | .local _ .vmem, ⟨7, _⟩ => ⟨S1024x2304, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x2304 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceNormProjIdeal.lean ====
abbrev S8192x1024 : Shape := ⟨2, ![8192, 1024]⟩
abbrev S1x1024 : Shape := ⟨2, ![1, 1024]⟩
abbrev S1024x2304 : Shape := ⟨2, ![1024, 2304]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2304 : Shape := ⟨2, ![8192, 2304]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2304, .f32⟩
  | .hbm, ⟨3, _⟩ => ⟨S1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x2304, .f32⟩
  | .hbm, ⟨22, _⟩ => ⟨S8192x2304, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== KernelFfnFwd.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512x128 : Shape := ⟨2, ![512, 128]⟩
abbrev S512 : Shape := ⟨1, ![512]⟩
abbrev S512x1 : Shape := ⟨2, ![512, 1]⟩

abbrev nBuf : Space → Nat
  | .hbm => 19
  | .vmem => 31
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x2816, .bf16⟩
  | .hbm, ⟨16, _⟩ => ⟨S8192x2816, .bf16⟩
  | .hbm, ⟨17, _⟩ => ⟨S8192x2816, .bf16⟩
  | .hbm, ⟨18, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S1408x1024, .bf16⟩
  | .local _ .vmem, ⟨21, _⟩ => ⟨S1408x1024, .bf16⟩
  | .local _ .vmem, ⟨22, _⟩ => ⟨S1408x1024, .bf16⟩
  | .local _ .vmem, ⟨23, _⟩ => ⟨S512x1408, .bf16⟩
  | .local _ .vmem, ⟨24, _⟩ => ⟨S512x1408, .bf16⟩
  | .local _ .vmem, ⟨25, _⟩ => ⟨S512x1408, .bf16⟩
  | .local _ .vmem, ⟨26, _⟩ => ⟨S512x1408, .bf16⟩
  | .local _ .vmem, ⟨27, _⟩ => ⟨S512x1408, .bf16⟩
  | .local _ .vmem, ⟨28, _⟩ => ⟨S512x1408, .bf16⟩
  | .local _ .vmem, ⟨29, _⟩ => ⟨S512x1024, .f32⟩
  | .local _ .vmem, ⟨30, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v6_0 : Ref sig .tc := ⟨.hbm, 15, rfl⟩
abbrev main_v6_1 : Ref sig .tc := ⟨.hbm, 16, rfl⟩
abbrev main_v6_2 : Ref sig .tc := ⟨.hbm, 17, rfl⟩
abbrev main_v6_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg3_0 : Ref sig .tc := ⟨.vmem, 21, rfl⟩
abbrev cc1_stg4_0 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_stg7_1 : Ref sig .tc := ⟨.vmem, 28, rfl⟩
abbrev cc1_stg8_0 : Ref sig .tc := ⟨.vmem, 29, rfl⟩
abbrev cc1_stg8_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem3_0 : DmaSem sig := 21
abbrev cc1_sem4_0 : DmaSem sig := 22
abbrev cc1_sem5_0 : DmaSem sig := 23
abbrev cc1_sem5_1 : DmaSem sig := 24
abbrev cc1_sem6_0 : DmaSem sig := 25
abbrev cc1_sem6_1 : DmaSem sig := 26
abbrev cc1_sem7_0 : DmaSem sig := 27
abbrev cc1_sem7_1 : DmaSem sig := 28
abbrev cc1_sem8_0 : DmaSem sig := 29
abbrev cc1_sem8_1 : DmaSem sig := 30

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_3 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_4 (i : grid1.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc1_transform_8 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_9 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_10 (i : grid1.Coords) : Fin 2 → Nat :=
  let arg0 : BitVec 32 := BitVec.ofNat 32 (i 0).val
  let c1_i32 : BitVec 32 := 1#32
  let c0_i32 : BitVec 32 := 0#32
  ![arg0.toNat, c1_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1408x1024 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1408x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1408x1024 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S512x1408 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512x1408 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x1408 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]
-- ==== ReferenceFfnFwdIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S8192x2816 : Shape := ⟨2, ![8192, 2816]⟩

abbrev nBuf : Space → Nat
  | .hbm => 40
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S_, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x1024, .bf16⟩
  | .hbm, ⟨35, _⟩ => ⟨S8192x2816, .bf16⟩
  | .hbm, ⟨36, _⟩ => ⟨S8192x2816, .bf16⟩
  | .hbm, ⟨37, _⟩ => ⟨S8192x2816, .bf16⟩
  | .hbm, ⟨38, _⟩ => ⟨S8192x1024, .f32⟩
  | .hbm, ⟨39, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩

abbrev nD : Nat := 1
abbrev τ : Topo := Topo.v7x

variable {F : FTy → Type} [FloatOps F]
-- ==== KernelStepNorm.lean ====
abbrev S2x1024 : Shape := ⟨2, ![2, 1024]⟩

abbrev nBuf : Space → Nat
  | .hbm => 7
  | .vmem => 7
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceStepNormIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepConv.lean ====
abbrev S2x3x64 : Shape := ⟨3, ![2, 3, 64]⟩
abbrev S6x64 : Shape := ⟨2, ![6, 64]⟩

abbrev nBuf : Space → Nat
  | .hbm => 11
  | .vmem => 7
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S6x64, .f32⟩
  | .hbm, ⟨5, _⟩ => ⟨S6x64, .f32⟩
  | .hbm, ⟨6, _⟩ => ⟨S6x64, .f32⟩
  | .hbm, ⟨7, _⟩ => ⟨S6x64, .f32⟩
  | .hbm, ⟨8, _⟩ => ⟨S6x64, .f32⟩
  | .hbm, ⟨9, _⟩ => ⟨S6x64, .f32⟩
  | .hbm, ⟨10, _⟩ => ⟨S6x64, .f32⟩
  | .local _ .vmem, ⟨0, _⟩ => ⟨S6x64, .f32⟩
  | .local _ .vmem, ⟨1, _⟩ => ⟨S6x64, .f32⟩
  | .local _ .vmem, ⟨2, _⟩ => ⟨S6x64, .f32⟩
  | .local _ .vmem, ⟨3, _⟩ => ⟨S6x64, .f32⟩
  | .local _ .vmem, ⟨4, _⟩ => ⟨S6x64, .f32⟩
  | .local _ .vmem, ⟨5, _⟩ => ⟨S6x64, .f32⟩
  | .local _ .vmem, ⟨6, _⟩ => ⟨S6x64, .f32⟩
  | _, _ => ⟨S2x3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S6x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S6x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S6x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S6x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S6x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S6x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S6x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceStepConvIdeal.lean ====
abbrev S2x3x64 : Shape := ⟨3, ![2, 3, 64]⟩
abbrev S_ : Shape := ⟨0, ![]⟩
abbrev S6x64 : Shape := ⟨2, ![6, 64]⟩

abbrev nBuf : Space → Nat
  | .hbm => 40
  | .vmem => 0
  | .smem => 0
  | _ => 0

abbrev bufTy : (tb : Table) → Fin (tcTables nBuf tb) → BufTy
  | .hbm, ⟨0, _⟩ => ⟨S2x3x64, .f32⟩
  | .hbm, ⟨1, _⟩ => ⟨S2x3x64, .f32⟩
  | .hbm, ⟨2, _⟩ => ⟨S2x3x64, .f32⟩
  | .hbm, ⟨3, _⟩ => ⟨S2x3x64, .f32⟩
  | .hbm, ⟨4, _⟩ => ⟨S_, .f32⟩
  | .hbm, ⟨5, _⟩ => ⟨S2x3x64, .f32⟩
  | .hbm, ⟨6, _⟩ => ⟨S2x3x64, .f32⟩
  | .hbm, ⟨7, _⟩ => ⟨S_, .f32⟩
  | .hbm, ⟨8, _⟩ => ⟨S2x3x64, .f32⟩
  | .hbm, ⟨9, _⟩ => ⟨S2x3x64, .f32⟩
  | .hbm, ⟨10, _⟩ => ⟨S2x3x64, .f32⟩
  | .hbm, ⟨11, _⟩ => ⟨S_, .f32⟩
  | .hbm, ⟨12, _⟩ => ⟨S2x3x64, .f32⟩
  | .hbm, ⟨13, _⟩ => ⟨S2x3x64, .f32⟩
  | .hbm, ⟨14, _⟩ => ⟨S2x3x64, .f32⟩
  | .hbm, ⟨15, _⟩ => ⟨S_, .f32⟩
  | .hbm, ⟨16, _⟩ => ⟨S2x3x64, .f32⟩
  | .hbm, ⟨17, _⟩ => ⟨S2x3x64, .f32⟩
  | .hbm, ⟨18, _⟩ => ⟨S2x3x64, .f32⟩
  | .hbm, ⟨19, _⟩ => ⟨S_, .f32⟩
  | .hbm, ⟨20, _⟩ => ⟨S2x3x64, .f32⟩
  | .hbm, ⟨21, _⟩ => ⟨S2x3x64, .f32⟩
  | .hbm, ⟨22, _⟩ => ⟨S_, .f32⟩
  | .hbm, ⟨23, _⟩ => ⟨S2x3x64, .f32⟩
  | .hbm, ⟨24, _⟩ => ⟨S2x3x64, .f32⟩
  | .hbm, ⟨25, _⟩ => ⟨S2x3x64, .f32⟩
  | .hbm, ⟨26, _⟩ => ⟨S_, .f32⟩
  | .hbm, ⟨27, _⟩ => ⟨S2x3x64, .f32⟩
  | .hbm, ⟨28, _⟩ => ⟨S2x3x64, .f32⟩
  | .hbm, ⟨29, _⟩ => ⟨S2x3x64, .f32⟩
  | .hbm, ⟨30, _⟩ => ⟨S_, .f32⟩
  | .hbm, ⟨31, _⟩ => ⟨S2x3x64, .f32⟩
  | .hbm, ⟨32, _⟩ => ⟨S2x3x64, .f32⟩
  | .hbm, ⟨33, _⟩ => ⟨S2x3x64, .f32⟩
  | .hbm, ⟨34, _⟩ => ⟨S_, .f32⟩
  | .hbm, ⟨35, _⟩ => ⟨S2x3x64, .f32⟩
  | .hbm, ⟨36, _⟩ => ⟨S2x3x64, .f32⟩
  | .hbm, ⟨37, _⟩ => ⟨S6x64, .f32⟩
  | .hbm, ⟨38, _⟩ => ⟨S6x64, .f32⟩
  | .hbm, ⟨39, _⟩ => ⟨S6x64, .f32⟩
  | _, _ => ⟨S2x3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩

abbrev nD : Nat := 1
abbrev τ : Topo := Topo.v7x

variable {F : FTy → Type} [FloatOps F]
-- ==== KernelStepHead.lean ====
abbrev S2x64 : Shape := ⟨2, ![2, 64]⟩

abbrev nBuf : Space → Nat
  | .hbm => 7
  | .vmem => 7
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S2x64, .f32⟩
  | .hbm, ⟨5, _⟩ => ⟨S2x64, .f32⟩
  | .hbm, ⟨6, _⟩ => ⟨S2x64, .f32⟩
  | .local _ .vmem, ⟨0, _⟩ => ⟨S2x64, .f32⟩
  | .local _ .vmem, ⟨1, _⟩ => ⟨S2x64, .f32⟩
  | .local _ .vmem, ⟨2, _⟩ => ⟨S2x64, .f32⟩
  | .local _ .vmem, ⟨3, _⟩ => ⟨S2x64, .f32⟩
  | .local _ .vmem, ⟨4, _⟩ => ⟨S2x64, .f32⟩
  | .local _ .vmem, ⟨5, _⟩ => ⟨S2x64, .f32⟩
  | .local _ .vmem, ⟨6, _⟩ => ⟨S2x64, .f32⟩
  | _, _ => ⟨S2x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceStepHeadIdeal.lean ====
abbrev S2x64 : Shape := ⟨2, ![2, 64]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x64, .f32⟩
  | .hbm, ⟨1, _⟩ => ⟨S2x64, .f32⟩
  | .hbm, ⟨2, _⟩ => ⟨S2x64, .f32⟩
  | .hbm, ⟨3, _⟩ => ⟨S2x64, .f32⟩
  | .hbm, ⟨4, _⟩ => ⟨S_, .f32⟩
  | .hbm, ⟨5, _⟩ => ⟨S2x64, .f32⟩
  | .hbm, ⟨6, _⟩ => ⟨S2x64, .f32⟩
  | .hbm, ⟨7, _⟩ => ⟨S_, .f32⟩
  | .hbm, ⟨8, _⟩ => ⟨S2x64, .f32⟩
  | .hbm, ⟨9, _⟩ => ⟨S2x64, .f32⟩
  | .hbm, ⟨10, _⟩ => ⟨S2x64, .f32⟩
  | .hbm, ⟨11, _⟩ => ⟨S_, .f32⟩
  | .hbm, ⟨12, _⟩ => ⟨S2x64, .f32⟩
  | .hbm, ⟨13, _⟩ => ⟨S2x64, .f32⟩
  | .hbm, ⟨14, _⟩ => ⟨S2x64, .f32⟩
  | .hbm, ⟨15, _⟩ => ⟨S_, .f32⟩
  | .hbm, ⟨16, _⟩ => ⟨S2x64, .f32⟩
  | .hbm, ⟨17, _⟩ => ⟨S2x64, .f32⟩
  | .hbm, ⟨18, _⟩ => ⟨S2x64, .f32⟩
  | .hbm, ⟨19, _⟩ => ⟨S_, .f32⟩
  | .hbm, ⟨20, _⟩ => ⟨S2x64, .f32⟩
  | .hbm, ⟨21, _⟩ => ⟨S2x64, .f32⟩
  | .hbm, ⟨22, _⟩ => ⟨S_, .f32⟩
  | .hbm, ⟨23, _⟩ => ⟨S2x64, .f32⟩
  | .hbm, ⟨24, _⟩ => ⟨S2x64, .f32⟩
  | .hbm, ⟨25, _⟩ => ⟨S2x64, .f32⟩
  | .hbm, ⟨26, _⟩ => ⟨S_, .f32⟩
  | .hbm, ⟨27, _⟩ => ⟨S2x64, .f32⟩
  | .hbm, ⟨28, _⟩ => ⟨S2x64, .f32⟩
  | .hbm, ⟨29, _⟩ => ⟨S2x64, .f32⟩
  | .hbm, ⟨30, _⟩ => ⟨S_, .f32⟩
  | .hbm, ⟨31, _⟩ => ⟨S2x64, .f32⟩
  | .hbm, ⟨32, _⟩ => ⟨S2x64, .f32⟩
  | .hbm, ⟨33, _⟩ => ⟨S2x64, .f32⟩
  | .hbm, ⟨34, _⟩ => ⟨S_, .f32⟩
  | .hbm, ⟨35, _⟩ => ⟨S2x64, .f32⟩
  | .hbm, ⟨36, _⟩ => ⟨S2x64, .f32⟩
  | _, _ => ⟨S2x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepSinks.lean ====
abbrev S2x8 : Shape := ⟨2, ![2, 8]⟩

abbrev nBuf : Space → Nat
  | .hbm => 7
  | .vmem => 7
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S2x8, .f32⟩
  | .hbm, ⟨5, _⟩ => ⟨S2x8, .f32⟩
  | .hbm, ⟨6, _⟩ => ⟨S2x8, .f32⟩
  | .local _ .vmem, ⟨0, _⟩ => ⟨S2x8, .f32⟩
  | .local _ .vmem, ⟨1, _⟩ => ⟨S2x8, .f32⟩
  | .local _ .vmem, ⟨2, _⟩ => ⟨S2x8, .f32⟩
  | .local _ .vmem, ⟨3, _⟩ => ⟨S2x8, .f32⟩
  | .local _ .vmem, ⟨4, _⟩ => ⟨S2x8, .f32⟩
  | .local _ .vmem, ⟨5, _⟩ => ⟨S2x8, .f32⟩
  | .local _ .vmem, ⟨6, _⟩ => ⟨S2x8, .f32⟩
  | _, _ => ⟨S2x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x8 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceStepSinksIdeal.lean ====
abbrev S2x8 : Shape := ⟨2, ![2, 8]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x8, .f32⟩
  | .hbm, ⟨1, _⟩ => ⟨S2x8, .f32⟩
  | .hbm, ⟨2, _⟩ => ⟨S2x8, .f32⟩
  | .hbm, ⟨3, _⟩ => ⟨S2x8, .f32⟩
  | .hbm, ⟨4, _⟩ => ⟨S_, .f32⟩
  | .hbm, ⟨5, _⟩ => ⟨S2x8, .f32⟩
  | .hbm, ⟨6, _⟩ => ⟨S2x8, .f32⟩
  | .hbm, ⟨7, _⟩ => ⟨S_, .f32⟩
  | .hbm, ⟨8, _⟩ => ⟨S2x8, .f32⟩
  | .hbm, ⟨9, _⟩ => ⟨S2x8, .f32⟩
  | .hbm, ⟨10, _⟩ => ⟨S2x8, .f32⟩
  | .hbm, ⟨11, _⟩ => ⟨S_, .f32⟩
  | .hbm, ⟨12, _⟩ => ⟨S2x8, .f32⟩
  | .hbm, ⟨13, _⟩ => ⟨S2x8, .f32⟩
  | .hbm, ⟨14, _⟩ => ⟨S2x8, .f32⟩
  | .hbm, ⟨15, _⟩ => ⟨S_, .f32⟩
  | .hbm, ⟨16, _⟩ => ⟨S2x8, .f32⟩
  | .hbm, ⟨17, _⟩ => ⟨S2x8, .f32⟩
  | .hbm, ⟨18, _⟩ => ⟨S2x8, .f32⟩
  | .hbm, ⟨19, _⟩ => ⟨S_, .f32⟩
  | .hbm, ⟨20, _⟩ => ⟨S2x8, .f32⟩
  | .hbm, ⟨21, _⟩ => ⟨S2x8, .f32⟩
  | .hbm, ⟨22, _⟩ => ⟨S_, .f32⟩
  | .hbm, ⟨23, _⟩ => ⟨S2x8, .f32⟩
  | .hbm, ⟨24, _⟩ => ⟨S2x8, .f32⟩
  | .hbm, ⟨25, _⟩ => ⟨S2x8, .f32⟩
  | .hbm, ⟨26, _⟩ => ⟨S_, .f32⟩
  | .hbm, ⟨27, _⟩ => ⟨S2x8, .f32⟩
  | .hbm, ⟨28, _⟩ => ⟨S2x8, .f32⟩
  | .hbm, ⟨29, _⟩ => ⟨S2x8, .f32⟩
  | .hbm, ⟨30, _⟩ => ⟨S_, .f32⟩
  | .hbm, ⟨31, _⟩ => ⟨S2x8, .f32⟩
  | .hbm, ⟨32, _⟩ => ⟨S2x8, .f32⟩
  | .hbm, ⟨33, _⟩ => ⟨S2x8, .f32⟩
  | .hbm, ⟨34, _⟩ => ⟨S_, .f32⟩
  | .hbm, ⟨35, _⟩ => ⟨S2x8, .f32⟩
  | .hbm, ⟨36, _⟩ => ⟨S2x8, .f32⟩
  | _, _ => ⟨S2x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepOut.lean ====
abbrev S2x512 : Shape := ⟨2, ![2, 512]⟩

abbrev nBuf : Space → Nat
  | .hbm => 7
  | .vmem => 7
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S2x512, .f32⟩
  | .hbm, ⟨5, _⟩ => ⟨S2x512, .f32⟩
  | .hbm, ⟨6, _⟩ => ⟨S2x512, .f32⟩
  | .local _ .vmem, ⟨0, _⟩ => ⟨S2x512, .f32⟩
  | .local _ .vmem, ⟨1, _⟩ => ⟨S2x512, .f32⟩
  | .local _ .vmem, ⟨2, _⟩ => ⟨S2x512, .f32⟩
  | .local _ .vmem, ⟨3, _⟩ => ⟨S2x512, .f32⟩
  | .local _ .vmem, ⟨4, _⟩ => ⟨S2x512, .f32⟩
  | .local _ .vmem, ⟨5, _⟩ => ⟨S2x512, .f32⟩
  | .local _ .vmem, ⟨6, _⟩ => ⟨S2x512, .f32⟩
  | _, _ => ⟨S2x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== ReferenceStepOutIdeal.lean ====
abbrev S2x512 : Shape := ⟨2, ![2, 512]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x512, .f32⟩
  | .hbm, ⟨1, _⟩ => ⟨S2x512, .f32⟩
  | .hbm, ⟨2, _⟩ => ⟨S2x512, .f32⟩
  | .hbm, ⟨3, _⟩ => ⟨S2x512, .f32⟩
  | .hbm, ⟨4, _⟩ => ⟨S_, .f32⟩
  | .hbm, ⟨5, _⟩ => ⟨S2x512, .f32⟩
  | .hbm, ⟨6, _⟩ => ⟨S2x512, .f32⟩
  | .hbm, ⟨7, _⟩ => ⟨S_, .f32⟩
  | .hbm, ⟨8, _⟩ => ⟨S2x512, .f32⟩
  | .hbm, ⟨9, _⟩ => ⟨S2x512, .f32⟩
  | .hbm, ⟨10, _⟩ => ⟨S2x512, .f32⟩
  | .hbm, ⟨11, _⟩ => ⟨S_, .f32⟩
  | .hbm, ⟨12, _⟩ => ⟨S2x512, .f32⟩
  | .hbm, ⟨13, _⟩ => ⟨S2x512, .f32⟩
  | .hbm, ⟨14, _⟩ => ⟨S2x512, .f32⟩
  | .hbm, ⟨15, _⟩ => ⟨S_, .f32⟩
  | .hbm, ⟨16, _⟩ => ⟨S2x512, .f32⟩
  | .hbm, ⟨17, _⟩ => ⟨S2x512, .f32⟩
  | .hbm, ⟨18, _⟩ => ⟨S2x512, .f32⟩
  | .hbm, ⟨19, _⟩ => ⟨S_, .f32⟩
  | .hbm, ⟨20, _⟩ => ⟨S2x512, .f32⟩
  | .hbm, ⟨21, _⟩ => ⟨S2x512, .f32⟩
  | .hbm, ⟨22, _⟩ => ⟨S_, .f32⟩
  | .hbm, ⟨23, _⟩ => ⟨S2x512, .f32⟩
  | .hbm, ⟨24, _⟩ => ⟨S2x512, .f32⟩
  | .hbm, ⟨25, _⟩ => ⟨S2x512, .f32⟩
  | .hbm, ⟨26, _⟩ => ⟨S_, .f32⟩
  | .hbm, ⟨27, _⟩ => ⟨S2x512, .f32⟩
  | .hbm, ⟨28, _⟩ => ⟨S2x512, .f32⟩
  | .hbm, ⟨29, _⟩ => ⟨S2x512, .f32⟩
  | .hbm, ⟨30, _⟩ => ⟨S_, .f32⟩
  | .hbm, ⟨31, _⟩ => ⟨S2x512, .f32⟩
  | .hbm, ⟨32, _⟩ => ⟨S2x512, .f32⟩
  | .hbm, ⟨33, _⟩ => ⟨S2x512, .f32⟩
  | .hbm, ⟨34, _⟩ => ⟨S_, .f32⟩
  | .hbm, ⟨35, _⟩ => ⟨S2x512, .f32⟩
  | .hbm, ⟨36, _⟩ => ⟨S2x512, .f32⟩
  | _, _ => ⟨S2x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== KernelStepWo.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩

abbrev nBuf : Space → Nat
  | .hbm => 15
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S_, .i32⟩
  | .hbm, ⟨10, _⟩ => ⟨S1, .i32⟩
  | .hbm, ⟨11, _⟩ => ⟨S2x128x1024, .f32⟩
  | .hbm, ⟨12, _⟩ => ⟨S2x128x1024, .f32⟩
  | .hbm, ⟨13, _⟩ => ⟨S2x128x1024, .f32⟩
  | .hbm, ⟨14, _⟩ => ⟨S2x128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepWoIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S_ : Shape := ⟨0, ![]⟩
abbrev S2x1x1 : Shape := ⟨3, ![2, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S1x128x1024, .bf16⟩
  | .hbm, ⟨10, _⟩ => ⟨S128x1024, .bf16⟩
  | .hbm, ⟨11, _⟩ => ⟨S128x1024, .f32⟩
  | .hbm, ⟨12, _⟩ => ⟨S7x128x1024, .f32⟩
  | .hbm, ⟨13, _⟩ => ⟨S_, .f32⟩
  | .hbm, ⟨14, _⟩ => ⟨S128x1024, .f32⟩
  | .hbm, ⟨15, _⟩ => ⟨S128x1024, .f32⟩
  | .hbm, ⟨16, _⟩ => ⟨S2x1x1, .i32⟩
  | .hbm, ⟨17, _⟩ => ⟨S_, .i32⟩
  | .hbm, ⟨18, _⟩ => ⟨S2x1x1, .i32⟩
  | .hbm, ⟨19, _⟩ => ⟨S2x1x1, .i1⟩
  | .hbm, ⟨20, _⟩ => ⟨S1x128x1024, .f32⟩
  | .hbm, ⟨21, _⟩ => ⟨S128x1024, .f32⟩
  | .hbm, ⟨22, _⟩ => ⟨S1x128x1024, .f32⟩
  | .hbm, ⟨23, _⟩ => ⟨S128x1024, .f32⟩
  | .hbm, ⟨24, _⟩ => ⟨S1x128x1024, .f32⟩
  | .hbm, ⟨25, _⟩ => ⟨S128x1024, .f32⟩
  | .hbm, ⟨26, _⟩ => ⟨S_, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | .hbm, ⟨40, _⟩ => ⟨S128x1024, .f32⟩
  | .hbm, ⟨41, _⟩ => ⟨S_, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | .hbm, ⟨51, _⟩ => ⟨S128x1024, .f32⟩
  | .hbm, ⟨52, _⟩ => ⟨S_, .f32⟩
  | .hbm, ⟨53, _⟩ => ⟨S128x1024, .f32⟩
  | .hbm, ⟨54, _⟩ => ⟨S128x1024, .f32⟩
  | .hbm, ⟨55, _⟩ => ⟨S128x1024, .f32⟩
  | .hbm, ⟨56, _⟩ => ⟨S_, .f32⟩
  | .hbm, ⟨57, _⟩ => ⟨S128x1024, .f32⟩
  | .hbm, ⟨58, _⟩ => ⟨S128x1024, .f32⟩
  | .hbm, ⟨59, _⟩ => ⟨S1x128x1024, .f32⟩
  | .hbm, ⟨60, _⟩ => ⟨S2x128x1024, .i1⟩
  | .hbm, ⟨61, _⟩ => ⟨S2x128x1024, .f32⟩
  | .hbm, ⟨62, _⟩ => ⟨S2x128x1024, .f32⟩
  | .hbm, ⟨63, _⟩ => ⟨S1x128x1024, .f32⟩
  | .hbm, ⟨64, _⟩ => ⟨S2x128x1024, .i1⟩
  | .hbm, ⟨65, _⟩ => ⟨S2x128x1024, .f32⟩
  | .hbm, ⟨66, _⟩ => ⟨S2x128x1024, .f32⟩
  | .hbm, ⟨67, _⟩ => ⟨S1x128x1024, .f32⟩
  | .hbm, ⟨68, _⟩ => ⟨S2x128x1024, .i1⟩
  | .hbm, ⟨69, _⟩ => ⟨S2x128x1024, .f32⟩
  | .hbm, ⟨70, _⟩ => ⟨S2x128x1024, .f32⟩
  | .hbm, ⟨71, _⟩ => ⟨S1x128x1024, .f32⟩
  | .hbm, ⟨72, _⟩ => ⟨S2x128x1024, .i1⟩
  | .hbm, ⟨73, _⟩ => ⟨S2x128x1024, .f32⟩
  | .hbm, ⟨74, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_v44 : Ref sig .tc := ⟨.hbm, 70, rfl⟩
abbrev main_v45 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== KernelStepIn.lean ====
abbrev S8x288x1024 : Shape := ⟨3, ![8, 288, 1024]⟩
abbrev S7x288x1024 : Shape := ⟨3, ![7, 288, 1024]⟩
abbrev S2x288x1024 : Shape := ⟨3, ![2, 288, 1024]⟩
abbrev S_ : Shape := ⟨0, ![]⟩
abbrev S1 : Shape := ⟨1, ![1]⟩
abbrev S1x144x1024 : Shape := ⟨3, ![1, 144, 1024]⟩
abbrev S7x144x1024 : Shape := ⟨3, ![7, 144, 1024]⟩
abbrev S144x1024 : Shape := ⟨2, ![144, 1024]⟩

abbrev nBuf : Space → Nat
  | .hbm => 15
  | .vmem => 18
  | .smem => 1
  | _ => 0

abbrev bufTy : (tb : Table) → Fin (tcTables nBuf tb) → BufTy
  | .hbm, ⟨0, _⟩ => ⟨S8x288x1024, .bf16⟩
  | .hbm, ⟨1, _⟩ => ⟨S7x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S2x288x1024, .f32⟩
  | .hbm, ⟨6, _⟩ => ⟨S2x288x1024, .f32⟩
  | .hbm, ⟨7, _⟩ => ⟨S2x288x1024, .f32⟩
  | .hbm, ⟨8, _⟩ => ⟨S2x288x1024, .f32⟩
  | .hbm, ⟨9, _⟩ => ⟨S_, .i32⟩
  | .hbm, ⟨10, _⟩ => ⟨S1, .i32⟩
  | .hbm, ⟨11, _⟩ => ⟨S2x288x1024, .f32⟩
  | .hbm, ⟨12, _⟩ => ⟨S2x288x1024, .f32⟩
  | .hbm, ⟨13, _⟩ => ⟨S2x288x1024, .f32⟩
  | .hbm, ⟨14, _⟩ => ⟨S2x288x1024, .f32⟩
  | .local _ .vmem, ⟨0, _⟩ => ⟨S1x144x1024, .bf16⟩
  | .local _ .vmem, ⟨1, _⟩ => ⟨S1x144x1024, .bf16⟩
  | .local _ .vmem, ⟨2, _⟩ => ⟨S7x144x1024, .bf16⟩
  | .local _ .vmem, ⟨3, _⟩ => ⟨S7x144x1024, .bf16⟩
  | .local _ .vmem, ⟨4, _⟩ => ⟨S1x144x1024, .f32⟩
  | .local _ .vmem, ⟨5, _⟩ => ⟨S1x144x1024, .f32⟩
  | .local _ .vmem, ⟨6, _⟩ => ⟨S1x144x1024, .f32⟩
  | .local _ .vmem, ⟨7, _⟩ => ⟨S1x144x1024, .f32⟩
  | .local _ .vmem, ⟨8, _⟩ => ⟨S1x144x1024, .f32⟩
  | .local _ .vmem, ⟨9, _⟩ => ⟨S1x144x1024, .f32⟩
  | .local _ .vmem, ⟨10, _⟩ => ⟨S1x144x1024, .f32⟩
  | .local _ .vmem, ⟨11, _⟩ => ⟨S1x144x1024, .f32⟩
  | .local _ .vmem, ⟨12, _⟩ => ⟨S1x144x1024, .f32⟩
  | .local _ .vmem, ⟨13, _⟩ => ⟨S1x144x1024, .f32⟩
  | .local _ .vmem, ⟨14, _⟩ => ⟨S1x144x1024, .f32⟩
  | .local _ .vmem, ⟨15, _⟩ => ⟨S1x144x1024, .f32⟩
  | .local _ .vmem, ⟨16, _⟩ => ⟨S1x144x1024, .f32⟩
  | .local _ .vmem, ⟨17, _⟩ => ⟨S1x144x1024, .f32⟩
  | .local _ .smem, ⟨0, _⟩ => ⟨S1, .i32⟩
  | _, _ => ⟨S8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepInIdeal.lean ====
abbrev S8x288x1024 : Shape := ⟨3, ![8, 288, 1024]⟩
abbrev S7x288x1024 : Shape := ⟨3, ![7, 288, 1024]⟩
abbrev S2x288x1024 : Shape := ⟨3, ![2, 288, 1024]⟩
abbrev S1x288x1024 : Shape := ⟨3, ![1, 288, 1024]⟩
abbrev S288x1024 : Shape := ⟨2, ![288, 1024]⟩
abbrev S_ : Shape := ⟨0, ![]⟩
abbrev S2x1x1 : Shape := ⟨3, ![2, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x288x1024, .bf16⟩
  | .hbm, ⟨1, _⟩ => ⟨S7x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S2x288x1024, .f32⟩
  | .hbm, ⟨6, _⟩ => ⟨S2x288x1024, .f32⟩
  | .hbm, ⟨7, _⟩ => ⟨S2x288x1024, .f32⟩
  | .hbm, ⟨8, _⟩ => ⟨S2x288x1024, .f32⟩
  | .hbm, ⟨9, _⟩ => ⟨S1x288x1024, .bf16⟩
  | .hbm, ⟨10, _⟩ => ⟨S288x1024, .bf16⟩
  | .hbm, ⟨11, _⟩ => ⟨S288x1024, .f32⟩
  | .hbm, ⟨12, _⟩ => ⟨S7x288x1024, .f32⟩
  | .hbm, ⟨13, _⟩ => ⟨S_, .f32⟩
  | .hbm, ⟨14, _⟩ => ⟨S288x1024, .f32⟩
  | .hbm, ⟨15, _⟩ => ⟨S288x1024, .f32⟩
  | .hbm, ⟨16, _⟩ => ⟨S2x1x1, .i32⟩
  | .hbm, ⟨17, _⟩ => ⟨S_, .i32⟩
  | .hbm, ⟨18, _⟩ => ⟨S2x1x1, .i32⟩
  | .hbm, ⟨19, _⟩ => ⟨S2x1x1, .i1⟩
  | .hbm, ⟨20, _⟩ => ⟨S1x288x1024, .f32⟩
  | .hbm, ⟨21, _⟩ => ⟨S288x1024, .f32⟩
  | .hbm, ⟨22, _⟩ => ⟨S1x288x1024, .f32⟩
  | .hbm, ⟨23, _⟩ => ⟨S288x1024, .f32⟩
  | .hbm, ⟨24, _⟩ => ⟨S1x288x1024, .f32⟩
  | .hbm, ⟨25, _⟩ => ⟨S288x1024, .f32⟩
  | .hbm, ⟨26, _⟩ => ⟨S_, .f32⟩
  | .hbm, ⟨27, _⟩ => ⟨S288x1024, .f32⟩
  | .hbm, ⟨28, _⟩ => ⟨S288x1024, .f32⟩
  | .hbm, ⟨29, _⟩ => ⟨S_, .f32⟩
  | .hbm, ⟨30, _⟩ => ⟨S288x1024, .f32⟩
  | .hbm, ⟨31, _⟩ => ⟨S288x1024, .f32⟩
  | .hbm, ⟨32, _⟩ => ⟨S288x1024, .f32⟩
  | .hbm, ⟨33, _⟩ => ⟨S_, .f32⟩
  | .hbm, ⟨34, _⟩ => ⟨S288x1024, .f32⟩
  | .hbm, ⟨35, _⟩ => ⟨S288x1024, .f32⟩
  | .hbm, ⟨36, _⟩ => ⟨S288x1024, .f32⟩
  | .hbm, ⟨37, _⟩ => ⟨S_, .f32⟩
  | .hbm, ⟨38, _⟩ => ⟨S288x1024, .f32⟩
  | .hbm, ⟨39, _⟩ => ⟨S288x1024, .f32⟩
  | .hbm, ⟨40, _⟩ => ⟨S288x1024, .f32⟩
  | .hbm, ⟨41, _⟩ => ⟨S_, .f32⟩
  | .hbm, ⟨42, _⟩ => ⟨S288x1024, .f32⟩
  | .hbm, ⟨43, _⟩ => ⟨S288x1024, .f32⟩
  | .hbm, ⟨44, _⟩ => ⟨S_, .f32⟩
  | .hbm, ⟨45, _⟩ => ⟨S288x1024, .f32⟩
  | .hbm, ⟨46, _⟩ => ⟨S288x1024, .f32⟩
  | .hbm, ⟨47, _⟩ => ⟨S288x1024, .f32⟩
  | .hbm, ⟨48, _⟩ => ⟨S_, .f32⟩
  | .hbm, ⟨49, _⟩ => ⟨S288x1024, .f32⟩
  | .hbm, ⟨50, _⟩ => ⟨S288x1024, .f32⟩
  | .hbm, ⟨51, _⟩ => ⟨S288x1024, .f32⟩
  | .hbm, ⟨52, _⟩ => ⟨S_, .f32⟩
  | .hbm, ⟨53, _⟩ => ⟨S288x1024, .f32⟩
  | .hbm, ⟨54, _⟩ => ⟨S288x1024, .f32⟩
  | .hbm, ⟨55, _⟩ => ⟨S288x1024, .f32⟩
  | .hbm, ⟨56, _⟩ => ⟨S_, .f32⟩
  | .hbm, ⟨57, _⟩ => ⟨S288x1024, .f32⟩
  | .hbm, ⟨58, _⟩ => ⟨S288x1024, .f32⟩
  | .hbm, ⟨59, _⟩ => ⟨S1x288x1024, .f32⟩
  | .hbm, ⟨60, _⟩ => ⟨S2x288x1024, .i1⟩
  | .hbm, ⟨61, _⟩ => ⟨S2x288x1024, .f32⟩
  | .hbm, ⟨62, _⟩ => ⟨S2x288x1024, .f32⟩
  | .hbm, ⟨63, _⟩ => ⟨S1x288x1024, .f32⟩
  | .hbm, ⟨64, _⟩ => ⟨S2x288x1024, .i1⟩
  | .hbm, ⟨65, _⟩ => ⟨S2x288x1024, .f32⟩
  | .hbm, ⟨66, _⟩ => ⟨S2x288x1024, .f32⟩
  | .hbm, ⟨67, _⟩ => ⟨S1x288x1024, .f32⟩
  | .hbm, ⟨68, _⟩ => ⟨S2x288x1024, .i1⟩
  | .hbm, ⟨69, _⟩ => ⟨S2x288x1024, .f32⟩
  | .hbm, ⟨70, _⟩ => ⟨S2x288x1024, .f32⟩
  | .hbm, ⟨71, _⟩ => ⟨S1x288x1024, .f32⟩
  | .hbm, ⟨72, _⟩ => ⟨S2x288x1024, .i1⟩
  | .hbm, ⟨73, _⟩ => ⟨S2x288x1024, .f32⟩
  | .hbm, ⟨74, _⟩ => ⟨S2x288x1024, .f32⟩
  | _, _ => ⟨S8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_v44 : Ref sig .tc := ⟨.hbm, 70, rfl⟩
abbrev main_v45 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== KernelStepFf.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩

abbrev nBuf : Space → Nat
  | .hbm => 15
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S_, .i32⟩
  | .hbm, ⟨10, _⟩ => ⟨S1, .i32⟩
  | .hbm, ⟨11, _⟩ => ⟨S2x352x1024, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceStepFfIdeal.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩
abbrev S2x1x1 : Shape := ⟨3, ![2, 1, 1]⟩

abbrev nBuf : Space → Nat
  | .hbm => 75
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S1x352x1024, .bf16⟩
  | .hbm, ⟨10, _⟩ => ⟨S352x1024, .bf16⟩
  | .hbm, ⟨11, _⟩ => ⟨S352x1024, .f32⟩
  | .hbm, ⟨12, _⟩ => ⟨S7x352x1024, .f32⟩
  | .hbm, ⟨13, _⟩ => ⟨S_, .f32⟩
  | .hbm, ⟨14, _⟩ => ⟨S352x1024, .f32⟩
  | .hbm, ⟨15, _⟩ => ⟨S352x1024, .f32⟩
  | .hbm, ⟨16, _⟩ => ⟨S2x1x1, .i32⟩
  | .hbm, ⟨17, _⟩ => ⟨S_, .i32⟩
  | .hbm, ⟨18, _⟩ => ⟨S2x1x1, .i32⟩
  | .hbm, ⟨19, _⟩ => ⟨S2x1x1, .i1⟩
  | .hbm, ⟨20, _⟩ => ⟨S1x352x1024, .f32⟩
  | .hbm, ⟨21, _⟩ => ⟨S352x1024, .f32⟩
  | .hbm, ⟨22, _⟩ => ⟨S1x352x1024, .f32⟩
  | .hbm, ⟨23, _⟩ => ⟨S352x1024, .f32⟩
  | .hbm, ⟨24, _⟩ => ⟨S1x352x1024, .f32⟩
  | .hbm, ⟨25, _⟩ => ⟨S352x1024, .f32⟩
  | .hbm, ⟨26, _⟩ => ⟨S_, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | .hbm, ⟨40, _⟩ => ⟨S352x1024, .f32⟩
  | .hbm, ⟨41, _⟩ => ⟨S_, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | .hbm, ⟨51, _⟩ => ⟨S352x1024, .f32⟩
  | .hbm, ⟨52, _⟩ => ⟨S_, .f32⟩
  | .hbm, ⟨53, _⟩ => ⟨S352x1024, .f32⟩
  | .hbm, ⟨54, _⟩ => ⟨S352x1024, .f32⟩
  | .hbm, ⟨55, _⟩ => ⟨S352x1024, .f32⟩
  | .hbm, ⟨56, _⟩ => ⟨S_, .f32⟩
  | .hbm, ⟨57, _⟩ => ⟨S352x1024, .f32⟩
  | .hbm, ⟨58, _⟩ => ⟨S352x1024, .f32⟩
  | .hbm, ⟨59, _⟩ => ⟨S1x352x1024, .f32⟩
  | .hbm, ⟨60, _⟩ => ⟨S2x352x1024, .i1⟩
  | .hbm, ⟨61, _⟩ => ⟨S2x352x1024, .f32⟩
  | .hbm, ⟨62, _⟩ => ⟨S2x352x1024, .f32⟩
  | .hbm, ⟨63, _⟩ => ⟨S1x352x1024, .f32⟩
  | .hbm, ⟨64, _⟩ => ⟨S2x352x1024, .i1⟩
  | .hbm, ⟨65, _⟩ => ⟨S2x352x1024, .f32⟩
  | .hbm, ⟨66, _⟩ => ⟨S2x352x1024, .f32⟩
  | .hbm, ⟨67, _⟩ => ⟨S1x352x1024, .f32⟩
  | .hbm, ⟨68, _⟩ => ⟨S2x352x1024, .i1⟩
  | .hbm, ⟨69, _⟩ => ⟨S2x352x1024, .f32⟩
  | .hbm, ⟨70, _⟩ => ⟨S2x352x1024, .f32⟩
  | .hbm, ⟨71, _⟩ => ⟨S1x352x1024, .f32⟩
  | .hbm, ⟨72, _⟩ => ⟨S2x352x1024, .i1⟩
  | .hbm, ⟨73, _⟩ => ⟨S2x352x1024, .f32⟩
  | .hbm, ⟨74, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_0 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_cst_5 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_call0_v0 : Ref sig .tc := ⟨.hbm, 60, rfl⟩
abbrev main_call0_v1 : Ref sig .tc := ⟨.hbm, 61, rfl⟩
abbrev main_v40 : Ref sig .tc := ⟨.hbm, 62, rfl⟩
abbrev main_v41 : Ref sig .tc := ⟨.hbm, 63, rfl⟩
abbrev main_call1_v0 : Ref sig .tc := ⟨.hbm, 64, rfl⟩
abbrev main_call1_v1 : Ref sig .tc := ⟨.hbm, 65, rfl⟩
abbrev main_v42 : Ref sig .tc := ⟨.hbm, 66, rfl⟩
abbrev main_v43 : Ref sig .tc := ⟨.hbm, 67, rfl⟩
abbrev main_call2_v0 : Ref sig .tc := ⟨.hbm, 68, rfl⟩
abbrev main_call2_v1 : Ref sig .tc := ⟨.hbm, 69, rfl⟩
abbrev main_v44 : Ref sig .tc := ⟨.hbm, 70, rfl⟩
abbrev main_v45 : Ref sig .tc := ⟨.hbm, 71, rfl⟩
abbrev main_call3_v0 : Ref sig .tc := ⟨.hbm, 72, rfl⟩
abbrev main_call3_v1 : Ref sig .tc := ⟨.hbm, 73, rfl⟩
abbrev main_v46 : Ref sig .tc := ⟨.hbm, 74, rfl⟩

abbrev nD : Nat := 1
abbrev τ : Topo := Topo.v7x

variable {F : FTy → Type} [FloatOps F]
-- ==== KernelNextWo.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S_ : Shape := ⟨0, ![]⟩
abbrev S1 : Shape := ⟨1, ![1]⟩
abbrev S1x64x1024 : Shape := ⟨3, ![1, 64, 1024]⟩
abbrev S7x64x1024 : Shape := ⟨3, ![7, 64, 1024]⟩
abbrev S64x1024 : Shape := ⟨2, ![64, 1024]⟩
abbrev S1x128x1024 : Shape := ⟨3, ![1, 128, 1024]⟩
abbrev S128x1024 : Shape := ⟨2, ![128, 1024]⟩

abbrev nBuf : Space → Nat
  | .hbm => 19
  | .vmem => 18
  | .smem => 1
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S_, .i32⟩
  | .hbm, ⟨6, _⟩ => ⟨S1, .i32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S1x128x1024, .f32⟩
  | .hbm, ⟨18, _⟩ => ⟨S128x1024, .f32⟩
  | .local _ .vmem, ⟨0, _⟩ => ⟨S1x64x1024, .bf16⟩
  | .local _ .vmem, ⟨1, _⟩ => ⟨S1x64x1024, .bf16⟩
  | .local _ .vmem, ⟨2, _⟩ => ⟨S7x64x1024, .bf16⟩
  | .local _ .vmem, ⟨3, _⟩ => ⟨S7x64x1024, .bf16⟩
  | .local _ .vmem, ⟨4, _⟩ => ⟨S1x64x1024, .f32⟩
  | .local _ .vmem, ⟨5, _⟩ => ⟨S1x64x1024, .f32⟩
  | .local _ .vmem, ⟨6, _⟩ => ⟨S1x64x1024, .f32⟩
  | .local _ .vmem, ⟨7, _⟩ => ⟨S1x64x1024, .f32⟩
  | .local _ .vmem, ⟨8, _⟩ => ⟨S1x64x1024, .f32⟩
  | .local _ .vmem, ⟨9, _⟩ => ⟨S1x64x1024, .f32⟩
  | .local _ .vmem, ⟨10, _⟩ => ⟨S1x64x1024, .f32⟩
  | .local _ .vmem, ⟨11, _⟩ => ⟨S1x64x1024, .f32⟩
  | .local _ .vmem, ⟨12, _⟩ => ⟨S1x64x1024, .f32⟩
  | .local _ .vmem, ⟨13, _⟩ => ⟨S1x64x1024, .f32⟩
  | .local _ .vmem, ⟨14, _⟩ => ⟨S1x64x1024, .f32⟩
  | .local _ .vmem, ⟨15, _⟩ => ⟨S1x64x1024, .f32⟩
  | .local _ .vmem, ⟨16, _⟩ => ⟨S1x64x1024, .f32⟩
  | .local _ .vmem, ⟨17, _⟩ => ⟨S1x64x1024, .f32⟩
  | .local _ .smem, ⟨0, _⟩ => ⟨S1, .i32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x64x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x64x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x64x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x64x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x64x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNextWoIdeal.lean ====
abbrev S8x128x1024 : Shape := ⟨3, ![8, 128, 1024]⟩
abbrev S7x128x1024 : Shape := ⟨3, ![7, 128, 1024]⟩
abbrev S2x128x1024 : Shape := ⟨3, ![2, 128, 1024]⟩
abbrev S1x128x1024 : Shape := ⟨3, ![1, 128, 1024]⟩
abbrev S128x1024 : Shape := ⟨2, ![128, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S7x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S7x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S1x128x1024, .f32⟩
  | .hbm, ⟨13, _⟩ => ⟨S128x1024, .f32⟩
  | .hbm, ⟨14, _⟩ => ⟨S1x128x1024, .f32⟩
  | .hbm, ⟨15, _⟩ => ⟨S128x1024, .f32⟩
  | .hbm, ⟨16, _⟩ => ⟨S1x128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128x1024, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S_, .f32⟩
  | .hbm, ⟨37, _⟩ => ⟨S128x1024, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1024, .f32⟩
  | .hbm, ⟨42, _⟩ => ⟨S128x1024, .f32⟩
  | .hbm, ⟨43, _⟩ => ⟨S128x1024, .f32⟩
  | .hbm, ⟨44, _⟩ => ⟨S_, .f32⟩
  | .hbm, ⟨45, _⟩ => ⟨S128x1024, .f32⟩
  | .hbm, ⟨46, _⟩ => ⟨S128x1024, .f32⟩
  | .hbm, ⟨47, _⟩ => ⟨S128x1024, .f32⟩
  | .hbm, ⟨48, _⟩ => ⟨S_, .f32⟩
  | .hbm, ⟨49, _⟩ => ⟨S128x1024, .f32⟩
  | .hbm, ⟨50, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelNextIn.lean ====
abbrev S8x288x1024 : Shape := ⟨3, ![8, 288, 1024]⟩
abbrev S7x288x1024 : Shape := ⟨3, ![7, 288, 1024]⟩
abbrev S2x288x1024 : Shape := ⟨3, ![2, 288, 1024]⟩
abbrev S_ : Shape := ⟨0, ![]⟩
abbrev S1 : Shape := ⟨1, ![1]⟩
abbrev S1x144x1024 : Shape := ⟨3, ![1, 144, 1024]⟩
abbrev S7x144x1024 : Shape := ⟨3, ![7, 144, 1024]⟩
abbrev S144x1024 : Shape := ⟨2, ![144, 1024]⟩
abbrev S1x288x1024 : Shape := ⟨3, ![1, 288, 1024]⟩
abbrev S288x1024 : Shape := ⟨2, ![288, 1024]⟩

abbrev nBuf : Space → Nat
  | .hbm => 19
  | .vmem => 18
  | .smem => 1
  | _ => 0

abbrev bufTy : (tb : Table) → Fin (tcTables nBuf tb) → BufTy
  | .hbm, ⟨0, _⟩ => ⟨S8x288x1024, .bf16⟩
  | .hbm, ⟨1, _⟩ => ⟨S7x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S_, .i32⟩
  | .hbm, ⟨6, _⟩ => ⟨S1, .i32⟩
  | .hbm, ⟨7, _⟩ => ⟨S2x288x1024, .f32⟩
  | .hbm, ⟨8, _⟩ => ⟨S2x288x1024, .f32⟩
  | .hbm, ⟨9, _⟩ => ⟨S2x288x1024, .f32⟩
  | .hbm, ⟨10, _⟩ => ⟨S2x288x1024, .f32⟩
  | .hbm, ⟨11, _⟩ => ⟨S1x288x1024, .f32⟩
  | .hbm, ⟨12, _⟩ => ⟨S288x1024, .f32⟩
  | .hbm, ⟨13, _⟩ => ⟨S1x288x1024, .f32⟩
  | .hbm, ⟨14, _⟩ => ⟨S288x1024, .f32⟩
  | .hbm, ⟨15, _⟩ => ⟨S1x288x1024, .f32⟩
  | .hbm, ⟨16, _⟩ => ⟨S288x1024, .f32⟩
  | .hbm, ⟨17, _⟩ => ⟨S1x288x1024, .f32⟩
  | .hbm, ⟨18, _⟩ => ⟨S288x1024, .f32⟩
  | .local _ .vmem, ⟨0, _⟩ => ⟨S1x144x1024, .bf16⟩
  | .local _ .vmem, ⟨1, _⟩ => ⟨S1x144x1024, .bf16⟩
  | .local _ .vmem, ⟨2, _⟩ => ⟨S7x144x1024, .bf16⟩
  | .local _ .vmem, ⟨3, _⟩ => ⟨S7x144x1024, .bf16⟩
  | .local _ .vmem, ⟨4, _⟩ => ⟨S1x144x1024, .f32⟩
  | .local _ .vmem, ⟨5, _⟩ => ⟨S1x144x1024, .f32⟩
  | .local _ .vmem, ⟨6, _⟩ => ⟨S1x144x1024, .f32⟩
  | .local _ .vmem, ⟨7, _⟩ => ⟨S1x144x1024, .f32⟩
  | .local _ .vmem, ⟨8, _⟩ => ⟨S1x144x1024, .f32⟩
  | .local _ .vmem, ⟨9, _⟩ => ⟨S1x144x1024, .f32⟩
  | .local _ .vmem, ⟨10, _⟩ => ⟨S1x144x1024, .f32⟩
  | .local _ .vmem, ⟨11, _⟩ => ⟨S1x144x1024, .f32⟩
  | .local _ .vmem, ⟨12, _⟩ => ⟨S1x144x1024, .f32⟩
  | .local _ .vmem, ⟨13, _⟩ => ⟨S1x144x1024, .f32⟩
  | .local _ .vmem, ⟨14, _⟩ => ⟨S1x144x1024, .f32⟩
  | .local _ .vmem, ⟨15, _⟩ => ⟨S1x144x1024, .f32⟩
  | .local _ .vmem, ⟨16, _⟩ => ⟨S1x144x1024, .f32⟩
  | .local _ .vmem, ⟨17, _⟩ => ⟨S1x144x1024, .f32⟩
  | .local _ .smem, ⟨0, _⟩ => ⟨S1, .i32⟩
  | _, _ => ⟨S8x288x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x144x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x144x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x144x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x144x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x144x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x144x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x144x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x144x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNextInIdeal.lean ====
abbrev S8x288x1024 : Shape := ⟨3, ![8, 288, 1024]⟩
abbrev S7x288x1024 : Shape := ⟨3, ![7, 288, 1024]⟩
abbrev S2x288x1024 : Shape := ⟨3, ![2, 288, 1024]⟩
abbrev S1x288x1024 : Shape := ⟨3, ![1, 288, 1024]⟩
abbrev S288x1024 : Shape := ⟨2, ![288, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x288x1024, .bf16⟩
  | .hbm, ⟨1, _⟩ => ⟨S7x288x1024, .bf16⟩
  | .hbm, ⟨2, _⟩ => ⟨S2x288x1024, .f32⟩
  | .hbm, ⟨3, _⟩ => ⟨S2x288x1024, .f32⟩
  | .hbm, ⟨4, _⟩ => ⟨S2x288x1024, .f32⟩
  | .hbm, ⟨5, _⟩ => ⟨S1x288x1024, .bf16⟩
  | .hbm, ⟨6, _⟩ => ⟨S288x1024, .bf16⟩
  | .hbm, ⟨7, _⟩ => ⟨S288x1024, .f32⟩
  | .hbm, ⟨8, _⟩ => ⟨S7x288x1024, .f32⟩
  | .hbm, ⟨9, _⟩ => ⟨S_, .f32⟩
  | .hbm, ⟨10, _⟩ => ⟨S288x1024, .f32⟩
  | .hbm, ⟨11, _⟩ => ⟨S288x1024, .f32⟩
  | .hbm, ⟨12, _⟩ => ⟨S1x288x1024, .f32⟩
  | .hbm, ⟨13, _⟩ => ⟨S288x1024, .f32⟩
  | .hbm, ⟨14, _⟩ => ⟨S1x288x1024, .f32⟩
  | .hbm, ⟨15, _⟩ => ⟨S288x1024, .f32⟩
  | .hbm, ⟨16, _⟩ => ⟨S1x288x1024, .f32⟩
  | .hbm, ⟨17, _⟩ => ⟨S288x1024, .f32⟩
  | .hbm, ⟨18, _⟩ => ⟨S_, .f32⟩
  | .hbm, ⟨19, _⟩ => ⟨S288x1024, .f32⟩
  | .hbm, ⟨20, _⟩ => ⟨S288x1024, .f32⟩
  | .hbm, ⟨21, _⟩ => ⟨S_, .f32⟩
  | .hbm, ⟨22, _⟩ => ⟨S288x1024, .f32⟩
  | .hbm, ⟨23, _⟩ => ⟨S288x1024, .f32⟩
  | .hbm, ⟨24, _⟩ => ⟨S288x1024, .f32⟩
  | .hbm, ⟨25, _⟩ => ⟨S_, .f32⟩
  | .hbm, ⟨26, _⟩ => ⟨S288x1024, .f32⟩
  | .hbm, ⟨27, _⟩ => ⟨S288x1024, .f32⟩
  | .hbm, ⟨28, _⟩ => ⟨S288x1024, .f32⟩
  | .hbm, ⟨29, _⟩ => ⟨S_, .f32⟩
  | .hbm, ⟨30, _⟩ => ⟨S288x1024, .f32⟩
  | .hbm, ⟨31, _⟩ => ⟨S288x1024, .f32⟩
  | .hbm, ⟨32, _⟩ => ⟨S288x1024, .f32⟩
  | .hbm, ⟨33, _⟩ => ⟨S_, .f32⟩
  | .hbm, ⟨34, _⟩ => ⟨S288x1024, .f32⟩
  | .hbm, ⟨35, _⟩ => ⟨S288x1024, .f32⟩
  | .hbm, ⟨36, _⟩ => ⟨S_, .f32⟩
  | .hbm, ⟨37, _⟩ => ⟨S288x1024, .f32⟩
  | .hbm, ⟨38, _⟩ => ⟨S288x1024, .f32⟩
  | .hbm, ⟨39, _⟩ => ⟨S288x1024, .f32⟩
  | .hbm, ⟨40, _⟩ => ⟨S_, .f32⟩
  | .hbm, ⟨41, _⟩ => ⟨S288x1024, .f32⟩
  | .hbm, ⟨42, _⟩ => ⟨S288x1024, .f32⟩
  | .hbm, ⟨43, _⟩ => ⟨S288x1024, .f32⟩
  | .hbm, ⟨44, _⟩ => ⟨S_, .f32⟩
  | .hbm, ⟨45, _⟩ => ⟨S288x1024, .f32⟩
  | .hbm, ⟨46, _⟩ => ⟨S288x1024, .f32⟩
  | .hbm, ⟨47, _⟩ => ⟨S288x1024, .f32⟩
  | .hbm, ⟨48, _⟩ => ⟨S_, .f32⟩
  | .hbm, ⟨49, _⟩ => ⟨S288x1024, .f32⟩
  | .hbm, ⟨50, _⟩ => ⟨S288x1024, .f32⟩
  | _, _ => ⟨S8x288x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelNextFf.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S_ : Shape := ⟨0, ![]⟩
abbrev S1 : Shape := ⟨1, ![1]⟩
abbrev S1x176x1024 : Shape := ⟨3, ![1, 176, 1024]⟩
abbrev S7x176x1024 : Shape := ⟨3, ![7, 176, 1024]⟩
abbrev S176x1024 : Shape := ⟨2, ![176, 1024]⟩
abbrev S1x352x1024 : Shape := ⟨3, ![1, 352, 1024]⟩
abbrev S352x1024 : Shape := ⟨2, ![352, 1024]⟩

abbrev nBuf : Space → Nat
  | .hbm => 19
  | .vmem => 18
  | .smem => 1
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S_, .i32⟩
  | .hbm, ⟨6, _⟩ => ⟨S1, .i32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S1x352x1024, .f32⟩
  | .hbm, ⟨12, _⟩ => ⟨S352x1024, .f32⟩
  | .hbm, ⟨13, _⟩ => ⟨S1x352x1024, .f32⟩
  | .hbm, ⟨14, _⟩ => ⟨S352x1024, .f32⟩
  | .hbm, ⟨15, _⟩ => ⟨S1x352x1024, .f32⟩
  | .hbm, ⟨16, _⟩ => ⟨S352x1024, .f32⟩
  | .hbm, ⟨17, _⟩ => ⟨S1x352x1024, .f32⟩
  | .hbm, ⟨18, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S7x176x1024, .bf16⟩
  | .local _ .vmem, ⟨3, _⟩ => ⟨S7x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | .local _ .smem, ⟨0, _⟩ => ⟨S1, .i32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_v1.idx], fun | 0 => main_v1.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_3 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_6 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_8 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S7x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceNextFfIdeal.lean ====
abbrev S8x352x1024 : Shape := ⟨3, ![8, 352, 1024]⟩
abbrev S7x352x1024 : Shape := ⟨3, ![7, 352, 1024]⟩
abbrev S2x352x1024 : Shape := ⟨3, ![2, 352, 1024]⟩
abbrev S1x352x1024 : Shape := ⟨3, ![1, 352, 1024]⟩
abbrev S352x1024 : Shape := ⟨2, ![352, 1024]⟩
abbrev S_ : Shape := ⟨0, ![]⟩

abbrev nBuf : Space → Nat
  | .hbm => 51
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S7x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S1x352x1024, .bf16⟩
  | .hbm, ⟨6, _⟩ => ⟨S352x1024, .bf16⟩
  | .hbm, ⟨7, _⟩ => ⟨S352x1024, .f32⟩
  | .hbm, ⟨8, _⟩ => ⟨S7x352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S1x352x1024, .f32⟩
  | .hbm, ⟨13, _⟩ => ⟨S352x1024, .f32⟩
  | .hbm, ⟨14, _⟩ => ⟨S1x352x1024, .f32⟩
  | .hbm, ⟨15, _⟩ => ⟨S352x1024, .f32⟩
  | .hbm, ⟨16, _⟩ => ⟨S1x352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S_, .f32⟩
  | .hbm, ⟨22, _⟩ => ⟨S352x1024, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S_, .f32⟩
  | .hbm, ⟨37, _⟩ => ⟨S352x1024, .f32⟩
  | .hbm, ⟨38, _⟩ => ⟨S352x1024, .f32⟩
  | .hbm, ⟨39, _⟩ => ⟨S352x1024, .f32⟩
  | .hbm, ⟨40, _⟩ => ⟨S_, .f32⟩
  | .hbm, ⟨41, _⟩ => ⟨S352x1024, .f32⟩
  | .hbm, ⟨42, _⟩ => ⟨S352x1024, .f32⟩
  | .hbm, ⟨43, _⟩ => ⟨S352x1024, .f32⟩
  | .hbm, ⟨44, _⟩ => ⟨S_, .f32⟩
  | .hbm, ⟨45, _⟩ => ⟨S352x1024, .f32⟩
  | .hbm, ⟨46, _⟩ => ⟨S352x1024, .f32⟩
  | .hbm, ⟨47, _⟩ => ⟨S352x1024, .f32⟩
  | .hbm, ⟨48, _⟩ => ⟨S_, .f32⟩
  | .hbm, ⟨49, _⟩ => ⟨S352x1024, .f32⟩
  | .hbm, ⟨50, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_8 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== KernelFfnLoss.lean ====
abbrev S8192x1024 : Shape := ⟨2, ![8192, 1024]⟩
abbrev S2816x1024 : Shape := ⟨2, ![2816, 1024]⟩
abbrev S8192x2816 : Shape := ⟨2, ![8192, 2816]⟩
abbrev S1x128 : Shape := ⟨2, ![1, 128]⟩
abbrev S512x1024 : Shape := ⟨2, ![512, 1024]⟩
abbrev S1408x1024 : Shape := ⟨2, ![1408, 1024]⟩
abbrev S512x1408 : Shape := ⟨2, ![512, 1408]⟩
abbrev S1x1024 : Shape := ⟨2, ![1, 1024]⟩
abbrev S1024 : Shape := ⟨1, ![1024]⟩
abbrev S1x1x1024 : Shape := ⟨3, ![1, 1, 1024]⟩
abbrev S1 : Shape := ⟨1, ![1]⟩
abbrev S1x1x1 : Shape := ⟨3, ![1, 1, 1]⟩

abbrev nBuf : Space → Nat
  | .hbm => 14
  | .vmem => 19
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x1024, .f32⟩
  | .hbm, ⟨9, _⟩ => ⟨S8192x2816, .bf16⟩
  | .hbm, ⟨10, _⟩ => ⟨S8192x2816, .bf16⟩
  | .hbm, ⟨11, _⟩ => ⟨S8192x2816, .bf16⟩
  | .hbm, ⟨12, _⟩ => ⟨S8192x1024, .f32⟩
  | .hbm, ⟨13, _⟩ => ⟨S1x128, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1408x1024, .bf16⟩
  | .local _ .vmem, ⟨5, _⟩ => ⟨S1408x1024, .bf16⟩
  | .local _ .vmem, ⟨6, _⟩ => ⟨S1408x1024, .bf16⟩
  | .local _ .vmem, ⟨7, _⟩ => ⟨S512x1024, .f32⟩
  | .local _ .vmem, ⟨8, _⟩ => ⟨S512x1024, .f32⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1408, .bf16⟩
  | .local _ .vmem, ⟨15, _⟩ => ⟨S512x1024, .f32⟩
  | .local _ .vmem, ⟨16, _⟩ => ⟨S512x1024, .f32⟩
  | .local _ .vmem, ⟨17, _⟩ => ⟨S1x128, .f32⟩
  | .local _ .vmem, ⟨18, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v38 : BitVec 1 := Scalar.cmpi .eq arg0 c15_i32
  let v39 : BitVec 32 := Scalar.extui v38
  let c0_i32_29 : BitVec 32 := 0#32
  let v40 : BitVec 1 := Scalar.cmpi .ne v39 c0_i32_29
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_10 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_11 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceFfnLossIdeal.lean ====
abbrev S8192x1024 : Shape := ⟨2, ![8192, 1024]⟩
abbrev S2816x1024 : Shape := ⟨2, ![2816, 1024]⟩
abbrev S8192x2816 : Shape := ⟨2, ![8192, 2816]⟩
abbrev S1408x1024 : Shape := ⟨2, ![1408, 1024]⟩
abbrev S1024x1408 : Shape := ⟨2, ![1024, 1408]⟩
abbrev S8192x1408 : Shape := ⟨2, ![8192, 1408]⟩
abbrev S_ : Shape := ⟨0, ![]⟩
abbrev S8192 : Shape := ⟨1, ![8192]⟩
abbrev S1x128 : Shape := ⟨2, ![1, 128]⟩

abbrev nBuf : Space → Nat
  | .hbm => 65
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S2816x1024, .bf16⟩
  | .hbm, ⟨3, _⟩ => ⟨S2816x1024, .bf16⟩
  | .hbm, ⟨4, _⟩ => ⟨S2816x1024, .bf16⟩
  | .hbm, ⟨5, _⟩ => ⟨S8192x2816, .bf16⟩
  | .hbm, ⟨6, _⟩ => ⟨S8192x2816, .bf16⟩
  | .hbm, ⟨7, _⟩ => ⟨S8192x2816, .bf16⟩
  | .hbm, ⟨8, _⟩ => ⟨S8192x1024, .f32⟩
  | .hbm, ⟨9, _⟩ => ⟨S8192x1024, .f32⟩
  | .hbm, ⟨10, _⟩ => ⟨S1408x1024, .bf16⟩
  | .hbm, ⟨11, _⟩ => ⟨S1408x1024, .f32⟩
  | .hbm, ⟨12, _⟩ => ⟨S1408x1024, .bf16⟩
  | .hbm, ⟨13, _⟩ => ⟨S1408x1024, .f32⟩
  | .hbm, ⟨14, _⟩ => ⟨S1408x1024, .bf16⟩
  | .hbm, ⟨15, _⟩ => ⟨S1408x1024, .f32⟩
  | .hbm, ⟨16, _⟩ => ⟨S1024x1408, .f32⟩
  | .hbm, ⟨17, _⟩ => ⟨S8192x1408, .f32⟩
  | .hbm, ⟨18, _⟩ => ⟨S1024x1408, .f32⟩
  | .hbm, ⟨19, _⟩ => ⟨S8192x1408, .f32⟩
  | .hbm, ⟨20, _⟩ => ⟨S8192x1408, .f32⟩
  | .hbm, ⟨21, _⟩ => ⟨S8192x1408, .f32⟩
  | .hbm, ⟨22, _⟩ => ⟨S_, .f32⟩
  | .hbm, ⟨23, _⟩ => ⟨S8192x1408, .f32⟩
  | .hbm, ⟨24, _⟩ => ⟨S8192x1408, .f32⟩
  | .hbm, ⟨25, _⟩ => ⟨S_, .f32⟩
  | .hbm, ⟨26, _⟩ => ⟨S8192x1408, .f32⟩
  | .hbm, ⟨27, _⟩ => ⟨S8192x1408, .f32⟩
  | .hbm, ⟨28, _⟩ => ⟨S8192x1408, .f32⟩
  | .hbm, ⟨29, _⟩ => ⟨S8192x1408, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S8192, .f32⟩
  | .hbm, ⟨52, _⟩ => ⟨S8192, .f32⟩
  | .hbm, ⟨53, _⟩ => ⟨S8192x1024, .f32⟩
  | .hbm, ⟨54, _⟩ => ⟨S8192x1024, .f32⟩
  | .hbm, ⟨55, _⟩ => ⟨S8192x1408, .bf16⟩
  | .hbm, ⟨56, _⟩ => ⟨S8192x1408, .bf16⟩
  | .hbm, ⟨57, _⟩ => ⟨S8192x2816, .bf16⟩
  | .hbm, ⟨58, _⟩ => ⟨S8192x1408, .bf16⟩
  | .hbm, ⟨59, _⟩ => ⟨S8192x1408, .bf16⟩
  | .hbm, ⟨60, _⟩ => ⟨S8192x2816, .bf16⟩
  | .hbm, ⟨61, _⟩ => ⟨S8192x1408, .bf16⟩
  | .hbm, ⟨62, _⟩ => ⟨S8192x1408, .bf16⟩
  | .hbm, ⟨63, _⟩ => ⟨S8192x2816, .bf16⟩
  | .hbm, ⟨64, _⟩ => ⟨S1x128, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_cst_2 : Ref sig .tc := ⟨.hbm, 42, rfl⟩
abbrev main_v22 : Ref sig .tc := ⟨.hbm, 43, rfl⟩
abbrev main_cst_3 : Ref sig .tc := ⟨.hbm, 44, rfl⟩
abbrev main_v23 : Ref sig .tc := ⟨.hbm, 45, rfl⟩
abbrev main_cst_4 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_cst_6 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩

abbrev nD : Nat := 1
abbrev τ : Topo := Topo.v7x

variable {F : FTy → Type} [FloatOps F]
-- ==== KernelFfnFirst.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S8192x2816 : Shape := ⟨2, ![8192, 2816]⟩
abbrev S512x1024 : Shape := ⟨2, ![512, 1024]⟩
abbrev S1408x1024 : Shape := ⟨2, ![1408, 1024]⟩
abbrev S512x1408 : Shape := ⟨2, ![512, 1408]⟩
abbrev S512x128 : Shape := ⟨2, ![512, 128]⟩
abbrev S512 : Shape := ⟨1, ![512]⟩
abbrev S512x1 : Shape := ⟨2, ![512, 1]⟩
abbrev S8192x1408 : Shape := ⟨2, ![8192, 1408]⟩

abbrev nBuf : Space → Nat
  | .hbm => 18
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S2816x1024, .f32⟩
  | .hbm, ⟨6, _⟩ => ⟨S2816x1024, .bf16⟩
  | .hbm, ⟨7, _⟩ => ⟨S2816x1024, .f32⟩
  | .hbm, ⟨8, _⟩ => ⟨S2816x1024, .bf16⟩
  | .hbm, ⟨9, _⟩ => ⟨S2816x1024, .bf16⟩
  | .hbm, ⟨10, _⟩ => ⟨S8192x1024, .bf16⟩
  | .hbm, ⟨11, _⟩ => ⟨S8192x2816, .bf16⟩
  | .hbm, ⟨12, _⟩ => ⟨S8192x2816, .bf16⟩
  | .hbm, ⟨13, _⟩ => ⟨S8192x2816, .bf16⟩
  | .hbm, ⟨14, _⟩ => ⟨S8192x1024, .f32⟩
  | .hbm, ⟨15, _⟩ => ⟨S8192x1408, .bf16⟩
  | .hbm, ⟨16, _⟩ => ⟨S8192x1408, .bf16⟩
  | .hbm, ⟨17, _⟩ => ⟨S8192x1408, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1408x1024, .bf16⟩
  | .local _ .vmem, ⟨4, _⟩ => ⟨S1408x1024, .bf16⟩
  | .local _ .vmem, ⟨5, _⟩ => ⟨S1408x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev main_v5_4 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1408x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1408x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1408x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1408 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1408 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceFfnFirstIdeal.lean ====
abbrev S8192x1024 : Shape := ⟨2, ![8192, 1024]⟩
abbrev S1x1024 : Shape := ⟨2, ![1, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1024x1408 : Shape := ⟨2, ![1024, 1408]⟩
abbrev S8192x1408 : Shape := ⟨2, ![8192, 1408]⟩
abbrev S1408x1024 : Shape := ⟨2, ![1408, 1024]⟩

abbrev nBuf : Space → Nat
  | .hbm => 43
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S1024x1408, .f32⟩
  | .hbm, ⟨23, _⟩ => ⟨S8192x1408, .f32⟩
  | .hbm, ⟨24, _⟩ => ⟨S1024x1408, .f32⟩
  | .hbm, ⟨25, _⟩ => ⟨S8192x1408, .f32⟩
  | .hbm, ⟨26, _⟩ => ⟨S8192x1408, .f32⟩
  | .hbm, ⟨27, _⟩ => ⟨S8192x1408, .f32⟩
  | .hbm, ⟨28, _⟩ => ⟨S_, .f32⟩
  | .hbm, ⟨29, _⟩ => ⟨S8192x1408, .f32⟩
  | .hbm, ⟨30, _⟩ => ⟨S8192x1408, .f32⟩
  | .hbm, ⟨31, _⟩ => ⟨S_, .f32⟩
  | .hbm, ⟨32, _⟩ => ⟨S8192x1408, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S8192x1024, .bf16⟩
  | .hbm, ⟨37, _⟩ => ⟨S8192x1408, .bf16⟩
  | .hbm, ⟨38, _⟩ => ⟨S8192x1408, .bf16⟩
  | .hbm, ⟨39, _⟩ => ⟨S8192x1408, .bf16⟩
  | .hbm, ⟨40, _⟩ => ⟨S1408x1024, .f32⟩
  | .hbm, ⟨41, _⟩ => ⟨S8192x1024, .f32⟩
  | .hbm, ⟨42, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩

abbrev nD : Nat := 1
abbrev τ : Topo := Topo.v7x

variable {F : FTy → Type} [FloatOps F]
-- ==== Proof.Rows.lean ====
/- Arrays read by natural coordinates, and sums over rows taken in blocks. -/
module

public import Idealize.ShloMosaic.Lib.Pointwise
public import Idealize.ShloMosaic.Lib.ValueIdx
public import Idealize.ShloMosaic.PureOps.Ideal.Laws

@[expose] public section

set_option maxRecDepth 16384

noncomputable section

namespace Cert.Rows

open Idealize.ShloMosaic Idealize.ShloMosaic.TcCoe

theorem hz : (![0, 0] : Fin 2 → Nat) = fun _ => 0 := funext fun a => by fin_cases a <;> rfl

/-- An entry of an array by natural coordinates, zero outside. -/
def at2 {a b : ℕ} (x : (⟨2, ![a, b]⟩ : Shape).Idx → EReal) (p q : ℕ) : EReal :=
  if h : p < a ∧ q < b then x (ix2 ⟨p, h.1⟩ ⟨q, h.2⟩) else 0

theorem at2_eq {a b : ℕ} (x : (⟨2, ![a, b]⟩ : Shape).Idx → EReal) (i : Shape.Idx ⟨2, ![a, b]⟩) (p q : ℕ) (hp : (i 0).val = p) (hq : (i 1).val = q) :
    x i = at2 x p q := by
  subst hp hq
  rw [at2, dif_pos ⟨(i 0).isLt, (i 1).isLt⟩]
  congr 1
  funext k
  fin_cases k <;> rfl

/-- What row `k` adds to the entry `(p, q)` of the product of one array's transpose with the other. -/
abbrev colProd {a : ℕ} (x : (⟨2, ![8192, a]⟩ : Shape).Idx → EReal) (y : (⟨2, ![8192, 1024]⟩ : Shape).Idx → EReal) (p q k : ℕ) : EReal :=
  at2 x k p * at2 y k q

/-- The product of one array's transpose with the other. -/
def total {a : ℕ} (x : (⟨2, ![8192, a]⟩ : Shape).Idx → EReal) (y : (⟨2, ![8192, 1024]⟩ : Shape).Idx → EReal) (p q : ℕ) : EReal :=
  ∑ k ∈ Finset.range 8192, colProd x y p q k

/-- One more block of rows. -/
theorem more (b : ℕ) (g : ℕ → EReal) (n : ℕ) :
    (∑ k ∈ Finset.range (b * n), g k) + (∑ k ∈ Finset.range b, g (b * n + k)) = ∑ k ∈ Finset.range (b * (n + 1)), g k := by
  rw [show b * (n + 1) = b * n + b by ring, Finset.sum_range_add]

end Cert.Rows

end
-- ==== Proof.FfnPay.lean ====
/- The bodies of the two calls of the feed-forward net's backward pass, read by row and column. -/
module

public import proofs.«01_k».proof.Proof.Rows
public import proofs.«01_k».proof.Proof.Gen.KernelFfnIdeal.Skeleton
public import Idealize.ShloMosaic.Lib.Pointwise
public import Idealize.ShloMosaic.Lib.ValueIdx
public import Idealize.ShloMosaic.PureOps.Ideal.Laws

@[expose] public section

set_option maxRecDepth 16384

noncomputable section

namespace Cert.FfnPay

open Cert.KernelFfnIdeal Cert.KernelFfnIdeal.Gen Cert.Rows Idealize.ShloMosaic

def sig (a : EReal) : EReal := Ideal.div 1 (1 + Ideal.exp (0 - a))
def daE (t a : EReal) : EReal := t * (sig a * (1 + a * (1 - sig a)))
def dbE (f a : EReal) : EReal := f * (a * sig a)

theorem pay2_apply (v0 : Vec Ideal S512x1024 .f32) (v2 : Vec Ideal S1408x1024 .bf16) (j : S512x1408.Idx) :
    k0_pay2 v0 v2 j = ∑ k : Fin 1024, v0 (ix2 (j 0) k) * v2 (ix2 (j 1) k) := by
  unfold k0_pay2
  pointwise

theorem pay5_apply (v0 : Vec Ideal S512x1024 .f32) (v2 : Vec Ideal S1408x1024 .bf16) (v5 v8 : Vec Ideal S512x1408 .bf16) (j : S512x1408.Idx) :
    k0_pay5 v0 v2 v5 v8 j = daE (k0_pay2 v0 v2 j * v8 j) (v5 j) := by
  unfold k0_pay5 k0_pay4 k0_pay3 daE sig
  pointwise

/-- The sum over the lanes of the eight chunks of a row is the sum of the row. -/
theorem sum_chunks (f : ℕ → EReal) :
    (∑ k : Fin 128, (f k.val + f (128 + k.val) + f (256 + k.val) + f (384 + k.val) + f (512 + k.val) + f (640 + k.val) + f (768 + k.val) + f (896 + k.val)))
      = ∑ k : Fin 1024, f k.val := by
  rw [Fin.sum_univ_eq_sum_range (fun k => f k + f (128 + k) + f (256 + k) + f (384 + k) + f (512 + k) + f (640 + k) + f (768 + k) + f (896 + k)) 128,
    Fin.sum_univ_eq_sum_range f 1024]
  simp only [Finset.sum_add_distrib]
  rw [show (1024 : ℕ) = 896 + 128 from rfl, Finset.sum_range_add, show (896 : ℕ) = 768 + 128 from rfl, Finset.sum_range_add, show (768 : ℕ) = 640 + 128 from rfl,
    Finset.sum_range_add, show (640 : ℕ) = 512 + 128 from rfl, Finset.sum_range_add, show (512 : ℕ) = 384 + 128 from rfl, Finset.sum_range_add,
    show (384 : ℕ) = 256 + 128 from rfl, Finset.sum_range_add, show (256 : ℕ) = 128 + 128 from rfl, Finset.sum_range_add]

theorem ofBits_inv : Ideal.ofBits .f32 981467136#32 = ((1 / 1024 : ℝ) : EReal) := by
  simp [Ideal.ofBits, Ideal.ieee, -EReal.coe_mul]
  norm_num

/-- The small number added to the mean square. -/
def eps : ℝ := 8796093 / 8796093022208

theorem ofBits_eps : Ideal.ofBits .f32 897988541#32 = ((eps : ℝ) : EReal) := by
  unfold eps
  simp [Ideal.ofBits, Ideal.ieee, -EReal.coe_mul]
  norm_num

/-! ## The maths by row and column -/

section
variable (dx x : ℕ → ℕ → EReal) (g : ℕ → EReal) (a b wg wu wd : ℕ → ℕ → EReal)

/-- The differential of the gated product. -/
def DF (p q : ℕ) : EReal := ∑ k : Fin 1024, dx p k * wd q k
def DA (p q : ℕ) : EReal := daE (DF dx wd p q * b p q) (a p q)
def DB (p q : ℕ) : EReal := dbE (DF dx wd p q) (a p q)
/-- The half of the differential of the normalised rows that comes from the columns from `o` on. -/
def PH (o p k : ℕ) : EReal :=
  (∑ q : Fin 1408, DA dx a b wd p (o + q.val) * wg (o + q.val) k) + ∑ q : Fin 1408, DB dx a wd p (o + q.val) * wu (o + q.val) k
def DH (p k : ℕ) : EReal := PH dx a b wg wu wd 0 p k + PH dx a b wg wu wd 1408 p k
/-- The reciprocal root of a row's mean square. -/
def RR (p : ℕ) : EReal := Ideal.rsqrt ((∑ k : Fin 1024, x p k * x p k) * ((1 / 1024 : ℝ) : EReal) + ((eps : ℝ) : EReal))
def XH (p k : ℕ) : EReal := x p k * RR x p
/-- The mean of a row of the differential against the normalised row. -/
def MM (d : ℕ → ℕ → EReal) (p : ℕ) : EReal := (∑ k : Fin 1024, d p k * g k * XH x p k) * ((1 / 1024 : ℝ) : EReal)
def DX (d : ℕ → ℕ → EReal) (p k : ℕ) : EReal := dx p k + RR x p * (d p k * g k - XH x p k * MM x g d p)

end

/-! ## The first region's blocks -/

section
variable {dx x : ℕ → ℕ → EReal} {g : ℕ → EReal} {a b wg wu wd : ℕ → ℕ → EReal} {P Q : ℕ}
variable {v0 : Vec Ideal S512x1024 .f32} {v1 v2 : Vec Ideal S512x1408 .bf16} {v3 v4 v5 : Vec Ideal S1408x1024 .bf16} {v6 : Vec Ideal S512x1024 .f32}
  {v7 : Vec Ideal S512x1024 .f32} {v8 : Vec Ideal S1x1024 .f32}

theorem k0_da (h0 : ∀ j, v0 j = dx (P + (j 0).val) (j 1).val) (h1 : ∀ j, v1 j = a (P + (j 0).val) (Q + (j 1).val))
    (h2 : ∀ j, v2 j = b (P + (j 0).val) (Q + (j 1).val)) (h5 : ∀ j, v5 j = wd (Q + (j 0).val) (j 1).val) (j : S512x1408.Idx) :
    k0_pay5 v0 v5 v1 v2 j = DA dx a b wd (P + (j 0).val) (Q + (j 1).val) := by
  rw [pay5_apply, pay2_apply]
  simp only [h0, h1, h2, h5]
  rfl

theorem k0_db (h0 : ∀ j, v0 j = dx (P + (j 0).val) (j 1).val) (h1 : ∀ j, v1 j = a (P + (j 0).val) (Q + (j 1).val))
    (h5 : ∀ j, v5 j = wd (Q + (j 0).val) (j 1).val) (j : S512x1408.Idx) :
    k0_pay6 v0 v5 v1 j = DB dx a wd (P + (j 0).val) (Q + (j 1).val) := by
  have e : k0_pay6 v0 v5 v1 j = dbE (k0_pay2 v0 v5 j) (v1 j) := by
    unfold k0_pay6 k0_pay4 k0_pay3 dbE sig
    pointwise
  rw [e, pay2_apply]
  simp only [h0, h1, h5]
  rfl

theorem k0_part (h0 : ∀ j, v0 j = dx (P + (j 0).val) (j 1).val) (h1 : ∀ j, v1 j = a (P + (j 0).val) (Q + (j 1).val))
    (h2 : ∀ j, v2 j = b (P + (j 0).val) (Q + (j 1).val)) (h3 : ∀ j, v3 j = wg (Q + (j 0).val) (j 1).val)
    (h4 : ∀ j, v4 j = wu (Q + (j 0).val) (j 1).val) (h5 : ∀ j, v5 j = wd (Q + (j 0).val) (j 1).val) (j : S512x1024.Idx) :
    k0_pay1 (k0_pay6 v0 v5 v1) (k0_pay7 v0 v5 v1 v2 v3) v4 j = PH dx a b wg wu wd Q (P + (j 0).val) (j 1).val := by
  have e : k0_pay1 (k0_pay6 v0 v5 v1) (k0_pay7 v0 v5 v1 v2 v3) v4 j
      = (∑ q : Fin 1408, k0_pay5 v0 v5 v1 v2 (ix2 (j 0) q) * v3 (ix2 q (j 1))) + ∑ q : Fin 1408, k0_pay6 v0 v5 v1 (ix2 (j 0) q) * v4 (ix2 q (j 1)) := by
    unfold k0_pay1 k0_pay7
    pointwise
  rw [e]
  simp only [k0_da h0 h1 h2 h5, k0_db h0 h1 h5, h3, h4]
  rfl

/-! ## The second region's blocks -/

theorem k1_da (h0 : ∀ j, v0 j = dx (P + (j 0).val) (j 1).val) (h1 : ∀ j, v1 j = a (P + (j 0).val) (Q + (j 1).val))
    (h2 : ∀ j, v2 j = b (P + (j 0).val) (Q + (j 1).val)) (h5 : ∀ j, v5 j = wd (Q + (j 0).val) (j 1).val) (j : S512x1408.Idx) :
    k1_pay7 v0 v5 v1 v2 j = DA dx a b wd (P + (j 0).val) (Q + (j 1).val) := by
  rw [show k1_pay7 v0 v5 v1 v2 = k0_pay5 v0 v5 v1 v2 from rfl]
  exact k0_da h0 h1 h2 h5 j

theorem k1_db (h0 : ∀ j, v0 j = dx (P + (j 0).val) (j 1).val) (h1 : ∀ j, v1 j = a (P + (j 0).val) (Q + (j 1).val))
    (h5 : ∀ j, v5 j = wd (Q + (j 0).val) (j 1).val) (j : S512x1408.Idx) :
    k1_pay8 v0 v5 v1 j = DB dx a wd (P + (j 0).val) (Q + (j 1).val) := by
  rw [show k1_pay8 v0 v5 v1 = k0_pay6 v0 v5 v1 from rfl]
  exact k0_db h0 h1 h5 j

theorem k1_dh (h0 : ∀ j, v0 j = dx (P + (j 0).val) (j 1).val) (h1 : ∀ j, v1 j = a (P + (j 0).val) (1408 + (j 1).val))
    (h2 : ∀ j, v2 j = b (P + (j 0).val) (1408 + (j 1).val)) (h3 : ∀ j, v3 j = wg (1408 + (j 0).val) (j 1).val)
    (h4 : ∀ j, v4 j = wu (1408 + (j 0).val) (j 1).val) (h5 : ∀ j, v5 j = wd (1408 + (j 0).val) (j 1).val)
    (h6 : ∀ j, v6 j = PH dx a b wg wu wd 0 (P + (j 0).val) (j 1).val) (j : S512x1024.Idx) :
    k1_pay9 (k1_pay3 v6) (k1_pay7 v0 v5 v1 v2) (k1_pay8 v0 v5 v1) v3 v4 j = DH dx a b wg wu wd (P + (j 0).val) (j 1).val := by
  have e : k1_pay9 (k1_pay3 v6) (k1_pay7 v0 v5 v1 v2) (k1_pay8 v0 v5 v1) v3 v4 j
      = v6 j + ((∑ q : Fin 1408, k1_pay7 v0 v5 v1 v2 (ix2 (j 0) q) * v3 (ix2 q (j 1))) + ∑ q : Fin 1408, k1_pay8 v0 v5 v1 (ix2 (j 0) q) * v4 (ix2 q (j 1))) := by
    unfold k1_pay9 k1_pay3
    pointwise
  rw [e]
  simp only [k1_da h0 h1 h2 h5, k1_db h0 h1 h5, h3, h4, h6]
  rfl

theorem k1_rr (h7 : ∀ j, v7 j = x (P + (j 0).val) (j 1).val) (j : S512x1.Idx) : k1_pay10 v7 j = RR x (P + (j 0).val) := by
  unfold k1_pay10
  pointwise
  simp only [h7]
  rw [ofBits_inv, ofBits_eps, RR, ← sum_chunks (fun k => x (P + (j 0).val) k * x (P + (j 0).val) k)]
  rfl

theorem k1_xh (h7 : ∀ j, v7 j = x (P + (j 0).val) (j 1).val) (j : S512x1024.Idx) : k1_pay11 v7 j = XH x (P + (j 0).val) (j 1).val := by
  unfold k1_pay11
  pointwise
  rw [k1_rr h7, h7]
  rfl

theorem k1_dg {v : Vec Ideal S1x1024 .f32} {w31 w34 : Vec Ideal S512x1408 .bf16} {d : ℕ → ℕ → EReal}
    (hd : ∀ j, k1_pay9 v6 w31 w34 v3 v4 j = d (P + (j 0).val) (j 1).val)
    (h7 : ∀ j, v7 j = x (P + (j 0).val) (j 1).val) (j : S1x1024.Idx) :
    k1_pay12 v6 w31 w34 v3 v4 v7 v j = v j + ∑ i : Fin 512, d (P + i.val) (j 1).val * XH x (P + i.val) (j 1).val := by
  have e : k1_pay12 v6 w31 w34 v3 v4 v7 v j = v j + ∑ i : Fin 512, k1_pay9 v6 w31 w34 v3 v4 (ix2 i (j 1)) * k1_pay11 v7 (ix2 i (j 1)) := by
    unfold k1_pay12
    pointwise
  rw [e]
  simp only [hd, k1_xh h7]
  rfl

theorem k1_dx {v44 : Vec Ideal S512x1024 .f32} {d : ℕ → ℕ → EReal} (h0 : ∀ j, v0 j = dx (P + (j 0).val) (j 1).val)
    (hd : ∀ j, v44 j = d (P + (j 0).val) (j 1).val) (h7 : ∀ j, v7 j = x (P + (j 0).val) (j 1).val) (h8 : ∀ j, v8 j = g (j 1).val) (j : S512x1024.Idx) :
    k1_pay1 v44 (k1_pay10 v7) (k1_pay11 v7) v0 v8 j = DX dx x g d (P + (j 0).val) (j 1).val := by
  unfold k1_pay1
  pointwise
  simp only [h0, hd, h8, k1_rr h7, k1_xh h7]
  rw [ofBits_inv, DX, MM, ← sum_chunks (fun k => d (P + (j 0).val) k * g k * XH x (P + (j 0).val) k)]
  rfl

end

end Cert.FfnPay
-- ==== Proof.FfnRun0.lean ====
/- What the two calls of the feed-forward net's backward pass leave in their results, read by row and column. -/
module

public import proofs.«01_k».proof.Proof.FfnPay
public import proofs.«01_k».proof.Proof.Gen.KernelFfnIdeal.Frame
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.FfnRun

open Cert.KernelFfnIdeal Cert.KernelFfnIdeal.Gen Cert.Rows Cert.FfnPay Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

/-! ## The entry contents -/

def fdx (p q : ℕ) : EReal := at2 (a := 8192) (b := 1024) (V c main_arg0) p q
def fa (p q : ℕ) : EReal := at2 (a := 8192) (b := 2816) (V c main_v16) p q
def fb (p q : ℕ) : EReal := at2 (a := 8192) (b := 2816) (V c main_v17) p q
def fwg (p q : ℕ) : EReal := at2 (a := 2816) (b := 1024) (V c main_v19) p q
def fwu (p q : ℕ) : EReal := at2 (a := 2816) (b := 1024) (V c main_v21) p q
def fwd (p q : ℕ) : EReal := at2 (a := 2816) (b := 1024) (V c main_v22) p q
def fpart (p q : ℕ) : EReal := at2 (a := 8192) (b := 1024) (V c main_v23_2) p q
def fx (p q : ℕ) : EReal := at2 (a := 8192) (b := 1024) (V c main_arg1) p q
def fg (q : ℕ) : EReal := at2 (a := 1) (b := 1024) (V c main_arg2) 0 q

/-! ## The first call -/

theorem idx0_0 : ∀ t : Fin cfg0.N, win0_0.index t 0 = t.val ∧ win0_0.index t 1 = 0 := by decide +kernel
theorem idx0_1 : ∀ t : Fin cfg0.N, win0_1.index t 0 = t.val ∧ win0_1.index t 1 = 0 := by decide +kernel
theorem idx0_2 : ∀ t : Fin cfg0.N, win0_2.index t 0 = t.val ∧ win0_2.index t 1 = 0 := by decide +kernel
theorem idx0_3 : ∀ t : Fin cfg0.N, win0_3.index t 0 = 0 ∧ win0_3.index t 1 = 0 := by decide +kernel
theorem idx0_4 : ∀ t : Fin cfg0.N, win0_4.index t 0 = 0 ∧ win0_4.index t 1 = 0 := by decide +kernel
theorem idx0_5 : ∀ t : Fin cfg0.N, win0_5.index t 0 = 0 ∧ win0_5.index t 1 = 0 := by decide +kernel
theorem idx0_6 : ∀ t : Fin cfg0.N, win0_6.index t 0 = t.val ∧ win0_6.index t 1 = 0 := by decide +kernel
theorem idx0_7 : ∀ t : Fin cfg0.N, win0_7.index t 0 = t.val ∧ win0_7.index t 1 = 0 := by decide +kernel
theorem idx0_8 : ∀ t : Fin cfg0.N, win0_8.index t 0 = t.val ∧ win0_8.index t 1 = 0 := by decide +kernel

section
variable (t : Fin cfg0.N)

theorem b0_0 (j : S512x1024.Idx) : (iblk0 V c 0 t : Vec Ideal S512x1024 .f32) j = fdx V c (512 * t.val + (j 0).val) (j 1).val := by
  unfold iblk0
  rw [View.read_apply]
  refine at2_eq (a := 8192) (b := 1024) _ _ _ _ ?_ ?_
  · show win0_0.index t 0 * 512 + 1 * (j 0).val = _; rw [(idx0_0 t).1]; omega
  · show win0_0.index t 1 * 1024 + 1 * (j 1).val = _; rw [(idx0_0 t).2]; omega

theorem b0_1 (j : S512x1408.Idx) : (iblk0 V c 1 t : Vec Ideal S512x1408 .bf16) j = fa V c (512 * t.val + (j 0).val) (0 + (j 1).val) := by
  unfold iblk0
  rw [View.read_apply]
  refine at2_eq (a := 8192) (b := 2816) _ _ _ _ ?_ ?_
  · show win0_1.index t 0 * 512 + 1 * (j 0).val = _; rw [(idx0_1 t).1]; omega
  · show win0_1.index t 1 * 1408 + 1 * (j 1).val = _; rw [(idx0_1 t).2]; omega

theorem b0_2 (j : S512x1408.Idx) : (iblk0 V c 2 t : Vec Ideal S512x1408 .bf16) j = fb V c (512 * t.val + (j 0).val) (0 + (j 1).val) := by
  unfold iblk0
  rw [View.read_apply]
  refine at2_eq (a := 8192) (b := 2816) _ _ _ _ ?_ ?_
  · show win0_2.index t 0 * 512 + 1 * (j 0).val = _; rw [(idx0_2 t).1]; omega
  · show win0_2.index t 1 * 1408 + 1 * (j 1).val = _; rw [(idx0_2 t).2]; omega

theorem b0_3 (j : S1408x1024.Idx) : (iblk0 V c 3 t : Vec Ideal S1408x1024 .bf16) j = fwg V c (0 + (j 0).val) (j 1).val := by
  unfold iblk0
  rw [View.read_apply]
  refine at2_eq (a := 2816) (b := 1024) _ _ _ _ ?_ ?_
  · show win0_3.index t 0 * 1408 + 1 * (j 0).val = _; rw [(idx0_3 t).1]; omega
  · show win0_3.index t 1 * 1024 + 1 * (j 1).val = _; rw [(idx0_3 t).2]; omega

theorem b0_4 (j : S1408x1024.Idx) : (iblk0 V c 4 t : Vec Ideal S1408x1024 .bf16) j = fwu V c (0 + (j 0).val) (j 1).val := by
  unfold iblk0
  rw [View.read_apply]
  refine at2_eq (a := 2816) (b := 1024) _ _ _ _ ?_ ?_
  · show win0_4.index t 0 * 1408 + 1 * (j 0).val = _; rw [(idx0_4 t).1]; omega
  · show win0_4.index t 1 * 1024 + 1 * (j 1).val = _; rw [(idx0_4 t).2]; omega

theorem b0_5 (j : S1408x1024.Idx) : (iblk0 V c 5 t : Vec Ideal S1408x1024 .bf16) j = fwd V c (0 + (j 0).val) (j 1).val := by
  unfold iblk0
  rw [View.read_apply]
  refine at2_eq (a := 2816) (b := 1024) _ _ _ _ ?_ ?_
  · show win0_5.index t 0 * 1408 + 1 * (j 0).val = _; rw [(idx0_5 t).1]; omega
  · show win0_5.index t 1 * 1024 + 1 * (j 1).val = _; rw [(idx0_5 t).2]; omega

/-- What the first call writes back at a point. -/
theorem o0_6 (j : S512x1408.Idx) :
    out0_6 (iblk0 V c 0 t) (iblk0 V c 1 t) (iblk0 V c 2 t) (iblk0 V c 3 t) (iblk0 V c 4 t) (iblk0 V c 5 t) j
      = DA (fdx V c) (fa V c) (fb V c) (fwd V c) (512 * t.val + (j 0).val) (0 + (j 1).val) := by
  unfold out0_6
  rw [View.canon_unit_zero hz]
  simp only [View.ld_unit_zero (S := S512x1024) hz, View.ld_unit_zero (S := S512x1408) hz, View.ld_unit_zero (S := S1408x1024) hz]
  exact k0_da (b0_0 V c t) (b0_1 V c t) (b0_2 V c t) (b0_5 V c t) j

theorem o0_7 (j : S512x1408.Idx) :
    out0_7 (iblk0 V c 0 t) (iblk0 V c 1 t) (iblk0 V c 2 t) (iblk0 V c 3 t) (iblk0 V c 4 t) (iblk0 V c 5 t) j
      = DB (fdx V c) (fa V c) (fwd V c) (512 * t.val + (j 0).val) (0 + (j 1).val) := by
  unfold out0_7
  rw [View.canon_unit_zero hz]
  simp only [View.ld_unit_zero (S := S512x1024) hz, View.ld_unit_zero (S := S512x1408) hz, View.ld_unit_zero (S := S1408x1024) hz]
  exact k0_db (b0_0 V c t) (b0_1 V c t) (b0_5 V c t) j

theorem o0_8 (j : S512x1024.Idx) :
    out0_8 (iblk0 V c 0 t) (iblk0 V c 1 t) (iblk0 V c 2 t) (iblk0 V c 3 t) (iblk0 V c 4 t) (iblk0 V c 5 t) j
      = PH (fdx V c) (fa V c) (fb V c) (fwg V c) (fwu V c) (fwd V c) 0 (512 * t.val + (j 0).val) (j 1).val := by
  unfold out0_8
  rw [View.canon_unit_zero hz]
  simp only [View.ld_unit_zero (S := S512x1024) hz, View.ld_unit_zero (S := S512x1408) hz, View.ld_unit_zero (S := S1408x1024) hz]
  exact k0_part (b0_0 V c t) (b0_1 V c t) (b0_2 V c t) (b0_3 V c t) (b0_4 V c t) (b0_5 V c t) j

end

theorem lt0 (t : Fin cfg0.N) : t.val < 16 := lt_of_lt_of_eq t.isLt (show cfg0.N = 16 from N_0)
theorem lt1 (t : Fin cfg1.N) : t.val < 16 := lt_of_lt_of_eq t.isLt (show cfg1.N = 16 from N_1)

theorem mem0_8 (t : Fin cfg0.N) (i : S8192x1024.Idx)
    (h0 : win0_8.index t 0 * 512 ≤ (i 0).val ∧ (i 0).val < win0_8.index t 0 * 512 + 512)
    (h1 : win0_8.index t 1 * 1024 ≤ (i 1).val ∧ (i 1).val < win0_8.index t 1 * 1024 + 1024) : i ∈ ((cfg0.win 8).blk t).view.set := by
  show i ∈ ((View.whole main_v23_2).slice (win0_8.rect t)).set
  rw [View.set_slice_whole, Rect.mem_set_unit]
  intro a
  match a with
  | ⟨0, _⟩ => exact h0
  | ⟨1, _⟩ => exact h1

theorem mem0_6 (t : Fin cfg0.N) (i : S8192x2816.Idx)
    (h0 : win0_6.index t 0 * 512 ≤ (i 0).val ∧ (i 0).val < win0_6.index t 0 * 512 + 512)
    (h1 : win0_6.index t 1 * 1408 ≤ (i 1).val ∧ (i 1).val < win0_6.index t 1 * 1408 + 1408) : i ∈ ((cfg0.win 6).blk t).view.set := by
  show i ∈ ((View.whole main_v23_0).slice (win0_6.rect t)).set
  rw [View.set_slice_whole, Rect.mem_set_unit]
  intro a
  match a with
  | ⟨0, _⟩ => exact h0
  | ⟨1, _⟩ => exact h1

theorem mem0_7 (t : Fin cfg0.N) (i : S8192x2816.Idx)
    (h0 : win0_7.index t 0 * 512 ≤ (i 0).val ∧ (i 0).val < win0_7.index t 0 * 512 + 512)
    (h1 : win0_7.index t 1 * 1408 ≤ (i 1).val ∧ (i 1).val < win0_7.index t 1 * 1408 + 1408) : i ∈ ((cfg0.win 7).blk t).view.set := by
  show i ∈ ((View.whole main_v23_1).slice (win0_7.rect t)).set
  rw [View.set_slice_whole, Rect.mem_set_unit]
  intro a
  match a with
  | ⟨0, _⟩ => exact h0
  | ⟨1, _⟩ => exact h1

/-- The first call's third result. -/
theorem final0_8 : (dat0 V c).arrAt 8 cfg0.N
    = (fun i : S8192x1024.Idx => PH (fdx V c) (fa V c) (fb V c) (fwg V c) (fwu V c) (fwd V c) 0 (i 0).val (i 1).val : Buf (Elt Ideal) ((c : Thread nD τ).loc main_v23_2)) := by
  refine (dat0 V c).arrAt_eq_of_cover 8 _ (fun t _ => ?_) fun i => ?_
  · show (cfg0.win 8).cut (grid0.coords t) ((dat0 V c).after 8 t) = _
    rw [after0_8]
    funext j
    rw [View.read_apply]
    refine (o0_8 V c t j).trans ?_
    show PH _ _ _ _ _ _ _ _ _ = PH _ _ _ _ _ _ _ _ _
    congr 1
    · show _ = win0_8.index t 0 * 512 + 1 * (j 0).val; rw [(idx0_8 t).1]; omega
    · show _ = win0_8.index t 1 * 1024 + 1 * (j 1).val; rw [(idx0_8 t).2]; omega
  · have b0 : (i 0 : Nat) < 8192 := (i 0).isLt
    have b1 : (i 1 : Nat) < 1024 := (i 1).isLt
    refine ⟨⟨(i 0).val / 512, by rw [show cfg0.N = 16 from N_0]; omega⟩, flush0_8 _, mem0_8 _ _ ?_ ?_⟩
    · rw [(idx0_8 _).1]; dsimp only; omega
    · rw [(idx0_8 _).2]; omega

/-- The first call's first result, on the columns it writes. -/
theorem final0_6 (i : S8192x2816.Idx) (hi : (i 1).val < 1408) : ((dat0 V c).arrAt 6 cfg0.N : S8192x2816.Idx → EReal) i
    = DA (fdx V c) (fa V c) (fb V c) (fwd V c) (i 0).val (i 1).val := by
  refine ((dat0 V c).arrAt_eq_piecewise 6
    (fun i : S8192x2816.Idx => DA (fdx V c) (fa V c) (fb V c) (fwd V c) (i 0).val (i 1).val : Buf (Elt Ideal) ((c : Thread nD τ).loc main_v23_0)) (fun t _ => ?_) i).trans (if_pos ?_)
  · show (cfg0.win 6).cut (grid0.coords t) ((dat0 V c).after 6 t) = _
    rw [after0_6]
    funext j
    rw [View.read_apply]
    refine (o0_6 V c t j).trans ?_
    show DA _ _ _ _ _ _ = DA _ _ _ _ _ _
    congr 1
    · show _ = win0_6.index t 0 * 512 + 1 * (j 0).val; rw [(idx0_6 t).1]; omega
    · show _ = win0_6.index t 1 * 1408 + 1 * (j 1).val; rw [(idx0_6 t).2]; omega
  · have b0 : (i 0 : Nat) < 8192 := (i 0).isLt
    refine ⟨⟨(i 0).val / 512, by rw [show cfg0.N = 16 from N_0]; omega⟩, flush0_6 _, mem0_6 _ _ ?_ ?_⟩
    · rw [(idx0_6 _).1]; dsimp only; omega
    · rw [(idx0_6 _).2]; omega

/-- The first call's second result, on the columns it writes. -/
theorem final0_7 (i : S8192x2816.Idx) (hi : (i 1).val < 1408) : ((dat0 V c).arrAt 7 cfg0.N : S8192x2816.Idx → EReal) i
    = DB (fdx V c) (fa V c) (fwd V c) (i 0).val (i 1).val := by
  refine ((dat0 V c).arrAt_eq_piecewise 7
    (fun i : S8192x2816.Idx => DB (fdx V c) (fa V c) (fwd V c) (i 0).val (i 1).val : Buf (Elt Ideal) ((c : Thread nD τ).loc main_v23_1)) (fun t _ => ?_) i).trans (if_pos ?_)
  · show (cfg0.win 7).cut (grid0.coords t) ((dat0 V c).after 7 t) = _
    rw [after0_7]
    funext j
    rw [View.read_apply]
    refine (o0_7 V c t j).trans ?_
    show DB _ _ _ _ _ = DB _ _ _ _ _
    congr 1
    · show _ = win0_7.index t 0 * 512 + 1 * (j 0).val; rw [(idx0_7 t).1]; omega
    · show _ = win0_7.index t 1 * 1408 + 1 * (j 1).val; rw [(idx0_7 t).2]; omega
  · have b0 : (i 0 : Nat) < 8192 := (i 0).isLt
    refine ⟨⟨(i 0).val / 512, by rw [show cfg0.N = 16 from N_0]; omega⟩, flush0_7 _, mem0_7 _ _ ?_ ?_⟩
    · rw [(idx0_7 _).1]; dsimp only; omega
    · rw [(idx0_7 _).2]; omega

/-! ## The second call -/

section
variable (i : grid1.Coords) (arg1 : Memref sig .tc .vmem S512x1024 .f32) (harg1 : arg1.IsWhole) (arg2 : Memref sig .tc .vmem S512x1408 .bf16) (harg2 : arg2.IsWhole) (arg3 : Memref sig .tc .vmem S512x1408 .bf16) (harg3 : arg3.IsWhole) (arg4 : Memref sig .tc .vmem S1408x1024 .bf16) (harg4 : arg4.IsWhole) (arg5 : Memref sig .tc .vmem S1408x1024 .bf16) (harg5 : arg5.IsWhole) (arg6 : Memref sig .tc .vmem S1408x1024 .bf16) (harg6 : arg6.IsWhole) (arg7 : Memref sig .tc .vmem S512x1024 .f32) (harg7 : arg7.IsWhole) (arg8 : Memref sig .tc .vmem S512x1024 .f32) (harg8 : arg8.IsWhole) (arg9 : Memref sig .tc .vmem S1x1024 .f32) (harg9 : arg9.IsWhole) (arg12 : Memref sig .tc .vmem S512x1408 .bf16) (harg12 : arg12.IsWhole) (arg13 : Memref sig .tc .vmem S512x1408 .bf16) (harg13 : arg13.IsWhole) (arg14 : Memref sig .tc .vmem S512x1024 .f32) (harg14 : arg14.IsWhole) (arg15 : Memref sig .tc .vmem S1x1024 .f32) (harg15 : arg15.IsWhole)
  (x0 : Vec Ideal S512x1024 .f32) (x1 : Vec Ideal S512x1408 .bf16) (x2 : Vec Ideal S512x1408 .bf16) (x3 : Vec Ideal S1408x1024 .bf16) (x4 : Vec Ideal S1408x1024 .bf16) (x5 : Vec Ideal S1408x1024 .bf16) (x6 : Vec Ideal S512x1024 .f32) (x7 : Vec Ideal S512x1024 .f32) (x8 : Vec Ideal S1x1024 .f32)

theorem val1_A_9 (hc0 : cond1_0 i) : out1_A_9 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 = k1_pay7 x0 x5 x1 x2 := by
  unfold out1_A_9
  rw [View.read_writes_eq_canon _ _ _ (cover1_A_9 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_A_10 (hc0 : cond1_0 i) : out1_A_10 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 = k1_pay8 x0 x5 x1 := by
  unfold out1_A_10
  rw [View.read_writes_eq_canon _ _ _ (cover1_A_10 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_A_11 (hc0 : cond1_0 i) : out1_A_11 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 = k1_pay1 (k1_pay9 (k1_pay3 x6) (k1_pay7 x0 x5 x1 x2) (k1_pay8 x0 x5 x1) x3 x4) (k1_pay10 x7) (k1_pay11 x7) x0 x8 := by
  unfold out1_A_11
  rw [View.read_writes_eq_canon _ _ _ (cover1_A_11 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8)]
  unfold kernelRun1_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_A_12 (hc0 : cond1_0 i) : out1_A_12 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 = k1_pay12 (k1_pay3 x6) (k1_pay7 x0 x5 x1 x2) (k1_pay8 x0 x5 x1) x3 x4 x7 (k1_pay2 (F := Ideal)) := by
  unfold out1_A_12
  rw [View.read_writes_eq_canon _ _ _ (cover1_A_12 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8)]
  unfold kernelRun1_A
  dsimp only
  sl_unfold_words
  rw [View.canon_cons_unit_zero (S := S1x1024) hz, View.readCov_unit_zero (S := S1x1024) _ hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_B_9 (hc0 : ¬cond1_0 i) (xo12 : Vec Ideal S1x1024 .f32) : out1_B_9 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12 = k1_pay7 x0 x5 x1 x2 := by
  unfold out1_B_9
  rw [View.read_writes_eq_canon _ _ _ (cover1_B_9 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_B_10 (hc0 : ¬cond1_0 i) (xo12 : Vec Ideal S1x1024 .f32) : out1_B_10 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12 = k1_pay8 x0 x5 x1 := by
  unfold out1_B_10
  rw [View.read_writes_eq_canon _ _ _ (cover1_B_10 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_B_11 (hc0 : ¬cond1_0 i) (xo12 : Vec Ideal S1x1024 .f32) : out1_B_11 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12 = k1_pay1 (k1_pay9 (k1_pay3 x6) (k1_pay7 x0 x5 x1 x2) (k1_pay8 x0 x5 x1) x3 x4) (k1_pay10 x7) (k1_pay11 x7) x0 x8 := by
  unfold out1_B_11
  rw [View.read_writes_eq_canon _ _ _ (cover1_B_11 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

theorem val1_B_12 (hc0 : ¬cond1_0 i) (xo12 : Vec Ideal S1x1024 .f32) : out1_B_12 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12 = k1_pay12 (k1_pay3 x6) (k1_pay7 x0 x5 x1 x2) (k1_pay8 x0 x5 x1) x3 x4 x7 xo12 := by
  unfold out1_B_12
  rw [View.read_writes_eq_canon _ _ _ (cover1_B_12 c i arg1 harg1 arg2 harg2 arg3 harg3 arg4 harg4 arg5 harg5 arg6 harg6 arg7 harg7 arg8 harg8 arg9 harg9 arg12 harg12 arg13 harg13 arg14 harg14 arg15 harg15 hc0 x0 x1 x2 x3 x4 x5 x6 x7 x8 xo12)]
  unfold kernelRun1_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg12.read_unread, harg13.read_unread, harg14.read_unread, harg15.read_unread, View.ld_unit_zero (S := S512x1024) hz, View.ld_unit_zero (S := S512x1408) hz, View.ld_unit_zero (S := S1408x1024) hz, View.ld_unit_zero (S := S1x1024) hz, shapeCast_self]

end

theorem idx1_0 : ∀ t : Fin cfg1.N, win1_0.index t 0 = t.val ∧ win1_0.index t 1 = 0 := by decide +kernel
theorem idx1_1 : ∀ t : Fin cfg1.N, win1_1.index t 0 = t.val ∧ win1_1.index t 1 = 1 := by decide +kernel
theorem idx1_2 : ∀ t : Fin cfg1.N, win1_2.index t 0 = t.val ∧ win1_2.index t 1 = 1 := by decide +kernel
theorem idx1_3 : ∀ t : Fin cfg1.N, win1_3.index t 0 = 1 ∧ win1_3.index t 1 = 0 := by decide +kernel
theorem idx1_4 : ∀ t : Fin cfg1.N, win1_4.index t 0 = 1 ∧ win1_4.index t 1 = 0 := by decide +kernel
theorem idx1_5 : ∀ t : Fin cfg1.N, win1_5.index t 0 = 1 ∧ win1_5.index t 1 = 0 := by decide +kernel
theorem idx1_6 : ∀ t : Fin cfg1.N, win1_6.index t 0 = t.val ∧ win1_6.index t 1 = 0 := by decide +kernel
theorem idx1_7 : ∀ t : Fin cfg1.N, win1_7.index t 0 = t.val ∧ win1_7.index t 1 = 0 := by decide +kernel
theorem idx1_8 : ∀ t : Fin cfg1.N, win1_8.index t 0 = 0 ∧ win1_8.index t 1 = 0 := by decide +kernel
theorem idx1_9 : ∀ t : Fin cfg1.N, win1_9.index t 0 = t.val ∧ win1_9.index t 1 = 1 := by decide +kernel
theorem idx1_10 : ∀ t : Fin cfg1.N, win1_10.index t 0 = t.val ∧ win1_10.index t 1 = 1 := by decide +kernel
theorem idx1_11 : ∀ t : Fin cfg1.N, win1_11.index t 0 = t.val ∧ win1_11.index t 1 = 0 := by decide +kernel
theorem idx1_12 : ∀ t : Fin cfg1.N, win1_12.index t 0 = 0 ∧ win1_12.index t 1 = 0 := by decide +kernel

section
variable (t : Fin cfg1.N)

theorem b1_0 (j : S512x1024.Idx) : (iblk1 V c 0 t : Vec Ideal S512x1024 .f32) j = fdx V c (512 * t.val + (j 0).val) (j 1).val := by
  unfold iblk1
  rw [View.read_apply]
  refine at2_eq (a := 8192) (b := 1024) _ _ _ _ ?_ ?_
  · show win1_0.index t 0 * 512 + 1 * (j 0).val = _; rw [(idx1_0 t).1]; omega
  · show win1_0.index t 1 * 1024 + 1 * (j 1).val = _; rw [(idx1_0 t).2]; omega

theorem b1_1 (j : S512x1408.Idx) : (iblk1 V c 1 t : Vec Ideal S512x1408 .bf16) j = fa V c (512 * t.val + (j 0).val) (1408 + (j 1).val) := by
  unfold iblk1
  rw [View.read_apply]
  refine at2_eq (a := 8192) (b := 2816) _ _ _ _ ?_ ?_
  · show win1_1.index t 0 * 512 + 1 * (j 0).val = _; rw [(idx1_1 t).1]; omega
  · show win1_1.index t 1 * 1408 + 1 * (j 1).val = _; rw [(idx1_1 t).2]; omega

theorem b1_2 (j : S512x1408.Idx) : (iblk1 V c 2 t : Vec Ideal S512x1408 .bf16) j = fb V c (512 * t.val + (j 0).val) (1408 + (j 1).val) := by
  unfold iblk1
  rw [View.read_apply]
  refine at2_eq (a := 8192) (b := 2816) _ _ _ _ ?_ ?_
  · show win1_2.index t 0 * 512 + 1 * (j 0).val = _; rw [(idx1_2 t).1]; omega
  · show win1_2.index t 1 * 1408 + 1 * (j 1).val = _; rw [(idx1_2 t).2]; omega

theorem b1_3 (j : S1408x1024.Idx) : (iblk1 V c 3 t : Vec Ideal S1408x1024 .bf16) j = fwg V c (1408 + (j 0).val) (j 1).val := by
  unfold iblk1
  rw [View.read_apply]
  refine at2_eq (a := 2816) (b := 1024) _ _ _ _ ?_ ?_
  · show win1_3.index t 0 * 1408 + 1 * (j 0).val = _; rw [(idx1_3 t).1]; omega
  · show win1_3.index t 1 * 1024 + 1 * (j 1).val = _; rw [(idx1_3 t).2]; omega

theorem b1_4 (j : S1408x1024.Idx) : (iblk1 V c 4 t : Vec Ideal S1408x1024 .bf16) j = fwu V c (1408 + (j 0).val) (j 1).val := by
  unfold iblk1
  rw [View.read_apply]
  refine at2_eq (a := 2816) (b := 1024) _ _ _ _ ?_ ?_
  · show win1_4.index t 0 * 1408 + 1 * (j 0).val = _; rw [(idx1_4 t).1]; omega
  · show win1_4.index t 1 * 1024 + 1 * (j 1).val = _; rw [(idx1_4 t).2]; omega

theorem b1_5 (j : S1408x1024.Idx) : (iblk1 V c 5 t : Vec Ideal S1408x1024 .bf16) j = fwd V c (1408 + (j 0).val) (j 1).val := by
  unfold iblk1
  rw [View.read_apply]
  refine at2_eq (a := 2816) (b := 1024) _ _ _ _ ?_ ?_
  · show win1_5.index t 0 * 1408 + 1 * (j 0).val = _; rw [(idx1_5 t).1]; omega
  · show win1_5.index t 1 * 1024 + 1 * (j 1).val = _; rw [(idx1_5 t).2]; omega

theorem b1_6 (j : S512x1024.Idx) : (iblk1 V c 6 t : Vec Ideal S512x1024 .f32) j = fpart V c (512 * t.val + (j 0).val) (j 1).val := by
  unfold iblk1
  rw [View.read_apply]
  refine at2_eq (a := 8192) (b := 1024) _ _ _ _ ?_ ?_
  · show win1_6.index t 0 * 512 + 1 * (j 0).val = _; rw [(idx1_6 t).1]; omega
  · show win1_6.index t 1 * 1024 + 1 * (j 1).val = _; rw [(idx1_6 t).2]; omega

theorem b1_7 (j : S512x1024.Idx) : (iblk1 V c 7 t : Vec Ideal S512x1024 .f32) j = fx V c (512 * t.val + (j 0).val) (j 1).val := by
  unfold iblk1
  rw [View.read_apply]
  refine at2_eq (a := 8192) (b := 1024) _ _ _ _ ?_ ?_
  · show win1_7.index t 0 * 512 + 1 * (j 0).val = _; rw [(idx1_7 t).1]; omega
  · show win1_7.index t 1 * 1024 + 1 * (j 1).val = _; rw [(idx1_7 t).2]; omega

theorem b1_8 (j : S1x1024.Idx) : (iblk1 V c 8 t : Vec Ideal S1x1024 .f32) j = fg V c (j 1).val := by
  have hj : (j 0).val = 0 := by have := (j 0).isLt; change (j 0).val < 1 at this; omega
  unfold iblk1
  rw [View.read_apply]
  refine at2_eq (a := 1) (b := 1024) _ _ _ _ ?_ ?_
  · show win1_8.index t 0 * 1 + 1 * (j 0).val = _; rw [(idx1_8 t).1]; omega
  · show win1_8.index t 1 * 1024 + 1 * (j 1).val = _; rw [(idx1_8 t).2]; omega

end

end Cert.FfnRun
-- ==== Proof.FfnRun.lean ====
/- What the two calls of the feed-forward net's backward pass leave in their results, read by row and column. -/
module

public import proofs.«01_k».proof.Proof.FfnRun0
public import proofs.«01_k».proof.Proof.Gen.KernelFfnIdeal.Frame
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.FfnRun

open Cert.KernelFfnIdeal Cert.KernelFfnIdeal.Gen Cert.Rows Cert.FfnPay Idealize.ShloMosaic Idealize.ShloMosaic.TcCoe Idealize.SL.Sem
open Idealize.ShloMosaic.Pipeline (Dat)

variable (V : (c : Dev nD) → (b : Ref sig .tc) → Buf (Elt Ideal) ((c : Thread nD τ).loc b)) (c : Dev nD)

section
variable (t : Fin cfg1.N)

/-- What the point leaves in the second call's results. -/
theorem outs1_9 : (outsAt1 V c t.val t.isLt).1 = k1_pay7 (iblk1 V c 0 t) (iblk1 V c 5 t) (iblk1 V c 1 t) (iblk1 V c 2 t) := by
  by_cases h0 : t.val % 16 = 0
  · rw [congrArg (fun x => x.1) (outsAt1_A V c t h0)]; dsimp only; rw [val1_A_9]
  · rw [congrArg (fun x => x.1) (outsAt1_B V c t h0)]; dsimp only; rw [val1_B_9]

theorem outs1_10 : (outsAt1 V c t.val t.isLt).2.1 = k1_pay8 (iblk1 V c 0 t) (iblk1 V c 5 t) (iblk1 V c 1 t) := by
  by_cases h0 : t.val % 16 = 0
  · rw [congrArg (fun x => x.2.1) (outsAt1_A V c t h0)]; dsimp only; rw [val1_A_10]
  · rw [congrArg (fun x => x.2.1) (outsAt1_B V c t h0)]; dsimp only; rw [val1_B_10]

theorem outs1_11 : (outsAt1 V c t.val t.isLt).2.2.1
    = k1_pay1 (k1_pay9 (k1_pay3 (iblk1 V c 6 t)) (k1_pay7 (iblk1 V c 0 t) (iblk1 V c 5 t) (iblk1 V c 1 t) (iblk1 V c 2 t)) (k1_pay8 (iblk1 V c 0 t) (iblk1 V c 5 t) (iblk1 V c 1 t)) (iblk1 V c 3 t) (iblk1 V c 4 t))
      (k1_pay10 (iblk1 V c 7 t)) (k1_pay11 (iblk1 V c 7 t)) (iblk1 V c 0 t) (iblk1 V c 8 t) := by
  by_cases h0 : t.val % 16 = 0
  · rw [congrArg (fun x => x.2.2.1) (outsAt1_A V c t h0)]; dsimp only; rw [val1_A_11]
  · rw [congrArg (fun x => x.2.2.1) (outsAt1_B V c t h0)]; dsimp only; rw [val1_B_11]

theorem outs1_12_A (h0 : t.val % 16 = 0) : (outsAt1 V c t.val t.isLt).2.2.2
    = k1_pay12 (k1_pay3 (iblk1 V c 6 t)) (k1_pay7 (iblk1 V c 0 t) (iblk1 V c 5 t) (iblk1 V c 1 t) (iblk1 V c 2 t)) (k1_pay8 (iblk1 V c 0 t) (iblk1 V c 5 t) (iblk1 V c 1 t)) (iblk1 V c 3 t) (iblk1 V c 4 t) (iblk1 V c 7 t) (k1_pay2 (F := Ideal)) := by
  rw [congrArg (fun x => x.2.2.2) (outsAt1_A V c t h0)]; dsimp only; rw [val1_A_12]

theorem outs1_12_B (h0 : ¬t.val % 16 = 0) : (outsAt1 V c t.val t.isLt).2.2.2
    = k1_pay12 (k1_pay3 (iblk1 V c 6 t)) (k1_pay7 (iblk1 V c 0 t) (iblk1 V c 5 t) (iblk1 V c 1 t) (iblk1 V c 2 t)) (k1_pay8 (iblk1 V c 0 t) (iblk1 V c 5 t) (iblk1 V c 1 t)) (iblk1 V c 3 t) (iblk1 V c 4 t) (iblk1 V c 7 t)
      (outsAt1 V c (t.val - 1) (Nat.lt_of_le_of_lt (Nat.sub_le _ _) t.isLt)).2.2.2 := by
  rw [congrArg (fun x => x.2.2.2) (outsAt1_B V c t h0)]; dsimp only; rw [val1_B_12]

theorem o1_9 (j : S512x1408.Idx) : (outsAt1 V c t.val t.isLt).1 j = DA (fdx V c) (fa V c) (fb V c) (fwd V c) (512 * t.val + (j 0).val) (1408 + (j 1).val) := by
  rw [outs1_9]
  exact k1_da (b1_0 V c t) (b1_1 V c t) (b1_2 V c t) (b1_5 V c t) j

theorem o1_10 (j : S512x1408.Idx) : (outsAt1 V c t.val t.isLt).2.1 j = DB (fdx V c) (fa V c) (fwd V c) (512 * t.val + (j 0).val) (1408 + (j 1).val) := by
  rw [outs1_10]
  exact k1_db (b1_0 V c t) (b1_1 V c t) (b1_5 V c t) j

/-- The first call's third result is the first half of the differential of the normalised rows. -/
def PartIs : Prop := ∀ p q, p < 8192 → q < 1024 → fpart V c p q = PH (fdx V c) (fa V c) (fb V c) (fwg V c) (fwu V c) (fwd V c) 0 p q

abbrev fdh : ℕ → ℕ → EReal := DH (fdx V c) (fa V c) (fb V c) (fwg V c) (fwu V c) (fwd V c)

variable (hp : PartIs V c)
include hp

theorem dh1 (j : S512x1024.Idx) : (k1_pay9 (k1_pay3 (iblk1 V c 6 t)) (k1_pay7 (iblk1 V c 0 t) (iblk1 V c 5 t) (iblk1 V c 1 t) (iblk1 V c 2 t)) (k1_pay8 (iblk1 V c 0 t) (iblk1 V c 5 t) (iblk1 V c 1 t)) (iblk1 V c 3 t) (iblk1 V c 4 t)) j = fdh V c (512 * t.val + (j 0).val) (j 1).val := by
  refine k1_dh (b1_0 V c t) (b1_1 V c t) (b1_2 V c t) (b1_3 V c t) (b1_4 V c t) (b1_5 V c t) (fun j => ?_) j
  refine (b1_6 V c t j).trans (hp _ _ ?_ (j 1).isLt)
  have := lt1 t
  have : (j 0).val < 512 := (j 0).isLt
  omega

theorem o1_11 (j : S512x1024.Idx) : (outsAt1 V c t.val t.isLt).2.2.1 j = DX (fdx V c) (fx V c) (fg V c) (fdh V c) (512 * t.val + (j 0).val) (j 1).val := by
  rw [outs1_11]
  exact k1_dx (b1_0 V c t) (dh1 V c t hp) (b1_7 V c t) (b1_8 V c t) j

end

theorem pay2_zero (j : S1x1024.Idx) : k1_pay2 (F := Ideal) j = 0 := by
  unfold k1_pay2
  pointwise

/-- The gain's gradient after a point: the sum over the rows so far. -/
theorem o1_12 (hp : PartIs V c) : ∀ (n : ℕ) (hn : n < cfg1.N) (j : S1x1024.Idx),
    (outsAt1 V c n hn).2.2.2 j = ∑ i ∈ Finset.range (512 * (n + 1)), fdh V c i (j 1).val * XH (fx V c) i (j 1).val := by
  intro n
  induction n with
  | zero =>
    intro hn j
    rw [outs1_12_A V c ⟨0, hn⟩ rfl, k1_dg (dh1 V c ⟨0, hn⟩ hp) (b1_7 V c ⟨0, hn⟩) j, Finset.sum_range]
    rw [pay2_zero, zero_add]
    refine Finset.sum_congr rfl fun i _ => ?_
    rw [show 512 * 0 + i.val = i.val by omega]
  | succ n ih =>
    intro hn j
    have hN : n + 1 < 16 := lt1 ⟨n + 1, hn⟩
    rw [outs1_12_B V c ⟨n + 1, hn⟩ (by dsimp only; omega), k1_dg (dh1 V c ⟨n + 1, hn⟩ hp) (b1_7 V c ⟨n + 1, hn⟩) j]
    rw [show 512 * (n + 1 + 1) = 512 * (n + 1) + 512 by omega, Finset.sum_range_add]
    refine congrArg₂ (· + ·) (ih (Nat.lt_of_succ_lt hn) j) ?_
    rw [Finset.sum_range]

theorem mem1_9 (t : Fin cfg1.N) (i : S8192x2816.Idx)
    (h0 : win1_9.index t 0 * 512 ≤ (i 0).val ∧ (i 0).val < win1_9.index t 0 * 512 + 512)
    (h1 : win1_9.index t 1 * 1408 ≤ (i 1).val ∧ (i 1).val < win1_9.index t 1 * 1408 + 1408) : i ∈ ((cfg1.win 9).blk t).view.set := by
  show i ∈ ((View.whole main_v24_0).slice (win1_9.rect t)).set
  rw [View.set_slice_whole, Rect.mem_set_unit]
  intro a
  match a with
  | ⟨0, _⟩ => exact h0
  | ⟨1, _⟩ => exact h1

theorem mem1_10 (t : Fin cfg1.N) (i : S8192x2816.Idx)
    (h0 : win1_10.index t 0 * 512 ≤ (i 0).val ∧ (i 0).val < win1_10.index t 0 * 512 + 512)
    (h1 : win1_10.index t 1 * 1408 ≤ (i 1).val ∧ (i 1).val < win1_10.index t 1 * 1408 + 1408) : i ∈ ((cfg1.win 10).blk t).view.set := by
  show i ∈ ((View.whole main_v24_1).slice (win1_10.rect t)).set
  rw [View.set_slice_whole, Rect.mem_set_unit]
  intro a
  match a with
  | ⟨0, _⟩ => exact h0
  | ⟨1, _⟩ => exact h1

theorem mem1_11 (t : Fin cfg1.N) (i : S8192x1024.Idx)
    (h0 : win1_11.index t 0 * 512 ≤ (i 0).val ∧ (i 0).val < win1_11.index t 0 * 512 + 512)
    (h1 : win1_11.index t 1 * 1024 ≤ (i 1).val ∧ (i 1).val < win1_11.index t 1 * 1024 + 1024) : i ∈ ((cfg1.win 11).blk t).view.set := by
  show i ∈ ((View.whole main_v24_2).slice (win1_11.rect t)).set
  rw [View.set_slice_whole, Rect.mem_set_unit]
  intro a
  match a with
  | ⟨0, _⟩ => exact h0
  | ⟨1, _⟩ => exact h1

theorem mem1_12 (t : Fin cfg1.N) (i : S1x1024.Idx)
    (h0 : win1_12.index t 0 * 1 ≤ (i 0).val ∧ (i 0).val < win1_12.index t 0 * 1 + 1)
    (h1 : win1_12.index t 1 * 1024 ≤ (i 1).val ∧ (i 1).val < win1_12.index t 1 * 1024 + 1024) : i ∈ ((cfg1.win 12).blk t).view.set := by
  show i ∈ ((View.whole main_v24_3).slice (win1_12.rect t)).set
  rw [View.set_slice_whole, Rect.mem_set_unit]
  intro a
  match a with
  | ⟨0, _⟩ => exact h0
  | ⟨1, _⟩ => exact h1

/-- A result of the second call that is written on the later columns only. -/
theorem final1_9 (i : S8192x2816.Idx) : ((dat1 V c).arrAt 9 cfg1.N : S8192x2816.Idx → EReal) i
    = if 1408 ≤ (i 1).val then DA (fdx V c) (fa V c) (fb V c) (fwd V c) (i 0).val (i 1).val else (V c main_v24_0 : S8192x2816.Idx → EReal) i := by
  refine ((dat1 V c).arrAt_eq_piecewise 9
    (fun i : S8192x2816.Idx => DA (fdx V c) (fa V c) (fb V c) (fwd V c) (i 0).val (i 1).val : Buf (Elt Ideal) ((c : Thread nD τ).loc main_v24_0)) (fun t _ => ?_) i).trans ?_
  · show (cfg1.win 9).cut (grid1.coords t) ((dat1 V c).after 9 t) = _
    rw [after1_9]
    funext j
    rw [View.read_apply]
    refine (o1_9 V c t j).trans ?_
    show DA _ _ _ _ _ _ = DA _ _ _ _ _ _
    congr 1
    · show _ = win1_9.index t 0 * 512 + 1 * (j 0).val; rw [(idx1_9 t).1]; omega
    · show _ = win1_9.index t 1 * 1408 + 1 * (j 1).val; rw [(idx1_9 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg1.N = 16 from N_1]; omega⟩, flush1_9 _, mem1_9 _ _ ?_ ?_⟩
      · rw [(idx1_9 _).1]; dsimp only; omega
      · rw [(idx1_9 _).2]; omega
    · rw [if_neg h]
      refine if_neg ?_
      rintro ⟨t, -, hm⟩
      have hm' : i ∈ ((View.whole main_v24_0).slice (win1_9.rect t)).set := hm
      rw [View.set_slice_whole, Rect.mem_set_unit] at hm'
      have := (hm' 1).1
      have e : win1_9.index t 1 * 1408 ≤ (i 1).val := this
      rw [(idx1_9 t).2] at e
      omega

/-- A result of the second call that is written on the later columns only. -/
theorem final1_10 (i : S8192x2816.Idx) : ((dat1 V c).arrAt 10 cfg1.N : S8192x2816.Idx → EReal) i
    = if 1408 ≤ (i 1).val then DB (fdx V c) (fa V c) (fwd V c) (i 0).val (i 1).val else (V c main_v24_1 : S8192x2816.Idx → EReal) i := by
  refine ((dat1 V c).arrAt_eq_piecewise 10
    (fun i : S8192x2816.Idx => DB (fdx V c) (fa V c) (fwd V c) (i 0).val (i 1).val : Buf (Elt Ideal) ((c : Thread nD τ).loc main_v24_1)) (fun t _ => ?_) i).trans ?_
  · show (cfg1.win 10).cut (grid1.coords t) ((dat1 V c).after 10 t) = _
    rw [after1_10]
    funext j
    rw [View.read_apply]
    refine (o1_10 V c t j).trans ?_
    show DB _ _ _ _ _ = DB _ _ _ _ _
    congr 1
    · show _ = win1_10.index t 0 * 512 + 1 * (j 0).val; rw [(idx1_10 t).1]; omega
    · show _ = win1_10.index t 1 * 1408 + 1 * (j 1).val; rw [(idx1_10 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg1.N = 16 from N_1]; omega⟩, flush1_10 _, mem1_10 _ _ ?_ ?_⟩
      · rw [(idx1_10 _).1]; dsimp only; omega
      · rw [(idx1_10 _).2]; omega
    · rw [if_neg h]
      refine if_neg ?_
      rintro ⟨t, -, hm⟩
      have hm' : i ∈ ((View.whole main_v24_1).slice (win1_10.rect t)).set := hm
      rw [View.set_slice_whole, Rect.mem_set_unit] at hm'
      have := (hm' 1).1
      have e : win1_10.index t 1 * 1408 ≤ (i 1).val := this
      rw [(idx1_10 t).2] at e
      omega

/-- The second call's third result. -/
theorem final1_11 (hp : PartIs V c) : (dat1 V c).arrAt 11 cfg1.N
    = (fun i : S8192x1024.Idx => DX (fdx V c) (fx V c) (fg V c) (fdh V c) (i 0).val (i 1).val : Buf (Elt Ideal) ((c : Thread nD τ).loc main_v24_2)) := by
  refine (dat1 V c).arrAt_eq_of_cover 11 _ (fun t _ => ?_) fun i => ?_
  · show (cfg1.win 11).cut (grid1.coords t) ((dat1 V c).after 11 t) = _
    rw [after1_11]
    funext j
    rw [View.read_apply]
    refine (o1_11 V c t hp j).trans ?_
    show DX _ _ _ _ _ _ = DX _ _ _ _ _ _
    congr 1
    · show _ = win1_11.index t 0 * 512 + 1 * (j 0).val; rw [(idx1_11 t).1]; omega
    · show _ = win1_11.index t 1 * 1024 + 1 * (j 1).val; rw [(idx1_11 t).2]; omega
  · have b0 : (i 0 : Nat) < 8192 := (i 0).isLt
    have b1 : (i 1 : Nat) < 1024 := (i 1).isLt
    refine ⟨⟨(i 0).val / 512, by rw [show cfg1.N = 16 from N_1]; omega⟩, flush1_11 _, mem1_11 _ _ ?_ ?_⟩
    · rw [(idx1_11 _).1]; dsimp only; omega
    · rw [(idx1_11 _).2]; omega

/-- The second call's fourth result, the gain's gradient. -/
theorem final1_12 (hp : PartIs V c) : (dat1 V c).arrAt 12 cfg1.N
    = (fun i : S1x1024.Idx => (∑ p : Fin 8192, fdh V c p.val (i 1).val * XH (fx V c) p.val (i 1).val : EReal) : Buf (Elt Ideal) ((c : Thread nD τ).loc main_v24_3)) := by
  refine (dat1 V c).arrAt_eq_of_cover 12 _ (fun t hf => ?_) fun i => ?_
  · have h15 : t.val = 15 := by have := (flush1_12 t).mp hf; have := lt1 t; omega
    show (cfg1.win 12).cut (grid1.coords t) ((dat1 V c).after 12 t) = _
    rw [after1_12]
    funext j
    rw [View.read_apply]
    refine (o1_12 V c hp t.val t.isLt j).trans ?_
    rw [h15, Finset.sum_range]
    show _ = ∑ p : Fin 8192, fdh V c p.val (win1_12.index t 1 * 1024 + 1 * (j 1).val) * XH (fx V c) p.val (win1_12.index t 1 * 1024 + 1 * (j 1).val)
    rw [(idx1_12 t).2, show 0 * 1024 + 1 * (j 1).val = (j 1).val by omega]
  · have b0 : (i 0 : Nat) < 1 := (i 0).isLt
    have b1 : (i 1 : Nat) < 1024 := (i 1).isLt
    refine ⟨⟨15, by rw [show cfg1.N = 16 from N_1]; omega⟩, (flush1_12 _).mpr rfl, mem1_12 _ _ ?_ ?_⟩
    · rw [(idx1_12 _).1]; omega
    · rw [(idx1_12 _).2]; omega

end Cert.FfnRun
-- ==== Proof.FfnMath.lean ====
/- The maths of the feed-forward net's backward pass on extended reals: the gate's two forms, the two forms of the gradient of
   the root-mean-square norm, and where the terms are real. -/
module

public import proofs.«01_k».proof.Proof.FfnPay

@[expose] public section

noncomputable section

namespace Cert.FfnPay

open Idealize.ShloMosaic

/-- A nonnegative real factor goes into a sum of any extended reals. -/
theorem sum_mul_real {ι : Type} (s : Finset ι) (f : ι → EReal) {r : ℝ} (hr : 0 ≤ r) : ∑ k ∈ s, f k * (r : EReal) = (∑ k ∈ s, f k) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- A real factor taken twice. -/
theorem twice (c : ℝ) (s : EReal) : (c : EReal) * s + (c : EReal) * s = ((c + c : ℝ) : EReal) * s := by
  rcases lt_trichotomy c 0 with h | h | h
  · induction s with
    | bot => rw [EReal.coe_mul_bot_of_neg h, EReal.coe_mul_bot_of_neg (by linarith)]; rfl
    | top => rw [EReal.coe_mul_top_of_neg h, EReal.coe_mul_top_of_neg (by linarith)]; rfl
    | coe s => norm_cast; ring
  · subst h; simp
  · induction s with
    | bot => rw [EReal.coe_mul_bot_of_pos h, EReal.coe_mul_bot_of_pos (by linarith)]; rfl
    | top => rw [EReal.coe_mul_top_of_pos h, EReal.coe_mul_top_of_pos (by linarith)]; rfl
    | coe s => norm_cast; ring

theorem div_one_one : Ideal.div 1 1 = 1 := by
  rw [show (1 : EReal) = ((1 : ℝ) : EReal) from rfl, Ideal.div_coe one_ne_zero]; norm_num

theorem sig_coe (a : ℝ) : sig (a : EReal) = ((1 / (1 + Real.exp (-a)) : ℝ) : EReal) := by
  have h : (1 : EReal) + Ideal.exp (0 - (a : EReal)) = ((1 + Real.exp (-a) : ℝ) : EReal) := by
    rw [zero_sub, ← EReal.coe_neg, Ideal.exp_coe]; norm_cast
  rw [sig, h, Ideal.div_coe (by positivity), one_mul]

theorem sig_top : sig ⊤ = 1 := by
  rw [sig, show (0 : EReal) - ⊤ = ⊥ from rfl, Ideal.exp_bot, add_zero, div_one_one]

theorem sig_bot : sig ⊥ = 0 := by
  rw [sig, show (0 : EReal) - ⊥ = ⊤ from rfl, Ideal.exp_top, show (1 : EReal) + ⊤ = ⊤ from rfl, Ideal.div, if_neg (by simp)]
  simp

/-- The gate's derivative, as the kernel and as the reference have it. -/
theorem gate (t : ℝ) (a : EReal) : (t : EReal) * sig a + (a * (t : EReal)) * (sig a * (1 - sig a)) = daE t a := by
  unfold daE
  induction a with
  | bot => simp [sig_bot]
  | top =>
    rw [sig_top, show (1 : EReal) - 1 = 0 by norm_num [show (1 : EReal) - 1 = ((1 - 1 : ℝ) : EReal) from rfl]]
    simp
  | coe a =>
    rw [sig_coe]
    generalize 1 / (1 + Real.exp (-a)) = s
    norm_cast
    ring

/-! ## The norm -/

section
variable (x : ℕ → EReal)

/-- A row's mean square and the small number. -/
def msq : EReal := (∑ k : Fin 1024, x k.val * x k.val) * ((1 / 1024 : ℝ) : EReal) + ((eps : ℝ) : EReal)

theorem eps_pos : 0 < eps := by unfold eps; norm_num

/-- A row is real, and then so is its reciprocal root, or the reciprocal root is zero. -/
theorem row_cases : (∃ (ξ : ℕ → ℝ) (ν : ℝ), (∀ k < 1024, x k = (ξ k : EReal)) ∧ msq x = (ν : EReal) ∧ 0 < ν) ∨ msq x = ⊤ := by
  by_cases h : ∀ k < 1024, ∃ ξ : ℝ, x k = (ξ : EReal)
  · left
    choose! ξ hξ using h
    refine ⟨ξ, (∑ k : Fin 1024, ξ k.val * ξ k.val) * (1 / 1024) + eps, hξ, ?_, ?_⟩
    · unfold msq
      have e : ∀ k : Fin 1024, x k.val * x k.val = ((ξ k.val * ξ k.val : ℝ) : EReal) := fun k => by
        rw [hξ k.val k.isLt]; norm_cast
      simp only [e]
      rw [EReal.coe_add, EReal.coe_mul, show ((∑ k : Fin 1024, ξ k.val * ξ k.val : ℝ) : EReal) = ∑ k : Fin 1024, ((ξ k.val * ξ k.val : ℝ) : EReal) from
        map_sum (⟨⟨Real.toEReal, rfl⟩, EReal.coe_add⟩ : ℝ →+ EReal) _ _]
    · have := eps_pos
      have : 0 ≤ ∑ k : Fin 1024, ξ k.val * ξ k.val := Finset.sum_nonneg fun k _ => mul_self_nonneg _
      positivity
  · right
    push Not at h
    obtain ⟨k, hk, hx⟩ := h
    have hkk : x k * x k = ⊤ := by
      induction hxk : x k with
      | bot => rfl
      | top => rfl
      | coe r => exact absurd hxk (hx r)
    have hnn : ∀ i : Fin 1024, 0 ≤ x i.val * x i.val := fun i => by
      induction x i.val with
      | bot => exact le_top
      | top => exact le_top
      | coe r => exact_mod_cast mul_self_nonneg r
    have hs : (∑ k : Fin 1024, x k.val * x k.val) = ⊤ := by
      have := Finset.single_le_sum (f := fun i : Fin 1024 => x i.val * x i.val) (fun i _ => hnn i) (Finset.mem_univ (⟨k, hk⟩ : Fin 1024))
      exact top_le_iff.mp (hkk ▸ this)
    rw [msq, hs, EReal.top_mul_coe_of_pos (by norm_num)]
    rfl

/-- The norm's gradient, as the kernel and as the reference have it. -/
theorem norm_grad (d : ℕ → EReal) (k : ℕ) (hk : k < 1024) :
    Ideal.rsqrt (msq x) * (d k - (x k * Ideal.rsqrt (msq x)) * ((∑ q : Fin 1024, d q.val * (x q.val * Ideal.rsqrt (msq x))) * ((1 / 1024 : ℝ) : EReal)))
      = (d k * Ideal.rsqrt (msq x)
          + x k * Ideal.div ((∑ q : Fin 1024, x q.val * d q.val) * (((-1 / 2 : ℝ) : EReal) * Ideal.div (Ideal.rsqrt (msq x)) (msq x))) ((1024 : ℝ) : EReal))
        + Ideal.div ((∑ q : Fin 1024, x q.val * d q.val) * (((-1 / 2 : ℝ) : EReal) * Ideal.div (Ideal.rsqrt (msq x)) (msq x))) ((1024 : ℝ) : EReal) * x k := by
  rcases row_cases x with ⟨ξ, ν, hξ, hν, hpos⟩ | h
  · have hρ : Ideal.rsqrt (msq x) = (((√ν)⁻¹ : ℝ) : EReal) := by
      rw [hν, Ideal.rsqrt_coe, if_neg (not_lt.mpr hpos.le), if_neg hpos.ne']
    have hρ0 : 0 < (√ν)⁻¹ := inv_pos.mpr (Real.sqrt_pos.mpr hpos)
    have hsq : (√ν)⁻¹ * (√ν)⁻¹ = 1 / ν := by
      rw [← mul_inv, Real.mul_self_sqrt hpos.le, one_div]
    rw [hρ, hν]
    generalize (√ν)⁻¹ = ρ at hρ0 hsq
    have hS : (∑ q : Fin 1024, d q.val * (x q.val * (ρ : EReal))) = (∑ q : Fin 1024, x q.val * d q.val) * (ρ : EReal) := by
      rw [← sum_mul_real _ _ hρ0.le]
      exact Finset.sum_congr rfl fun q _ => by rw [mul_comm (x q.val) (d q.val), mul_assoc]
    rw [hS, hξ k hk]
    generalize (∑ q : Fin 1024, x q.val * d q.val) = S
    rw [Ideal.div_coe hpos.ne', Ideal.div_coe (by norm_num : (1024 : ℝ) ≠ 0)]
    have hw : S * (((-1 / 2 : ℝ) : EReal) * ((ρ : EReal) * ((1 / ν : ℝ) : EReal))) * ((1 / 1024 : ℝ) : EReal) = ((-1 / 2 * (ρ * (1 / ν)) * (1 / 1024) : ℝ) : EReal) * S := by
      rw [EReal.coe_mul, EReal.coe_mul, EReal.coe_mul]
      ac_rfl
    rw [hw]
    have hwx : (ξ k : EReal) * (((-1 / 2 * (ρ * (1 / ν)) * (1 / 1024) : ℝ) : EReal) * S) = ((ξ k * (-1 / 2 * (ρ * (1 / ν)) * (1 / 1024)) : ℝ) : EReal) * S := by
      rw [EReal.coe_mul (ξ k)]
      ac_rfl
    rw [mul_comm (((-1 / 2 * (ρ * (1 / ν)) * (1 / 1024) : ℝ) : EReal) * S), hwx, add_assoc, twice]
    have hk2 : (ξ k : EReal) * (ρ : EReal) * (S * (ρ : EReal) * ((1 / 1024 : ℝ) : EReal)) = ((ξ k * ρ * ρ * (1 / 1024) : ℝ) : EReal) * S := by
      rw [EReal.coe_mul, EReal.coe_mul, EReal.coe_mul]
      ac_rfl
    rw [hk2, sub_eq_add_neg, ← EReal.neg_mul, ← EReal.coe_neg, EReal.left_distrib_of_nonneg_of_ne_top (by exact_mod_cast hρ0.le) (EReal.coe_ne_top ρ), mul_comm (ρ : EReal) (d k), ← mul_assoc,
      ← EReal.coe_mul]
    congr 3
    rw [← hsq]
    ring
  · rw [h, Ideal.rsqrt_top]
    have h0 : Ideal.div (0 : EReal) ⊤ = 0 := by rw [Ideal.div, if_neg (by simp), zero_mul]
    rw [h0, Ideal.div_coe (by norm_num : (1024 : ℝ) ≠ 0)]
    simp

/-- The normalised row, scaled by a real, is real. -/
theorem norm_real (g : ℕ → ℝ) (k : ℕ) (hk : k < 1024) : ∃ r : ℝ, x k * Ideal.rsqrt (msq x) * (g k : EReal) = (r : EReal) := by
  rcases row_cases x with ⟨ξ, ν, hξ, hν, hpos⟩ | h
  · rw [hξ k hk, hν, Ideal.rsqrt_coe, if_neg (not_lt.mpr hpos.le), if_neg hpos.ne']
    exact ⟨ξ k * (√ν)⁻¹ * g k, by norm_cast⟩
  · exact ⟨0, by rw [h, Ideal.rsqrt_top]; simp⟩

end

/-- A sum of products of reals is real. -/
theorem dot_real {n : ℕ} (f g : Fin n → EReal) (hf : ∀ k, ∃ r : ℝ, f k = (r : EReal)) (hg : ∀ k, ∃ r : ℝ, g k = (r : EReal)) :
    ∃ r : ℝ, ∑ k, f k * g k = (r : EReal) := by
  choose a ha using hf
  choose b hb using hg
  refine ⟨∑ k, a k * b k, ?_⟩
  simp only [ha, hb]
  rw [show ((∑ k, a k * b k : ℝ) : EReal) = ∑ k, ((a k * b k : ℝ) : EReal) from map_sum (⟨⟨Real.toEReal, rfl⟩, EReal.coe_add⟩ : ℝ →+ EReal) _ _]
  exact Finset.sum_congr rfl fun k _ => (EReal.coe_mul _ _).symm

end Cert.FfnPay
-- ==== Proof.FfnRef.lean ====
/- The reference's gradients of the feed-forward net, read by row and column. -/
module

public import proofs.«01_k».proof.Proof.FfnMath
public import proofs.«01_k».proof.Proof.Gen.ReferenceFfnIdeal.Read
public import Idealize.ShloMosaic.Lib.Pointwise
public import Idealize.ShloMosaic.PureOps.Ideal.Laws

@[expose] public section

set_option maxRecDepth 16384

noncomputable section

namespace Cert.FfnRef

open Cert.ReferenceFfnIdeal Cert.ReferenceFfnIdeal.Read Cert.Rows Cert.FfnPay Idealize.ShloMosaic

theorem zero_bits : Ideal.ofBits .f32 0x00000000#32 = 0 := by simp [Ideal.ofBits, Ideal.ieee]
theorem one_bits : Ideal.ofBits .f32 0x3F800000#32 = 1 := by
  have : Ideal.ofBits .f32 0x3F800000#32 = ((1 : ℝ) : EReal) := by
    simp [Ideal.ofBits, Ideal.ieee, -EReal.coe_mul]; norm_num
  simpa using this
theorem half_bits : Ideal.ofBits .f32 0xBF000000#32 = ((-1 / 2 : ℝ) : EReal) := by
  simp [Ideal.ofBits, Ideal.ieee, -EReal.coe_mul]; norm_num
theorem size_bits : Ideal.ofBits .f32 0x44800000#32 = ((1024 : ℝ) : EReal) := by
  simp [Ideal.ofBits, Ideal.ieee, -EReal.coe_mul]; norm_num
theorem eps_bits : Ideal.ofBits .f32 0x358637BD#32 = ((eps : ℝ) : EReal) := ofBits_eps

variable (x0 x1 : Vec Ideal S8192x1024 .f32) (x2 : Vec Ideal S1x1024 .f32) (x3 x4 : Vec Ideal S1024x2816 .f32) (x5 : Vec Ideal S2816x1024 .f32)

abbrev rdx (p q : ℕ) : EReal := at2 (a := 8192) (b := 1024) x0 p q
abbrev rx (p q : ℕ) : EReal := at2 (a := 8192) (b := 1024) x1 p q
abbrev rg (q : ℕ) : EReal := at2 (a := 1) (b := 1024) x2 0 q
abbrev rwg (p q : ℕ) : EReal := at2 (a := 1024) (b := 2816) x3 q p
abbrev rwu (p q : ℕ) : EReal := at2 (a := 1024) (b := 2816) x4 q p
abbrev rwd (p q : ℕ) : EReal := at2 (a := 2816) (b := 1024) x5 p q
abbrev ra (p q : ℕ) : EReal := at2 (a := 8192) (b := 2816) (val_main_v17 (F := Ideal) x1 x2 x3) p q
abbrev rb (p q : ℕ) : EReal := at2 (a := 8192) (b := 2816) (val_main_v18 (F := Ideal) x1 x2 x4) p q

/-! ## The norm -/

theorem r7 (i : S8192x1.Idx) : val_main_v7 (F := Ideal) x1 i = msq (rx x1 (i 0).val) := by
  rw [val_main_v7_apply, val_main_v5_apply, val_main_v3_apply, val_main_v2_apply, val_main_v4_apply, val_main_v6_apply]
  show Ideal.div (Ideal.ofBits .f32 0x00000000#32 + ∑ k : Fin 1024, _) (Ideal.ofBits .f32 0x44800000#32) + Ideal.ofBits .f32 0x358637BD#32 = _
  rw [zero_bits, size_bits, eps_bits, Ideal.div_coe (by norm_num), zero_add, msq]
  refine congrArg₂ (· + ·) (congrArg₂ (· * ·) (Finset.sum_congr rfl fun k _ => ?_) (by norm_num)) rfl
  rw [val_main_v1_apply]
  exact congrArg₂ (· * ·) (at2_eq x1 _ _ _ rfl rfl) (at2_eq x1 _ _ _ rfl rfl)

theorem r8 (i : S8192x1.Idx) : val_main_v8 (F := Ideal) x1 i = Ideal.rsqrt (msq (rx x1 (i 0).val)) := by
  rw [val_main_v8_apply, r7]; rfl

theorem r11 (i : S8192x1.Idx) : val_main_v11 (F := Ideal) x1 i
    = ((-1 / 2 : ℝ) : EReal) * Ideal.div (Ideal.rsqrt (msq (rx x1 (i 0).val))) (msq (rx x1 (i 0).val)) := by
  rw [val_main_v11_apply, val_main_v10_apply, val_main_v9_apply, r7, r8]
  show Ideal.ofBits .f32 0xBF000000#32 * _ = _
  rw [half_bits]; rfl

theorem r13 (i : S8192x1024.Idx) : val_main_v13 (F := Ideal) x1 i = XH (rx x1) (i 0).val (i 1).val := by
  rw [val_main_v13_apply, val_main_v12_apply, r8]
  exact congrArg₂ (· * ·) (at2_eq x1 _ _ _ rfl rfl) rfl

theorem r15 (i : S8192x1024.Idx) : val_main_v15 (F := Ideal) x2 i = rg x2 (i 1).val := by
  rw [val_main_v15_apply, val_main_v14_apply, val_main_v0_apply]
  exact at2_eq x2 _ _ _ rfl (Nat.mod_eq_of_lt (i 1).isLt)

theorem r16 (i : S8192x1024.Idx) : val_main_v16 (F := Ideal) x1 x2 i = XH (rx x1) (i 0).val (i 1).val * rg x2 (i 1).val := by
  rw [val_main_v16_apply, r13, r15]; rfl

/-! ## The gate -/

theorem r19 (i : S8192x2816.Idx) : val_main_v19_2 (F := Ideal) x1 x2 x3 i = FfnPay.sig (ra x1 x2 x3 (i 0).val (i 1).val) := by
  rw [val_main_v19_2_apply, val_main_call0_v4_apply, val_main_call0_v3_apply, val_main_call0_v2_apply, val_main_call0_v1_apply, val_main_call0_v0_apply]
  show Ideal.div (Ideal.ofBits .f32 0x3F800000#32) (Ideal.ofBits .f32 0x3F800000#32 + Ideal.exp (-(val_main_v17 (F := Ideal) x1 x2 x3 i))) = _
  rw [one_bits, FfnPay.sig, zero_sub, at2_eq (val_main_v17 (F := Ideal) x1 x2 x3) i _ _ rfl rfl]

theorem r19_1 (i : S8192x2816.Idx) : val_main_v19_1 (F := Ideal) x1 x2 x3 i
    = FfnPay.sig (ra x1 x2 x3 (i 0).val (i 1).val) * (1 - FfnPay.sig (ra x1 x2 x3 (i 0).val (i 1).val)) := by
  rw [val_main_v19_1_apply, val_main_call0_v7_apply, val_main_call0_v6_apply, r19]
  show _ * (Ideal.ofBits .f32 0x3F800000#32 - _) = _
  rw [one_bits]

theorem r19_0 (i : S8192x2816.Idx) : val_main_v19_0 (F := Ideal) x1 x2 x3 i
    = ra x1 x2 x3 (i 0).val (i 1).val * FfnPay.sig (ra x1 x2 x3 (i 0).val (i 1).val) := by
  rw [val_main_v19_0_apply, r19]
  exact congrArg₂ (· * ·) (at2_eq (val_main_v17 (F := Ideal) x1 x2 x3) i _ _ rfl rfl) rfl

theorem r22 (i : S8192x2816.Idx) : val_main_v22 (F := Ideal) x0 x5 i = DF (rdx x0) (rwd x5) (i 0).val (i 1).val := by
  rw [val_main_v22_apply, DF]
  exact Finset.sum_congr rfl fun k _ => congrArg₂ (· * ·) (at2_eq x0 _ _ _ rfl rfl) (at2_eq x5 _ _ _ rfl rfl)

theorem r23 (i : S8192x2816.Idx) : val_main_v23 (F := Ideal) x0 x1 x2 x3 x5 i = DB (rdx x0) (ra x1 x2 x3) (rwd x5) (i 0).val (i 1).val := by
  rw [val_main_v23_apply, r19_0, r22]
  exact mul_comm _ _

/-! ## The finite arguments -/

variable (h0 : ∀ i, ∃ r : ℝ, x0 i = (r : EReal)) (h2 : ∀ i, ∃ r : ℝ, x2 i = (r : EReal))
  (h4 : ∀ i, ∃ r : ℝ, x4 i = (r : EReal)) (h5 : ∀ i, ∃ r : ℝ, x5 i = (r : EReal))

include h2 in
theorem h_real (i : S8192x1024.Idx) : ∃ r : ℝ, val_main_v16 (F := Ideal) x1 x2 i = (r : EReal) := by
  have hg : ∀ q, ∃ r : ℝ, rg x2 q = (r : EReal) := fun q => by
    unfold rg at2
    split
    · exact h2 _
    · exact ⟨0, rfl⟩
  choose γ hγ using hg
  rw [r16, hγ]
  exact norm_real (rx x1 (i 0).val) γ (i 1).val (i 1).isLt

include h2 h4 in
theorem b_real (i : S8192x2816.Idx) : ∃ r : ℝ, val_main_v18 (F := Ideal) x1 x2 x4 i = (r : EReal) := by
  rw [val_main_v18_apply]
  exact dot_real _ _ (fun k => h_real x1 x2 h2 _) fun k => h4 _

include h0 h5 in
theorem f_real (i : S8192x2816.Idx) : ∃ r : ℝ, val_main_v22 (F := Ideal) x0 x5 i = (r : EReal) := by
  rw [val_main_v22_apply]
  exact dot_real _ _ (fun k => h0 _) fun k => h5 _

include h0 h2 h4 h5

theorem r25 (i : S8192x2816.Idx) : val_main_v25 (F := Ideal) x0 x1 x2 x3 x4 x5 i
    = DA (rdx x0) (ra x1 x2 x3) (rb x1 x2 x4) (rwd x5) (i 0).val (i 1).val := by
  rw [val_main_v25_apply, val_main_call1_v1_apply, val_main_call1_v2_apply, val_main_call1_v0_apply, r19, r19_1]
  obtain ⟨f, hf⟩ := f_real x0 x5 h0 h5 i
  obtain ⟨b, hb⟩ := b_real x1 x2 x4 h2 h4 i
  have ht : val_main_v24 (F := Ideal) x0 x1 x2 x4 x5 i = ((f * b : ℝ) : EReal) := by
    rw [val_main_v24_apply, hf, hb]; exact (EReal.coe_mul f b).symm
  rw [ht, DA, ← r22, hf, show rb x1 x2 x4 (i 0).val (i 1).val = (b : EReal) from (at2_eq (val_main_v18 (F := Ideal) x1 x2 x4) i _ _ rfl rfl).symm.trans hb,
    ← EReal.coe_mul, ← gate, at2_eq (val_main_v17 (F := Ideal) x1 x2 x3) i _ _ rfl rfl]
  rfl

/-! ## The differential of the normalised rows -/

abbrev rdh : ℕ → ℕ → EReal := DH (rdx x0) (ra x1 x2 x3) (rb x1 x2 x4) (rwg x3) (rwu x4) (rwd x5)

theorem r28 (i : S8192x1024.Idx) : val_main_v28 (F := Ideal) x0 x1 x2 x3 x4 x5 i = rdh x0 x1 x2 x3 x4 x5 (i 0).val (i 1).val := by
  rw [val_main_v28_apply, val_main_v26_apply, val_main_v27_apply]
  have eb : ∀ k : Fin 2816, val_main_v23 (F := Ideal) x0 x1 x2 x3 x5 (lidx_main_v26 i k) * x4 (ridx_main_v26 i k)
      = (fun k => DB (rdx x0) (ra x1 x2 x3) (rwd x5) (i 0).val k * rwu x4 k (i 1).val) k.val := fun k => by
    rw [r23]; exact congrArg₂ (· * ·) rfl (at2_eq x4 _ _ _ rfl rfl)
  have ea : ∀ k : Fin 2816, val_main_v25 (F := Ideal) x0 x1 x2 x3 x4 x5 (lidx_main_v27 i k) * x3 (ridx_main_v27 i k)
      = (fun k => DA (rdx x0) (ra x1 x2 x3) (rb x1 x2 x4) (rwd x5) (i 0).val k * rwg x3 k (i 1).val) k.val := fun k => by
    rw [r25 x0 x1 x2 x3 x4 x5 h0 h2 h4 h5]; exact congrArg₂ (· * ·) rfl (at2_eq x3 _ _ _ rfl rfl)
  have half : ∀ f : ℕ → EReal, ∑ k : Fin 2816, f k.val = (∑ k : Fin 1408, f (0 + k.val)) + ∑ k : Fin 1408, f (1408 + k.val) := fun f => by
    rw [Fin.sum_univ_eq_sum_range f 2816, Fin.sum_univ_eq_sum_range (fun k => f (0 + k)) 1408, Fin.sum_univ_eq_sum_range (fun k => f (1408 + k)) 1408,
      show (2816 : ℕ) = 1408 + 1408 from rfl, Finset.sum_range_add]
    simp only [zero_add]
  refine (congrArg₂ (· + ·)
    ((Finset.sum_congr rfl fun k _ => eb k).trans (half fun k => DB (rdx x0) (ra x1 x2 x3) (rwd x5) (i 0).val k * rwu x4 k (i 1).val))
    ((Finset.sum_congr rfl fun k _ => ea k).trans (half fun k => DA (rdx x0) (ra x1 x2 x3) (rb x1 x2 x4) (rwd x5) (i 0).val k * rwg x3 k (i 1).val))).trans ?_
  rw [rdh, DH, PH, PH]
  ac_rfl

theorem r33 (i : S8192x1024.Idx) : val_main_v33 (F := Ideal) x0 x1 x2 x3 x4 x5 i = rdh x0 x1 x2 x3 x4 x5 (i 0).val (i 1).val * rg x2 (i 1).val := by
  rw [val_main_v33_apply, r28 x0 x1 x2 x3 x4 x5 h0 h2 h4 h5, val_main_v32_apply, val_main_v14_apply, val_main_v0_apply]
  exact congrArg₂ (· * ·) rfl (at2_eq x2 _ _ _ rfl (Nat.mod_eq_of_lt (i 1).isLt))

/-- The reference's weight of a row in the norm's gradient. -/
abbrev W (p : ℕ) : EReal :=
  Ideal.div ((∑ q : Fin 1024, rx x1 p q.val * (rdh x0 x1 x2 x3 x4 x5 p q.val * rg x2 q.val))
    * (((-1 / 2 : ℝ) : EReal) * Ideal.div (Ideal.rsqrt (msq (rx x1 p))) (msq (rx x1 p)))) ((1024 : ℝ) : EReal)

theorem r44 (i : S8192x1024.Idx) : val_main_v44 (F := Ideal) x0 x1 x2 x3 x4 x5 i = W x0 x1 x2 x3 x4 x5 (i 0).val := by
  rw [val_main_v44_apply, val_main_v43_apply, Fin.sum_univ_one, val_main_v42_apply, val_main_v40_apply, val_main_v37_apply, val_main_v36_apply, r11, val_main_v41_apply]
  show Ideal.ofBits .f32 0x00000000#32 + Ideal.div ((Ideal.ofBits .f32 0x00000000#32 + ∑ k : Fin 1024, _) * _) (Ideal.ofBits .f32 0x44800000#32) = _
  rw [zero_bits, size_bits, zero_add, zero_add, W]
  refine congrArg₂ Ideal.div (congrArg₂ (· * ·) (Finset.sum_congr rfl fun k _ => ?_) rfl) rfl
  rw [val_main_v35_apply, r33 x0 x1 x2 x3 x4 x5 h0 h2 h4 h5]
  have e0 : ((idx_main_v36 (idx_main_v37 (idx_main_v43 (idx_main_v44 i) 0)) k) 0).val = (i 0).val := by
    show (i 0).val * 1 + 0 = _; omega
  have e1 : ((idx_main_v36 (idx_main_v37 (idx_main_v43 (idx_main_v44 i) 0)) k) 1).val = k.val := rfl
  rw [e0, e1]
  exact congrArg₂ (· * ·) (at2_eq x1 _ _ _ e0 e1) rfl

/-- The differential of the layer's input. -/
theorem r52 (i : S8192x1024.Idx) : val_main_v52 (F := Ideal) x0 x1 x2 x3 x4 x5 i
    = DX (rdx x0) (rx x1) (rg x2) (rdh x0 x1 x2 x3 x4 x5) (i 0).val (i 1).val := by
  rw [val_main_v52_apply, val_main_v48_apply, val_main_v46_apply, val_main_v47_apply, val_main_v45_apply, val_main_v39_apply, val_main_v38_apply, r8,
    r33 x0 x1 x2 x3 x4 x5 h0 h2 h4 h5, r44 x0 x1 x2 x3 x4 x5 h0 h2 h4 h5, at2_eq x1 i _ _ rfl rfl, at2_eq x0 i _ _ rfl rfl]
  exact congrArg₂ (· + ·) rfl (norm_grad (rx x1 (i 0).val) (fun q => rdh x0 x1 x2 x3 x4 x5 (i 0).val q * rg x2 q) (i 1).val (i 1).isLt).symm

/-- The gradient of the norm's gain. -/
theorem r49 (i : S1x1024.Idx) : val_main_v49 (F := Ideal) x0 x1 x2 x3 x4 x5 i
    = ∑ p : Fin 8192, rdh x0 x1 x2 x3 x4 x5 p.val (i 1).val * XH (rx x1) p.val (i 1).val := by
  rw [val_main_v49_apply, val_main_v34_apply, Fin.sum_univ_one, val_main_v31_apply, val_main_v30_apply]
  show Ideal.ofBits .f32 0x00000000#32 + (Ideal.ofBits .f32 0x00000000#32 + ∑ k : Fin 8192, _) = _
  rw [zero_bits, zero_add, zero_add]
  refine Finset.sum_congr rfl fun k _ => ?_
  rw [val_main_v29_apply, r13, r28 x0 x1 x2 x3 x4 x5 h0 h2 h4 h5]
  have e0 : ((idx_main_v30 (idx_main_v31 (idx_main_v34 (idx_main_v49 i) 0)) k) 0).val = k.val := rfl
  have e1 : ((idx_main_v30 (idx_main_v31 (idx_main_v34 (idx_main_v49 i) 0)) k) 1).val = (i 1).val := by
    show 0 * 1024 + (i 1).val = _; omega
  rw [e0, e1]
  exact mul_comm (XH (rx x1) k.val (i 1).val) _

end Cert.FfnRef

end
-- ==== Proof.FfnFin.lean ====
/- What the precondition says: the entries of the four arrays it names are real numbers. -/
module

public import proofs.«01_k».proof.Defs
public import Idealize.ShloMosaic.Lib.ReduceAll
public import Idealize.ShloMosaic.PureOps.Ideal.Laws

@[expose] public section

set_option maxRecDepth 16384

noncomputable section

namespace Cert.FfnFin

open Idealize.ShloMosaic

theorem real_of_lt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  induction x with
  | bot => simp [Ideal.cmp] at h
  | top => simp [Ideal.cmp] at h
  | coe r => exact ⟨r, rfl⟩

theorem and_one (a b : BitVec 1) (h : IntOp.andi a b = 1#1) : a = 1#1 ∧ b = 1#1 := by
  revert h; unfold IntOp.andi; revert a b; decide

theorem of_pre [Cert.Pre_finite.Facts] (x0 x1 : Vec Ideal ⟨2, ![8192, 1024]⟩ .f32) (x2 : Vec Ideal ⟨2, ![1, 1024]⟩ .f32)
    (x3 x4 : Vec Ideal ⟨2, ![1024, 2816]⟩ .f32) (x5 : Vec Ideal ⟨2, ![2816, 1024]⟩ .f32) (j)
    (h : Cert.Pre_finite.fn (F := Ideal) x0 x1 x2 x3 x4 x5 j = 1#1) :
    (∀ i, ∃ r : ℝ, x0 i = (r : EReal)) ∧ (∀ i, ∃ r : ℝ, x2 i = (r : EReal)) ∧ (∀ i, ∃ r : ℝ, x4 i = (r : EReal))
      ∧ (∀ i, ∃ r : ℝ, x5 i = (r : EReal)) := by
  haveI : Subsingleton (Cert.Pre_finite.S_.Idx) := ⟨fun a b => funext fun k => k.elim0⟩
  obtain ⟨h, h5⟩ := and_one _ _ h
  obtain ⟨h, h4⟩ := and_one _ _ h
  obtain ⟨h0, h2⟩ := and_one _ _ h
  exact ⟨fun i => real_of_lt _ (Host.reduce_andi_all _ _ _ _ j h0 i), fun i => real_of_lt _ (Host.reduce_andi_all _ _ _ _ j h2 i),
    fun i => real_of_lt _ (Host.reduce_andi_all _ _ _ _ j h4 i), fun i => real_of_lt _ (Host.reduce_andi_all _ _ _ _ j h5 i)⟩

end Cert.FfnFin

end
-- ==== Proof.FfnAlg.lean ====
/- The gradients of the feed-forward net: the two calls of the kernel and the reference leave equal results. -/
module

public import proofs.«01_k».proof.Proof.FfnRun
public import proofs.«01_k».proof.Proof.FfnRef
public import proofs.«01_k».proof.Proof.FfnFin
public import proofs.«01_k».proof.Proof.Gen.ReferenceFfnIdeal.Run
public import proofs.«01_k».proof.Proof.Gen.Pre_finite

@[expose] public section

set_option maxRecDepth 16384

noncomputable section

namespace Cert.FfnAlg

open Cert.KernelFfnIdeal Cert.KernelFfnIdeal.Gen Cert.Rows Cert.FfnPay Cert.FfnRun Cert.FfnRef Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

abbrev A0 : Vec Ideal ⟨2, ![8192, 1024]⟩ .f32 := m ((c : Thread nD τ).loc main_arg0)
abbrev A1 : Vec Ideal ⟨2, ![8192, 1024]⟩ .f32 := m ((c : Thread nD τ).loc main_arg1)
abbrev A2 : Vec Ideal ⟨2, ![1, 1024]⟩ .f32 := m ((c : Thread nD τ).loc main_arg2)
abbrev A3 : Vec Ideal ⟨2, ![1024, 2816]⟩ .f32 := m ((c : Thread nD τ).loc main_arg3)
abbrev A4 : Vec Ideal ⟨2, ![1024, 2816]⟩ .f32 := m ((c : Thread nD τ).loc main_arg4)
abbrev A5 : Vec Ideal ⟨2, ![2816, 1024]⟩ .f32 := m ((c : Thread nD τ).loc main_arg5)

/-! ## The operations before the first call -/

theorem host_a : W1 m ρ c (Proc.devRef .tc main_v16) = ReferenceFfnIdeal.Read.val_main_v17 (F := Ideal) (A1 m c) (A2 m c) (A3 m c) := by
  simp only [W1, hostOps0]
  after_results_simp <;> rfl

theorem host_b : W1 m ρ c (Proc.devRef .tc main_v17) = ReferenceFfnIdeal.Read.val_main_v18 (F := Ideal) (A1 m c) (A2 m c) (A4 m c) := by
  simp only [W1, hostOps0]
  after_results_simp <;> rfl

theorem host_wg : W1 m ρ c (Proc.devRef .tc main_v19)
    = (transpose S2816x1024 [1, 0] (A3 m c) transposes_S1024x2816_S2816x1024_1_0 : Vec Ideal S2816x1024 .f32) := by
  simp only [W1, hostOps0]
  after_results_simp <;> rfl

theorem host_wu : W1 m ρ c (Proc.devRef .tc main_v21)
    = (transpose S2816x1024 [1, 0] (A4 m c) transposes_S1024x2816_S2816x1024_1_0 : Vec Ideal S2816x1024 .f32) := by
  simp only [W1, hostOps0]
  after_results_simp <;> rfl

theorem host_wd : W1 m ρ c (Proc.devRef .tc main_v22) = A5 m c := by
  simp only [W1, hostOps0]
  after_results_simp <;> rfl

theorem tr_apply (x : Vec Ideal ⟨2, ![1024, 2816]⟩ .f32) (p q : ℕ) :
    at2 (a := 2816) (b := 1024) (transpose S2816x1024 [1, 0] x transposes_S1024x2816_S2816x1024_1_0 : Vec Ideal S2816x1024 .f32) p q
      = at2 (a := 1024) (b := 2816) x q p := by
  unfold at2
  by_cases h : p < 2816 ∧ q < 1024
  · rw [dif_pos h, dif_pos ⟨h.2, h.1⟩]
    pointwise
  · rw [dif_neg h, dif_neg fun h' => h ⟨h'.2, h'.1⟩]

/-! ## The contents at the two calls -/

section
variable (V : (c : Dev nD) → (b : Ref sig .tc) → Buf (Elt Ideal) ((c : Thread nD τ).loc b))

/-- The contents the two calls start from, but for what the first leaves. -/
structure Starts : Prop where
  dx : V c main_arg0 = A0 m c
  x : V c main_arg1 = A1 m c
  g : V c main_arg2 = A2 m c
  a : V c main_v16 = ReferenceFfnIdeal.Read.val_main_v17 (F := Ideal) (A1 m c) (A2 m c) (A3 m c)
  b : V c main_v17 = ReferenceFfnIdeal.Read.val_main_v18 (F := Ideal) (A1 m c) (A2 m c) (A4 m c)
  wg : V c main_v19 = (transpose S2816x1024 [1, 0] (A3 m c) transposes_S1024x2816_S2816x1024_1_0 : Vec Ideal S2816x1024 .f32)
  wu : V c main_v21 = (transpose S2816x1024 [1, 0] (A4 m c) transposes_S1024x2816_S2816x1024_1_0 : Vec Ideal S2816x1024 .f32)
  wd : V c main_v22 = A5 m c

variable {m c V} (h : Starts m c V)
include h

theorem e_dx : fdx V c = rdx (A0 m c) := by funext p q; unfold fdx; rw [h.dx]
theorem e_x : fx V c = rx (A1 m c) := by funext p q; unfold fx; rw [h.x]
theorem e_g : fg V c = rg (A2 m c) := by funext q; unfold fg; rw [h.g]
theorem e_a : fa V c = ra (A1 m c) (A2 m c) (A3 m c) := by funext p q; unfold fa; rw [h.a]
theorem e_b : fb V c = rb (A1 m c) (A2 m c) (A4 m c) := by funext p q; unfold fb; rw [h.b]
theorem e_wg : fwg V c = rwg (A3 m c) := by funext p q; unfold fwg; rw [h.wg]; exact tr_apply _ p q
theorem e_wu : fwu V c = rwu (A4 m c) := by funext p q; unfold fwu; rw [h.wu]; exact tr_apply _ p q
theorem e_wd : fwd V c = rwd (A5 m c) := by funext p q; unfold fwd; rw [h.wd]

theorem e_dh : fdh V c = rdh (A0 m c) (A1 m c) (A2 m c) (A3 m c) (A4 m c) (A5 m c) := by
  rw [fdh, rdh, e_dx h, e_a h, e_b h, e_wg h, e_wu h, e_wd h]

end

theorem starts1 : Starts m c (V1 m ρ) where
  dx := W1_args m ρ c main_arg0 (by decide)
  x := W1_args m ρ c main_arg1 (by decide)
  g := W1_args m ρ c main_arg2 (by decide)
  a := host_a m ρ c
  b := host_b m ρ c
  wg := host_wg m ρ c
  wu := host_wu m ρ c
  wd := host_wd m ρ c

/-- A buffer the first call only reads is at the second call what it was at the first. -/
theorem w3 (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

theorem starts3 : Starts m c (V3 m ρ) where
  dx := W3_args m ρ c main_arg0 (by decide)
  x := W3_args m ρ c main_arg1 (by decide)
  g := W3_args m ρ c main_arg2 (by decide)
  a := (w3 m ρ c main_v16 (by decide) (by decide)).trans (host_a m ρ c)
  b := (w3 m ρ c main_v17 (by decide) (by decide)).trans (host_b m ρ c)
  wg := (w3 m ρ c main_v19 (by decide) (by decide)).trans (host_wg m ρ c)
  wu := (w3 m ρ c main_v21 (by decide) (by decide)).trans (host_wu m ρ c)
  wd := (w3 m ρ c main_v22 (by decide) (by decide)).trans (host_wd m ρ c)

theorem part3 : V3 m ρ c main_v23_2 = (dat0 (V1 m ρ) c).arrAt 8 cfg0.N :=
  (W3_of m ρ c main_v23_2 (by decide)).trans (W2_arr m ρ c 8)

theorem partIs : PartIs (V3 m ρ) c := by
  intro p q hp hq
  rw [e_dx (starts3 m ρ c), e_a (starts3 m ρ c), e_b (starts3 m ρ c), e_wg (starts3 m ρ c), e_wu (starts3 m ρ c), e_wd (starts3 m ρ c),
    ← e_dx (starts1 m ρ c), ← e_a (starts1 m ρ c), ← e_b (starts1 m ρ c), ← e_wg (starts1 m ρ c), ← e_wu (starts1 m ρ c), ← e_wd (starts1 m ρ c)]
  unfold fpart
  rw [part3, final0_8, at2, dif_pos ⟨hp, hq⟩]
  rfl

theorem copy_a : V3 m ρ c main_v24_0 = (dat0 (V1 m ρ) c).arrAt 6 cfg0.N := by
  refine Eq.trans ?_ (W2_arr m ρ c 6)
  show StableHlo.after hostOps1 (W2 m ρ c) _ = _
  simp only [hostOps1]
  after_results_simp <;> rfl

theorem copy_b : V3 m ρ c main_v24_1 = (dat0 (V1 m ρ) c).arrAt 7 cfg0.N := by
  refine Eq.trans ?_ (W2_arr m ρ c 7)
  show StableHlo.after hostOps1 (W2 m ρ c) _ = _
  simp only [hostOps1]
  after_results_simp <;> rfl

/-! ## The four results -/

theorem out_a : W4 m ρ c (Proc.devRef .tc main_v24_0)
    = (fun i : S8192x2816.Idx => DA (rdx (A0 m c)) (ra (A1 m c) (A2 m c) (A3 m c)) (rb (A1 m c) (A2 m c) (A4 m c)) (rwd (A5 m c)) (i 0).val (i 1).val) := by
  refine (W4_arr m ρ c 9).trans ?_
  funext i
  refine (final1_9 (V3 m ρ) c i).trans ?_
  rw [e_dx (starts3 m ρ c), e_a (starts3 m ρ c), e_b (starts3 m ρ c), e_wd (starts3 m ρ c)]
  by_cases h : 1408 ≤ (i 1).val
  · rw [if_pos h]
  · rw [if_neg h, copy_a, final0_6 (V1 m ρ) c i (not_le.mp h), e_dx (starts1 m ρ c), e_a (starts1 m ρ c), e_b (starts1 m ρ c), e_wd (starts1 m ρ c)]

theorem out_b : W4 m ρ c (Proc.devRef .tc main_v24_1)
    = (fun i : S8192x2816.Idx => DB (rdx (A0 m c)) (ra (A1 m c) (A2 m c) (A3 m c)) (rwd (A5 m c)) (i 0).val (i 1).val) := by
  refine (W4_arr m ρ c 10).trans ?_
  funext i
  refine (final1_10 (V3 m ρ) c i).trans ?_
  rw [e_dx (starts3 m ρ c), e_a (starts3 m ρ c), e_wd (starts3 m ρ c)]
  by_cases h : 1408 ≤ (i 1).val
  · rw [if_pos h]
  · rw [if_neg h, copy_b, final0_7 (V1 m ρ) c i (not_le.mp h), e_dx (starts1 m ρ c), e_a (starts1 m ρ c), e_wd (starts1 m ρ c)]

theorem out_x : W4 m ρ c (Proc.devRef .tc main_v24_2)
    = (fun i : S8192x1024.Idx => DX (rdx (A0 m c)) (rx (A1 m c)) (rg (A2 m c)) (rdh (A0 m c) (A1 m c) (A2 m c) (A3 m c) (A4 m c) (A5 m c)) (i 0).val (i 1).val) := by
  refine (W4_arr m ρ c 11).trans ((final1_11 (V3 m ρ) c (partIs m ρ c)).trans ?_)
  rw [e_dx (starts3 m ρ c), e_x (starts3 m ρ c), e_g (starts3 m ρ c), e_dh (starts3 m ρ c)]

theorem out_g : W4 m ρ c (Proc.devRef .tc main_v24_3)
    = (fun i : S1x1024.Idx => (∑ p : Fin 8192, rdh (A0 m c) (A1 m c) (A2 m c) (A3 m c) (A4 m c) (A5 m c) p.val (i 1).val * XH (rx (A1 m c)) p.val (i 1).val : EReal)) := by
  refine (W4_arr m ρ c 12).trans ((final1_12 (V3 m ρ) c (partIs m ρ c)).trans ?_)
  rw [e_x (starts3 m ρ c), e_dh (starts3 m ρ c)]

local notation "𝕄" => MT nD τ sig Unit (Elt Ideal) ℕ (UR sig nD τ) ℕ

-- the run's implicit arguments are found by unifying its conclusion with this one
set_option backward.isDefEq.respectTransparency.types false in
/-- The kernel's run: every buffer ends at its last contents. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-- The kernel's and the reference's gradients are the same arrays. -/
theorem algebraic : Cert.algebraic_KernelFfnIdeal_ReferenceFfnIdeal_pre_finite := by
  intro m ρ m' ρ' hpre hagree
  refine ⟨fun c => W4 m ρ c (Proc.devRef .tc main_v24_0), fun c => W4 m ρ c (Proc.devRef .tc main_v24_1), fun c => W4 m ρ c (Proc.devRef .tc main_v24_2),
    fun c => W4 m ρ c (Proc.devRef .tc main_v24_3), ?_, ?_⟩
  · refine (θ_run Cert.KernelFfnIdeal.defs _ _).mono (fun _ h c => ?_) (run m ρ)
    exact ⟨h c _ (mem_uc main_v24_0 (by decide)), h c _ (mem_uc main_v24_1 (by decide)), h c _ (mem_uc main_v24_2 (by decide)), h c _ (mem_uc main_v24_3 (by decide)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c), (h c _ (mem_uc main_arg5 (by decide))).trans (W4_main_arg5 m ρ c)⟩
  · refine (θ_run Cert.ReferenceFfnIdeal.defs _ _).mono (fun _ h c => ?_) (Cert.ReferenceFfnIdeal.Value.run (F := Ideal) m' ρ')
    obtain ⟨a0, a1, a2, a3, a4, a5⟩ := hagree c
    obtain ⟨h0, h2, h4, h5⟩ := FfnFin.of_pre (A0 m c) (A1 m c) (A2 m c) (A3 m c) (A4 m c) (A5 m c) (fun a => Fin.elim0 a) (congrFun (hpre c) _)
    refine ⟨(h c).1.trans ?_, (h c).2.1.trans ?_, (h c).2.2.1.trans ?_, (h c).2.2.2.1.trans ?_, (h c).2.2.2.2⟩
    · refine (ReferenceFfnIdeal.Read.val_main_v50_eq (F := Ideal) m' c).trans ?_
      rw [a0, a1, a2, a3, a4, a5]
      refine Eq.trans ?_ (out_a m ρ c).symm
      funext i
      exact (ReferenceFfnIdeal.Read.val_main_v50_apply ..).trans (r25 (A0 m c) (A1 m c) (A2 m c) (A3 m c) (A4 m c) (A5 m c) h0 h2 h4 h5 i)
    · refine (ReferenceFfnIdeal.Read.val_main_v51_eq (F := Ideal) _ _ _ _ _).trans ?_
      rw [a0, a1, a2, a3, a5]
      refine Eq.trans ?_ (out_b m ρ c).symm
      funext i
      exact (ReferenceFfnIdeal.Read.val_main_v51_apply ..).trans (r23 (A0 m c) (A1 m c) (A2 m c) (A3 m c) (A5 m c) i)
    · refine (ReferenceFfnIdeal.Read.val_main_v52_eq (F := Ideal) m' c).trans ?_
      rw [a0, a1, a2, a3, a4, a5]
      refine Eq.trans ?_ (out_x m ρ c).symm
      funext i
      exact r52 (A0 m c) (A1 m c) (A2 m c) (A3 m c) (A4 m c) (A5 m c) h0 h2 h4 h5 i
    · refine (ReferenceFfnIdeal.Read.val_main_v49_eq (F := Ideal) m' c).trans ?_
      rw [a0, a1, a2, a3, a4, a5]
      refine Eq.trans ?_ (out_g m ρ c).symm
      funext i
      exact r49 (A0 m c) (A1 m c) (A2 m c) (A3 m c) (A4 m c) (A5 m c) h0 h2 h4 h5 i

end Cert.FfnAlg

end
-- ==== Proof.GateUp.lean ====
/- The gradients of the gate and up weights: each block of the kernel's results is the sum over the eight row blocks of the
   products of the differentials' rows with the input's rows, and the eight sums together are the reference's one sum. -/
module

public import proofs.«01_k».proof.Proof.Rows
public import proofs.«01_k».proof.Proof.Gen.KernelGateUpIdeal.Value
public import proofs.«01_k».proof.Proof.Gen.ReferenceGateUpIdeal.Read
public import proofs.«01_k».proof.Defs
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.GateUp

open Cert.KernelGateUpIdeal Cert.KernelGateUpIdeal.Gen Cert.Rows Idealize.ShloMosaic Idealize.ShloMosaic.TcCoe Idealize.SL.Sem
open Idealize.ShloMosaic.Pipeline (Dat)

variable (m : (ℓ : Loc nD τ sig) → Buf (Elt Ideal) ℓ)

/-- The product of a block of differentials, transposed, with a block of inputs. -/
abbrev prod (a : Vec Ideal S1024x1408 .bf16) (h : Vec Ideal S1024x1024 .bf16) : Vec Ideal S1408x1024 .f32 :=
  matmul (F := Ideal) (φ₁ := .bf16) (φ₂ := .bf16) dot_S1024x1408_S1024x1024_S1408x1024_0_0_1_1_n_n none a h (constant S1408x1024 .f32 0x00000000#32)

/-- The accumulator's first contents. -/
abbrev zero : Vec Ideal S1408x1024 .f32 := broadcast S1408x1024 (Scalar.ofBits (F := Ideal) .f32 0x00000000#32)

theorem prod_apply (a : Vec Ideal S1024x1408 .bf16) (h : Vec Ideal S1024x1024 .bf16) (j : S1408x1024.Idx) :
    prod a h j = ∑ k : Fin 1024, a (ix2 k (j 0)) * h (ix2 k (j 1)) := by
  unfold prod
  pointwise

theorem zero_apply (j : S1408x1024.Idx) : zero j = 0 := by
  unfold zero
  pointwise

section
variable (c : Dev nD) (i : grid0.Coords) (a2 : Memref sig .tc .vmem S1024x1408 .bf16) (h2 : a2.IsWhole)
  (a3 : Memref sig .tc .vmem S1024x1408 .bf16) (h3 : a3.IsWhole) (a4 : Memref sig .tc .vmem S1024x1024 .bf16) (h4 : a4.IsWhole)
  (a5 : Memref sig .tc .vmem S1408x1024 .bf16) (h5 : a5.IsWhole) (a6 : Memref sig .tc .vmem S1408x1024 .bf16) (h6 : a6.IsWhole)
  (a7 : Memref sig .tc .vmem S1408x1024 .f32) (h7 : a7.IsWhole) (a8 : Memref sig .tc .vmem S1408x1024 .f32) (h8 : a8.IsWhole)
  (x0 x1 : Vec Ideal S1024x1408 .bf16) (x2 : Vec Ideal S1024x1024 .bf16) (s0 s1 : Vec Ideal S1408x1024 .f32)

theorem sout_A_0 (k0 : cond0_0 i) (k1 : ¬cond0_1 i) (k2 : cond0_2 i) (k3 : ¬cond0_3 i) :
    sout0_A_0 c i a2 h2 a3 h3 a4 h4 a5 h5 a6 h6 a7 h7 a8 h8 k0 k1 k2 k3 x0 x1 x2 = addf (F := Ideal) (φ := .f32) zero (prod x0 x2) := by
  unfold sout0_A_0
  rw [View.read_writes_eq_canon _ _ _ (scover0_A_0 c i a2 h2 a3 h3 a4 h4 a5 h5 a6 h6 a7 h7 a8 h8 k0 k1 k2 k3 x0 x1 x2)]
  unfold kernelRun0_A
  dsimp only
  sl_unfold_words
  rw [View.canon_cons_unit_zero (S := S1408x1024) hz, View.readCov_unit_zero (S := S1408x1024) _ hz]
  unfold k0_pay2 k0_pay1
  simp only [View.readAt_eq_ld, h2.read_unread, h4.read_unread, View.ld_unit_zero (S := S1024x1408) hz, View.ld_unit_zero (S := S1024x1024) hz, shapeCast_self]

theorem sout_A_1 (k0 : cond0_0 i) (k1 : ¬cond0_1 i) (k2 : cond0_2 i) (k3 : ¬cond0_3 i) :
    sout0_A_1 c i a2 h2 a3 h3 a4 h4 a5 h5 a6 h6 a7 h7 a8 h8 k0 k1 k2 k3 x0 x1 x2 = addf (F := Ideal) (φ := .f32) zero (prod x1 x2) := by
  unfold sout0_A_1
  rw [View.read_writes_eq_canon _ _ _ (scover0_A_1 c i a2 h2 a3 h3 a4 h4 a5 h5 a6 h6 a7 h7 a8 h8 k0 k1 k2 k3 x0 x1 x2)]
  unfold kernelRun0_A
  dsimp only
  sl_unfold_words
  rw [View.canon_cons_unit_zero (S := S1408x1024) hz, View.readCov_unit_zero (S := S1408x1024) _ hz]
  unfold k0_pay5 k0_pay4
  simp only [View.readAt_eq_ld, h3.read_unread, h4.read_unread, View.ld_unit_zero (S := S1024x1408) hz, View.ld_unit_zero (S := S1024x1024) hz, shapeCast_self]

theorem sout_B_0 (k0 : ¬cond0_0 i) (k1 : ¬cond0_1 i) (k2 : ¬cond0_2 i) (k3 : ¬cond0_3 i) :
    sout0_B_0 c i a2 h2 a3 h3 a4 h4 a5 h5 a6 h6 a7 h7 a8 h8 k0 k1 k2 k3 x0 x1 x2 s0 s1 = addf (F := Ideal) (φ := .f32) s0 (prod x0 x2) := by
  unfold sout0_B_0
  rw [View.read_writes_eq_canon _ _ _ (scover0_B_0 c i a2 h2 a3 h3 a4 h4 a5 h5 a6 h6 a7 h7 a8 h8 k0 k1 k2 k3 x0 x1 x2 s0 s1)]
  unfold kernelRun0_B
  dsimp only
  rw [View.canon_unit_zero hz]
  unfold k0_pay2
  simp only [View.readAt_eq_ld, h2.read_unread, h4.read_unread, h7.read_unread, View.ld_unit_zero (S := S1024x1408) hz, View.ld_unit_zero (S := S1024x1024) hz, View.ld_unit_zero (S := S1408x1024) hz, shapeCast_self]

theorem sout_B_1 (k0 : ¬cond0_0 i) (k1 : ¬cond0_1 i) (k2 : ¬cond0_2 i) (k3 : ¬cond0_3 i) :
    sout0_B_1 c i a2 h2 a3 h3 a4 h4 a5 h5 a6 h6 a7 h7 a8 h8 k0 k1 k2 k3 x0 x1 x2 s0 s1 = addf (F := Ideal) (φ := .f32) s1 (prod x1 x2) := by
  unfold sout0_B_1
  rw [View.read_writes_eq_canon _ _ _ (scover0_B_1 c i a2 h2 a3 h3 a4 h4 a5 h5 a6 h6 a7 h7 a8 h8 k0 k1 k2 k3 x0 x1 x2 s0 s1)]
  unfold kernelRun0_B
  dsimp only
  rw [View.canon_unit_zero hz]
  unfold k0_pay5
  simp only [View.readAt_eq_ld, h3.read_unread, h4.read_unread, h8.read_unread, View.ld_unit_zero (S := S1024x1408) hz, View.ld_unit_zero (S := S1024x1024) hz, View.ld_unit_zero (S := S1408x1024) hz, shapeCast_self]

theorem out_C_3 (k0 : ¬cond0_0 i) (k1 : cond0_1 i) (k2 : ¬cond0_2 i) (k3 : cond0_3 i) :
    out0_C_3 c i a2 h2 a3 h3 a4 h4 a5 h5 a6 h6 a7 h7 a8 h8 k0 k1 k2 k3 x0 x1 x2 s0 s1 = truncf (F := Ideal) .bf16 (addf (F := Ideal) (φ := .f32) s0 (prod x0 x2)) bitsLt_bf16_f32 := by
  unfold out0_C_3
  rw [View.read_writes_eq_canon _ _ _ (cover0_C_3 c i a2 h2 a3 h3 a4 h4 a5 h5 a6 h6 a7 h7 a8 h8 k0 k1 k2 k3 x0 x1 x2 s0 s1)]
  unfold kernelRun0_C
  dsimp only
  sl_unfold_words
  rw [View.canon_unit_zero hz]
  unfold k0_pay3 k0_pay2
  simp only [View.readCov_unit_zero (S := S1408x1024) _ hz, View.readAt_eq_ld, h2.read_unread, h4.read_unread, h7.read_unread, View.ld_unit_zero (S := S1024x1408) hz, View.ld_unit_zero (S := S1024x1024) hz, View.ld_unit_zero (S := S1408x1024) hz, shapeCast_self]

theorem out_C_4 (k0 : ¬cond0_0 i) (k1 : cond0_1 i) (k2 : ¬cond0_2 i) (k3 : cond0_3 i) :
    out0_C_4 c i a2 h2 a3 h3 a4 h4 a5 h5 a6 h6 a7 h7 a8 h8 k0 k1 k2 k3 x0 x1 x2 s0 s1 = truncf (F := Ideal) .bf16 (addf (F := Ideal) (φ := .f32) s1 (prod x1 x2)) bitsLt_bf16_f32 := by
  unfold out0_C_4
  rw [View.read_writes_eq_canon _ _ _ (cover0_C_4 c i a2 h2 a3 h3 a4 h4 a5 h5 a6 h6 a7 h7 a8 h8 k0 k1 k2 k3 x0 x1 x2 s0 s1)]
  unfold kernelRun0_C
  dsimp only
  sl_unfold_words
  rw [View.canon_unit_zero hz]
  unfold k0_pay6 k0_pay5
  simp only [View.readCov_unit_zero (S := S1408x1024) _ hz, View.readAt_eq_ld, h3.read_unread, h4.read_unread, h8.read_unread, View.ld_unit_zero (S := S1024x1408) hz, View.ld_unit_zero (S := S1024x1024) hz, View.ld_unit_zero (S := S1408x1024) hz, shapeCast_self]

end

/-! ## The blocks of the arguments -/

theorem idx0 : ∀ t : Fin cfg0.N, win0_0.index t 0 = t.val % 8 ∧ win0_0.index t 1 = t.val / 8 := by decide +kernel
theorem idx1 : ∀ t : Fin cfg0.N, win0_1.index t 0 = t.val % 8 ∧ win0_1.index t 1 = t.val / 8 := by decide +kernel
theorem idx2 : ∀ t : Fin cfg0.N, win0_2.index t 0 = t.val % 8 ∧ win0_2.index t 1 = 0 := by decide +kernel
theorem idx3 : ∀ t : Fin cfg0.N, win0_3.index t 0 = t.val / 8 ∧ win0_3.index t 1 = 0 := by decide +kernel
theorem idx4 : ∀ t : Fin cfg0.N, win0_4.index t 0 = t.val / 8 ∧ win0_4.index t 1 = 0 := by decide +kernel

theorem lt16 (t : Fin cfg0.N) : t.val < 16 := lt_of_lt_of_eq t.isLt (show cfg0.N = 16 from N_0)

theorem iblk0_apply (c : Dev nD) (t : Fin cfg0.N) (j : S1024x1408.Idx) :
    (iblk m c 0 t : Vec Ideal S1024x1408 .bf16) j = at2 (a := 8192) (b := 2816) (m (c.tc.loc main_arg0)) (1024 * (t.val % 8) + (j 0).val) (1408 * (t.val / 8) + (j 1).val) := by
  unfold iblk
  rw [View.read_apply]
  refine at2_eq (a := 8192) (b := 2816) _ _ _ _ ?_ ?_
  · show win0_0.index t 0 * 1024 + 1 * (j 0).val = _; rw [(idx0 t).1]; omega
  · show win0_0.index t 1 * 1408 + 1 * (j 1).val = _; rw [(idx0 t).2]; omega

theorem iblk1_apply (c : Dev nD) (t : Fin cfg0.N) (j : S1024x1408.Idx) :
    (iblk m c 1 t : Vec Ideal S1024x1408 .bf16) j = at2 (a := 8192) (b := 2816) (m (c.tc.loc main_arg1)) (1024 * (t.val % 8) + (j 0).val) (1408 * (t.val / 8) + (j 1).val) := by
  unfold iblk
  rw [View.read_apply]
  refine at2_eq (a := 8192) (b := 2816) _ _ _ _ ?_ ?_
  · show win0_1.index t 0 * 1024 + 1 * (j 0).val = _; rw [(idx1 t).1]; omega
  · show win0_1.index t 1 * 1408 + 1 * (j 1).val = _; rw [(idx1 t).2]; omega

theorem iblk2_apply (c : Dev nD) (t : Fin cfg0.N) (j : S1024x1024.Idx) :
    (iblk m c 2 t : Vec Ideal S1024x1024 .bf16) j = at2 (a := 8192) (b := 1024) (m (c.tc.loc main_arg2)) (1024 * (t.val % 8) + (j 0).val) (j 1).val := by
  unfold iblk
  rw [View.read_apply]
  refine at2_eq (a := 8192) (b := 1024) _ _ _ _ ?_ ?_
  · show win0_2.index t 0 * 1024 + 1 * (j 0).val = _; rw [(idx2 t).1]; omega
  · show win0_2.index t 1 * 1024 + 1 * (j 1).val = _; rw [(idx2 t).2]; omega

/-! ## The running sums -/

theorem prod0 (c : Dev nD) (t : Fin cfg0.N) (j : S1408x1024.Idx) :
    prod (iblk m c 0 t) (iblk m c 2 t) j
      = ∑ k ∈ Finset.range 1024, colProd (m (c.tc.loc main_arg0)) (m (c.tc.loc main_arg2)) (1408 * (t.val / 8) + (j 0).val) (j 1).val (1024 * (t.val % 8) + k) := by
  rw [prod_apply, ← Fin.sum_univ_eq_sum_range (fun k => colProd (m (c.tc.loc main_arg0)) (m (c.tc.loc main_arg2)) (1408 * (t.val / 8) + (j 0).val) (j 1).val (1024 * (t.val % 8) + k))]
  refine Finset.sum_congr rfl fun k _ => ?_
  rw [iblk0_apply, iblk2_apply]
  rfl

theorem prod1 (c : Dev nD) (t : Fin cfg0.N) (j : S1408x1024.Idx) :
    prod (iblk m c 1 t) (iblk m c 2 t) j
      = ∑ k ∈ Finset.range 1024, colProd (m (c.tc.loc main_arg1)) (m (c.tc.loc main_arg2)) (1408 * (t.val / 8) + (j 0).val) (j 1).val (1024 * (t.val % 8) + k) := by
  rw [prod_apply, ← Fin.sum_univ_eq_sum_range (fun k => colProd (m (c.tc.loc main_arg1)) (m (c.tc.loc main_arg2)) (1408 * (t.val / 8) + (j 0).val) (j 1).val (1024 * (t.val % 8) + k))]
  refine Finset.sum_congr rfl fun k _ => ?_
  rw [iblk1_apply, iblk2_apply]
  rfl

/-- After point `n` the two accumulators hold the sums over the rows met so far. -/
theorem carried (c : Dev nD) : ∀ (n : ℕ) (h : n < cfg0.N), ¬n % 8 = 7 → ∀ j : S1408x1024.Idx,
    (outsAt0 m c n h).2.2.1 j = ∑ k ∈ Finset.range (1024 * (n % 8 + 1)), colProd (m (c.tc.loc main_arg0)) (m (c.tc.loc main_arg2)) (1408 * (n / 8) + (j 0).val) (j 1).val k
    ∧ (outsAt0 m c n h).2.2.2 j = ∑ k ∈ Finset.range (1024 * (n % 8 + 1)), colProd (m (c.tc.loc main_arg1)) (m (c.tc.loc main_arg2)) (1408 * (n / 8) + (j 0).val) (j 1).val k := by
  intro n
  induction n with
  | zero =>
    intro h _ j
    rw [outsAt0_A m c ⟨0, h⟩ rfl (show ¬0 % 8 = 7 by decide) rfl (show ¬0 % 8 = 7 by decide)]
    dsimp only
    rw [sout_A_0, sout_A_1, ValueIdx.addf_apply, ValueIdx.addf_apply, zero_apply, prod0, prod1, zero_add, zero_add]
    simp
  | succ n ih =>
    intro h h7 j
    by_cases h0 : (n + 1) % 8 = 0
    · rw [outsAt0_A m c ⟨n + 1, h⟩ h0 h7 h0 h7]
      dsimp only
      rw [sout_A_0, sout_A_1, ValueIdx.addf_apply, ValueIdx.addf_apply, zero_apply, prod0, prod1, zero_add, zero_add]
      simp [h0]
    · have ih' := ih (Nat.lt_of_succ_lt h) (by omega) j
      rw [outsAt0_B m c ⟨n + 1, h⟩ h0 h7 h0 h7]
      dsimp only
      rw [sout_B_0, sout_B_1, ValueIdx.addf_apply, ValueIdx.addf_apply, prod0, prod1]
      have e1 : (n + 1) % 8 = n % 8 + 1 := by omega
      have e2 : (n + 1) / 8 = n / 8 := by omega
      dsimp only [Nat.add_sub_cancel]
      rw [e1, e2]
      refine ⟨?_, ?_⟩
      · rw [← more 1024 _ (n % 8 + 1)]
        exact congrArg (· + _) ih'.1
      · rw [← more 1024 _ (n % 8 + 1)]
        exact congrArg (· + _) ih'.2

/-- What the last point of each run of eight writes into the first result. -/
theorem flushed3_apply (c : Dev nD) (t : Fin cfg0.N) (h7 : t.val % 8 = 7) (j : S1408x1024.Idx) :
    (outsAt0 m c t.val t.isLt).1 j = ∑ k ∈ Finset.range 8192, colProd (m (c.tc.loc main_arg0)) (m (c.tc.loc main_arg2)) (1408 * (t.val / 8) + (j 0).val) (j 1).val k := by
  have h0 : ¬t.val % 8 = 0 := by omega
  have ih := (carried m c (t.val - 1) (Nat.lt_of_le_of_lt (Nat.sub_le _ _) t.isLt) (by omega) j).1
  rw [outsAt0_C m c t h0 h7 h0 h7]
  dsimp only
  rw [out_C_3]
  show addf (F := Ideal) (φ := .f32) _ _ j = _
  rw [ValueIdx.addf_apply, prod0, ih, h7, show (t.val - 1) % 8 + 1 = 7 by omega, show (t.val - 1) / 8 = t.val / 8 by omega]
  exact more 1024 _ 7

/-- What the last point of each run of eight writes into the second result. -/
theorem flushed4_apply (c : Dev nD) (t : Fin cfg0.N) (h7 : t.val % 8 = 7) (j : S1408x1024.Idx) :
    (outsAt0 m c t.val t.isLt).2.1 j = ∑ k ∈ Finset.range 8192, colProd (m (c.tc.loc main_arg1)) (m (c.tc.loc main_arg2)) (1408 * (t.val / 8) + (j 0).val) (j 1).val k := by
  have h0 : ¬t.val % 8 = 0 := by omega
  have ih := (carried m c (t.val - 1) (Nat.lt_of_le_of_lt (Nat.sub_le _ _) t.isLt) (by omega) j).2
  rw [outsAt0_C m c t h0 h7 h0 h7]
  dsimp only
  rw [out_C_4]
  show addf (F := Ideal) (φ := .f32) _ _ j = _
  rw [ValueIdx.addf_apply, prod1, ih, h7, show (t.val - 1) % 8 + 1 = 7 by omega, show (t.val - 1) / 8 = t.val / 8 by omega]
  exact more 1024 _ 7

/-! ## The results -/

/-- The gradient of the gate weights, as an array. -/
def res0 (c : Dev nD) : Buf (Elt Ideal) ((c : Thread nD τ).loc main_v0_0) := fun i : S2816x1024.Idx =>
  total (m (c.tc.loc main_arg0)) (m (c.tc.loc main_arg2)) (i 0).val (i 1).val

/-- The gradient of the up weights, as an array. -/
def res1 (c : Dev nD) : Buf (Elt Ideal) ((c : Thread nD τ).loc main_v0_1) := fun i : S2816x1024.Idx =>
  total (m (c.tc.loc main_arg1)) (m (c.tc.loc main_arg2)) (i 0).val (i 1).val

theorem mem3 (t : Fin cfg0.N) (i : S2816x1024.Idx)
    (h0 : win0_3.index t 0 * 1408 ≤ (i 0).val ∧ (i 0).val < win0_3.index t 0 * 1408 + 1408)
    (h1 : win0_3.index t 1 * 1024 ≤ (i 1).val ∧ (i 1).val < win0_3.index t 1 * 1024 + 1024) : i ∈ ((cfg0.win 3).blk t).view.set := by
  show i ∈ ((View.whole main_v0_0).slice (win0_3.rect t)).set
  rw [View.set_slice_whole, Rect.mem_set_unit]
  intro a
  match a with
  | ⟨0, _⟩ => exact h0
  | ⟨1, _⟩ => exact h1

theorem final3 (c : Dev nD) : (dats m 0 c).arrAt 3 cfg0.N = res0 m c := by
  refine (dats m 0 c).arrAt_eq_of_cover 3 (res0 m c) (fun t hf => ?_) fun i => ?_
  · have h7 := (flush0_3 t).mp hf
    rw [Value.flushed3]
    funext j
    rw [View.read_apply]
    refine (flushed3_apply m c t h7 j).trans ?_
    show total _ _ _ _ = total _ _ _ _
    congr 1
    · show _ = win0_3.index t 0 * 1408 + 1 * (j 0).val; rw [(idx3 t).1]; omega
    · show _ = win0_3.index t 1 * 1024 + 1 * (j 1).val; rw [(idx3 t).2]; omega
  · have b0 : (i 0 : Nat) < 2816 := (i 0).isLt
    have b1 : (i 1 : Nat) < 1024 := (i 1).isLt
    have hN : cfg0.N = 16 := N_0
    refine ⟨⟨8 * ((i 0).val / 1408) + 7, by rw [hN]; omega⟩, (flush0_3 _).mpr (by dsimp only; omega), mem3 _ _ ?_ ?_⟩
    · rw [(idx3 _).1]; dsimp only; omega
    · rw [(idx3 _).2]; omega

theorem mem4 (t : Fin cfg0.N) (i : S2816x1024.Idx)
    (h0 : win0_4.index t 0 * 1408 ≤ (i 0).val ∧ (i 0).val < win0_4.index t 0 * 1408 + 1408)
    (h1 : win0_4.index t 1 * 1024 ≤ (i 1).val ∧ (i 1).val < win0_4.index t 1 * 1024 + 1024) : i ∈ ((cfg0.win 4).blk t).view.set := by
  show i ∈ ((View.whole main_v0_1).slice (win0_4.rect t)).set
  rw [View.set_slice_whole, Rect.mem_set_unit]
  intro a
  match a with
  | ⟨0, _⟩ => exact h0
  | ⟨1, _⟩ => exact h1

theorem final4 (c : Dev nD) : (dats m 0 c).arrAt 4 cfg0.N = res1 m c := by
  refine (dats m 0 c).arrAt_eq_of_cover 4 (res1 m c) (fun t hf => ?_) fun i => ?_
  · have h7 := (flush0_4 t).mp hf
    rw [Value.flushed4]
    funext j
    rw [View.read_apply]
    refine (flushed4_apply m c t h7 j).trans ?_
    show total _ _ _ _ = total _ _ _ _
    congr 1
    · show _ = win0_4.index t 0 * 1408 + 1 * (j 0).val; rw [(idx4 t).1]; omega
    · show _ = win0_4.index t 1 * 1024 + 1 * (j 1).val; rw [(idx4 t).2]; omega
  · have b0 : (i 0 : Nat) < 2816 := (i 0).isLt
    have b1 : (i 1 : Nat) < 1024 := (i 1).isLt
    have hN : cfg0.N = 16 := N_0
    refine ⟨⟨8 * ((i 0).val / 1408) + 7, by rw [hN]; omega⟩, (flush0_4 _).mpr (by dsimp only; omega), mem4 _ _ ?_ ?_⟩
    · rw [(idx4 _).1]; dsimp only; omega
    · rw [(idx4 _).2]; omega

/-! ## The reference -/

theorem ref0 (x0 : Vec Ideal ⟨2, ![8192, 2816]⟩ .bf16) (x2 : Vec Ideal ⟨2, ![8192, 1024]⟩ .bf16) (i : S2816x1024.Idx) :
    ReferenceGateUpIdeal.Read.val_main_v12 (F := Ideal) x0 x2 i = ∑ k ∈ Finset.range 8192, colProd x0 x2 (i 0).val (i 1).val k := by
  rw [ReferenceGateUpIdeal.Read.val_main_v12_apply]
  refine (ReferenceGateUpIdeal.Read.val_main_v11_apply x0 x2 i).trans ?_
  rw [ReferenceGateUpIdeal.Read.val_main_v10_apply, ReferenceGateUpIdeal.Read.val_main_v9_apply,
    ← Fin.sum_univ_eq_sum_range (fun k => colProd x0 x2 (i 0).val (i 1).val k)]
  refine Finset.sum_congr rfl fun k _ => ?_
  rw [ReferenceGateUpIdeal.Read.val_main_v5_apply, ReferenceGateUpIdeal.Read.val_main_v1_apply]
  exact congrArg₂ (· * ·) (at2_eq x0 _ _ _ rfl rfl) (at2_eq x2 _ _ _ rfl rfl)

theorem ref1 (x1 : Vec Ideal ⟨2, ![8192, 2816]⟩ .bf16) (x2 : Vec Ideal ⟨2, ![8192, 1024]⟩ .bf16) (i : S2816x1024.Idx) :
    ReferenceGateUpIdeal.Read.val_main_v14 (F := Ideal) x1 x2 i = ∑ k ∈ Finset.range 8192, colProd x1 x2 (i 0).val (i 1).val k := by
  rw [ReferenceGateUpIdeal.Read.val_main_v14_apply]
  refine (ReferenceGateUpIdeal.Read.val_main_v13_apply x1 x2 i).trans ?_
  rw [ReferenceGateUpIdeal.Read.val_main_v8_apply, ReferenceGateUpIdeal.Read.val_main_v7_apply,
    ← Fin.sum_univ_eq_sum_range (fun k => colProd x1 x2 (i 0).val (i 1).val k)]
  refine Finset.sum_congr rfl fun k _ => ?_
  rw [ReferenceGateUpIdeal.Read.val_main_v6_apply, ReferenceGateUpIdeal.Read.val_main_v3_apply]
  exact congrArg₂ (· * ·) (at2_eq x1 _ _ _ rfl rfl) (at2_eq x2 _ _ _ rfl rfl)

/-- The kernel's and the reference's gradients of the gate and up weights are the same arrays. -/
theorem algebraic : Cert.algebraic_KernelGateUpIdeal_ReferenceGateUpIdeal := by
  intro m ρ m' ρ' _ hagree
  refine ⟨fun c => res0 m c, fun c => res1 m c, ?_, ?_⟩
  · refine (θ_run Cert.KernelGateUpIdeal.defs _ _).mono (fun _ h c => ?_) (Value.run_blocks (F := Ideal) m ρ)
    exact ⟨(h c).1.trans (final3 m c), (h c).2.1.trans (final4 m c), (h c).2.2⟩
  · refine (θ_run Cert.ReferenceGateUpIdeal.defs _ _).mono (fun _ h c => ?_) (Cert.ReferenceGateUpIdeal.Value.run (F := Ideal) m' ρ')
    refine ⟨(h c).1.trans ?_, (h c).2.1.trans ?_, (h c).2.2⟩
    · rw [(hagree c).1, (hagree c).2.2]
      refine (ReferenceGateUpIdeal.Read.val_main_v12_eq (F := Ideal) _ _).trans ?_
      funext i
      exact ref0 _ _ i
    · rw [(hagree c).2.1, (hagree c).2.2]
      refine (ReferenceGateUpIdeal.Read.val_main_v14_eq (F := Ideal) _ _).trans ?_
      funext i
      exact ref1 _ _ i

end Cert.GateUp

end
-- ==== Proof.Down.lean ====
/- The gradient of w_down: each block of the kernel's result is the sum over the four row blocks of the products of the left side's rows
   with the right side's rows, and the four sums together are the reference's one sum. -/
module

public import proofs.«01_k».proof.Proof.Rows
public import proofs.«01_k».proof.Proof.Gen.KernelDownIdeal.Value
public import proofs.«01_k».proof.Proof.Gen.ReferenceDownIdeal.Read
public import proofs.«01_k».proof.Defs
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.Down

open Cert.KernelDownIdeal Cert.KernelDownIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem pay1_apply (j : S1408x1024.Idx) : k0_pay1 (F := Ideal) j = 0 := by
  unfold k0_pay1
  pointwise

theorem pay2_apply (y : Vec Ideal S2048x1024 .f32) (s : Vec Ideal S1408x1024 .f32) (x : Vec Ideal S2048x1408 .bf16) (j : S1408x1024.Idx) :
    k0_pay2 y s x j = s j + ∑ k : Fin 2048, x (ix2 k (j 0)) * y (ix2 k (j 1)) := by
  unfold k0_pay2
  pointwise

theorem pay3_apply (s : Vec Ideal S1408x1024 .f32) (j : S1408x1024.Idx) : k0_pay3 (F := Ideal) s j = s j := by
  unfold k0_pay3
  pointwise

section
variable (c : Dev nD) (i : grid0.Coords) (a2 : Memref sig .tc .vmem S2048x1408 .bf16) (h2 : a2.IsWhole)
  (a3 : Memref sig .tc .vmem S2048x1024 .f32) (h3 : a3.IsWhole) (a4 : Memref sig .tc .vmem S1408x1024 .bf16) (h4 : a4.IsWhole)
  (a5 : Memref sig .tc .vmem S1408x1024 .f32) (h5 : a5.IsWhole)
  (x0 : Vec Ideal S2048x1408 .bf16) (x1 : Vec Ideal S2048x1024 .f32) (s0 : Vec Ideal S1408x1024 .f32)

theorem sout_A (k0 : cond0_0 i) (k1 : ¬cond0_1 i) : sout0_A_0 c i a2 h2 a3 h3 a4 h4 a5 h5 k0 k1 x0 x1 = k0_pay2 x1 (k0_pay1 (F := Ideal)) x0 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S1408x1024) hz, View.readCov_unit_zero (S := S1408x1024) _ hz]
  simp only [View.readAt_eq_ld, h2.read_unread, h3.read_unread, View.ld_unit_zero (S := S2048x1408) hz, View.ld_unit_zero (S := S2048x1024) hz, shapeCast_self]

theorem sout_B (k0 : ¬cond0_0 i) (k1 : ¬cond0_1 i) : sout0_B_0 c i a2 h2 a3 h3 a4 h4 a5 h5 k0 k1 x0 x1 s0 = k0_pay2 x1 s0 x0 := by
  unfold sout0_B_0
  rw [View.read_writes_eq_canon _ _ _ (scover0_B_0 c i a2 h2 a3 h3 a4 h4 a5 h5 k0 k1 x0 x1 s0)]
  unfold kernelRun0_B
  dsimp only
  rw [View.canon_unit_zero hz]
  simp only [View.readAt_eq_ld, h2.read_unread, h3.read_unread, h5.read_unread, View.ld_unit_zero (S := S2048x1408) hz, View.ld_unit_zero (S := S2048x1024) hz, View.ld_unit_zero (S := S1408x1024) hz, shapeCast_self]

theorem out_C (k0 : ¬cond0_0 i) (k1 : cond0_1 i) : out0_C_2 c i a2 h2 a3 h3 a4 h4 a5 h5 k0 k1 x0 x1 s0 = k0_pay3 (k0_pay2 x1 s0 x0) := by
  unfold out0_C_2
  rw [View.read_writes_eq_canon _ _ _ (cover0_C_2 c i a2 h2 a3 h3 a4 h4 a5 h5 k0 k1 x0 x1 s0)]
  unfold kernelRun0_C
  dsimp only
  sl_unfold_words
  rw [View.canon_unit_zero hz]
  simp only [View.readCov_unit_zero (S := S1408x1024) _ hz, View.readAt_eq_ld, h2.read_unread, h3.read_unread, h5.read_unread, View.ld_unit_zero (S := S2048x1408) hz, View.ld_unit_zero (S := S2048x1024) hz, View.ld_unit_zero (S := S1408x1024) hz, shapeCast_self]

end

/-! ## The blocks of the arguments -/

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 := by decide +kernel

theorem iblk0_apply (c : Dev nD) (t : Fin cfg0.N) (j : S2048x1408.Idx) :
    (iblk m c 0 t : Vec Ideal S2048x1408 .bf16) j = at2 (a := 8192) (b := 2816) (m (c.tc.loc main_arg0)) (2048 * (t.val % 4) + (j 0).val) (1408 * (t.val / 4) + (j 1).val) := by
  unfold iblk
  rw [View.read_apply]
  refine at2_eq (a := 8192) (b := 2816) _ _ _ _ ?_ ?_
  · show win0_0.index t 0 * 2048 + 1 * (j 0).val = _; rw [(idx0 t).1]; omega
  · show win0_0.index t 1 * 1408 + 1 * (j 1).val = _; rw [(idx0 t).2]; omega

theorem iblk1_apply (c : Dev nD) (t : Fin cfg0.N) (j : S2048x1024.Idx) :
    (iblk m c 1 t : Vec Ideal S2048x1024 .f32) j = at2 (a := 8192) (b := 1024) (m (c.tc.loc main_arg1)) (2048 * (t.val % 4) + (j 0).val) (j 1).val := by
  unfold iblk
  rw [View.read_apply]
  refine at2_eq (a := 8192) (b := 1024) _ _ _ _ ?_ ?_
  · show win0_1.index t 0 * 2048 + 1 * (j 0).val = _; rw [(idx1 t).1]; omega
  · show win0_1.index t 1 * 1024 + 1 * (j 1).val = _; rw [(idx1 t).2]; omega

/-! ## The running sum -/

abbrev term (c : Dev nD) (p q k : ℕ) : EReal := colProd (a := 2816) (m (c.tc.loc main_arg0)) (m (c.tc.loc main_arg1)) p q k

theorem step (c : Dev nD) (t : Fin cfg0.N) (s : Vec Ideal S1408x1024 .f32) (j : S1408x1024.Idx) :
    k0_pay2 (iblk m c 1 t) s (iblk m c 0 t) j = s j + ∑ k ∈ Finset.range 2048, term m c (1408 * (t.val / 4) + (j 0).val) (j 1).val (2048 * (t.val % 4) + k) := by
  rw [pay2_apply, ← Fin.sum_univ_eq_sum_range (fun k => term m c (1408 * (t.val / 4) + (j 0).val) (j 1).val (2048 * (t.val % 4) + k))]
  congr 1
  refine Finset.sum_congr rfl fun k _ => ?_
  rw [iblk0_apply, iblk1_apply]
  rfl

/-- After point `n` the accumulator holds the sum over the rows met so far. -/
theorem carried (c : Dev nD) : ∀ (n : ℕ) (h : n < cfg0.N), ¬n % 4 = 3 → ∀ j : S1408x1024.Idx,
    (outsAt0 m c n h).2 j = ∑ k ∈ Finset.range (2048 * (n % 4 + 1)), term m c (1408 * (n / 4) + (j 0).val) (j 1).val k := by
  intro n
  induction n with
  | zero =>
    intro h _ j
    rw [outsAt0_A m c ⟨0, h⟩ rfl (show ¬0 % 4 = 3 by decide)]
    dsimp only
    rw [sout_A, step, pay1_apply, zero_add]
    simp
  | succ n ih =>
    intro h h3 j
    by_cases h0 : (n + 1) % 4 = 0
    · rw [outsAt0_A m c ⟨n + 1, h⟩ h0 h3]
      dsimp only
      rw [sout_A, step, pay1_apply, zero_add]
      simp [h0]
    · have ih' := ih (Nat.lt_of_succ_lt h) (by omega) j
      rw [outsAt0_B m c ⟨n + 1, h⟩ h0 h3]
      dsimp only
      rw [sout_B, step]
      have e1 : (n + 1) % 4 = n % 4 + 1 := by omega
      have e2 : (n + 1) / 4 = n / 4 := by omega
      dsimp only [Nat.add_sub_cancel]
      rw [e1, e2, ← more 2048 _ (n % 4 + 1)]
      exact congrArg (· + _) ih'

/-- What the last point of each run of four writes into the result. -/
theorem flushed_apply (c : Dev nD) (t : Fin cfg0.N) (h3 : t.val % 4 = 3) (j : S1408x1024.Idx) :
    (outsAt0 m c t.val t.isLt).1 j = total (a := 2816) (m (c.tc.loc main_arg0)) (m (c.tc.loc main_arg1)) (1408 * (t.val / 4) + (j 0).val) (j 1).val := by
  have h0 : ¬t.val % 4 = 0 := by omega
  have ih := carried m c (t.val - 1) (Nat.lt_of_le_of_lt (Nat.sub_le _ _) t.isLt) (by omega) j
  rw [outsAt0_C m c t h0 h3]
  dsimp only
  rw [out_C, pay3_apply, step, ih, h3, show (t.val - 1) % 4 + 1 = 3 by omega, show (t.val - 1) / 4 = t.val / 4 by omega]
  exact more 2048 _ 3

/-! ## The result -/

/-- The gradient, as an array. -/
def res (c : Dev nD) : Buf (Elt Ideal) ((c : Thread nD τ).loc main_v0) := fun i : S2816x1024.Idx =>
  total (a := 2816) (m (c.tc.loc main_arg0)) (m (c.tc.loc main_arg1)) (i 0).val (i 1).val

theorem mem2 (t : Fin cfg0.N) (i : S2816x1024.Idx)
    (h0 : win0_2.index t 0 * 1408 ≤ (i 0).val ∧ (i 0).val < win0_2.index t 0 * 1408 + 1408)
    (h1 : win0_2.index t 1 * 1024 ≤ (i 1).val ∧ (i 1).val < win0_2.index t 1 * 1024 + 1024) : i ∈ ((cfg0.win 2).blk t).view.set := by
  show i ∈ ((View.whole main_v0).slice (win0_2.rect t)).set
  rw [View.set_slice_whole, Rect.mem_set_unit]
  intro a
  match a with
  | ⟨0, _⟩ => exact h0
  | ⟨1, _⟩ => exact h1

theorem final2 (c : Dev nD) : (dats m 0 c).arrAt 2 cfg0.N = res m c := by
  refine (dats m 0 c).arrAt_eq_of_cover 2 (res m c) (fun t hf => ?_) fun i => ?_
  · have h3 := (flush0_2 t).mp hf
    rw [Value.flushed2]
    funext j
    rw [View.read_apply]
    refine (flushed_apply m c t h3 j).trans ?_
    show total _ _ _ _ = total _ _ _ _
    congr 1
    · show _ = win0_2.index t 0 * 1408 + 1 * (j 0).val; rw [(idx2 t).1]; omega
    · show _ = win0_2.index t 1 * 1024 + 1 * (j 1).val; rw [(idx2 t).2]; omega
  · have b0 : (i 0 : Nat) < 2816 := (i 0).isLt
    have b1 : (i 1 : Nat) < 1024 := (i 1).isLt
    have hN : cfg0.N = 8 := N_0
    refine ⟨⟨4 * ((i 0).val / 1408) + 3, by rw [hN]; omega⟩, (flush0_2 _).mpr (by dsimp only; omega), mem2 _ _ ?_ ?_⟩
    · rw [(idx2 _).1]; dsimp only; omega
    · rw [(idx2 _).2]; omega

theorem ref_apply (x0 : Vec Ideal ⟨2, ![8192, 2816]⟩ .bf16) (x1 : Vec Ideal ⟨2, ![8192, 1024]⟩ .f32) (i : S2816x1024.Idx) :
    ReferenceDownIdeal.Read.val_main_v5 (F := Ideal) x0 x1 i = total (a := 2816) x0 x1 (i 0).val (i 1).val := by
  rw [ReferenceDownIdeal.Read.val_main_v5_apply]
  refine (ReferenceDownIdeal.Read.val_main_v4_apply x0 x1 i).trans ?_
  rw [ReferenceDownIdeal.Read.val_main_v3_apply, total, ← Fin.sum_univ_eq_sum_range (fun k => colProd x0 x1 (i 0).val (i 1).val k)]
  refine Finset.sum_congr rfl fun k _ => ?_
  rw [ReferenceDownIdeal.Read.val_main_v1_apply, mul_comm]
  exact congrArg₂ (· * ·) (at2_eq x0 _ _ _ rfl rfl) (at2_eq x1 _ _ _ rfl rfl)

/-- The kernel's and the reference's gradients are the same array. -/
theorem algebraic : Cert.algebraic_KernelDownIdeal_ReferenceDownIdeal := by
  intro m ρ m' ρ' _ hagree
  refine ⟨fun c => res m c, ?_, ?_⟩
  · refine (θ_run Cert.KernelDownIdeal.defs _ _).mono (fun _ h c => ?_) (Value.run_blocks (F := Ideal) m ρ)
    exact ⟨(h c).1.trans (final2 m c), (h c).2⟩
  · refine (θ_run Cert.ReferenceDownIdeal.defs _ _).mono (fun _ h c => ?_) (Cert.ReferenceDownIdeal.Value.run (F := Ideal) m' ρ')
    refine ⟨(h c).1.trans ?_, (h c).2⟩
    rw [(hagree c).1, (hagree c).2]
    refine (ReferenceDownIdeal.Read.val_main_v5_eq (F := Ideal) _ _).trans ?_
    funext i
    exact ref_apply _ _ i

end Cert.Down

end
-- ==== Proof.In.lean ====
/- The gradient of w_in: each block of the kernel's result is the sum over the four row blocks of the products of the left side's rows
   with the right side's rows, and the four sums together are the reference's one sum. -/
module

public import proofs.«01_k».proof.Proof.Rows
public import proofs.«01_k».proof.Proof.Gen.KernelInIdeal.Value
public import proofs.«01_k».proof.Proof.Gen.ReferenceInIdeal.Read
public import proofs.«01_k».proof.Defs
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.In

open Cert.KernelInIdeal Cert.KernelInIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem pay1_apply (j : S1152x1024.Idx) : k0_pay1 (F := Ideal) j = 0 := by
  unfold k0_pay1
  pointwise

theorem pay2_apply (y : Vec Ideal S2048x1024 .bf16) (s : Vec Ideal S1152x1024 .f32) (x : Vec Ideal S2048x1152 .bf16) (j : S1152x1024.Idx) :
    k0_pay2 y s x j = s j + ∑ k : Fin 2048, x (ix2 k (j 0)) * y (ix2 k (j 1)) := by
  unfold k0_pay2
  pointwise

theorem pay3_apply (s : Vec Ideal S1152x1024 .f32) (j : S1152x1024.Idx) : k0_pay3 (F := Ideal) s j = s j := by
  unfold k0_pay3
  pointwise

section
variable (c : Dev nD) (i : grid0.Coords) (a2 : Memref sig .tc .vmem S2048x1152 .bf16) (h2 : a2.IsWhole)
  (a3 : Memref sig .tc .vmem S2048x1024 .bf16) (h3 : a3.IsWhole) (a4 : Memref sig .tc .vmem S1152x1024 .bf16) (h4 : a4.IsWhole)
  (a5 : Memref sig .tc .vmem S1152x1024 .f32) (h5 : a5.IsWhole)
  (x0 : Vec Ideal S2048x1152 .bf16) (x1 : Vec Ideal S2048x1024 .bf16) (s0 : Vec Ideal S1152x1024 .f32)

theorem sout_A (k0 : cond0_0 i) (k1 : ¬cond0_1 i) : sout0_A_0 c i a2 h2 a3 h3 a4 h4 a5 h5 k0 k1 x0 x1 = k0_pay2 x1 (k0_pay1 (F := Ideal)) x0 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S1152x1024) hz, View.readCov_unit_zero (S := S1152x1024) _ hz]
  simp only [View.readAt_eq_ld, h2.read_unread, h3.read_unread, View.ld_unit_zero (S := S2048x1152) hz, View.ld_unit_zero (S := S2048x1024) hz, shapeCast_self]

theorem sout_B (k0 : ¬cond0_0 i) (k1 : ¬cond0_1 i) : sout0_B_0 c i a2 h2 a3 h3 a4 h4 a5 h5 k0 k1 x0 x1 s0 = k0_pay2 x1 s0 x0 := by
  unfold sout0_B_0
  rw [View.read_writes_eq_canon _ _ _ (scover0_B_0 c i a2 h2 a3 h3 a4 h4 a5 h5 k0 k1 x0 x1 s0)]
  unfold kernelRun0_B
  dsimp only
  rw [View.canon_unit_zero hz]
  simp only [View.readAt_eq_ld, h2.read_unread, h3.read_unread, h5.read_unread, View.ld_unit_zero (S := S2048x1152) hz, View.ld_unit_zero (S := S2048x1024) hz, View.ld_unit_zero (S := S1152x1024) hz, shapeCast_self]

theorem out_C (k0 : ¬cond0_0 i) (k1 : cond0_1 i) : out0_C_2 c i a2 h2 a3 h3 a4 h4 a5 h5 k0 k1 x0 x1 s0 = k0_pay3 (k0_pay2 x1 s0 x0) := by
  unfold out0_C_2
  rw [View.read_writes_eq_canon _ _ _ (cover0_C_2 c i a2 h2 a3 h3 a4 h4 a5 h5 k0 k1 x0 x1 s0)]
  unfold kernelRun0_C
  dsimp only
  sl_unfold_words
  rw [View.canon_unit_zero hz]
  simp only [View.readCov_unit_zero (S := S1152x1024) _ hz, View.readAt_eq_ld, h2.read_unread, h3.read_unread, h5.read_unread, View.ld_unit_zero (S := S2048x1152) hz, View.ld_unit_zero (S := S2048x1024) hz, View.ld_unit_zero (S := S1152x1024) hz, shapeCast_self]

end

/-! ## The blocks of the arguments -/

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 := by decide +kernel

theorem iblk0_apply (c : Dev nD) (t : Fin cfg0.N) (j : S2048x1152.Idx) :
    (iblk m c 0 t : Vec Ideal S2048x1152 .bf16) j = at2 (a := 8192) (b := 2304) (m (c.tc.loc main_arg0)) (2048 * (t.val % 4) + (j 0).val) (1152 * (t.val / 4) + (j 1).val) := by
  unfold iblk
  rw [View.read_apply]
  refine at2_eq (a := 8192) (b := 2304) _ _ _ _ ?_ ?_
  · show win0_0.index t 0 * 2048 + 1 * (j 0).val = _; rw [(idx0 t).1]; omega
  · show win0_0.index t 1 * 1152 + 1 * (j 1).val = _; rw [(idx0 t).2]; omega

theorem iblk1_apply (c : Dev nD) (t : Fin cfg0.N) (j : S2048x1024.Idx) :
    (iblk m c 1 t : Vec Ideal S2048x1024 .bf16) j = at2 (a := 8192) (b := 1024) (m (c.tc.loc main_arg1)) (2048 * (t.val % 4) + (j 0).val) (j 1).val := by
  unfold iblk
  rw [View.read_apply]
  refine at2_eq (a := 8192) (b := 1024) _ _ _ _ ?_ ?_
  · show win0_1.index t 0 * 2048 + 1 * (j 0).val = _; rw [(idx1 t).1]; omega
  · show win0_1.index t 1 * 1024 + 1 * (j 1).val = _; rw [(idx1 t).2]; omega

/-! ## The running sum -/

abbrev term (c : Dev nD) (p q k : ℕ) : EReal := colProd (a := 2304) (m (c.tc.loc main_arg0)) (m (c.tc.loc main_arg1)) p q k

theorem step (c : Dev nD) (t : Fin cfg0.N) (s : Vec Ideal S1152x1024 .f32) (j : S1152x1024.Idx) :
    k0_pay2 (iblk m c 1 t) s (iblk m c 0 t) j = s j + ∑ k ∈ Finset.range 2048, term m c (1152 * (t.val / 4) + (j 0).val) (j 1).val (2048 * (t.val % 4) + k) := by
  rw [pay2_apply, ← Fin.sum_univ_eq_sum_range (fun k => term m c (1152 * (t.val / 4) + (j 0).val) (j 1).val (2048 * (t.val % 4) + k))]
  congr 1
  refine Finset.sum_congr rfl fun k _ => ?_
  rw [iblk0_apply, iblk1_apply]
  rfl

/-- After point `n` the accumulator holds the sum over the rows met so far. -/
theorem carried (c : Dev nD) : ∀ (n : ℕ) (h : n < cfg0.N), ¬n % 4 = 3 → ∀ j : S1152x1024.Idx,
    (outsAt0 m c n h).2 j = ∑ k ∈ Finset.range (2048 * (n % 4 + 1)), term m c (1152 * (n / 4) + (j 0).val) (j 1).val k := by
  intro n
  induction n with
  | zero =>
    intro h _ j
    rw [outsAt0_A m c ⟨0, h⟩ rfl (show ¬0 % 4 = 3 by decide)]
    dsimp only
    rw [sout_A, step, pay1_apply, zero_add]
    simp
  | succ n ih =>
    intro h h3 j
    by_cases h0 : (n + 1) % 4 = 0
    · rw [outsAt0_A m c ⟨n + 1, h⟩ h0 h3]
      dsimp only
      rw [sout_A, step, pay1_apply, zero_add]
      simp [h0]
    · have ih' := ih (Nat.lt_of_succ_lt h) (by omega) j
      rw [outsAt0_B m c ⟨n + 1, h⟩ h0 h3]
      dsimp only
      rw [sout_B, step]
      have e1 : (n + 1) % 4 = n % 4 + 1 := by omega
      have e2 : (n + 1) / 4 = n / 4 := by omega
      dsimp only [Nat.add_sub_cancel]
      rw [e1, e2, ← more 2048 _ (n % 4 + 1)]
      exact congrArg (· + _) ih'

/-- What the last point of each run of four writes into the result. -/
theorem flushed_apply (c : Dev nD) (t : Fin cfg0.N) (h3 : t.val % 4 = 3) (j : S1152x1024.Idx) :
    (outsAt0 m c t.val t.isLt).1 j = total (a := 2304) (m (c.tc.loc main_arg0)) (m (c.tc.loc main_arg1)) (1152 * (t.val / 4) + (j 0).val) (j 1).val := by
  have h0 : ¬t.val % 4 = 0 := by omega
  have ih := carried m c (t.val - 1) (Nat.lt_of_le_of_lt (Nat.sub_le _ _) t.isLt) (by omega) j
  rw [outsAt0_C m c t h0 h3]
  dsimp only
  rw [out_C, pay3_apply, step, ih, h3, show (t.val - 1) % 4 + 1 = 3 by omega, show (t.val - 1) / 4 = t.val / 4 by omega]
  exact more 2048 _ 3

/-! ## The result -/

/-- The gradient, as an array. -/
def res (c : Dev nD) : Buf (Elt Ideal) ((c : Thread nD τ).loc main_v0) := fun i : S2304x1024.Idx =>
  total (a := 2304) (m (c.tc.loc main_arg0)) (m (c.tc.loc main_arg1)) (i 0).val (i 1).val

theorem mem2 (t : Fin cfg0.N) (i : S2304x1024.Idx)
    (h0 : win0_2.index t 0 * 1152 ≤ (i 0).val ∧ (i 0).val < win0_2.index t 0 * 1152 + 1152)
    (h1 : win0_2.index t 1 * 1024 ≤ (i 1).val ∧ (i 1).val < win0_2.index t 1 * 1024 + 1024) : i ∈ ((cfg0.win 2).blk t).view.set := by
  show i ∈ ((View.whole main_v0).slice (win0_2.rect t)).set
  rw [View.set_slice_whole, Rect.mem_set_unit]
  intro a
  match a with
  | ⟨0, _⟩ => exact h0
  | ⟨1, _⟩ => exact h1

theorem final2 (c : Dev nD) : (dats m 0 c).arrAt 2 cfg0.N = res m c := by
  refine (dats m 0 c).arrAt_eq_of_cover 2 (res m c) (fun t hf => ?_) fun i => ?_
  · have h3 := (flush0_2 t).mp hf
    rw [Value.flushed2]
    funext j
    rw [View.read_apply]
    refine (flushed_apply m c t h3 j).trans ?_
    show total _ _ _ _ = total _ _ _ _
    congr 1
    · show _ = win0_2.index t 0 * 1152 + 1 * (j 0).val; rw [(idx2 t).1]; omega
    · show _ = win0_2.index t 1 * 1024 + 1 * (j 1).val; rw [(idx2 t).2]; omega
  · have b0 : (i 0 : Nat) < 2304 := (i 0).isLt
    have b1 : (i 1 : Nat) < 1024 := (i 1).isLt
    have hN : cfg0.N = 8 := N_0
    refine ⟨⟨4 * ((i 0).val / 1152) + 3, by rw [hN]; omega⟩, (flush0_2 _).mpr (by dsimp only; omega), mem2 _ _ ?_ ?_⟩
    · rw [(idx2 _).1]; dsimp only; omega
    · rw [(idx2 _).2]; omega

theorem ref_apply (x0 : Vec Ideal ⟨2, ![8192, 2304]⟩ .bf16) (x1 : Vec Ideal ⟨2, ![8192, 1024]⟩ .bf16) (i : S2304x1024.Idx) :
    ReferenceInIdeal.Read.val_main_v7 (F := Ideal) x0 x1 i = total (a := 2304) x0 x1 (i 0).val (i 1).val := by
  rw [ReferenceInIdeal.Read.val_main_v7_apply]
  refine (ReferenceInIdeal.Read.val_main_v6_apply x0 x1 i).trans ?_
  rw [ReferenceInIdeal.Read.val_main_v5_apply, ReferenceInIdeal.Read.val_main_v4_apply, total, ← Fin.sum_univ_eq_sum_range (fun k => colProd x0 x1 (i 0).val (i 1).val k)]
  refine Finset.sum_congr rfl fun k _ => ?_
  rw [ReferenceInIdeal.Read.val_main_v3_apply, ReferenceInIdeal.Read.val_main_v1_apply]
  exact congrArg₂ (· * ·) (at2_eq x0 _ _ _ rfl rfl) (at2_eq x1 _ _ _ rfl rfl)

/-- The kernel's and the reference's gradients are the same array. -/
theorem algebraic : Cert.algebraic_KernelInIdeal_ReferenceInIdeal := by
  intro m ρ m' ρ' _ hagree
  refine ⟨fun c => res m c, ?_, ?_⟩
  · refine (θ_run Cert.KernelInIdeal.defs _ _).mono (fun _ h c => ?_) (Value.run_blocks (F := Ideal) m ρ)
    exact ⟨(h c).1.trans (final2 m c), (h c).2⟩
  · refine (θ_run Cert.ReferenceInIdeal.defs _ _).mono (fun _ h c => ?_) (Cert.ReferenceInIdeal.Value.run (F := Ideal) m' ρ')
    refine ⟨(h c).1.trans ?_, (h c).2⟩
    rw [(hagree c).1, (hagree c).2]
    refine (ReferenceInIdeal.Read.val_main_v7_eq (F := Ideal) _ _).trans ?_
    funext i
    exact ref_apply _ _ i

end Cert.In

end
-- ==== Proof.Out.lean ====
/- The gradient of w_o: each block of the kernel's result is the sum over the four row blocks of the products of the left side's rows
   with the right side's rows, and the four sums together are the reference's one sum. -/
module

public import proofs.«01_k».proof.Proof.Rows
public import proofs.«01_k».proof.Proof.Gen.KernelOutIdeal.Value
public import proofs.«01_k».proof.Proof.Gen.ReferenceOutIdeal.Read
public import proofs.«01_k».proof.Defs
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.Out

open Cert.KernelOutIdeal Cert.KernelOutIdeal.Gen Cert.Rows Idealize.ShloMosaic Idealize.ShloMosaic.TcCoe Idealize.SL.Sem
open Idealize.ShloMosaic.Pipeline (Dat)

variable (m : (ℓ : Loc nD τ sig) → Buf (Elt Ideal) ℓ)

theorem pay1_apply (j : S1024x1024.Idx) : k0_pay1 (F := Ideal) j = 0 := by
  unfold k0_pay1
  pointwise

theorem pay2_apply (y : Vec Ideal S2048x1024 .f32) (s : Vec Ideal S1024x1024 .f32) (x : Vec Ideal S2048x1024 .bf16) (j : S1024x1024.Idx) :
    k0_pay2 y s x j = s j + ∑ k : Fin 2048, x (ix2 k (j 0)) * y (ix2 k (j 1)) := by
  unfold k0_pay2
  pointwise

theorem pay3_apply (s : Vec Ideal S1024x1024 .f32) (j : S1024x1024.Idx) : k0_pay3 (F := Ideal) s j = s j := by
  unfold k0_pay3
  pointwise

section
variable (c : Dev nD) (i : grid0.Coords) (a2 : Memref sig .tc .vmem S2048x1024 .bf16) (h2 : a2.IsWhole)
  (a3 : Memref sig .tc .vmem S2048x1024 .f32) (h3 : a3.IsWhole) (a4 : Memref sig .tc .vmem S1024x1024 .bf16) (h4 : a4.IsWhole)
  (a5 : Memref sig .tc .vmem S1024x1024 .f32) (h5 : a5.IsWhole)
  (x0 : Vec Ideal S2048x1024 .bf16) (x1 : Vec Ideal S2048x1024 .f32) (s0 : Vec Ideal S1024x1024 .f32)

theorem sout_A (k0 : cond0_0 i) (k1 : ¬cond0_1 i) : sout0_A_0 c i a2 h2 a3 h3 a4 h4 a5 h5 k0 k1 x0 x1 = k0_pay2 x1 (k0_pay1 (F := Ideal)) x0 := by
  unfold sout0_A_0
  rw [View.read_writes_eq_canon _ _ _ (scover0_A_0 c i a2 h2 a3 h3 a4 h4 a5 h5 k0 k1 x0 x1)]
  unfold kernelRun0_A
  dsimp only
  sl_unfold_words
  rw [View.canon_cons_unit_zero (S := S1024x1024) hz, View.readCov_unit_zero (S := S1024x1024) _ hz]
  simp only [View.readAt_eq_ld, h2.read_unread, h3.read_unread, View.ld_unit_zero (S := S2048x1024) hz, View.ld_unit_zero (S := S2048x1024) hz, shapeCast_self]

theorem sout_B (k0 : ¬cond0_0 i) (k1 : ¬cond0_1 i) : sout0_B_0 c i a2 h2 a3 h3 a4 h4 a5 h5 k0 k1 x0 x1 s0 = k0_pay2 x1 s0 x0 := by
  unfold sout0_B_0
  rw [View.read_writes_eq_canon _ _ _ (scover0_B_0 c i a2 h2 a3 h3 a4 h4 a5 h5 k0 k1 x0 x1 s0)]
  unfold kernelRun0_B
  dsimp only
  rw [View.canon_unit_zero hz]
  simp only [View.readAt_eq_ld, h2.read_unread, h3.read_unread, h5.read_unread, View.ld_unit_zero (S := S2048x1024) hz, View.ld_unit_zero (S := S2048x1024) hz, View.ld_unit_zero (S := S1024x1024) hz, shapeCast_self]

theorem out_C (k0 : ¬cond0_0 i) (k1 : cond0_1 i) : out0_C_2 c i a2 h2 a3 h3 a4 h4 a5 h5 k0 k1 x0 x1 s0 = k0_pay3 (k0_pay2 x1 s0 x0) := by
  unfold out0_C_2
  rw [View.read_writes_eq_canon _ _ _ (cover0_C_2 c i a2 h2 a3 h3 a4 h4 a5 h5 k0 k1 x0 x1 s0)]
  unfold kernelRun0_C
  dsimp only
  sl_unfold_words
  rw [View.canon_unit_zero hz]
  simp only [View.readCov_unit_zero (S := S1024x1024) _ hz, View.readAt_eq_ld, h2.read_unread, h3.read_unread, h5.read_unread, View.ld_unit_zero (S := S2048x1024) hz, View.ld_unit_zero (S := S2048x1024) hz, View.ld_unit_zero (S := S1024x1024) hz, shapeCast_self]

end

/-! ## The blocks of the arguments -/

theorem idx0 : ∀ t : Fin cfg0.N, win0_0.index t 0 = t.val % 4 ∧ win0_0.index t 1 = t.val / 4 := by decide +kernel
theorem idx1 : ∀ t : Fin cfg0.N, win0_1.index t 0 = t.val % 4 ∧ win0_1.index t 1 = 0 := by decide +kernel
theorem idx2 : ∀ t : Fin cfg0.N, win0_2.index t 0 = t.val / 4 ∧ win0_2.index t 1 = 0 := by decide +kernel

theorem iblk0_apply (c : Dev nD) (t : Fin cfg0.N) (j : S2048x1024.Idx) :
    (iblk m c 0 t : Vec Ideal S2048x1024 .bf16) j = at2 (a := 8192) (b := 1024) (m (c.tc.loc main_arg0)) (2048 * (t.val % 4) + (j 0).val) (1024 * (t.val / 4) + (j 1).val) := by
  unfold iblk
  rw [View.read_apply]
  refine at2_eq (a := 8192) (b := 1024) _ _ _ _ ?_ ?_
  · show win0_0.index t 0 * 2048 + 1 * (j 0).val = _; rw [(idx0 t).1]; omega
  · show win0_0.index t 1 * 1024 + 1 * (j 1).val = _; rw [(idx0 t).2]; omega

theorem iblk1_apply (c : Dev nD) (t : Fin cfg0.N) (j : S2048x1024.Idx) :
    (iblk m c 1 t : Vec Ideal S2048x1024 .f32) j = at2 (a := 8192) (b := 1024) (m (c.tc.loc main_arg1)) (2048 * (t.val % 4) + (j 0).val) (j 1).val := by
  unfold iblk
  rw [View.read_apply]
  refine at2_eq (a := 8192) (b := 1024) _ _ _ _ ?_ ?_
  · show win0_1.index t 0 * 2048 + 1 * (j 0).val = _; rw [(idx1 t).1]; omega
  · show win0_1.index t 1 * 1024 + 1 * (j 1).val = _; rw [(idx1 t).2]; omega

/-! ## The running sum -/

abbrev term (c : Dev nD) (p q k : ℕ) : EReal := colProd (a := 1024) (m (c.tc.loc main_arg0)) (m (c.tc.loc main_arg1)) p q k

theorem step (c : Dev nD) (t : Fin cfg0.N) (s : Vec Ideal S1024x1024 .f32) (j : S1024x1024.Idx) :
    k0_pay2 (iblk m c 1 t) s (iblk m c 0 t) j = s j + ∑ k ∈ Finset.range 2048, term m c (1024 * (t.val / 4) + (j 0).val) (j 1).val (2048 * (t.val % 4) + k) := by
  rw [pay2_apply, ← Fin.sum_univ_eq_sum_range (fun k => term m c (1024 * (t.val / 4) + (j 0).val) (j 1).val (2048 * (t.val % 4) + k))]
  congr 1
  refine Finset.sum_congr rfl fun k _ => ?_
  rw [iblk0_apply, iblk1_apply]
  rfl

/-- After point `n` the accumulator holds the sum over the rows met so far. -/
theorem carried (c : Dev nD) : ∀ (n : ℕ) (h : n < cfg0.N), ¬n % 4 = 3 → ∀ j : S1024x1024.Idx,
    (outsAt0 m c n h).2 j = ∑ k ∈ Finset.range (2048 * (n % 4 + 1)), term m c (1024 * (n / 4) + (j 0).val) (j 1).val k := by
  intro n
  induction n with
  | zero =>
    intro h _ j
    rw [outsAt0_A m c ⟨0, h⟩ rfl (show ¬0 % 4 = 3 by decide)]
    dsimp only
    rw [sout_A, step, pay1_apply, zero_add]
    simp
  | succ n ih =>
    intro h h3 j
    by_cases h0 : (n + 1) % 4 = 0
    · rw [outsAt0_A m c ⟨n + 1, h⟩ h0 h3]
      dsimp only
      rw [sout_A, step, pay1_apply, zero_add]
      simp [h0]
    · have ih' := ih (Nat.lt_of_succ_lt h) (by omega) j
      rw [outsAt0_B m c ⟨n + 1, h⟩ h0 h3]
      dsimp only
      rw [sout_B, step]
      have e1 : (n + 1) % 4 = n % 4 + 1 := by omega
      have e2 : (n + 1) / 4 = n / 4 := by omega
      dsimp only [Nat.add_sub_cancel]
      rw [e1, e2, ← more 2048 _ (n % 4 + 1)]
      exact congrArg (· + _) ih'

/-- What the last point of each run of four writes into the result. -/
theorem flushed_apply (c : Dev nD) (t : Fin cfg0.N) (h3 : t.val % 4 = 3) (j : S1024x1024.Idx) :
    (outsAt0 m c t.val t.isLt).1 j = total (a := 1024) (m (c.tc.loc main_arg0)) (m (c.tc.loc main_arg1)) (1024 * (t.val / 4) + (j 0).val) (j 1).val := by
  have h0 : ¬t.val % 4 = 0 := by omega
  have ih := carried m c (t.val - 1) (Nat.lt_of_le_of_lt (Nat.sub_le _ _) t.isLt) (by omega) j
  rw [outsAt0_C m c t h0 h3]
  dsimp only
  rw [out_C, pay3_apply, step, ih, h3, show (t.val - 1) % 4 + 1 = 3 by omega, show (t.val - 1) / 4 = t.val / 4 by omega]
  exact more 2048 _ 3

/-! ## The result -/

/-- The gradient, as an array. -/
def res (c : Dev nD) : Buf (Elt Ideal) ((c : Thread nD τ).loc main_v0) := fun i : S1024x1024.Idx =>
  total (a := 1024) (m (c.tc.loc main_arg0)) (m (c.tc.loc main_arg1)) (i 0).val (i 1).val

theorem mem2 (t : Fin cfg0.N) (i : S1024x1024.Idx)
    (h0 : win0_2.index t 0 * 1024 ≤ (i 0).val ∧ (i 0).val < win0_2.index t 0 * 1024 + 1024)
    (h1 : win0_2.index t 1 * 1024 ≤ (i 1).val ∧ (i 1).val < win0_2.index t 1 * 1024 + 1024) : i ∈ ((cfg0.win 2).blk t).view.set := by
  show i ∈ ((View.whole main_v0).slice (win0_2.rect t)).set
  rw [View.set_slice_whole, Rect.mem_set_unit]
  intro a
  match a with
  | ⟨0, _⟩ => exact h0
  | ⟨1, _⟩ => exact h1

theorem final2 (c : Dev nD) : (dats m 0 c).arrAt 2 cfg0.N = res m c := by
  refine (dats m 0 c).arrAt_eq_of_cover 2 (res m c) (fun t hf => ?_) fun i => ?_
  · have h3 := (flush0_2 t).mp hf
    rw [Value.flushed2]
    funext j
    rw [View.read_apply]
    refine (flushed_apply m c t h3 j).trans ?_
    show total _ _ _ _ = total _ _ _ _
    congr 1
    · show _ = win0_2.index t 0 * 1024 + 1 * (j 0).val; rw [(idx2 t).1]; omega
    · show _ = win0_2.index t 1 * 1024 + 1 * (j 1).val; rw [(idx2 t).2]; omega
  · have b0 : (i 0 : Nat) < 1024 := (i 0).isLt
    have b1 : (i 1 : Nat) < 1024 := (i 1).isLt
    have hN : cfg0.N = 4 := N_0
    refine ⟨⟨4 * ((i 0).val / 1024) + 3, by rw [hN]; omega⟩, (flush0_2 _).mpr (by dsimp only; omega), mem2 _ _ ?_ ?_⟩
    · rw [(idx2 _).1]; dsimp only; omega
    · rw [(idx2 _).2]; omega

theorem ref_apply (x0 : Vec Ideal ⟨2, ![8192, 1024]⟩ .bf16) (x1 : Vec Ideal ⟨2, ![8192, 1024]⟩ .f32) (i : S1024x1024.Idx) :
    ReferenceOutIdeal.Read.val_main_v5 (F := Ideal) x0 x1 i = total (a := 1024) x0 x1 (i 0).val (i 1).val := by
  rw [ReferenceOutIdeal.Read.val_main_v5_apply]
  refine (ReferenceOutIdeal.Read.val_main_v4_apply x0 x1 i).trans ?_
  rw [ReferenceOutIdeal.Read.val_main_v3_apply, total, ← Fin.sum_univ_eq_sum_range (fun k => colProd x0 x1 (i 0).val (i 1).val k)]
  refine Finset.sum_congr rfl fun k _ => ?_
  rw [ReferenceOutIdeal.Read.val_main_v1_apply, mul_comm]
  exact congrArg₂ (· * ·) (at2_eq x0 _ _ _ rfl rfl) (at2_eq x1 _ _ _ rfl rfl)

/-- The kernel's and the reference's gradients are the same array. -/
theorem algebraic : Cert.algebraic_KernelOutIdeal_ReferenceOutIdeal := by
  intro m ρ m' ρ' _ hagree
  refine ⟨fun c => res m c, ?_, ?_⟩
  · refine (θ_run Cert.KernelOutIdeal.defs _ _).mono (fun _ h c => ?_) (Value.run_blocks (F := Ideal) m ρ)
    exact ⟨(h c).1.trans (final2 m c), (h c).2⟩
  · refine (θ_run Cert.ReferenceOutIdeal.defs _ _).mono (fun _ h c => ?_) (Cert.ReferenceOutIdeal.Value.run (F := Ideal) m' ρ')
    refine ⟨(h c).1.trans ?_, (h c).2⟩
    rw [(hagree c).1, (hagree c).2]
    refine (ReferenceOutIdeal.Read.val_main_v5_eq (F := Ideal) _ _).trans ?_
    funext i
    exact ref_apply _ _ i

end Cert.Out

end
-- ==== Proof.Proj.lean ====
/- The backward pass of the input projection and its norm: a row of the kernel's differential is the row of the projection's
   differential against the weights, taken back through the norm; the gain's gradient is the sum over the rows, a block at a time. -/
module

public import proofs.«01_k».proof.Proof.FfnRef
public import proofs.«01_k».proof.Proof.Gen.KernelProjIdeal.Value
public import proofs.«01_k».proof.Proof.Gen.ReferenceProjIdeal.Read
public import proofs.«01_k».proof.Defs
public import Idealize.ShloMosaic.Lib.Pointwise
public import Idealize.ShloMosaic.Lib.Pipeline.Value
public import Idealize.ShloMosaic.Lib.Pipeline.ValueKit.Acc

@[expose] public section

set_option maxRecDepth 16384

noncomputable section

namespace Cert.Proj

open Cert.KernelProjIdeal Cert.KernelProjIdeal.Gen Cert.Rows Cert.FfnPay Idealize.ShloMosaic Idealize.ShloMosaic.TcCoe Idealize.ShloMosaic.Tactic Idealize.SL.Sem
open Idealize.ShloMosaic.Pipeline (Dat)

/-! ## The bodies by row and column -/

/-- The differential of the normalised rows. -/
def DN (dp w : ℕ → ℕ → EReal) (p k : ℕ) : EReal := ∑ q : Fin 2304, dp p q.val * w q.val k

section
variable {dp w x dres : ℕ → ℕ → EReal} {g : ℕ → EReal} {P : ℕ}
variable {v3 : Vec Ideal S1024x2304 .bf16} {v4 : Vec Ideal S2304x1024 .bf16} {v7 v40 : Vec Ideal S1024x1024 .f32} {v8 : Vec Ideal S1x1024 .f32}

theorem k_dn (h3 : ∀ j, v3 j = dp (P + (j 0).val) (j 1).val) (h4 : ∀ j, v4 j = w (j 0).val (j 1).val) (j : S1024x1024.Idx) :
    k0_pay3 v3 v4 j = DN dp w (P + (j 0).val) (j 1).val := by
  unfold k0_pay3
  pointwise
  simp only [h3, h4]
  rfl

theorem k_rr (h7 : ∀ j, v7 j = x (P + (j 0).val) (j 1).val) (j : S1024x1.Idx) : k0_pay4 v7 j = RR x (P + (j 0).val) := by
  unfold k0_pay4
  pointwise
  simp only [h7]
  rw [ofBits_inv, ofBits_eps, RR, ← sum_chunks (fun k => x (P + (j 0).val) k * x (P + (j 0).val) k)]
  rfl

theorem k_xh (h7 : ∀ j, v7 j = x (P + (j 0).val) (j 1).val) (j : S1024x1024.Idx) : k0_pay5 v7 j = XH x (P + (j 0).val) (j 1).val := by
  unfold k0_pay5
  pointwise
  rw [k_rr h7, h7]
  rfl

theorem k_dg (h3 : ∀ j, v3 j = dp (P + (j 0).val) (j 1).val) (h4 : ∀ j, v4 j = w (j 0).val (j 1).val)
    (h7 : ∀ j, v7 j = x (P + (j 0).val) (j 1).val) (v : Vec Ideal S1x1024 .f32) (j : S1x1024.Idx) :
    k0_pay6 v3 v4 v7 v j = v j + ∑ i : Fin 1024, DN dp w (P + i.val) (j 1).val * XH x (P + i.val) (j 1).val := by
  have e : k0_pay6 v3 v4 v7 v j = v j + ∑ i : Fin 1024, k0_pay3 v3 v4 (ix2 i (j 1)) * k0_pay5 v7 (ix2 i (j 1)) := by
    unfold k0_pay6
    pointwise
  rw [e]
  simp only [k_dn h3 h4, k_xh h7]
  rfl

theorem k_dx (h3 : ∀ j, v3 j = dp (P + (j 0).val) (j 1).val) (h4 : ∀ j, v4 j = w (j 0).val (j 1).val)
    (h7 : ∀ j, v7 j = x (P + (j 0).val) (j 1).val) (h8 : ∀ j, v8 j = g (j 1).val) (h40 : ∀ j, v40 j = dres (P + (j 0).val) (j 1).val) (j : S1024x1024.Idx) :
    k0_pay1 (k0_pay3 v3 v4) (k0_pay4 v7) (k0_pay5 v7) v40 v8 j = DX dres x g (DN dp w) (P + (j 0).val) (j 1).val := by
  unfold k0_pay1
  pointwise
  simp only [k_dn h3 h4, h8, h40, k_rr h7, k_xh h7]
  rw [ofBits_inv, DX, MM, ← sum_chunks (fun k => DN dp w (P + (j 0).val) k * g k * XH x (P + (j 0).val) k)]
  rfl

end

theorem pay2_zero (j : S1x1024.Idx) : k0_pay2 (F := Ideal) j = 0 := by
  unfold k0_pay2
  pointwise

/-! ## What the two cases leave -/

section
variable (c : Dev nD) (i : grid0.Coords) (a1 : Memref sig .tc .vmem S1024x2304 .bf16) (h1 : a1.IsWhole) (a2 : Memref sig .tc .vmem S2304x1024 .bf16) (h2 : a2.IsWhole)
  (a3 : Memref sig .tc .vmem S1024x1024 .f32) (h3 : a3.IsWhole) (a4 : Memref sig .tc .vmem S1x1024 .f32) (h4 : a4.IsWhole)
  (a5 : Memref sig .tc .vmem S1024x1024 .f32) (h5 : a5.IsWhole) (a6 : Memref sig .tc .vmem S1024x1024 .f32) (h6 : a6.IsWhole)
  (a7 : Memref sig .tc .vmem S1x1024 .f32) (h7 : a7.IsWhole)
  (x0 : Vec Ideal S1024x2304 .bf16) (x1 : Vec Ideal S2304x1024 .bf16) (x2 : Vec Ideal S1024x1024 .f32) (x3 : Vec Ideal S1x1024 .f32) (x4 : Vec Ideal S1024x1024 .f32)
  (s : Vec Ideal S1x1024 .f32)

theorem out_A_5 (k0 : cond0_0 i) : out0_A_5 c i a1 h1 a2 h2 a3 h3 a4 h4 a5 h5 a6 h6 a7 h7 k0 x0 x1 x2 x3 x4
    = k0_pay1 (k0_pay3 x0 x1) (k0_pay4 x2) (k0_pay5 x2) x4 x3 := by
  unfold out0_A_5
  rw [View.read_writes_eq_canon _ _ _ (cover0_A_5 c i a1 h1 a2 h2 a3 h3 a4 h4 a5 h5 a6 h6 a7 h7 k0 x0 x1 x2 x3 x4)]
  unfold kernelRun0_A
  dsimp only
  sl_unfold_words
  rw [View.canon_unit_zero hz]
  simp only [View.readAt_eq_ld, h1.read_unread, h2.read_unread, h3.read_unread, h4.read_unread, h5.read_unread, View.ld_unit_zero (S := S1024x2304) hz,
    View.ld_unit_zero (S := S2304x1024) hz, View.ld_unit_zero (S := S1024x1024) hz, View.ld_unit_zero (S := S1x1024) hz]

theorem out_B_5 (k0 : ¬cond0_0 i) : out0_B_5 c i a1 h1 a2 h2 a3 h3 a4 h4 a5 h5 a6 h6 a7 h7 k0 x0 x1 x2 x3 x4 s
    = k0_pay1 (k0_pay3 x0 x1) (k0_pay4 x2) (k0_pay5 x2) x4 x3 := by
  unfold out0_B_5
  rw [View.read_writes_eq_canon _ _ _ (cover0_B_5 c i a1 h1 a2 h2 a3 h3 a4 h4 a5 h5 a6 h6 a7 h7 k0 x0 x1 x2 x3 x4 s)]
  unfold kernelRun0_B
  dsimp only
  sl_unfold_words
  rw [View.canon_unit_zero hz]
  simp only [View.readAt_eq_ld, h1.read_unread, h2.read_unread, h3.read_unread, h4.read_unread, h5.read_unread, View.ld_unit_zero (S := S1024x2304) hz,
    View.ld_unit_zero (S := S2304x1024) hz, View.ld_unit_zero (S := S1024x1024) hz, View.ld_unit_zero (S := S1x1024) hz]

theorem out_A_6 (k0 : cond0_0 i) : out0_A_6 c i a1 h1 a2 h2 a3 h3 a4 h4 a5 h5 a6 h6 a7 h7 k0 x0 x1 x2 x3 x4
    = k0_pay6 x0 x1 x2 (k0_pay2 (F := Ideal)) := by
  unfold out0_A_6
  rw [View.read_writes_eq_canon _ _ _ (cover0_A_6 c i a1 h1 a2 h2 a3 h3 a4 h4 a5 h5 a6 h6 a7 h7 k0 x0 x1 x2 x3 x4)]
  unfold kernelRun0_A
  dsimp only
  sl_unfold_words
  rw [View.canon_cons_unit_zero (S := S1x1024) hz, View.readCov_unit_zero (S := S1x1024) _ hz]
  simp only [View.readAt_eq_ld, h1.read_unread, h2.read_unread, h3.read_unread, h4.read_unread, h5.read_unread, View.ld_unit_zero (S := S1024x2304) hz,
    View.ld_unit_zero (S := S2304x1024) hz, View.ld_unit_zero (S := S1024x1024) hz, View.ld_unit_zero (S := S1x1024) hz]

theorem out_B_6 (k0 : ¬cond0_0 i) : out0_B_6 c i a1 h1 a2 h2 a3 h3 a4 h4 a5 h5 a6 h6 a7 h7 k0 x0 x1 x2 x3 x4 s = k0_pay6 x0 x1 x2 s := by
  unfold out0_B_6
  rw [View.read_writes_eq_canon _ _ _ (cover0_B_6 c i a1 h1 a2 h2 a3 h3 a4 h4 a5 h5 a6 h6 a7 h7 k0 x0 x1 x2 x3 x4 s)]
  unfold kernelRun0_B
  dsimp only
  sl_unfold_words
  rw [View.canon_unit_zero hz]
  simp only [View.readAt_eq_ld, h1.read_unread, h2.read_unread, h3.read_unread, h7.read_unread, View.ld_unit_zero (S := S1024x2304) hz,
    View.ld_unit_zero (S := S2304x1024) hz, View.ld_unit_zero (S := S1024x1024) hz, View.ld_unit_zero (S := S1x1024) hz]

end

/-! ## The blocks of the arguments -/

variable (m : (ℓ : Loc nD τ sig) → Buf (Elt Ideal) ℓ) (c : Dev nD)

def fp (p q : ℕ) : EReal := at2 (a := 8192) (b := 2304) (m (c.tc.loc main_arg0)) p q
def fw (p q : ℕ) : EReal := at2 (a := 1024) (b := 2304) (m (c.tc.loc main_arg1)) q p
def fx (p q : ℕ) : EReal := at2 (a := 8192) (b := 1024) (m (c.tc.loc main_arg2)) p q
def fg (q : ℕ) : EReal := at2 (a := 1) (b := 1024) (m (c.tc.loc main_arg3)) 0 q
def fr (p q : ℕ) : EReal := at2 (a := 8192) (b := 1024) (m (c.tc.loc main_arg4)) p q

theorem host_w : V m c main_v1 = (transpose S2304x1024 [1, 0] (m (c.tc.loc main_arg1)) transposes_S1024x2304_S2304x1024_1_0 : Vec Ideal S2304x1024 .f32) := by
  show StableHlo.after hostOps0 _ _ = _
  simp only [hostOps0]
  after_results_simp <;> rfl

theorem host_w_apply (i : S2304x1024.Idx) : (V m c main_v1 : S2304x1024.Idx → EReal) i = fw m c (i 0).val (i 1).val := by
  rw [host_w]
  refine Eq.trans (b := (m (c.tc.loc main_arg1) : S1024x2304.Idx → EReal) (ix2 (i 1) (i 0))) ?_ (at2_eq (a := 1024) (b := 2304) _ _ _ _ rfl rfl)
  pointwise

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = t.val ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = t.val ∧ win0_4.index t 1 = 0 := by decide +kernel
theorem idx5 : ∀ t : Fin cfg0.N, win0_5.index t 0 = t.val ∧ win0_5.index t 1 = 0 := by decide +kernel
theorem idx6 : ∀ t : Fin cfg0.N, win0_6.index t 0 = 0 ∧ win0_6.index t 1 = 0 := by decide +kernel

section
variable (t : Fin cfg0.N)

theorem b0 (j : S1024x2304.Idx) : (iblk m c 0 t : Vec Ideal S1024x2304 .bf16) j = fp m c (1024 * t.val + (j 0).val) (j 1).val := by
  unfold iblk
  rw [View.read_apply]
  refine at2_eq (a := 8192) (b := 2304) _ _ _ _ ?_ ?_
  · show win0_0.index t 0 * 1024 + 1 * (j 0).val = _; rw [(idx0 t).1]; omega
  · show win0_0.index t 1 * 2304 + 1 * (j 1).val = _; rw [(idx0 t).2]; omega

theorem b1 (j : S2304x1024.Idx) : (iblk m c 1 t : Vec Ideal S2304x1024 .bf16) j = fw m c (j 0).val (j 1).val := by
  unfold iblk
  rw [View.read_apply]
  refine (host_w_apply m c _).trans ?_
  congr 1
  · show win0_1.index t 0 * 2304 + 1 * (j 0).val = _; rw [(idx1 t).1]; omega
  · show win0_1.index t 1 * 1024 + 1 * (j 1).val = _; rw [(idx1 t).2]; omega

theorem b2 (j : S1024x1024.Idx) : (iblk m c 2 t : Vec Ideal S1024x1024 .f32) j = fx m c (1024 * t.val + (j 0).val) (j 1).val := by
  unfold iblk
  rw [View.read_apply]
  refine at2_eq (a := 8192) (b := 1024) _ _ _ _ ?_ ?_
  · show win0_2.index t 0 * 1024 + 1 * (j 0).val = _; rw [(idx2 t).1]; omega
  · show win0_2.index t 1 * 1024 + 1 * (j 1).val = _; rw [(idx2 t).2]; omega

theorem b3 (j : S1x1024.Idx) : (iblk m c 3 t : Vec Ideal S1x1024 .f32) j = fg m c (j 1).val := by
  have b : (j 0).val < 1 := (j 0).isLt
  unfold iblk
  rw [View.read_apply]
  refine at2_eq (a := 1) (b := 1024) _ _ _ _ ?_ ?_
  · show win0_3.index t 0 * 1 + 1 * (j 0).val = _; rw [(idx3 t).1]; omega
  · show win0_3.index t 1 * 1024 + 1 * (j 1).val = _; rw [(idx3 t).2]; omega

theorem b4 (j : S1024x1024.Idx) : (iblk m c 4 t : Vec Ideal S1024x1024 .f32) j = fr m c (1024 * t.val + (j 0).val) (j 1).val := by
  unfold iblk
  rw [View.read_apply]
  refine at2_eq (a := 8192) (b := 1024) _ _ _ _ ?_ ?_
  · show win0_4.index t 0 * 1024 + 1 * (j 0).val = _; rw [(idx4 t).1]; omega
  · show win0_4.index t 1 * 1024 + 1 * (j 1).val = _; rw [(idx4 t).2]; omega

/-! ## What a point leaves -/

abbrev fd : ℕ → ℕ → EReal := DN (fp m c) (fw m c)

theorem o5 (j : S1024x1024.Idx) : (outsAt0 m c t.val t.isLt).1 j = DX (fr m c) (fx m c) (fg m c) (fd m c) (1024 * t.val + (j 0).val) (j 1).val := by
  have e : (outsAt0 m c t.val t.isLt).1 = k0_pay1 (k0_pay3 (iblk m c 0 t) (iblk m c 1 t)) (k0_pay4 (iblk m c 2 t)) (k0_pay5 (iblk m c 2 t)) (iblk m c 4 t) (iblk m c 3 t) := by
    by_cases h0 : t.val % 8 = 0
    · rw [congrArg (fun x => x.1) (outsAt0_A m c t h0)]; dsimp only; rw [out_A_5]
    · rw [congrArg (fun x => x.1) (outsAt0_B m c t h0)]; dsimp only; rw [out_B_5]
  rw [e]
  exact k_dx (b0 m c t) (b1 m c t) (b2 m c t) (b3 m c t) (b4 m c t) j

theorem o6_A (h0 : t.val % 8 = 0) : (outsAt0 m c t.val t.isLt).2 = k0_pay6 (iblk m c 0 t) (iblk m c 1 t) (iblk m c 2 t) (k0_pay2 (F := Ideal)) := by
  rw [congrArg (fun x => x.2) (outsAt0_A m c t h0)]; dsimp only; rw [out_A_6]

theorem o6_B (h0 : ¬t.val % 8 = 0) : (outsAt0 m c t.val t.isLt).2
    = k0_pay6 (iblk m c 0 t) (iblk m c 1 t) (iblk m c 2 t) (outsAt0 m c (t.val - 1) (Nat.lt_of_le_of_lt (Nat.sub_le _ _) t.isLt)).2 := by
  rw [congrArg (fun x => x.2) (outsAt0_B m c t h0)]; dsimp only; rw [out_B_6]

end

theorem lt8 (t : Fin cfg0.N) : t.val < 8 := lt_of_lt_of_eq t.isLt (show cfg0.N = 8 from N_0)

/-- The gain's gradient after a point: the sum over the rows so far. -/
theorem o6 : ∀ (n : ℕ) (hn : n < cfg0.N) (j : S1x1024.Idx),
    (outsAt0 m c n hn).2 j = ∑ i ∈ Finset.range (1024 * (n + 1)), fd m c i (j 1).val * XH (fx m c) i (j 1).val := by
  intro n
  induction n with
  | zero =>
    intro hn j
    rw [o6_A m c ⟨0, hn⟩ rfl, k_dg (b0 m c ⟨0, hn⟩) (b1 m c ⟨0, hn⟩) (b2 m c ⟨0, hn⟩) _ j, Finset.sum_range, pay2_zero, zero_add]
    refine Finset.sum_congr rfl fun i _ => ?_
    rw [show 1024 * 0 + i.val = i.val by omega]
  | succ n ih =>
    intro hn j
    have hN : n + 1 < 8 := lt8 ⟨n + 1, hn⟩
    rw [o6_B m c ⟨n + 1, hn⟩ (by dsimp only; omega), k_dg (b0 m c ⟨n + 1, hn⟩) (b1 m c ⟨n + 1, hn⟩) (b2 m c ⟨n + 1, hn⟩) _ j]
    rw [show 1024 * (n + 1 + 1) = 1024 * (n + 1) + 1024 by omega, Finset.sum_range_add]
    refine congrArg₂ (· + ·) (ih (Nat.lt_of_succ_lt hn) j) ?_
    rw [Finset.sum_range]

theorem mem5 (t : Fin cfg0.N) (i : S8192x1024.Idx)
    (h0 : win0_5.index t 0 * 1024 ≤ (i 0).val ∧ (i 0).val < win0_5.index t 0 * 1024 + 1024)
    (h1 : win0_5.index t 1 * 1024 ≤ (i 1).val ∧ (i 1).val < win0_5.index t 1 * 1024 + 1024) : i ∈ ((cfg0.win 5).blk t).view.set := by
  show i ∈ ((View.whole main_v2_0).slice (win0_5.rect t)).set
  rw [View.set_slice_whole, Rect.mem_set_unit]
  intro a
  match a with
  | ⟨0, _⟩ => exact h0
  | ⟨1, _⟩ => exact h1

theorem mem6 (t : Fin cfg0.N) (i : S1x1024.Idx)
    (h0 : win0_6.index t 0 * 1 ≤ (i 0).val ∧ (i 0).val < win0_6.index t 0 * 1 + 1)
    (h1 : win0_6.index t 1 * 1024 ≤ (i 1).val ∧ (i 1).val < win0_6.index t 1 * 1024 + 1024) : i ∈ ((cfg0.win 6).blk t).view.set := by
  show i ∈ ((View.whole main_v2_1).slice (win0_6.rect t)).set
  rw [View.set_slice_whole, Rect.mem_set_unit]
  intro a
  match a with
  | ⟨0, _⟩ => exact h0
  | ⟨1, _⟩ => exact h1

/-- The kernel's two results, as arrays. -/
def resX : Buf (Elt Ideal) ((c : Thread nD τ).loc main_v2_0) := fun i : S8192x1024.Idx => DX (fr m c) (fx m c) (fg m c) (fd m c) (i 0).val (i 1).val
def resG : Buf (Elt Ideal) ((c : Thread nD τ).loc main_v2_1) := fun i : S1x1024.Idx =>
  (∑ p : Fin 8192, fd m c p.val (i 1).val * XH (fx m c) p.val (i 1).val : EReal)

theorem final5 : (dats m 0 c).arrAt 5 cfg0.N = resX m c := by
  refine (dats m 0 c).arrAt_eq_of_cover 5 (resX m c) (fun t _ => ?_) fun i => ?_
  · rw [Value.flushed5]
    funext j
    rw [View.read_apply]
    refine (o5 m c t j).trans ?_
    show DX _ _ _ _ _ _ = DX _ _ _ _ _ _
    congr 1
    · show _ = win0_5.index t 0 * 1024 + 1 * (j 0).val; rw [(idx5 t).1]; omega
    · show _ = win0_5.index t 1 * 1024 + 1 * (j 1).val; rw [(idx5 t).2]; omega
  · have b0 : (i 0 : Nat) < 8192 := (i 0).isLt
    have b1 : (i 1 : Nat) < 1024 := (i 1).isLt
    refine ⟨⟨(i 0).val / 1024, by rw [show cfg0.N = 8 from N_0]; omega⟩, flush0_5 _, mem5 _ _ ?_ ?_⟩
    · rw [(idx5 _).1]; dsimp only; omega
    · rw [(idx5 _).2]; omega

theorem final6 : (dats m 0 c).arrAt 6 cfg0.N = resG m c := by
  refine (dats m 0 c).arrAt_eq_of_cover 6 (resG m c) (fun t hf => ?_) fun i => ?_
  · have h7 : t.val = 7 := by have := (flush0_6 t).mp hf; have := lt8 t; omega
    rw [Value.flushed6]
    funext j
    rw [View.read_apply]
    refine (o6 m c t.val t.isLt j).trans ?_
    rw [h7, Finset.sum_range]
    show _ = ∑ p : Fin 8192, fd m c p.val (win0_6.index t 1 * 1024 + 1 * (j 1).val) * XH (fx m c) p.val (win0_6.index t 1 * 1024 + 1 * (j 1).val)
    rw [(idx6 t).2, show 0 * 1024 + 1 * (j 1).val = (j 1).val by omega]
  · have b0 : (i 0 : Nat) < 1 := (i 0).isLt
    have b1 : (i 1 : Nat) < 1024 := (i 1).isLt
    refine ⟨⟨7, by rw [show cfg0.N = 8 from N_0]; omega⟩, (flush0_6 _).mpr rfl, mem6 _ _ ?_ ?_⟩
    · rw [(idx6 _).1]; omega
    · rw [(idx6 _).2]; omega

/-! ## The reference -/

namespace Ref

open Cert.ReferenceProjIdeal.Read
open Cert.FfnRef (rx rg zero_bits size_bits)

variable (x0 : Vec Ideal ⟨2, ![8192, 2304]⟩ .bf16) (x1 : Vec Ideal ⟨2, ![1024, 2304]⟩ .f32) (x2 : Vec Ideal S8192x1024 .f32) (x3 : Vec Ideal S1x1024 .f32)
  (x4 : Vec Ideal S8192x1024 .f32)

abbrev rr (p q : ℕ) : EReal := at2 (a := 8192) (b := 1024) x4 p q
abbrev rd : ℕ → ℕ → EReal := DN (fun p q => at2 (a := 8192) (b := 2304) x0 p q) (fun p q => at2 (a := 1024) (b := 2304) x1 q p)

theorem r8 (i : Cert.ReferenceProjIdeal.S8192x1.Idx) : val_main_v8 (F := Ideal) x2 i = Ideal.rsqrt (msq (rx x2 (i 0).val)) := FfnRef.r8 x2 i

theorem r11 (i : Cert.ReferenceProjIdeal.S8192x1.Idx) : val_main_v11 (F := Ideal) x2 i
    = ((-1 / 2 : ℝ) : EReal) * Ideal.div (Ideal.rsqrt (msq (rx x2 (i 0).val))) (msq (rx x2 (i 0).val)) := FfnRef.r11 x2 i

theorem r13 (i : S8192x1024.Idx) : val_main_v13 (F := Ideal) x2 i = XH (rx x2) (i 0).val (i 1).val := FfnRef.r13 x2 i

theorem r19 (i : S8192x1024.Idx) : val_main_v19 (F := Ideal) x0 x1 i = rd x0 x1 (i 0).val (i 1).val := by
  rw [val_main_v19_apply, rd, DN]
  refine Finset.sum_congr rfl fun k _ => ?_
  rw [val_main_v18_apply]
  exact congrArg₂ (· * ·) (at2_eq x0 _ _ _ rfl rfl) (at2_eq x1 _ _ _ rfl rfl)

theorem r24 (i : S8192x1024.Idx) : val_main_v24 (F := Ideal) x0 x1 x3 i = rd x0 x1 (i 0).val (i 1).val * rg x3 (i 1).val := by
  rw [val_main_v24_apply, r19, val_main_v23_apply, val_main_v14_apply, val_main_v0_apply]
  exact congrArg₂ (· * ·) rfl (at2_eq x3 _ _ _ rfl (Nat.mod_eq_of_lt (i 1).isLt))

/-- The reference's weight of a row in the norm's gradient. -/
abbrev W (p : ℕ) : EReal :=
  Ideal.div ((∑ q : Fin 1024, rx x2 p q.val * (rd x0 x1 p q.val * rg x3 q.val))
    * (((-1 / 2 : ℝ) : EReal) * Ideal.div (Ideal.rsqrt (msq (rx x2 p))) (msq (rx x2 p)))) ((1024 : ℝ) : EReal)

theorem r35 (i : S8192x1024.Idx) : val_main_v35 (F := Ideal) x0 x1 x2 x3 i = W x0 x1 x2 x3 (i 0).val := by
  rw [val_main_v35_apply, val_main_v34_apply, Fin.sum_univ_one, val_main_v33_apply, val_main_v31_apply, val_main_v28_apply, val_main_v27_apply, r11, val_main_v32_apply]
  show Ideal.ofBits .f32 0x00000000#32 + Ideal.div ((Ideal.ofBits .f32 0x00000000#32 + ∑ k : Fin 1024, _) * _) (Ideal.ofBits .f32 0x44800000#32) = _
  rw [zero_bits, size_bits, zero_add, zero_add, W]
  refine congrArg₂ Ideal.div (congrArg₂ (· * ·) (Finset.sum_congr rfl fun k _ => ?_) rfl) rfl
  rw [val_main_v26_apply, r24]
  have e0 : ((idx_main_v27 (idx_main_v28 (idx_main_v34 (idx_main_v35 i) 0)) k) 0).val = (i 0).val := by
    show (i 0).val * 1 + 0 = _; omega
  have e1 : ((idx_main_v27 (idx_main_v28 (idx_main_v34 (idx_main_v35 i) 0)) k) 1).val = k.val := rfl
  rw [e0, e1]
  exact congrArg₂ (· * ·) (at2_eq x2 _ _ _ e0 e1) rfl

theorem r41 (i : S8192x1024.Idx) : val_main_v41 (F := Ideal) x0 x1 x2 x3 x4 i = DX (rr x4) (rx x2) (rg x3) (rd x0 x1) (i 0).val (i 1).val := by
  rw [val_main_v41_apply, val_main_v39_apply, val_main_v37_apply, val_main_v38_apply, val_main_v36_apply, val_main_v30_apply, val_main_v29_apply, r8,
    r24, r35, at2_eq x2 i _ _ rfl rfl, at2_eq x4 i _ _ rfl rfl]
  exact congrArg₂ (· + ·) rfl (norm_grad (rx x2 (i 0).val) (fun q => rd x0 x1 (i 0).val q * rg x3 q) (i 1).val (i 1).isLt).symm

theorem r40 (i : S1x1024.Idx) : val_main_v40 (F := Ideal) x0 x1 x2 i = ∑ p : Fin 8192, rd x0 x1 p.val (i 1).val * XH (rx x2) p.val (i 1).val := by
  rw [val_main_v40_apply, val_main_v25_apply, Fin.sum_univ_one, val_main_v22_apply, val_main_v21_apply]
  show Ideal.ofBits .f32 0x00000000#32 + (Ideal.ofBits .f32 0x00000000#32 + ∑ k : Fin 8192, _) = _
  rw [zero_bits, zero_add, zero_add]
  refine Finset.sum_congr rfl fun k _ => ?_
  rw [val_main_v20_apply, r13, r19]
  have e0 : ((idx_main_v21 (idx_main_v22 (idx_main_v25 (idx_main_v40 i) 0)) k) 0).val = k.val := rfl
  have e1 : ((idx_main_v21 (idx_main_v22 (idx_main_v25 (idx_main_v40 i) 0)) k) 1).val = (i 1).val := by
    show 0 * 1024 + (i 1).val = _; omega
  rw [e0, e1]
  exact mul_comm (XH (rx x2) k.val (i 1).val) _

end Ref

/-- The kernel's and the reference's differentials are the same arrays. -/
theorem algebraic : Cert.algebraic_KernelProjIdeal_ReferenceProjIdeal := by
  intro m ρ m' ρ' _ hagree
  refine ⟨fun c => resX m c, fun c => resG m c, ?_, ?_⟩
  · refine (θ_run Cert.KernelProjIdeal.defs _ _).mono (fun _ h c => ?_) (Value.run_blocks (F := Ideal) m ρ)
    exact ⟨(h c).1.trans (final5 m c), (h c).2.1.trans (final6 m c), (h c).2.2⟩
  · refine (θ_run Cert.ReferenceProjIdeal.defs _ _).mono (fun _ h c => ?_) (Cert.ReferenceProjIdeal.Value.run (F := Ideal) m' ρ')
    obtain ⟨a0, a1, a2, a3, a4⟩ := hagree c
    refine ⟨(h c).1.trans ?_, (h c).2.1.trans ?_, (h c).2.2⟩
    · refine (Cert.ReferenceProjIdeal.Read.val_main_v41_eq (F := Ideal) m' c).trans ?_
      rw [a0, a1, a2, a3, a4]
      funext i
      exact Ref.r41 _ _ _ _ _ i
    · refine (Cert.ReferenceProjIdeal.Read.val_main_v40_eq (F := Ideal) _ _ _).trans ?_
      rw [a0, a1, a2]
      funext i
      exact Ref.r40 _ _ _ i

end Cert.Proj

end
-- ==== Proof.NormProj.lean ====
/- The forward norm and input projection: each row of the kernel's results is the normalised row, and its products with the weights. -/
module

public import proofs.«01_k».proof.Proof.FfnRef
public import proofs.«01_k».proof.Proof.Gen.KernelNormProjIdeal.Value
public import proofs.«01_k».proof.Proof.Gen.ReferenceNormProjIdeal.Read
public import proofs.«01_k».proof.Defs
public import Idealize.ShloMosaic.Lib.Pointwise
public import Idealize.ShloMosaic.Lib.Pipeline.Value
public import Idealize.ShloMosaic.Lib.Pipeline.ValueKit.Acc

@[expose] public section

set_option maxRecDepth 16384

noncomputable section

namespace Cert.NormProj

open Cert.KernelNormProjIdeal Cert.KernelNormProjIdeal.Gen Cert.Rows Cert.FfnPay Idealize.ShloMosaic Idealize.ShloMosaic.TcCoe Idealize.ShloMosaic.Tactic Idealize.SL.Sem
open Idealize.ShloMosaic.Pipeline (Dat)

/-- The normalised rows with the gain. -/
def HN (x : ℕ → ℕ → EReal) (g : ℕ → EReal) (p k : ℕ) : EReal := XH x p k * g k
/-- Their products with the weights. -/
def PR (x : ℕ → ℕ → EReal) (g : ℕ → EReal) (w : ℕ → ℕ → EReal) (p q : ℕ) : EReal := ∑ k : Fin 1024, HN x g p k.val * w q k.val

section
variable {x w : ℕ → ℕ → EReal} {g : ℕ → EReal} {P : ℕ} {v0 : Vec Ideal S1024x1024 .f32} {v1 : Vec Ideal S1x1024 .f32} {v2 : Vec Ideal S2304x1024 .bf16}

theorem k_h (h0 : ∀ j, v0 j = x (P + (j 0).val) (j 1).val) (h1 : ∀ j, v1 j = g (j 1).val) (j : S1024x1024.Idx) :
    k0_pay1 v0 v1 j = HN x g (P + (j 0).val) (j 1).val := by
  unfold k0_pay1
  pointwise
  simp only [h0, h1]
  rw [ofBits_inv, ofBits_eps, HN, XH, RR, ← sum_chunks (fun k => x (P + (j 0).val) k * x (P + (j 0).val) k)]
  rfl

theorem k_p (h0 : ∀ j, v0 j = x (P + (j 0).val) (j 1).val) (h1 : ∀ j, v1 j = g (j 1).val) (h2 : ∀ j, v2 j = w (j 0).val (j 1).val) (j : S1024x2304.Idx) :
    k0_pay2 v0 v1 v2 j = PR x g w (P + (j 0).val) (j 1).val := by
  have e : k0_pay2 v0 v1 v2 j = ∑ k : Fin 1024, k0_pay1 v0 v1 (ix2 (j 0) k) * v2 (ix2 (j 1) k) := by
    unfold k0_pay2
    pointwise
  rw [e]
  simp only [k_h h0 h1, h2]
  rfl

end

/-! ## The blocks of the arguments -/

variable (m : (ℓ : Loc nD τ sig) → Buf (Elt Ideal) ℓ) (c : Dev nD)

def fx (p q : ℕ) : EReal := at2 (a := 8192) (b := 1024) (m (c.tc.loc main_arg0)) p q
def fg (q : ℕ) : EReal := at2 (a := 1) (b := 1024) (m (c.tc.loc main_arg1)) 0 q
def fw (p q : ℕ) : EReal := at2 (a := 1024) (b := 2304) (m (c.tc.loc main_arg2)) q p

theorem host_w : V m c main_v1 = (transpose S2304x1024 [1, 0] (m (c.tc.loc main_arg2)) transposes_S1024x2304_S2304x1024_1_0 : Vec Ideal S2304x1024 .f32) := by
  show StableHlo.after hostOps0 _ _ = _
  simp only [hostOps0]
  after_results_simp <;> rfl

theorem host_w_apply (i : S2304x1024.Idx) : (V m c main_v1 : S2304x1024.Idx → EReal) i = fw m c (i 0).val (i 1).val := by
  rw [host_w]
  refine Eq.trans (b := (m (c.tc.loc main_arg2) : S1024x2304.Idx → EReal) (ix2 (i 1) (i 0))) ?_ (at2_eq (a := 1024) (b := 2304) _ _ _ _ rfl rfl)
  pointwise

theorem idx0 : ∀ t : Fin cfg0.N, win0_0.index t 0 = t.val ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = t.val ∧ win0_3.index t 1 = 0 := by decide +kernel
theorem idx4 : ∀ t : Fin cfg0.N, win0_4.index t 0 = t.val ∧ win0_4.index t 1 = 0 := by decide +kernel

section
variable (t : Fin cfg0.N)

theorem b0 (j : S1024x1024.Idx) : (iblk m c 0 t : Vec Ideal S1024x1024 .f32) j = fx m c (1024 * t.val + (j 0).val) (j 1).val := by
  unfold iblk
  rw [View.read_apply]
  refine at2_eq (a := 8192) (b := 1024) _ _ _ _ ?_ ?_
  · show win0_0.index t 0 * 1024 + 1 * (j 0).val = _; rw [(idx0 t).1]; omega
  · show win0_0.index t 1 * 1024 + 1 * (j 1).val = _; rw [(idx0 t).2]; omega

theorem b1 (j : S1x1024.Idx) : (iblk m c 1 t : Vec Ideal S1x1024 .f32) j = fg m c (j 1).val := by
  have b : (j 0).val < 1 := (j 0).isLt
  unfold iblk
  rw [View.read_apply]
  refine at2_eq (a := 1) (b := 1024) _ _ _ _ ?_ ?_
  · show win0_1.index t 0 * 1 + 1 * (j 0).val = _; rw [(idx1 t).1]; omega
  · show win0_1.index t 1 * 1024 + 1 * (j 1).val = _; rw [(idx1 t).2]; omega

theorem b2 (j : S2304x1024.Idx) : (iblk m c 2 t : Vec Ideal S2304x1024 .bf16) j = fw m c (j 0).val (j 1).val := by
  unfold iblk
  rw [View.read_apply]
  refine (host_w_apply m c _).trans ?_
  congr 1
  · show win0_2.index t 0 * 2304 + 1 * (j 0).val = _; rw [(idx2 t).1]; omega
  · show win0_2.index t 1 * 1024 + 1 * (j 1).val = _; rw [(idx2 t).2]; omega

theorem o3 (j : S1024x1024.Idx) : out0_3 (iblk m c 0 t) (iblk m c 1 t) (iblk m c 2 t) j = HN (fx m c) (fg m c) (1024 * t.val + (j 0).val) (j 1).val := by
  unfold out0_3
  rw [View.canon_unit_zero hz]
  simp only [View.ld_unit_zero (S := S1024x1024) hz, View.ld_unit_zero (S := S1x1024) hz]
  exact k_h (b0 m c t) (b1 m c t) j

theorem o4 (j : S1024x2304.Idx) : out0_4 (iblk m c 0 t) (iblk m c 1 t) (iblk m c 2 t) j = PR (fx m c) (fg m c) (fw m c) (1024 * t.val + (j 0).val) (j 1).val := by
  unfold out0_4
  rw [View.canon_unit_zero hz]
  simp only [View.ld_unit_zero (S := S1024x1024) hz, View.ld_unit_zero (S := S1x1024) hz, View.ld_unit_zero (S := S2304x1024) hz]
  exact k_p (b0 m c t) (b1 m c t) (b2 m c t) j

end

theorem mem3 (t : Fin cfg0.N) (i : S8192x1024.Idx)
    (h0 : win0_3.index t 0 * 1024 ≤ (i 0).val ∧ (i 0).val < win0_3.index t 0 * 1024 + 1024)
    (h1 : win0_3.index t 1 * 1024 ≤ (i 1).val ∧ (i 1).val < win0_3.index t 1 * 1024 + 1024) : i ∈ ((cfg0.win 3).blk t).view.set := by
  show i ∈ ((View.whole main_v2_0).slice (win0_3.rect t)).set
  rw [View.set_slice_whole, Rect.mem_set_unit]
  intro a
  match a with
  | ⟨0, _⟩ => exact h0
  | ⟨1, _⟩ => exact h1

theorem mem4 (t : Fin cfg0.N) (i : S8192x2304.Idx)
    (h0 : win0_4.index t 0 * 1024 ≤ (i 0).val ∧ (i 0).val < win0_4.index t 0 * 1024 + 1024)
    (h1 : win0_4.index t 1 * 2304 ≤ (i 1).val ∧ (i 1).val < win0_4.index t 1 * 2304 + 2304) : i ∈ ((cfg0.win 4).blk t).view.set := by
  show i ∈ ((View.whole main_v2_1).slice (win0_4.rect t)).set
  rw [View.set_slice_whole, Rect.mem_set_unit]
  intro a
  match a with
  | ⟨0, _⟩ => exact h0
  | ⟨1, _⟩ => exact h1

/-- The kernel's two results, as arrays. -/
def resH : Buf (Elt Ideal) ((c : Thread nD τ).loc main_v2_0) := fun i : S8192x1024.Idx => HN (fx m c) (fg m c) (i 0).val (i 1).val
def resP : Buf (Elt Ideal) ((c : Thread nD τ).loc main_v2_1) := fun i : S8192x2304.Idx => PR (fx m c) (fg m c) (fw m c) (i 0).val (i 1).val

theorem final3 : (dats m 0 c).arrAt 3 cfg0.N = resH m c := by
  refine (dats m 0 c).arrAt_eq_of_cover 3 (resH m c) (fun t _ => ?_) fun i => ?_
  · rw [Value.flushed3]
    funext j
    rw [View.read_apply]
    refine (o3 m c t j).trans ?_
    show HN _ _ _ _ = HN _ _ _ _
    congr 1
    · show _ = win0_3.index t 0 * 1024 + 1 * (j 0).val; rw [(idx3 t).1]; omega
    · show _ = win0_3.index t 1 * 1024 + 1 * (j 1).val; rw [(idx3 t).2]; omega
  · have b0 : (i 0 : Nat) < 8192 := (i 0).isLt
    have b1 : (i 1 : Nat) < 1024 := (i 1).isLt
    refine ⟨⟨(i 0).val / 1024, by rw [show cfg0.N = 8 from N_0]; omega⟩, flush0_3 _, mem3 _ _ ?_ ?_⟩
    · rw [(idx3 _).1]; dsimp only; omega
    · rw [(idx3 _).2]; omega

theorem final4 : (dats m 0 c).arrAt 4 cfg0.N = resP m c := by
  refine (dats m 0 c).arrAt_eq_of_cover 4 (resP m c) (fun t _ => ?_) fun i => ?_
  · rw [Value.flushed4]
    funext j
    rw [View.read_apply]
    refine (o4 m c t j).trans ?_
    show PR _ _ _ _ _ = PR _ _ _ _ _
    congr 1
    · show _ = win0_4.index t 0 * 1024 + 1 * (j 0).val; rw [(idx4 t).1]; omega
    · show _ = win0_4.index t 1 * 2304 + 1 * (j 1).val; rw [(idx4 t).2]; omega
  · have b0 : (i 0 : Nat) < 8192 := (i 0).isLt
    have b1 : (i 1 : Nat) < 2304 := (i 1).isLt
    refine ⟨⟨(i 0).val / 1024, by rw [show cfg0.N = 8 from N_0]; omega⟩, flush0_4 _, mem4 _ _ ?_ ?_⟩
    · rw [(idx4 _).1]; dsimp only; omega
    · rw [(idx4 _).2]; omega

/-! ## The reference -/

open Cert.ReferenceNormProjIdeal.Read

variable (x0 : Vec Ideal S8192x1024 .f32) (x1 : Vec Ideal S1x1024 .f32) (x2 : Vec Ideal ⟨2, ![1024, 2304]⟩ .f32)

theorem r13 (i : S8192x1024.Idx) : val_main_v13 (F := Ideal) x0 x1 i = HN (FfnRef.rx x0) (FfnRef.rg x1) (i 0).val (i 1).val :=
  FfnRef.r16 x0 x1 i

theorem r14 (i : S8192x1024.Idx) : val_main_v14 (F := Ideal) x0 x1 i = HN (FfnRef.rx x0) (FfnRef.rg x1) (i 0).val (i 1).val := by
  rw [val_main_v14_apply]
  exact r13 x0 x1 i

theorem r16 (i : S8192x2304.Idx) : val_main_v16 (F := Ideal) x0 x1 x2 i
    = PR (FfnRef.rx x0) (FfnRef.rg x1) (fun p q => at2 (a := 1024) (b := 2304) x2 q p) (i 0).val (i 1).val := by
  rw [val_main_v16_apply]
  refine (val_main_v15_apply x0 x1 x2 i).trans ?_
  rw [PR]
  refine Finset.sum_congr rfl fun k _ => ?_
  rw [r13]
  exact congrArg₂ (· * ·) rfl (at2_eq x2 _ _ _ rfl rfl)

/-- The kernel's and the reference's normalised rows and projections are the same arrays. -/
theorem algebraic : Cert.algebraic_KernelNormProjIdeal_ReferenceNormProjIdeal := by
  intro m ρ m' ρ' _ hagree
  refine ⟨fun c => resH m c, fun c => resP m c, ?_, ?_⟩
  · refine (θ_run Cert.KernelNormProjIdeal.defs _ _).mono (fun _ h c => ?_) (Value.run_blocks (F := Ideal) m ρ)
    exact ⟨(h c).1.trans (final3 m c), (h c).2.1.trans (final4 m c), (h c).2.2⟩
  · refine (θ_run Cert.ReferenceNormProjIdeal.defs _ _).mono (fun _ h c => ?_) (Cert.ReferenceNormProjIdeal.Value.run (F := Ideal) m' ρ')
    obtain ⟨a0, a1, a2⟩ := hagree c
    refine ⟨(h c).1.trans ?_, (h c).2.1.trans ?_, (h c).2.2⟩
    · refine (val_main_v14_eq (F := Ideal) _ _).trans ?_
      rw [a0, a1]
      funext i
      exact r14 _ _ i
    · refine (val_main_v16_eq (F := Ideal) _ _ _).trans ?_
      rw [a0, a1, a2]
      funext i
      exact r16 _ _ _ i

end Cert.NormProj

end
-- ==== Proof.FwdRun.lean ====
/- What the two calls of the feed-forward net's forward pass leave in their results, read by row and column. -/
module

public import proofs.«01_k».proof.Proof.NormProj
public import proofs.«01_k».proof.Proof.Gen.KernelFfnFwdIdeal.Frame
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.FwdRun

open Cert.KernelFfnFwdIdeal Cert.KernelFfnFwdIdeal.Gen Cert.Rows Cert.FfnPay Cert.NormProj Idealize.ShloMosaic Idealize.ShloMosaic.TcCoe Idealize.ShloMosaic.Tactic Idealize.SL.Sem
open Idealize.ShloMosaic.Pipeline (Dat)

/-! ## The maths by row and column -/

/-- The gate: the first product times its logistic, times the second. -/
def SW (a b : EReal) : EReal := a * FfnPay.sig a * b
/-- The product of a row with a row of the transposed weights. -/
def DT (h w : ℕ → ℕ → EReal) (p q : ℕ) : EReal := ∑ k : Fin 1024, h p k.val * w q k.val
def FF (h wg wu : ℕ → ℕ → EReal) (p q : ℕ) : EReal := SW (DT h wg p q) (DT h wu p q)
/-- The half of the second product that comes from the columns from `o` on. -/
def PT (h wg wu wd : ℕ → ℕ → EReal) (o p k : ℕ) : EReal := ∑ q : Fin 1408, FF h wg wu p (o + q.val) * wd (o + q.val) k

section
variable {h h' : ℕ → ℕ → EReal} {p : ℕ} (e : ∀ k < 1024, h p k = h' p k)
include e

theorem dt_congr (w : ℕ → ℕ → EReal) (q : ℕ) : DT h w p q = DT h' w p q :=
  Finset.sum_congr rfl fun k _ => congrArg (· * _) (e _ k.isLt)

theorem ff_congr (wg wu : ℕ → ℕ → EReal) (q : ℕ) : FF h wg wu p q = FF h' wg wu p q := by
  rw [FF, FF, dt_congr e, dt_congr e]

theorem pt_congr (wg wu wd : ℕ → ℕ → EReal) (o k : ℕ) : PT h wg wu wd o p k = PT h' wg wu wd o p k :=
  Finset.sum_congr rfl fun q _ => congrArg (· * _) (ff_congr e _ _ _)

end

theorem pt_all (h wg wu wd : ℕ → ℕ → EReal) (p k : ℕ) :
    PT h wg wu wd 0 p k + PT h wg wu wd 1408 p k = ∑ q : Fin 2816, FF h wg wu p q.val * wd q.val k := by
  unfold PT
  rw [Fin.sum_univ_eq_sum_range (fun q => FF h wg wu p q * wd q k) 2816, show (2816 : ℕ) = 1408 + 1408 from rfl, Finset.sum_range_add,
    Finset.sum_range, Finset.sum_range]
  simp only [zero_add]

/-! ## The bodies -/

section
variable {x h wg wu wd : ℕ → ℕ → EReal} {g : ℕ → EReal} {P o : ℕ}

section
variable {v0 : Vec Ideal S512x1024 .f32} {v1 : Vec Ideal S1x1024 .f32} {v2 v3 v4 : Vec Ideal S1408x1024 .bf16}
  (h0 : ∀ j, v0 j = x (P + (j 0).val) (j 1).val) (h1 : ∀ j, v1 j = g (j 1).val) (h2 : ∀ j, v2 j = wg (o + (j 0).val) (j 1).val)
  (h3 : ∀ j, v3 j = wu (o + (j 0).val) (j 1).val) (h4 : ∀ j, v4 j = wd (o + (j 0).val) (j 1).val)
include h0 h1

theorem k0_h (j : S512x1024.Idx) : k0_pay3 v0 v1 j = HN x g (P + (j 0).val) (j 1).val := by
  unfold k0_pay3
  pointwise
  simp only [h0, h1]
  rw [ofBits_inv, ofBits_eps, HN, XH, RR, ← sum_chunks (fun k => x (P + (j 0).val) k * x (P + (j 0).val) k)]
  rfl

include h2 in
theorem k0_a (j : S512x1408.Idx) : k0_pay4 v0 v1 v2 j = DT (HN x g) wg (P + (j 0).val) (o + (j 1).val) := by
  have e : k0_pay4 v0 v1 v2 j = ∑ k : Fin 1024, k0_pay3 v0 v1 (ix2 (j 0) k) * v2 (ix2 (j 1) k) := by
    unfold k0_pay4
    pointwise
  rw [e]
  simp only [k0_h h0 h1, h2]
  rfl

include h3 in
theorem k0_b (j : S512x1408.Idx) : k0_pay5 v0 v1 v3 j = DT (HN x g) wu (P + (j 0).val) (o + (j 1).val) := k0_a h0 h1 h3 j

include h2 h3 in
theorem k0_f (j : S512x1408.Idx) : k0_pay1 (k0_pay4 v0 v1 v2) (k0_pay5 v0 v1 v3) j = FF (HN x g) wg wu (P + (j 0).val) (o + (j 1).val) := by
  rw [FF, ← k0_a h0 h1 h2 j, ← k0_b h0 h1 h3 j]
  unfold k0_pay1 SW FfnPay.sig
  pointwise

include h2 h3 h4 in
theorem k0_part (j : S512x1024.Idx) : k0_pay2 v0 (k0_pay4 v0 v1 v2) (k0_pay5 v0 v1 v3) v4 j
    = x (P + (j 0).val) (j 1).val + PT (HN x g) wg wu wd o (P + (j 0).val) (j 1).val := by
  have e : k0_pay2 v0 (k0_pay4 v0 v1 v2) (k0_pay5 v0 v1 v3) v4 j
      = v0 j + ∑ k : Fin 1408, k0_pay1 (k0_pay4 v0 v1 v2) (k0_pay5 v0 v1 v3) (ix2 (j 0) k) * v4 (ix2 k (j 1)) := by
    unfold k0_pay2
    pointwise
  rw [e, h0 j]
  simp only [k0_f h0 h1 h2 h3, h4]
  rfl

end

section
variable {v0 : Vec Ideal S512x1024 .bf16} {v1 : Vec Ideal S512x1024 .f32} {v2 v3 v4 : Vec Ideal S1408x1024 .bf16}
  (h0 : ∀ j, v0 j = h (P + (j 0).val) (j 1).val) (h1 : ∀ j, v1 j = x (P + (j 0).val) (j 1).val) (h2 : ∀ j, v2 j = wg (o + (j 0).val) (j 1).val)
  (h3 : ∀ j, v3 j = wu (o + (j 0).val) (j 1).val) (h4 : ∀ j, v4 j = wd (o + (j 0).val) (j 1).val)
include h0

include h2 in
theorem k1_a (j : S512x1408.Idx) : k1_pay2 v0 v2 j = DT h wg (P + (j 0).val) (o + (j 1).val) := by
  have e : k1_pay2 v0 v2 j = ∑ k : Fin 1024, v0 (ix2 (j 0) k) * v2 (ix2 (j 1) k) := by
    unfold k1_pay2 k1_pay1
    pointwise
  rw [e]
  simp only [h0, h2]
  rfl

include h3 in
theorem k1_b (j : S512x1408.Idx) : k1_pay3 v0 v3 j = DT h wu (P + (j 0).val) (o + (j 1).val) := k1_a h0 h3 j

include h2 h3 in
theorem k1_f (j : S512x1408.Idx) : k1_pay6 v0 v2 v3 j = FF h wg wu (P + (j 0).val) (o + (j 1).val) := by
  rw [FF, ← k1_a h0 h2 j, ← k1_b h0 h3 j]
  unfold k1_pay6 SW FfnPay.sig
  pointwise

include h1 h2 h3 h4 in
theorem k1_out (j : S512x1024.Idx) : k1_pay7 v1 v0 v2 v3 v4 j
    = x (P + (j 0).val) (j 1).val + PT h wg wu wd o (P + (j 0).val) (j 1).val := by
  have e : k1_pay7 v1 v0 v2 v3 v4 j = v1 j + ∑ k : Fin 1408, k1_pay6 v0 v2 v3 (ix2 (j 0) k) * v4 (ix2 k (j 1)) := by
    unfold k1_pay7
    pointwise
  rw [e, h1 j]
  simp only [k1_f h0 h2 h3, h4]
  rfl

end

end

variable (V : (c : Dev nD) → (b : Ref sig .tc) → Buf (Elt Ideal) ((c : Thread nD τ).loc b)) (c : Dev nD)

/-! ## The entry contents -/

def fx (p q : ℕ) : EReal := at2 (a := 8192) (b := 1024) (V c main_arg0) p q
def fg (q : ℕ) : EReal := at2 (a := 1) (b := 1024) (V c main_arg1) 0 q
def fwg (p q : ℕ) : EReal := at2 (a := 2816) (b := 1024) (V c main_v1) p q
def fwu (p q : ℕ) : EReal := at2 (a := 2816) (b := 1024) (V c main_v3) p q
def fwd (p q : ℕ) : EReal := at2 (a := 2816) (b := 1024) (V c main_v4) p q
def fh (p q : ℕ) : EReal := at2 (a := 8192) (b := 1024) (V c main_v5_0) p q
def fp (p q : ℕ) : EReal := at2 (a := 8192) (b := 1024) (V c main_v5_4) p q

theorem lt0 (t : Fin cfg0.N) : t.val < 16 := lt_of_lt_of_eq t.isLt (show cfg0.N = 16 from N_0)
theorem lt1 (t : Fin cfg1.N) : t.val < 16 := lt_of_lt_of_eq t.isLt (show cfg1.N = 16 from N_1)

/-- What each call leaves of the sum of the block's input and the second product. -/
def OUT0 (p k : ℕ) : EReal := fx V c p k + PT (HN (fx V c) (fg V c)) (fwg V c) (fwu V c) (fwd V c) 0 p k
@[inherit_doc OUT0] def OUT1 (p k : ℕ) : EReal := fp V c p k + PT (fh V c) (fwg V c) (fwu V c) (fwd V c) 1408 p k

/-! ## The first call -/

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = 0 ∧ win0_2.index t 1 = 0 := by decide +kernel
theorem idx0_3 : ∀ t : Fin cfg0.N, win0_3.index t 0 = 0 ∧ win0_3.index t 1 = 0 := by decide +kernel
theorem idx0_4 : ∀ t : Fin cfg0.N, win0_4.index t 0 = 0 ∧ win0_4.index t 1 = 0 := by decide +kernel
theorem idx0_5 : ∀ t : Fin cfg0.N, win0_5.index t 0 = t.val ∧ win0_5.index t 1 = 0 := by decide +kernel
theorem idx0_6 : ∀ t : Fin cfg0.N, win0_6.index t 0 = t.val ∧ win0_6.index t 1 = 0 := by decide +kernel
theorem idx0_7 : ∀ t : Fin cfg0.N, win0_7.index t 0 = t.val ∧ win0_7.index t 1 = 0 := by decide +kernel
theorem idx0_8 : ∀ t : Fin cfg0.N, win0_8.index t 0 = t.val ∧ win0_8.index t 1 = 0 := by decide +kernel
theorem idx0_9 : ∀ t : Fin cfg0.N, win0_9.index t 0 = t.val ∧ win0_9.index t 1 = 0 := by decide +kernel

section
variable (t : Fin cfg0.N)

theorem b0_0 (j : S512x1024.Idx) : (iblk0 V c 0 t : Vec Ideal S512x1024 .f32) j = fx V c (512 * t.val + (j 0).val) (j 1).val := by
  unfold iblk0
  rw [View.read_apply]
  refine at2_eq (a := 8192) (b := 1024) _ _ _ _ ?_ ?_
  · show win0_0.index t 0 * 512 + 1 * (j 0).val = _; rw [(idx0_0 t).1]; omega
  · show win0_0.index t 1 * 1024 + 1 * (j 1).val = _; rw [(idx0_0 t).2]; omega

theorem b0_1 (j : S1x1024.Idx) : (iblk0 V c 1 t : Vec Ideal S1x1024 .f32) j = fg V c (j 1).val := by
  have b : (j 0).val < 1 := (j 0).isLt
  unfold iblk0
  rw [View.read_apply]
  refine at2_eq (a := 1) (b := 1024) _ _ _ _ ?_ ?_
  · show win0_1.index t 0 * 1 + 1 * (j 0).val = _; rw [(idx0_1 t).1]; omega
  · show win0_1.index t 1 * 1024 + 1 * (j 1).val = _; rw [(idx0_1 t).2]; omega

theorem b0_2 (j : S1408x1024.Idx) : (iblk0 V c 2 t : Vec Ideal S1408x1024 .bf16) j = fwg V c (0 + (j 0).val) (j 1).val := by
  unfold iblk0
  rw [View.read_apply]
  refine at2_eq (a := 2816) (b := 1024) _ _ _ _ ?_ ?_
  · show win0_2.index t 0 * 1408 + 1 * (j 0).val = _; rw [(idx0_2 t).1]; omega
  · show win0_2.index t 1 * 1024 + 1 * (j 1).val = _; rw [(idx0_2 t).2]; omega

theorem b0_3 (j : S1408x1024.Idx) : (iblk0 V c 3 t : Vec Ideal S1408x1024 .bf16) j = fwu V c (0 + (j 0).val) (j 1).val := by
  unfold iblk0
  rw [View.read_apply]
  refine at2_eq (a := 2816) (b := 1024) _ _ _ _ ?_ ?_
  · show win0_3.index t 0 * 1408 + 1 * (j 0).val = _; rw [(idx0_3 t).1]; omega
  · show win0_3.index t 1 * 1024 + 1 * (j 1).val = _; rw [(idx0_3 t).2]; omega

theorem b0_4 (j : S1408x1024.Idx) : (iblk0 V c 4 t : Vec Ideal S1408x1024 .bf16) j = fwd V c (0 + (j 0).val) (j 1).val := by
  unfold iblk0
  rw [View.read_apply]
  refine at2_eq (a := 2816) (b := 1024) _ _ _ _ ?_ ?_
  · show win0_4.index t 0 * 1408 + 1 * (j 0).val = _; rw [(idx0_4 t).1]; omega
  · show win0_4.index t 1 * 1024 + 1 * (j 1).val = _; rw [(idx0_4 t).2]; omega

theorem o0_5 (j : S512x1024.Idx) : out0_5 (iblk0 V c 0 t) (iblk0 V c 1 t) (iblk0 V c 2 t) (iblk0 V c 3 t) (iblk0 V c 4 t) j = HN (fx V c) (fg V c) (512 * t.val + (j 0).val) (j 1).val := by
  unfold out0_5
  rw [View.canon_unit_zero hz]
  simp only [View.ld_unit_zero (S := S512x1024) hz, View.ld_unit_zero (S := S1x1024) hz, View.ld_unit_zero (S := S1408x1024) hz]
  exact k0_h (b0_0 V c t) (b0_1 V c t) j

theorem o0_6 (j : S512x1408.Idx) : out0_6 (iblk0 V c 0 t) (iblk0 V c 1 t) (iblk0 V c 2 t) (iblk0 V c 3 t) (iblk0 V c 4 t) j = DT (HN (fx V c) (fg V c)) (fwg V c) (512 * t.val + (j 0).val) (0 + (j 1).val) := by
  unfold out0_6
  rw [View.canon_unit_zero hz]
  simp only [View.ld_unit_zero (S := S512x1024) hz, View.ld_unit_zero (S := S1x1024) hz, View.ld_unit_zero (S := S1408x1024) hz]
  exact k0_a (b0_0 V c t) (b0_1 V c t) (b0_2 V c t) j

theorem o0_7 (j : S512x1408.Idx) : out0_7 (iblk0 V c 0 t) (iblk0 V c 1 t) (iblk0 V c 2 t) (iblk0 V c 3 t) (iblk0 V c 4 t) j = DT (HN (fx V c) (fg V c)) (fwu V c) (512 * t.val + (j 0).val) (0 + (j 1).val) := by
  unfold out0_7
  rw [View.canon_unit_zero hz]
  simp only [View.ld_unit_zero (S := S512x1024) hz, View.ld_unit_zero (S := S1x1024) hz, View.ld_unit_zero (S := S1408x1024) hz]
  exact k0_b (b0_0 V c t) (b0_1 V c t) (b0_3 V c t) j

theorem o0_8 (j : S512x1408.Idx) : out0_8 (iblk0 V c 0 t) (iblk0 V c 1 t) (iblk0 V c 2 t) (iblk0 V c 3 t) (iblk0 V c 4 t) j = FF (HN (fx V c) (fg V c)) (fwg V c) (fwu V c) (512 * t.val + (j 0).val) (0 + (j 1).val) := by
  unfold out0_8 k0_pay8 k0_pay9
  rw [View.canon_unit_zero hz]
  simp only [View.ld_unit_zero (S := S512x1024) hz, View.ld_unit_zero (S := S1x1024) hz, View.ld_unit_zero (S := S1408x1024) hz]
  exact k0_f (b0_0 V c t) (b0_1 V c t) (b0_2 V c t) (b0_3 V c t) j

theorem o0_9 (j : S512x1024.Idx) : out0_9 (iblk0 V c 0 t) (iblk0 V c 1 t) (iblk0 V c 2 t) (iblk0 V c 3 t) (iblk0 V c 4 t) j = OUT0 V c (512 * t.val + (j 0).val) (j 1).val := by
  unfold out0_9 k0_pay8 k0_pay9
  rw [View.canon_unit_zero hz]
  simp only [View.ld_unit_zero (S := S512x1024) hz, View.ld_unit_zero (S := S1x1024) hz, View.ld_unit_zero (S := S1408x1024) hz]
  exact k0_part (b0_0 V c t) (b0_1 V c t) (b0_2 V c t) (b0_3 V c t) (b0_4 V c t) j

end

theorem mem0_5 (t : Fin cfg0.N) (i : S8192x1024.Idx)
    (h0 : win0_5.index t 0 * 512 ≤ (i 0).val ∧ (i 0).val < win0_5.index t 0 * 512 + 512)
    (h1 : win0_5.index t 1 * 1024 ≤ (i 1).val ∧ (i 1).val < win0_5.index t 1 * 1024 + 1024) : i ∈ ((cfg0.win 5).blk t).view.set := by
  show i ∈ ((View.whole main_v5_0).slice (win0_5.rect t)).set
  rw [View.set_slice_whole, Rect.mem_set_unit]
  intro a
  match a with
  | ⟨0, _⟩ => exact h0
  | ⟨1, _⟩ => exact h1

theorem final0_5 : (dat0 V c).arrAt 5 cfg0.N
    = (fun i : S8192x1024.Idx => HN (fx V c) (fg V c) (i 0).val (i 1).val : Buf (Elt Ideal) ((c : Thread nD τ).loc main_v5_0)) := by
  refine (dat0 V c).arrAt_eq_of_cover 5 _ (fun t _ => ?_) fun i => ?_
  · show (cfg0.win 5).cut (grid0.coords t) ((dat0 V c).after 5 t) = _
    rw [after0_5]
    funext j
    rw [View.read_apply]
    refine (o0_5 V c t j).trans ?_
    show HN (fx V c) (fg V c) _ _ = HN (fx V c) (fg V c) _ _
    congr 1
    · show _ = win0_5.index t 0 * 512 + 1 * (j 0).val; rw [(idx0_5 t).1]; omega
    · show _ = win0_5.index t 1 * 1024 + 1 * (j 1).val; rw [(idx0_5 t).2]; omega
  · have b0 : (i 0 : Nat) < 8192 := (i 0).isLt
    have b1 : (i 1 : Nat) < 1024 := (i 1).isLt
    refine ⟨⟨(i 0).val / 512, by rw [show cfg0.N = 16 from N_0]; omega⟩, flush0_5 _, mem0_5 _ _ ?_ ?_⟩
    · rw [(idx0_5 _).1]; dsimp only; omega
    · rw [(idx0_5 _).2]; omega

theorem mem0_6 (t : Fin cfg0.N) (i : S8192x2816.Idx)
    (h0 : win0_6.index t 0 * 512 ≤ (i 0).val ∧ (i 0).val < win0_6.index t 0 * 512 + 512)
    (h1 : win0_6.index t 1 * 1408 ≤ (i 1).val ∧ (i 1).val < win0_6.index t 1 * 1408 + 1408) : i ∈ ((cfg0.win 6).blk t).view.set := by
  show i ∈ ((View.whole main_v5_1).slice (win0_6.rect t)).set
  rw [View.set_slice_whole, Rect.mem_set_unit]
  intro a
  match a with
  | ⟨0, _⟩ => exact h0
  | ⟨1, _⟩ => exact h1

theorem final0_6 (i : S8192x2816.Idx) (hi : (i 1).val < 1408) : ((dat0 V c).arrAt 6 cfg0.N : S8192x2816.Idx → EReal) i
    = DT (HN (fx V c) (fg V c)) (fwg V c) (i 0).val (i 1).val := by
  refine ((dat0 V c).arrAt_eq_piecewise 6
    (fun i : S8192x2816.Idx => DT (HN (fx V c) (fg V c)) (fwg V c) (i 0).val (i 1).val : Buf (Elt Ideal) ((c : Thread nD τ).loc main_v5_1)) (fun t _ => ?_) i).trans (if_pos ?_)
  · show (cfg0.win 6).cut (grid0.coords t) ((dat0 V c).after 6 t) = _
    rw [after0_6]
    funext j
    rw [View.read_apply]
    refine (o0_6 V c t j).trans ?_
    show DT (HN (fx V c) (fg V c)) (fwg V c) _ _ = DT (HN (fx V c) (fg V c)) (fwg V c) _ _
    congr 1
    · show _ = win0_6.index t 0 * 512 + 1 * (j 0).val; rw [(idx0_6 t).1]; omega
    · show _ = win0_6.index t 1 * 1408 + 1 * (j 1).val; rw [(idx0_6 t).2]; omega
  · have b0 : (i 0 : Nat) < 8192 := (i 0).isLt
    refine ⟨⟨(i 0).val / 512, by rw [show cfg0.N = 16 from N_0]; omega⟩, flush0_6 _, mem0_6 _ _ ?_ ?_⟩
    · rw [(idx0_6 _).1]; dsimp only; omega
    · rw [(idx0_6 _).2]; omega

theorem mem0_7 (t : Fin cfg0.N) (i : S8192x2816.Idx)
    (h0 : win0_7.index t 0 * 512 ≤ (i 0).val ∧ (i 0).val < win0_7.index t 0 * 512 + 512)
    (h1 : win0_7.index t 1 * 1408 ≤ (i 1).val ∧ (i 1).val < win0_7.index t 1 * 1408 + 1408) : i ∈ ((cfg0.win 7).blk t).view.set := by
  show i ∈ ((View.whole main_v5_2).slice (win0_7.rect t)).set
  rw [View.set_slice_whole, Rect.mem_set_unit]
  intro a
  match a with
  | ⟨0, _⟩ => exact h0
  | ⟨1, _⟩ => exact h1

theorem final0_7 (i : S8192x2816.Idx) (hi : (i 1).val < 1408) : ((dat0 V c).arrAt 7 cfg0.N : S8192x2816.Idx → EReal) i
    = DT (HN (fx V c) (fg V c)) (fwu V c) (i 0).val (i 1).val := by
  refine ((dat0 V c).arrAt_eq_piecewise 7
    (fun i : S8192x2816.Idx => DT (HN (fx V c) (fg V c)) (fwu V c) (i 0).val (i 1).val : Buf (Elt Ideal) ((c : Thread nD τ).loc main_v5_2)) (fun t _ => ?_) i).trans (if_pos ?_)
  · show (cfg0.win 7).cut (grid0.coords t) ((dat0 V c).after 7 t) = _
    rw [after0_7]
    funext j
    rw [View.read_apply]
    refine (o0_7 V c t j).trans ?_
    show DT (HN (fx V c) (fg V c)) (fwu V c) _ _ = DT (HN (fx V c) (fg V c)) (fwu V c) _ _
    congr 1
    · show _ = win0_7.index t 0 * 512 + 1 * (j 0).val; rw [(idx0_7 t).1]; omega
    · show _ = win0_7.index t 1 * 1408 + 1 * (j 1).val; rw [(idx0_7 t).2]; omega
  · have b0 : (i 0 : Nat) < 8192 := (i 0).isLt
    refine ⟨⟨(i 0).val / 512, by rw [show cfg0.N = 16 from N_0]; omega⟩, flush0_7 _, mem0_7 _ _ ?_ ?_⟩
    · rw [(idx0_7 _).1]; dsimp only; omega
    · rw [(idx0_7 _).2]; omega

theorem mem0_8 (t : Fin cfg0.N) (i : S8192x2816.Idx)
    (h0 : win0_8.index t 0 * 512 ≤ (i 0).val ∧ (i 0).val < win0_8.index t 0 * 512 + 512)
    (h1 : win0_8.index t 1 * 1408 ≤ (i 1).val ∧ (i 1).val < win0_8.index t 1 * 1408 + 1408) : i ∈ ((cfg0.win 8).blk t).view.set := by
  show i ∈ ((View.whole main_v5_3).slice (win0_8.rect t)).set
  rw [View.set_slice_whole, Rect.mem_set_unit]
  intro a
  match a with
  | ⟨0, _⟩ => exact h0
  | ⟨1, _⟩ => exact h1

theorem final0_8 (i : S8192x2816.Idx) (hi : (i 1).val < 1408) : ((dat0 V c).arrAt 8 cfg0.N : S8192x2816.Idx → EReal) i
    = FF (HN (fx V c) (fg V c)) (fwg V c) (fwu V c) (i 0).val (i 1).val := by
  refine ((dat0 V c).arrAt_eq_piecewise 8
    (fun i : S8192x2816.Idx => FF (HN (fx V c) (fg V c)) (fwg V c) (fwu V c) (i 0).val (i 1).val : Buf (Elt Ideal) ((c : Thread nD τ).loc main_v5_3)) (fun t _ => ?_) i).trans (if_pos ?_)
  · show (cfg0.win 8).cut (grid0.coords t) ((dat0 V c).after 8 t) = _
    rw [after0_8]
    funext j
    rw [View.read_apply]
    refine (o0_8 V c t j).trans ?_
    show FF (HN (fx V c) (fg V c)) (fwg V c) (fwu V c) _ _ = FF (HN (fx V c) (fg V c)) (fwg V c) (fwu V c) _ _
    congr 1
    · show _ = win0_8.index t 0 * 512 + 1 * (j 0).val; rw [(idx0_8 t).1]; omega
    · show _ = win0_8.index t 1 * 1408 + 1 * (j 1).val; rw [(idx0_8 t).2]; omega
  · have b0 : (i 0 : Nat) < 8192 := (i 0).isLt
    refine ⟨⟨(i 0).val / 512, by rw [show cfg0.N = 16 from N_0]; omega⟩, flush0_8 _, mem0_8 _ _ ?_ ?_⟩
    · rw [(idx0_8 _).1]; dsimp only; omega
    · rw [(idx0_8 _).2]; omega

theorem mem0_9 (t : Fin cfg0.N) (i : S8192x1024.Idx)
    (h0 : win0_9.index t 0 * 512 ≤ (i 0).val ∧ (i 0).val < win0_9.index t 0 * 512 + 512)
    (h1 : win0_9.index t 1 * 1024 ≤ (i 1).val ∧ (i 1).val < win0_9.index t 1 * 1024 + 1024) : i ∈ ((cfg0.win 9).blk t).view.set := by
  show i ∈ ((View.whole main_v5_4).slice (win0_9.rect t)).set
  rw [View.set_slice_whole, Rect.mem_set_unit]
  intro a
  match a with
  | ⟨0, _⟩ => exact h0
  | ⟨1, _⟩ => exact h1

theorem final0_9 : (dat0 V c).arrAt 9 cfg0.N
    = (fun i : S8192x1024.Idx => OUT0 V c (i 0).val (i 1).val : Buf (Elt Ideal) ((c : Thread nD τ).loc main_v5_4)) := by
  refine (dat0 V c).arrAt_eq_of_cover 9 _ (fun t _ => ?_) fun i => ?_
  · show (cfg0.win 9).cut (grid0.coords t) ((dat0 V c).after 9 t) = _
    rw [after0_9]
    funext j
    rw [View.read_apply]
    refine (o0_9 V c t j).trans ?_
    show OUT0 V c _ _ = OUT0 V c _ _
    congr 1
    · show _ = win0_9.index t 0 * 512 + 1 * (j 0).val; rw [(idx0_9 t).1]; omega
    · show _ = win0_9.index t 1 * 1024 + 1 * (j 1).val; rw [(idx0_9 t).2]; omega
  · have b0 : (i 0 : Nat) < 8192 := (i 0).isLt
    have b1 : (i 1 : Nat) < 1024 := (i 1).isLt
    refine ⟨⟨(i 0).val / 512, by rw [show cfg0.N = 16 from N_0]; omega⟩, flush0_9 _, mem0_9 _ _ ?_ ?_⟩
    · rw [(idx0_9 _).1]; dsimp only; omega
    · rw [(idx0_9 _).2]; omega

/-! ## The second call -/

section
variable (i : grid1.Coords) (arg1 : Memref sig .tc .vmem S512x1024 .bf16) (harg1 : arg1.IsWhole) (arg2 : Memref sig .tc .vmem S512x1024 .f32) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S1408x1024 .bf16) (harg5 : arg5.IsWhole) (arg9 : Memref sig .tc .vmem S512x1408 .bf16) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1024 .f32) (harg12 : arg12.IsWhole)
  (x0 : Vec Ideal S512x1024 .bf16) (x1 : Vec Ideal S512x1024 .f32) (x2 x3 x4 : Vec Ideal S1408x1024 .bf16)

theorem val1_A_5 : out1_A_5 c i arg1 harg1 arg2 harg2 arg3 harg3 arg4 harg4 arg5 harg5 arg9 harg9 arg10 harg10 arg11 harg11 arg12 harg12 x0 x1 x2 x3 x4 = k1_pay4 x0 x2 := by
  unfold out1_A_5
  rw [View.read_writes_eq_canon _ _ _ (cover1_A_5 c i arg1 harg1 arg2 harg2 arg3 harg3 arg4 harg4 arg5 harg5 arg9 harg9 arg10 harg10 arg11 harg11 arg12 harg12 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, harg9.read_unread, harg10.read_unread, harg11.read_unread, harg12.read_unread, View.ld_unit_zero (S := S512x1024) hz, View.ld_unit_zero (S := S512x1408) hz, View.ld_unit_zero (S := S1408x1024) hz, shapeCast_self]

theorem val1_A_6 : out1_A_6 c i arg1 harg1 arg2 harg2 arg3 harg3 arg4 harg4 arg5 harg5 arg9 harg9 arg10 harg10 arg11 harg11 arg12 harg12 x0 x1 x2 x3 x4 = k1_pay5 x0 x3 := by
  unfold out1_A_6
  rw [View.read_writes_eq_canon _ _ _ (cover1_A_6 c i arg1 harg1 arg2 harg2 arg3 harg3 arg4 harg4 arg5 harg5 arg9 harg9 arg10 harg10 arg11 harg11 arg12 harg12 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, harg9.read_unread, harg10.read_unread, harg11.read_unread, harg12.read_unread, View.ld_unit_zero (S := S512x1024) hz, View.ld_unit_zero (S := S512x1408) hz, View.ld_unit_zero (S := S1408x1024) hz, shapeCast_self]

theorem val1_A_7 : out1_A_7 c i arg1 harg1 arg2 harg2 arg3 harg3 arg4 harg4 arg5 harg5 arg9 harg9 arg10 harg10 arg11 harg11 arg12 harg12 x0 x1 x2 x3 x4 = k1_pay6 x0 x2 x3 := by
  unfold out1_A_7
  rw [View.read_writes_eq_canon _ _ _ (cover1_A_7 c i arg1 harg1 arg2 harg2 arg3 harg3 arg4 harg4 arg5 harg5 arg9 harg9 arg10 harg10 arg11 harg11 arg12 harg12 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, harg9.read_unread, harg10.read_unread, harg11.read_unread, harg12.read_unread, View.ld_unit_zero (S := S512x1024) hz, View.ld_unit_zero (S := S512x1408) hz, View.ld_unit_zero (S := S1408x1024) hz, shapeCast_self]

theorem val1_A_8 : out1_A_8 c i arg1 harg1 arg2 harg2 arg3 harg3 arg4 harg4 arg5 harg5 arg9 harg9 arg10 harg10 arg11 harg11 arg12 harg12 x0 x1 x2 x3 x4 = k1_pay7 x1 x0 x2 x3 x4 := by
  unfold out1_A_8
  rw [View.read_writes_eq_canon _ _ _ (cover1_A_8 c i arg1 harg1 arg2 harg2 arg3 harg3 arg4 harg4 arg5 harg5 arg9 harg9 arg10 harg10 arg11 harg11 arg12 harg12 x0 x1 x2 x3 x4)]
  unfold kernelRun1_A
  dsimp only
  sl_unfold_words
  rw [View.canon_unit_zero hz]
  simp only [View.readAt_eq_ld, harg1.read_unread, harg2.read_unread, harg3.read_unread, harg4.read_unread, harg5.read_unread, harg9.read_unread, harg10.read_unread, harg11.read_unread, harg12.read_unread, View.ld_unit_zero (S := S512x1024) hz, View.ld_unit_zero (S := S512x1408) hz, View.ld_unit_zero (S := S1408x1024) hz, shapeCast_self]

end

theorem idx1_0 : ∀ t : Fin cfg1.N, win1_0.index t 0 = t.val ∧ win1_0.index t 1 = 0 := by decide +kernel
theorem idx1_1 : ∀ t : Fin cfg1.N, win1_1.index t 0 = t.val ∧ win1_1.index t 1 = 0 := by decide +kernel
theorem idx1_2 : ∀ t : Fin cfg1.N, win1_2.index t 0 = 1 ∧ win1_2.index t 1 = 0 := by decide +kernel
theorem idx1_3 : ∀ t : Fin cfg1.N, win1_3.index t 0 = 1 ∧ win1_3.index t 1 = 0 := by decide +kernel
theorem idx1_4 : ∀ t : Fin cfg1.N, win1_4.index t 0 = 1 ∧ win1_4.index t 1 = 0 := by decide +kernel
theorem idx1_5 : ∀ t : Fin cfg1.N, win1_5.index t 0 = t.val ∧ win1_5.index t 1 = 1 := by decide +kernel
theorem idx1_6 : ∀ t : Fin cfg1.N, win1_6.index t 0 = t.val ∧ win1_6.index t 1 = 1 := by decide +kernel
theorem idx1_7 : ∀ t : Fin cfg1.N, win1_7.index t 0 = t.val ∧ win1_7.index t 1 = 1 := by decide +kernel
theorem idx1_8 : ∀ t : Fin cfg1.N, win1_8.index t 0 = t.val ∧ win1_8.index t 1 = 0 := by decide +kernel

section
variable (t : Fin cfg1.N)

theorem b1_0 (j : S512x1024.Idx) : (iblk1 V c 0 t : Vec Ideal S512x1024 .bf16) j = fh V c (512 * t.val + (j 0).val) (j 1).val := by
  unfold iblk1
  rw [View.read_apply]
  refine at2_eq (a := 8192) (b := 1024) _ _ _ _ ?_ ?_
  · show win1_0.index t 0 * 512 + 1 * (j 0).val = _; rw [(idx1_0 t).1]; omega
  · show win1_0.index t 1 * 1024 + 1 * (j 1).val = _; rw [(idx1_0 t).2]; omega

theorem b1_1 (j : S512x1024.Idx) : (iblk1 V c 1 t : Vec Ideal S512x1024 .f32) j = fp V c (512 * t.val + (j 0).val) (j 1).val := by
  unfold iblk1
  rw [View.read_apply]
  refine at2_eq (a := 8192) (b := 1024) _ _ _ _ ?_ ?_
  · show win1_1.index t 0 * 512 + 1 * (j 0).val = _; rw [(idx1_1 t).1]; omega
  · show win1_1.index t 1 * 1024 + 1 * (j 1).val = _; rw [(idx1_1 t).2]; omega

theorem b1_2 (j : S1408x1024.Idx) : (iblk1 V c 2 t : Vec Ideal S1408x1024 .bf16) j = fwg V c (1408 + (j 0).val) (j 1).val := by
  unfold iblk1
  rw [View.read_apply]
  refine at2_eq (a := 2816) (b := 1024) _ _ _ _ ?_ ?_
  · show win1_2.index t 0 * 1408 + 1 * (j 0).val = _; rw [(idx1_2 t).1]; omega
  · show win1_2.index t 1 * 1024 + 1 * (j 1).val = _; rw [(idx1_2 t).2]; omega

theorem b1_3 (j : S1408x1024.Idx) : (iblk1 V c 3 t : Vec Ideal S1408x1024 .bf16) j = fwu V c (1408 + (j 0).val) (j 1).val := by
  unfold iblk1
  rw [View.read_apply]
  refine at2_eq (a := 2816) (b := 1024) _ _ _ _ ?_ ?_
  · show win1_3.index t 0 * 1408 + 1 * (j 0).val = _; rw [(idx1_3 t).1]; omega
  · show win1_3.index t 1 * 1024 + 1 * (j 1).val = _; rw [(idx1_3 t).2]; omega

theorem b1_4 (j : S1408x1024.Idx) : (iblk1 V c 4 t : Vec Ideal S1408x1024 .bf16) j = fwd V c (1408 + (j 0).val) (j 1).val := by
  unfold iblk1
  rw [View.read_apply]
  refine at2_eq (a := 2816) (b := 1024) _ _ _ _ ?_ ?_
  · show win1_4.index t 0 * 1408 + 1 * (j 0).val = _; rw [(idx1_4 t).1]; omega
  · show win1_4.index t 1 * 1024 + 1 * (j 1).val = _; rw [(idx1_4 t).2]; omega

theorem o1_5 (j : S512x1408.Idx) : (outsAt1 V c t).1 j = DT (fh V c) (fwg V c) (512 * t.val + (j 0).val) (1408 + (j 1).val) := by
  unfold outsAt1
  dsimp only
  rw [val1_A_5]
  exact k1_a (b1_0 V c t) (b1_2 V c t) j

theorem o1_6 (j : S512x1408.Idx) : (outsAt1 V c t).2.1 j = DT (fh V c) (fwu V c) (512 * t.val + (j 0).val) (1408 + (j 1).val) := by
  unfold outsAt1
  dsimp only
  rw [val1_A_6]
  exact k1_b (b1_0 V c t) (b1_3 V c t) j

theorem o1_7 (j : S512x1408.Idx) : (outsAt1 V c t).2.2.1 j = FF (fh V c) (fwg V c) (fwu V c) (512 * t.val + (j 0).val) (1408 + (j 1).val) := by
  unfold outsAt1
  dsimp only
  rw [val1_A_7]
  exact k1_f (b1_0 V c t) (b1_2 V c t) (b1_3 V c t) j

theorem o1_8 (j : S512x1024.Idx) : (outsAt1 V c t).2.2.2 j = OUT1 V c (512 * t.val + (j 0).val) (j 1).val := by
  unfold outsAt1
  dsimp only
  rw [val1_A_8]
  exact k1_out (b1_0 V c t) (b1_1 V c t) (b1_2 V c t) (b1_3 V c t) (b1_4 V c t) j

end

theorem mem1_5 (t : Fin cfg1.N) (i : S8192x2816.Idx)
    (h0 : win1_5.index t 0 * 512 ≤ (i 0).val ∧ (i 0).val < win1_5.index t 0 * 512 + 512)
    (h1 : win1_5.index t 1 * 1408 ≤ (i 1).val ∧ (i 1).val < win1_5.index t 1 * 1408 + 1408) : i ∈ ((cfg1.win 5).blk t).view.set := by
  show i ∈ ((View.whole main_v6_0).slice (win1_5.rect t)).set
  rw [View.set_slice_whole, Rect.mem_set_unit]
  intro a
  match a with
  | ⟨0, _⟩ => exact h0
  | ⟨1, _⟩ => exact h1

theorem final1_5 (i : S8192x2816.Idx) : ((dat1 V c).arrAt 5 cfg1.N : S8192x2816.Idx → EReal) i
    = if 1408 ≤ (i 1).val then DT (fh V c) (fwg V c) (i 0).val (i 1).val else (V c main_v6_0 : S8192x2816.Idx → EReal) i := by
  refine ((dat1 V c).arrAt_eq_piecewise 5
    (fun i : S8192x2816.Idx => DT (fh V c) (fwg V c) (i 0).val (i 1).val : Buf (Elt Ideal) ((c : Thread nD τ).loc main_v6_0)) (fun t _ => ?_) i).trans ?_
  · show (cfg1.win 5).cut (grid1.coords t) ((dat1 V c).after 5 t) = _
    rw [after1_5]
    funext j
    rw [View.read_apply]
    refine (o1_5 V c t j).trans ?_
    show DT (fh V c) (fwg V c) _ _ = DT (fh V c) (fwg V c) _ _
    congr 1
    · show _ = win1_5.index t 0 * 512 + 1 * (j 0).val; rw [(idx1_5 t).1]; omega
    · show _ = win1_5.index t 1 * 1408 + 1 * (j 1).val; rw [(idx1_5 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg1.N = 16 from N_1]; omega⟩, flush1_5 _, mem1_5 _ _ ?_ ?_⟩
      · rw [(idx1_5 _).1]; dsimp only; omega
      · rw [(idx1_5 _).2]; omega
    · rw [if_neg h]
      refine if_neg ?_
      rintro ⟨t, -, hm⟩
      have hm' : i ∈ ((View.whole main_v6_0).slice (win1_5.rect t)).set := hm
      rw [View.set_slice_whole, Rect.mem_set_unit] at hm'
      have := (hm' 1).1
      have e : win1_5.index t 1 * 1408 ≤ (i 1).val := this
      rw [(idx1_5 t).2] at e
      omega

theorem mem1_6 (t : Fin cfg1.N) (i : S8192x2816.Idx)
    (h0 : win1_6.index t 0 * 512 ≤ (i 0).val ∧ (i 0).val < win1_6.index t 0 * 512 + 512)
    (h1 : win1_6.index t 1 * 1408 ≤ (i 1).val ∧ (i 1).val < win1_6.index t 1 * 1408 + 1408) : i ∈ ((cfg1.win 6).blk t).view.set := by
  show i ∈ ((View.whole main_v6_1).slice (win1_6.rect t)).set
  rw [View.set_slice_whole, Rect.mem_set_unit]
  intro a
  match a with
  | ⟨0, _⟩ => exact h0
  | ⟨1, _⟩ => exact h1

theorem final1_6 (i : S8192x2816.Idx) : ((dat1 V c).arrAt 6 cfg1.N : S8192x2816.Idx → EReal) i
    = if 1408 ≤ (i 1).val then DT (fh V c) (fwu V c) (i 0).val (i 1).val else (V c main_v6_1 : S8192x2816.Idx → EReal) i := by
  refine ((dat1 V c).arrAt_eq_piecewise 6
    (fun i : S8192x2816.Idx => DT (fh V c) (fwu V c) (i 0).val (i 1).val : Buf (Elt Ideal) ((c : Thread nD τ).loc main_v6_1)) (fun t _ => ?_) i).trans ?_
  · show (cfg1.win 6).cut (grid1.coords t) ((dat1 V c).after 6 t) = _
    rw [after1_6]
    funext j
    rw [View.read_apply]
    refine (o1_6 V c t j).trans ?_
    show DT (fh V c) (fwu V c) _ _ = DT (fh V c) (fwu V c) _ _
    congr 1
    · show _ = win1_6.index t 0 * 512 + 1 * (j 0).val; rw [(idx1_6 t).1]; omega
    · show _ = win1_6.index t 1 * 1408 + 1 * (j 1).val; rw [(idx1_6 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg1.N = 16 from N_1]; omega⟩, flush1_6 _, mem1_6 _ _ ?_ ?_⟩
      · rw [(idx1_6 _).1]; dsimp only; omega
      · rw [(idx1_6 _).2]; omega
    · rw [if_neg h]
      refine if_neg ?_
      rintro ⟨t, -, hm⟩
      have hm' : i ∈ ((View.whole main_v6_1).slice (win1_6.rect t)).set := hm
      rw [View.set_slice_whole, Rect.mem_set_unit] at hm'
      have := (hm' 1).1
      have e : win1_6.index t 1 * 1408 ≤ (i 1).val := this
      rw [(idx1_6 t).2] at e
      omega

theorem mem1_7 (t : Fin cfg1.N) (i : S8192x2816.Idx)
    (h0 : win1_7.index t 0 * 512 ≤ (i 0).val ∧ (i 0).val < win1_7.index t 0 * 512 + 512)
    (h1 : win1_7.index t 1 * 1408 ≤ (i 1).val ∧ (i 1).val < win1_7.index t 1 * 1408 + 1408) : i ∈ ((cfg1.win 7).blk t).view.set := by
  show i ∈ ((View.whole main_v6_2).slice (win1_7.rect t)).set
  rw [View.set_slice_whole, Rect.mem_set_unit]
  intro a
  match a with
  | ⟨0, _⟩ => exact h0
  | ⟨1, _⟩ => exact h1

theorem final1_7 (i : S8192x2816.Idx) : ((dat1 V c).arrAt 7 cfg1.N : S8192x2816.Idx → EReal) i
    = if 1408 ≤ (i 1).val then FF (fh V c) (fwg V c) (fwu V c) (i 0).val (i 1).val else (V c main_v6_2 : S8192x2816.Idx → EReal) i := by
  refine ((dat1 V c).arrAt_eq_piecewise 7
    (fun i : S8192x2816.Idx => FF (fh V c) (fwg V c) (fwu V c) (i 0).val (i 1).val : Buf (Elt Ideal) ((c : Thread nD τ).loc main_v6_2)) (fun t _ => ?_) i).trans ?_
  · show (cfg1.win 7).cut (grid1.coords t) ((dat1 V c).after 7 t) = _
    rw [after1_7]
    funext j
    rw [View.read_apply]
    refine (o1_7 V c t j).trans ?_
    show FF (fh V c) (fwg V c) (fwu V c) _ _ = FF (fh V c) (fwg V c) (fwu V c) _ _
    congr 1
    · show _ = win1_7.index t 0 * 512 + 1 * (j 0).val; rw [(idx1_7 t).1]; omega
    · show _ = win1_7.index t 1 * 1408 + 1 * (j 1).val; rw [(idx1_7 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg1.N = 16 from N_1]; omega⟩, flush1_7 _, mem1_7 _ _ ?_ ?_⟩
      · rw [(idx1_7 _).1]; dsimp only; omega
      · rw [(idx1_7 _).2]; omega
    · rw [if_neg h]
      refine if_neg ?_
      rintro ⟨t, -, hm⟩
      have hm' : i ∈ ((View.whole main_v6_2).slice (win1_7.rect t)).set := hm
      rw [View.set_slice_whole, Rect.mem_set_unit] at hm'
      have := (hm' 1).1
      have e : win1_7.index t 1 * 1408 ≤ (i 1).val := this
      rw [(idx1_7 t).2] at e
      omega

theorem mem1_8 (t : Fin cfg1.N) (i : S8192x1024.Idx)
    (h0 : win1_8.index t 0 * 512 ≤ (i 0).val ∧ (i 0).val < win1_8.index t 0 * 512 + 512)
    (h1 : win1_8.index t 1 * 1024 ≤ (i 1).val ∧ (i 1).val < win1_8.index t 1 * 1024 + 1024) : i ∈ ((cfg1.win 8).blk t).view.set := by
  show i ∈ ((View.whole main_v6_3).slice (win1_8.rect t)).set
  rw [View.set_slice_whole, Rect.mem_set_unit]
  intro a
  match a with
  | ⟨0, _⟩ => exact h0
  | ⟨1, _⟩ => exact h1

theorem final1_8 : (dat1 V c).arrAt 8 cfg1.N
    = (fun i : S8192x1024.Idx => OUT1 V c (i 0).val (i 1).val : Buf (Elt Ideal) ((c : Thread nD τ).loc main_v6_3)) := by
  refine (dat1 V c).arrAt_eq_of_cover 8 _ (fun t _ => ?_) fun i => ?_
  · show (cfg1.win 8).cut (grid1.coords t) ((dat1 V c).after 8 t) = _
    rw [after1_8]
    funext j
    rw [View.read_apply]
    refine (o1_8 V c t j).trans ?_
    show OUT1 V c _ _ = OUT1 V c _ _
    congr 1
    · show _ = win1_8.index t 0 * 512 + 1 * (j 0).val; rw [(idx1_8 t).1]; omega
    · show _ = win1_8.index t 1 * 1024 + 1 * (j 1).val; rw [(idx1_8 t).2]; omega
  · have b0 : (i 0 : Nat) < 8192 := (i 0).isLt
    have b1 : (i 1 : Nat) < 1024 := (i 1).isLt
    refine ⟨⟨(i 0).val / 512, by rw [show cfg1.N = 16 from N_1]; omega⟩, flush1_8 _, mem1_8 _ _ ?_ ?_⟩
    · rw [(idx1_8 _).1]; dsimp only; omega
    · rw [(idx1_8 _).2]; omega

end Cert.FwdRun

end
-- ==== Proof.FwdAlg.lean ====
/- The feed-forward net's forward pass: the two calls of the kernel and the reference leave equal results. -/
module

public import proofs.«01_k».proof.Proof.FwdRun
public import proofs.«01_k».proof.Proof.FfnRef
public import proofs.«01_k».proof.Proof.Gen.ReferenceFfnFwdIdeal.Read
public import proofs.«01_k».proof.Defs

@[expose] public section

set_option maxRecDepth 16384

noncomputable section

namespace Cert.FwdAlg

open Cert.KernelFfnFwdIdeal Cert.KernelFfnFwdIdeal.Gen Cert.Rows Cert.FfnPay Cert.FwdRun Idealize.ShloMosaic Idealize.ShloMosaic.TcCoe Idealize.ShloMosaic.Tactic
open Cert.NormProj (HN)
open Cert.FfnRef (rx rg rwg rwu rwd one_bits)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg) (c : Dev nD)

abbrev A0 : Vec Ideal ⟨2, ![8192, 1024]⟩ .f32 := m ((c : Thread nD τ).loc main_arg0)
abbrev A1 : Vec Ideal ⟨2, ![1, 1024]⟩ .f32 := m ((c : Thread nD τ).loc main_arg1)
abbrev A2 : Vec Ideal ⟨2, ![1024, 2816]⟩ .f32 := m ((c : Thread nD τ).loc main_arg2)
abbrev A3 : Vec Ideal ⟨2, ![1024, 2816]⟩ .f32 := m ((c : Thread nD τ).loc main_arg3)
abbrev A4 : Vec Ideal ⟨2, ![2816, 1024]⟩ .f32 := m ((c : Thread nD τ).loc main_arg4)

/-! ## The operations before the first call -/

theorem host_wg : W1 m ρ c (Proc.devRef .tc main_v1)
    = (transpose S2816x1024 [1, 0] (A2 m c) transposes_S1024x2816_S2816x1024_1_0 : Vec Ideal S2816x1024 .f32) := by
  simp only [W1, hostOps0]
  after_results_simp <;> rfl

theorem host_wu : W1 m ρ c (Proc.devRef .tc main_v3)
    = (transpose S2816x1024 [1, 0] (A3 m c) transposes_S1024x2816_S2816x1024_1_0 : Vec Ideal S2816x1024 .f32) := by
  simp only [W1, hostOps0]
  after_results_simp <;> rfl

theorem host_wd : W1 m ρ c (Proc.devRef .tc main_v4) = A4 m c := by
  simp only [W1, hostOps0]
  after_results_simp <;> rfl

theorem tr_apply (x : Vec Ideal ⟨2, ![1024, 2816]⟩ .f32) (p q : ℕ) :
    at2 (a := 2816) (b := 1024) (transpose S2816x1024 [1, 0] x transposes_S1024x2816_S2816x1024_1_0 : Vec Ideal S2816x1024 .f32) p q
      = at2 (a := 1024) (b := 2816) x q p := by
  unfold at2
  by_cases h : p < 2816 ∧ q < 1024
  · rw [dif_pos h, dif_pos ⟨h.2, h.1⟩]
    pointwise
  · rw [dif_neg h, dif_neg fun h' => h ⟨h'.2, h'.1⟩]

/-! ## The contents at the two calls -/

section
variable (V : (c : Dev nD) → (b : Ref sig .tc) → Buf (Elt Ideal) ((c : Thread nD τ).loc b))

/-- The contents the two calls start from, but for what the first leaves. -/
structure Starts : Prop where
  x : V c main_arg0 = A0 m c
  g : V c main_arg1 = A1 m c
  wg : V c main_v1 = (transpose S2816x1024 [1, 0] (A2 m c) transposes_S1024x2816_S2816x1024_1_0 : Vec Ideal S2816x1024 .f32)
  wu : V c main_v3 = (transpose S2816x1024 [1, 0] (A3 m c) transposes_S1024x2816_S2816x1024_1_0 : Vec Ideal S2816x1024 .f32)
  wd : V c main_v4 = A4 m c

variable {m c V} (h : Starts m c V)
include h

theorem e_x : fx V c = rx (A0 m c) := by funext p q; unfold fx; rw [h.x]
theorem e_g : fg V c = rg (A1 m c) := by funext q; unfold fg; rw [h.g]
theorem e_wg : fwg V c = rwg (A2 m c) := by funext p q; unfold fwg; rw [h.wg]; exact tr_apply _ p q
theorem e_wu : fwu V c = rwu (A3 m c) := by funext p q; unfold fwu; rw [h.wu]; exact tr_apply _ p q
theorem e_wd : fwd V c = rwd (A4 m c) := by funext p q; unfold fwd; rw [h.wd]

end

theorem starts1 : Starts m c (V1 m ρ) where
  x := W1_args m ρ c main_arg0 (by decide)
  g := W1_args m ρ c main_arg1 (by decide)
  wg := host_wg m ρ c
  wu := host_wu m ρ c
  wd := host_wd m ρ c

/-- A buffer the first call only reads is at the second call what it was at the first. -/
theorem w3 (r : Ref sig .tc) (h : r ∉ hostOps1_W) (h' : ∀ w : Fin cfg0.W, Pipeline.arrRef spec0 w = r → (cfg0.win w).isOut = false) :
    V3 m ρ c r = V1 m ρ c r := (W3_of m ρ c r h).trans (W2_of m ρ c r h')

theorem starts3 : Starts m c (V3 m ρ) where
  x := W3_args m ρ c main_arg0 (by decide)
  g := W3_args m ρ c main_arg1 (by decide)
  wg := (w3 m ρ c main_v1 (by decide) (by decide)).trans (host_wg m ρ c)
  wu := (w3 m ρ c main_v3 (by decide) (by decide)).trans (host_wu m ρ c)
  wd := (w3 m ρ c main_v4 (by decide) (by decide)).trans (host_wd m ρ c)

/-- The normalised rows, from the arguments. -/
abbrev H0 : ℕ → ℕ → EReal := HN (rx (A0 m c)) (rg (A1 m c))

theorem h3 : V3 m ρ c main_v5_0 = (dat0 (V1 m ρ) c).arrAt 5 cfg0.N :=
  (W3_of m ρ c main_v5_0 (by decide)).trans (W2_arr m ρ c 5)

theorem part3 : V3 m ρ c main_v5_4 = (dat0 (V1 m ρ) c).arrAt 9 cfg0.N :=
  (W3_of m ρ c main_v5_4 (by decide)).trans (W2_arr m ρ c 9)

theorem e_h {p : ℕ} (hp : p < 8192) : ∀ q < 1024, fh (V3 m ρ) c p q = H0 m c p q := by
  intro q hq
  rw [H0, ← e_x (starts1 m ρ c), ← e_g (starts1 m ρ c)]
  unfold fh
  rw [h3, final0_5, at2, dif_pos ⟨hp, hq⟩]
  rfl

theorem e_p {p q : ℕ} (hp : p < 8192) (hq : q < 1024) : fp (V3 m ρ) c p q
    = rx (A0 m c) p q + PT (H0 m c) (rwg (A2 m c)) (rwu (A3 m c)) (rwd (A4 m c)) 0 p q := by
  rw [H0, ← e_x (starts1 m ρ c), ← e_g (starts1 m ρ c), ← e_wg (starts1 m ρ c), ← e_wu (starts1 m ρ c), ← e_wd (starts1 m ρ c)]
  unfold FwdRun.fp
  rw [part3, final0_9, at2, dif_pos ⟨hp, hq⟩]
  rfl

theorem copy_a : V3 m ρ c main_v6_0 = (dat0 (V1 m ρ) c).arrAt 6 cfg0.N := by
  refine Eq.trans ?_ (W2_arr m ρ c 6)
  show StableHlo.after hostOps1 (W2 m ρ c) _ = _
  simp only [hostOps1]
  after_results_simp <;> rfl

theorem copy_b : V3 m ρ c main_v6_1 = (dat0 (V1 m ρ) c).arrAt 7 cfg0.N := by
  refine Eq.trans ?_ (W2_arr m ρ c 7)
  show StableHlo.after hostOps1 (W2 m ρ c) _ = _
  simp only [hostOps1]
  after_results_simp <;> rfl

theorem copy_f : V3 m ρ c main_v6_2 = (dat0 (V1 m ρ) c).arrAt 8 cfg0.N := by
  refine Eq.trans ?_ (W2_arr m ρ c 8)
  show StableHlo.after hostOps1 (W2 m ρ c) _ = _
  simp only [hostOps1]
  after_results_simp <;> rfl

/-! ## The five results -/

theorem out_h : W4 m ρ c (Proc.devRef .tc main_v5_0) = (fun i : S8192x1024.Idx => H0 m c (i 0).val (i 1).val) := by
  refine (W4_of m ρ c main_v5_0 (by decide)).trans ((h3 m ρ c).trans ((final0_5 (V1 m ρ) c).trans ?_))
  rw [e_x (starts1 m ρ c), e_g (starts1 m ρ c)]

theorem out_a : W4 m ρ c (Proc.devRef .tc main_v6_0) = (fun i : S8192x2816.Idx => DT (H0 m c) (rwg (A2 m c)) (i 0).val (i 1).val) := by
  refine (W4_arr m ρ c 5).trans ?_
  funext i
  refine (final1_5 (V3 m ρ) c i).trans ?_
  by_cases h : 1408 ≤ (i 1).val
  · rw [if_pos h, e_wg (starts3 m ρ c), dt_congr (e_h m ρ c (i 0).isLt)]
  · rw [if_neg h, copy_a, final0_6 (V1 m ρ) c i (not_le.mp h), e_x (starts1 m ρ c), e_g (starts1 m ρ c), e_wg (starts1 m ρ c)]

theorem out_b : W4 m ρ c (Proc.devRef .tc main_v6_1) = (fun i : S8192x2816.Idx => DT (H0 m c) (rwu (A3 m c)) (i 0).val (i 1).val) := by
  refine (W4_arr m ρ c 6).trans ?_
  funext i
  refine (final1_6 (V3 m ρ) c i).trans ?_
  by_cases h : 1408 ≤ (i 1).val
  · rw [if_pos h, e_wu (starts3 m ρ c), dt_congr (e_h m ρ c (i 0).isLt)]
  · rw [if_neg h, copy_b, final0_7 (V1 m ρ) c i (not_le.mp h), e_x (starts1 m ρ c), e_g (starts1 m ρ c), e_wu (starts1 m ρ c)]

theorem out_f : W4 m ρ c (Proc.devRef .tc main_v6_2) = (fun i : S8192x2816.Idx => FF (H0 m c) (rwg (A2 m c)) (rwu (A3 m c)) (i 0).val (i 1).val) := by
  refine (W4_arr m ρ c 7).trans ?_
  funext i
  refine (final1_7 (V3 m ρ) c i).trans ?_
  by_cases h : 1408 ≤ (i 1).val
  · rw [if_pos h, e_wg (starts3 m ρ c), e_wu (starts3 m ρ c), ff_congr (e_h m ρ c (i 0).isLt)]
  · rw [if_neg h, copy_f, final0_8 (V1 m ρ) c i (not_le.mp h), e_x (starts1 m ρ c), e_g (starts1 m ρ c), e_wg (starts1 m ρ c), e_wu (starts1 m ρ c)]

/-- The block's output, from the arguments. -/
abbrev X2 (p k : ℕ) : EReal := rx (A0 m c) p k + ∑ q : Fin 2816, FF (H0 m c) (rwg (A2 m c)) (rwu (A3 m c)) p q.val * rwd (A4 m c) q.val k

theorem out_x : W4 m ρ c (Proc.devRef .tc main_v6_3) = (fun i : S8192x1024.Idx => X2 m c (i 0).val (i 1).val) := by
  refine (W4_arr m ρ c 8).trans ((final1_8 (V3 m ρ) c).trans ?_)
  funext i
  rw [OUT1, e_p m ρ c (i 0).isLt (i 1).isLt, pt_congr (e_h m ρ c (i 0).isLt), e_wg (starts3 m ρ c), e_wu (starts3 m ρ c), e_wd (starts3 m ρ c), X2, ← pt_all, add_assoc]

local notation "𝕄" => MT nD τ sig Unit (Elt Ideal) ℕ (UR sig nD τ) ℕ

-- the run's implicit arguments are found by unifying its conclusion with this one
set_option backward.isDefEq.respectTransparency.types false in
/-- The run of the kernel: every buffer ends at its last contents. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W4 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

/-! ## The reference -/

section
open Cert.ReferenceFfnFwdIdeal.Read

variable (x0 : Vec Ideal S8192x1024 .f32) (x1 : Vec Ideal S1x1024 .f32) (x2 x3 : Vec Ideal ⟨2, ![1024, 2816]⟩ .f32) (x4 : Vec Ideal ⟨2, ![2816, 1024]⟩ .f32)

theorem r13 (i : S8192x1024.Idx) : val_main_v13 (F := Ideal) x0 x1 i = HN (rx x0) (rg x1) (i 0).val (i 1).val :=
  FfnRef.r16 x0 x1 i

theorem r14 (i : S8192x2816.Idx) : val_main_v14 (F := Ideal) x0 x1 x2 i = DT (HN (rx x0) (rg x1)) (rwg x2) (i 0).val (i 1).val := by
  refine (val_main_v14_apply x0 x1 x2 i).trans ?_
  rw [DT]
  refine Finset.sum_congr rfl fun k _ => ?_
  rw [r13]
  exact congrArg₂ (· * ·) rfl (at2_eq x2 _ _ _ rfl rfl)

theorem r15 (i : S8192x2816.Idx) : val_main_v15 (F := Ideal) x0 x1 x3 i = DT (HN (rx x0) (rg x1)) (rwu x3) (i 0).val (i 1).val :=
  r14 x0 x1 x3 i

theorem r17 (i : S8192x2816.Idx) : val_main_v17 (F := Ideal) x0 x1 x2 x3 i = FF (HN (rx x0) (rg x1)) (rwg x2) (rwu x3) (i 0).val (i 1).val := by
  rw [val_main_v17_apply, val_main_v16_apply, val_main_call0_v5_apply, val_main_call0_v4_apply, val_main_call0_v3_apply, val_main_call0_v2_apply,
    val_main_call0_v1_apply, val_main_call0_v0_apply, FF, ← r14 x0 x1 x2 i, ← r15 x0 x1 x3 i]
  show (val_main_v14 (F := Ideal) x0 x1 x2 i * Ideal.div (Ideal.ofBits .f32 0x3F800000#32) (Ideal.ofBits .f32 0x3F800000#32 + Ideal.exp (-(val_main_v14 (F := Ideal) x0 x1 x2 i))))
    * val_main_v15 (F := Ideal) x0 x1 x3 i = _
  rw [one_bits, SW, FfnPay.sig, zero_sub]

theorem r23 (i : S8192x1024.Idx) : val_main_v23 (F := Ideal) x0 x1 x2 x3 x4 i
    = rx x0 (i 0).val (i 1).val + ∑ q : Fin 2816, FF (HN (rx x0) (rg x1)) (rwg x2) (rwu x3) (i 0).val q.val * rwd x4 q.val (i 1).val := by
  rw [val_main_v23_apply]
  refine congrArg₂ (· + ·) (at2_eq x0 _ _ _ rfl rfl) ((val_main_v22_apply x0 x1 x2 x3 x4 i).trans ?_)
  refine Finset.sum_congr rfl fun k _ => ?_
  rw [r17]
  exact congrArg₂ (· * ·) rfl (at2_eq x4 _ _ _ rfl rfl)

end

/-- The kernel's and the reference's results are the same arrays. -/
theorem algebraic : Cert.algebraic_KernelFfnFwdIdeal_ReferenceFfnFwdIdeal := by
  intro m ρ m' ρ' _ hagree
  refine ⟨fun c => W4 m ρ c (Proc.devRef .tc main_v5_0), fun c => W4 m ρ c (Proc.devRef .tc main_v6_0), fun c => W4 m ρ c (Proc.devRef .tc main_v6_1),
    fun c => W4 m ρ c (Proc.devRef .tc main_v6_2), fun c => W4 m ρ c (Proc.devRef .tc main_v6_3), ?_, ?_⟩
  · refine (θ_run Cert.KernelFfnFwdIdeal.defs _ _).mono (fun _ h c => ?_) (run m ρ)
    exact ⟨h c _ (mem_uc main_v5_0 (by decide)), h c _ (mem_uc main_v6_0 (by decide)), h c _ (mem_uc main_v6_1 (by decide)), h c _ (mem_uc main_v6_2 (by decide)),
      h c _ (mem_uc main_v6_3 (by decide)),
      (h c _ (mem_uc main_arg0 (by decide))).trans (W4_main_arg0 m ρ c), (h c _ (mem_uc main_arg1 (by decide))).trans (W4_main_arg1 m ρ c),
      (h c _ (mem_uc main_arg2 (by decide))).trans (W4_main_arg2 m ρ c), (h c _ (mem_uc main_arg3 (by decide))).trans (W4_main_arg3 m ρ c),
      (h c _ (mem_uc main_arg4 (by decide))).trans (W4_main_arg4 m ρ c)⟩
  · refine (θ_run Cert.ReferenceFfnFwdIdeal.defs _ _).mono (fun _ h c => ?_) (Cert.ReferenceFfnFwdIdeal.Value.run (F := Ideal) m' ρ')
    obtain ⟨a0, a1, a2, a3, a4⟩ := hagree c
    refine ⟨(h c).1.trans ?_, (h c).2.1.trans ?_, (h c).2.2.1.trans ?_, (h c).2.2.2.1.trans ?_, (h c).2.2.2.2.1.trans ?_, (h c).2.2.2.2.2⟩
    · refine (ReferenceFfnFwdIdeal.Read.val_main_v18_eq (F := Ideal) _ _).trans ?_
      rw [a0, a1]
      refine Eq.trans ?_ (out_h m ρ c).symm
      funext i
      exact (ReferenceFfnFwdIdeal.Read.val_main_v18_apply ..).trans (r13 _ _ i)
    · refine (ReferenceFfnFwdIdeal.Read.val_main_v19_eq (F := Ideal) _ _ _).trans ?_
      rw [a0, a1, a2]
      refine Eq.trans ?_ (out_a m ρ c).symm
      funext i
      exact (ReferenceFfnFwdIdeal.Read.val_main_v19_apply ..).trans (r14 _ _ _ i)
    · refine (ReferenceFfnFwdIdeal.Read.val_main_v20_eq (F := Ideal) _ _ _).trans ?_
      rw [a0, a1, a3]
      refine Eq.trans ?_ (out_b m ρ c).symm
      funext i
      exact (ReferenceFfnFwdIdeal.Read.val_main_v20_apply ..).trans (r15 _ _ _ i)
    · refine (ReferenceFfnFwdIdeal.Read.val_main_v21_eq (F := Ideal) _ _ _ _).trans ?_
      rw [a0, a1, a2, a3]
      refine Eq.trans ?_ (out_f m ρ c).symm
      funext i
      exact (ReferenceFfnFwdIdeal.Read.val_main_v21_apply ..).trans (r17 _ _ _ _ i)
    · refine (ReferenceFfnFwdIdeal.Read.val_main_v23_eq (F := Ideal) _ _ _ _ _).trans ?_
      rw [a0, a1, a2, a3, a4]
      refine Eq.trans ?_ (out_x m ρ c).symm
      funext i
      exact r23 _ _ _ _ _ i

end Cert.FwdAlg

end
-- ==== Proof.StepNorm.lean ====
/- The optimiser's step of the norms' gains: the kernel's three arrays are the reference's, element by element. -/
module

public import proofs.«01_k».proof.Proof.Gen.KernelStepNormIdeal.Value
public import proofs.«01_k».proof.Proof.Gen.ReferenceStepNormIdeal.Run
public import proofs.«01_k».proof.Defs

@[expose] public section

noncomputable section

namespace Cert.StepNorm

open Cert.KernelStepNormIdeal Cert.KernelStepNormIdeal.Gen Idealize.ShloMosaic Idealize.SL.Sem

/-- The kernel and the reference take the same step. -/
theorem algebraic : Cert.algebraic_KernelStepNormIdeal_ReferenceStepNormIdeal := by
  intro m ρ m' ρ' _ hagree
  refine ⟨_, _, _, Value.run (F := Ideal) m ρ, ?_⟩
  refine (θ_run Cert.ReferenceStepNormIdeal.defs _ _).mono (fun _ h c => ?_) (Cert.ReferenceStepNormIdeal.Value.run (F := Ideal) m' ρ')
  obtain ⟨a0, a1, a2, a3⟩ := hagree c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.StepNorm

end
-- ==== Proof.StepConv.lean ====
/- The optimiser's step of the convolution's taps: the kernel's three arrays, of six rows, are the reference's arrays in that shape. -/
module

public import proofs.«01_k».proof.Proof.Gen.KernelStepConvIdeal.Value
public import proofs.«01_k».proof.Proof.Gen.ReferenceStepConvIdeal.Read
public import proofs.«01_k».proof.Defs
public import Idealize.ShloMosaic.Lib.Pipeline.Value

@[expose] public section

noncomputable section

namespace Cert.StepConv

open Cert.KernelStepConvIdeal Cert.KernelStepConvIdeal.Gen Idealize.ShloMosaic Idealize.ShloMosaic.TcCoe Idealize.ShloMosaic.Tactic Idealize.SL.Sem
open Cert.ReferenceStepConvIdeal.Read
open Idealize.ShloMosaic.Pipeline (Dat)

variable (m : (ℓ : Loc nD τ sig) → Buf (Elt Ideal) ℓ) (c : Dev nD)

abbrev A0 : Vec Ideal S2x3x64 .f32 := m (c.tc.loc main_arg0)
abbrev A1 : Vec Ideal S2x3x64 .f32 := m (c.tc.loc main_arg1)
abbrev A2 : Vec Ideal S2x3x64 .f32 := m (c.tc.loc main_arg2)
abbrev A3 : Vec Ideal S2x3x64 .f32 := m (c.tc.loc main_arg3)

/-- The kernel's three results, as the reference's functions of the arguments. -/
def resD : Buf (Elt Ideal) ((c : Thread nD τ).loc main_v4_0) := val_main_v24 (F := Ideal) (A0 m c) (A1 m c) (A2 m c) (A3 m c)
def resM : Buf (Elt Ideal) ((c : Thread nD τ).loc main_v4_1) := val_main_v25 (F := Ideal) (A1 m c) (A2 m c)
def resV : Buf (Elt Ideal) ((c : Thread nD τ).loc main_v4_2) := val_main_v26 (F := Ideal) (A1 m c) (A3 m c)

theorem host0 : V m c main_v0 = (shapeCast S6x64 (A0 m c) shapeCasts_S2x3x64_S6x64 : S6x64.Idx → EReal) := by
  show StableHlo.after hostOps0 _ _ = _
  simp only [hostOps0]
  after_results_simp <;> rfl

theorem host1 : V m c main_v1 = (shapeCast S6x64 (A1 m c) shapeCasts_S2x3x64_S6x64 : S6x64.Idx → EReal) := by
  show StableHlo.after hostOps0 _ _ = _
  simp only [hostOps0]
  after_results_simp <;> rfl

theorem host2 : V m c main_v2 = (shapeCast S6x64 (A2 m c) shapeCasts_S2x3x64_S6x64 : S6x64.Idx → EReal) := by
  show StableHlo.after hostOps0 _ _ = _
  simp only [hostOps0]
  after_results_simp <;> rfl

theorem host3 : V m c main_v3 = (shapeCast S6x64 (A3 m c) shapeCasts_S2x3x64_S6x64 : S6x64.Idx → EReal) := by
  show StableHlo.after hostOps0 _ _ = _
  simp only [hostOps0]
  after_results_simp <;> rfl

theorem idx0 : ∀ t : Fin cfg0.N, win0_0.index t 0 = 0 ∧ win0_0.index t 1 = 0 := by decide +kernel
theorem idx1 : ∀ t : Fin cfg0.N, win0_1.index t 0 = 0 ∧ win0_1.index t 1 = 0 := by decide +kernel
theorem idx2 : ∀ t : Fin cfg0.N, win0_2.index t 0 = 0 ∧ win0_2.index t 1 = 0 := by decide +kernel
theorem idx3 : ∀ t : Fin cfg0.N, win0_3.index t 0 = 0 ∧ win0_3.index t 1 = 0 := by decide +kernel
theorem idx4 : ∀ t : Fin cfg0.N, win0_4.index t 0 = 0 ∧ win0_4.index t 1 = 0 := by decide +kernel
theorem idx5 : ∀ t : Fin cfg0.N, win0_5.index t 0 = 0 ∧ win0_5.index t 1 = 0 := by decide +kernel
theorem idx6 : ∀ t : Fin cfg0.N, win0_6.index t 0 = 0 ∧ win0_6.index t 1 = 0 := by decide +kernel

theorem b0 (t : Fin cfg0.N) : (iblk m c 0 t : S6x64.Idx → EReal) = (shapeCast S6x64 (A0 m c) shapeCasts_S2x3x64_S6x64 : S6x64.Idx → EReal) := by
  rw [← host0]
  funext j
  unfold iblk
  rw [View.read_apply]
  refine congrArg (V m c main_v0 : S6x64.Idx → EReal) (funext fun a => Fin.ext ?_)
  match a with
  | ⟨0, _⟩ => show win0_0.index t 0 * 6 + 1 * (j 0).val = (j 0).val; rw [(idx0 t).1]; omega
  | ⟨1, _⟩ => show win0_0.index t 1 * 64 + 1 * (j 1).val = (j 1).val; rw [(idx0 t).2]; omega

theorem b1 (t : Fin cfg0.N) : (iblk m c 1 t : S6x64.Idx → EReal) = (shapeCast S6x64 (A1 m c) shapeCasts_S2x3x64_S6x64 : S6x64.Idx → EReal) := by
  rw [← host1]
  funext j
  unfold iblk
  rw [View.read_apply]
  refine congrArg (V m c main_v1 : S6x64.Idx → EReal) (funext fun a => Fin.ext ?_)
  match a with
  | ⟨0, _⟩ => show win0_1.index t 0 * 6 + 1 * (j 0).val = (j 0).val; rw [(idx1 t).1]; omega
  | ⟨1, _⟩ => show win0_1.index t 1 * 64 + 1 * (j 1).val = (j 1).val; rw [(idx1 t).2]; omega

theorem b2 (t : Fin cfg0.N) : (iblk m c 2 t : S6x64.Idx → EReal) = (shapeCast S6x64 (A2 m c) shapeCasts_S2x3x64_S6x64 : S6x64.Idx → EReal) := by
  rw [← host2]
  funext j
  unfold iblk
  rw [View.read_apply]
  refine congrArg (V m c main_v2 : S6x64.Idx → EReal) (funext fun a => Fin.ext ?_)
  match a with
  | ⟨0, _⟩ => show win0_2.index t 0 * 6 + 1 * (j 0).val = (j 0).val; rw [(idx2 t).1]; omega
  | ⟨1, _⟩ => show win0_2.index t 1 * 64 + 1 * (j 1).val = (j 1).val; rw [(idx2 t).2]; omega

theorem b3 (t : Fin cfg0.N) : (iblk m c 3 t : S6x64.Idx → EReal) = (shapeCast S6x64 (A3 m c) shapeCasts_S2x3x64_S6x64 : S6x64.Idx → EReal) := by
  rw [← host3]
  funext j
  unfold iblk
  rw [View.read_apply]
  refine congrArg (V m c main_v3 : S6x64.Idx → EReal) (funext fun a => Fin.ext ?_)
  match a with
  | ⟨0, _⟩ => show win0_3.index t 0 * 6 + 1 * (j 0).val = (j 0).val; rw [(idx3 t).1]; omega
  | ⟨1, _⟩ => show win0_3.index t 1 * 64 + 1 * (j 1).val = (j 1).val; rw [(idx3 t).2]; omega

theorem self (y : S6x64.Idx) (z : S6x64.Idx) (h0 : (z 0).val = (y 0).val) (h1 : (z 1).val = (y 1).val) : z = y :=
  funext fun a => Fin.ext <| match a with
    | ⟨0, _⟩ => h0
    | ⟨1, _⟩ => h1

theorem hz : (![0, 0] : Fin 2 → Nat) = fun _ => 0 := funext fun a => by fin_cases a <;> rfl

theorem o4 (t : Fin cfg0.N) : (out0_4 (iblk m c 0 t) (iblk m c 1 t) (iblk m c 2 t) (iblk m c 3 t) : S6x64.Idx → EReal) = resD m c := by
  rw [b0, b1, b2, b3]
  funext y
  unfold out0_4
  simp only [View.ld_unit_zero (S := S6x64) hz]
  refine (Value.canon4_eq _ _ _ _ y).trans ?_
  rw [Value.E4, self y (Value.ix4_0 y) rfl rfl, self y (Value.ix4_1 y) rfl rfl, self y (Value.ix4_2 y) rfl rfl, self y (Value.ix4_3 y) rfl rfl, self y (Value.ix4_4 y) rfl rfl, self y (Value.ix4_5 y) rfl rfl]
  rfl

theorem mem4 (t : Fin cfg0.N) (i : S6x64.Idx)
    (h0 : win0_4.index t 0 * 6 ≤ (i 0).val ∧ (i 0).val < win0_4.index t 0 * 6 + 6)
    (h1 : win0_4.index t 1 * 64 ≤ (i 1).val ∧ (i 1).val < win0_4.index t 1 * 64 + 64) : i ∈ ((cfg0.win 4).blk t).view.set := by
  show i ∈ ((View.whole main_v4_0).slice (win0_4.rect t)).set
  rw [View.set_slice_whole, Rect.mem_set_unit]
  intro a
  match a with
  | ⟨0, _⟩ => exact h0
  | ⟨1, _⟩ => exact h1

theorem final4 : (dats m 0 c).arrAt 4 cfg0.N = resD m c := by
  refine (dats m 0 c).arrAt_eq_of_cover 4 (resD m c) (fun t _ => ?_) fun i : S6x64.Idx => ⟨⟨0, by decide⟩, flush0_4 _, mem4 _ i ?_ ?_⟩
  · rw [Value.flushed4]
    funext j
    rw [View.read_apply]
    refine (congrFun (o4 m c t) _).trans (congrArg (resD m c : S6x64.Idx → EReal) (self _ _ ?_ ?_))
    · show (j 0).val = win0_4.index t 0 * 6 + 1 * (j 0).val; rw [(idx4 t).1]; omega
    · show (j 1).val = win0_4.index t 1 * 64 + 1 * (j 1).val; rw [(idx4 t).2]; omega
  · have b : (i 0).val < 6 := (i 0).isLt
    rw [(idx4 _).1]; omega
  · have b : (i 1).val < 64 := (i 1).isLt
    rw [(idx4 _).2]; omega

theorem o5 (t : Fin cfg0.N) : (out0_5 (iblk m c 0 t) (iblk m c 1 t) (iblk m c 2 t) (iblk m c 3 t) : S6x64.Idx → EReal) = resM m c := by
  rw [b0, b1, b2, b3]
  funext y
  unfold out0_5
  simp only [View.ld_unit_zero (S := S6x64) hz]
  refine (Value.canon5_eq _ _ y).trans ?_
  rw [Value.E5, self y (Value.ix5_0 y) rfl rfl, self y (Value.ix5_1 y) rfl rfl]
  rfl

theorem mem5 (t : Fin cfg0.N) (i : S6x64.Idx)
    (h0 : win0_5.index t 0 * 6 ≤ (i 0).val ∧ (i 0).val < win0_5.index t 0 * 6 + 6)
    (h1 : win0_5.index t 1 * 64 ≤ (i 1).val ∧ (i 1).val < win0_5.index t 1 * 64 + 64) : i ∈ ((cfg0.win 5).blk t).view.set := by
  show i ∈ ((View.whole main_v4_1).slice (win0_5.rect t)).set
  rw [View.set_slice_whole, Rect.mem_set_unit]
  intro a
  match a with
  | ⟨0, _⟩ => exact h0
  | ⟨1, _⟩ => exact h1

theorem final5 : (dats m 0 c).arrAt 5 cfg0.N = resM m c := by
  refine (dats m 0 c).arrAt_eq_of_cover 5 (resM m c) (fun t _ => ?_) fun i : S6x64.Idx => ⟨⟨0, by decide⟩, flush0_5 _, mem5 _ i ?_ ?_⟩
  · rw [Value.flushed5]
    funext j
    rw [View.read_apply]
    refine (congrFun (o5 m c t) _).trans (congrArg (resM m c : S6x64.Idx → EReal) (self _ _ ?_ ?_))
    · show (j 0).val = win0_5.index t 0 * 6 + 1 * (j 0).val; rw [(idx5 t).1]; omega
    · show (j 1).val = win0_5.index t 1 * 64 + 1 * (j 1).val; rw [(idx5 t).2]; omega
  · have b : (i 0).val < 6 := (i 0).isLt
    rw [(idx5 _).1]; omega
  · have b : (i 1).val < 64 := (i 1).isLt
    rw [(idx5 _).2]; omega

theorem o6 (t : Fin cfg0.N) : (out0_6 (iblk m c 0 t) (iblk m c 1 t) (iblk m c 2 t) (iblk m c 3 t) : S6x64.Idx → EReal) = resV m c := by
  rw [b0, b1, b2, b3]
  funext y
  unfold out0_6
  simp only [View.ld_unit_zero (S := S6x64) hz]
  refine (Value.canon6_eq _ _ y).trans ?_
  rw [Value.E6, self y (Value.ix6_0 y) rfl rfl, self y (Value.ix6_1 y) rfl rfl, self y (Value.ix6_2 y) rfl rfl]
  rfl

theorem mem6 (t : Fin cfg0.N) (i : S6x64.Idx)
    (h0 : win0_6.index t 0 * 6 ≤ (i 0).val ∧ (i 0).val < win0_6.index t 0 * 6 + 6)
    (h1 : win0_6.index t 1 * 64 ≤ (i 1).val ∧ (i 1).val < win0_6.index t 1 * 64 + 64) : i ∈ ((cfg0.win 6).blk t).view.set := by
  show i ∈ ((View.whole main_v4_2).slice (win0_6.rect t)).set
  rw [View.set_slice_whole, Rect.mem_set_unit]
  intro a
  match a with
  | ⟨0, _⟩ => exact h0
  | ⟨1, _⟩ => exact h1

theorem final6 : (dats m 0 c).arrAt 6 cfg0.N = resV m c := by
  refine (dats m 0 c).arrAt_eq_of_cover 6 (resV m c) (fun t _ => ?_) fun i : S6x64.Idx => ⟨⟨0, by decide⟩, flush0_6 _, mem6 _ i ?_ ?_⟩
  · rw [Value.flushed6]
    funext j
    rw [View.read_apply]
    refine (congrFun (o6 m c t) _).trans (congrArg (resV m c : S6x64.Idx → EReal) (self _ _ ?_ ?_))
    · show (j 0).val = win0_6.index t 0 * 6 + 1 * (j 0).val; rw [(idx6 t).1]; omega
    · show (j 1).val = win0_6.index t 1 * 64 + 1 * (j 1).val; rw [(idx6 t).2]; omega
  · have b : (i 0).val < 6 := (i 0).isLt
    rw [(idx6 _).1]; omega
  · have b : (i 1).val < 64 := (i 1).isLt
    rw [(idx6 _).2]; omega

/-- The kernel and the reference take the same step. -/
theorem algebraic : Cert.algebraic_KernelStepConvIdeal_ReferenceStepConvIdeal := by
  intro m ρ m' ρ' _ hagree
  refine ⟨fun c => resD m c, fun c => resM m c, fun c => resV m c, ?_, ?_⟩
  · refine (θ_run Cert.KernelStepConvIdeal.defs _ _).mono (fun _ h c => ?_) (Value.run_blocks (F := Ideal) m ρ)
    exact ⟨(h c).1.trans (final4 m c), (h c).2.1.trans (final5 m c), (h c).2.2.1.trans (final6 m c), (h c).2.2.2⟩
  · refine (θ_run Cert.ReferenceStepConvIdeal.defs _ _).mono (fun _ h c => ?_) (Cert.ReferenceStepConvIdeal.Value.run (F := Ideal) m' ρ')
    obtain ⟨a0, a1, a2, a3⟩ := hagree c
    refine ⟨(h c).1.trans ?_, (h c).2.1.trans ?_, (h c).2.2.1.trans ?_, (h c).2.2.2⟩
    · refine (val_main_v24_eq (F := Ideal) _ _ _ _).trans ?_
      rw [a0, a1, a2, a3]
      rfl
    · refine (val_main_v25_eq (F := Ideal) _ _).trans ?_
      rw [a1, a2]
      rfl
    · refine (val_main_v26_eq (F := Ideal) _ _).trans ?_
      rw [a1, a3]
      rfl

end Cert.StepConv

end
-- ==== Proof.StepHead.lean ====
/- The optimiser's step of the gains of the heads' norms: the kernel's three arrays are the reference's, element by element. -/
module

public import proofs.«01_k».proof.Proof.Gen.KernelStepHeadIdeal.Value
public import proofs.«01_k».proof.Proof.Gen.ReferenceStepHeadIdeal.Run
public import proofs.«01_k».proof.Defs

@[expose] public section

noncomputable section

namespace Cert.StepHead

open Cert.KernelStepHeadIdeal Cert.KernelStepHeadIdeal.Gen Idealize.ShloMosaic Idealize.SL.Sem

/-- The kernel and the reference take the same step. -/
theorem algebraic : Cert.algebraic_KernelStepHeadIdeal_ReferenceStepHeadIdeal := by
  intro m ρ m' ρ' _ hagree
  refine ⟨_, _, _, Value.run (F := Ideal) m ρ, ?_⟩
  refine (θ_run Cert.ReferenceStepHeadIdeal.defs _ _).mono (fun _ h c => ?_) (Cert.ReferenceStepHeadIdeal.Value.run (F := Ideal) m' ρ')
  obtain ⟨a0, a1, a2, a3⟩ := hagree c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.StepHead

end
-- ==== Proof.StepSinks.lean ====
/- The optimiser's step of the sinks: the kernel's three arrays are the reference's, element by element. -/
module

public import proofs.«01_k».proof.Proof.Gen.KernelStepSinksIdeal.Value
public import proofs.«01_k».proof.Proof.Gen.ReferenceStepSinksIdeal.Run
public import proofs.«01_k».proof.Defs

@[expose] public section

noncomputable section

namespace Cert.StepSinks

open Cert.KernelStepSinksIdeal Cert.KernelStepSinksIdeal.Gen Idealize.ShloMosaic Idealize.SL.Sem

/-- The kernel and the reference take the same step. -/
theorem algebraic : Cert.algebraic_KernelStepSinksIdeal_ReferenceStepSinksIdeal := by
  intro m ρ m' ρ' _ hagree
  refine ⟨_, _, _, Value.run (F := Ideal) m ρ, ?_⟩
  refine (θ_run Cert.ReferenceStepSinksIdeal.defs _ _).mono (fun _ h c => ?_) (Cert.ReferenceStepSinksIdeal.Value.run (F := Ideal) m' ρ')
  obtain ⟨a0, a1, a2, a3⟩ := hagree c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.StepSinks

end
-- ==== Proof.StepOut.lean ====
/- The optimiser's step of the gains of the mixer's output norms: the kernel's three arrays are the reference's, element by element. -/
module

public import proofs.«01_k».proof.Proof.Gen.KernelStepOutIdeal.Value
public import proofs.«01_k».proof.Proof.Gen.ReferenceStepOutIdeal.Run
public import proofs.«01_k».proof.Defs

@[expose] public section

noncomputable section

namespace Cert.StepOut

open Cert.KernelStepOutIdeal Cert.KernelStepOutIdeal.Gen Idealize.ShloMosaic Idealize.SL.Sem

/-- The kernel and the reference take the same step. -/
theorem algebraic : Cert.algebraic_KernelStepOutIdeal_ReferenceStepOutIdeal := by
  intro m ρ m' ρ' _ hagree
  refine ⟨_, _, _, Value.run (F := Ideal) m ρ, ?_⟩
  refine (θ_run Cert.ReferenceStepOutIdeal.defs _ _).mono (fun _ h c => ?_) (Cert.ReferenceStepOutIdeal.Value.run (F := Ideal) m' ρ')
  obtain ⟨a0, a1, a2, a3⟩ := hagree c
  refine ⟨(h c).1.trans ?_, (h c).2.1.trans ?_, (h c).2.2.1.trans ?_, (h c).2.2.2⟩
  · rw [a0, a1, a2, a3]
    rfl
  · rw [a1, a2]
    rfl
  · rw [a1, a3]
    rfl

end Cert.StepOut

end
-- ==== Proof.StepSum.lean ====
/- The sum of the slabs and the optimiser's step, entry by entry. -/
module

public import Idealize.ShloMosaic.Lib.Pointwise
public import Idealize.ShloMosaic.Lib.ValueIdx
public import Idealize.ShloMosaic.PureOps.Ideal.Laws

@[expose] public section

set_option maxRecDepth 16384

noncomputable section

namespace Cert.StepSum

open Idealize.ShloMosaic Idealize.ShloMosaic.TcCoe

/-- An entry of an array by natural coordinates, zero outside. -/
def at3 {n a b : ℕ} (x : (⟨3, ![n, a, b]⟩ : Shape).Idx → EReal) (o p q : ℕ) : EReal :=
  if h : o < n ∧ p < a ∧ q < b then x (ix3 ⟨o, h.1⟩ ⟨p, h.2.1⟩ ⟨q, h.2.2⟩) else 0

theorem at3_eq {n a b : ℕ} (x : (⟨3, ![n, a, b]⟩ : Shape).Idx → EReal) (i : Shape.Idx ⟨3, ![n, a, b]⟩) (o p q : ℕ)
    (ho : (i 0).val = o) (hp : (i 1).val = p) (hq : (i 2).val = q) : x i = at3 x o p q := by
  subst ho hp hq
  rw [at3, dif_pos ⟨(i 0).isLt, (i 1).isLt, (i 2).isLt⟩]
  congr 1
  funext k
  fin_cases k <;> rfl

/-- An entry's own sum, then the seven others one by one. -/
def total (s : EReal) (l : ℕ → EReal) : EReal := s + l 0 + l 1 + l 2 + l 3 + l 4 + l 5 + l 6

theorem total_eq (s : EReal) (l : ℕ → EReal) : total s l = s + ∑ r : Fin 7, l r.val := by
  rw [Fin.sum_univ_seven]
  simp only [total, add_assoc]
  rfl

/-- The first moment. -/
def mom (g x : EReal) : EReal := (Scalar.ofBits .f32 0x3F666666#32 : Ideal .f32) * x + (Scalar.ofBits .f32 0x3DCCCCCD#32 : Ideal .f32) * g

/-- The second moment. -/
def sq (g x : EReal) : EReal := (Scalar.ofBits .f32 0x3F7FBE77#32 : Ideal .f32) * x + (Scalar.ofBits .f32 0x3A83126F#32 : Ideal .f32) * (g * g)

/-- The weight's step, from the weight and the two new moments. -/
def upd (x a b : EReal) : EReal :=
  (Scalar.ofBits .f32 0xBA83126F#32 : Ideal .f32)
    * (Ideal.div (Ideal.div a (Scalar.ofBits .f32 0x3F26BD02#32 : Ideal .f32)) (Ideal.sqrt (Ideal.div b (Scalar.ofBits .f32 0x3C231ACC#32 : Ideal .f32)) + (Scalar.ofBits .f32 0x322BCC77#32 : Ideal .f32))
      + (Scalar.ofBits .f32 0x3C23D70A#32 : Ideal .f32) * x)

end Cert.StepSum

end
-- ==== Proof.StepWoRun.lean ====
/- The summed gradient and the optimiser's step of one layer's weight: what the kernel leaves in its blocks. -/
module

public import proofs.«01_k».proof.Defs
public import proofs.«01_k».proof.Proof.StepSum
public import proofs.«01_k».proof.Proof.Gen.KernelStepWoIdeal.Frame
public import proofs.«01_k».proof.Proof.Gen.KernelStepWo.Frame

@[expose] public section

set_option maxRecDepth 16384

noncomputable section

namespace Cert.StepWo

open Idealize.ShloMosaic Idealize.ShloMosaic.TcCoe Idealize.SL.Sem Cert.StepSum

/-- The table's only word is zero, so every block lies inside its array. -/
theorem ok_bits (m : (ℓ : Loc Cert.KernelStepWo.nD Cert.KernelStepWo.τ Cert.KernelStepWo.sig) → Buf (Elt Bits) ℓ) : Cert.KernelStepWo.Gen.Ok m := by
  have e : Cert.KernelStepWo.Gen.tbl m 0 = fun _ => (0#32 : BitVec 32) := by
    show StableHlo.after Cert.KernelStepWo.Gen.hostOps0 _ Cert.KernelStepWo.main_v1 = _
    simp only [Cert.KernelStepWo.Gen.hostOps0]
    after_results_simp <;> rfl
  unfold Cert.KernelStepWo.Gen.Ok
  rw [show Cert.KernelStepWo.Gen.tbl m = fun | ⟨0, _⟩ => fun _ => (0#32 : BitVec 32) | ⟨_ + 1, h⟩ => absurd h (by simp) from funext fun j => by
    match j with
    | ⟨0, _⟩ => exact e]
  decide

open Cert.KernelStepWoIdeal Cert.KernelStepWoIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x64x1024 .bf16) (harg2 : arg2.IsWhole) (arg3 : Memref sig .tc .vmem S7x64x1024 .bf16) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg11 : Memref sig .tc .vmem S1x64x1024 .f32) (harg11 : arg11.IsWhole) (arg12 : Memref sig .tc .vmem S1x64x1024 .f32) (harg12 : arg12.IsWhole) (arg13 : Memref sig .tc .vmem S1x64x1024 .f32) (harg13 : arg13.IsWhole) (arg14 : Memref sig .tc .vmem S1x64x1024 .f32) (harg14 : arg14.IsWhole) (x0 : Vec Ideal S1x64x1024 .bf16) (x1 : Vec Ideal S7x64x1024 .bf16) (x2 x3 x4 : Vec Ideal S1x64x1024 .f32) (xt0 : TbBuf0 (F := Ideal) c tbM0_0)

/-- One of the seven blocks that came from the other devices. -/
def plane (x1 : Vec Ideal S7x64x1024 .bf16) (r : Fin 7) : Vec Ideal S1x64x1024 .bf16 := fun j => x1 (ix3 r (j 1) (j 2))

theorem ld_plane (r : Fin 7) (h) : View.ld x1 (Rect.unit (s := S7x64x1024) ![r.val, 0, 0] S1x64x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x64x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg11 harg11 arg12 harg12 arg13 harg13 arg14 harg14 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x64x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg11 harg11 arg12 harg12 arg13 harg13 arg14 harg14 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x64x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg11 harg11 arg12 harg12 arg13 harg13 arg14 harg14 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x64x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg11 harg11 arg12 harg12 arg13 harg13 arg14 harg14 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x64x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x64x1024 .bf16) (x1 : Vec Ideal S7x64x1024 .bf16) (x2 x3 x4 : Vec Ideal S1x64x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 64) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S64x1024 .f32) (j : S1x64x1024.Idx) : k0_pay4 v j = v (ix2 (j 1) (j 2)) := by
  pointwise [k0_pay4]

theorem pay1_eq (v : FVec Ideal S64x1024 .f32) (j : S1x64x1024.Idx) : k0_pay1 v j = v (ix2 (j 1) (j 2)) := by
  pointwise [k0_pay1]

theorem pay2_eq (v : FVec Ideal S64x1024 .f32) (j : S1x64x1024.Idx) : k0_pay2 v j = v (ix2 (j 1) (j 2)) := by
  pointwise [k0_pay2]

theorem pay5_eq (h3 : ∀ j, x3 j = M (o + (j 1).val) (j 2).val) (v : FVec Ideal S64x1024 .f32) (p : Fin 64) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S64x1024 .f32) (p : Fin 64) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S64x1024 .f32) (j : S1x64x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 128) (b := 1024) (V m c main_arg0) 0 p q
abbrev aL (k p q : ℕ) : EReal := at3 (n := 7) (a := 128) (b := 1024) (V m c main_arg1) k p q
abbrev aW (p q : ℕ) : EReal := at3 (n := 2) (a := 128) (b := 1024) (V m c main_arg2) 0 p q
abbrev aM (p q : ℕ) : EReal := at3 (n := 2) (a := 128) (b := 1024) (V m c main_arg3) 0 p q
abbrev aU (p q : ℕ) : EReal := at3 (n := 2) (a := 128) (b := 1024) (V m c main_arg4) 0 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 0 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 0 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 0 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 0 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 0 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 0 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 0 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x64x1024.Idx) : (iblk m (ok m) c 0 t : Vec Ideal S1x64x1024 .bf16) j = aS m c (64 * t.val + (j 1).val) (j 2).val := by
  unfold iblk
  refine (View.read_apply ..).trans ?_
  refine at3_eq (n := 8) (a := 128) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 64 + 1 * (j 1).val = _; rw [(ix_0 m t).2.1]; omega
  · show ix0 (F := Ideal) (tbl m) 0 (grid0.coords t) 2 * 1024 + 1 * (j 2).val = _; rw [(ix_0 m t).2.2]; omega

theorem b_1 (j : S7x64x1024.Idx) : (iblk m (ok m) c 1 t : Vec Ideal S7x64x1024 .bf16) j = aL m c (j 0).val (64 * t.val + (j 1).val) (j 2).val := by
  unfold iblk
  refine (View.read_apply ..).trans ?_
  refine at3_eq (n := 7) (a := 128) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 64 + 1 * (j 1).val = _; rw [(ix_1 m t).2.1]; omega
  · show ix0 (F := Ideal) (tbl m) 1 (grid0.coords t) 2 * 1024 + 1 * (j 2).val = _; rw [(ix_1 m t).2.2]; omega

theorem b_2 (j : S1x64x1024.Idx) : (iblk m (ok m) c 2 t : Vec Ideal S1x64x1024 .f32) j = aW m c (64 * t.val + (j 1).val) (j 2).val := by
  unfold iblk
  refine (View.read_apply ..).trans ?_
  refine at3_eq (n := 2) (a := 128) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 64 + 1 * (j 1).val = _; rw [(ix_2 m t).2.1]; omega
  · show ix0 (F := Ideal) (tbl m) 2 (grid0.coords t) 2 * 1024 + 1 * (j 2).val = _; rw [(ix_2 m t).2.2]; omega

theorem b_3 (j : S1x64x1024.Idx) : (iblk m (ok m) c 3 t : Vec Ideal S1x64x1024 .f32) j = aM m c (64 * t.val + (j 1).val) (j 2).val := by
  unfold iblk
  refine (View.read_apply ..).trans ?_
  refine at3_eq (n := 2) (a := 128) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 64 + 1 * (j 1).val = _; rw [(ix_3 m t).2.1]; omega
  · show ix0 (F := Ideal) (tbl m) 3 (grid0.coords t) 2 * 1024 + 1 * (j 2).val = _; rw [(ix_3 m t).2.2]; omega

theorem b_4 (j : S1x64x1024.Idx) : (iblk m (ok m) c 4 t : Vec Ideal S1x64x1024 .f32) j = aU m c (64 * t.val + (j 1).val) (j 2).val := by
  unfold iblk
  refine (View.read_apply ..).trans ?_
  refine at3_eq (n := 2) (a := 128) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 64 + 1 * (j 1).val = _; rw [(ix_4 m t).2.1]; omega
  · show ix0 (F := Ideal) (tbl m) 4 (grid0.coords t) 2 * 1024 + 1 * (j 2).val = _; rw [(ix_4 m t).2.2]; omega

theorem o_5 (j : S1x64x1024.Idx) : (outsAt0 m (ok m) c t).1 j = rG m c (64 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (64 * t.val) (b_0 m c t) (b_1 m c t) (j 1) (j 2)

theorem o_6 (j : S1x64x1024.Idx) : (outsAt0 m (ok m) c t).2.1 j = rD m c (64 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (64 * t.val) (b_2 m c t) (b_3 m c t) (b_4 m c t) _ j).trans ?_
  rw [show _ = _ from g_eq _ _ (aS m c) (aL m c) (64 * t.val) (b_0 m c t) (b_1 m c t) (j 1) (j 2)]

theorem o_7 (j : S1x64x1024.Idx) : (outsAt0 m (ok m) c t).2.2.1 j = rM m c (64 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (64 * t.val) (b_3 m c t) _ (j 1) (j 2)).trans ?_
  rw [show _ = _ from g_eq _ _ (aS m c) (aL m c) (64 * t.val) (b_0 m c t) (b_1 m c t) (j 1) (j 2)]

theorem o_8 (j : S1x64x1024.Idx) : (outsAt0 m (ok m) c t).2.2.2 j = rU m c (64 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (64 * t.val) (b_4 m c t) _ (j 1) (j 2)).trans ?_
  rw [show _ = _ from g_eq _ _ (aS m c) (aL m c) (64 * t.val) (b_0 m c t) (b_1 m c t) (j 1) (j 2)]

end

abbrev rc_5 (t : Fin (cfgM m (ok m)).N) : Rect S2x128x1024 :=
  Rect.unit (fun a => ix0 (F := Ideal) (tbl m) 5 (grid0.coords t) a * S1x64x1024.size a) S1x64x1024.size (fun a => by
    have h := hinb0 (F := Ideal) (tbl m) (ok m) 5 (grid0.coords t) a
    rw [Nat.add_mul, one_mul] at h
    exact h)

theorem mem_5 (t : Fin (cfgM m (ok m)).N) (i : S2x128x1024.Idx) : i ∈ ((View.whole main_v2_0).slice (rc_5 m t)).set
    ↔ ∀ a : Fin 3, ix0 (F := Ideal) (tbl m) 5 (grid0.coords t) a * S1x64x1024.size a ≤ (i a).val
      ∧ (i a).val < ix0 (F := Ideal) (tbl m) 5 (grid0.coords t) a * S1x64x1024.size a + S1x64x1024.size a := by
  rw [View.set_slice_whole]
  exact Rect.mem_set_unit

theorem final_5 (i : S2x128x1024.Idx) : ((dats m (ok m) 0 c).arrAt 5 (cfgM m (ok m)).N : S2x128x1024.Idx → EReal) i
    = if (i 0).val = 0 then rG m c (i 1).val (i 2).val else (V m c main_v2_0 : S2x128x1024.Idx → EReal) i := by
  refine ((dats m (ok m) 0 c).arrAt_eq_piecewise 5
    (fun i : S2x128x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x64x1024.Idx) => ?_
    show (outsAt0 m (ok m) c t).1 j = rG m c (ix0 (F := Ideal) (tbl m) 5 (grid0.coords t) 1 * 64 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 0
    · rw [if_pos h]
      refine if_pos ⟨⟨(i 1).val / 64, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 64 ≤ (i 1).val ∧ (i 1).val < ix0 (F := Ideal) (tbl m) 5 (grid0.coords _) 1 * 64 + 64; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e : (i 0).val < ix0 (F := Ideal) (tbl m) 5 (grid0.coords t) 0 * 1 + 1 := ((mem_5 m t i).mp hm 0).2
      rw [(ix_5 m t).1] at e
      omega

abbrev rc_6 (t : Fin (cfgM m (ok m)).N) : Rect S2x128x1024 :=
  Rect.unit (fun a => ix0 (F := Ideal) (tbl m) 6 (grid0.coords t) a * S1x64x1024.size a) S1x64x1024.size (fun a => by
    have h := hinb0 (F := Ideal) (tbl m) (ok m) 6 (grid0.coords t) a
    rw [Nat.add_mul, one_mul] at h
    exact h)

theorem mem_6 (t : Fin (cfgM m (ok m)).N) (i : S2x128x1024.Idx) : i ∈ ((View.whole main_v2_1).slice (rc_6 m t)).set
    ↔ ∀ a : Fin 3, ix0 (F := Ideal) (tbl m) 6 (grid0.coords t) a * S1x64x1024.size a ≤ (i a).val
      ∧ (i a).val < ix0 (F := Ideal) (tbl m) 6 (grid0.coords t) a * S1x64x1024.size a + S1x64x1024.size a := by
  rw [View.set_slice_whole]
  exact Rect.mem_set_unit

theorem final_6 (i : S2x128x1024.Idx) : ((dats m (ok m) 0 c).arrAt 6 (cfgM m (ok m)).N : S2x128x1024.Idx → EReal) i
    = if (i 0).val = 0 then rD m c (i 1).val (i 2).val else (V m c main_v2_1 : S2x128x1024.Idx → EReal) i := by
  refine ((dats m (ok m) 0 c).arrAt_eq_piecewise 6
    (fun i : S2x128x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x64x1024.Idx) => ?_
    show (outsAt0 m (ok m) c t).2.1 j = rD m c (ix0 (F := Ideal) (tbl m) 6 (grid0.coords t) 1 * 64 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 0
    · rw [if_pos h]
      refine if_pos ⟨⟨(i 1).val / 64, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 64 ≤ (i 1).val ∧ (i 1).val < ix0 (F := Ideal) (tbl m) 6 (grid0.coords _) 1 * 64 + 64; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e : (i 0).val < ix0 (F := Ideal) (tbl m) 6 (grid0.coords t) 0 * 1 + 1 := ((mem_6 m t i).mp hm 0).2
      rw [(ix_6 m t).1] at e
      omega

abbrev rc_7 (t : Fin (cfgM m (ok m)).N) : Rect S2x128x1024 :=
  Rect.unit (fun a => ix0 (F := Ideal) (tbl m) 7 (grid0.coords t) a * S1x64x1024.size a) S1x64x1024.size (fun a => by
    have h := hinb0 (F := Ideal) (tbl m) (ok m) 7 (grid0.coords t) a
    rw [Nat.add_mul, one_mul] at h
    exact h)

theorem mem_7 (t : Fin (cfgM m (ok m)).N) (i : S2x128x1024.Idx) : i ∈ ((View.whole main_v2_2).slice (rc_7 m t)).set
    ↔ ∀ a : Fin 3, ix0 (F := Ideal) (tbl m) 7 (grid0.coords t) a * S1x64x1024.size a ≤ (i a).val
      ∧ (i a).val < ix0 (F := Ideal) (tbl m) 7 (grid0.coords t) a * S1x64x1024.size a + S1x64x1024.size a := by
  rw [View.set_slice_whole]
  exact Rect.mem_set_unit

theorem final_7 (i : S2x128x1024.Idx) : ((dats m (ok m) 0 c).arrAt 7 (cfgM m (ok m)).N : S2x128x1024.Idx → EReal) i
    = if (i 0).val = 0 then rM m c (i 1).val (i 2).val else (V m c main_v2_2 : S2x128x1024.Idx → EReal) i := by
  refine ((dats m (ok m) 0 c).arrAt_eq_piecewise 7
    (fun i : S2x128x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x64x1024.Idx) => ?_
    show (outsAt0 m (ok m) c t).2.2.1 j = rM m c (ix0 (F := Ideal) (tbl m) 7 (grid0.coords t) 1 * 64 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 0
    · rw [if_pos h]
      refine if_pos ⟨⟨(i 1).val / 64, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 64 ≤ (i 1).val ∧ (i 1).val < ix0 (F := Ideal) (tbl m) 7 (grid0.coords _) 1 * 64 + 64; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e : (i 0).val < ix0 (F := Ideal) (tbl m) 7 (grid0.coords t) 0 * 1 + 1 := ((mem_7 m t i).mp hm 0).2
      rw [(ix_7 m t).1] at e
      omega

abbrev rc_8 (t : Fin (cfgM m (ok m)).N) : Rect S2x128x1024 :=
  Rect.unit (fun a => ix0 (F := Ideal) (tbl m) 8 (grid0.coords t) a * S1x64x1024.size a) S1x64x1024.size (fun a => by
    have h := hinb0 (F := Ideal) (tbl m) (ok m) 8 (grid0.coords t) a
    rw [Nat.add_mul, one_mul] at h
    exact h)

theorem mem_8 (t : Fin (cfgM m (ok m)).N) (i : S2x128x1024.Idx) : i ∈ ((View.whole main_v2_3).slice (rc_8 m t)).set
    ↔ ∀ a : Fin 3, ix0 (F := Ideal) (tbl m) 8 (grid0.coords t) a * S1x64x1024.size a ≤ (i a).val
      ∧ (i a).val < ix0 (F := Ideal) (tbl m) 8 (grid0.coords t) a * S1x64x1024.size a + S1x64x1024.size a := by
  rw [View.set_slice_whole]
  exact Rect.mem_set_unit

theorem final_8 (i : S2x128x1024.Idx) : ((dats m (ok m) 0 c).arrAt 8 (cfgM m (ok m)).N : S2x128x1024.Idx → EReal) i
    = if (i 0).val = 0 then rU m c (i 1).val (i 2).val else (V m c main_v2_3 : S2x128x1024.Idx → EReal) i := by
  refine ((dats m (ok m) 0 c).arrAt_eq_piecewise 8
    (fun i : S2x128x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x64x1024.Idx) => ?_
    show (outsAt0 m (ok m) c t).2.2.2 j = rU m c (ix0 (F := Ideal) (tbl m) 8 (grid0.coords t) 1 * 64 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 0
    · rw [if_pos h]
      refine if_pos ⟨⟨(i 1).val / 64, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 64 ≤ (i 1).val ∧ (i 1).val < ix0 (F := Ideal) (tbl m) 8 (grid0.coords _) 1 * 64 + 64; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e : (i 0).val < ix0 (F := Ideal) (tbl m) 8 (grid0.coords t) 0 * 1 + 1 := ((mem_8 m t i).mp hm 0).2
      rw [(ix_8 m t).1] at e
      omega

theorem host_0 : V m c main_v2_0 = m (c.tc.loc main_arg5) := by
  show StableHlo.after hostOps0 _ _ = _
  simp only [hostOps0]
  after_results_simp <;> rfl

theorem host_1 : V m c main_v2_1 = m (c.tc.loc main_arg6) := by
  show StableHlo.after hostOps0 _ _ = _
  simp only [hostOps0]
  after_results_simp <;> rfl

theorem host_2 : V m c main_v2_2 = m (c.tc.loc main_arg7) := by
  show StableHlo.after hostOps0 _ _ = _
  simp only [hostOps0]
  after_results_simp <;> rfl

theorem host_3 : V m c main_v2_3 = m (c.tc.loc main_arg8) := by
  show StableHlo.after hostOps0 _ _ = _
  simp only [hostOps0]
  after_results_simp <;> rfl

end

end Cert.StepWo

end
-- ==== Proof.StepWo.lean ====
/- The sum of the slabs and the optimiser's step of one weight: the kernel's four arrays are the reference's. -/
module

public import proofs.«01_k».proof.Proof.StepWoRun
public import proofs.«01_k».proof.Proof.Gen.ReferenceStepWoIdeal.Read
public import proofs.«01_k».proof.Defs

@[expose] public section

noncomputable section

namespace Cert.StepWo

open Cert.KernelStepWoIdeal Cert.KernelStepWoIdeal.Gen Idealize.ShloMosaic Idealize.ShloMosaic.TcCoe Idealize.ShloMosaic.Tactic Idealize.SL.Sem
open Cert.ReferenceStepWoIdeal.Read Cert.StepSum

section
variable (x0 : Vec Ideal S8x128x1024 .bf16) (x1 : Vec Ideal S7x128x1024 .bf16) (x2 x3 x4 x5 x6 x7 x8 : Vec Ideal S2x128x1024 .f32)

/-- The reference's first layer, entry by entry. -/
abbrev eG (p q : ℕ) : EReal := total (at3 (n := 8) (a := 128) (b := 1024) x0 0 p q) (fun k => at3 (n := 7) (a := 128) (b := 1024) x1 k p q)
abbrev eM (p q : ℕ) : EReal := mom (eG x0 x1 p q) (at3 (n := 2) (a := 128) (b := 1024) x3 0 p q)
abbrev eU (p q : ℕ) : EReal := sq (eG x0 x1 p q) (at3 (n := 2) (a := 128) (b := 1024) x4 0 p q)
abbrev eD (p q : ℕ) : EReal := upd (at3 (n := 2) (a := 128) (b := 1024) x2 0 p q) (eM x0 x1 x3 p q) (eU x0 x1 x4 p q)

theorem ref_g (i : Cert.ReferenceStepWoIdeal.S128x1024.Idx) : val_main_v5 (F := Ideal) x0 x1 i = eG x0 x1 (i 0).val (i 1).val := by
  have h0 : (i 0).val < 128 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 128) (b := 1024) _ _ _ _ _ rfl ?_ ?_
    · show ((i 0).val * 1024 + (i 1).val) / 1024 % 128 = _; omega
    · show ((i 0).val * 1024 + (i 1).val) % 1024 = _; omega
  · exact Finset.sum_congr rfl fun k _ => at3_eq (n := 7) (a := 128) (b := 1024) _ _ _ _ _ rfl rfl rfl

theorem ref_2 (i : Cert.ReferenceStepWoIdeal.S128x1024.Idx) : val_main_v10 (F := Ideal) x2 i = at3 (n := 2) (a := 128) (b := 1024) x2 0 (i 0).val (i 1).val := by
  have h0 : (i 0).val < 128 := (i 0).isLt
  have h1 : (i 1).val < 1024 := (i 1).isLt
  rw [val_main_v10_apply, val_main_v9_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_3 (i : Cert.ReferenceStepWoIdeal.S128x1024.Idx) : val_main_v12 (F := Ideal) x3 i = at3 (n := 2) (a := 128) (b := 1024) x3 0 (i 0).val (i 1).val := by
  have h0 : (i 0).val < 128 := (i 0).isLt
  have h1 : (i 1).val < 1024 := (i 1).isLt
  rw [val_main_v12_apply, val_main_v11_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_4 (i : Cert.ReferenceStepWoIdeal.S128x1024.Idx) : val_main_v14 (F := Ideal) x4 i = at3 (n := 2) (a := 128) (b := 1024) x4 0 (i 0).val (i 1).val := by
  have h0 : (i 0).val < 128 := (i 0).isLt
  have h1 : (i 1).val < 1024 := (i 1).isLt
  rw [val_main_v14_apply, val_main_v13_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_m (i : Cert.ReferenceStepWoIdeal.S128x1024.Idx) : val_main_v19 (F := Ideal) x0 x1 x3 i = eM x0 x1 x3 (i 0).val (i 1).val := by
  rw [val_main_v19_apply, val_main_v16_apply, val_main_v18_apply, val_main_v15_apply, val_main_v17_apply, ref_g, ref_3]
  rfl

theorem ref_u (i : Cert.ReferenceStepWoIdeal.S128x1024.Idx) : val_main_v25 (F := Ideal) x0 x1 x4 i = eU x0 x1 x4 (i 0).val (i 1).val := by
  rw [val_main_v25_apply, val_main_v21_apply, val_main_v24_apply, val_main_v22_apply, val_main_v20_apply, val_main_v23_apply, ref_g, ref_4]
  rfl

theorem ref_d (i : Cert.ReferenceStepWoIdeal.S128x1024.Idx) : val_main_v38 (F := Ideal) x0 x1 x2 x3 x4 i = eD x0 x1 x2 x3 x4 (i 0).val (i 1).val := by
  rw [val_main_v38_apply, val_main_v36_apply, val_main_v33_apply, val_main_v35_apply, val_main_v27_apply, val_main_v32_apply, val_main_v30_apply,
    val_main_v29_apply, val_main_v37_apply, val_main_v34_apply, val_main_v26_apply, val_main_v28_apply, val_main_v31_apply, ref_m, ref_u, ref_2]
  rfl

theorem bit : ∀ n : Fin 2, IntOp.cmpi .eq (BitVec.ofNat 32 n.val) (0#32) = if n.val = 0 then 1#1 else 0#1 := by decide

theorem pick (n : Fin 2) (a b : EReal) : Scalar.select (IntOp.cmpi .eq (BitVec.ofNat 32 n.val) (0#32)) a b = if n.val = 0 then a else b := by
  rw [bit]
  match n with
  | ⟨0, _⟩ => rfl
  | ⟨1, _⟩ => rfl

theorem all_g (i : S2x128x1024.Idx) : val_main_v40 (F := Ideal) x0 x1 x5 i = if (i 0).val = 0 then eG x0 x1 (i 1).val (i 2).val else x5 i := by
  rw [val_main_v40_apply, val_main_call0_v0_apply, val_main_call0_v1_apply, val_main_v39_apply, ref_g]
  exact pick (i 0) _ _

theorem all_d (i : S2x128x1024.Idx) : val_main_v42 (F := Ideal) x0 x1 x2 x3 x4 x6 i = if (i 0).val = 0 then eD x0 x1 x2 x3 x4 (i 1).val (i 2).val else x6 i := by
  rw [val_main_v42_apply, val_main_call1_v0_apply, val_main_call1_v1_apply, val_main_v41_apply, ref_d]
  exact pick (i 0) _ _

theorem all_m (i : S2x128x1024.Idx) : val_main_v44 (F := Ideal) x0 x1 x3 x7 i = if (i 0).val = 0 then eM x0 x1 x3 (i 1).val (i 2).val else x7 i := by
  rw [val_main_v44_apply, val_main_call2_v0_apply, val_main_call2_v1_apply, val_main_v43_apply, ref_m]
  exact pick (i 0) _ _

theorem all_u (i : S2x128x1024.Idx) : val_main_v46 (F := Ideal) x0 x1 x4 x8 i = if (i 0).val = 0 then eU x0 x1 x4 (i 1).val (i 2).val else x8 i := by
  rw [val_main_v46_apply, val_main_call3_v0_apply, val_main_call3_v1_apply, val_main_v45_apply, ref_u]
  exact pick (i 0) _ _

end

variable (m : (ℓ : Loc nD τ sig) → Buf (Elt Ideal) ℓ) (c : Dev nD)

abbrev A0 : Vec Ideal S8x128x1024 .bf16 := m (c.tc.loc main_arg0)
abbrev A1 : Vec Ideal S7x128x1024 .bf16 := m (c.tc.loc main_arg1)
abbrev A2 : Vec Ideal S2x128x1024 .f32 := m (c.tc.loc main_arg2)
abbrev A3 : Vec Ideal S2x128x1024 .f32 := m (c.tc.loc main_arg3)
abbrev A4 : Vec Ideal S2x128x1024 .f32 := m (c.tc.loc main_arg4)
abbrev A5 : Vec Ideal S2x128x1024 .f32 := m (c.tc.loc main_arg5)
abbrev A6 : Vec Ideal S2x128x1024 .f32 := m (c.tc.loc main_arg6)
abbrev A7 : Vec Ideal S2x128x1024 .f32 := m (c.tc.loc main_arg7)
abbrev A8 : Vec Ideal S2x128x1024 .f32 := m (c.tc.loc main_arg8)

/-- The kernel's four results, as the reference's functions of the arguments. -/
def resG : Buf (Elt Ideal) ((c : Thread nD τ).loc main_v2_0) := val_main_v40 (F := Ideal) (A0 m c) (A1 m c) (A5 m c)
def resD : Buf (Elt Ideal) ((c : Thread nD τ).loc main_v2_1) := val_main_v42 (F := Ideal) (A0 m c) (A1 m c) (A2 m c) (A3 m c) (A4 m c) (A6 m c)
def resM : Buf (Elt Ideal) ((c : Thread nD τ).loc main_v2_2) := val_main_v44 (F := Ideal) (A0 m c) (A1 m c) (A3 m c) (A7 m c)
def resU : Buf (Elt Ideal) ((c : Thread nD τ).loc main_v2_3) := val_main_v46 (F := Ideal) (A0 m c) (A1 m c) (A4 m c) (A8 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

theorem last_5 : ((dats m (ok m) 0 c).arrAt 5 (cfgM m (ok m)).N : S2x128x1024.Idx → EReal) = resG m c := by
  funext i
  refine (final_5 m c i).trans (Eq.trans ?_ (all_g (A0 m c) (A1 m c) (A5 m c) i).symm)
  rw [host_0 m c]
  simp only [rG, aS, aL, arg_0 m c, arg_1 m c]
  rfl

theorem last_6 : ((dats m (ok m) 0 c).arrAt 6 (cfgM m (ok m)).N : S2x128x1024.Idx → EReal) = resD m c := by
  funext i
  refine (final_6 m c i).trans (Eq.trans ?_ (all_d (A0 m c) (A1 m c) (A2 m c) (A3 m c) (A4 m c) (A6 m c) i).symm)
  rw [host_1 m c]
  simp only [rD, rM, rU, rG, aS, aL, aW, aM, aU, arg_0 m c, arg_1 m c, arg_2 m c, arg_3 m c, arg_4 m c]
  rfl

theorem last_7 : ((dats m (ok m) 0 c).arrAt 7 (cfgM m (ok m)).N : S2x128x1024.Idx → EReal) = resM m c := by
  funext i
  refine (final_7 m c i).trans (Eq.trans ?_ (all_m (A0 m c) (A1 m c) (A3 m c) (A7 m c) i).symm)
  rw [host_2 m c]
  simp only [rM, rG, aS, aL, aM, arg_0 m c, arg_1 m c, arg_3 m c]
  rfl

theorem last_8 : ((dats m (ok m) 0 c).arrAt 8 (cfgM m (ok m)).N : S2x128x1024.Idx → EReal) = resU m c := by
  funext i
  refine (final_8 m c i).trans (Eq.trans ?_ (all_u (A0 m c) (A1 m c) (A4 m c) (A8 m c) i).symm)
  rw [host_3 m c]
  simp only [rU, rG, aS, aL, aU, arg_0 m c, arg_1 m c, arg_4 m c]
  rfl

/-- The kernel and the reference sum the same gradient and take the same step. -/
theorem algebraic : Cert.algebraic_KernelStepWoIdeal_ReferenceStepWoIdeal := by
  intro m ρ m' ρ' _ hagree
  refine ⟨fun c => resG m c, fun c => resD m c, fun c => resM m c, fun c => resU m c, ?_, ?_⟩
  · refine (θ_run Cert.KernelStepWoIdeal.defs _ _).mono (fun _ h c => ?_) (θ_run_and (unchanged m ρ (ok m)) (run_main m ρ (ok m)))
    exact ⟨((h.2 c).1 5).trans (last_5 m c), ((h.2 c).1 6).trans (last_6 m c), ((h.2 c).1 7).trans (last_7 m c), ((h.2 c).1 8).trans (last_8 m c), h.1 c⟩
  · refine (θ_run Cert.ReferenceStepWoIdeal.defs _ _).mono (fun _ h c => ?_) (Cert.ReferenceStepWoIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2.1.trans ?_, (h c).2.2.2.2⟩
    · refine (val_main_v40_eq (F := Ideal) _ _ _).trans ?_
      rw [a0, a1, a5]
      rfl
    · refine (val_main_v42_eq (F := Ideal) _ _ _ _ _ _).trans ?_
      rw [a0, a1, a2, a3, a4, a6]
      rfl
    · refine (val_main_v44_eq (F := Ideal) _ _ _ _).trans ?_
      rw [a0, a1, a3, a7]
      rfl
    · refine (val_main_v46_eq (F := Ideal) _ _ _ _).trans ?_
      rw [a0, a1, a4, a8]
      rfl

end Cert.StepWo

end
-- ==== Proof.StepInRun.lean ====
/- The summed gradient and the optimiser's step of one layer's weight: what the kernel leaves in its blocks. -/
module

public import proofs.«01_k».proof.Defs
public import proofs.«01_k».proof.Proof.StepSum
public import proofs.«01_k».proof.Proof.Gen.KernelStepInIdeal.Frame
public import proofs.«01_k».proof.Proof.Gen.KernelStepIn.Frame

@[expose] public section

set_option maxRecDepth 16384

noncomputable section

namespace Cert.StepIn

open Idealize.ShloMosaic Idealize.ShloMosaic.TcCoe Idealize.SL.Sem Cert.StepSum

/-- The table's only word is zero, so every block lies inside its array. -/
theorem ok_bits (m : (ℓ : Loc Cert.KernelStepIn.nD Cert.KernelStepIn.τ Cert.KernelStepIn.sig) → Buf (Elt Bits) ℓ) : Cert.KernelStepIn.Gen.Ok m := by
  have e : Cert.KernelStepIn.Gen.tbl m 0 = fun _ => (0#32 : BitVec 32) := by
    show StableHlo.after Cert.KernelStepIn.Gen.hostOps0 _ Cert.KernelStepIn.main_v1 = _
    simp only [Cert.KernelStepIn.Gen.hostOps0]
    after_results_simp <;> rfl
  unfold Cert.KernelStepIn.Gen.Ok
  rw [show Cert.KernelStepIn.Gen.tbl m = fun | ⟨0, _⟩ => fun _ => (0#32 : BitVec 32) | ⟨_ + 1, h⟩ => absurd h (by simp) from funext fun j => by
    match j with
    | ⟨0, _⟩ => exact e]
  decide

open Cert.KernelStepInIdeal Cert.KernelStepInIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x144x1024 .bf16) (harg2 : arg2.IsWhole) (arg3 : Memref sig .tc .vmem S7x144x1024 .bf16) (harg3 : arg3.IsWhole) (arg4 : Memref sig .tc .vmem S1x144x1024 .f32) (harg4 : arg4.IsWhole) (arg5 : Memref sig .tc .vmem S1x144x1024 .f32) (harg5 : arg5.IsWhole) (arg6 : Memref sig .tc .vmem S1x144x1024 .f32) (harg6 : arg6.IsWhole) (arg11 : Memref sig .tc .vmem S1x144x1024 .f32) (harg11 : arg11.IsWhole) (arg12 : Memref sig .tc .vmem S1x144x1024 .f32) (harg12 : arg12.IsWhole) (arg13 : Memref sig .tc .vmem S1x144x1024 .f32) (harg13 : arg13.IsWhole) (arg14 : Memref sig .tc .vmem S1x144x1024 .f32) (harg14 : arg14.IsWhole) (x0 : Vec Ideal S1x144x1024 .bf16) (x1 : Vec Ideal S7x144x1024 .bf16) (x2 x3 x4 : Vec Ideal S1x144x1024 .f32) (xt0 : TbBuf0 (F := Ideal) c tbM0_0)

/-- One of the seven blocks that came from the other devices. -/
def plane (x1 : Vec Ideal S7x144x1024 .bf16) (r : Fin 7) : Vec Ideal S1x144x1024 .bf16 := fun j => x1 (ix3 r (j 1) (j 2))

theorem ld_plane (r : Fin 7) (h) : View.ld x1 (Rect.unit (s := S7x144x1024) ![r.val, 0, 0] S1x144x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x144x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg11 harg11 arg12 harg12 arg13 harg13 arg14 harg14 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x144x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg11 harg11 arg12 harg12 arg13 harg13 arg14 harg14 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x144x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg11 harg11 arg12 harg12 arg13 harg13 arg14 harg14 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x144x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg11 harg11 arg12 harg12 arg13 harg13 arg14 harg14 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x144x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x144x1024 .bf16) (x1 : Vec Ideal S7x144x1024 .bf16) (x2 x3 x4 : Vec Ideal S1x144x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 144) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S144x1024 .f32) (j : S1x144x1024.Idx) : k0_pay4 v j = v (ix2 (j 1) (j 2)) := by
  pointwise [k0_pay4]

theorem pay1_eq (v : FVec Ideal S144x1024 .f32) (j : S1x144x1024.Idx) : k0_pay1 v j = v (ix2 (j 1) (j 2)) := by
  pointwise [k0_pay1]

theorem pay2_eq (v : FVec Ideal S144x1024 .f32) (j : S1x144x1024.Idx) : k0_pay2 v j = v (ix2 (j 1) (j 2)) := by
  pointwise [k0_pay2]

theorem pay5_eq (h3 : ∀ j, x3 j = M (o + (j 1).val) (j 2).val) (v : FVec Ideal S144x1024 .f32) (p : Fin 144) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S144x1024 .f32) (p : Fin 144) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S144x1024 .f32) (j : S1x144x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 288) (b := 1024) (V m c main_arg0) 0 p q
abbrev aL (k p q : ℕ) : EReal := at3 (n := 7) (a := 288) (b := 1024) (V m c main_arg1) k p q
abbrev aW (p q : ℕ) : EReal := at3 (n := 2) (a := 288) (b := 1024) (V m c main_arg2) 0 p q
abbrev aM (p q : ℕ) : EReal := at3 (n := 2) (a := 288) (b := 1024) (V m c main_arg3) 0 p q
abbrev aU (p q : ℕ) : EReal := at3 (n := 2) (a := 288) (b := 1024) (V m c main_arg4) 0 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 0 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 0 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 0 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 0 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 0 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 0 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 0 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x144x1024.Idx) : (iblk m (ok m) c 0 t : Vec Ideal S1x144x1024 .bf16) j = aS m c (144 * t.val + (j 1).val) (j 2).val := by
  unfold iblk
  refine (View.read_apply ..).trans ?_
  refine at3_eq (n := 8) (a := 288) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 144 + 1 * (j 1).val = _; rw [(ix_0 m t).2.1]; omega
  · show ix0 (F := Ideal) (tbl m) 0 (grid0.coords t) 2 * 1024 + 1 * (j 2).val = _; rw [(ix_0 m t).2.2]; omega

theorem b_1 (j : S7x144x1024.Idx) : (iblk m (ok m) c 1 t : Vec Ideal S7x144x1024 .bf16) j = aL m c (j 0).val (144 * t.val + (j 1).val) (j 2).val := by
  unfold iblk
  refine (View.read_apply ..).trans ?_
  refine at3_eq (n := 7) (a := 288) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 144 + 1 * (j 1).val = _; rw [(ix_1 m t).2.1]; omega
  · show ix0 (F := Ideal) (tbl m) 1 (grid0.coords t) 2 * 1024 + 1 * (j 2).val = _; rw [(ix_1 m t).2.2]; omega

theorem b_2 (j : S1x144x1024.Idx) : (iblk m (ok m) c 2 t : Vec Ideal S1x144x1024 .f32) j = aW m c (144 * t.val + (j 1).val) (j 2).val := by
  unfold iblk
  refine (View.read_apply ..).trans ?_
  refine at3_eq (n := 2) (a := 288) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 144 + 1 * (j 1).val = _; rw [(ix_2 m t).2.1]; omega
  · show ix0 (F := Ideal) (tbl m) 2 (grid0.coords t) 2 * 1024 + 1 * (j 2).val = _; rw [(ix_2 m t).2.2]; omega

theorem b_3 (j : S1x144x1024.Idx) : (iblk m (ok m) c 3 t : Vec Ideal S1x144x1024 .f32) j = aM m c (144 * t.val + (j 1).val) (j 2).val := by
  unfold iblk
  refine (View.read_apply ..).trans ?_
  refine at3_eq (n := 2) (a := 288) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 144 + 1 * (j 1).val = _; rw [(ix_3 m t).2.1]; omega
  · show ix0 (F := Ideal) (tbl m) 3 (grid0.coords t) 2 * 1024 + 1 * (j 2).val = _; rw [(ix_3 m t).2.2]; omega

theorem b_4 (j : S1x144x1024.Idx) : (iblk m (ok m) c 4 t : Vec Ideal S1x144x1024 .f32) j = aU m c (144 * t.val + (j 1).val) (j 2).val := by
  unfold iblk
  refine (View.read_apply ..).trans ?_
  refine at3_eq (n := 2) (a := 288) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 144 + 1 * (j 1).val = _; rw [(ix_4 m t).2.1]; omega
  · show ix0 (F := Ideal) (tbl m) 4 (grid0.coords t) 2 * 1024 + 1 * (j 2).val = _; rw [(ix_4 m t).2.2]; omega

theorem o_5 (j : S1x144x1024.Idx) : (outsAt0 m (ok m) c t).1 j = rG m c (144 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (144 * t.val) (b_0 m c t) (b_1 m c t) (j 1) (j 2)

theorem o_6 (j : S1x144x1024.Idx) : (outsAt0 m (ok m) c t).2.1 j = rD m c (144 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (144 * t.val) (b_2 m c t) (b_3 m c t) (b_4 m c t) _ j).trans ?_
  rw [show _ = _ from g_eq _ _ (aS m c) (aL m c) (144 * t.val) (b_0 m c t) (b_1 m c t) (j 1) (j 2)]

theorem o_7 (j : S1x144x1024.Idx) : (outsAt0 m (ok m) c t).2.2.1 j = rM m c (144 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (144 * t.val) (b_3 m c t) _ (j 1) (j 2)).trans ?_
  rw [show _ = _ from g_eq _ _ (aS m c) (aL m c) (144 * t.val) (b_0 m c t) (b_1 m c t) (j 1) (j 2)]

theorem o_8 (j : S1x144x1024.Idx) : (outsAt0 m (ok m) c t).2.2.2 j = rU m c (144 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (144 * t.val) (b_4 m c t) _ (j 1) (j 2)).trans ?_
  rw [show _ = _ from g_eq _ _ (aS m c) (aL m c) (144 * t.val) (b_0 m c t) (b_1 m c t) (j 1) (j 2)]

end

abbrev rc_5 (t : Fin (cfgM m (ok m)).N) : Rect S2x288x1024 :=
  Rect.unit (fun a => ix0 (F := Ideal) (tbl m) 5 (grid0.coords t) a * S1x144x1024.size a) S1x144x1024.size (fun a => by
    have h := hinb0 (F := Ideal) (tbl m) (ok m) 5 (grid0.coords t) a
    rw [Nat.add_mul, one_mul] at h
    exact h)

theorem mem_5 (t : Fin (cfgM m (ok m)).N) (i : S2x288x1024.Idx) : i ∈ ((View.whole main_v2_0).slice (rc_5 m t)).set
    ↔ ∀ a : Fin 3, ix0 (F := Ideal) (tbl m) 5 (grid0.coords t) a * S1x144x1024.size a ≤ (i a).val
      ∧ (i a).val < ix0 (F := Ideal) (tbl m) 5 (grid0.coords t) a * S1x144x1024.size a + S1x144x1024.size a := by
  rw [View.set_slice_whole]
  exact Rect.mem_set_unit

theorem final_5 (i : S2x288x1024.Idx) : ((dats m (ok m) 0 c).arrAt 5 (cfgM m (ok m)).N : S2x288x1024.Idx → EReal) i
    = if (i 0).val = 0 then rG m c (i 1).val (i 2).val else (V m c main_v2_0 : S2x288x1024.Idx → EReal) i := by
  refine ((dats m (ok m) 0 c).arrAt_eq_piecewise 5
    (fun i : S2x288x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x144x1024.Idx) => ?_
    show (outsAt0 m (ok m) c t).1 j = rG m c (ix0 (F := Ideal) (tbl m) 5 (grid0.coords t) 1 * 144 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 0
    · rw [if_pos h]
      refine if_pos ⟨⟨(i 1).val / 144, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 144 ≤ (i 1).val ∧ (i 1).val < ix0 (F := Ideal) (tbl m) 5 (grid0.coords _) 1 * 144 + 144; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e : (i 0).val < ix0 (F := Ideal) (tbl m) 5 (grid0.coords t) 0 * 1 + 1 := ((mem_5 m t i).mp hm 0).2
      rw [(ix_5 m t).1] at e
      omega

abbrev rc_6 (t : Fin (cfgM m (ok m)).N) : Rect S2x288x1024 :=
  Rect.unit (fun a => ix0 (F := Ideal) (tbl m) 6 (grid0.coords t) a * S1x144x1024.size a) S1x144x1024.size (fun a => by
    have h := hinb0 (F := Ideal) (tbl m) (ok m) 6 (grid0.coords t) a
    rw [Nat.add_mul, one_mul] at h
    exact h)

theorem mem_6 (t : Fin (cfgM m (ok m)).N) (i : S2x288x1024.Idx) : i ∈ ((View.whole main_v2_1).slice (rc_6 m t)).set
    ↔ ∀ a : Fin 3, ix0 (F := Ideal) (tbl m) 6 (grid0.coords t) a * S1x144x1024.size a ≤ (i a).val
      ∧ (i a).val < ix0 (F := Ideal) (tbl m) 6 (grid0.coords t) a * S1x144x1024.size a + S1x144x1024.size a := by
  rw [View.set_slice_whole]
  exact Rect.mem_set_unit

theorem final_6 (i : S2x288x1024.Idx) : ((dats m (ok m) 0 c).arrAt 6 (cfgM m (ok m)).N : S2x288x1024.Idx → EReal) i
    = if (i 0).val = 0 then rD m c (i 1).val (i 2).val else (V m c main_v2_1 : S2x288x1024.Idx → EReal) i := by
  refine ((dats m (ok m) 0 c).arrAt_eq_piecewise 6
    (fun i : S2x288x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x144x1024.Idx) => ?_
    show (outsAt0 m (ok m) c t).2.1 j = rD m c (ix0 (F := Ideal) (tbl m) 6 (grid0.coords t) 1 * 144 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 0
    · rw [if_pos h]
      refine if_pos ⟨⟨(i 1).val / 144, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 144 ≤ (i 1).val ∧ (i 1).val < ix0 (F := Ideal) (tbl m) 6 (grid0.coords _) 1 * 144 + 144; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e : (i 0).val < ix0 (F := Ideal) (tbl m) 6 (grid0.coords t) 0 * 1 + 1 := ((mem_6 m t i).mp hm 0).2
      rw [(ix_6 m t).1] at e
      omega

abbrev rc_7 (t : Fin (cfgM m (ok m)).N) : Rect S2x288x1024 :=
  Rect.unit (fun a => ix0 (F := Ideal) (tbl m) 7 (grid0.coords t) a * S1x144x1024.size a) S1x144x1024.size (fun a => by
    have h := hinb0 (F := Ideal) (tbl m) (ok m) 7 (grid0.coords t) a
    rw [Nat.add_mul, one_mul] at h
    exact h)

theorem mem_7 (t : Fin (cfgM m (ok m)).N) (i : S2x288x1024.Idx) : i ∈ ((View.whole main_v2_2).slice (rc_7 m t)).set
    ↔ ∀ a : Fin 3, ix0 (F := Ideal) (tbl m) 7 (grid0.coords t) a * S1x144x1024.size a ≤ (i a).val
      ∧ (i a).val < ix0 (F := Ideal) (tbl m) 7 (grid0.coords t) a * S1x144x1024.size a + S1x144x1024.size a := by
  rw [View.set_slice_whole]
  exact Rect.mem_set_unit

theorem final_7 (i : S2x288x1024.Idx) : ((dats m (ok m) 0 c).arrAt 7 (cfgM m (ok m)).N : S2x288x1024.Idx → EReal) i
    = if (i 0).val = 0 then rM m c (i 1).val (i 2).val else (V m c main_v2_2 : S2x288x1024.Idx → EReal) i := by
  refine ((dats m (ok m) 0 c).arrAt_eq_piecewise 7
    (fun i : S2x288x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x144x1024.Idx) => ?_
    show (outsAt0 m (ok m) c t).2.2.1 j = rM m c (ix0 (F := Ideal) (tbl m) 7 (grid0.coords t) 1 * 144 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 0
    · rw [if_pos h]
      refine if_pos ⟨⟨(i 1).val / 144, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 144 ≤ (i 1).val ∧ (i 1).val < ix0 (F := Ideal) (tbl m) 7 (grid0.coords _) 1 * 144 + 144; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e : (i 0).val < ix0 (F := Ideal) (tbl m) 7 (grid0.coords t) 0 * 1 + 1 := ((mem_7 m t i).mp hm 0).2
      rw [(ix_7 m t).1] at e
      omega

abbrev rc_8 (t : Fin (cfgM m (ok m)).N) : Rect S2x288x1024 :=
  Rect.unit (fun a => ix0 (F := Ideal) (tbl m) 8 (grid0.coords t) a * S1x144x1024.size a) S1x144x1024.size (fun a => by
    have h := hinb0 (F := Ideal) (tbl m) (ok m) 8 (grid0.coords t) a
    rw [Nat.add_mul, one_mul] at h
    exact h)

theorem mem_8 (t : Fin (cfgM m (ok m)).N) (i : S2x288x1024.Idx) : i ∈ ((View.whole main_v2_3).slice (rc_8 m t)).set
    ↔ ∀ a : Fin 3, ix0 (F := Ideal) (tbl m) 8 (grid0.coords t) a * S1x144x1024.size a ≤ (i a).val
      ∧ (i a).val < ix0 (F := Ideal) (tbl m) 8 (grid0.coords t) a * S1x144x1024.size a + S1x144x1024.size a := by
  rw [View.set_slice_whole]
  exact Rect.mem_set_unit

theorem final_8 (i : S2x288x1024.Idx) : ((dats m (ok m) 0 c).arrAt 8 (cfgM m (ok m)).N : S2x288x1024.Idx → EReal) i
    = if (i 0).val = 0 then rU m c (i 1).val (i 2).val else (V m c main_v2_3 : S2x288x1024.Idx → EReal) i := by
  refine ((dats m (ok m) 0 c).arrAt_eq_piecewise 8
    (fun i : S2x288x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x144x1024.Idx) => ?_
    show (outsAt0 m (ok m) c t).2.2.2 j = rU m c (ix0 (F := Ideal) (tbl m) 8 (grid0.coords t) 1 * 144 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 0
    · rw [if_pos h]
      refine if_pos ⟨⟨(i 1).val / 144, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 144 ≤ (i 1).val ∧ (i 1).val < ix0 (F := Ideal) (tbl m) 8 (grid0.coords _) 1 * 144 + 144; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e : (i 0).val < ix0 (F := Ideal) (tbl m) 8 (grid0.coords t) 0 * 1 + 1 := ((mem_8 m t i).mp hm 0).2
      rw [(ix_8 m t).1] at e
      omega

theorem host_0 : V m c main_v2_0 = m (c.tc.loc main_arg5) := by
  show StableHlo.after hostOps0 _ _ = _
  simp only [hostOps0]
  after_results_simp <;> rfl

theorem host_1 : V m c main_v2_1 = m (c.tc.loc main_arg6) := by
  show StableHlo.after hostOps0 _ _ = _
  simp only [hostOps0]
  after_results_simp <;> rfl

theorem host_2 : V m c main_v2_2 = m (c.tc.loc main_arg7) := by
  show StableHlo.after hostOps0 _ _ = _
  simp only [hostOps0]
  after_results_simp <;> rfl

theorem host_3 : V m c main_v2_3 = m (c.tc.loc main_arg8) := by
  show StableHlo.after hostOps0 _ _ = _
  simp only [hostOps0]
  after_results_simp <;> rfl

end

end Cert.StepIn

end
-- ==== Proof.StepIn.lean ====
/- The sum of the slabs and the optimiser's step of one weight: the kernel's four arrays are the reference's. -/
module

public import proofs.«01_k».proof.Proof.StepInRun
public import proofs.«01_k».proof.Proof.Gen.ReferenceStepInIdeal.Read
public import proofs.«01_k».proof.Defs

@[expose] public section

noncomputable section

namespace Cert.StepIn

open Cert.KernelStepInIdeal Cert.KernelStepInIdeal.Gen Idealize.ShloMosaic Idealize.ShloMosaic.TcCoe Idealize.ShloMosaic.Tactic Idealize.SL.Sem
open Cert.ReferenceStepInIdeal.Read Cert.StepSum

section
variable (x0 : Vec Ideal S8x288x1024 .bf16) (x1 : Vec Ideal S7x288x1024 .bf16) (x2 x3 x4 x5 x6 x7 x8 : Vec Ideal S2x288x1024 .f32)

/-- The reference's first layer, entry by entry. -/
abbrev eG (p q : ℕ) : EReal := total (at3 (n := 8) (a := 288) (b := 1024) x0 0 p q) (fun k => at3 (n := 7) (a := 288) (b := 1024) x1 k p q)
abbrev eM (p q : ℕ) : EReal := mom (eG x0 x1 p q) (at3 (n := 2) (a := 288) (b := 1024) x3 0 p q)
abbrev eU (p q : ℕ) : EReal := sq (eG x0 x1 p q) (at3 (n := 2) (a := 288) (b := 1024) x4 0 p q)
abbrev eD (p q : ℕ) : EReal := upd (at3 (n := 2) (a := 288) (b := 1024) x2 0 p q) (eM x0 x1 x3 p q) (eU x0 x1 x4 p q)

theorem ref_g (i : Cert.ReferenceStepInIdeal.S288x1024.Idx) : val_main_v5 (F := Ideal) x0 x1 i = eG x0 x1 (i 0).val (i 1).val := by
  have h0 : (i 0).val < 288 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 288) (b := 1024) _ _ _ _ _ rfl ?_ ?_
    · show ((i 0).val * 1024 + (i 1).val) / 1024 % 288 = _; omega
    · show ((i 0).val * 1024 + (i 1).val) % 1024 = _; omega
  · exact Finset.sum_congr rfl fun k _ => at3_eq (n := 7) (a := 288) (b := 1024) _ _ _ _ _ rfl rfl rfl

theorem ref_2 (i : Cert.ReferenceStepInIdeal.S288x1024.Idx) : val_main_v10 (F := Ideal) x2 i = at3 (n := 2) (a := 288) (b := 1024) x2 0 (i 0).val (i 1).val := by
  have h0 : (i 0).val < 288 := (i 0).isLt
  have h1 : (i 1).val < 1024 := (i 1).isLt
  rw [val_main_v10_apply, val_main_v9_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_3 (i : Cert.ReferenceStepInIdeal.S288x1024.Idx) : val_main_v12 (F := Ideal) x3 i = at3 (n := 2) (a := 288) (b := 1024) x3 0 (i 0).val (i 1).val := by
  have h0 : (i 0).val < 288 := (i 0).isLt
  have h1 : (i 1).val < 1024 := (i 1).isLt
  rw [val_main_v12_apply, val_main_v11_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_4 (i : Cert.ReferenceStepInIdeal.S288x1024.Idx) : val_main_v14 (F := Ideal) x4 i = at3 (n := 2) (a := 288) (b := 1024) x4 0 (i 0).val (i 1).val := by
  have h0 : (i 0).val < 288 := (i 0).isLt
  have h1 : (i 1).val < 1024 := (i 1).isLt
  rw [val_main_v14_apply, val_main_v13_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_m (i : Cert.ReferenceStepInIdeal.S288x1024.Idx) : val_main_v19 (F := Ideal) x0 x1 x3 i = eM x0 x1 x3 (i 0).val (i 1).val := by
  rw [val_main_v19_apply, val_main_v16_apply, val_main_v18_apply, val_main_v15_apply, val_main_v17_apply, ref_g, ref_3]
  rfl

theorem ref_u (i : Cert.ReferenceStepInIdeal.S288x1024.Idx) : val_main_v25 (F := Ideal) x0 x1 x4 i = eU x0 x1 x4 (i 0).val (i 1).val := by
  rw [val_main_v25_apply, val_main_v21_apply, val_main_v24_apply, val_main_v22_apply, val_main_v20_apply, val_main_v23_apply, ref_g, ref_4]
  rfl

theorem ref_d (i : Cert.ReferenceStepInIdeal.S288x1024.Idx) : val_main_v38 (F := Ideal) x0 x1 x2 x3 x4 i = eD x0 x1 x2 x3 x4 (i 0).val (i 1).val := by
  rw [val_main_v38_apply, val_main_v36_apply, val_main_v33_apply, val_main_v35_apply, val_main_v27_apply, val_main_v32_apply, val_main_v30_apply,
    val_main_v29_apply, val_main_v37_apply, val_main_v34_apply, val_main_v26_apply, val_main_v28_apply, val_main_v31_apply, ref_m, ref_u, ref_2]
  rfl

theorem bit : ∀ n : Fin 2, IntOp.cmpi .eq (BitVec.ofNat 32 n.val) (0#32) = if n.val = 0 then 1#1 else 0#1 := by decide

theorem pick (n : Fin 2) (a b : EReal) : Scalar.select (IntOp.cmpi .eq (BitVec.ofNat 32 n.val) (0#32)) a b = if n.val = 0 then a else b := by
  rw [bit]
  match n with
  | ⟨0, _⟩ => rfl
  | ⟨1, _⟩ => rfl

theorem all_g (i : S2x288x1024.Idx) : val_main_v40 (F := Ideal) x0 x1 x5 i = if (i 0).val = 0 then eG x0 x1 (i 1).val (i 2).val else x5 i := by
  rw [val_main_v40_apply, val_main_call0_v0_apply, val_main_call0_v1_apply, val_main_v39_apply, ref_g]
  exact pick (i 0) _ _

theorem all_d (i : S2x288x1024.Idx) : val_main_v42 (F := Ideal) x0 x1 x2 x3 x4 x6 i = if (i 0).val = 0 then eD x0 x1 x2 x3 x4 (i 1).val (i 2).val else x6 i := by
  rw [val_main_v42_apply, val_main_call1_v0_apply, val_main_call1_v1_apply, val_main_v41_apply, ref_d]
  exact pick (i 0) _ _

theorem all_m (i : S2x288x1024.Idx) : val_main_v44 (F := Ideal) x0 x1 x3 x7 i = if (i 0).val = 0 then eM x0 x1 x3 (i 1).val (i 2).val else x7 i := by
  rw [val_main_v44_apply, val_main_call2_v0_apply, val_main_call2_v1_apply, val_main_v43_apply, ref_m]
  exact pick (i 0) _ _

theorem all_u (i : S2x288x1024.Idx) : val_main_v46 (F := Ideal) x0 x1 x4 x8 i = if (i 0).val = 0 then eU x0 x1 x4 (i 1).val (i 2).val else x8 i := by
  rw [val_main_v46_apply, val_main_call3_v0_apply, val_main_call3_v1_apply, val_main_v45_apply, ref_u]
  exact pick (i 0) _ _

end

variable (m : (ℓ : Loc nD τ sig) → Buf (Elt Ideal) ℓ) (c : Dev nD)

abbrev A0 : Vec Ideal S8x288x1024 .bf16 := m (c.tc.loc main_arg0)
abbrev A1 : Vec Ideal S7x288x1024 .bf16 := m (c.tc.loc main_arg1)
abbrev A2 : Vec Ideal S2x288x1024 .f32 := m (c.tc.loc main_arg2)
abbrev A3 : Vec Ideal S2x288x1024 .f32 := m (c.tc.loc main_arg3)
abbrev A4 : Vec Ideal S2x288x1024 .f32 := m (c.tc.loc main_arg4)
abbrev A5 : Vec Ideal S2x288x1024 .f32 := m (c.tc.loc main_arg5)
abbrev A6 : Vec Ideal S2x288x1024 .f32 := m (c.tc.loc main_arg6)
abbrev A7 : Vec Ideal S2x288x1024 .f32 := m (c.tc.loc main_arg7)
abbrev A8 : Vec Ideal S2x288x1024 .f32 := m (c.tc.loc main_arg8)

/-- The kernel's four results, as the reference's functions of the arguments. -/
def resG : Buf (Elt Ideal) ((c : Thread nD τ).loc main_v2_0) := val_main_v40 (F := Ideal) (A0 m c) (A1 m c) (A5 m c)
def resD : Buf (Elt Ideal) ((c : Thread nD τ).loc main_v2_1) := val_main_v42 (F := Ideal) (A0 m c) (A1 m c) (A2 m c) (A3 m c) (A4 m c) (A6 m c)
def resM : Buf (Elt Ideal) ((c : Thread nD τ).loc main_v2_2) := val_main_v44 (F := Ideal) (A0 m c) (A1 m c) (A3 m c) (A7 m c)
def resU : Buf (Elt Ideal) ((c : Thread nD τ).loc main_v2_3) := val_main_v46 (F := Ideal) (A0 m c) (A1 m c) (A4 m c) (A8 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

theorem last_5 : ((dats m (ok m) 0 c).arrAt 5 (cfgM m (ok m)).N : S2x288x1024.Idx → EReal) = resG m c := by
  funext i
  refine (final_5 m c i).trans (Eq.trans ?_ (all_g (A0 m c) (A1 m c) (A5 m c) i).symm)
  rw [host_0 m c]
  simp only [rG, aS, aL, arg_0 m c, arg_1 m c]
  rfl

theorem last_6 : ((dats m (ok m) 0 c).arrAt 6 (cfgM m (ok m)).N : S2x288x1024.Idx → EReal) = resD m c := by
  funext i
  refine (final_6 m c i).trans (Eq.trans ?_ (all_d (A0 m c) (A1 m c) (A2 m c) (A3 m c) (A4 m c) (A6 m c) i).symm)
  rw [host_1 m c]
  simp only [rD, rM, rU, rG, aS, aL, aW, aM, aU, arg_0 m c, arg_1 m c, arg_2 m c, arg_3 m c, arg_4 m c]
  rfl

theorem last_7 : ((dats m (ok m) 0 c).arrAt 7 (cfgM m (ok m)).N : S2x288x1024.Idx → EReal) = resM m c := by
  funext i
  refine (final_7 m c i).trans (Eq.trans ?_ (all_m (A0 m c) (A1 m c) (A3 m c) (A7 m c) i).symm)
  rw [host_2 m c]
  simp only [rM, rG, aS, aL, aM, arg_0 m c, arg_1 m c, arg_3 m c]
  rfl

theorem last_8 : ((dats m (ok m) 0 c).arrAt 8 (cfgM m (ok m)).N : S2x288x1024.Idx → EReal) = resU m c := by
  funext i
  refine (final_8 m c i).trans (Eq.trans ?_ (all_u (A0 m c) (A1 m c) (A4 m c) (A8 m c) i).symm)
  rw [host_3 m c]
  simp only [rU, rG, aS, aL, aU, arg_0 m c, arg_1 m c, arg_4 m c]
  rfl

/-- The kernel and the reference sum the same gradient and take the same step. -/
theorem algebraic : Cert.algebraic_KernelStepInIdeal_ReferenceStepInIdeal := by
  intro m ρ m' ρ' _ hagree
  refine ⟨fun c => resG m c, fun c => resD m c, fun c => resM m c, fun c => resU m c, ?_, ?_⟩
  · refine (θ_run Cert.KernelStepInIdeal.defs _ _).mono (fun _ h c => ?_) (θ_run_and (unchanged m ρ (ok m)) (run_main m ρ (ok m)))
    exact ⟨((h.2 c).1 5).trans (last_5 m c), ((h.2 c).1 6).trans (last_6 m c), ((h.2 c).1 7).trans (last_7 m c), ((h.2 c).1 8).trans (last_8 m c), h.1 c⟩
  · refine (θ_run Cert.ReferenceStepInIdeal.defs _ _).mono (fun _ h c => ?_) (Cert.ReferenceStepInIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2.1.trans ?_, (h c).2.2.2.2⟩
    · refine (val_main_v40_eq (F := Ideal) _ _ _).trans ?_
      rw [a0, a1, a5]
      rfl
    · refine (val_main_v42_eq (F := Ideal) _ _ _ _ _ _).trans ?_
      rw [a0, a1, a2, a3, a4, a6]
      rfl
    · refine (val_main_v44_eq (F := Ideal) _ _ _ _).trans ?_
      rw [a0, a1, a3, a7]
      rfl
    · refine (val_main_v46_eq (F := Ideal) _ _ _ _).trans ?_
      rw [a0, a1, a4, a8]
      rfl

end Cert.StepIn

end
-- ==== Proof.StepFfRun.lean ====
/- The summed gradient and the optimiser's step of one layer's weight: what the kernel leaves in its blocks. -/
module

public import proofs.«01_k».proof.Defs
public import proofs.«01_k».proof.Proof.StepSum
public import proofs.«01_k».proof.Proof.Gen.KernelStepFfIdeal.Frame
public import proofs.«01_k».proof.Proof.Gen.KernelStepFf.Frame

@[expose] public section

set_option maxRecDepth 16384

noncomputable section

namespace Cert.StepFf

open Idealize.ShloMosaic Idealize.ShloMosaic.TcCoe Idealize.SL.Sem Cert.StepSum

/-- The table's only word is zero, so every block lies inside its array. -/
theorem ok_bits (m : (ℓ : Loc Cert.KernelStepFf.nD Cert.KernelStepFf.τ Cert.KernelStepFf.sig) → Buf (Elt Bits) ℓ) : Cert.KernelStepFf.Gen.Ok m := by
  have e : Cert.KernelStepFf.Gen.tbl m 0 = fun _ => (0#32 : BitVec 32) := by
    show StableHlo.after Cert.KernelStepFf.Gen.hostOps0 _ Cert.KernelStepFf.main_v1 = _
    simp only [Cert.KernelStepFf.Gen.hostOps0]
    after_results_simp <;> rfl
  unfold Cert.KernelStepFf.Gen.Ok
  rw [show Cert.KernelStepFf.Gen.tbl m = fun | ⟨0, _⟩ => fun _ => (0#32 : BitVec 32) | ⟨_ + 1, h⟩ => absurd h (by simp) from funext fun j => by
    match j with
    | ⟨0, _⟩ => exact e]
  decide

open Cert.KernelStepFfIdeal Cert.KernelStepFfIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x176x1024 .bf16) (harg2 : arg2.IsWhole) (arg3 : Memref sig .tc .vmem S7x176x1024 .bf16) (harg3 : arg3.IsWhole) (arg4 : Memref sig .tc .vmem S1x176x1024 .f32) (harg4 : arg4.IsWhole) (arg5 : Memref sig .tc .vmem S1x176x1024 .f32) (harg5 : arg5.IsWhole) (arg6 : Memref sig .tc .vmem S1x176x1024 .f32) (harg6 : arg6.IsWhole) (arg11 : Memref sig .tc .vmem S1x176x1024 .f32) (harg11 : arg11.IsWhole) (arg12 : Memref sig .tc .vmem S1x176x1024 .f32) (harg12 : arg12.IsWhole) (arg13 : Memref sig .tc .vmem S1x176x1024 .f32) (harg13 : arg13.IsWhole) (arg14 : Memref sig .tc .vmem S1x176x1024 .f32) (harg14 : arg14.IsWhole) (x0 : Vec Ideal S1x176x1024 .bf16) (x1 : Vec Ideal S7x176x1024 .bf16) (x2 x3 x4 : Vec Ideal S1x176x1024 .f32) (xt0 : TbBuf0 (F := Ideal) c tbM0_0)

/-- One of the seven blocks that came from the other devices. -/
def plane (x1 : Vec Ideal S7x176x1024 .bf16) (r : Fin 7) : Vec Ideal S1x176x1024 .bf16 := fun j => x1 (ix3 r (j 1) (j 2))

theorem ld_plane (r : Fin 7) (h) : View.ld x1 (Rect.unit (s := S7x176x1024) ![r.val, 0, 0] S1x176x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x176x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg11 harg11 arg12 harg12 arg13 harg13 arg14 harg14 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x176x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg11 harg11 arg12 harg12 arg13 harg13 arg14 harg14 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x176x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg11 harg11 arg12 harg12 arg13 harg13 arg14 harg14 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x176x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg11 harg11 arg12 harg12 arg13 harg13 arg14 harg14 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg11 harg11 arg12 harg12 arg13 harg13 arg14 harg14 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg11.read_unread, harg12.read_unread, harg13.read_unread, harg14.read_unread, View.ld_unit_zero (S := S1x176x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x176x1024 .bf16) (x1 : Vec Ideal S7x176x1024 .bf16) (x2 x3 x4 : Vec Ideal S1x176x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 176) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S176x1024 .f32) (j : S1x176x1024.Idx) : k0_pay4 v j = v (ix2 (j 1) (j 2)) := by
  pointwise [k0_pay4]

theorem pay1_eq (v : FVec Ideal S176x1024 .f32) (j : S1x176x1024.Idx) : k0_pay1 v j = v (ix2 (j 1) (j 2)) := by
  pointwise [k0_pay1]

theorem pay2_eq (v : FVec Ideal S176x1024 .f32) (j : S1x176x1024.Idx) : k0_pay2 v j = v (ix2 (j 1) (j 2)) := by
  pointwise [k0_pay2]

theorem pay5_eq (h3 : ∀ j, x3 j = M (o + (j 1).val) (j 2).val) (v : FVec Ideal S176x1024 .f32) (p : Fin 176) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S176x1024 .f32) (p : Fin 176) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S176x1024 .f32) (j : S1x176x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 352) (b := 1024) (V m c main_arg0) 0 p q
abbrev aL (k p q : ℕ) : EReal := at3 (n := 7) (a := 352) (b := 1024) (V m c main_arg1) k p q
abbrev aW (p q : ℕ) : EReal := at3 (n := 2) (a := 352) (b := 1024) (V m c main_arg2) 0 p q
abbrev aM (p q : ℕ) : EReal := at3 (n := 2) (a := 352) (b := 1024) (V m c main_arg3) 0 p q
abbrev aU (p q : ℕ) : EReal := at3 (n := 2) (a := 352) (b := 1024) (V m c main_arg4) 0 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 0 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 0 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 0 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 0 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 0 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 0 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 0 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x176x1024.Idx) : (iblk m (ok m) c 0 t : Vec Ideal S1x176x1024 .bf16) j = aS m c (176 * t.val + (j 1).val) (j 2).val := by
  unfold iblk
  refine (View.read_apply ..).trans ?_
  refine at3_eq (n := 8) (a := 352) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 176 + 1 * (j 1).val = _; rw [(ix_0 m t).2.1]; omega
  · show ix0 (F := Ideal) (tbl m) 0 (grid0.coords t) 2 * 1024 + 1 * (j 2).val = _; rw [(ix_0 m t).2.2]; omega

theorem b_1 (j : S7x176x1024.Idx) : (iblk m (ok m) c 1 t : Vec Ideal S7x176x1024 .bf16) j = aL m c (j 0).val (176 * t.val + (j 1).val) (j 2).val := by
  unfold iblk
  refine (View.read_apply ..).trans ?_
  refine at3_eq (n := 7) (a := 352) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 176 + 1 * (j 1).val = _; rw [(ix_1 m t).2.1]; omega
  · show ix0 (F := Ideal) (tbl m) 1 (grid0.coords t) 2 * 1024 + 1 * (j 2).val = _; rw [(ix_1 m t).2.2]; omega

theorem b_2 (j : S1x176x1024.Idx) : (iblk m (ok m) c 2 t : Vec Ideal S1x176x1024 .f32) j = aW m c (176 * t.val + (j 1).val) (j 2).val := by
  unfold iblk
  refine (View.read_apply ..).trans ?_
  refine at3_eq (n := 2) (a := 352) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 176 + 1 * (j 1).val = _; rw [(ix_2 m t).2.1]; omega
  · show ix0 (F := Ideal) (tbl m) 2 (grid0.coords t) 2 * 1024 + 1 * (j 2).val = _; rw [(ix_2 m t).2.2]; omega

theorem b_3 (j : S1x176x1024.Idx) : (iblk m (ok m) c 3 t : Vec Ideal S1x176x1024 .f32) j = aM m c (176 * t.val + (j 1).val) (j 2).val := by
  unfold iblk
  refine (View.read_apply ..).trans ?_
  refine at3_eq (n := 2) (a := 352) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 176 + 1 * (j 1).val = _; rw [(ix_3 m t).2.1]; omega
  · show ix0 (F := Ideal) (tbl m) 3 (grid0.coords t) 2 * 1024 + 1 * (j 2).val = _; rw [(ix_3 m t).2.2]; omega

theorem b_4 (j : S1x176x1024.Idx) : (iblk m (ok m) c 4 t : Vec Ideal S1x176x1024 .f32) j = aU m c (176 * t.val + (j 1).val) (j 2).val := by
  unfold iblk
  refine (View.read_apply ..).trans ?_
  refine at3_eq (n := 2) (a := 352) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 176 + 1 * (j 1).val = _; rw [(ix_4 m t).2.1]; omega
  · show ix0 (F := Ideal) (tbl m) 4 (grid0.coords t) 2 * 1024 + 1 * (j 2).val = _; rw [(ix_4 m t).2.2]; omega

theorem o_5 (j : S1x176x1024.Idx) : (outsAt0 m (ok m) c t).1 j = rG m c (176 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (176 * t.val) (b_0 m c t) (b_1 m c t) (j 1) (j 2)

theorem o_6 (j : S1x176x1024.Idx) : (outsAt0 m (ok m) c t).2.1 j = rD m c (176 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (176 * t.val) (b_2 m c t) (b_3 m c t) (b_4 m c t) _ j).trans ?_
  rw [show _ = _ from g_eq _ _ (aS m c) (aL m c) (176 * t.val) (b_0 m c t) (b_1 m c t) (j 1) (j 2)]

theorem o_7 (j : S1x176x1024.Idx) : (outsAt0 m (ok m) c t).2.2.1 j = rM m c (176 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (176 * t.val) (b_3 m c t) _ (j 1) (j 2)).trans ?_
  rw [show _ = _ from g_eq _ _ (aS m c) (aL m c) (176 * t.val) (b_0 m c t) (b_1 m c t) (j 1) (j 2)]

theorem o_8 (j : S1x176x1024.Idx) : (outsAt0 m (ok m) c t).2.2.2 j = rU m c (176 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (176 * t.val) (b_4 m c t) _ (j 1) (j 2)).trans ?_
  rw [show _ = _ from g_eq _ _ (aS m c) (aL m c) (176 * t.val) (b_0 m c t) (b_1 m c t) (j 1) (j 2)]

end

abbrev rc_5 (t : Fin (cfgM m (ok m)).N) : Rect S2x352x1024 :=
  Rect.unit (fun a => ix0 (F := Ideal) (tbl m) 5 (grid0.coords t) a * S1x176x1024.size a) S1x176x1024.size (fun a => by
    have h := hinb0 (F := Ideal) (tbl m) (ok m) 5 (grid0.coords t) a
    rw [Nat.add_mul, one_mul] at h
    exact h)

theorem mem_5 (t : Fin (cfgM m (ok m)).N) (i : S2x352x1024.Idx) : i ∈ ((View.whole main_v2_0).slice (rc_5 m t)).set
    ↔ ∀ a : Fin 3, ix0 (F := Ideal) (tbl m) 5 (grid0.coords t) a * S1x176x1024.size a ≤ (i a).val
      ∧ (i a).val < ix0 (F := Ideal) (tbl m) 5 (grid0.coords t) a * S1x176x1024.size a + S1x176x1024.size a := by
  rw [View.set_slice_whole]
  exact Rect.mem_set_unit

theorem final_5 (i : S2x352x1024.Idx) : ((dats m (ok m) 0 c).arrAt 5 (cfgM m (ok m)).N : S2x352x1024.Idx → EReal) i
    = if (i 0).val = 0 then rG m c (i 1).val (i 2).val else (V m c main_v2_0 : S2x352x1024.Idx → EReal) i := by
  refine ((dats m (ok m) 0 c).arrAt_eq_piecewise 5
    (fun i : S2x352x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x176x1024.Idx) => ?_
    show (outsAt0 m (ok m) c t).1 j = rG m c (ix0 (F := Ideal) (tbl m) 5 (grid0.coords t) 1 * 176 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 0
    · rw [if_pos h]
      refine if_pos ⟨⟨(i 1).val / 176, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 176 ≤ (i 1).val ∧ (i 1).val < ix0 (F := Ideal) (tbl m) 5 (grid0.coords _) 1 * 176 + 176; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e : (i 0).val < ix0 (F := Ideal) (tbl m) 5 (grid0.coords t) 0 * 1 + 1 := ((mem_5 m t i).mp hm 0).2
      rw [(ix_5 m t).1] at e
      omega

abbrev rc_6 (t : Fin (cfgM m (ok m)).N) : Rect S2x352x1024 :=
  Rect.unit (fun a => ix0 (F := Ideal) (tbl m) 6 (grid0.coords t) a * S1x176x1024.size a) S1x176x1024.size (fun a => by
    have h := hinb0 (F := Ideal) (tbl m) (ok m) 6 (grid0.coords t) a
    rw [Nat.add_mul, one_mul] at h
    exact h)

theorem mem_6 (t : Fin (cfgM m (ok m)).N) (i : S2x352x1024.Idx) : i ∈ ((View.whole main_v2_1).slice (rc_6 m t)).set
    ↔ ∀ a : Fin 3, ix0 (F := Ideal) (tbl m) 6 (grid0.coords t) a * S1x176x1024.size a ≤ (i a).val
      ∧ (i a).val < ix0 (F := Ideal) (tbl m) 6 (grid0.coords t) a * S1x176x1024.size a + S1x176x1024.size a := by
  rw [View.set_slice_whole]
  exact Rect.mem_set_unit

theorem final_6 (i : S2x352x1024.Idx) : ((dats m (ok m) 0 c).arrAt 6 (cfgM m (ok m)).N : S2x352x1024.Idx → EReal) i
    = if (i 0).val = 0 then rD m c (i 1).val (i 2).val else (V m c main_v2_1 : S2x352x1024.Idx → EReal) i := by
  refine ((dats m (ok m) 0 c).arrAt_eq_piecewise 6
    (fun i : S2x352x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x176x1024.Idx) => ?_
    show (outsAt0 m (ok m) c t).2.1 j = rD m c (ix0 (F := Ideal) (tbl m) 6 (grid0.coords t) 1 * 176 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 0
    · rw [if_pos h]
      refine if_pos ⟨⟨(i 1).val / 176, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 176 ≤ (i 1).val ∧ (i 1).val < ix0 (F := Ideal) (tbl m) 6 (grid0.coords _) 1 * 176 + 176; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e : (i 0).val < ix0 (F := Ideal) (tbl m) 6 (grid0.coords t) 0 * 1 + 1 := ((mem_6 m t i).mp hm 0).2
      rw [(ix_6 m t).1] at e
      omega

abbrev rc_7 (t : Fin (cfgM m (ok m)).N) : Rect S2x352x1024 :=
  Rect.unit (fun a => ix0 (F := Ideal) (tbl m) 7 (grid0.coords t) a * S1x176x1024.size a) S1x176x1024.size (fun a => by
    have h := hinb0 (F := Ideal) (tbl m) (ok m) 7 (grid0.coords t) a
    rw [Nat.add_mul, one_mul] at h
    exact h)

theorem mem_7 (t : Fin (cfgM m (ok m)).N) (i : S2x352x1024.Idx) : i ∈ ((View.whole main_v2_2).slice (rc_7 m t)).set
    ↔ ∀ a : Fin 3, ix0 (F := Ideal) (tbl m) 7 (grid0.coords t) a * S1x176x1024.size a ≤ (i a).val
      ∧ (i a).val < ix0 (F := Ideal) (tbl m) 7 (grid0.coords t) a * S1x176x1024.size a + S1x176x1024.size a := by
  rw [View.set_slice_whole]
  exact Rect.mem_set_unit

theorem final_7 (i : S2x352x1024.Idx) : ((dats m (ok m) 0 c).arrAt 7 (cfgM m (ok m)).N : S2x352x1024.Idx → EReal) i
    = if (i 0).val = 0 then rM m c (i 1).val (i 2).val else (V m c main_v2_2 : S2x352x1024.Idx → EReal) i := by
  refine ((dats m (ok m) 0 c).arrAt_eq_piecewise 7
    (fun i : S2x352x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x176x1024.Idx) => ?_
    show (outsAt0 m (ok m) c t).2.2.1 j = rM m c (ix0 (F := Ideal) (tbl m) 7 (grid0.coords t) 1 * 176 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 0
    · rw [if_pos h]
      refine if_pos ⟨⟨(i 1).val / 176, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 176 ≤ (i 1).val ∧ (i 1).val < ix0 (F := Ideal) (tbl m) 7 (grid0.coords _) 1 * 176 + 176; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e : (i 0).val < ix0 (F := Ideal) (tbl m) 7 (grid0.coords t) 0 * 1 + 1 := ((mem_7 m t i).mp hm 0).2
      rw [(ix_7 m t).1] at e
      omega

abbrev rc_8 (t : Fin (cfgM m (ok m)).N) : Rect S2x352x1024 :=
  Rect.unit (fun a => ix0 (F := Ideal) (tbl m) 8 (grid0.coords t) a * S1x176x1024.size a) S1x176x1024.size (fun a => by
    have h := hinb0 (F := Ideal) (tbl m) (ok m) 8 (grid0.coords t) a
    rw [Nat.add_mul, one_mul] at h
    exact h)

theorem mem_8 (t : Fin (cfgM m (ok m)).N) (i : S2x352x1024.Idx) : i ∈ ((View.whole main_v2_3).slice (rc_8 m t)).set
    ↔ ∀ a : Fin 3, ix0 (F := Ideal) (tbl m) 8 (grid0.coords t) a * S1x176x1024.size a ≤ (i a).val
      ∧ (i a).val < ix0 (F := Ideal) (tbl m) 8 (grid0.coords t) a * S1x176x1024.size a + S1x176x1024.size a := by
  rw [View.set_slice_whole]
  exact Rect.mem_set_unit

theorem final_8 (i : S2x352x1024.Idx) : ((dats m (ok m) 0 c).arrAt 8 (cfgM m (ok m)).N : S2x352x1024.Idx → EReal) i
    = if (i 0).val = 0 then rU m c (i 1).val (i 2).val else (V m c main_v2_3 : S2x352x1024.Idx → EReal) i := by
  refine ((dats m (ok m) 0 c).arrAt_eq_piecewise 8
    (fun i : S2x352x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x176x1024.Idx) => ?_
    show (outsAt0 m (ok m) c t).2.2.2 j = rU m c (ix0 (F := Ideal) (tbl m) 8 (grid0.coords t) 1 * 176 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 0
    · rw [if_pos h]
      refine if_pos ⟨⟨(i 1).val / 176, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 176 ≤ (i 1).val ∧ (i 1).val < ix0 (F := Ideal) (tbl m) 8 (grid0.coords _) 1 * 176 + 176; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e : (i 0).val < ix0 (F := Ideal) (tbl m) 8 (grid0.coords t) 0 * 1 + 1 := ((mem_8 m t i).mp hm 0).2
      rw [(ix_8 m t).1] at e
      omega

theorem host_0 : V m c main_v2_0 = m (c.tc.loc main_arg5) := by
  show StableHlo.after hostOps0 _ _ = _
  simp only [hostOps0]
  after_results_simp <;> rfl

theorem host_1 : V m c main_v2_1 = m (c.tc.loc main_arg6) := by
  show StableHlo.after hostOps0 _ _ = _
  simp only [hostOps0]
  after_results_simp <;> rfl

theorem host_2 : V m c main_v2_2 = m (c.tc.loc main_arg7) := by
  show StableHlo.after hostOps0 _ _ = _
  simp only [hostOps0]
  after_results_simp <;> rfl

theorem host_3 : V m c main_v2_3 = m (c.tc.loc main_arg8) := by
  show StableHlo.after hostOps0 _ _ = _
  simp only [hostOps0]
  after_results_simp <;> rfl

end

end Cert.StepFf

end
-- ==== Proof.StepFf.lean ====
/- The sum of the slabs and the optimiser's step of one weight: the kernel's four arrays are the reference's. -/
module

public import proofs.«01_k».proof.Proof.StepFfRun
public import proofs.«01_k».proof.Proof.Gen.ReferenceStepFfIdeal.Read
public import proofs.«01_k».proof.Defs

@[expose] public section

noncomputable section

namespace Cert.StepFf

open Cert.KernelStepFfIdeal Cert.KernelStepFfIdeal.Gen Idealize.ShloMosaic Idealize.ShloMosaic.TcCoe Idealize.ShloMosaic.Tactic Idealize.SL.Sem
open Cert.ReferenceStepFfIdeal.Read Cert.StepSum

section
variable (x0 : Vec Ideal S8x352x1024 .bf16) (x1 : Vec Ideal S7x352x1024 .bf16) (x2 x3 x4 x5 x6 x7 x8 : Vec Ideal S2x352x1024 .f32)

/-- The reference's first layer, entry by entry. -/
abbrev eG (p q : ℕ) : EReal := total (at3 (n := 8) (a := 352) (b := 1024) x0 0 p q) (fun k => at3 (n := 7) (a := 352) (b := 1024) x1 k p q)
abbrev eM (p q : ℕ) : EReal := mom (eG x0 x1 p q) (at3 (n := 2) (a := 352) (b := 1024) x3 0 p q)
abbrev eU (p q : ℕ) : EReal := sq (eG x0 x1 p q) (at3 (n := 2) (a := 352) (b := 1024) x4 0 p q)
abbrev eD (p q : ℕ) : EReal := upd (at3 (n := 2) (a := 352) (b := 1024) x2 0 p q) (eM x0 x1 x3 p q) (eU x0 x1 x4 p q)

theorem ref_g (i : Cert.ReferenceStepFfIdeal.S352x1024.Idx) : val_main_v5 (F := Ideal) x0 x1 i = eG x0 x1 (i 0).val (i 1).val := by
  have h0 : (i 0).val < 352 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 352) (b := 1024) _ _ _ _ _ rfl ?_ ?_
    · show ((i 0).val * 1024 + (i 1).val) / 1024 % 352 = _; omega
    · show ((i 0).val * 1024 + (i 1).val) % 1024 = _; omega
  · exact Finset.sum_congr rfl fun k _ => at3_eq (n := 7) (a := 352) (b := 1024) _ _ _ _ _ rfl rfl rfl

theorem ref_2 (i : Cert.ReferenceStepFfIdeal.S352x1024.Idx) : val_main_v10 (F := Ideal) x2 i = at3 (n := 2) (a := 352) (b := 1024) x2 0 (i 0).val (i 1).val := by
  have h0 : (i 0).val < 352 := (i 0).isLt
  have h1 : (i 1).val < 1024 := (i 1).isLt
  rw [val_main_v10_apply, val_main_v9_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_3 (i : Cert.ReferenceStepFfIdeal.S352x1024.Idx) : val_main_v12 (F := Ideal) x3 i = at3 (n := 2) (a := 352) (b := 1024) x3 0 (i 0).val (i 1).val := by
  have h0 : (i 0).val < 352 := (i 0).isLt
  have h1 : (i 1).val < 1024 := (i 1).isLt
  rw [val_main_v12_apply, val_main_v11_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_4 (i : Cert.ReferenceStepFfIdeal.S352x1024.Idx) : val_main_v14 (F := Ideal) x4 i = at3 (n := 2) (a := 352) (b := 1024) x4 0 (i 0).val (i 1).val := by
  have h0 : (i 0).val < 352 := (i 0).isLt
  have h1 : (i 1).val < 1024 := (i 1).isLt
  rw [val_main_v14_apply, val_main_v13_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_m (i : Cert.ReferenceStepFfIdeal.S352x1024.Idx) : val_main_v19 (F := Ideal) x0 x1 x3 i = eM x0 x1 x3 (i 0).val (i 1).val := by
  rw [val_main_v19_apply, val_main_v16_apply, val_main_v18_apply, val_main_v15_apply, val_main_v17_apply, ref_g, ref_3]
  rfl

theorem ref_u (i : Cert.ReferenceStepFfIdeal.S352x1024.Idx) : val_main_v25 (F := Ideal) x0 x1 x4 i = eU x0 x1 x4 (i 0).val (i 1).val := by
  rw [val_main_v25_apply, val_main_v21_apply, val_main_v24_apply, val_main_v22_apply, val_main_v20_apply, val_main_v23_apply, ref_g, ref_4]
  rfl

theorem ref_d (i : Cert.ReferenceStepFfIdeal.S352x1024.Idx) : val_main_v38 (F := Ideal) x0 x1 x2 x3 x4 i = eD x0 x1 x2 x3 x4 (i 0).val (i 1).val := by
  rw [val_main_v38_apply, val_main_v36_apply, val_main_v33_apply, val_main_v35_apply, val_main_v27_apply, val_main_v32_apply, val_main_v30_apply,
    val_main_v29_apply, val_main_v37_apply, val_main_v34_apply, val_main_v26_apply, val_main_v28_apply, val_main_v31_apply, ref_m, ref_u, ref_2]
  rfl

theorem bit : ∀ n : Fin 2, IntOp.cmpi .eq (BitVec.ofNat 32 n.val) (0#32) = if n.val = 0 then 1#1 else 0#1 := by decide

theorem pick (n : Fin 2) (a b : EReal) : Scalar.select (IntOp.cmpi .eq (BitVec.ofNat 32 n.val) (0#32)) a b = if n.val = 0 then a else b := by
  rw [bit]
  match n with
  | ⟨0, _⟩ => rfl
  | ⟨1, _⟩ => rfl

theorem all_g (i : S2x352x1024.Idx) : val_main_v40 (F := Ideal) x0 x1 x5 i = if (i 0).val = 0 then eG x0 x1 (i 1).val (i 2).val else x5 i := by
  rw [val_main_v40_apply, val_main_call0_v0_apply, val_main_call0_v1_apply, val_main_v39_apply, ref_g]
  exact pick (i 0) _ _

theorem all_d (i : S2x352x1024.Idx) : val_main_v42 (F := Ideal) x0 x1 x2 x3 x4 x6 i = if (i 0).val = 0 then eD x0 x1 x2 x3 x4 (i 1).val (i 2).val else x6 i := by
  rw [val_main_v42_apply, val_main_call1_v0_apply, val_main_call1_v1_apply, val_main_v41_apply, ref_d]
  exact pick (i 0) _ _

theorem all_m (i : S2x352x1024.Idx) : val_main_v44 (F := Ideal) x0 x1 x3 x7 i = if (i 0).val = 0 then eM x0 x1 x3 (i 1).val (i 2).val else x7 i := by
  rw [val_main_v44_apply, val_main_call2_v0_apply, val_main_call2_v1_apply, val_main_v43_apply, ref_m]
  exact pick (i 0) _ _

theorem all_u (i : S2x352x1024.Idx) : val_main_v46 (F := Ideal) x0 x1 x4 x8 i = if (i 0).val = 0 then eU x0 x1 x4 (i 1).val (i 2).val else x8 i := by
  rw [val_main_v46_apply, val_main_call3_v0_apply, val_main_call3_v1_apply, val_main_v45_apply, ref_u]
  exact pick (i 0) _ _

end

variable (m : (ℓ : Loc nD τ sig) → Buf (Elt Ideal) ℓ) (c : Dev nD)

abbrev A0 : Vec Ideal S8x352x1024 .bf16 := m (c.tc.loc main_arg0)
abbrev A1 : Vec Ideal S7x352x1024 .bf16 := m (c.tc.loc main_arg1)
abbrev A2 : Vec Ideal S2x352x1024 .f32 := m (c.tc.loc main_arg2)
abbrev A3 : Vec Ideal S2x352x1024 .f32 := m (c.tc.loc main_arg3)
abbrev A4 : Vec Ideal S2x352x1024 .f32 := m (c.tc.loc main_arg4)
abbrev A5 : Vec Ideal S2x352x1024 .f32 := m (c.tc.loc main_arg5)
abbrev A6 : Vec Ideal S2x352x1024 .f32 := m (c.tc.loc main_arg6)
abbrev A7 : Vec Ideal S2x352x1024 .f32 := m (c.tc.loc main_arg7)
abbrev A8 : Vec Ideal S2x352x1024 .f32 := m (c.tc.loc main_arg8)

/-- The kernel's four results, as the reference's functions of the arguments. -/
def resG : Buf (Elt Ideal) ((c : Thread nD τ).loc main_v2_0) := val_main_v40 (F := Ideal) (A0 m c) (A1 m c) (A5 m c)
def resD : Buf (Elt Ideal) ((c : Thread nD τ).loc main_v2_1) := val_main_v42 (F := Ideal) (A0 m c) (A1 m c) (A2 m c) (A3 m c) (A4 m c) (A6 m c)
def resM : Buf (Elt Ideal) ((c : Thread nD τ).loc main_v2_2) := val_main_v44 (F := Ideal) (A0 m c) (A1 m c) (A3 m c) (A7 m c)
def resU : Buf (Elt Ideal) ((c : Thread nD τ).loc main_v2_3) := val_main_v46 (F := Ideal) (A0 m c) (A1 m c) (A4 m c) (A8 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

theorem last_5 : ((dats m (ok m) 0 c).arrAt 5 (cfgM m (ok m)).N : S2x352x1024.Idx → EReal) = resG m c := by
  funext i
  refine (final_5 m c i).trans (Eq.trans ?_ (all_g (A0 m c) (A1 m c) (A5 m c) i).symm)
  rw [host_0 m c]
  simp only [rG, aS, aL, arg_0 m c, arg_1 m c]
  rfl

theorem last_6 : ((dats m (ok m) 0 c).arrAt 6 (cfgM m (ok m)).N : S2x352x1024.Idx → EReal) = resD m c := by
  funext i
  refine (final_6 m c i).trans (Eq.trans ?_ (all_d (A0 m c) (A1 m c) (A2 m c) (A3 m c) (A4 m c) (A6 m c) i).symm)
  rw [host_1 m c]
  simp only [rD, rM, rU, rG, aS, aL, aW, aM, aU, arg_0 m c, arg_1 m c, arg_2 m c, arg_3 m c, arg_4 m c]
  rfl

theorem last_7 : ((dats m (ok m) 0 c).arrAt 7 (cfgM m (ok m)).N : S2x352x1024.Idx → EReal) = resM m c := by
  funext i
  refine (final_7 m c i).trans (Eq.trans ?_ (all_m (A0 m c) (A1 m c) (A3 m c) (A7 m c) i).symm)
  rw [host_2 m c]
  simp only [rM, rG, aS, aL, aM, arg_0 m c, arg_1 m c, arg_3 m c]
  rfl

theorem last_8 : ((dats m (ok m) 0 c).arrAt 8 (cfgM m (ok m)).N : S2x352x1024.Idx → EReal) = resU m c := by
  funext i
  refine (final_8 m c i).trans (Eq.trans ?_ (all_u (A0 m c) (A1 m c) (A4 m c) (A8 m c) i).symm)
  rw [host_3 m c]
  simp only [rU, rG, aS, aL, aU, arg_0 m c, arg_1 m c, arg_4 m c]
  rfl

/-- The kernel and the reference sum the same gradient and take the same step. -/
theorem algebraic : Cert.algebraic_KernelStepFfIdeal_ReferenceStepFfIdeal := by
  intro m ρ m' ρ' _ hagree
  refine ⟨fun c => resG m c, fun c => resD m c, fun c => resM m c, fun c => resU m c, ?_, ?_⟩
  · refine (θ_run Cert.KernelStepFfIdeal.defs _ _).mono (fun _ h c => ?_) (θ_run_and (unchanged m ρ (ok m)) (run_main m ρ (ok m)))
    exact ⟨((h.2 c).1 5).trans (last_5 m c), ((h.2 c).1 6).trans (last_6 m c), ((h.2 c).1 7).trans (last_7 m c), ((h.2 c).1 8).trans (last_8 m c), h.1 c⟩
  · refine (θ_run Cert.ReferenceStepFfIdeal.defs _ _).mono (fun _ h c => ?_) (Cert.ReferenceStepFfIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2.1.trans ?_, (h c).2.2.2.2⟩
    · refine (val_main_v40_eq (F := Ideal) _ _ _).trans ?_
      rw [a0, a1, a5]
      rfl
    · refine (val_main_v42_eq (F := Ideal) _ _ _ _ _ _).trans ?_
      rw [a0, a1, a2, a3, a4, a6]
      rfl
    · refine (val_main_v44_eq (F := Ideal) _ _ _ _).trans ?_
      rw [a0, a1, a3, a7]
      rfl
    · refine (val_main_v46_eq (F := Ideal) _ _ _ _).trans ?_
      rw [a0, a1, a4, a8]
      rfl

end Cert.StepFf

end
-- ==== Proof.NextWoRun.lean ====
/- The summed gradient and the optimiser's step of one layer's weight: what the second layer's call leaves in its blocks. -/
module

public import proofs.«01_k».proof.Defs
public import proofs.«01_k».proof.Proof.StepSum
public import proofs.«01_k».proof.Proof.Gen.KernelNextWoIdeal.Frame
public import proofs.«01_k».proof.Proof.Gen.KernelNextWo.Frame

@[expose] public section

set_option maxRecDepth 16384

noncomputable section

namespace Cert.NextWo

open Idealize.ShloMosaic Idealize.ShloMosaic.TcCoe Idealize.SL.Sem Cert.StepSum

/-- The table's only word is zero, so every block lies inside its array. -/
theorem ok_bits (m : (ℓ : Loc Cert.KernelNextWo.nD Cert.KernelNextWo.τ Cert.KernelNextWo.sig) → Buf (Elt Bits) ℓ) : Cert.KernelNextWo.Gen.Ok m := by
  have e : Cert.KernelNextWo.Gen.tbl m 0 = fun _ => (0#32 : BitVec 32) := by
    show StableHlo.after Cert.KernelNextWo.Gen.hostOps0 _ Cert.KernelNextWo.main_v1 = _
    simp only [Cert.KernelNextWo.Gen.hostOps0]
    after_results_simp <;> rfl
  unfold Cert.KernelNextWo.Gen.Ok
  rw [show Cert.KernelNextWo.Gen.tbl m = fun | ⟨0, _⟩ => fun _ => (0#32 : BitVec 32) | ⟨_ + 1, h⟩ => absurd h (by simp) from funext fun j => by
    match j with
    | ⟨0, _⟩ => exact e]
  decide

open Cert.KernelNextWoIdeal Cert.KernelNextWoIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x64x1024 .bf16) (harg2 : arg2.IsWhole) (arg3 : Memref sig .tc .vmem S7x64x1024 .bf16) (harg3 : arg3.IsWhole) (arg4 : Memref sig .tc .vmem S1x64x1024 .f32) (harg4 : arg4.IsWhole) (arg5 : Memref sig .tc .vmem S1x64x1024 .f32) (harg5 : arg5.IsWhole) (arg6 : Memref sig .tc .vmem S1x64x1024 .f32) (harg6 : arg6.IsWhole) (arg7 : Memref sig .tc .vmem S1x64x1024 .f32) (harg7 : arg7.IsWhole) (arg8 : Memref sig .tc .vmem S1x64x1024 .f32) (harg8 : arg8.IsWhole) (arg9 : Memref sig .tc .vmem S1x64x1024 .f32) (harg9 : arg9.IsWhole) (arg10 : Memref sig .tc .vmem S1x64x1024 .f32) (harg10 : arg10.IsWhole) (x0 : Vec Ideal S1x64x1024 .bf16) (x1 : Vec Ideal S7x64x1024 .bf16) (x2 x3 x4 : Vec Ideal S1x64x1024 .f32) (xt0 : TbBuf0 (F := Ideal) c tbM0_0)

/-- One of the seven blocks that came from the other devices. -/
def plane (x1 : Vec Ideal S7x64x1024 .bf16) (r : Fin 7) : Vec Ideal S1x64x1024 .bf16 := fun j => x1 (ix3 r (j 1) (j 2))

theorem ld_plane (r : Fin 7) (h) : View.ld x1 (Rect.unit (s := S7x64x1024) ![r.val, 0, 0] S1x64x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x64x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg7 harg7 arg8 harg8 arg9 harg9 arg10 harg10 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x64x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg7 harg7 arg8 harg8 arg9 harg9 arg10 harg10 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x64x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg7 harg7 arg8 harg8 arg9 harg9 arg10 harg10 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x64x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg7 harg7 arg8 harg8 arg9 harg9 arg10 harg10 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x64x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x64x1024 .bf16) (x1 : Vec Ideal S7x64x1024 .bf16) (x2 x3 x4 : Vec Ideal S1x64x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 64) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S64x1024 .f32) (j : S1x64x1024.Idx) : k0_pay4 v j = v (ix2 (j 1) (j 2)) := by
  pointwise [k0_pay4]

theorem pay1_eq (v : FVec Ideal S64x1024 .f32) (j : S1x64x1024.Idx) : k0_pay1 v j = v (ix2 (j 1) (j 2)) := by
  pointwise [k0_pay1]

theorem pay2_eq (v : FVec Ideal S64x1024 .f32) (j : S1x64x1024.Idx) : k0_pay2 v j = v (ix2 (j 1) (j 2)) := by
  pointwise [k0_pay2]

theorem pay5_eq (h3 : ∀ j, x3 j = M (o + (j 1).val) (j 2).val) (v : FVec Ideal S64x1024 .f32) (p : Fin 64) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S64x1024 .f32) (p : Fin 64) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S64x1024 .f32) (j : S1x64x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 128) (b := 1024) (V m c main_arg0) 0 p q
abbrev aL (k p q : ℕ) : EReal := at3 (n := 7) (a := 128) (b := 1024) (V m c main_arg1) k p q
abbrev aW (p q : ℕ) : EReal := at3 (n := 2) (a := 128) (b := 1024) (V m c main_arg2) 1 p q
abbrev aM (p q : ℕ) : EReal := at3 (n := 2) (a := 128) (b := 1024) (V m c main_arg3) 1 p q
abbrev aU (p q : ℕ) : EReal := at3 (n := 2) (a := 128) (b := 1024) (V m c main_arg4) 1 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 1 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 1 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 1 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 1 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 1 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 1 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 1 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x64x1024.Idx) : (iblk m (ok m) c 0 t : Vec Ideal S1x64x1024 .bf16) j = aS m c (64 * t.val + (j 1).val) (j 2).val := by
  unfold iblk
  refine (View.read_apply ..).trans ?_
  refine at3_eq (n := 8) (a := 128) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 64 + 1 * (j 1).val = _; rw [(ix_0 m t).2.1]; omega
  · show ix0 (F := Ideal) (tbl m) 0 (grid0.coords t) 2 * 1024 + 1 * (j 2).val = _; rw [(ix_0 m t).2.2]; omega

theorem b_1 (j : S7x64x1024.Idx) : (iblk m (ok m) c 1 t : Vec Ideal S7x64x1024 .bf16) j = aL m c (j 0).val (64 * t.val + (j 1).val) (j 2).val := by
  unfold iblk
  refine (View.read_apply ..).trans ?_
  refine at3_eq (n := 7) (a := 128) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 64 + 1 * (j 1).val = _; rw [(ix_1 m t).2.1]; omega
  · show ix0 (F := Ideal) (tbl m) 1 (grid0.coords t) 2 * 1024 + 1 * (j 2).val = _; rw [(ix_1 m t).2.2]; omega

theorem b_2 (j : S1x64x1024.Idx) : (iblk m (ok m) c 2 t : Vec Ideal S1x64x1024 .f32) j = aW m c (64 * t.val + (j 1).val) (j 2).val := by
  unfold iblk
  refine (View.read_apply ..).trans ?_
  refine at3_eq (n := 2) (a := 128) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 64 + 1 * (j 1).val = _; rw [(ix_2 m t).2.1]; omega
  · show ix0 (F := Ideal) (tbl m) 2 (grid0.coords t) 2 * 1024 + 1 * (j 2).val = _; rw [(ix_2 m t).2.2]; omega

theorem b_3 (j : S1x64x1024.Idx) : (iblk m (ok m) c 3 t : Vec Ideal S1x64x1024 .f32) j = aM m c (64 * t.val + (j 1).val) (j 2).val := by
  unfold iblk
  refine (View.read_apply ..).trans ?_
  refine at3_eq (n := 2) (a := 128) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 64 + 1 * (j 1).val = _; rw [(ix_3 m t).2.1]; omega
  · show ix0 (F := Ideal) (tbl m) 3 (grid0.coords t) 2 * 1024 + 1 * (j 2).val = _; rw [(ix_3 m t).2.2]; omega

theorem b_4 (j : S1x64x1024.Idx) : (iblk m (ok m) c 4 t : Vec Ideal S1x64x1024 .f32) j = aU m c (64 * t.val + (j 1).val) (j 2).val := by
  unfold iblk
  refine (View.read_apply ..).trans ?_
  refine at3_eq (n := 2) (a := 128) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 64 + 1 * (j 1).val = _; rw [(ix_4 m t).2.1]; omega
  · show ix0 (F := Ideal) (tbl m) 4 (grid0.coords t) 2 * 1024 + 1 * (j 2).val = _; rw [(ix_4 m t).2.2]; omega

theorem o_5 (j : S1x64x1024.Idx) : (outsAt0 m (ok m) c t).1 j = rG m c (64 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (64 * t.val) (b_0 m c t) (b_1 m c t) (j 1) (j 2)

theorem o_6 (j : S1x64x1024.Idx) : (outsAt0 m (ok m) c t).2.1 j = rD m c (64 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (64 * t.val) (b_2 m c t) (b_3 m c t) (b_4 m c t) _ j).trans ?_
  rw [show _ = _ from g_eq _ _ (aS m c) (aL m c) (64 * t.val) (b_0 m c t) (b_1 m c t) (j 1) (j 2)]

theorem o_7 (j : S1x64x1024.Idx) : (outsAt0 m (ok m) c t).2.2.1 j = rM m c (64 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (64 * t.val) (b_3 m c t) _ (j 1) (j 2)).trans ?_
  rw [show _ = _ from g_eq _ _ (aS m c) (aL m c) (64 * t.val) (b_0 m c t) (b_1 m c t) (j 1) (j 2)]

theorem o_8 (j : S1x64x1024.Idx) : (outsAt0 m (ok m) c t).2.2.2 j = rU m c (64 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (64 * t.val) (b_4 m c t) _ (j 1) (j 2)).trans ?_
  rw [show _ = _ from g_eq _ _ (aS m c) (aL m c) (64 * t.val) (b_0 m c t) (b_1 m c t) (j 1) (j 2)]

end

abbrev rc_5 (t : Fin (cfgM m (ok m)).N) : Rect S2x128x1024 :=
  Rect.unit (fun a => ix0 (F := Ideal) (tbl m) 5 (grid0.coords t) a * S1x64x1024.size a) S1x64x1024.size (fun a => by
    have h := hinb0 (F := Ideal) (tbl m) (ok m) 5 (grid0.coords t) a
    rw [Nat.add_mul, one_mul] at h
    exact h)

theorem mem_5 (t : Fin (cfgM m (ok m)).N) (i : S2x128x1024.Idx) : i ∈ ((View.whole main_v2_0).slice (rc_5 m t)).set
    ↔ ∀ a : Fin 3, ix0 (F := Ideal) (tbl m) 5 (grid0.coords t) a * S1x64x1024.size a ≤ (i a).val
      ∧ (i a).val < ix0 (F := Ideal) (tbl m) 5 (grid0.coords t) a * S1x64x1024.size a + S1x64x1024.size a := by
  rw [View.set_slice_whole]
  exact Rect.mem_set_unit

theorem final_5 (i : S2x128x1024.Idx) : ((dats m (ok m) 0 c).arrAt 5 (cfgM m (ok m)).N : S2x128x1024.Idx → EReal) i
    = if (i 0).val = 1 then rG m c (i 1).val (i 2).val else (V m c main_v2_0 : S2x128x1024.Idx → EReal) i := by
  refine ((dats m (ok m) 0 c).arrAt_eq_piecewise 5
    (fun i : S2x128x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x64x1024.Idx) => ?_
    show (outsAt0 m (ok m) c t).1 j = rG m c (ix0 (F := Ideal) (tbl m) 5 (grid0.coords t) 1 * 64 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 1
    · rw [if_pos h]
      refine if_pos ⟨⟨(i 1).val / 64, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 64 ≤ (i 1).val ∧ (i 1).val < ix0 (F := Ideal) (tbl m) 5 (grid0.coords _) 1 * 64 + 64; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e := (mem_5 m t i).mp hm 0
      have l : ix0 (F := Ideal) (tbl m) 5 (grid0.coords t) 0 * 1 ≤ (i 0).val := e.1
      have u : (i 0).val < ix0 (F := Ideal) (tbl m) 5 (grid0.coords t) 0 * 1 + 1 := e.2
      rw [(ix_5 m t).1] at l u
      omega

abbrev rc_6 (t : Fin (cfgM m (ok m)).N) : Rect S2x128x1024 :=
  Rect.unit (fun a => ix0 (F := Ideal) (tbl m) 6 (grid0.coords t) a * S1x64x1024.size a) S1x64x1024.size (fun a => by
    have h := hinb0 (F := Ideal) (tbl m) (ok m) 6 (grid0.coords t) a
    rw [Nat.add_mul, one_mul] at h
    exact h)

theorem mem_6 (t : Fin (cfgM m (ok m)).N) (i : S2x128x1024.Idx) : i ∈ ((View.whole main_v2_1).slice (rc_6 m t)).set
    ↔ ∀ a : Fin 3, ix0 (F := Ideal) (tbl m) 6 (grid0.coords t) a * S1x64x1024.size a ≤ (i a).val
      ∧ (i a).val < ix0 (F := Ideal) (tbl m) 6 (grid0.coords t) a * S1x64x1024.size a + S1x64x1024.size a := by
  rw [View.set_slice_whole]
  exact Rect.mem_set_unit

theorem final_6 (i : S2x128x1024.Idx) : ((dats m (ok m) 0 c).arrAt 6 (cfgM m (ok m)).N : S2x128x1024.Idx → EReal) i
    = if (i 0).val = 1 then rD m c (i 1).val (i 2).val else (V m c main_v2_1 : S2x128x1024.Idx → EReal) i := by
  refine ((dats m (ok m) 0 c).arrAt_eq_piecewise 6
    (fun i : S2x128x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x64x1024.Idx) => ?_
    show (outsAt0 m (ok m) c t).2.1 j = rD m c (ix0 (F := Ideal) (tbl m) 6 (grid0.coords t) 1 * 64 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 1
    · rw [if_pos h]
      refine if_pos ⟨⟨(i 1).val / 64, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 64 ≤ (i 1).val ∧ (i 1).val < ix0 (F := Ideal) (tbl m) 6 (grid0.coords _) 1 * 64 + 64; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e := (mem_6 m t i).mp hm 0
      have l : ix0 (F := Ideal) (tbl m) 6 (grid0.coords t) 0 * 1 ≤ (i 0).val := e.1
      have u : (i 0).val < ix0 (F := Ideal) (tbl m) 6 (grid0.coords t) 0 * 1 + 1 := e.2
      rw [(ix_6 m t).1] at l u
      omega

abbrev rc_7 (t : Fin (cfgM m (ok m)).N) : Rect S2x128x1024 :=
  Rect.unit (fun a => ix0 (F := Ideal) (tbl m) 7 (grid0.coords t) a * S1x64x1024.size a) S1x64x1024.size (fun a => by
    have h := hinb0 (F := Ideal) (tbl m) (ok m) 7 (grid0.coords t) a
    rw [Nat.add_mul, one_mul] at h
    exact h)

theorem mem_7 (t : Fin (cfgM m (ok m)).N) (i : S2x128x1024.Idx) : i ∈ ((View.whole main_v2_2).slice (rc_7 m t)).set
    ↔ ∀ a : Fin 3, ix0 (F := Ideal) (tbl m) 7 (grid0.coords t) a * S1x64x1024.size a ≤ (i a).val
      ∧ (i a).val < ix0 (F := Ideal) (tbl m) 7 (grid0.coords t) a * S1x64x1024.size a + S1x64x1024.size a := by
  rw [View.set_slice_whole]
  exact Rect.mem_set_unit

theorem final_7 (i : S2x128x1024.Idx) : ((dats m (ok m) 0 c).arrAt 7 (cfgM m (ok m)).N : S2x128x1024.Idx → EReal) i
    = if (i 0).val = 1 then rM m c (i 1).val (i 2).val else (V m c main_v2_2 : S2x128x1024.Idx → EReal) i := by
  refine ((dats m (ok m) 0 c).arrAt_eq_piecewise 7
    (fun i : S2x128x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x64x1024.Idx) => ?_
    show (outsAt0 m (ok m) c t).2.2.1 j = rM m c (ix0 (F := Ideal) (tbl m) 7 (grid0.coords t) 1 * 64 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 1
    · rw [if_pos h]
      refine if_pos ⟨⟨(i 1).val / 64, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 64 ≤ (i 1).val ∧ (i 1).val < ix0 (F := Ideal) (tbl m) 7 (grid0.coords _) 1 * 64 + 64; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e := (mem_7 m t i).mp hm 0
      have l : ix0 (F := Ideal) (tbl m) 7 (grid0.coords t) 0 * 1 ≤ (i 0).val := e.1
      have u : (i 0).val < ix0 (F := Ideal) (tbl m) 7 (grid0.coords t) 0 * 1 + 1 := e.2
      rw [(ix_7 m t).1] at l u
      omega

abbrev rc_8 (t : Fin (cfgM m (ok m)).N) : Rect S2x128x1024 :=
  Rect.unit (fun a => ix0 (F := Ideal) (tbl m) 8 (grid0.coords t) a * S1x64x1024.size a) S1x64x1024.size (fun a => by
    have h := hinb0 (F := Ideal) (tbl m) (ok m) 8 (grid0.coords t) a
    rw [Nat.add_mul, one_mul] at h
    exact h)

theorem mem_8 (t : Fin (cfgM m (ok m)).N) (i : S2x128x1024.Idx) : i ∈ ((View.whole main_v2_3).slice (rc_8 m t)).set
    ↔ ∀ a : Fin 3, ix0 (F := Ideal) (tbl m) 8 (grid0.coords t) a * S1x64x1024.size a ≤ (i a).val
      ∧ (i a).val < ix0 (F := Ideal) (tbl m) 8 (grid0.coords t) a * S1x64x1024.size a + S1x64x1024.size a := by
  rw [View.set_slice_whole]
  exact Rect.mem_set_unit

theorem final_8 (i : S2x128x1024.Idx) : ((dats m (ok m) 0 c).arrAt 8 (cfgM m (ok m)).N : S2x128x1024.Idx → EReal) i
    = if (i 0).val = 1 then rU m c (i 1).val (i 2).val else (V m c main_v2_3 : S2x128x1024.Idx → EReal) i := by
  refine ((dats m (ok m) 0 c).arrAt_eq_piecewise 8
    (fun i : S2x128x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x64x1024.Idx) => ?_
    show (outsAt0 m (ok m) c t).2.2.2 j = rU m c (ix0 (F := Ideal) (tbl m) 8 (grid0.coords t) 1 * 64 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 128 := (i 1).isLt
    have b2 : (i 2 : Nat) < 1024 := (i 2).isLt
    by_cases h : (i 0).val = 1
    · rw [if_pos h]
      refine if_pos ⟨⟨(i 1).val / 64, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 64 ≤ (i 1).val ∧ (i 1).val < ix0 (F := Ideal) (tbl m) 8 (grid0.coords _) 1 * 64 + 64; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e := (mem_8 m t i).mp hm 0
      have l : ix0 (F := Ideal) (tbl m) 8 (grid0.coords t) 0 * 1 ≤ (i 0).val := e.1
      have u : (i 0).val < ix0 (F := Ideal) (tbl m) 8 (grid0.coords t) 0 * 1 + 1 := e.2
      rw [(ix_8 m t).1] at l u
      omega

end

end Cert.NextWo

end
-- ==== Proof.NextWo.lean ====
/- The sum of the slabs and the optimiser's step of one weight: the second layer's planes of the kernel's four arrays are the reference's. -/
module

public import proofs.«01_k».proof.Proof.NextWoRun
public import proofs.«01_k».proof.Proof.Gen.ReferenceNextWoIdeal.Read
public import proofs.«01_k».proof.Defs

@[expose] public section

noncomputable section

namespace Cert.NextWo

open Cert.KernelNextWoIdeal Cert.KernelNextWoIdeal.Gen Idealize.ShloMosaic Idealize.ShloMosaic.TcCoe Idealize.ShloMosaic.Tactic Idealize.SL.Sem
open Cert.ReferenceNextWoIdeal.Read Cert.StepSum

section
variable (x0 : Vec Ideal S8x128x1024 .bf16) (x1 : Vec Ideal S7x128x1024 .bf16) (x2 x3 x4 : Vec Ideal S2x128x1024 .f32)

/-- The reference's second layer, entry by entry. -/
abbrev eG (p q : ℕ) : EReal := total (at3 (n := 8) (a := 128) (b := 1024) x0 0 p q) (fun k => at3 (n := 7) (a := 128) (b := 1024) x1 k p q)
abbrev eM (p q : ℕ) : EReal := mom (eG x0 x1 p q) (at3 (n := 2) (a := 128) (b := 1024) x3 1 p q)
abbrev eU (p q : ℕ) : EReal := sq (eG x0 x1 p q) (at3 (n := 2) (a := 128) (b := 1024) x4 1 p q)
abbrev eD (p q : ℕ) : EReal := upd (at3 (n := 2) (a := 128) (b := 1024) x2 1 p q) (eM x0 x1 x3 p q) (eU x0 x1 x4 p q)

theorem ref_g (i : Cert.ReferenceNextWoIdeal.S128x1024.Idx) : val_main_v5 (F := Ideal) x0 x1 i = eG x0 x1 (i 0).val (i 1).val := by
  have h0 : (i 0).val < 128 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 128) (b := 1024) _ _ _ _ _ rfl ?_ ?_
    · show ((i 0).val * 1024 + (i 1).val) / 1024 % 128 = _; omega
    · show ((i 0).val * 1024 + (i 1).val) % 1024 = _; omega
  · exact Finset.sum_congr rfl fun k _ => at3_eq (n := 7) (a := 128) (b := 1024) _ _ _ _ _ rfl rfl rfl

theorem ref_2 (i : Cert.ReferenceNextWoIdeal.S128x1024.Idx) : val_main_v7 (F := Ideal) x2 i = at3 (n := 2) (a := 128) (b := 1024) x2 1 (i 0).val (i 1).val := by
  have h0 : (i 0).val < 128 := (i 0).isLt
  have h1 : (i 1).val < 1024 := (i 1).isLt
  rw [val_main_v7_apply, val_main_v6_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_3 (i : Cert.ReferenceNextWoIdeal.S128x1024.Idx) : val_main_v9 (F := Ideal) x3 i = at3 (n := 2) (a := 128) (b := 1024) x3 1 (i 0).val (i 1).val := by
  have h0 : (i 0).val < 128 := (i 0).isLt
  have h1 : (i 1).val < 1024 := (i 1).isLt
  rw [val_main_v9_apply, val_main_v8_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_4 (i : Cert.ReferenceNextWoIdeal.S128x1024.Idx) : val_main_v11 (F := Ideal) x4 i = at3 (n := 2) (a := 128) (b := 1024) x4 1 (i 0).val (i 1).val := by
  have h0 : (i 0).val < 128 := (i 0).isLt
  have h1 : (i 1).val < 1024 := (i 1).isLt
  rw [val_main_v11_apply, val_main_v10_apply]
  refine at3_eq (n := 2) (a := 128) (b := 1024) _ _ _ _ _ rfl ?_ ?_
  · show ((i 0).val * 1024 + (i 1).val) / 1024 % 128 = _; omega
  · show ((i 0).val * 1024 + (i 1).val) % 1024 = _; omega

theorem ref_m (i : Cert.ReferenceNextWoIdeal.S128x1024.Idx) : val_main_v16 (F := Ideal) x0 x1 x3 i = eM x0 x1 x3 (i 0).val (i 1).val := by
  rw [val_main_v16_apply, val_main_v13_apply, val_main_v15_apply, val_main_v12_apply, val_main_v14_apply, ref_g, ref_3]
  rfl

theorem ref_u (i : Cert.ReferenceNextWoIdeal.S128x1024.Idx) : val_main_v22 (F := Ideal) x0 x1 x4 i = eU x0 x1 x4 (i 0).val (i 1).val := by
  rw [val_main_v22_apply, val_main_v18_apply, val_main_v21_apply, val_main_v19_apply, val_main_v17_apply, val_main_v20_apply, ref_g, ref_4]
  rfl

theorem ref_d (i : Cert.ReferenceNextWoIdeal.S128x1024.Idx) : val_main_v35 (F := Ideal) x0 x1 x2 x3 x4 i = eD x0 x1 x2 x3 x4 (i 0).val (i 1).val := by
  rw [val_main_v35_apply, val_main_v33_apply, val_main_v30_apply, val_main_v32_apply, val_main_v24_apply, val_main_v29_apply, val_main_v27_apply,
    val_main_v26_apply, val_main_v34_apply, val_main_v31_apply, val_main_v23_apply, val_main_v25_apply, val_main_v28_apply, ref_m, ref_u, ref_2]
  rfl

end

variable (m : (ℓ : Loc nD τ sig) → Buf (Elt Ideal) ℓ) (c : Dev nD)

abbrev A0 : Vec Ideal S8x128x1024 .bf16 := m (c.tc.loc main_arg0)
abbrev A1 : Vec Ideal S7x128x1024 .bf16 := m (c.tc.loc main_arg1)
abbrev A2 : Vec Ideal S2x128x1024 .f32 := m (c.tc.loc main_arg2)
abbrev A3 : Vec Ideal S2x128x1024 .f32 := m (c.tc.loc main_arg3)
abbrev A4 : Vec Ideal S2x128x1024 .f32 := m (c.tc.loc main_arg4)

/-- The kernel's four results, as the reference's functions of the arguments. -/
def resG : Buf (Elt Ideal) ((c : Thread nD τ).loc main_v4) := val_main_v5 (F := Ideal) (A0 m c) (A1 m c)
def resD : Buf (Elt Ideal) ((c : Thread nD τ).loc main_v6) := val_main_v35 (F := Ideal) (A0 m c) (A1 m c) (A2 m c) (A3 m c) (A4 m c)
def resM : Buf (Elt Ideal) ((c : Thread nD τ).loc main_v8) := val_main_v16 (F := Ideal) (A0 m c) (A1 m c) (A3 m c)
def resU : Buf (Elt Ideal) ((c : Thread nD τ).loc main_v10) := val_main_v22 (F := Ideal) (A0 m c) (A1 m c) (A4 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

/-- The second plane of an array. -/
abbrev at1 (i : S128x1024.Idx) : S2x128x1024.Idx := fun a => match a with
  | ⟨0, _⟩ => ⟨1, by show (1 : ℕ) < 2; omega⟩
  | ⟨1, _⟩ => ⟨(i 0).val, (i 0).isLt⟩
  | ⟨2, _⟩ => ⟨(i 1).val, (i 1).isLt⟩

/-- The slice of the second plane, its first axis dropped, read at an entry. -/
theorem plane_1 (x : Vec Ideal S2x128x1024 .f32) (i : S128x1024.Idx) :
    (shapeCast S128x1024 (extractStridedSlice S1x128x1024 ![1, 0, 0] x slices_S2x128x1024_S1x128x1024_1_0_0) shapeCasts_S1x128x1024_S128x1024 : Vec Ideal S128x1024 .f32) i = x (at1 i) := by
  have h0 : (i 0).val < 128 := (i 0).isLt
  have h1 : (i 1).val < 1024 := (i 1).isLt
  refine (val_main_v7_apply (F := Ideal) x i).trans ?_
  rw [val_main_v6_apply]
  congr 1
  funext a
  apply Fin.ext
  match a with
  | ⟨0, _⟩ => rfl
  | ⟨1, _⟩ => show ((i 0).val * 1024 + (i 1).val) / 1024 % 128 = (i 0).val; omega
  | ⟨2, _⟩ => show ((i 0).val * 1024 + (i 1).val) % 1024 = (i 1).val; omega

/-- The contents the host's last lines read. -/
abbrev mid : Valuation τ sig (Elt Ideal) :=
  Pipeline.withArrays (Pipeline.pin pcfgs (fun _ => adm m (ok m)) 0).spec c (V0 m c) fun w => (dats m (ok m) 0 c).arrAt w (Pipeline.pin pcfgs (fun _ => adm m (ok m)) 0).N

theorem mid_5 : mid m c (Proc.devRef .tc main_v2_0) = (dats m (ok m) 0 c).arrAt 5 (cfgM m (ok m)).N :=
  Pipeline.withArrays_arr (Pipeline.pin pcfgs (fun _ => adm m (ok m)) 0).spec (show Function.Injective (Pipeline.arrRef spec0) by decide) c (V0 m c) _ 5

theorem last_5 : Pipeline.afterTail pcfgs (fun _ => adm m (ok m)) (dats m (ok m)) 0 (V0 m) [hostOps1] c main_v4 = resG m c := by
  have e : Pipeline.afterTail pcfgs (fun _ => adm m (ok m)) (dats m (ok m)) 0 (V0 m) [hostOps1] c main_v4
      = shapeCast S128x1024 (extractStridedSlice S1x128x1024 ![1, 0, 0] (mid m c (Proc.devRef .tc main_v2_0) : Vec Ideal S2x128x1024 .f32) slices_S2x128x1024_S1x128x1024_1_0_0) shapeCasts_S1x128x1024_S128x1024 := by
    show StableHlo.after hostOps1 (mid m c) _ = _
    simp only [hostOps1]
    after_results_simp <;> rfl
  rw [e, mid_5]
  funext i
  refine (plane_1 _ i).trans ((final_5 m c (at1 i)).trans ?_)
  refine (if_pos (show ((at1 i) 0).val = 1 from rfl)).trans ?_
  refine Eq.trans ?_ (ref_g (A0 m c) (A1 m c) i).symm
  simp only [rG, aS, aL, arg_0 m c, arg_1 m c]
  rfl

theorem mid_6 : mid m c (Proc.devRef .tc main_v2_1) = (dats m (ok m) 0 c).arrAt 6 (cfgM m (ok m)).N :=
  Pipeline.withArrays_arr (Pipeline.pin pcfgs (fun _ => adm m (ok m)) 0).spec (show Function.Injective (Pipeline.arrRef spec0) by decide) c (V0 m c) _ 6

theorem last_6 : Pipeline.afterTail pcfgs (fun _ => adm m (ok m)) (dats m (ok m)) 0 (V0 m) [hostOps1] c main_v6 = resD m c := by
  have e : Pipeline.afterTail pcfgs (fun _ => adm m (ok m)) (dats m (ok m)) 0 (V0 m) [hostOps1] c main_v6
      = shapeCast S128x1024 (extractStridedSlice S1x128x1024 ![1, 0, 0] (mid m c (Proc.devRef .tc main_v2_1) : Vec Ideal S2x128x1024 .f32) slices_S2x128x1024_S1x128x1024_1_0_0) shapeCasts_S1x128x1024_S128x1024 := by
    show StableHlo.after hostOps1 (mid m c) _ = _
    simp only [hostOps1]
    after_results_simp <;> rfl
  rw [e, mid_6]
  funext i
  refine (plane_1 _ i).trans ((final_6 m c (at1 i)).trans ?_)
  refine (if_pos (show ((at1 i) 0).val = 1 from rfl)).trans ?_
  refine Eq.trans ?_ (ref_d (A0 m c) (A1 m c) (A2 m c) (A3 m c) (A4 m c) i).symm
  simp only [rD, rM, rU, rG, aS, aL, aW, aM, aU, arg_0 m c, arg_1 m c, arg_2 m c, arg_3 m c, arg_4 m c]
  rfl

theorem mid_7 : mid m c (Proc.devRef .tc main_v2_2) = (dats m (ok m) 0 c).arrAt 7 (cfgM m (ok m)).N :=
  Pipeline.withArrays_arr (Pipeline.pin pcfgs (fun _ => adm m (ok m)) 0).spec (show Function.Injective (Pipeline.arrRef spec0) by decide) c (V0 m c) _ 7

theorem last_7 : Pipeline.afterTail pcfgs (fun _ => adm m (ok m)) (dats m (ok m)) 0 (V0 m) [hostOps1] c main_v8 = resM m c := by
  have e : Pipeline.afterTail pcfgs (fun _ => adm m (ok m)) (dats m (ok m)) 0 (V0 m) [hostOps1] c main_v8
      = shapeCast S128x1024 (extractStridedSlice S1x128x1024 ![1, 0, 0] (mid m c (Proc.devRef .tc main_v2_2) : Vec Ideal S2x128x1024 .f32) slices_S2x128x1024_S1x128x1024_1_0_0) shapeCasts_S1x128x1024_S128x1024 := by
    show StableHlo.after hostOps1 (mid m c) _ = _
    simp only [hostOps1]
    after_results_simp <;> rfl
  rw [e, mid_7]
  funext i
  refine (plane_1 _ i).trans ((final_7 m c (at1 i)).trans ?_)
  refine (if_pos (show ((at1 i) 0).val = 1 from rfl)).trans ?_
  refine Eq.trans ?_ (ref_m (A0 m c) (A1 m c) (A3 m c) i).symm
  simp only [rM, rG, aS, aL, aM, arg_0 m c, arg_1 m c, arg_3 m c]
  rfl

theorem mid_8 : mid m c (Proc.devRef .tc main_v2_3) = (dats m (ok m) 0 c).arrAt 8 (cfgM m (ok m)).N :=
  Pipeline.withArrays_arr (Pipeline.pin pcfgs (fun _ => adm m (ok m)) 0).spec (show Function.Injective (Pipeline.arrRef spec0) by decide) c (V0 m c) _ 8

theorem last_8 : Pipeline.afterTail pcfgs (fun _ => adm m (ok m)) (dats m (ok m)) 0 (V0 m) [hostOps1] c main_v10 = resU m c := by
  have e : Pipeline.afterTail pcfgs (fun _ => adm m (ok m)) (dats m (ok m)) 0 (V0 m) [hostOps1] c main_v10
      = shapeCast S128x1024 (extractStridedSlice S1x128x1024 ![1, 0, 0] (mid m c (Proc.devRef .tc main_v2_3) : Vec Ideal S2x128x1024 .f32) slices_S2x128x1024_S1x128x1024_1_0_0) shapeCasts_S1x128x1024_S128x1024 := by
    show StableHlo.after hostOps1 (mid m c) _ = _
    simp only [hostOps1]
    after_results_simp <;> rfl
  rw [e, mid_8]
  funext i
  refine (plane_1 _ i).trans ((final_8 m c (at1 i)).trans ?_)
  refine (if_pos (show ((at1 i) 0).val = 1 from rfl)).trans ?_
  refine Eq.trans ?_ (ref_u (A0 m c) (A1 m c) (A4 m c) i).symm
  simp only [rU, rG, aS, aL, aU, arg_0 m c, arg_1 m c, arg_4 m c]
  rfl

/-- The kernel and the reference sum the same gradient and take the same step. -/
theorem algebraic : Cert.algebraic_KernelNextWoIdeal_ReferenceNextWoIdeal := by
  intro m ρ m' ρ' _ hagree
  refine ⟨fun c => resG m c, fun c => resD m c, fun c => resM m c, fun c => resU m c, ?_, ?_⟩
  · refine (θ_run Cert.KernelNextWoIdeal.defs _ _).mono (fun _ h c => ?_) (θ_run_and (unchanged m ρ (ok m)) (run_main m ρ (ok m)))
    have q : ∀ b ∈ Pipeline.restRefs sig spec0, _ := (h.2 c).2
    exact ⟨(q main_v4 (by decide)).trans (last_5 m c), (q main_v6 (by decide)).trans (last_6 m c),
      (q main_v8 (by decide)).trans (last_7 m c), (q main_v10 (by decide)).trans (last_8 m c), h.1 c⟩
  · refine (θ_run Cert.ReferenceNextWoIdeal.defs _ _).mono (fun _ h c => ?_) (Cert.ReferenceNextWoIdeal.Value.run (F := Ideal) m' ρ')
    obtain ⟨a0, a1, a2, a3, a4⟩ := hagree c
    refine ⟨(h c).1.trans ?_, (h c).2.1.trans ?_, (h c).2.2.1.trans ?_, (h c).2.2.2.1.trans ?_, (h c).2.2.2.2⟩
    · refine (val_main_v5_eq (F := Ideal) _ _).trans ?_
      rw [a0, a1]
      rfl
    · refine (val_main_v35_eq (F := Ideal) _ _ _ _ _).trans ?_
      rw [a0, a1, a2, a3, a4]
      rfl
    · refine (val_main_v16_eq (F := Ideal) _ _ _).trans ?_
      rw [a0, a1, a3]
      rfl
    · refine (val_main_v22_eq (F := Ideal) _ _ _).trans ?_
      rw [a0, a1, a4]
      rfl

end Cert.NextWo

end
-- ==== Proof.NextInRun.lean ====
/- The summed gradient and the optimiser's step of one layer's weight: what the second layer's call leaves in its blocks. -/
module

public import proofs.«01_k».proof.Defs
public import proofs.«01_k».proof.Proof.StepSum
public import proofs.«01_k».proof.Proof.Gen.KernelNextInIdeal.Frame
public import proofs.«01_k».proof.Proof.Gen.KernelNextIn.Frame

@[expose] public section

set_option maxRecDepth 16384

noncomputable section

namespace Cert.NextIn

open Idealize.ShloMosaic Idealize.ShloMosaic.TcCoe Idealize.SL.Sem Cert.StepSum

/-- The table's only word is zero, so every block lies inside its array. -/
theorem ok_bits (m : (ℓ : Loc Cert.KernelNextIn.nD Cert.KernelNextIn.τ Cert.KernelNextIn.sig) → Buf (Elt Bits) ℓ) : Cert.KernelNextIn.Gen.Ok m := by
  have e : Cert.KernelNextIn.Gen.tbl m 0 = fun _ => (0#32 : BitVec 32) := by
    show StableHlo.after Cert.KernelNextIn.Gen.hostOps0 _ Cert.KernelNextIn.main_v1 = _
    simp only [Cert.KernelNextIn.Gen.hostOps0]
    after_results_simp <;> rfl
  unfold Cert.KernelNextIn.Gen.Ok
  rw [show Cert.KernelNextIn.Gen.tbl m = fun | ⟨0, _⟩ => fun _ => (0#32 : BitVec 32) | ⟨_ + 1, h⟩ => absurd h (by simp) from funext fun j => by
    match j with
    | ⟨0, _⟩ => exact e]
  decide

open Cert.KernelNextInIdeal Cert.KernelNextInIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x144x1024 .bf16) (harg2 : arg2.IsWhole) (arg3 : Memref sig .tc .vmem S7x144x1024 .bf16) (harg3 : arg3.IsWhole) (arg4 : Memref sig .tc .vmem S1x144x1024 .f32) (harg4 : arg4.IsWhole) (arg5 : Memref sig .tc .vmem S1x144x1024 .f32) (harg5 : arg5.IsWhole) (arg6 : Memref sig .tc .vmem S1x144x1024 .f32) (harg6 : arg6.IsWhole) (arg7 : Memref sig .tc .vmem S1x144x1024 .f32) (harg7 : arg7.IsWhole) (arg8 : Memref sig .tc .vmem S1x144x1024 .f32) (harg8 : arg8.IsWhole) (arg9 : Memref sig .tc .vmem S1x144x1024 .f32) (harg9 : arg9.IsWhole) (arg10 : Memref sig .tc .vmem S1x144x1024 .f32) (harg10 : arg10.IsWhole) (x0 : Vec Ideal S1x144x1024 .bf16) (x1 : Vec Ideal S7x144x1024 .bf16) (x2 x3 x4 : Vec Ideal S1x144x1024 .f32) (xt0 : TbBuf0 (F := Ideal) c tbM0_0)

/-- One of the seven blocks that came from the other devices. -/
def plane (x1 : Vec Ideal S7x144x1024 .bf16) (r : Fin 7) : Vec Ideal S1x144x1024 .bf16 := fun j => x1 (ix3 r (j 1) (j 2))

theorem ld_plane (r : Fin 7) (h) : View.ld x1 (Rect.unit (s := S7x144x1024) ![r.val, 0, 0] S1x144x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x144x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg7 harg7 arg8 harg8 arg9 harg9 arg10 harg10 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x144x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg7 harg7 arg8 harg8 arg9 harg9 arg10 harg10 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x144x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg7 harg7 arg8 harg8 arg9 harg9 arg10 harg10 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x144x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg7 harg7 arg8 harg8 arg9 harg9 arg10 harg10 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x144x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x144x1024 .bf16) (x1 : Vec Ideal S7x144x1024 .bf16) (x2 x3 x4 : Vec Ideal S1x144x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 144) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S144x1024 .f32) (j : S1x144x1024.Idx) : k0_pay4 v j = v (ix2 (j 1) (j 2)) := by
  pointwise [k0_pay4]

theorem pay1_eq (v : FVec Ideal S144x1024 .f32) (j : S1x144x1024.Idx) : k0_pay1 v j = v (ix2 (j 1) (j 2)) := by
  pointwise [k0_pay1]

theorem pay2_eq (v : FVec Ideal S144x1024 .f32) (j : S1x144x1024.Idx) : k0_pay2 v j = v (ix2 (j 1) (j 2)) := by
  pointwise [k0_pay2]

theorem pay5_eq (h3 : ∀ j, x3 j = M (o + (j 1).val) (j 2).val) (v : FVec Ideal S144x1024 .f32) (p : Fin 144) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S144x1024 .f32) (p : Fin 144) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S144x1024 .f32) (j : S1x144x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 288) (b := 1024) (V m c main_arg0) 0 p q
abbrev aL (k p q : ℕ) : EReal := at3 (n := 7) (a := 288) (b := 1024) (V m c main_arg1) k p q
abbrev aW (p q : ℕ) : EReal := at3 (n := 2) (a := 288) (b := 1024) (V m c main_arg2) 1 p q
abbrev aM (p q : ℕ) : EReal := at3 (n := 2) (a := 288) (b := 1024) (V m c main_arg3) 1 p q
abbrev aU (p q : ℕ) : EReal := at3 (n := 2) (a := 288) (b := 1024) (V m c main_arg4) 1 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 1 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 1 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 1 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 1 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 1 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 1 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 1 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x144x1024.Idx) : (iblk m (ok m) c 0 t : Vec Ideal S1x144x1024 .bf16) j = aS m c (144 * t.val + (j 1).val) (j 2).val := by
  unfold iblk
  refine (View.read_apply ..).trans ?_
  refine at3_eq (n := 8) (a := 288) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 144 + 1 * (j 1).val = _; rw [(ix_0 m t).2.1]; omega
  · show ix0 (F := Ideal) (tbl m) 0 (grid0.coords t) 2 * 1024 + 1 * (j 2).val = _; rw [(ix_0 m t).2.2]; omega

theorem b_1 (j : S7x144x1024.Idx) : (iblk m (ok m) c 1 t : Vec Ideal S7x144x1024 .bf16) j = aL m c (j 0).val (144 * t.val + (j 1).val) (j 2).val := by
  unfold iblk
  refine (View.read_apply ..).trans ?_
  refine at3_eq (n := 7) (a := 288) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 144 + 1 * (j 1).val = _; rw [(ix_1 m t).2.1]; omega
  · show ix0 (F := Ideal) (tbl m) 1 (grid0.coords t) 2 * 1024 + 1 * (j 2).val = _; rw [(ix_1 m t).2.2]; omega

theorem b_2 (j : S1x144x1024.Idx) : (iblk m (ok m) c 2 t : Vec Ideal S1x144x1024 .f32) j = aW m c (144 * t.val + (j 1).val) (j 2).val := by
  unfold iblk
  refine (View.read_apply ..).trans ?_
  refine at3_eq (n := 2) (a := 288) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 144 + 1 * (j 1).val = _; rw [(ix_2 m t).2.1]; omega
  · show ix0 (F := Ideal) (tbl m) 2 (grid0.coords t) 2 * 1024 + 1 * (j 2).val = _; rw [(ix_2 m t).2.2]; omega

theorem b_3 (j : S1x144x1024.Idx) : (iblk m (ok m) c 3 t : Vec Ideal S1x144x1024 .f32) j = aM m c (144 * t.val + (j 1).val) (j 2).val := by
  unfold iblk
  refine (View.read_apply ..).trans ?_
  refine at3_eq (n := 2) (a := 288) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 144 + 1 * (j 1).val = _; rw [(ix_3 m t).2.1]; omega
  · show ix0 (F := Ideal) (tbl m) 3 (grid0.coords t) 2 * 1024 + 1 * (j 2).val = _; rw [(ix_3 m t).2.2]; omega

theorem b_4 (j : S1x144x1024.Idx) : (iblk m (ok m) c 4 t : Vec Ideal S1x144x1024 .f32) j = aU m c (144 * t.val + (j 1).val) (j 2).val := by
  unfold iblk
  refine (View.read_apply ..).trans ?_
  refine at3_eq (n := 2) (a := 288) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 144 + 1 * (j 1).val = _; rw [(ix_4 m t).2.1]; omega
  · show ix0 (F := Ideal) (tbl m) 4 (grid0.coords t) 2 * 1024 + 1 * (j 2).val = _; rw [(ix_4 m t).2.2]; omega

theorem o_5 (j : S1x144x1024.Idx) : (outsAt0 m (ok m) c t).1 j = rG m c (144 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (144 * t.val) (b_0 m c t) (b_1 m c t) (j 1) (j 2)

theorem o_6 (j : S1x144x1024.Idx) : (outsAt0 m (ok m) c t).2.1 j = rD m c (144 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (144 * t.val) (b_2 m c t) (b_3 m c t) (b_4 m c t) _ j).trans ?_
  rw [show _ = _ from g_eq _ _ (aS m c) (aL m c) (144 * t.val) (b_0 m c t) (b_1 m c t) (j 1) (j 2)]

theorem o_7 (j : S1x144x1024.Idx) : (outsAt0 m (ok m) c t).2.2.1 j = rM m c (144 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (144 * t.val) (b_3 m c t) _ (j 1) (j 2)).trans ?_
  rw [show _ = _ from g_eq _ _ (aS m c) (aL m c) (144 * t.val) (b_0 m c t) (b_1 m c t) (j 1) (j 2)]

theorem o_8 (j : S1x144x1024.Idx) : (outsAt0 m (ok m) c t).2.2.2 j = rU m c (144 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (144 * t.val) (b_4 m c t) _ (j 1) (j 2)).trans ?_
  rw [show _ = _ from g_eq _ _ (aS m c) (aL m c) (144 * t.val) (b_0 m c t) (b_1 m c t) (j 1) (j 2)]

end

abbrev rc_5 (t : Fin (cfgM m (ok m)).N) : Rect S2x288x1024 :=
  Rect.unit (fun a => ix0 (F := Ideal) (tbl m) 5 (grid0.coords t) a * S1x144x1024.size a) S1x144x1024.size (fun a => by
    have h := hinb0 (F := Ideal) (tbl m) (ok m) 5 (grid0.coords t) a
    rw [Nat.add_mul, one_mul] at h
    exact h)

theorem mem_5 (t : Fin (cfgM m (ok m)).N) (i : S2x288x1024.Idx) : i ∈ ((View.whole main_v2_0).slice (rc_5 m t)).set
    ↔ ∀ a : Fin 3, ix0 (F := Ideal) (tbl m) 5 (grid0.coords t) a * S1x144x1024.size a ≤ (i a).val
      ∧ (i a).val < ix0 (F := Ideal) (tbl m) 5 (grid0.coords t) a * S1x144x1024.size a + S1x144x1024.size a := by
  rw [View.set_slice_whole]
  exact Rect.mem_set_unit

theorem final_5 (i : S2x288x1024.Idx) : ((dats m (ok m) 0 c).arrAt 5 (cfgM m (ok m)).N : S2x288x1024.Idx → EReal) i
    = if (i 0).val = 1 then rG m c (i 1).val (i 2).val else (V m c main_v2_0 : S2x288x1024.Idx → EReal) i := by
  refine ((dats m (ok m) 0 c).arrAt_eq_piecewise 5
    (fun i : S2x288x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x144x1024.Idx) => ?_
    show (outsAt0 m (ok m) c t).1 j = rG m c (ix0 (F := Ideal) (tbl m) 5 (grid0.coords t) 1 * 144 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 1
    · rw [if_pos h]
      refine if_pos ⟨⟨(i 1).val / 144, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 144 ≤ (i 1).val ∧ (i 1).val < ix0 (F := Ideal) (tbl m) 5 (grid0.coords _) 1 * 144 + 144; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e := (mem_5 m t i).mp hm 0
      have l : ix0 (F := Ideal) (tbl m) 5 (grid0.coords t) 0 * 1 ≤ (i 0).val := e.1
      have u : (i 0).val < ix0 (F := Ideal) (tbl m) 5 (grid0.coords t) 0 * 1 + 1 := e.2
      rw [(ix_5 m t).1] at l u
      omega

abbrev rc_6 (t : Fin (cfgM m (ok m)).N) : Rect S2x288x1024 :=
  Rect.unit (fun a => ix0 (F := Ideal) (tbl m) 6 (grid0.coords t) a * S1x144x1024.size a) S1x144x1024.size (fun a => by
    have h := hinb0 (F := Ideal) (tbl m) (ok m) 6 (grid0.coords t) a
    rw [Nat.add_mul, one_mul] at h
    exact h)

theorem mem_6 (t : Fin (cfgM m (ok m)).N) (i : S2x288x1024.Idx) : i ∈ ((View.whole main_v2_1).slice (rc_6 m t)).set
    ↔ ∀ a : Fin 3, ix0 (F := Ideal) (tbl m) 6 (grid0.coords t) a * S1x144x1024.size a ≤ (i a).val
      ∧ (i a).val < ix0 (F := Ideal) (tbl m) 6 (grid0.coords t) a * S1x144x1024.size a + S1x144x1024.size a := by
  rw [View.set_slice_whole]
  exact Rect.mem_set_unit

theorem final_6 (i : S2x288x1024.Idx) : ((dats m (ok m) 0 c).arrAt 6 (cfgM m (ok m)).N : S2x288x1024.Idx → EReal) i
    = if (i 0).val = 1 then rD m c (i 1).val (i 2).val else (V m c main_v2_1 : S2x288x1024.Idx → EReal) i := by
  refine ((dats m (ok m) 0 c).arrAt_eq_piecewise 6
    (fun i : S2x288x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x144x1024.Idx) => ?_
    show (outsAt0 m (ok m) c t).2.1 j = rD m c (ix0 (F := Ideal) (tbl m) 6 (grid0.coords t) 1 * 144 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 1
    · rw [if_pos h]
      refine if_pos ⟨⟨(i 1).val / 144, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 144 ≤ (i 1).val ∧ (i 1).val < ix0 (F := Ideal) (tbl m) 6 (grid0.coords _) 1 * 144 + 144; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e := (mem_6 m t i).mp hm 0
      have l : ix0 (F := Ideal) (tbl m) 6 (grid0.coords t) 0 * 1 ≤ (i 0).val := e.1
      have u : (i 0).val < ix0 (F := Ideal) (tbl m) 6 (grid0.coords t) 0 * 1 + 1 := e.2
      rw [(ix_6 m t).1] at l u
      omega

abbrev rc_7 (t : Fin (cfgM m (ok m)).N) : Rect S2x288x1024 :=
  Rect.unit (fun a => ix0 (F := Ideal) (tbl m) 7 (grid0.coords t) a * S1x144x1024.size a) S1x144x1024.size (fun a => by
    have h := hinb0 (F := Ideal) (tbl m) (ok m) 7 (grid0.coords t) a
    rw [Nat.add_mul, one_mul] at h
    exact h)

theorem mem_7 (t : Fin (cfgM m (ok m)).N) (i : S2x288x1024.Idx) : i ∈ ((View.whole main_v2_2).slice (rc_7 m t)).set
    ↔ ∀ a : Fin 3, ix0 (F := Ideal) (tbl m) 7 (grid0.coords t) a * S1x144x1024.size a ≤ (i a).val
      ∧ (i a).val < ix0 (F := Ideal) (tbl m) 7 (grid0.coords t) a * S1x144x1024.size a + S1x144x1024.size a := by
  rw [View.set_slice_whole]
  exact Rect.mem_set_unit

theorem final_7 (i : S2x288x1024.Idx) : ((dats m (ok m) 0 c).arrAt 7 (cfgM m (ok m)).N : S2x288x1024.Idx → EReal) i
    = if (i 0).val = 1 then rM m c (i 1).val (i 2).val else (V m c main_v2_2 : S2x288x1024.Idx → EReal) i := by
  refine ((dats m (ok m) 0 c).arrAt_eq_piecewise 7
    (fun i : S2x288x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x144x1024.Idx) => ?_
    show (outsAt0 m (ok m) c t).2.2.1 j = rM m c (ix0 (F := Ideal) (tbl m) 7 (grid0.coords t) 1 * 144 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 1
    · rw [if_pos h]
      refine if_pos ⟨⟨(i 1).val / 144, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 144 ≤ (i 1).val ∧ (i 1).val < ix0 (F := Ideal) (tbl m) 7 (grid0.coords _) 1 * 144 + 144; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e := (mem_7 m t i).mp hm 0
      have l : ix0 (F := Ideal) (tbl m) 7 (grid0.coords t) 0 * 1 ≤ (i 0).val := e.1
      have u : (i 0).val < ix0 (F := Ideal) (tbl m) 7 (grid0.coords t) 0 * 1 + 1 := e.2
      rw [(ix_7 m t).1] at l u
      omega

abbrev rc_8 (t : Fin (cfgM m (ok m)).N) : Rect S2x288x1024 :=
  Rect.unit (fun a => ix0 (F := Ideal) (tbl m) 8 (grid0.coords t) a * S1x144x1024.size a) S1x144x1024.size (fun a => by
    have h := hinb0 (F := Ideal) (tbl m) (ok m) 8 (grid0.coords t) a
    rw [Nat.add_mul, one_mul] at h
    exact h)

theorem mem_8 (t : Fin (cfgM m (ok m)).N) (i : S2x288x1024.Idx) : i ∈ ((View.whole main_v2_3).slice (rc_8 m t)).set
    ↔ ∀ a : Fin 3, ix0 (F := Ideal) (tbl m) 8 (grid0.coords t) a * S1x144x1024.size a ≤ (i a).val
      ∧ (i a).val < ix0 (F := Ideal) (tbl m) 8 (grid0.coords t) a * S1x144x1024.size a + S1x144x1024.size a := by
  rw [View.set_slice_whole]
  exact Rect.mem_set_unit

theorem final_8 (i : S2x288x1024.Idx) : ((dats m (ok m) 0 c).arrAt 8 (cfgM m (ok m)).N : S2x288x1024.Idx → EReal) i
    = if (i 0).val = 1 then rU m c (i 1).val (i 2).val else (V m c main_v2_3 : S2x288x1024.Idx → EReal) i := by
  refine ((dats m (ok m) 0 c).arrAt_eq_piecewise 8
    (fun i : S2x288x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x144x1024.Idx) => ?_
    show (outsAt0 m (ok m) c t).2.2.2 j = rU m c (ix0 (F := Ideal) (tbl m) 8 (grid0.coords t) 1 * 144 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 288 := (i 1).isLt
    have b2 : (i 2 : Nat) < 1024 := (i 2).isLt
    by_cases h : (i 0).val = 1
    · rw [if_pos h]
      refine if_pos ⟨⟨(i 1).val / 144, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 144 ≤ (i 1).val ∧ (i 1).val < ix0 (F := Ideal) (tbl m) 8 (grid0.coords _) 1 * 144 + 144; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e := (mem_8 m t i).mp hm 0
      have l : ix0 (F := Ideal) (tbl m) 8 (grid0.coords t) 0 * 1 ≤ (i 0).val := e.1
      have u : (i 0).val < ix0 (F := Ideal) (tbl m) 8 (grid0.coords t) 0 * 1 + 1 := e.2
      rw [(ix_8 m t).1] at l u
      omega

end

end Cert.NextIn

end
-- ==== Proof.NextIn.lean ====
/- The sum of the slabs and the optimiser's step of one weight: the second layer's planes of the kernel's four arrays are the reference's. -/
module

public import proofs.«01_k».proof.Proof.NextInRun
public import proofs.«01_k».proof.Proof.Gen.ReferenceNextInIdeal.Read
public import proofs.«01_k».proof.Defs

@[expose] public section

noncomputable section

namespace Cert.NextIn

open Cert.KernelNextInIdeal Cert.KernelNextInIdeal.Gen Idealize.ShloMosaic Idealize.ShloMosaic.TcCoe Idealize.ShloMosaic.Tactic Idealize.SL.Sem
open Cert.ReferenceNextInIdeal.Read Cert.StepSum

section
variable (x0 : Vec Ideal S8x288x1024 .bf16) (x1 : Vec Ideal S7x288x1024 .bf16) (x2 x3 x4 : Vec Ideal S2x288x1024 .f32)

/-- The reference's second layer, entry by entry. -/
abbrev eG (p q : ℕ) : EReal := total (at3 (n := 8) (a := 288) (b := 1024) x0 0 p q) (fun k => at3 (n := 7) (a := 288) (b := 1024) x1 k p q)
abbrev eM (p q : ℕ) : EReal := mom (eG x0 x1 p q) (at3 (n := 2) (a := 288) (b := 1024) x3 1 p q)
abbrev eU (p q : ℕ) : EReal := sq (eG x0 x1 p q) (at3 (n := 2) (a := 288) (b := 1024) x4 1 p q)
abbrev eD (p q : ℕ) : EReal := upd (at3 (n := 2) (a := 288) (b := 1024) x2 1 p q) (eM x0 x1 x3 p q) (eU x0 x1 x4 p q)

theorem ref_g (i : Cert.ReferenceNextInIdeal.S288x1024.Idx) : val_main_v5 (F := Ideal) x0 x1 i = eG x0 x1 (i 0).val (i 1).val := by
  have h0 : (i 0).val < 288 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 288) (b := 1024) _ _ _ _ _ rfl ?_ ?_
    · show ((i 0).val * 1024 + (i 1).val) / 1024 % 288 = _; omega
    · show ((i 0).val * 1024 + (i 1).val) % 1024 = _; omega
  · exact Finset.sum_congr rfl fun k _ => at3_eq (n := 7) (a := 288) (b := 1024) _ _ _ _ _ rfl rfl rfl

theorem ref_2 (i : Cert.ReferenceNextInIdeal.S288x1024.Idx) : val_main_v7 (F := Ideal) x2 i = at3 (n := 2) (a := 288) (b := 1024) x2 1 (i 0).val (i 1).val := by
  have h0 : (i 0).val < 288 := (i 0).isLt
  have h1 : (i 1).val < 1024 := (i 1).isLt
  rw [val_main_v7_apply, val_main_v6_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_3 (i : Cert.ReferenceNextInIdeal.S288x1024.Idx) : val_main_v9 (F := Ideal) x3 i = at3 (n := 2) (a := 288) (b := 1024) x3 1 (i 0).val (i 1).val := by
  have h0 : (i 0).val < 288 := (i 0).isLt
  have h1 : (i 1).val < 1024 := (i 1).isLt
  rw [val_main_v9_apply, val_main_v8_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_4 (i : Cert.ReferenceNextInIdeal.S288x1024.Idx) : val_main_v11 (F := Ideal) x4 i = at3 (n := 2) (a := 288) (b := 1024) x4 1 (i 0).val (i 1).val := by
  have h0 : (i 0).val < 288 := (i 0).isLt
  have h1 : (i 1).val < 1024 := (i 1).isLt
  rw [val_main_v11_apply, val_main_v10_apply]
  refine at3_eq (n := 2) (a := 288) (b := 1024) _ _ _ _ _ rfl ?_ ?_
  · show ((i 0).val * 1024 + (i 1).val) / 1024 % 288 = _; omega
  · show ((i 0).val * 1024 + (i 1).val) % 1024 = _; omega

theorem ref_m (i : Cert.ReferenceNextInIdeal.S288x1024.Idx) : val_main_v16 (F := Ideal) x0 x1 x3 i = eM x0 x1 x3 (i 0).val (i 1).val := by
  rw [val_main_v16_apply, val_main_v13_apply, val_main_v15_apply, val_main_v12_apply, val_main_v14_apply, ref_g, ref_3]
  rfl

theorem ref_u (i : Cert.ReferenceNextInIdeal.S288x1024.Idx) : val_main_v22 (F := Ideal) x0 x1 x4 i = eU x0 x1 x4 (i 0).val (i 1).val := by
  rw [val_main_v22_apply, val_main_v18_apply, val_main_v21_apply, val_main_v19_apply, val_main_v17_apply, val_main_v20_apply, ref_g, ref_4]
  rfl

theorem ref_d (i : Cert.ReferenceNextInIdeal.S288x1024.Idx) : val_main_v35 (F := Ideal) x0 x1 x2 x3 x4 i = eD x0 x1 x2 x3 x4 (i 0).val (i 1).val := by
  rw [val_main_v35_apply, val_main_v33_apply, val_main_v30_apply, val_main_v32_apply, val_main_v24_apply, val_main_v29_apply, val_main_v27_apply,
    val_main_v26_apply, val_main_v34_apply, val_main_v31_apply, val_main_v23_apply, val_main_v25_apply, val_main_v28_apply, ref_m, ref_u, ref_2]
  rfl

end

variable (m : (ℓ : Loc nD τ sig) → Buf (Elt Ideal) ℓ) (c : Dev nD)

abbrev A0 : Vec Ideal S8x288x1024 .bf16 := m (c.tc.loc main_arg0)
abbrev A1 : Vec Ideal S7x288x1024 .bf16 := m (c.tc.loc main_arg1)
abbrev A2 : Vec Ideal S2x288x1024 .f32 := m (c.tc.loc main_arg2)
abbrev A3 : Vec Ideal S2x288x1024 .f32 := m (c.tc.loc main_arg3)
abbrev A4 : Vec Ideal S2x288x1024 .f32 := m (c.tc.loc main_arg4)

/-- The kernel's four results, as the reference's functions of the arguments. -/
def resG : Buf (Elt Ideal) ((c : Thread nD τ).loc main_v4) := val_main_v5 (F := Ideal) (A0 m c) (A1 m c)
def resD : Buf (Elt Ideal) ((c : Thread nD τ).loc main_v6) := val_main_v35 (F := Ideal) (A0 m c) (A1 m c) (A2 m c) (A3 m c) (A4 m c)
def resM : Buf (Elt Ideal) ((c : Thread nD τ).loc main_v8) := val_main_v16 (F := Ideal) (A0 m c) (A1 m c) (A3 m c)
def resU : Buf (Elt Ideal) ((c : Thread nD τ).loc main_v10) := val_main_v22 (F := Ideal) (A0 m c) (A1 m c) (A4 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

/-- The second plane of an array. -/
abbrev at1 (i : S288x1024.Idx) : S2x288x1024.Idx := fun a => match a with
  | ⟨0, _⟩ => ⟨1, by show (1 : ℕ) < 2; omega⟩
  | ⟨1, _⟩ => ⟨(i 0).val, (i 0).isLt⟩
  | ⟨2, _⟩ => ⟨(i 1).val, (i 1).isLt⟩

/-- The slice of the second plane, its first axis dropped, read at an entry. -/
theorem plane_1 (x : Vec Ideal S2x288x1024 .f32) (i : S288x1024.Idx) :
    (shapeCast S288x1024 (extractStridedSlice S1x288x1024 ![1, 0, 0] x slices_S2x288x1024_S1x288x1024_1_0_0) shapeCasts_S1x288x1024_S288x1024 : Vec Ideal S288x1024 .f32) i = x (at1 i) := by
  have h0 : (i 0).val < 288 := (i 0).isLt
  have h1 : (i 1).val < 1024 := (i 1).isLt
  refine (val_main_v7_apply (F := Ideal) x i).trans ?_
  rw [val_main_v6_apply]
  congr 1
  funext a
  apply Fin.ext
  match a with
  | ⟨0, _⟩ => rfl
  | ⟨1, _⟩ => show ((i 0).val * 1024 + (i 1).val) / 1024 % 288 = (i 0).val; omega
  | ⟨2, _⟩ => show ((i 0).val * 1024 + (i 1).val) % 1024 = (i 1).val; omega

/-- The contents the host's last lines read. -/
abbrev mid : Valuation τ sig (Elt Ideal) :=
  Pipeline.withArrays (Pipeline.pin pcfgs (fun _ => adm m (ok m)) 0).spec c (V0 m c) fun w => (dats m (ok m) 0 c).arrAt w (Pipeline.pin pcfgs (fun _ => adm m (ok m)) 0).N

theorem mid_5 : mid m c (Proc.devRef .tc main_v2_0) = (dats m (ok m) 0 c).arrAt 5 (cfgM m (ok m)).N :=
  Pipeline.withArrays_arr (Pipeline.pin pcfgs (fun _ => adm m (ok m)) 0).spec (show Function.Injective (Pipeline.arrRef spec0) by decide) c (V0 m c) _ 5

theorem last_5 : Pipeline.afterTail pcfgs (fun _ => adm m (ok m)) (dats m (ok m)) 0 (V0 m) [hostOps1] c main_v4 = resG m c := by
  have e : Pipeline.afterTail pcfgs (fun _ => adm m (ok m)) (dats m (ok m)) 0 (V0 m) [hostOps1] c main_v4
      = shapeCast S288x1024 (extractStridedSlice S1x288x1024 ![1, 0, 0] (mid m c (Proc.devRef .tc main_v2_0) : Vec Ideal S2x288x1024 .f32) slices_S2x288x1024_S1x288x1024_1_0_0) shapeCasts_S1x288x1024_S288x1024 := by
    show StableHlo.after hostOps1 (mid m c) _ = _
    simp only [hostOps1]
    after_results_simp <;> rfl
  rw [e, mid_5]
  funext i
  refine (plane_1 _ i).trans ((final_5 m c (at1 i)).trans ?_)
  refine (if_pos (show ((at1 i) 0).val = 1 from rfl)).trans ?_
  refine Eq.trans ?_ (ref_g (A0 m c) (A1 m c) i).symm
  simp only [rG, aS, aL, arg_0 m c, arg_1 m c]
  rfl

theorem mid_6 : mid m c (Proc.devRef .tc main_v2_1) = (dats m (ok m) 0 c).arrAt 6 (cfgM m (ok m)).N :=
  Pipeline.withArrays_arr (Pipeline.pin pcfgs (fun _ => adm m (ok m)) 0).spec (show Function.Injective (Pipeline.arrRef spec0) by decide) c (V0 m c) _ 6

theorem last_6 : Pipeline.afterTail pcfgs (fun _ => adm m (ok m)) (dats m (ok m)) 0 (V0 m) [hostOps1] c main_v6 = resD m c := by
  have e : Pipeline.afterTail pcfgs (fun _ => adm m (ok m)) (dats m (ok m)) 0 (V0 m) [hostOps1] c main_v6
      = shapeCast S288x1024 (extractStridedSlice S1x288x1024 ![1, 0, 0] (mid m c (Proc.devRef .tc main_v2_1) : Vec Ideal S2x288x1024 .f32) slices_S2x288x1024_S1x288x1024_1_0_0) shapeCasts_S1x288x1024_S288x1024 := by
    show StableHlo.after hostOps1 (mid m c) _ = _
    simp only [hostOps1]
    after_results_simp <;> rfl
  rw [e, mid_6]
  funext i
  refine (plane_1 _ i).trans ((final_6 m c (at1 i)).trans ?_)
  refine (if_pos (show ((at1 i) 0).val = 1 from rfl)).trans ?_
  refine Eq.trans ?_ (ref_d (A0 m c) (A1 m c) (A2 m c) (A3 m c) (A4 m c) i).symm
  simp only [rD, rM, rU, rG, aS, aL, aW, aM, aU, arg_0 m c, arg_1 m c, arg_2 m c, arg_3 m c, arg_4 m c]
  rfl

theorem mid_7 : mid m c (Proc.devRef .tc main_v2_2) = (dats m (ok m) 0 c).arrAt 7 (cfgM m (ok m)).N :=
  Pipeline.withArrays_arr (Pipeline.pin pcfgs (fun _ => adm m (ok m)) 0).spec (show Function.Injective (Pipeline.arrRef spec0) by decide) c (V0 m c) _ 7

theorem last_7 : Pipeline.afterTail pcfgs (fun _ => adm m (ok m)) (dats m (ok m)) 0 (V0 m) [hostOps1] c main_v8 = resM m c := by
  have e : Pipeline.afterTail pcfgs (fun _ => adm m (ok m)) (dats m (ok m)) 0 (V0 m) [hostOps1] c main_v8
      = shapeCast S288x1024 (extractStridedSlice S1x288x1024 ![1, 0, 0] (mid m c (Proc.devRef .tc main_v2_2) : Vec Ideal S2x288x1024 .f32) slices_S2x288x1024_S1x288x1024_1_0_0) shapeCasts_S1x288x1024_S288x1024 := by
    show StableHlo.after hostOps1 (mid m c) _ = _
    simp only [hostOps1]
    after_results_simp <;> rfl
  rw [e, mid_7]
  funext i
  refine (plane_1 _ i).trans ((final_7 m c (at1 i)).trans ?_)
  refine (if_pos (show ((at1 i) 0).val = 1 from rfl)).trans ?_
  refine Eq.trans ?_ (ref_m (A0 m c) (A1 m c) (A3 m c) i).symm
  simp only [rM, rG, aS, aL, aM, arg_0 m c, arg_1 m c, arg_3 m c]
  rfl

theorem mid_8 : mid m c (Proc.devRef .tc main_v2_3) = (dats m (ok m) 0 c).arrAt 8 (cfgM m (ok m)).N :=
  Pipeline.withArrays_arr (Pipeline.pin pcfgs (fun _ => adm m (ok m)) 0).spec (show Function.Injective (Pipeline.arrRef spec0) by decide) c (V0 m c) _ 8

theorem last_8 : Pipeline.afterTail pcfgs (fun _ => adm m (ok m)) (dats m (ok m)) 0 (V0 m) [hostOps1] c main_v10 = resU m c := by
  have e : Pipeline.afterTail pcfgs (fun _ => adm m (ok m)) (dats m (ok m)) 0 (V0 m) [hostOps1] c main_v10
      = shapeCast S288x1024 (extractStridedSlice S1x288x1024 ![1, 0, 0] (mid m c (Proc.devRef .tc main_v2_3) : Vec Ideal S2x288x1024 .f32) slices_S2x288x1024_S1x288x1024_1_0_0) shapeCasts_S1x288x1024_S288x1024 := by
    show StableHlo.after hostOps1 (mid m c) _ = _
    simp only [hostOps1]
    after_results_simp <;> rfl
  rw [e, mid_8]
  funext i
  refine (plane_1 _ i).trans ((final_8 m c (at1 i)).trans ?_)
  refine (if_pos (show ((at1 i) 0).val = 1 from rfl)).trans ?_
  refine Eq.trans ?_ (ref_u (A0 m c) (A1 m c) (A4 m c) i).symm
  simp only [rU, rG, aS, aL, aU, arg_0 m c, arg_1 m c, arg_4 m c]
  rfl

/-- The kernel and the reference sum the same gradient and take the same step. -/
theorem algebraic : Cert.algebraic_KernelNextInIdeal_ReferenceNextInIdeal := by
  intro m ρ m' ρ' _ hagree
  refine ⟨fun c => resG m c, fun c => resD m c, fun c => resM m c, fun c => resU m c, ?_, ?_⟩
  · refine (θ_run Cert.KernelNextInIdeal.defs _ _).mono (fun _ h c => ?_) (θ_run_and (unchanged m ρ (ok m)) (run_main m ρ (ok m)))
    have q : ∀ b ∈ Pipeline.restRefs sig spec0, _ := (h.2 c).2
    exact ⟨(q main_v4 (by decide)).trans (last_5 m c), (q main_v6 (by decide)).trans (last_6 m c),
      (q main_v8 (by decide)).trans (last_7 m c), (q main_v10 (by decide)).trans (last_8 m c), h.1 c⟩
  · refine (θ_run Cert.ReferenceNextInIdeal.defs _ _).mono (fun _ h c => ?_) (Cert.ReferenceNextInIdeal.Value.run (F := Ideal) m' ρ')
    obtain ⟨a0, a1, a2, a3, a4⟩ := hagree c
    refine ⟨(h c).1.trans ?_, (h c).2.1.trans ?_, (h c).2.2.1.trans ?_, (h c).2.2.2.1.trans ?_, (h c).2.2.2.2⟩
    · refine (val_main_v5_eq (F := Ideal) _ _).trans ?_
      rw [a0, a1]
      rfl
    · refine (val_main_v35_eq (F := Ideal) _ _ _ _ _).trans ?_
      rw [a0, a1, a2, a3, a4]
      rfl
    · refine (val_main_v16_eq (F := Ideal) _ _ _).trans ?_
      rw [a0, a1, a3]
      rfl
    · refine (val_main_v22_eq (F := Ideal) _ _ _).trans ?_
      rw [a0, a1, a4]
      rfl

end Cert.NextIn

end
-- ==== Proof.NextFfRun.lean ====
/- The summed gradient and the optimiser's step of one layer's weight: what the second layer's call leaves in its blocks. -/
module

public import proofs.«01_k».proof.Defs
public import proofs.«01_k».proof.Proof.StepSum
public import proofs.«01_k».proof.Proof.Gen.KernelNextFfIdeal.Frame
public import proofs.«01_k».proof.Proof.Gen.KernelNextFf.Frame

@[expose] public section

set_option maxRecDepth 16384

noncomputable section

namespace Cert.NextFf

open Idealize.ShloMosaic Idealize.ShloMosaic.TcCoe Idealize.SL.Sem Cert.StepSum

/-- The table's only word is zero, so every block lies inside its array. -/
theorem ok_bits (m : (ℓ : Loc Cert.KernelNextFf.nD Cert.KernelNextFf.τ Cert.KernelNextFf.sig) → Buf (Elt Bits) ℓ) : Cert.KernelNextFf.Gen.Ok m := by
  have e : Cert.KernelNextFf.Gen.tbl m 0 = fun _ => (0#32 : BitVec 32) := by
    show StableHlo.after Cert.KernelNextFf.Gen.hostOps0 _ Cert.KernelNextFf.main_v1 = _
    simp only [Cert.KernelNextFf.Gen.hostOps0]
    after_results_simp <;> rfl
  unfold Cert.KernelNextFf.Gen.Ok
  rw [show Cert.KernelNextFf.Gen.tbl m = fun | ⟨0, _⟩ => fun _ => (0#32 : BitVec 32) | ⟨_ + 1, h⟩ => absurd h (by simp) from funext fun j => by
    match j with
    | ⟨0, _⟩ => exact e]
  decide

open Cert.KernelNextFfIdeal Cert.KernelNextFfIdeal.Gen

variable (m : (ℓ : Loc nD τ sig) → Buf (Elt Ideal) ℓ)

theorem tbl_eq : tbl m 0 = fun _ => (0#32 : BitVec 32) := by
  show StableHlo.after hostOps0 _ main_v1 = _
  simp only [hostOps0]
  after_results_simp <;> rfl

theorem tbl_fn : tbl m = fun | ⟨0, _⟩ => fun _ => (0#32 : BitVec 32) | ⟨_ + 1, h⟩ => absurd h (by simp) :=
  funext fun j => by
    match j with
    | ⟨0, _⟩ => exact tbl_eq m

theorem ok : Ok m := by
  unfold Ok
  rw [tbl_fn m]
  decide

theorem hz : (![0, 0, 0] : Fin 3 → Nat) = fun _ => 0 := funext fun a => by fin_cases a <;> rfl

section
variable (c : Dev nD) (i : grid0.Coords) (arg2 : Memref sig .tc .vmem S1x176x1024 .bf16) (harg2 : arg2.IsWhole) (arg3 : Memref sig .tc .vmem S7x176x1024 .bf16) (harg3 : arg3.IsWhole) (arg4 : Memref sig .tc .vmem S1x176x1024 .f32) (harg4 : arg4.IsWhole) (arg5 : Memref sig .tc .vmem S1x176x1024 .f32) (harg5 : arg5.IsWhole) (arg6 : Memref sig .tc .vmem S1x176x1024 .f32) (harg6 : arg6.IsWhole) (arg7 : Memref sig .tc .vmem S1x176x1024 .f32) (harg7 : arg7.IsWhole) (arg8 : Memref sig .tc .vmem S1x176x1024 .f32) (harg8 : arg8.IsWhole) (arg9 : Memref sig .tc .vmem S1x176x1024 .f32) (harg9 : arg9.IsWhole) (arg10 : Memref sig .tc .vmem S1x176x1024 .f32) (harg10 : arg10.IsWhole) (x0 : Vec Ideal S1x176x1024 .bf16) (x1 : Vec Ideal S7x176x1024 .bf16) (x2 x3 x4 : Vec Ideal S1x176x1024 .f32) (xt0 : TbBuf0 (F := Ideal) c tbM0_0)

/-- One of the seven blocks that came from the other devices. -/
def plane (x1 : Vec Ideal S7x176x1024 .bf16) (r : Fin 7) : Vec Ideal S1x176x1024 .bf16 := fun j => x1 (ix3 r (j 1) (j 2))

theorem ld_plane (r : Fin 7) (h) : View.ld x1 (Rect.unit (s := S7x176x1024) ![r.val, 0, 0] S1x176x1024.size h) = plane x1 r := by
  funext j
  show x1 _ = x1 _
  congr 1
  funext a
  apply Fin.ext
  have h0 : (j 0).val < 1 := (j 0).isLt
  match a with
  | ⟨0, _⟩ => show r.val + 1 * (j 0).val = r.val; omega
  | ⟨1, _⟩ => show 0 + 1 * (j 1).val = (j 1).val; omega
  | ⟨2, _⟩ => show 0 + 1 * (j 2).val = (j 2).val; omega

theorem sum_eq (y0 y1 y2 y3 y4 y5 y6 : Vec Ideal S1x176x1024 .bf16) (h0 : y0 = plane x1 0) (h1 : y1 = plane x1 1) (h2 : y2 = plane x1 2)
    (h3 : y3 = plane x1 3) (h4 : y4 = plane x1 4) (h5 : y5 = plane x1 5) (h6 : y6 = plane x1 6) :
    k0_pay3 x0 y0 y1 y2 y3 y4 y5 y6 = (k0_pay3 x0 (plane x1 0) (plane x1 1) (plane x1 2) (plane x1 3) (plane x1 4) (plane x1 5) (plane x1 6)) := by
  subst h0 h1 h2 h3 h4 h5 h6
  rfl

theorem val_5 : out0_A_5 c i arg2 harg2 arg3 harg3 arg4 harg4 arg5 harg5 arg6 harg6 arg7 harg7 arg8 harg8 arg9 harg9 arg10 harg10 x0 x1 x2 x3 x4 xt0 = k0_pay4 (k0_pay3 x0 (plane x1 0) (plane x1 1) (plane x1 2) (plane x1 3) (plane x1 4) (plane x1 5) (plane x1 6)) := by
  unfold out0_A_5
  rw [View.read_writes_eq_canon _ _ _ (cover0_A_5 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x176x1024) hz]
  exact congrArg k0_pay4 (sum_eq x0 x1 _ _ _ _ _ _ _ (ld_plane x1 0 _) (ld_plane x1 1 _) (ld_plane x1 2 _) (ld_plane x1 3 _) (ld_plane x1 4 _) (ld_plane x1 5 _) (ld_plane x1 6 _))

theorem val_6 : out0_A_6 c i arg2 harg2 arg3 harg3 arg4 harg4 arg5 harg5 arg6 harg6 arg7 harg7 arg8 harg8 arg9 harg9 arg10 harg10 x0 x1 x2 x3 x4 xt0 = k0_pay7 (k0_pay3 x0 (plane x1 0) (plane x1 1) (plane x1 2) (plane x1 3) (plane x1 4) (plane x1 5) (plane x1 6)) x2 x3 x4 := by
  unfold out0_A_6
  rw [View.read_writes_eq_canon _ _ _ (cover0_A_6 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x176x1024) hz]
  exact congrArg (k0_pay7 · x2 x3 x4) (sum_eq x0 x1 _ _ _ _ _ _ _ (ld_plane x1 0 _) (ld_plane x1 1 _) (ld_plane x1 2 _) (ld_plane x1 3 _) (ld_plane x1 4 _) (ld_plane x1 5 _) (ld_plane x1 6 _))

theorem val_7 : out0_A_7 c i arg2 harg2 arg3 harg3 arg4 harg4 arg5 harg5 arg6 harg6 arg7 harg7 arg8 harg8 arg9 harg9 arg10 harg10 x0 x1 x2 x3 x4 xt0 = k0_pay1 (k0_pay5 (k0_pay3 x0 (plane x1 0) (plane x1 1) (plane x1 2) (plane x1 3) (plane x1 4) (plane x1 5) (plane x1 6)) x3) := by
  unfold out0_A_7
  rw [View.read_writes_eq_canon _ _ _ (cover0_A_7 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x176x1024) hz]
  exact congrArg (fun z => k0_pay1 (k0_pay5 z x3)) (sum_eq x0 x1 _ _ _ _ _ _ _ (ld_plane x1 0 _) (ld_plane x1 1 _) (ld_plane x1 2 _) (ld_plane x1 3 _) (ld_plane x1 4 _) (ld_plane x1 5 _) (ld_plane x1 6 _))

theorem val_8 : out0_A_8 c i arg2 harg2 arg3 harg3 arg4 harg4 arg5 harg5 arg6 harg6 arg7 harg7 arg8 harg8 arg9 harg9 arg10 harg10 x0 x1 x2 x3 x4 xt0 = k0_pay2 (k0_pay6 (k0_pay3 x0 (plane x1 0) (plane x1 1) (plane x1 2) (plane x1 3) (plane x1 4) (plane x1 5) (plane x1 6)) x4) := by
  unfold out0_A_8
  rw [View.read_writes_eq_canon _ _ _ (cover0_A_8 c i arg2 harg2 arg3 harg3 arg4 harg4 arg5 harg5 arg6 harg6 arg7 harg7 arg8 harg8 arg9 harg9 arg10 harg10 x0 x1 x2 x3 x4 xt0)]
  unfold kernelRun0_A
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg10.read_unread, View.ld_unit_zero (S := S1x176x1024) hz]
  exact congrArg (fun z => k0_pay2 (k0_pay6 z x4)) (sum_eq x0 x1 _ _ _ _ _ _ _ (ld_plane x1 0 _) (ld_plane x1 1 _) (ld_plane x1 2 _) (ld_plane x1 3 _) (ld_plane x1 4 _) (ld_plane x1 5 _) (ld_plane x1 6 _))

end

section
variable (x0 : Vec Ideal S1x176x1024 .bf16) (x1 : Vec Ideal S7x176x1024 .bf16) (x2 x3 x4 : Vec Ideal S1x176x1024 .f32)
  (S W M U : ℕ → ℕ → EReal) (L : ℕ → ℕ → ℕ → EReal) (o : ℕ)

/-- The summed gradient, entry by entry. -/
theorem g_eq (h0 : ∀ j, x0 j = S (o + (j 1).val) (j 2).val) (h1 : ∀ j, x1 j = L (j 0).val (o + (j 1).val) (j 2).val) (p : Fin 176) (q : Fin 1024) :
    (k0_pay3 x0 (plane x1 0) (plane x1 1) (plane x1 2) (plane x1 3) (plane x1 4) (plane x1 5) (plane x1 6)) (ix2 p q) = total (S (o + p.val) q.val) (fun k => L k (o + p.val) q.val) := by
  pointwise [k0_pay3, plane]
  simp only [h0, h1]
  rfl

theorem pay4_eq (v : FVec Ideal S176x1024 .f32) (j : S1x176x1024.Idx) : k0_pay4 v j = v (ix2 (j 1) (j 2)) := by
  pointwise [k0_pay4]

theorem pay1_eq (v : FVec Ideal S176x1024 .f32) (j : S1x176x1024.Idx) : k0_pay1 v j = v (ix2 (j 1) (j 2)) := by
  pointwise [k0_pay1]

theorem pay2_eq (v : FVec Ideal S176x1024 .f32) (j : S1x176x1024.Idx) : k0_pay2 v j = v (ix2 (j 1) (j 2)) := by
  pointwise [k0_pay2]

theorem pay5_eq (h3 : ∀ j, x3 j = M (o + (j 1).val) (j 2).val) (v : FVec Ideal S176x1024 .f32) (p : Fin 176) (q : Fin 1024) :
    k0_pay5 v x3 (ix2 p q) = mom (v (ix2 p q)) (M (o + p.val) q.val) := by
  pointwise [k0_pay5]
  simp only [h3]
  rfl

theorem pay6_eq (h4 : ∀ j, x4 j = U (o + (j 1).val) (j 2).val) (v : FVec Ideal S176x1024 .f32) (p : Fin 176) (q : Fin 1024) :
    k0_pay6 v x4 (ix2 p q) = sq (v (ix2 p q)) (U (o + p.val) q.val) := by
  pointwise [k0_pay6]
  simp only [h4]
  rfl

theorem pay7_eq (h2 : ∀ j, x2 j = W (o + (j 1).val) (j 2).val) (h3 : ∀ j, x3 j = M (o + (j 1).val) (j 2).val)
    (h4 : ∀ j, x4 j = U (o + (j 1).val) (j 2).val) (v : FVec Ideal S176x1024 .f32) (j : S1x176x1024.Idx) :
    k0_pay7 v x2 x3 x4 j = upd (W (o + (j 1).val) (j 2).val) (mom (v (ix2 (j 1) (j 2))) (M (o + (j 1).val) (j 2).val)) (sq (v (ix2 (j 1) (j 2))) (U (o + (j 1).val) (j 2).val)) := by
  pointwise [k0_pay7, k0_pay5, k0_pay6]
  simp only [h2, h3, h4]
  rfl

end

section
variable (c : Dev nD)

/-- One entry of each argument's plane that the call reads. -/
abbrev aS (p q : ℕ) : EReal := at3 (n := 8) (a := 352) (b := 1024) (V m c main_arg0) 0 p q
abbrev aL (k p q : ℕ) : EReal := at3 (n := 7) (a := 352) (b := 1024) (V m c main_arg1) k p q
abbrev aW (p q : ℕ) : EReal := at3 (n := 2) (a := 352) (b := 1024) (V m c main_arg2) 1 p q
abbrev aM (p q : ℕ) : EReal := at3 (n := 2) (a := 352) (b := 1024) (V m c main_arg3) 1 p q
abbrev aU (p q : ℕ) : EReal := at3 (n := 2) (a := 352) (b := 1024) (V m c main_arg4) 1 p q

/-- The summed gradient, the two new moments and the step, entry by entry. -/
abbrev rG (p q : ℕ) : EReal := total (aS m c p q) (fun k => aL m c k p q)
abbrev rM (p q : ℕ) : EReal := mom (rG m c p q) (aM m c p q)
abbrev rU (p q : ℕ) : EReal := sq (rG m c p q) (aU m c p q)
abbrev rD (p q : ℕ) : EReal := upd (aW m c p q) (rM m c p q) (rU m c p q)

theorem ix_0 (t : Fin grid0.N) : ix0 (F := Ideal) (tbl m) 0 (grid0.coords t) 0 = 0 ∧ ix0 (F := Ideal) (tbl m) 0 (grid0.coords t) 1 = t.val ∧ ix0 (F := Ideal) (tbl m) 0 (grid0.coords t) 2 = 0 := by
  rw [tbl_fn m]
  revert t
  decide +kernel

theorem ix_1 (t : Fin grid0.N) : ix0 (F := Ideal) (tbl m) 1 (grid0.coords t) 0 = 0 ∧ ix0 (F := Ideal) (tbl m) 1 (grid0.coords t) 1 = t.val ∧ ix0 (F := Ideal) (tbl m) 1 (grid0.coords t) 2 = 0 := by
  rw [tbl_fn m]
  revert t
  decide +kernel

theorem ix_2 (t : Fin grid0.N) : ix0 (F := Ideal) (tbl m) 2 (grid0.coords t) 0 = 1 ∧ ix0 (F := Ideal) (tbl m) 2 (grid0.coords t) 1 = t.val ∧ ix0 (F := Ideal) (tbl m) 2 (grid0.coords t) 2 = 0 := by
  rw [tbl_fn m]
  revert t
  decide +kernel

theorem ix_3 (t : Fin grid0.N) : ix0 (F := Ideal) (tbl m) 3 (grid0.coords t) 0 = 1 ∧ ix0 (F := Ideal) (tbl m) 3 (grid0.coords t) 1 = t.val ∧ ix0 (F := Ideal) (tbl m) 3 (grid0.coords t) 2 = 0 := by
  rw [tbl_fn m]
  revert t
  decide +kernel

theorem ix_4 (t : Fin grid0.N) : ix0 (F := Ideal) (tbl m) 4 (grid0.coords t) 0 = 1 ∧ ix0 (F := Ideal) (tbl m) 4 (grid0.coords t) 1 = t.val ∧ ix0 (F := Ideal) (tbl m) 4 (grid0.coords t) 2 = 0 := by
  rw [tbl_fn m]
  revert t
  decide +kernel

theorem ix_5 (t : Fin grid0.N) : ix0 (F := Ideal) (tbl m) 5 (grid0.coords t) 0 = 1 ∧ ix0 (F := Ideal) (tbl m) 5 (grid0.coords t) 1 = t.val ∧ ix0 (F := Ideal) (tbl m) 5 (grid0.coords t) 2 = 0 := by
  rw [tbl_fn m]
  revert t
  decide +kernel

theorem ix_6 (t : Fin grid0.N) : ix0 (F := Ideal) (tbl m) 6 (grid0.coords t) 0 = 1 ∧ ix0 (F := Ideal) (tbl m) 6 (grid0.coords t) 1 = t.val ∧ ix0 (F := Ideal) (tbl m) 6 (grid0.coords t) 2 = 0 := by
  rw [tbl_fn m]
  revert t
  decide +kernel

theorem ix_7 (t : Fin grid0.N) : ix0 (F := Ideal) (tbl m) 7 (grid0.coords t) 0 = 1 ∧ ix0 (F := Ideal) (tbl m) 7 (grid0.coords t) 1 = t.val ∧ ix0 (F := Ideal) (tbl m) 7 (grid0.coords t) 2 = 0 := by
  rw [tbl_fn m]
  revert t
  decide +kernel

theorem ix_8 (t : Fin grid0.N) : ix0 (F := Ideal) (tbl m) 8 (grid0.coords t) 0 = 1 ∧ ix0 (F := Ideal) (tbl m) 8 (grid0.coords t) 1 = t.val ∧ ix0 (F := Ideal) (tbl m) 8 (grid0.coords t) 2 = 0 := by
  rw [tbl_fn m]
  revert t
  decide +kernel

section
variable (t : Fin (cfgM m (ok m)).N)

theorem b_0 (j : S1x176x1024.Idx) : (iblk m (ok m) c 0 t : Vec Ideal S1x176x1024 .bf16) j = aS m c (176 * t.val + (j 1).val) (j 2).val := by
  unfold iblk
  refine (View.read_apply ..).trans ?_
  refine at3_eq (n := 8) (a := 352) (b := 1024) _ _ _ _ _ ?_ ?_ ?_
  · show ix0 (F := Ideal) (tbl m) 0 (grid0.coords t) 0 * 1 + 1 * (j 0).val = _; rw [(ix_0 m t).1]; have h : (j 0).val < 1 := (j 0).isLt; omega
  · show ix0 (F := Ideal) (tbl m) 0 (grid0.coords t) 1 * 176 + 1 * (j 1).val = _; rw [(ix_0 m t).2.1]; omega
  · show ix0 (F := Ideal) (tbl m) 0 (grid0.coords t) 2 * 1024 + 1 * (j 2).val = _; rw [(ix_0 m t).2.2]; omega

theorem b_1 (j : S7x176x1024.Idx) : (iblk m (ok m) c 1 t : Vec Ideal S7x176x1024 .bf16) j = aL m c (j 0).val (176 * t.val + (j 1).val) (j 2).val := by
  unfold iblk
  refine (View.read_apply ..).trans ?_
  refine at3_eq (n := 7) (a := 352) (b := 1024) _ _ _ _ _ ?_ ?_ ?_
  · show ix0 (F := Ideal) (tbl m) 1 (grid0.coords t) 0 * 7 + 1 * (j 0).val = _; rw [(ix_1 m t).1]; omega
  · show ix0 (F := Ideal) (tbl m) 1 (grid0.coords t) 1 * 176 + 1 * (j 1).val = _; rw [(ix_1 m t).2.1]; omega
  · show ix0 (F := Ideal) (tbl m) 1 (grid0.coords t) 2 * 1024 + 1 * (j 2).val = _; rw [(ix_1 m t).2.2]; omega

theorem b_2 (j : S1x176x1024.Idx) : (iblk m (ok m) c 2 t : Vec Ideal S1x176x1024 .f32) j = aW m c (176 * t.val + (j 1).val) (j 2).val := by
  unfold iblk
  refine (View.read_apply ..).trans ?_
  refine at3_eq (n := 2) (a := 352) (b := 1024) _ _ _ _ _ ?_ ?_ ?_
  · show ix0 (F := Ideal) (tbl m) 2 (grid0.coords t) 0 * 1 + 1 * (j 0).val = _; rw [(ix_2 m t).1]; have h : (j 0).val < 1 := (j 0).isLt; omega
  · show ix0 (F := Ideal) (tbl m) 2 (grid0.coords t) 1 * 176 + 1 * (j 1).val = _; rw [(ix_2 m t).2.1]; omega
  · show ix0 (F := Ideal) (tbl m) 2 (grid0.coords t) 2 * 1024 + 1 * (j 2).val = _; rw [(ix_2 m t).2.2]; omega

theorem b_3 (j : S1x176x1024.Idx) : (iblk m (ok m) c 3 t : Vec Ideal S1x176x1024 .f32) j = aM m c (176 * t.val + (j 1).val) (j 2).val := by
  unfold iblk
  refine (View.read_apply ..).trans ?_
  refine at3_eq (n := 2) (a := 352) (b := 1024) _ _ _ _ _ ?_ ?_ ?_
  · show ix0 (F := Ideal) (tbl m) 3 (grid0.coords t) 0 * 1 + 1 * (j 0).val = _; rw [(ix_3 m t).1]; have h : (j 0).val < 1 := (j 0).isLt; omega
  · show ix0 (F := Ideal) (tbl m) 3 (grid0.coords t) 1 * 176 + 1 * (j 1).val = _; rw [(ix_3 m t).2.1]; omega
  · show ix0 (F := Ideal) (tbl m) 3 (grid0.coords t) 2 * 1024 + 1 * (j 2).val = _; rw [(ix_3 m t).2.2]; omega

theorem b_4 (j : S1x176x1024.Idx) : (iblk m (ok m) c 4 t : Vec Ideal S1x176x1024 .f32) j = aU m c (176 * t.val + (j 1).val) (j 2).val := by
  unfold iblk
  refine (View.read_apply ..).trans ?_
  refine at3_eq (n := 2) (a := 352) (b := 1024) _ _ _ _ _ ?_ ?_ ?_
  · show ix0 (F := Ideal) (tbl m) 4 (grid0.coords t) 0 * 1 + 1 * (j 0).val = _; rw [(ix_4 m t).1]; have h : (j 0).val < 1 := (j 0).isLt; omega
  · show ix0 (F := Ideal) (tbl m) 4 (grid0.coords t) 1 * 176 + 1 * (j 1).val = _; rw [(ix_4 m t).2.1]; omega
  · show ix0 (F := Ideal) (tbl m) 4 (grid0.coords t) 2 * 1024 + 1 * (j 2).val = _; rw [(ix_4 m t).2.2]; omega

theorem o_5 (j : S1x176x1024.Idx) : (outsAt0 m (ok m) c t).1 j = rG m c (176 * t.val + (j 1).val) (j 2).val := by
  unfold outsAt0
  dsimp only
  refine (congrFun (val_5 _ _ _ _ _ _ _ _ _ _ _ _ _ _ _ _ _ _ _ _ _ _ _ _ _ _) j).trans ((pay4_eq _ j).trans ?_)
  exact g_eq _ _ (aS m c) (aL m c) (176 * t.val) (b_0 m c t) (b_1 m c t) (j 1) (j 2)

theorem o_6 (j : S1x176x1024.Idx) : (outsAt0 m (ok m) c t).2.1 j = rD m c (176 * t.val + (j 1).val) (j 2).val := by
  unfold outsAt0
  dsimp only
  refine (congrFun (val_6 _ _ _ _ _ _ _ _ _ _ _ _ _ _ _ _ _ _ _ _ _ _ _ _ _ _) j).trans ?_
  refine (pay7_eq _ _ _ (aW m c) (aM m c) (aU m c) (176 * t.val) (b_2 m c t) (b_3 m c t) (b_4 m c t) _ j).trans ?_
  rw [show _ = _ from g_eq _ _ (aS m c) (aL m c) (176 * t.val) (b_0 m c t) (b_1 m c t) (j 1) (j 2)]

theorem o_7 (j : S1x176x1024.Idx) : (outsAt0 m (ok m) c t).2.2.1 j = rM m c (176 * t.val + (j 1).val) (j 2).val := by
  unfold outsAt0
  dsimp only
  refine (congrFun (val_7 _ _ _ _ _ _ _ _ _ _ _ _ _ _ _ _ _ _ _ _ _ _ _ _ _ _) j).trans ((pay1_eq _ j).trans ?_)
  refine (pay5_eq _ (aM m c) (176 * t.val) (b_3 m c t) _ (j 1) (j 2)).trans ?_
  rw [show _ = _ from g_eq _ _ (aS m c) (aL m c) (176 * t.val) (b_0 m c t) (b_1 m c t) (j 1) (j 2)]

theorem o_8 (j : S1x176x1024.Idx) : (outsAt0 m (ok m) c t).2.2.2 j = rU m c (176 * t.val + (j 1).val) (j 2).val := by
  unfold outsAt0
  dsimp only
  refine (congrFun (val_8 _ _ _ _ _ _ _ _ _ _ _ _ _ _ _ _ _ _ _ _ _ _ _ _ _ _) j).trans ((pay2_eq _ j).trans ?_)
  refine (pay6_eq _ (aU m c) (176 * t.val) (b_4 m c t) _ (j 1) (j 2)).trans ?_
  rw [show _ = _ from g_eq _ _ (aS m c) (aL m c) (176 * t.val) (b_0 m c t) (b_1 m c t) (j 1) (j 2)]

end

abbrev rc_5 (t : Fin (cfgM m (ok m)).N) : Rect S2x352x1024 :=
  Rect.unit (fun a => ix0 (F := Ideal) (tbl m) 5 (grid0.coords t) a * S1x176x1024.size a) S1x176x1024.size (fun a => by
    have h := hinb0 (F := Ideal) (tbl m) (ok m) 5 (grid0.coords t) a
    rw [Nat.add_mul, one_mul] at h
    exact h)

theorem mem_5 (t : Fin (cfgM m (ok m)).N) (i : S2x352x1024.Idx) : i ∈ ((View.whole main_v2_0).slice (rc_5 m t)).set
    ↔ ∀ a : Fin 3, ix0 (F := Ideal) (tbl m) 5 (grid0.coords t) a * S1x176x1024.size a ≤ (i a).val
      ∧ (i a).val < ix0 (F := Ideal) (tbl m) 5 (grid0.coords t) a * S1x176x1024.size a + S1x176x1024.size a := by
  rw [View.set_slice_whole]
  exact Rect.mem_set_unit

theorem final_5 (i : S2x352x1024.Idx) : ((dats m (ok m) 0 c).arrAt 5 (cfgM m (ok m)).N : S2x352x1024.Idx → EReal) i
    = if (i 0).val = 1 then rG m c (i 1).val (i 2).val else (V m c main_v2_0 : S2x352x1024.Idx → EReal) i := by
  refine ((dats m (ok m) 0 c).arrAt_eq_piecewise 5
    (fun i : S2x352x1024.Idx => rG m c (i 1).val (i 2).val : Buf (Elt Ideal) ((c : Thread nD τ).loc main_v2_0)) (fun t _ => ?_) i).trans ?_
  · show ((cfgM m (ok m)).win 5).cut ((cfgM m (ok m)).grid.coords t) ((dats m (ok m) 0 c).after 5 t) = _
    rw [after0_5]
    refine funext fun (j : S1x176x1024.Idx) => ?_
    show (outsAt0 m (ok m) c t).1 j = rG m c (ix0 (F := Ideal) (tbl m) 5 (grid0.coords t) 1 * 176 + 1 * (j 1).val) (ix0 (F := Ideal) (tbl m) 5 (grid0.coords t) 2 * 1024 + 1 * (j 2).val)
    rw [(ix_5 m t).2.1, (ix_5 m t).2.2]
    refine (o_5 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 1
    · rw [if_pos h]
      refine if_pos ⟨⟨(i 1).val / 176, show _ < 2 by omega⟩, flush0_5 _ _, ?_⟩
      refine (mem_5 m _ i).mpr fun a => ?_
      match a with
      | ⟨0, _⟩ => show ix0 (F := Ideal) (tbl m) 5 (grid0.coords _) 0 * 1 ≤ (i 0).val ∧ (i 0).val < ix0 (F := Ideal) (tbl m) 5 (grid0.coords _) 0 * 1 + 1; rw [(ix_5 m _).1]; omega
      | ⟨1, _⟩ => show ix0 (F := Ideal) (tbl m) 5 (grid0.coords _) 1 * 176 ≤ (i 1).val ∧ (i 1).val < ix0 (F := Ideal) (tbl m) 5 (grid0.coords _) 1 * 176 + 176; rw [(ix_5 m _).2.1]; dsimp only; omega
      | ⟨2, _⟩ => show ix0 (F := Ideal) (tbl m) 5 (grid0.coords _) 2 * 1024 ≤ (i 2).val ∧ (i 2).val < ix0 (F := Ideal) (tbl m) 5 (grid0.coords _) 2 * 1024 + 1024; rw [(ix_5 m _).2.2]; omega
    · rw [if_neg h]
      refine if_neg ?_
      rintro ⟨t, -, hm⟩
      have e := (mem_5 m t i).mp hm 0
      have l : ix0 (F := Ideal) (tbl m) 5 (grid0.coords t) 0 * 1 ≤ (i 0).val := e.1
      have u : (i 0).val < ix0 (F := Ideal) (tbl m) 5 (grid0.coords t) 0 * 1 + 1 := e.2
      rw [(ix_5 m t).1] at l u
      omega

abbrev rc_6 (t : Fin (cfgM m (ok m)).N) : Rect S2x352x1024 :=
  Rect.unit (fun a => ix0 (F := Ideal) (tbl m) 6 (grid0.coords t) a * S1x176x1024.size a) S1x176x1024.size (fun a => by
    have h := hinb0 (F := Ideal) (tbl m) (ok m) 6 (grid0.coords t) a
    rw [Nat.add_mul, one_mul] at h
    exact h)

theorem mem_6 (t : Fin (cfgM m (ok m)).N) (i : S2x352x1024.Idx) : i ∈ ((View.whole main_v2_1).slice (rc_6 m t)).set
    ↔ ∀ a : Fin 3, ix0 (F := Ideal) (tbl m) 6 (grid0.coords t) a * S1x176x1024.size a ≤ (i a).val
      ∧ (i a).val < ix0 (F := Ideal) (tbl m) 6 (grid0.coords t) a * S1x176x1024.size a + S1x176x1024.size a := by
  rw [View.set_slice_whole]
  exact Rect.mem_set_unit

theorem final_6 (i : S2x352x1024.Idx) : ((dats m (ok m) 0 c).arrAt 6 (cfgM m (ok m)).N : S2x352x1024.Idx → EReal) i
    = if (i 0).val = 1 then rD m c (i 1).val (i 2).val else (V m c main_v2_1 : S2x352x1024.Idx → EReal) i := by
  refine ((dats m (ok m) 0 c).arrAt_eq_piecewise 6
    (fun i : S2x352x1024.Idx => rD m c (i 1).val (i 2).val : Buf (Elt Ideal) ((c : Thread nD τ).loc main_v2_1)) (fun t _ => ?_) i).trans ?_
  · show ((cfgM m (ok m)).win 6).cut ((cfgM m (ok m)).grid.coords t) ((dats m (ok m) 0 c).after 6 t) = _
    rw [after0_6]
    refine funext fun (j : S1x176x1024.Idx) => ?_
    show (outsAt0 m (ok m) c t).2.1 j = rD m c (ix0 (F := Ideal) (tbl m) 6 (grid0.coords t) 1 * 176 + 1 * (j 1).val) (ix0 (F := Ideal) (tbl m) 6 (grid0.coords t) 2 * 1024 + 1 * (j 2).val)
    rw [(ix_6 m t).2.1, (ix_6 m t).2.2]
    refine (o_6 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 1
    · rw [if_pos h]
      refine if_pos ⟨⟨(i 1).val / 176, show _ < 2 by omega⟩, flush0_6 _ _, ?_⟩
      refine (mem_6 m _ i).mpr fun a => ?_
      match a with
      | ⟨0, _⟩ => show ix0 (F := Ideal) (tbl m) 6 (grid0.coords _) 0 * 1 ≤ (i 0).val ∧ (i 0).val < ix0 (F := Ideal) (tbl m) 6 (grid0.coords _) 0 * 1 + 1; rw [(ix_6 m _).1]; omega
      | ⟨1, _⟩ => show ix0 (F := Ideal) (tbl m) 6 (grid0.coords _) 1 * 176 ≤ (i 1).val ∧ (i 1).val < ix0 (F := Ideal) (tbl m) 6 (grid0.coords _) 1 * 176 + 176; rw [(ix_6 m _).2.1]; dsimp only; omega
      | ⟨2, _⟩ => show ix0 (F := Ideal) (tbl m) 6 (grid0.coords _) 2 * 1024 ≤ (i 2).val ∧ (i 2).val < ix0 (F := Ideal) (tbl m) 6 (grid0.coords _) 2 * 1024 + 1024; rw [(ix_6 m _).2.2]; omega
    · rw [if_neg h]
      refine if_neg ?_
      rintro ⟨t, -, hm⟩
      have e := (mem_6 m t i).mp hm 0
      have l : ix0 (F := Ideal) (tbl m) 6 (grid0.coords t) 0 * 1 ≤ (i 0).val := e.1
      have u : (i 0).val < ix0 (F := Ideal) (tbl m) 6 (grid0.coords t) 0 * 1 + 1 := e.2
      rw [(ix_6 m t).1] at l u
      omega

abbrev rc_7 (t : Fin (cfgM m (ok m)).N) : Rect S2x352x1024 :=
  Rect.unit (fun a => ix0 (F := Ideal) (tbl m) 7 (grid0.coords t) a * S1x176x1024.size a) S1x176x1024.size (fun a => by
    have h := hinb0 (F := Ideal) (tbl m) (ok m) 7 (grid0.coords t) a
    rw [Nat.add_mul, one_mul] at h
    exact h)

theorem mem_7 (t : Fin (cfgM m (ok m)).N) (i : S2x352x1024.Idx) : i ∈ ((View.whole main_v2_2).slice (rc_7 m t)).set
    ↔ ∀ a : Fin 3, ix0 (F := Ideal) (tbl m) 7 (grid0.coords t) a * S1x176x1024.size a ≤ (i a).val
      ∧ (i a).val < ix0 (F := Ideal) (tbl m) 7 (grid0.coords t) a * S1x176x1024.size a + S1x176x1024.size a := by
  rw [View.set_slice_whole]
  exact Rect.mem_set_unit

theorem final_7 (i : S2x352x1024.Idx) : ((dats m (ok m) 0 c).arrAt 7 (cfgM m (ok m)).N : S2x352x1024.Idx → EReal) i
    = if (i 0).val = 1 then rM m c (i 1).val (i 2).val else (V m c main_v2_2 : S2x352x1024.Idx → EReal) i := by
  refine ((dats m (ok m) 0 c).arrAt_eq_piecewise 7
    (fun i : S2x352x1024.Idx => rM m c (i 1).val (i 2).val : Buf (Elt Ideal) ((c : Thread nD τ).loc main_v2_2)) (fun t _ => ?_) i).trans ?_
  · show ((cfgM m (ok m)).win 7).cut ((cfgM m (ok m)).grid.coords t) ((dats m (ok m) 0 c).after 7 t) = _
    rw [after0_7]
    refine funext fun (j : S1x176x1024.Idx) => ?_
    show (outsAt0 m (ok m) c t).2.2.1 j = rM m c (ix0 (F := Ideal) (tbl m) 7 (grid0.coords t) 1 * 176 + 1 * (j 1).val) (ix0 (F := Ideal) (tbl m) 7 (grid0.coords t) 2 * 1024 + 1 * (j 2).val)
    rw [(ix_7 m t).2.1, (ix_7 m t).2.2]
    refine (o_7 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 1
    · rw [if_pos h]
      refine if_pos ⟨⟨(i 1).val / 176, show _ < 2 by omega⟩, flush0_7 _ _, ?_⟩
      refine (mem_7 m _ i).mpr fun a => ?_
      match a with
      | ⟨0, _⟩ => show ix0 (F := Ideal) (tbl m) 7 (grid0.coords _) 0 * 1 ≤ (i 0).val ∧ (i 0).val < ix0 (F := Ideal) (tbl m) 7 (grid0.coords _) 0 * 1 + 1; rw [(ix_7 m _).1]; omega
      | ⟨1, _⟩ => show ix0 (F := Ideal) (tbl m) 7 (grid0.coords _) 1 * 176 ≤ (i 1).val ∧ (i 1).val < ix0 (F := Ideal) (tbl m) 7 (grid0.coords _) 1 * 176 + 176; rw [(ix_7 m _).2.1]; dsimp only; omega
      | ⟨2, _⟩ => show ix0 (F := Ideal) (tbl m) 7 (grid0.coords _) 2 * 1024 ≤ (i 2).val ∧ (i 2).val < ix0 (F := Ideal) (tbl m) 7 (grid0.coords _) 2 * 1024 + 1024; rw [(ix_7 m _).2.2]; omega
    · rw [if_neg h]
      refine if_neg ?_
      rintro ⟨t, -, hm⟩
      have e := (mem_7 m t i).mp hm 0
      have l : ix0 (F := Ideal) (tbl m) 7 (grid0.coords t) 0 * 1 ≤ (i 0).val := e.1
      have u : (i 0).val < ix0 (F := Ideal) (tbl m) 7 (grid0.coords t) 0 * 1 + 1 := e.2
      rw [(ix_7 m t).1] at l u
      omega

abbrev rc_8 (t : Fin (cfgM m (ok m)).N) : Rect S2x352x1024 :=
  Rect.unit (fun a => ix0 (F := Ideal) (tbl m) 8 (grid0.coords t) a * S1x176x1024.size a) S1x176x1024.size (fun a => by
    have h := hinb0 (F := Ideal) (tbl m) (ok m) 8 (grid0.coords t) a
    rw [Nat.add_mul, one_mul] at h
    exact h)

theorem mem_8 (t : Fin (cfgM m (ok m)).N) (i : S2x352x1024.Idx) : i ∈ ((View.whole main_v2_3).slice (rc_8 m t)).set
    ↔ ∀ a : Fin 3, ix0 (F := Ideal) (tbl m) 8 (grid0.coords t) a * S1x176x1024.size a ≤ (i a).val
      ∧ (i a).val < ix0 (F := Ideal) (tbl m) 8 (grid0.coords t) a * S1x176x1024.size a + S1x176x1024.size a := by
  rw [View.set_slice_whole]
  exact Rect.mem_set_unit

theorem final_8 (i : S2x352x1024.Idx) : ((dats m (ok m) 0 c).arrAt 8 (cfgM m (ok m)).N : S2x352x1024.Idx → EReal) i
    = if (i 0).val = 1 then rU m c (i 1).val (i 2).val else (V m c main_v2_3 : S2x352x1024.Idx → EReal) i := by
  refine ((dats m (ok m) 0 c).arrAt_eq_piecewise 8
    (fun i : S2x352x1024.Idx => rU m c (i 1).val (i 2).val : Buf (Elt Ideal) ((c : Thread nD τ).loc main_v2_3)) (fun t _ => ?_) i).trans ?_
  · show ((cfgM m (ok m)).win 8).cut ((cfgM m (ok m)).grid.coords t) ((dats m (ok m) 0 c).after 8 t) = _
    rw [after0_8]
    refine funext fun (j : S1x176x1024.Idx) => ?_
    show (outsAt0 m (ok m) c t).2.2.2 j = rU m c (ix0 (F := Ideal) (tbl m) 8 (grid0.coords t) 1 * 176 + 1 * (j 1).val) (ix0 (F := Ideal) (tbl m) 8 (grid0.coords t) 2 * 1024 + 1 * (j 2).val)
    rw [(ix_8 m t).2.1, (ix_8 m t).2.2]
    refine (o_8 m c t j).trans ?_
    congr 1 <;> omega
  · have b0 : (i 0 : Nat) < 2 := (i 0).isLt
    have b1 : (i 1 : Nat) < 352 := (i 1).isLt
    have b2 : (i 2 : Nat) < 1024 := (i 2).isLt
    by_cases h : (i 0).val = 1
    · rw [if_pos h]
      refine if_pos ⟨⟨(i 1).val / 176, show _ < 2 by omega⟩, flush0_8 _ _, ?_⟩
      refine (mem_8 m _ i).mpr fun a => ?_
      match a with
      | ⟨0, _⟩ => show ix0 (F := Ideal) (tbl m) 8 (grid0.coords _) 0 * 1 ≤ (i 0).val ∧ (i 0).val < ix0 (F := Ideal) (tbl m) 8 (grid0.coords _) 0 * 1 + 1; rw [(ix_8 m _).1]; omega
      | ⟨1, _⟩ => show ix0 (F := Ideal) (tbl m) 8 (grid0.coords _) 1 * 176 ≤ (i 1).val ∧ (i 1).val < ix0 (F := Ideal) (tbl m) 8 (grid0.coords _) 1 * 176 + 176; rw [(ix_8 m _).2.1]; dsimp only; omega
      | ⟨2, _⟩ => show ix0 (F := Ideal) (tbl m) 8 (grid0.coords _) 2 * 1024 ≤ (i 2).val ∧ (i 2).val < ix0 (F := Ideal) (tbl m) 8 (grid0.coords _) 2 * 1024 + 1024; rw [(ix_8 m _).2.2]; omega
    · rw [if_neg h]
      refine if_neg ?_
      rintro ⟨t, -, hm⟩
      have e := (mem_8 m t i).mp hm 0
      have l : ix0 (F := Ideal) (tbl m) 8 (grid0.coords t) 0 * 1 ≤ (i 0).val := e.1
      have u : (i 0).val < ix0 (F := Ideal) (tbl m) 8 (grid0.coords t) 0 * 1 + 1 := e.2
      rw [(ix_8 m t).1] at l u
      omega

end

end Cert.NextFf

end
-- ==== Proof.NextFf.lean ====
/- The sum of the slabs and the optimiser's step of one weight: the second layer's planes of the kernel's four arrays are the reference's. -/
module

public import proofs.«01_k».proof.Proof.NextFfRun
public import proofs.«01_k».proof.Proof.Gen.ReferenceNextFfIdeal.Read
public import proofs.«01_k».proof.Defs

@[expose] public section

noncomputable section

namespace Cert.NextFf

open Cert.KernelNextFfIdeal Cert.KernelNextFfIdeal.Gen Idealize.ShloMosaic Idealize.ShloMosaic.TcCoe Idealize.ShloMosaic.Tactic Idealize.SL.Sem
open Cert.ReferenceNextFfIdeal.Read Cert.StepSum

section
variable (x0 : Vec Ideal S8x352x1024 .bf16) (x1 : Vec Ideal S7x352x1024 .bf16) (x2 x3 x4 : Vec Ideal S2x352x1024 .f32)

/-- The reference's second layer, entry by entry. -/
abbrev eG (p q : ℕ) : EReal := total (at3 (n := 8) (a := 352) (b := 1024) x0 0 p q) (fun k => at3 (n := 7) (a := 352) (b := 1024) x1 k p q)
abbrev eM (p q : ℕ) : EReal := mom (eG x0 x1 p q) (at3 (n := 2) (a := 352) (b := 1024) x3 1 p q)
abbrev eU (p q : ℕ) : EReal := sq (eG x0 x1 p q) (at3 (n := 2) (a := 352) (b := 1024) x4 1 p q)
abbrev eD (p q : ℕ) : EReal := upd (at3 (n := 2) (a := 352) (b := 1024) x2 1 p q) (eM x0 x1 x3 p q) (eU x0 x1 x4 p q)

theorem ref_g (i : Cert.ReferenceNextFfIdeal.S352x1024.Idx) : val_main_v5 (F := Ideal) x0 x1 i = eG x0 x1 (i 0).val (i 1).val := by
  have h0 : (i 0).val < 352 := (i 0).isLt
  have h1 : (i 1).val < 1024 := (i 1).isLt
  rw [val_main_v5_apply, val_main_v2_apply, val_main_v1_apply, val_main_v0_apply, val_main_v4_apply, eG, total_eq]
  show x0 _ + (Ideal.ofBits .f32 0x00000000#32 + ∑ k : Fin 7, x1 _) = _
  rw [show Ideal.ofBits .f32 0x00000000#32 = 0 by simp [Ideal.ofBits, Ideal.ieee], zero_add]
  congr 1
  · refine at3_eq (n := 8) (a := 352) (b := 1024) _ _ _ _ _ rfl ?_ ?_
    · show ((i 0).val * 1024 + (i 1).val) / 1024 % 352 = _; omega
    · show ((i 0).val * 1024 + (i 1).val) % 1024 = _; omega
  · exact Finset.sum_congr rfl fun k _ => at3_eq (n := 7) (a := 352) (b := 1024) _ _ _ _ _ rfl rfl rfl

theorem ref_2 (i : Cert.ReferenceNextFfIdeal.S352x1024.Idx) : val_main_v7 (F := Ideal) x2 i = at3 (n := 2) (a := 352) (b := 1024) x2 1 (i 0).val (i 1).val := by
  have h0 : (i 0).val < 352 := (i 0).isLt
  have h1 : (i 1).val < 1024 := (i 1).isLt
  rw [val_main_v7_apply, val_main_v6_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_3 (i : Cert.ReferenceNextFfIdeal.S352x1024.Idx) : val_main_v9 (F := Ideal) x3 i = at3 (n := 2) (a := 352) (b := 1024) x3 1 (i 0).val (i 1).val := by
  have h0 : (i 0).val < 352 := (i 0).isLt
  have h1 : (i 1).val < 1024 := (i 1).isLt
  rw [val_main_v9_apply, val_main_v8_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_4 (i : Cert.ReferenceNextFfIdeal.S352x1024.Idx) : val_main_v11 (F := Ideal) x4 i = at3 (n := 2) (a := 352) (b := 1024) x4 1 (i 0).val (i 1).val := by
  have h0 : (i 0).val < 352 := (i 0).isLt
  have h1 : (i 1).val < 1024 := (i 1).isLt
  rw [val_main_v11_apply, val_main_v10_apply]
  refine at3_eq (n := 2) (a := 352) (b := 1024) _ _ _ _ _ rfl ?_ ?_
  · show ((i 0).val * 1024 + (i 1).val) / 1024 % 352 = _; omega
  · show ((i 0).val * 1024 + (i 1).val) % 1024 = _; omega

theorem ref_m (i : Cert.ReferenceNextFfIdeal.S352x1024.Idx) : val_main_v16 (F := Ideal) x0 x1 x3 i = eM x0 x1 x3 (i 0).val (i 1).val := by
  rw [val_main_v16_apply, val_main_v13_apply, val_main_v15_apply, val_main_v12_apply, val_main_v14_apply, ref_g, ref_3]
  rfl

theorem ref_u (i : Cert.ReferenceNextFfIdeal.S352x1024.Idx) : val_main_v22 (F := Ideal) x0 x1 x4 i = eU x0 x1 x4 (i 0).val (i 1).val := by
  rw [val_main_v22_apply, val_main_v18_apply, val_main_v21_apply, val_main_v19_apply, val_main_v17_apply, val_main_v20_apply, ref_g, ref_4]
  rfl

theorem ref_d (i : Cert.ReferenceNextFfIdeal.S352x1024.Idx) : val_main_v35 (F := Ideal) x0 x1 x2 x3 x4 i = eD x0 x1 x2 x3 x4 (i 0).val (i 1).val := by
  rw [val_main_v35_apply, val_main_v33_apply, val_main_v30_apply, val_main_v32_apply, val_main_v24_apply, val_main_v29_apply, val_main_v27_apply,
    val_main_v26_apply, val_main_v34_apply, val_main_v31_apply, val_main_v23_apply, val_main_v25_apply, val_main_v28_apply, ref_m, ref_u, ref_2]
  rfl

end

variable (m : (ℓ : Loc nD τ sig) → Buf (Elt Ideal) ℓ) (c : Dev nD)

abbrev A0 : Vec Ideal S8x352x1024 .bf16 := m (c.tc.loc main_arg0)
abbrev A1 : Vec Ideal S7x352x1024 .bf16 := m (c.tc.loc main_arg1)
abbrev A2 : Vec Ideal S2x352x1024 .f32 := m (c.tc.loc main_arg2)
abbrev A3 : Vec Ideal S2x352x1024 .f32 := m (c.tc.loc main_arg3)
abbrev A4 : Vec Ideal S2x352x1024 .f32 := m (c.tc.loc main_arg4)

/-- The kernel's four results, as the reference's functions of the arguments. -/
def resG : Buf (Elt Ideal) ((c : Thread nD τ).loc main_v4) := val_main_v5 (F := Ideal) (A0 m c) (A1 m c)
def resD : Buf (Elt Ideal) ((c : Thread nD τ).loc main_v6) := val_main_v35 (F := Ideal) (A0 m c) (A1 m c) (A2 m c) (A3 m c) (A4 m c)
def resM : Buf (Elt Ideal) ((c : Thread nD τ).loc main_v8) := val_main_v16 (F := Ideal) (A0 m c) (A1 m c) (A3 m c)
def resU : Buf (Elt Ideal) ((c : Thread nD τ).loc main_v10) := val_main_v22 (F := Ideal) (A0 m c) (A1 m c) (A4 m c)

theorem arg_0 : V m c main_arg0 = A0 m c := by
  show StableHlo.after hostOps0 _ _ = _
  simp only [hostOps0]
  after_results_simp <;> rfl

theorem arg_1 : V m c main_arg1 = A1 m c := by
  show StableHlo.after hostOps0 _ _ = _
  simp only [hostOps0]
  after_results_simp <;> rfl

theorem arg_2 : V m c main_arg2 = A2 m c := by
  show StableHlo.after hostOps0 _ _ = _
  simp only [hostOps0]
  after_results_simp <;> rfl

theorem arg_3 : V m c main_arg3 = A3 m c := by
  show StableHlo.after hostOps0 _ _ = _
  simp only [hostOps0]
  after_results_simp <;> rfl

theorem arg_4 : V m c main_arg4 = A4 m c := by
  show StableHlo.after hostOps0 _ _ = _
  simp only [hostOps0]
  after_results_simp <;> rfl

/-- The second plane of an array. -/
abbrev at1 (i : S352x1024.Idx) : S2x352x1024.Idx := fun a => match a with
  | ⟨0, _⟩ => ⟨1, by show (1 : ℕ) < 2; omega⟩
  | ⟨1, _⟩ => ⟨(i 0).val, (i 0).isLt⟩
  | ⟨2, _⟩ => ⟨(i 1).val, (i 1).isLt⟩

/-- The slice of the second plane, its first axis dropped, read at an entry. -/
theorem plane_1 (x : Vec Ideal S2x352x1024 .f32) (i : S352x1024.Idx) :
    (shapeCast S352x1024 (extractStridedSlice S1x352x1024 ![1, 0, 0] x slices_S2x352x1024_S1x352x1024_1_0_0) shapeCasts_S1x352x1024_S352x1024 : Vec Ideal S352x1024 .f32) i = x (at1 i) := by
  have h0 : (i 0).val < 352 := (i 0).isLt
  have h1 : (i 1).val < 1024 := (i 1).isLt
  refine (val_main_v7_apply (F := Ideal) x i).trans ?_
  rw [val_main_v6_apply]
  congr 1
  funext a
  apply Fin.ext
  match a with
  | ⟨0, _⟩ => rfl
  | ⟨1, _⟩ => show ((i 0).val * 1024 + (i 1).val) / 1024 % 352 = (i 0).val; omega
  | ⟨2, _⟩ => show ((i 0).val * 1024 + (i 1).val) % 1024 = (i 1).val; omega

/-- The contents the host's last lines read. -/
abbrev mid : Valuation τ sig (Elt Ideal) :=
  Pipeline.withArrays (Pipeline.pin pcfgs (fun _ => adm m (ok m)) 0).spec c (V0 m c) fun w => (dats m (ok m) 0 c).arrAt w (Pipeline.pin pcfgs (fun _ => adm m (ok m)) 0).N

theorem mid_5 : mid m c (Proc.devRef .tc main_v2_0) = (dats m (ok m) 0 c).arrAt 5 (cfgM m (ok m)).N :=
  Pipeline.withArrays_arr (Pipeline.pin pcfgs (fun _ => adm m (ok m)) 0).spec (show Function.Injective (Pipeline.arrRef spec0) by decide) c (V0 m c) _ 5

theorem last_5 : Pipeline.afterTail pcfgs (fun _ => adm m (ok m)) (dats m (ok m)) 0 (V0 m) [hostOps1] c main_v4 = resG m c := by
  have e : Pipeline.afterTail pcfgs (fun _ => adm m (ok m)) (dats m (ok m)) 0 (V0 m) [hostOps1] c main_v4
      = shapeCast S352x1024 (extractStridedSlice S1x352x1024 ![1, 0, 0] (mid m c (Proc.devRef .tc main_v2_0) : Vec Ideal S2x352x1024 .f32) slices_S2x352x1024_S1x352x1024_1_0_0) shapeCasts_S1x352x1024_S352x1024 := by
    show StableHlo.after hostOps1 (mid m c) _ = _
    simp only [hostOps1]
    after_results_simp <;> rfl
  rw [e, mid_5]
  funext i
  refine (plane_1 _ i).trans ((final_5 m c (at1 i)).trans ?_)
  refine (if_pos (show ((at1 i) 0).val = 1 from rfl)).trans ?_
  refine Eq.trans ?_ (ref_g (A0 m c) (A1 m c) i).symm
  simp only [rG, aS, aL, arg_0 m c, arg_1 m c]
  rfl

theorem mid_6 : mid m c (Proc.devRef .tc main_v2_1) = (dats m (ok m) 0 c).arrAt 6 (cfgM m (ok m)).N :=
  Pipeline.withArrays_arr (Pipeline.pin pcfgs (fun _ => adm m (ok m)) 0).spec (show Function.Injective (Pipeline.arrRef spec0) by decide) c (V0 m c) _ 6

theorem last_6 : Pipeline.afterTail pcfgs (fun _ => adm m (ok m)) (dats m (ok m)) 0 (V0 m) [hostOps1] c main_v6 = resD m c := by
  have e : Pipeline.afterTail pcfgs (fun _ => adm m (ok m)) (dats m (ok m)) 0 (V0 m) [hostOps1] c main_v6
      = shapeCast S352x1024 (extractStridedSlice S1x352x1024 ![1, 0, 0] (mid m c (Proc.devRef .tc main_v2_1) : Vec Ideal S2x352x1024 .f32) slices_S2x352x1024_S1x352x1024_1_0_0) shapeCasts_S1x352x1024_S352x1024 := by
    show StableHlo.after hostOps1 (mid m c) _ = _
    simp only [hostOps1]
    after_results_simp <;> rfl
  rw [e, mid_6]
  funext i
  refine (plane_1 _ i).trans ((final_6 m c (at1 i)).trans ?_)
  refine (if_pos (show ((at1 i) 0).val = 1 from rfl)).trans ?_
  refine Eq.trans ?_ (ref_d (A0 m c) (A1 m c) (A2 m c) (A3 m c) (A4 m c) i).symm
  simp only [rD, rM, rU, rG, aS, aL, aW, aM, aU, arg_0 m c, arg_1 m c, arg_2 m c, arg_3 m c, arg_4 m c]
  rfl

theorem mid_7 : mid m c (Proc.devRef .tc main_v2_2) = (dats m (ok m) 0 c).arrAt 7 (cfgM m (ok m)).N :=
  Pipeline.withArrays_arr (Pipeline.pin pcfgs (fun _ => adm m (ok m)) 0).spec (show Function.Injective (Pipeline.arrRef spec0) by decide) c (V0 m c) _ 7

theorem last_7 : Pipeline.afterTail pcfgs (fun _ => adm m (ok m)) (dats m (ok m)) 0 (V0 m) [hostOps1] c main_v8 = resM m c := by
  have e : Pipeline.afterTail pcfgs (fun _ => adm m (ok m)) (dats m (ok m)) 0 (V0 m) [hostOps1] c main_v8
      = shapeCast S352x1024 (extractStridedSlice S1x352x1024 ![1, 0, 0] (mid m c (Proc.devRef .tc main_v2_2) : Vec Ideal S2x352x1024 .f32) slices_S2x352x1024_S1x352x1024_1_0_0) shapeCasts_S1x352x1024_S352x1024 := by
    show StableHlo.after hostOps1 (mid m c) _ = _
    simp only [hostOps1]
    after_results_simp <;> rfl
  rw [e, mid_7]
  funext i
  refine (plane_1 _ i).trans ((final_7 m c (at1 i)).trans ?_)
  refine (if_pos (show ((at1 i) 0).val = 1 from rfl)).trans ?_
  refine Eq.trans ?_ (ref_m (A0 m c) (A1 m c) (A3 m c) i).symm
  simp only [rM, rG, aS, aL, aM, arg_0 m c, arg_1 m c, arg_3 m c]
  rfl

theorem mid_8 : mid m c (Proc.devRef .tc main_v2_3) = (dats m (ok m) 0 c).arrAt 8 (cfgM m (ok m)).N :=
  Pipeline.withArrays_arr (Pipeline.pin pcfgs (fun _ => adm m (ok m)) 0).spec (show Function.Injective (Pipeline.arrRef spec0) by decide) c (V0 m c) _ 8

theorem last_8 : Pipeline.afterTail pcfgs (fun _ => adm m (ok m)) (dats m (ok m)) 0 (V0 m) [hostOps1] c main_v10 = resU m c := by
  have e : Pipeline.afterTail pcfgs (fun _ => adm m (ok m)) (dats m (ok m)) 0 (V0 m) [hostOps1] c main_v10
      = shapeCast S352x1024 (extractStridedSlice S1x352x1024 ![1, 0, 0] (mid m c (Proc.devRef .tc main_v2_3) : Vec Ideal S2x352x1024 .f32) slices_S2x352x1024_S1x352x1024_1_0_0) shapeCasts_S1x352x1024_S352x1024 := by
    show StableHlo.after hostOps1 (mid m c) _ = _
    simp only [hostOps1]
    after_results_simp <;> rfl
  rw [e, mid_8]
  funext i
  refine (plane_1 _ i).trans ((final_8 m c (at1 i)).trans ?_)
  refine (if_pos (show ((at1 i) 0).val = 1 from rfl)).trans ?_
  refine Eq.trans ?_ (ref_u (A0 m c) (A1 m c) (A4 m c) i).symm
  simp only [rU, rG, aS, aL, aU, arg_0 m c, arg_1 m c, arg_4 m c]
  rfl

/-- The kernel and the reference sum the same gradient and take the same step. -/
theorem algebraic : Cert.algebraic_KernelNextFfIdeal_ReferenceNextFfIdeal := by
  intro m ρ m' ρ' _ hagree
  refine ⟨fun c => resG m c, fun c => resD m c, fun c => resM m c, fun c => resU m c, ?_, ?_⟩
  · refine (θ_run Cert.KernelNextFfIdeal.defs _ _).mono (fun _ h c => ?_) (θ_run_and (unchanged m ρ (ok m)) (run_main m ρ (ok m)))
    have q : ∀ b ∈ Pipeline.restRefs sig spec0, _ := (h.2 c).2
    exact ⟨(q main_v4 (by decide)).trans (last_5 m c), (q main_v6 (by decide)).trans (last_6 m c),
      (q main_v8 (by decide)).trans (last_7 m c), (q main_v10 (by decide)).trans (last_8 m c), h.1 c⟩
  · refine (θ_run Cert.ReferenceNextFfIdeal.defs _ _).mono (fun _ h c => ?_) (Cert.ReferenceNextFfIdeal.Value.run (F := Ideal) m' ρ')
    obtain ⟨a0, a1, a2, a3, a4⟩ := hagree c
    refine ⟨(h c).1.trans ?_, (h c).2.1.trans ?_, (h c).2.2.1.trans ?_, (h c).2.2.2.1.trans ?_, (h c).2.2.2.2⟩
    · refine (val_main_v5_eq (F := Ideal) _ _).trans ?_
      rw [a0, a1]
      rfl
    · refine (val_main_v35_eq (F := Ideal) _ _ _ _ _).trans ?_
      rw [a0, a1, a2, a3, a4]
      rfl
    · refine (val_main_v16_eq (F := Ideal) _ _ _).trans ?_
      rw [a0, a1, a3]
      rfl
    · refine (val_main_v22_eq (F := Ideal) _ _ _).trans ?_
      rw [a0, a1, a4]
      rfl

end Cert.NextFf

end
-- ==== Proof.LossPay.lean ====
/- The forward pass with the loss: the bodies of its second call, read by row and column. -/
module

public import proofs.«01_k».proof.Proof.Rows
public import proofs.«01_k».proof.Proof.Gen.KernelFfnLossIdeal.Skeleton
public import Idealize.ShloMosaic.Lib.Pointwise
public import Idealize.ShloMosaic.Lib.ValueIdx
public import Idealize.ShloMosaic.PureOps.Ideal.Laws
public import Idealize.ShloMosaic.Lib.Pipeline.Value
public import Idealize.ShloMosaic.Lib.Pipeline.ValueKit.Acc

@[expose] public section

set_option maxRecDepth 16384

noncomputable section

namespace Cert.LossPay

open Cert.KernelFfnLossIdeal Cert.KernelFfnLossIdeal.Gen Cert.Rows Idealize.ShloMosaic Idealize.ShloMosaic.TcCoe Idealize.ShloMosaic.Tactic Idealize.SL.Sem

/-! ## Constants -/

theorem ofBits_inv : Ideal.ofBits .f32 981467136#32 = ((1 / 1024 : ℝ) : EReal) := by
  simp [Ideal.ofBits, Ideal.ieee, -EReal.coe_mul]; norm_num

theorem ofBits_half_inv : Ideal.ofBits .f32 0x3A000000#32 = ((1 / 2048 : ℝ) : EReal) := by
  simp [Ideal.ofBits, Ideal.ieee, -EReal.coe_mul]; norm_num

/-! ## The maths by row and column -/

/-- The logistic. -/
def LG (a : EReal) : EReal := Ideal.div 1 (1 + Ideal.exp (0 - a))
/-- The gate: the first product times its logistic, times the second. -/
def SW (a b : EReal) : EReal := a * LG a * b
/-- The product of a row with a row of the transposed weights. -/
def DT (h w : ℕ → ℕ → EReal) (p q : ℕ) : EReal := ∑ k : Fin 1024, h p k.val * w q k.val
def FF (h wg wu : ℕ → ℕ → EReal) (p q : ℕ) : EReal := SW (DT h wg p q) (DT h wu p q)
/-- The half of the second product that comes from the columns from `o` on. -/
def PT (h wg wu wd : ℕ → ℕ → EReal) (o p k : ℕ) : EReal := ∑ q : Fin 1408, FF h wg wu p (o + q.val) * wd (o + q.val) k
/-- The block's output less the target. -/
def ER (x h wg wu wd t : ℕ → ℕ → EReal) (o p k : ℕ) : EReal := x p k + PT h wg wu wd o p k - t p k

section
variable {x h wg wu wd t : ℕ → ℕ → EReal} {P o : ℕ}
variable {v0 : Vec Ideal S512x1024 .f32} {v1 : Vec Ideal S512x1024 .bf16} {v2 v4 v21 : Vec Ideal S1408x1024 .bf16} {v24 : Vec Ideal S512x1024 .f32}
  (h1 : ∀ j, v1 j = h (P + (j 0).val) (j 1).val) (h0 : ∀ j, v0 j = x (P + (j 0).val) (j 1).val) (h2 : ∀ j, v2 j = wg (o + (j 0).val) (j 1).val)
  (h3 : ∀ j, v4 j = wu (o + (j 0).val) (j 1).val) (h4 : ∀ j, v21 j = wd (o + (j 0).val) (j 1).val) (h5 : ∀ j, v24 j = t (P + (j 0).val) (j 1).val)
include h1

include h2 in
theorem k_a (j : S512x1408.Idx) : k0_pay7 v1 v2 j = DT h wg (P + (j 0).val) (o + (j 1).val) := by
  have e : k0_pay7 v1 v2 j = ∑ k : Fin 1024, v1 (ix2 (j 0) k) * v2 (ix2 (j 1) k) := by
    unfold k0_pay7 k0_pay5
    pointwise
  rw [e]
  simp only [h1, h2]
  rfl

include h3 in
theorem k_b (j : S512x1408.Idx) : k0_pay8 v1 v4 j = DT h wu (P + (j 0).val) (o + (j 1).val) := k_a h1 h3 j

include h2 h3 in
theorem k_f (j : S512x1408.Idx) : k0_pay9 v1 v2 v4 j = FF h wg wu (P + (j 0).val) (o + (j 1).val) := by
  rw [FF, ← k_a h1 h2 j, ← k_b h1 h3 j]
  unfold k0_pay9 k0_pay7 k0_pay8 SW LG
  pointwise

include h0 h2 h3 h4 h5

theorem k_e (j : S512x1024.Idx) : k0_pay10 v0 v1 v2 v4 v21 v24 j = ER x h wg wu wd t o (P + (j 0).val) (j 1).val := by
  have e : k0_pay10 v0 v1 v2 v4 v21 v24 j = v0 j + ∑ k : Fin 1408, k0_pay9 v1 v2 v4 (ix2 (j 0) k) * v21 (ix2 k (j 1)) - v24 j := by
    unfold k0_pay10
    pointwise
  rw [e, h0 j, h5 j]
  simp only [k_f h1 h2 h3, h4]
  rfl

theorem k_dx (j : S512x1024.Idx) : k0_pay11 v0 v1 v2 v4 v21 v24 j = ER x h wg wu wd t o (P + (j 0).val) (j 1).val * ((1 / 1024 : ℝ) : EReal) := by
  have e : k0_pay11 v0 v1 v2 v4 v21 v24 j = k0_pay10 v0 v1 v2 v4 v21 v24 j * Ideal.ofBits .f32 981467136#32 := by
    unfold k0_pay11
    pointwise
  rw [e, k_e h1 h0 h2 h3 h4 h5, ofBits_inv]

end

/-- The column sums of the squares. -/
theorem k_sq (v : Vec Ideal S512x1024 .f32) (j : S1x1024.Idx) : k0_pay1 (F := Ideal) v j = ∑ r : Fin 512, v (ix2 r (j 1)) * v (ix2 r (j 1)) := by
  unfold k0_pay1
  pointwise

theorem k_sq2 (v : Vec Ideal S512x1024 .f32) : k0_pay2 (F := Ideal) v = k0_pay1 (F := Ideal) v := by
  unfold k0_pay2
  exact shapeCast_self _ _

theorem k_sq3 (v : Vec Ideal S512x1024 .f32) (s : Vec Ideal S1x1024 .f32) (j : S1x1024.Idx) : k0_pay3 (F := Ideal) v s j = s j + k0_pay1 (F := Ideal) v j := by
  unfold k0_pay3
  pointwise

theorem k_loss (s : Vec Ideal S1x1024 .f32) (j : S1x128.Idx) : k0_pay4 (F := Ideal) s j = (∑ q : Fin 1024, s (ix2 0 q)) * ((1 / 2048 : ℝ) : EReal) := by
  rw [← ofBits_half_inv]
  unfold k0_pay4
  pointwise
  simp

end Cert.LossPay

end
-- ==== Proof.LossRun.lean ====
/- What the second call of the forward pass with the loss leaves in its results, read by row and column. -/
module

public import proofs.«01_k».proof.Proof.LossPay
public import proofs.«01_k».proof.Proof.Gen.KernelFfnLossIdeal.Frame

@[expose] public section

set_option maxRecDepth 16384

noncomputable section

namespace Cert.LossRun

open Cert.KernelFfnLossIdeal Cert.KernelFfnLossIdeal.Gen Cert.Rows Cert.LossPay Idealize.ShloMosaic Idealize.ShloMosaic.TcCoe Idealize.ShloMosaic.Tactic Idealize.SL.Sem
open Idealize.ShloMosaic.Pipeline (Dat)

variable (m : (ℓ : Loc nD τ sig) → Buf (Elt Ideal) ℓ) (c : Dev nD)

/-! ## What a point stores -/

section
variable (i : grid0.Coords) (arg1 : Memref sig .tc .vmem S512x1024 .bf16) (harg1 : arg1.IsWhole) (arg2 : Memref sig .tc .vmem S512x1024 .f32) (harg2 : arg2.IsWhole) (arg3 : Memref sig .tc .vmem S1408x1024 .bf16) (harg3 : arg3.IsWhole) (arg4 : Memref sig .tc .vmem S1408x1024 .bf16) (harg4 : arg4.IsWhole) (arg5 : Memref sig .tc .vmem S1408x1024 .bf16) (harg5 : arg5.IsWhole) (arg9 : Memref sig .tc .vmem S512x1024 .f32) (harg9 : arg9.IsWhole) (arg10 : Memref sig .tc .vmem S512x1408 .bf16) (harg10 : arg10.IsWhole) (arg11 : Memref sig .tc .vmem S512x1408 .bf16) (harg11 : arg11.IsWhole) (arg12 : Memref sig .tc .vmem S512x1408 .bf16) (harg12 : arg12.IsWhole) (arg13 : Memref sig .tc .vmem S512x1024 .f32) (harg13 : arg13.IsWhole) (arg14 : Memref sig .tc .vmem S1x128 .f32) (harg14 : arg14.IsWhole) (arg15 : Memref sig .tc .vmem S1x1024 .f32) (harg15 : arg15.IsWhole)
  (x0 : Vec Ideal S512x1024 .bf16) (x1 : Vec Ideal S512x1024 .f32) (x2 x3 x4 : Vec Ideal S1408x1024 .bf16) (x5 : Vec Ideal S512x1024 .f32) (s0 : Vec Ideal S1x1024 .f32)

theorem out_A_6 (k0 : cond0_0 i) (k1 : ¬cond0_1 i) (k2 : ¬cond0_2 i) : out0_A_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 = k0_pay7 (F := Ideal) x0 x2 := by
  unfold out0_A_6
  rw [View.read_writes_eq_canon _ _ _ (cover0_A_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5)]
  unfold kernelRun0_A
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_A_7 (k0 : cond0_0 i) (k1 : ¬cond0_1 i) (k2 : ¬cond0_2 i) : out0_A_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 = k0_pay8 (F := Ideal) x0 x3 := by
  unfold out0_A_7
  rw [View.read_writes_eq_canon _ _ _ (cover0_A_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5)]
  unfold kernelRun0_A
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_A_8 (k0 : cond0_0 i) (k1 : ¬cond0_1 i) (k2 : ¬cond0_2 i) : out0_A_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 = k0_pay9 (F := Ideal) x0 x2 x3 := by
  unfold out0_A_8
  rw [View.read_writes_eq_canon _ _ _ (cover0_A_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5)]
  unfold kernelRun0_A
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_A_9 (k0 : cond0_0 i) (k1 : ¬cond0_1 i) (k2 : ¬cond0_2 i) : out0_A_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 = k0_pay11 (F := Ideal) x1 x0 x2 x3 x4 x5 := by
  unfold out0_A_9
  rw [View.read_writes_eq_canon _ _ _ (cover0_A_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5)]
  unfold kernelRun0_A
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem sout_A (k0 : cond0_0 i) (k1 : ¬cond0_1 i) (k2 : ¬cond0_2 i) : sout0_A_0 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 = k0_pay2 (F := Ideal) (k0_pay10 (F := Ideal) x1 x0 x2 x3 x4 x5) := by
  unfold sout0_A_0
  rw [View.read_writes_eq_canon _ _ _ (scover0_A_0 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5)]
  unfold kernelRun0_A
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_B_6 (k0 : ¬cond0_0 i) (k1 : cond0_1 i) (k2 : ¬cond0_2 i) : out0_B_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay7 (F := Ideal) x0 x2 := by
  unfold out0_B_6
  rw [View.read_writes_eq_canon _ _ _ (cover0_B_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_B
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_B_7 (k0 : ¬cond0_0 i) (k1 : cond0_1 i) (k2 : ¬cond0_2 i) : out0_B_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay8 (F := Ideal) x0 x3 := by
  unfold out0_B_7
  rw [View.read_writes_eq_canon _ _ _ (cover0_B_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_B
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_B_8 (k0 : ¬cond0_0 i) (k1 : cond0_1 i) (k2 : ¬cond0_2 i) : out0_B_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay9 (F := Ideal) x0 x2 x3 := by
  unfold out0_B_8
  rw [View.read_writes_eq_canon _ _ _ (cover0_B_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_B
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_B_9 (k0 : ¬cond0_0 i) (k1 : cond0_1 i) (k2 : ¬cond0_2 i) : out0_B_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay11 (F := Ideal) x1 x0 x2 x3 x4 x5 := by
  unfold out0_B_9
  rw [View.read_writes_eq_canon _ _ _ (cover0_B_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_B
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem sout_B (k0 : ¬cond0_0 i) (k1 : cond0_1 i) (k2 : ¬cond0_2 i) : sout0_B_0 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay3 (F := Ideal) (k0_pay10 (F := Ideal) x1 x0 x2 x3 x4 x5) s0 := by
  unfold sout0_B_0
  rw [View.read_writes_eq_canon _ _ _ (scover0_B_0 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_B
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_C_6 (k0 : ¬cond0_0 i) (k1 : cond0_1 i) (k2 : cond0_2 i) : out0_C_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay7 (F := Ideal) x0 x2 := by
  unfold out0_C_6
  rw [View.read_writes_eq_canon _ _ _ (cover0_C_6 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_C_7 (k0 : ¬cond0_0 i) (k1 : cond0_1 i) (k2 : cond0_2 i) : out0_C_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay8 (F := Ideal) x0 x3 := by
  unfold out0_C_7
  rw [View.read_writes_eq_canon _ _ _ (cover0_C_7 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_C_8 (k0 : ¬cond0_0 i) (k1 : cond0_1 i) (k2 : cond0_2 i) : out0_C_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay9 (F := Ideal) x0 x2 x3 := by
  unfold out0_C_8
  rw [View.read_writes_eq_canon _ _ _ (cover0_C_8 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_C_9 (k0 : ¬cond0_0 i) (k1 : cond0_1 i) (k2 : cond0_2 i) : out0_C_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay11 (F := Ideal) x1 x0 x2 x3 x4 x5 := by
  unfold out0_C_9
  rw [View.read_writes_eq_canon _ _ _ (cover0_C_9 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

theorem out_C_10 (k0 : ¬cond0_0 i) (k1 : cond0_1 i) (k2 : cond0_2 i) : out0_C_10 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0 = k0_pay4 (F := Ideal) (k0_pay3 (F := Ideal) (k0_pay10 (F := Ideal) x1 x0 x2 x3 x4 x5) s0) := by
  unfold out0_C_10
  rw [View.read_writes_eq_canon _ _ _ (cover0_C_10 c i arg1 harg1 arg2 harg2 arg3 harg3 arg4 harg4 arg5 harg5 arg9 harg9 arg10 harg10 arg11 harg11 arg12 harg12 arg13 harg13 arg14 harg14 arg15 harg15 k0 k1 k2 x0 x1 x2 x3 x4 x5 s0)]
  unfold kernelRun0_C
  dsimp only
  sl_unfold_words
  rw [View.canon_unit_zero hz]
  simp only [View.readCov_unit_zero (S := S1x1024) _ hz, View.readAt_eq_ld, harg1.read_unread, harg2.read_unread, harg3.read_unread, harg4.read_unread, harg5.read_unread, harg9.read_unread, harg10.read_unread, harg11.read_unread, harg12.read_unread, harg13.read_unread, harg14.read_unread, harg15.read_unread, View.ld_unit_zero (S := S512x1024) hz, View.ld_unit_zero (S := S1408x1024) hz, View.ld_unit_zero (S := S1x1024) hz, shapeCast_self]

end

/-! ## The blocks of the arguments -/

def fh (p q : ℕ) : EReal := at2 (a := 8192) (b := 1024) (V m c main_arg0) p q
def fp (p q : ℕ) : EReal := at2 (a := 8192) (b := 1024) (V m c main_arg1) p q
def fwg (p q : ℕ) : EReal := at2 (a := 2816) (b := 1024) (V m c main_arg2) p q
def fwu (p q : ℕ) : EReal := at2 (a := 2816) (b := 1024) (V m c main_arg3) p q
def fwd (p q : ℕ) : EReal := at2 (a := 2816) (b := 1024) (V m c main_arg4) p q
def ft (p q : ℕ) : EReal := at2 (a := 8192) (b := 1024) (V m c main_arg8) p q

theorem idx_0 : ∀ t : Fin cfg0.N, win0_0.index t 0 = t.val ∧ win0_0.index t 1 = 0 := by decide +kernel
theorem idx_1 : ∀ t : Fin cfg0.N, win0_1.index t 0 = t.val ∧ win0_1.index t 1 = 0 := by decide +kernel
theorem idx_2 : ∀ t : Fin cfg0.N, win0_2.index t 0 = 1 ∧ win0_2.index t 1 = 0 := by decide +kernel
theorem idx_3 : ∀ t : Fin cfg0.N, win0_3.index t 0 = 1 ∧ win0_3.index t 1 = 0 := by decide +kernel
theorem idx_4 : ∀ t : Fin cfg0.N, win0_4.index t 0 = 1 ∧ win0_4.index t 1 = 0 := by decide +kernel
theorem idx_5 : ∀ t : Fin cfg0.N, win0_5.index t 0 = t.val ∧ win0_5.index t 1 = 0 := by decide +kernel
theorem idx_6 : ∀ t : Fin cfg0.N, win0_6.index t 0 = t.val ∧ win0_6.index t 1 = 1 := by decide +kernel
theorem idx_7 : ∀ t : Fin cfg0.N, win0_7.index t 0 = t.val ∧ win0_7.index t 1 = 1 := by decide +kernel
theorem idx_8 : ∀ t : Fin cfg0.N, win0_8.index t 0 = t.val ∧ win0_8.index t 1 = 1 := by decide +kernel
theorem idx_9 : ∀ t : Fin cfg0.N, win0_9.index t 0 = t.val ∧ win0_9.index t 1 = 0 := by decide +kernel
theorem idx_10 : ∀ t : Fin cfg0.N, win0_10.index t 0 = 0 ∧ win0_10.index t 1 = 0 := by decide +kernel

abbrev ERR (p k : ℕ) : EReal := ER (fp m c) (fh m c) (fwg m c) (fwu m c) (fwd m c) (ft m c) 1408 p k

section
variable (t : Fin cfg0.N)

theorem b_0 (j : S512x1024.Idx) : (iblk m c 0 t : Vec Ideal S512x1024 .bf16) j = fh m c (512 * t.val + (j 0).val) (j 1).val := by
  unfold iblk
  rw [View.read_apply]
  refine at2_eq (a := 8192) (b := 1024) _ _ _ _ ?_ ?_
  · show win0_0.index t 0 * 512 + 1 * (j 0).val = _; rw [(idx_0 t).1]; omega
  · show win0_0.index t 1 * 1024 + 1 * (j 1).val = _; rw [(idx_0 t).2]; omega

theorem b_1 (j : S512x1024.Idx) : (iblk m c 1 t : Vec Ideal S512x1024 .f32) j = fp m c (512 * t.val + (j 0).val) (j 1).val := by
  unfold iblk
  rw [View.read_apply]
  refine at2_eq (a := 8192) (b := 1024) _ _ _ _ ?_ ?_
  · show win0_1.index t 0 * 512 + 1 * (j 0).val = _; rw [(idx_1 t).1]; omega
  · show win0_1.index t 1 * 1024 + 1 * (j 1).val = _; rw [(idx_1 t).2]; omega

theorem b_2 (j : S1408x1024.Idx) : (iblk m c 2 t : Vec Ideal S1408x1024 .bf16) j = fwg m c (1408 + (j 0).val) (j 1).val := by
  unfold iblk
  rw [View.read_apply]
  refine at2_eq (a := 2816) (b := 1024) _ _ _ _ ?_ ?_
  · show win0_2.index t 0 * 1408 + 1 * (j 0).val = _; rw [(idx_2 t).1]; omega
  · show win0_2.index t 1 * 1024 + 1 * (j 1).val = _; rw [(idx_2 t).2]; omega

theorem b_3 (j : S1408x1024.Idx) : (iblk m c 3 t : Vec Ideal S1408x1024 .bf16) j = fwu m c (1408 + (j 0).val) (j 1).val := by
  unfold iblk
  rw [View.read_apply]
  refine at2_eq (a := 2816) (b := 1024) _ _ _ _ ?_ ?_
  · show win0_3.index t 0 * 1408 + 1 * (j 0).val = _; rw [(idx_3 t).1]; omega
  · show win0_3.index t 1 * 1024 + 1 * (j 1).val = _; rw [(idx_3 t).2]; omega

theorem b_4 (j : S1408x1024.Idx) : (iblk m c 4 t : Vec Ideal S1408x1024 .bf16) j = fwd m c (1408 + (j 0).val) (j 1).val := by
  unfold iblk
  rw [View.read_apply]
  refine at2_eq (a := 2816) (b := 1024) _ _ _ _ ?_ ?_
  · show win0_4.index t 0 * 1408 + 1 * (j 0).val = _; rw [(idx_4 t).1]; omega
  · show win0_4.index t 1 * 1024 + 1 * (j 1).val = _; rw [(idx_4 t).2]; omega

theorem b_5 (j : S512x1024.Idx) : (iblk m c 5 t : Vec Ideal S512x1024 .f32) j = ft m c (512 * t.val + (j 0).val) (j 1).val := by
  unfold iblk
  rw [View.read_apply]
  refine at2_eq (a := 8192) (b := 1024) _ _ _ _ ?_ ?_
  · show win0_5.index t 0 * 512 + 1 * (j 0).val = _; rw [(idx_5 t).1]; omega
  · show win0_5.index t 1 * 1024 + 1 * (j 1).val = _; rw [(idx_5 t).2]; omega

theorem o_6 (j : S512x1408.Idx) : (outsAt0 m c t.val t.isLt).1 j = DT (fh m c) (fwg m c) (512 * t.val + (j 0).val) (1408 + (j 1).val) := by
  have hN : t.val < 16 := lt_of_lt_of_eq t.isLt (show cfg0.N = 16 from N_0)
  by_cases h0 : t.val % 16 = 0
  · rw [outsAt0_A m c t h0 (by omega) (by omega)]
    dsimp only
    rw [out_A_6]
    exact k_a (b_0 m c t) (b_2 m c t) j
  · by_cases h2 : t.val % 16 = 15
    · rw [outsAt0_C m c t h0 (by omega) h2]
      dsimp only
      rw [out_C_6]
      exact k_a (b_0 m c t) (b_2 m c t) j
    · rw [outsAt0_B m c t h0 (by omega) h2]
      dsimp only
      rw [out_B_6]
      exact k_a (b_0 m c t) (b_2 m c t) j

theorem o_7 (j : S512x1408.Idx) : (outsAt0 m c t.val t.isLt).2.1 j = DT (fh m c) (fwu m c) (512 * t.val + (j 0).val) (1408 + (j 1).val) := by
  have hN : t.val < 16 := lt_of_lt_of_eq t.isLt (show cfg0.N = 16 from N_0)
  by_cases h0 : t.val % 16 = 0
  · rw [outsAt0_A m c t h0 (by omega) (by omega)]
    dsimp only
    rw [out_A_7]
    exact k_b (b_0 m c t) (b_3 m c t) j
  · by_cases h2 : t.val % 16 = 15
    · rw [outsAt0_C m c t h0 (by omega) h2]
      dsimp only
      rw [out_C_7]
      exact k_b (b_0 m c t) (b_3 m c t) j
    · rw [outsAt0_B m c t h0 (by omega) h2]
      dsimp only
      rw [out_B_7]
      exact k_b (b_0 m c t) (b_3 m c t) j

theorem o_8 (j : S512x1408.Idx) : (outsAt0 m c t.val t.isLt).2.2.1 j = FF (fh m c) (fwg m c) (fwu m c) (512 * t.val + (j 0).val) (1408 + (j 1).val) := by
  have hN : t.val < 16 := lt_of_lt_of_eq t.isLt (show cfg0.N = 16 from N_0)
  by_cases h0 : t.val % 16 = 0
  · rw [outsAt0_A m c t h0 (by omega) (by omega)]
    dsimp only
    rw [out_A_8]
    exact k_f (b_0 m c t) (b_2 m c t) (b_3 m c t) j
  · by_cases h2 : t.val % 16 = 15
    · rw [outsAt0_C m c t h0 (by omega) h2]
      dsimp only
      rw [out_C_8]
      exact k_f (b_0 m c t) (b_2 m c t) (b_3 m c t) j
    · rw [outsAt0_B m c t h0 (by omega) h2]
      dsimp only
      rw [out_B_8]
      exact k_f (b_0 m c t) (b_2 m c t) (b_3 m c t) j

theorem o_9 (j : S512x1024.Idx) : (outsAt0 m c t.val t.isLt).2.2.2.1 j = ERR m c (512 * t.val + (j 0).val) (j 1).val * ((1 / 1024 : ℝ) : EReal) := by
  have hN : t.val < 16 := lt_of_lt_of_eq t.isLt (show cfg0.N = 16 from N_0)
  by_cases h0 : t.val % 16 = 0
  · rw [outsAt0_A m c t h0 (by omega) (by omega)]
    dsimp only
    rw [out_A_9]
    exact k_dx (b_0 m c t) (b_1 m c t) (b_2 m c t) (b_3 m c t) (b_4 m c t) (b_5 m c t) j
  · by_cases h2 : t.val % 16 = 15
    · rw [outsAt0_C m c t h0 (by omega) h2]
      dsimp only
      rw [out_C_9]
      exact k_dx (b_0 m c t) (b_1 m c t) (b_2 m c t) (b_3 m c t) (b_4 m c t) (b_5 m c t) j
    · rw [outsAt0_B m c t h0 (by omega) h2]
      dsimp only
      rw [out_B_9]
      exact k_dx (b_0 m c t) (b_1 m c t) (b_2 m c t) (b_3 m c t) (b_4 m c t) (b_5 m c t) j

/-- The column sums of the squares of one block of rows. -/
theorem part (j : S1x1024.Idx) : k0_pay1 (F := Ideal) (k0_pay10 (F := Ideal) (iblk m c 1 t) (iblk m c 0 t) (iblk m c 2 t) (iblk m c 3 t) (iblk m c 4 t) (iblk m c 5 t)) j
    = ∑ k ∈ Finset.range 512, ERR m c (512 * t.val + k) (j 1).val * ERR m c (512 * t.val + k) (j 1).val := by
  rw [k_sq, ← Fin.sum_univ_eq_sum_range (fun k => ERR m c (512 * t.val + k) (j 1).val * ERR m c (512 * t.val + k) (j 1).val)]
  refine Finset.sum_congr rfl fun r _ => ?_
  rw [k_e (b_0 m c t) (b_1 m c t) (b_2 m c t) (b_3 m c t) (b_4 m c t) (b_5 m c t)]
  rfl

end

/-! ## The running sum -/

/-- After point `n` the scratch holds the column sums over the rows met so far. -/
theorem carried : ∀ (n : ℕ) (h : n < cfg0.N), ¬n % 16 = 15 → ∀ j : S1x1024.Idx,
    (outsAt0 m c n h).2.2.2.2.2 j = ∑ k ∈ Finset.range (512 * (n + 1)), ERR m c k (j 1).val * ERR m c k (j 1).val := by
  intro n
  induction n with
  | zero =>
    intro h _ j
    rw [outsAt0_A m c ⟨0, h⟩ rfl (show ¬1 ≤ 0 by decide) (show ¬0 % 16 = 15 by decide)]
    dsimp only
    rw [sout_A, k_sq2, part]
    simp
  | succ n ih =>
    intro h h3 j
    have hN : n + 1 < 16 := lt_of_lt_of_eq h (show cfg0.N = 16 from N_0)
    have ih' := ih (Nat.lt_of_succ_lt h) (by omega) j
    rw [outsAt0_B m c ⟨n + 1, h⟩ (show ¬(n + 1) % 16 = 0 by omega) (show 1 ≤ n + 1 by omega) h3]
    dsimp only
    rw [sout_B, k_sq3, part]
    dsimp only [Nat.add_sub_cancel]
    rw [← more 512 _ (n + 1)]
    exact congrArg (· + _) ih'

/-- The loss: the last point's sum over the columns. -/
def LOSS : EReal := (∑ q : Fin 1024, ∑ k ∈ Finset.range 8192, ERR m c k q.val * ERR m c k q.val) * ((1 / 2048 : ℝ) : EReal)

theorem o_10 (t : Fin cfg0.N) (h2 : t.val % 16 = 15) (j : S1x128.Idx) : (outsAt0 m c t.val t.isLt).2.2.2.2.1 j = LOSS m c := by
  have hN : t.val < 16 := lt_of_lt_of_eq t.isLt (show cfg0.N = 16 from N_0)
  have ht : t.val = 15 := by omega
  have ih := carried m c (t.val - 1) (Nat.lt_of_le_of_lt (Nat.sub_le _ _) t.isLt) (by omega)
  rw [outsAt0_C m c t (by omega) (by omega) h2]
  dsimp only
  rw [out_C_10, k_loss, LOSS]
  refine congrArg (· * _) (Finset.sum_congr rfl fun q _ => ?_)
  rw [k_sq3, part, ih, ht]
  exact more 512 (fun k => ERR m c k q.val * ERR m c k q.val) 15

/-! ## The results -/

theorem mem_6 (t : Fin cfg0.N) (i : S8192x2816.Idx)
    (h0 : win0_6.index t 0 * 512 ≤ (i 0).val ∧ (i 0).val < win0_6.index t 0 * 512 + 512)
    (h1 : win0_6.index t 1 * 1408 ≤ (i 1).val ∧ (i 1).val < win0_6.index t 1 * 1408 + 1408) : i ∈ ((cfg0.win 6).blk t).view.set := by
  show i ∈ ((View.whole main_v0_0).slice (win0_6.rect t)).set
  rw [View.set_slice_whole, Rect.mem_set_unit]
  intro a
  match a with
  | ⟨0, _⟩ => exact h0
  | ⟨1, _⟩ => exact h1

theorem final_6 (i : S8192x2816.Idx) : ((dats m 0 c).arrAt 6 cfg0.N : S8192x2816.Idx → EReal) i
    = if 1408 ≤ (i 1).val then DT (fh m c) (fwg m c) (i 0).val (i 1).val else (V m c main_v0_0 : S8192x2816.Idx → EReal) i := by
  refine ((dats m 0 c).arrAt_eq_piecewise 6
    (fun i : S8192x2816.Idx => DT (fh m c) (fwg m c) (i 0).val (i 1).val : Buf (Elt Ideal) ((c : Thread nD τ).loc main_v0_0)) (fun t _ => ?_) i).trans ?_
  · show (cfg0.win 6).cut (grid0.coords t) ((dats m 0 c).after 6 t) = _
    rw [after0_6]
    funext j
    rw [View.read_apply]
    refine (o_6 m c t j).trans ?_
    show DT (fh m c) (fwg m c) _ _ = DT (fh m c) (fwg m c) _ _
    congr 1
    · show _ = win0_6.index t 0 * 512 + 1 * (j 0).val; rw [(idx_6 t).1]; omega
    · show _ = win0_6.index t 1 * 1408 + 1 * (j 1).val; rw [(idx_6 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg0.N = 16 from N_0]; omega⟩, flush0_6 _, mem_6 _ _ ?_ ?_⟩
      · rw [(idx_6 _).1]; dsimp only; omega
      · rw [(idx_6 _).2]; omega
    · rw [if_neg h]
      refine if_neg ?_
      rintro ⟨t, -, hm⟩
      have hm' : i ∈ ((View.whole main_v0_0).slice (win0_6.rect t)).set := hm
      rw [View.set_slice_whole, Rect.mem_set_unit] at hm'
      have := (hm' 1).1
      have e : win0_6.index t 1 * 1408 ≤ (i 1).val := this
      rw [(idx_6 t).2] at e
      omega

theorem mem_7 (t : Fin cfg0.N) (i : S8192x2816.Idx)
    (h0 : win0_7.index t 0 * 512 ≤ (i 0).val ∧ (i 0).val < win0_7.index t 0 * 512 + 512)
    (h1 : win0_7.index t 1 * 1408 ≤ (i 1).val ∧ (i 1).val < win0_7.index t 1 * 1408 + 1408) : i ∈ ((cfg0.win 7).blk t).view.set := by
  show i ∈ ((View.whole main_v0_1).slice (win0_7.rect t)).set
  rw [View.set_slice_whole, Rect.mem_set_unit]
  intro a
  match a with
  | ⟨0, _⟩ => exact h0
  | ⟨1, _⟩ => exact h1

theorem final_7 (i : S8192x2816.Idx) : ((dats m 0 c).arrAt 7 cfg0.N : S8192x2816.Idx → EReal) i
    = if 1408 ≤ (i 1).val then DT (fh m c) (fwu m c) (i 0).val (i 1).val else (V m c main_v0_1 : S8192x2816.Idx → EReal) i := by
  refine ((dats m 0 c).arrAt_eq_piecewise 7
    (fun i : S8192x2816.Idx => DT (fh m c) (fwu m c) (i 0).val (i 1).val : Buf (Elt Ideal) ((c : Thread nD τ).loc main_v0_1)) (fun t _ => ?_) i).trans ?_
  · show (cfg0.win 7).cut (grid0.coords t) ((dats m 0 c).after 7 t) = _
    rw [after0_7]
    funext j
    rw [View.read_apply]
    refine (o_7 m c t j).trans ?_
    show DT (fh m c) (fwu m c) _ _ = DT (fh m c) (fwu m c) _ _
    congr 1
    · show _ = win0_7.index t 0 * 512 + 1 * (j 0).val; rw [(idx_7 t).1]; omega
    · show _ = win0_7.index t 1 * 1408 + 1 * (j 1).val; rw [(idx_7 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg0.N = 16 from N_0]; omega⟩, flush0_7 _, mem_7 _ _ ?_ ?_⟩
      · rw [(idx_7 _).1]; dsimp only; omega
      · rw [(idx_7 _).2]; omega
    · rw [if_neg h]
      refine if_neg ?_
      rintro ⟨t, -, hm⟩
      have hm' : i ∈ ((View.whole main_v0_1).slice (win0_7.rect t)).set := hm
      rw [View.set_slice_whole, Rect.mem_set_unit] at hm'
      have := (hm' 1).1
      have e : win0_7.index t 1 * 1408 ≤ (i 1).val := this
      rw [(idx_7 t).2] at e
      omega

theorem mem_8 (t : Fin cfg0.N) (i : S8192x2816.Idx)
    (h0 : win0_8.index t 0 * 512 ≤ (i 0).val ∧ (i 0).val < win0_8.index t 0 * 512 + 512)
    (h1 : win0_8.index t 1 * 1408 ≤ (i 1).val ∧ (i 1).val < win0_8.index t 1 * 1408 + 1408) : i ∈ ((cfg0.win 8).blk t).view.set := by
  show i ∈ ((View.whole main_v0_2).slice (win0_8.rect t)).set
  rw [View.set_slice_whole, Rect.mem_set_unit]
  intro a
  match a with
  | ⟨0, _⟩ => exact h0
  | ⟨1, _⟩ => exact h1

theorem final_8 (i : S8192x2816.Idx) : ((dats m 0 c).arrAt 8 cfg0.N : S8192x2816.Idx → EReal) i
    = if 1408 ≤ (i 1).val then FF (fh m c) (fwg m c) (fwu m c) (i 0).val (i 1).val else (V m c main_v0_2 : S8192x2816.Idx → EReal) i := by
  refine ((dats m 0 c).arrAt_eq_piecewise 8
    (fun i : S8192x2816.Idx => FF (fh m c) (fwg m c) (fwu m c) (i 0).val (i 1).val : Buf (Elt Ideal) ((c : Thread nD τ).loc main_v0_2)) (fun t _ => ?_) i).trans ?_
  · show (cfg0.win 8).cut (grid0.coords t) ((dats m 0 c).after 8 t) = _
    rw [after0_8]
    funext j
    rw [View.read_apply]
    refine (o_8 m c t j).trans ?_
    show FF (fh m c) (fwg m c) (fwu m c) _ _ = FF (fh m c) (fwg m c) (fwu m c) _ _
    congr 1
    · show _ = win0_8.index t 0 * 512 + 1 * (j 0).val; rw [(idx_8 t).1]; omega
    · show _ = win0_8.index t 1 * 1408 + 1 * (j 1).val; rw [(idx_8 t).2]; omega
  · have b0 : (i 0 : Nat) < 8192 := (i 0).isLt
    have b1 : (i 1 : Nat) < 2816 := (i 1).isLt
    by_cases h : 1408 ≤ (i 1).val
    · rw [if_pos h]
      refine if_pos ⟨⟨(i 0).val / 512, by rw [show cfg0.N = 16 from N_0]; omega⟩, flush0_8 _, mem_8 _ _ ?_ ?_⟩
      · rw [(idx_8 _).1]; dsimp only; omega
      · rw [(idx_8 _).2]; omega
    · rw [if_neg h]
      refine if_neg ?_
      rintro ⟨t, -, hm⟩
      have hm' : i ∈ ((View.whole main_v0_2).slice (win0_8.rect t)).set := hm
      rw [View.set_slice_whole, Rect.mem_set_unit] at hm'
      have := (hm' 1).1
      have e : win0_8.index t 1 * 1408 ≤ (i 1).val := this
      rw [(idx_8 t).2] at e
      omega

theorem mem_9 (t : Fin cfg0.N) (i : S8192x1024.Idx)
    (h0 : win0_9.index t 0 * 512 ≤ (i 0).val ∧ (i 0).val < win0_9.index t 0 * 512 + 512)
    (h1 : win0_9.index t 1 * 1024 ≤ (i 1).val ∧ (i 1).val < win0_9.index t 1 * 1024 + 1024) : i ∈ ((cfg0.win 9).blk t).view.set := by
  show i ∈ ((View.whole main_v0_3).slice (win0_9.rect t)).set
  rw [View.set_slice_whole, Rect.mem_set_unit]
  intro a
  match a with
  | ⟨0, _⟩ => exact h0
  | ⟨1, _⟩ => exact h1

theorem mem_10 (t : Fin cfg0.N) (i : S1x128.Idx)
    (h0 : win0_10.index t 0 * 1 ≤ (i 0).val ∧ (i 0).val < win0_10.index t 0 * 1 + 1)
    (h1 : win0_10.index t 1 * 128 ≤ (i 1).val ∧ (i 1).val < win0_10.index t 1 * 128 + 128) : i ∈ ((cfg0.win 10).blk t).view.set := by
  show i ∈ ((View.whole main_v0_4).slice (win0_10.rect t)).set
  rw [View.set_slice_whole, Rect.mem_set_unit]
  intro a
  match a with
  | ⟨0, _⟩ => exact h0
  | ⟨1, _⟩ => exact h1

theorem final_9 : (dats m 0 c).arrAt 9 cfg0.N
    = (fun i : S8192x1024.Idx => ERR m c (i 0).val (i 1).val * ((1 / 1024 : ℝ) : EReal) : Buf (Elt Ideal) ((c : Thread nD τ).loc main_v0_3)) := by
  refine (dats m 0 c).arrAt_eq_of_cover 9 _ (fun t _ => ?_) fun i => ?_
  · show (cfg0.win 9).cut (grid0.coords t) ((dats m 0 c).after 9 t) = _
    rw [after0_9]
    funext j
    rw [View.read_apply]
    refine (o_9 m c t j).trans ?_
    show ERR m c _ _ * _ = ERR m c _ _ * _
    congr 2
    · show _ = win0_9.index t 0 * 512 + 1 * (j 0).val; rw [(idx_9 t).1]; omega
    · show _ = win0_9.index t 1 * 1024 + 1 * (j 1).val; rw [(idx_9 t).2]; omega
  · have b0 : (i 0 : Nat) < 8192 := (i 0).isLt
    have b1 : (i 1 : Nat) < 1024 := (i 1).isLt
    refine ⟨⟨(i 0).val / 512, by rw [show cfg0.N = 16 from N_0]; omega⟩, flush0_9 _, mem_9 _ _ ?_ ?_⟩
    · rw [(idx_9 _).1]; dsimp only; omega
    · rw [(idx_9 _).2]; omega

theorem final_10 : (dats m 0 c).arrAt 10 cfg0.N = (fun _ : S1x128.Idx => LOSS m c : Buf (Elt Ideal) ((c : Thread nD τ).loc main_v0_4)) := by
  refine (dats m 0 c).arrAt_eq_of_cover 10 _ (fun t hf => ?_) fun i => ?_
  · show (cfg0.win 10).cut (grid0.coords t) ((dats m 0 c).after 10 t) = _
    rw [after0_10]
    funext j
    rw [View.read_apply]
    exact o_10 m c t ((flush0_10 t).mp hf) j
  · have b0 : (i 0 : Nat) < 1 := (i 0).isLt
    have b1 : (i 1 : Nat) < 128 := (i 1).isLt
    refine ⟨⟨15, by rw [show cfg0.N = 16 from N_0]; omega⟩, (flush0_10 _).mpr rfl, mem_10 _ _ ?_ ?_⟩
    · rw [(idx_10 _).1]; omega
    · rw [(idx_10 _).2]; omega

end Cert.LossRun

end
-- ==== Proof.LossRef.lean ====
/- The reference of the forward pass with the loss, read by row and column. -/
module

public import proofs.«01_k».proof.Proof.LossPay
public import proofs.«01_k».proof.Proof.Gen.ReferenceFfnLossIdeal.Read

@[expose] public section

set_option maxRecDepth 16384

noncomputable section

namespace Cert.LossRef

open Cert.ReferenceFfnLossIdeal Cert.ReferenceFfnLossIdeal.Read Cert.Rows Cert.LossPay Idealize.ShloMosaic Idealize.ShloMosaic.TcCoe Idealize.ShloMosaic.Tactic Idealize.SL.Sem

/-! ## Constants -/

theorem zero_bits : Ideal.ofBits .f32 0x00000000#32 = 0 := by
  simp [Ideal.ofBits, Ideal.ieee, -EReal.coe_mul]

theorem one_bits : Ideal.ofBits .f32 0x3F800000#32 = 1 := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem size_bits : Ideal.ofBits .f32 0x44800000#32 = ((1024 : ℝ) : EReal) := by
  simp [Ideal.ofBits, Ideal.ieee, -EReal.coe_mul]; norm_num

/-! ## Sums -/

/-- A real factor that is not negative comes out of a sum. -/
theorem sum_mul_coe {ι : Type} (s : Finset ι) (f : ι → EReal) (r : ℝ) (hr : 0 ≤ r) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

theorem sum_rows (f : ℕ → EReal) : ∑ j : S8192.Idx, f (j 0).val = ∑ k ∈ Finset.range 8192, f k := by
  rw [← Fin.sum_univ_eq_sum_range f 8192]
  let e : S8192.Idx ≃ Fin 8192 :=
    { toFun := fun j => (j 0 : Fin 8192)
      invFun := fun p a => match a with | ⟨0, _⟩ => p
      left_inv := fun j => funext fun a => match a with | ⟨0, _⟩ => rfl
      right_inv := fun _ => rfl }
  exact Fintype.sum_equiv e _ _ fun _ => rfl

/-- Half the sum over the rows of their mean square is the sum of all squares by the constant. -/
theorem loss_eq (g : ℕ → ℕ → EReal) :
    ((1 / 2 : ℝ) : EReal) * (0 + ∑ j : S8192.Idx, Ideal.div (0 + ∑ k : Fin 1024, g (j 0).val k.val) ((1024 : ℝ) : EReal))
      = (∑ q : Fin 1024, ∑ k ∈ Finset.range 8192, g k q.val) * ((1 / 2048 : ℝ) : EReal) := by
  simp only [zero_add, Ideal.div_coe (show (1024 : ℝ) ≠ 0 by norm_num)]
  rw [sum_mul_coe _ _ _ (by norm_num), sum_rows (fun p => ∑ k : Fin 1024, g p k.val), Finset.sum_comm, mul_comm, mul_assoc, ← EReal.coe_mul]
  norm_num

theorem dx_eq (e : EReal) : Ideal.div (((1 / 2 : ℝ) : EReal) * 1) ((1024 : ℝ) : EReal) * (((2 : ℝ) : EReal) * e) = e * ((1 / 1024 : ℝ) : EReal) := by
  rw [mul_one, Ideal.div_coe (show (1024 : ℝ) ≠ 0 by norm_num), ← mul_assoc, mul_comm _ e, ← EReal.coe_mul, ← EReal.coe_mul]
  norm_num

/-! ## The arguments by row and column -/

section
variable (x0 : Vec Ideal S8192x1024 .bf16) (x1 : Vec Ideal S8192x1024 .f32) (x2 x3 x4 : Vec Ideal S2816x1024 .bf16) (x5 x6 x7 : Vec Ideal S8192x2816 .bf16) (x8 : Vec Ideal S8192x1024 .f32)

abbrev rh (p q : ℕ) : EReal := at2 (a := 8192) (b := 1024) x0 p q
abbrev wt (p q : ℕ) : EReal := at2 (a := 2816) (b := 1024) x2 p q

theorem r7 (i : S1024x1408.Idx) : val_main_v7 (F := Ideal) x2 i = wt x2 (1408 + (i 1).val) (i 0).val := by
  rw [val_main_v7_apply, val_main_v2_apply, val_main_v1_apply]
  exact at2_eq (a := 2816) (b := 1024) x2 _ _ _ rfl rfl

theorem r6 (i : S1408x1024.Idx) : val_main_v6 (F := Ideal) x4 i = wt x4 (1408 + (i 0).val) (i 1).val := by
  rw [val_main_v6_apply, val_main_v5_apply]
  exact at2_eq (a := 2816) (b := 1024) x4 _ _ _ rfl rfl

theorem r8 (i : S8192x1408.Idx) : val_main_v8 (F := Ideal) x0 x2 i = DT (rh x0) (wt x2) (i 0).val (1408 + (i 1).val) := by
  refine (val_main_v8_apply x0 x2 i).trans ?_
  rw [DT]
  refine Finset.sum_congr rfl fun k _ => ?_
  rw [r7, val_main_v0_apply]
  exact congrArg₂ (· * ·) (at2_eq (a := 8192) (b := 1024) x0 _ _ _ rfl rfl) rfl

theorem r10 (i : S8192x1408.Idx) : val_main_v10 (F := Ideal) x0 x3 i = DT (rh x0) (wt x3) (i 0).val (1408 + (i 1).val) :=
  r8 x0 x3 i

theorem r12 (i : S8192x1408.Idx) : val_main_v12 (F := Ideal) x0 x2 x3 i = FF (rh x0) (wt x2) (wt x3) (i 0).val (1408 + (i 1).val) := by
  rw [val_main_v12_apply, val_main_v11_apply, val_main_call0_v5_apply, val_main_call0_v4_apply, val_main_call0_v3_apply, val_main_call0_v2_apply,
    val_main_call0_v1_apply, val_main_call0_v0_apply, FF, ← r8 x0 x2 i, ← r10 x0 x3 i]
  show (val_main_v8 (F := Ideal) x0 x2 i * Ideal.div (Ideal.ofBits .f32 0x3F800000#32) (Ideal.ofBits .f32 0x3F800000#32 + Ideal.exp (-(val_main_v8 (F := Ideal) x0 x2 i))))
    * val_main_v10 (F := Ideal) x0 x3 i = _
  rw [one_bits, SW, LG, zero_sub]

theorem r15 (i : S8192x1024.Idx) : val_main_v15 (F := Ideal) x0 x1 x2 x3 x4 x8 i
    = ER (rh x1) (rh x0) (wt x2) (wt x3) (wt x4) (rh x8) 1408 (i 0).val (i 1).val := by
  rw [val_main_v15_apply, val_main_v14_apply, ER]
  refine congrArg₂ (· - ·) (congrArg₂ (· + ·) (at2_eq (a := 8192) (b := 1024) x1 _ _ _ rfl rfl) ((val_main_v13_apply x0 x2 x3 x4 i).trans ?_))
    (at2_eq (a := 8192) (b := 1024) x8 _ _ _ rfl rfl)
  rw [PT]
  refine Finset.sum_congr rfl fun k _ => ?_
  rw [r12, r6]

theorem r29 (i : S8192x1024.Idx) : val_main_v29 (F := Ideal) x0 x1 x2 x3 x4 x8 i
    = ER (rh x1) (rh x0) (wt x2) (wt x3) (wt x4) (rh x8) 1408 (i 0).val (i 1).val * ((1 / 1024 : ℝ) : EReal) := by
  rw [val_main_v29_apply, val_main_v28_apply, val_main_v27_apply, val_main_v26_apply, val_main_v25_apply, val_main_v24_apply, val_main_v18_apply, val_main_v17_apply, r15]
  show Ideal.div (Ideal.ofBits .f32 0x3F000000#32 * Ideal.ofBits .f32 0x3F800000#32) (Ideal.ofBits .f32 0x44800000#32) * (Ideal.ofBits .f32 0x40000000#32 * _) = _
  rw [half_bits, one_bits, size_bits, two_bits]
  exact dx_eq _

theorem r39 (i : S1x128.Idx) : val_main_v39 (F := Ideal) x0 x1 x2 x3 x4 x8 i
    = (∑ q : Fin 1024, ∑ k ∈ Finset.range 8192, ER (rh x1) (rh x0) (wt x2) (wt x3) (wt x4) (rh x8) 1408 k q.val
        * ER (rh x1) (rh x0) (wt x2) (wt x3) (wt x4) (rh x8) 1408 k q.val) * ((1 / 2048 : ℝ) : EReal) := by
  rw [val_main_v39_apply, val_main_v23_apply, val_main_v22_apply, ← loss_eq (fun k q => ER (rh x1) (rh x0) (wt x2) (wt x3) (wt x4) (rh x8) 1408 k q
        * ER (rh x1) (rh x0) (wt x2) (wt x3) (wt x4) (rh x8) 1408 k q)]
  refine congrArg₂ (· * ·) half_bits (congrArg₂ (· + ·) zero_bits (Finset.sum_congr rfl fun j _ => ?_))
  rw [val_main_v21_apply, val_main_v19_apply, val_main_v20_apply]
  refine congrArg₂ Ideal.div (congrArg₂ (· + ·) zero_bits (Finset.sum_congr rfl fun k _ => ?_)) size_bits
  rw [val_main_v16_apply, r15]
  rfl

/-- Two halves side by side. -/
theorem halves (y z : Vec Ideal S8192x1408 .bf16) (h : Shape.Concatenates [S8192x1408, S8192x1408] S8192x2816 1) (f g : ℕ → ℕ → EReal)
    (hy : ∀ j, y j = f (j 0).val (j 1).val) (hz : ∀ j, z j = g (j 0).val (1408 + (j 1).val)) (i : S8192x2816.Idx) :
    (concatenate S8192x2816 1 [⟨S8192x1408, y⟩, ⟨S8192x1408, z⟩] h : Vec Ideal S8192x2816 .bf16) i
      = if 1408 ≤ (i 1).val then g (i 0).val (i 1).val else f (i 0).val (i 1).val := by
  have b1 : (i 1).val < 2816 := (i 1).isLt
  by_cases hp : 1408 ≤ (i 1).val
  · rw [if_pos hp]
    have lt : (i 1).val - 1408 < 1408 := by omega
    refine (concatenate_pair_apply_right (t := S8192x2816) (s₁ := S8192x1408) (s₂ := S8192x1408) 1 y z h i rfl rfl
      (fun b => match b with | ⟨0, _⟩ => (i 0 : Fin 8192) | ⟨1, _⟩ => (⟨(i 1).val - 1408, lt⟩ : Fin 1408)) (fun b hb => by
      match b with | ⟨0, _⟩ => rfl | ⟨1, _⟩ => exact absurd rfl hb) (by show (i 1).val - 1408 + 1408 = (i 1).val; omega)).trans ?_
    rw [hz]
    show g (i 0).val (1408 + ((i 1).val - 1408)) = _
    congr 1
    omega
  · rw [if_neg hp]
    have lt : (i 1).val < 1408 := by omega
    refine (concatenate_pair_apply_left (t := S8192x2816) (s₁ := S8192x1408) (s₂ := S8192x1408) 1 y z h i rfl
      (fun b => match b with | ⟨0, _⟩ => (i 0 : Fin 8192) | ⟨1, _⟩ => (⟨(i 1).val, lt⟩ : Fin 1408)) (fun b => by
      match b with | ⟨0, _⟩ => rfl | ⟨1, _⟩ => rfl)).trans ?_
    rw [hy]

abbrev ro (p q : ℕ) : EReal := at2 (a := 8192) (b := 2816) x5 p q

theorem r32 (i : S8192x2816.Idx) : val_main_v32 (F := Ideal) x0 x2 x5 i
    = if 1408 ≤ (i 1).val then DT (rh x0) (wt x2) (i 0).val (i 1).val else ro x5 (i 0).val (i 1).val := by
  unfold val_main_v32
  refine halves _ _ _ (ro x5) (DT (rh x0) (wt x2)) (fun j => ?_) (fun j => ?_) i
  · rw [val_main_v30_apply]
    exact at2_eq (a := 8192) (b := 2816) x5 _ _ _ rfl rfl
  · exact (val_main_v31_apply x0 x2 j).trans (r8 x0 x2 j)

theorem r35 (i : S8192x2816.Idx) : val_main_v35 (F := Ideal) x0 x3 x6 i
    = if 1408 ≤ (i 1).val then DT (rh x0) (wt x3) (i 0).val (i 1).val else ro x6 (i 0).val (i 1).val :=
  r32 x0 x3 x6 i

theorem r38 (i : S8192x2816.Idx) : val_main_v38 (F := Ideal) x0 x2 x3 x7 i
    = if 1408 ≤ (i 1).val then FF (rh x0) (wt x2) (wt x3) (i 0).val (i 1).val else ro x7 (i 0).val (i 1).val := by
  unfold val_main_v38
  refine halves _ _ _ (ro x7) (FF (rh x0) (wt x2) (wt x3)) (fun j => ?_) (fun j => ?_) i
  · rw [val_main_v36_apply]
    exact at2_eq (a := 8192) (b := 2816) x7 _ _ _ rfl rfl
  · exact (val_main_v37_apply x0 x2 x3 j).trans (r12 x0 x2 x3 j)

end

end Cert.LossRef

end
-- ==== Proof.LossAlg.lean ====
/- The second call of the forward pass with the loss: the kernel and the reference leave equal results. -/
module

public import proofs.«01_k».proof.Proof.LossRun
public import proofs.«01_k».proof.Proof.LossRef
public import proofs.«01_k».proof.Defs

@[expose] public section

set_option maxRecDepth 16384

noncomputable section

namespace Cert.LossAlg

open Cert.KernelFfnLossIdeal Cert.KernelFfnLossIdeal.Gen Cert.Rows Cert.LossPay Cert.LossRun Idealize.ShloMosaic Idealize.ShloMosaic.TcCoe Idealize.ShloMosaic.Tactic Idealize.SL.Sem
open Cert.LossRef (rh wt ro)
open Cert.ReferenceFfnLossIdeal.Read (val_main_v32 val_main_v35 val_main_v38 val_main_v29 val_main_v39 val_main_v32_eq val_main_v35_eq val_main_v38_eq val_main_v29_eq val_main_v39_eq)

variable (m : (ℓ : Loc nD τ sig) → Buf (Elt Ideal) ℓ) (c : Dev nD)

abbrev A0 : Vec Ideal ⟨2, ![8192, 1024]⟩ .bf16 := m ((c : Thread nD τ).loc main_arg0)
abbrev A1 : Vec Ideal ⟨2, ![8192, 1024]⟩ .f32 := m ((c : Thread nD τ).loc main_arg1)
abbrev A2 : Vec Ideal ⟨2, ![2816, 1024]⟩ .bf16 := m ((c : Thread nD τ).loc main_arg2)
abbrev A3 : Vec Ideal ⟨2, ![2816, 1024]⟩ .bf16 := m ((c : Thread nD τ).loc main_arg3)
abbrev A4 : Vec Ideal ⟨2, ![2816, 1024]⟩ .bf16 := m ((c : Thread nD τ).loc main_arg4)
abbrev A5 : Vec Ideal ⟨2, ![8192, 2816]⟩ .bf16 := m ((c : Thread nD τ).loc main_arg5)
abbrev A6 : Vec Ideal ⟨2, ![8192, 2816]⟩ .bf16 := m ((c : Thread nD τ).loc main_arg6)
abbrev A7 : Vec Ideal ⟨2, ![8192, 2816]⟩ .bf16 := m ((c : Thread nD τ).loc main_arg7)
abbrev A8 : Vec Ideal ⟨2, ![8192, 1024]⟩ .f32 := m ((c : Thread nD τ).loc main_arg8)

theorem e_h : fh m c = rh (A0 m c) := by funext p q; unfold fh; rw [V_main_arg0]
theorem e_p : LossRun.fp m c = rh (A1 m c) := by funext p q; unfold LossRun.fp; rw [V_main_arg1]
theorem e_wg : fwg m c = wt (A2 m c) := by funext p q; unfold fwg; rw [V_main_arg2]
theorem e_wu : fwu m c = wt (A3 m c) := by funext p q; unfold fwu; rw [V_main_arg3]
theorem e_wd : fwd m c = wt (A4 m c) := by funext p q; unfold fwd; rw [V_main_arg4]
theorem e_t : ft m c = rh (A8 m c) := by funext p q; unfold ft; rw [V_main_arg8]

theorem copy_a : V m c main_v0_0 = A5 m c := by
  show StableHlo.after hostOps0 (fun b => m (c, b)) _ = _
  simp only [hostOps0]
  after_results_simp <;> rfl

theorem copy_b : V m c main_v0_1 = A6 m c := by
  show StableHlo.after hostOps0 (fun b => m (c, b)) _ = _
  simp only [hostOps0]
  after_results_simp <;> rfl

theorem copy_f : V m c main_v0_2 = A7 m c := by
  show StableHlo.after hostOps0 (fun b => m (c, b)) _ = _
  simp only [hostOps0]
  after_results_simp <;> rfl

/-! ## The five results, from the arguments -/

def resA : Buf (Elt Ideal) ((c : Thread nD τ).loc main_v0_0) := val_main_v32 (F := Ideal) (A0 m c) (A2 m c) (A5 m c)
def resB : Buf (Elt Ideal) ((c : Thread nD τ).loc main_v0_1) := val_main_v35 (F := Ideal) (A0 m c) (A3 m c) (A6 m c)
def resF : Buf (Elt Ideal) ((c : Thread nD τ).loc main_v0_2) := val_main_v38 (F := Ideal) (A0 m c) (A2 m c) (A3 m c) (A7 m c)
def resD : Buf (Elt Ideal) ((c : Thread nD τ).loc main_v0_3) := val_main_v29 (F := Ideal) (A0 m c) (A1 m c) (A2 m c) (A3 m c) (A4 m c) (A8 m c)
def resL : Buf (Elt Ideal) ((c : Thread nD τ).loc main_v0_4) := val_main_v39 (F := Ideal) (A0 m c) (A1 m c) (A2 m c) (A3 m c) (A4 m c) (A8 m c)

theorem last_a : (dats m 0 c).arrAt 6 cfg0.N = resA m c := by
  funext i
  refine (final_6 m c i).trans (Eq.trans ?_ (LossRef.r32 (A0 m c) (A2 m c) (A5 m c) i).symm)
  rw [e_h, e_wg, copy_a]
  exact if_congr Iff.rfl rfl (at2_eq (a := 8192) (b := 2816) (A5 m c) i _ _ rfl rfl)

theorem last_b : (dats m 0 c).arrAt 7 cfg0.N = resB m c := by
  funext i
  refine (final_7 m c i).trans (Eq.trans ?_ (LossRef.r35 (A0 m c) (A3 m c) (A6 m c) i).symm)
  rw [e_h, e_wu, copy_b]
  exact if_congr Iff.rfl rfl (at2_eq (a := 8192) (b := 2816) (A6 m c) i _ _ rfl rfl)

theorem last_f : (dats m 0 c).arrAt 8 cfg0.N = resF m c := by
  funext i
  refine (final_8 m c i).trans (Eq.trans ?_ (LossRef.r38 (A0 m c) (A2 m c) (A3 m c) (A7 m c) i).symm)
  rw [e_h, e_wg, e_wu, copy_f]
  exact if_congr Iff.rfl rfl (at2_eq (a := 8192) (b := 2816) (A7 m c) i _ _ rfl rfl)

theorem last_d : (dats m 0 c).arrAt 9 cfg0.N = resD m c := by
  refine (final_9 m c).trans ?_
  funext i
  refine Eq.trans ?_ (LossRef.r29 (A0 m c) (A1 m c) (A2 m c) (A3 m c) (A4 m c) (A8 m c) i).symm
  simp only [ERR, e_h, e_p, e_wg, e_wu, e_wd, e_t]

theorem last_l : (dats m 0 c).arrAt 10 cfg0.N = resL m c := by
  refine (final_10 m c).trans ?_
  funext i
  refine Eq.trans ?_ (LossRef.r39 (A0 m c) (A1 m c) (A2 m c) (A3 m c) (A4 m c) (A8 m c) i).symm
  simp only [LOSS, ERR, e_h, e_p, e_wg, e_wu, e_wd, e_t]

/-- The kernel's and the reference's results are the same arrays. -/
theorem algebraic : Cert.algebraic_KernelFfnLossIdeal_ReferenceFfnLossIdeal := by
  intro m ρ m' ρ' _ hagree
  refine ⟨fun c => resA m c, fun c => resB m c, fun c => resF m c, fun c => resD m c, fun c => resL m c, ?_, ?_⟩
  · refine (θ_run Cert.KernelFfnLossIdeal.defs _ _).mono (fun _ h c => ?_) (θ_run_and (unchanged m ρ) (run_main m ρ))
    exact ⟨((h.2 c).1 6).trans (last_a m c), ((h.2 c).1 7).trans (last_b m c), ((h.2 c).1 8).trans (last_f m c), ((h.2 c).1 9).trans (last_d m c),
      ((h.2 c).1 10).trans (last_l m c), h.1 c⟩
  · refine (θ_run Cert.ReferenceFfnLossIdeal.defs _ _).mono (fun _ h c => ?_) (Cert.ReferenceFfnLossIdeal.Value.run (F := Ideal) m' ρ')
    obtain ⟨a0, a1, a2, a3, a4, a5, a6, a7, a8⟩ := hagree c
    refine ⟨(h c).1.trans ?_, (h c).2.1.trans ?_, (h c).2.2.1.trans ?_, (h c).2.2.2.1.trans ?_, (h c).2.2.2.2.1.trans ?_, (h c).2.2.2.2.2⟩
    · refine (val_main_v32_eq (F := Ideal) _ _ _).trans ?_
      rw [a0, a2, a5]
      rfl
    · refine (val_main_v35_eq (F := Ideal) _ _ _).trans ?_
      rw [a0, a3, a6]
      rfl
    · refine (val_main_v38_eq (F := Ideal) _ _ _ _).trans ?_
      rw [a0, a2, a3, a7]
      rfl
    · refine (val_main_v29_eq (F := Ideal) _ _ _ _ _ _).trans ?_
      rw [a0, a1, a2, a3, a4, a8]
      rfl
    · refine (val_main_v39_eq (F := Ideal) _ _ _ _ _ _).trans ?_
      rw [a0, a1, a2, a3, a4, a8]
      rfl

end Cert.LossAlg

end
-- ==== Proof.FirstRun.lean ====
/- What the first call of the feed-forward net's forward pass, on its own, leaves in its results, read by row and column. -/
module

public import proofs.«01_k».proof.Proof.FwdRun
public import proofs.«01_k».proof.Proof.Gen.KernelFfnFirstIdeal.Frame

@[expose] public section

set_option maxRecDepth 16384

noncomputable section

namespace Cert.FirstRun

open Cert.KernelFfnFirstIdeal Cert.KernelFfnFirstIdeal.Gen Cert.Rows Cert.FfnPay Cert.NormProj Idealize.ShloMosaic Idealize.ShloMosaic.TcCoe Idealize.ShloMosaic.Tactic Idealize.SL.Sem
open Cert.FwdRun (SW DT FF PT)
open Idealize.ShloMosaic.Pipeline (Dat)

/-! ## The body -/

section
variable {x wg wu wd : ℕ → ℕ → EReal} {g : ℕ → EReal} {P o : ℕ}

section
variable {v0 : Vec Ideal S512x1024 .f32} {v1 : Vec Ideal S1x1024 .f32} {v2 v3 v4 : Vec Ideal S1408x1024 .bf16}
  (h0 : ∀ j, v0 j = x (P + (j 0).val) (j 1).val) (h1 : ∀ j, v1 j = g (j 1).val) (h2 : ∀ j, v2 j = wg (o + (j 0).val) (j 1).val)
  (h3 : ∀ j, v3 j = wu (o + (j 0).val) (j 1).val) (h4 : ∀ j, v4 j = wd (o + (j 0).val) (j 1).val)
include h0 h1

theorem k0_h (j : S512x1024.Idx) : k0_pay3 v0 v1 j = HN x g (P + (j 0).val) (j 1).val := by
  unfold k0_pay3
  pointwise
  simp only [h0, h1]
  rw [ofBits_inv, ofBits_eps, HN, XH, RR, ← sum_chunks (fun k => x (P + (j 0).val) k * x (P + (j 0).val) k)]
  rfl

include h2 in
theorem k0_a (j : S512x1408.Idx) : k0_pay4 v0 v1 v2 j = DT (HN x g) wg (P + (j 0).val) (o + (j 1).val) := by
  have e : k0_pay4 v0 v1 v2 j = ∑ k : Fin 1024, k0_pay3 v0 v1 (ix2 (j 0) k) * v2 (ix2 (j 1) k) := by
    unfold k0_pay4
    pointwise
  rw [e]
  simp only [k0_h h0 h1, h2]
  rfl

include h3 in
theorem k0_b (j : S512x1408.Idx) : k0_pay5 v0 v1 v3 j = DT (HN x g) wu (P + (j 0).val) (o + (j 1).val) := k0_a h0 h1 h3 j

include h2 h3 in
theorem k0_f (j : S512x1408.Idx) : k0_pay1 (k0_pay4 v0 v1 v2) (k0_pay5 v0 v1 v3) j = FF (HN x g) wg wu (P + (j 0).val) (o + (j 1).val) := by
  rw [FF, ← k0_a h0 h1 h2 j, ← k0_b h0 h1 h3 j]
  unfold k0_pay1 SW FfnPay.sig
  pointwise

include h2 h3 h4 in
theorem k0_part (j : S512x1024.Idx) : k0_pay2 v0 (k0_pay4 v0 v1 v2) (k0_pay5 v0 v1 v3) v4 j
    = x (P + (j 0).val) (j 1).val + PT (HN x g) wg wu wd o (P + (j 0).val) (j 1).val := by
  have e : k0_pay2 v0 (k0_pay4 v0 v1 v2) (k0_pay5 v0 v1 v3) v4 j
      = v0 j + ∑ k : Fin 1408, k0_pay1 (k0_pay4 v0 v1 v2) (k0_pay5 v0 v1 v3) (ix2 (j 0) k) * v4 (ix2 k (j 1)) := by
    unfold k0_pay2
    pointwise
  rw [e, h0 j]
  simp only [k0_f h0 h1 h2 h3, h4]
  rfl

end

end

variable (m : (ℓ : Loc nD τ sig) → Buf (Elt Ideal) ℓ) (c : Dev nD)

/-! ## The entry contents -/

def fx (p q : ℕ) : EReal := at2 (a := 8192) (b := 1024) (V m c main_arg0) p q
def fg (q : ℕ) : EReal := at2 (a := 1) (b := 1024) (V m c main_arg1) 0 q
def fwg (p q : ℕ) : EReal := at2 (a := 2816) (b := 1024) (V m c main_v1) p q
def fwu (p q : ℕ) : EReal := at2 (a := 2816) (b := 1024) (V m c main_v3) p q
def fwd (p q : ℕ) : EReal := at2 (a := 2816) (b := 1024) (V m c main_v4) p q

/-- What the call leaves of the sum of the block's input and the second product. -/
def OUT0 (p k : ℕ) : EReal := fx m c p k + PT (HN (fx m c) (fg m c)) (fwg m c) (fwu m c) (fwd m c) 0 p k

/-! ## The call -/

theorem idx0_0 : ∀ t : Fin cfg0.N, win0_0.index t 0 = t.val ∧ win0_0.index t 1 = 0 := by decide +kernel
theorem idx0_1 : ∀ t : Fin cfg0.N, win0_1.index t 0 = 0 ∧ win0_1.index t 1 = 0 := by decide +kernel
theorem idx0_2 : ∀ t : Fin cfg0.N, win0_2.index t 0 = 0 ∧ win0_2.index t 1 = 0 := by decide +kernel
theorem idx0_3 : ∀ t : Fin cfg0.N, win0_3.index t 0 = 0 ∧ win0_3.index t 1 = 0 := by decide +kernel
theorem idx0_4 : ∀ t : Fin cfg0.N, win0_4.index t 0 = 0 ∧ win0_4.index t 1 = 0 := by decide +kernel
theorem idx0_5 : ∀ t : Fin cfg0.N, win0_5.index t 0 = t.val ∧ win0_5.index t 1 = 0 := by decide +kernel
theorem idx0_6 : ∀ t : Fin cfg0.N, win0_6.index t 0 = t.val ∧ win0_6.index t 1 = 0 := by decide +kernel
theorem idx0_7 : ∀ t : Fin cfg0.N, win0_7.index t 0 = t.val ∧ win0_7.index t 1 = 0 := by decide +kernel
theorem idx0_8 : ∀ t : Fin cfg0.N, win0_8.index t 0 = t.val ∧ win0_8.index t 1 = 0 := by decide +kernel
theorem idx0_9 : ∀ t : Fin cfg0.N, win0_9.index t 0 = t.val ∧ win0_9.index t 1 = 0 := by decide +kernel

section
variable (t : Fin cfg0.N)

theorem b0_0 (j : S512x1024.Idx) : (iblk m c 0 t : Vec Ideal S512x1024 .f32) j = fx m c (512 * t.val + (j 0).val) (j 1).val := by
  unfold iblk
  rw [View.read_apply]
  refine at2_eq (a := 8192) (b := 1024) _ _ _ _ ?_ ?_
  · show win0_0.index t 0 * 512 + 1 * (j 0).val = _; rw [(idx0_0 t).1]; omega
  · show win0_0.index t 1 * 1024 + 1 * (j 1).val = _; rw [(idx0_0 t).2]; omega

theorem b0_1 (j : S1x1024.Idx) : (iblk m c 1 t : Vec Ideal S1x1024 .f32) j = fg m c (j 1).val := by
  have b : (j 0).val < 1 := (j 0).isLt
  unfold iblk
  rw [View.read_apply]
  refine at2_eq (a := 1) (b := 1024) _ _ _ _ ?_ ?_
  · show win0_1.index t 0 * 1 + 1 * (j 0).val = _; rw [(idx0_1 t).1]; omega
  · show win0_1.index t 1 * 1024 + 1 * (j 1).val = _; rw [(idx0_1 t).2]; omega

theorem b0_2 (j : S1408x1024.Idx) : (iblk m c 2 t : Vec Ideal S1408x1024 .bf16) j = fwg m c (0 + (j 0).val) (j 1).val := by
  unfold iblk
  rw [View.read_apply]
  refine at2_eq (a := 2816) (b := 1024) (V m c main_v1) _ _ _ ?_ ?_
  · show win0_2.index t 0 * 1408 + 1 * (j 0).val = _; rw [(idx0_2 t).1]; omega
  · show win0_2.index t 1 * 1024 + 1 * (j 1).val = _; rw [(idx0_2 t).2]; omega

theorem b0_3 (j : S1408x1024.Idx) : (iblk m c 3 t : Vec Ideal S1408x1024 .bf16) j = fwu m c (0 + (j 0).val) (j 1).val := by
  unfold iblk
  rw [View.read_apply]
  refine at2_eq (a := 2816) (b := 1024) (V m c main_v3) _ _ _ ?_ ?_
  · show win0_3.index t 0 * 1408 + 1 * (j 0).val = _; rw [(idx0_3 t).1]; omega
  · show win0_3.index t 1 * 1024 + 1 * (j 1).val = _; rw [(idx0_3 t).2]; omega

theorem b0_4 (j : S1408x1024.Idx) : (iblk m c 4 t : Vec Ideal S1408x1024 .bf16) j = fwd m c (0 + (j 0).val) (j 1).val := by
  unfold iblk
  rw [View.read_apply]
  refine at2_eq (a := 2816) (b := 1024) _ _ _ _ ?_ ?_
  · show win0_4.index t 0 * 1408 + 1 * (j 0).val = _; rw [(idx0_4 t).1]; omega
  · show win0_4.index t 1 * 1024 + 1 * (j 1).val = _; rw [(idx0_4 t).2]; omega

theorem o0_5 (j : S512x1024.Idx) : out0_5 (iblk m c 0 t) (iblk m c 1 t) (iblk m c 2 t) (iblk m c 3 t) (iblk m c 4 t) j = HN (fx m c) (fg m c) (512 * t.val + (j 0).val) (j 1).val := by
  unfold out0_5
  rw [View.canon_unit_zero hz]
  simp only [View.ld_unit_zero (S := S512x1024) hz, View.ld_unit_zero (S := S1x1024) hz, View.ld_unit_zero (S := S1408x1024) hz]
  exact k0_h (b0_0 m c t) (b0_1 m c t) j

theorem o0_6 (j : S512x1408.Idx) : out0_6 (iblk m c 0 t) (iblk m c 1 t) (iblk m c 2 t) (iblk m c 3 t) (iblk m c 4 t) j = DT (HN (fx m c) (fg m c)) (fwg m c) (512 * t.val + (j 0).val) (0 + (j 1).val) := by
  unfold out0_6
  rw [View.canon_unit_zero hz]
  simp only [View.ld_unit_zero (S := S512x1024) hz, View.ld_unit_zero (S := S1x1024) hz, View.ld_unit_zero (S := S1408x1024) hz]
  exact k0_a (b0_0 m c t) (b0_1 m c t) (b0_2 m c t) j

theorem o0_7 (j : S512x1408.Idx) : out0_7 (iblk m c 0 t) (iblk m c 1 t) (iblk m c 2 t) (iblk m c 3 t) (iblk m c 4 t) j = DT (HN (fx m c) (fg m c)) (fwu m c) (512 * t.val + (j 0).val) (0 + (j 1).val) := by
  unfold out0_7
  rw [View.canon_unit_zero hz]
  simp only [View.ld_unit_zero (S := S512x1024) hz, View.ld_unit_zero (S := S1x1024) hz, View.ld_unit_zero (S := S1408x1024) hz]
  exact k0_b (b0_0 m c t) (b0_1 m c t) (b0_3 m c t) j

theorem o0_8 (j : S512x1408.Idx) : out0_8 (iblk m c 0 t) (iblk m c 1 t) (iblk m c 2 t) (iblk m c 3 t) (iblk m c 4 t) j = FF (HN (fx m c) (fg m c)) (fwg m c) (fwu m c) (512 * t.val + (j 0).val) (0 + (j 1).val) := by
  unfold out0_8 k0_pay8 k0_pay9
  rw [View.canon_unit_zero hz]
  simp only [View.ld_unit_zero (S := S512x1024) hz, View.ld_unit_zero (S := S1x1024) hz, View.ld_unit_zero (S := S1408x1024) hz]
  exact k0_f (b0_0 m c t) (b0_1 m c t) (b0_2 m c t) (b0_3 m c t) j

theorem o0_9 (j : S512x1024.Idx) : out0_9 (iblk m c 0 t) (iblk m c 1 t) (iblk m c 2 t) (iblk m c 3 t) (iblk m c 4 t) j = OUT0 m c (512 * t.val + (j 0).val) (j 1).val := by
  unfold out0_9 k0_pay8 k0_pay9
  rw [View.canon_unit_zero hz]
  simp only [View.ld_unit_zero (S := S512x1024) hz, View.ld_unit_zero (S := S1x1024) hz, View.ld_unit_zero (S := S1408x1024) hz]
  exact k0_part (b0_0 m c t) (b0_1 m c t) (b0_2 m c t) (b0_3 m c t) (b0_4 m c t) j

end

theorem mem0_5 (t : Fin cfg0.N) (i : S8192x1024.Idx)
    (h0 : win0_5.index t 0 * 512 ≤ (i 0).val ∧ (i 0).val < win0_5.index t 0 * 512 + 512)
    (h1 : win0_5.index t 1 * 1024 ≤ (i 1).val ∧ (i 1).val < win0_5.index t 1 * 1024 + 1024) : i ∈ ((cfg0.win 5).blk t).view.set := by
  show i ∈ ((View.whole main_v5_0).slice (win0_5.rect t)).set
  rw [View.set_slice_whole, Rect.mem_set_unit]
  intro a
  match a with
  | ⟨0, _⟩ => exact h0
  | ⟨1, _⟩ => exact h1

theorem final0_5 : (dats m 0 c).arrAt 5 cfg0.N
    = (fun i : S8192x1024.Idx => HN (fx m c) (fg m c) (i 0).val (i 1).val : Buf (Elt Ideal) ((c : Thread nD τ).loc main_v5_0)) := by
  refine (dats m 0 c).arrAt_eq_of_cover 5 _ (fun t _ => ?_) fun i => ?_
  · show (cfg0.win 5).cut (grid0.coords t) ((dats m 0 c).after 5 t) = _
    rw [after0_5]
    funext j
    rw [View.read_apply]
    refine (o0_5 m c t j).trans ?_
    show HN (fx m c) (fg m c) _ _ = HN (fx m c) (fg m c) _ _
    congr 1
    · show _ = win0_5.index t 0 * 512 + 1 * (j 0).val; rw [(idx0_5 t).1]; omega
    · show _ = win0_5.index t 1 * 1024 + 1 * (j 1).val; rw [(idx0_5 t).2]; omega
  · have b0 : (i 0 : Nat) < 8192 := (i 0).isLt
    have b1 : (i 1 : Nat) < 1024 := (i 1).isLt
    refine ⟨⟨(i 0).val / 512, by rw [show cfg0.N = 16 from N_0]; omega⟩, flush0_5 _, mem0_5 _ _ ?_ ?_⟩
    · rw [(idx0_5 _).1]; dsimp only; omega
    · rw [(idx0_5 _).2]; omega

theorem mem0_6 (t : Fin cfg0.N) (i : S8192x2816.Idx)
    (h0 : win0_6.index t 0 * 512 ≤ (i 0).val ∧ (i 0).val < win0_6.index t 0 * 512 + 512)
    (h1 : win0_6.index t 1 * 1408 ≤ (i 1).val ∧ (i 1).val < win0_6.index t 1 * 1408 + 1408) : i ∈ ((cfg0.win 6).blk t).view.set := by
  show i ∈ ((View.whole main_v5_1).slice (win0_6.rect t)).set
  rw [View.set_slice_whole, Rect.mem_set_unit]
  intro a
  match a with
  | ⟨0, _⟩ => exact h0
  | ⟨1, _⟩ => exact h1

theorem final0_6 (i : S8192x2816.Idx) (hi : (i 1).val < 1408) : ((dats m 0 c).arrAt 6 cfg0.N : S8192x2816.Idx → EReal) i
    = DT (HN (fx m c) (fg m c)) (fwg m c) (i 0).val (i 1).val := by
  refine ((dats m 0 c).arrAt_eq_piecewise 6
    (fun i : S8192x2816.Idx => DT (HN (fx m c) (fg m c)) (fwg m c) (i 0).val (i 1).val : Buf (Elt Ideal) ((c : Thread nD τ).loc main_v5_1)) (fun t _ => ?_) i).trans (if_pos ?_)
  · show (cfg0.win 6).cut (grid0.coords t) ((dats m 0 c).after 6 t) = _
    rw [after0_6]
    funext j
    rw [View.read_apply]
    refine (o0_6 m c t j).trans ?_
    show DT (HN (fx m c) (fg m c)) (fwg m c) _ _ = DT (HN (fx m c) (fg m c)) (fwg m c) _ _
    congr 1
    · show _ = win0_6.index t 0 * 512 + 1 * (j 0).val; rw [(idx0_6 t).1]; omega
    · show _ = win0_6.index t 1 * 1408 + 1 * (j 1).val; rw [(idx0_6 t).2]; omega
  · have b0 : (i 0 : Nat) < 8192 := (i 0).isLt
    refine ⟨⟨(i 0).val / 512, by rw [show cfg0.N = 16 from N_0]; omega⟩, flush0_6 _, mem0_6 _ _ ?_ ?_⟩
    · rw [(idx0_6 _).1]; dsimp only; omega
    · rw [(idx0_6 _).2]; omega

theorem mem0_7 (t : Fin cfg0.N) (i : S8192x2816.Idx)
    (h0 : win0_7.index t 0 * 512 ≤ (i 0).val ∧ (i 0).val < win0_7.index t 0 * 512 + 512)
    (h1 : win0_7.index t 1 * 1408 ≤ (i 1).val ∧ (i 1).val < win0_7.index t 1 * 1408 + 1408) : i ∈ ((cfg0.win 7).blk t).view.set := by
  show i ∈ ((View.whole main_v5_2).slice (win0_7.rect t)).set
  rw [View.set_slice_whole, Rect.mem_set_unit]
  intro a
  match a with
  | ⟨0, _⟩ => exact h0
  | ⟨1, _⟩ => exact h1

theorem final0_7 (i : S8192x2816.Idx) (hi : (i 1).val < 1408) : ((dats m 0 c).arrAt 7 cfg0.N : S8192x2816.Idx → EReal) i
    = DT (HN (fx m c) (fg m c)) (fwu m c) (i 0).val (i 1).val := by
  refine ((dats m 0 c).arrAt_eq_piecewise 7
    (fun i : S8192x2816.Idx => DT (HN (fx m c) (fg m c)) (fwu m c) (i 0).val (i 1).val : Buf (Elt Ideal) ((c : Thread nD τ).loc main_v5_2)) (fun t _ => ?_) i).trans (if_pos ?_)
  · show (cfg0.win 7).cut (grid0.coords t) ((dats m 0 c).after 7 t) = _
    rw [after0_7]
    funext j
    rw [View.read_apply]
    refine (o0_7 m c t j).trans ?_
    show DT (HN (fx m c) (fg m c)) (fwu m c) _ _ = DT (HN (fx m c) (fg m c)) (fwu m c) _ _
    congr 1
    · show _ = win0_7.index t 0 * 512 + 1 * (j 0).val; rw [(idx0_7 t).1]; omega
    · show _ = win0_7.index t 1 * 1408 + 1 * (j 1).val; rw [(idx0_7 t).2]; omega
  · have b0 : (i 0 : Nat) < 8192 := (i 0).isLt
    refine ⟨⟨(i 0).val / 512, by rw [show cfg0.N = 16 from N_0]; omega⟩, flush0_7 _, mem0_7 _ _ ?_ ?_⟩
    · rw [(idx0_7 _).1]; dsimp only; omega
    · rw [(idx0_7 _).2]; omega

theorem mem0_8 (t : Fin cfg0.N) (i : S8192x2816.Idx)
    (h0 : win0_8.index t 0 * 512 ≤ (i 0).val ∧ (i 0).val < win0_8.index t 0 * 512 + 512)
    (h1 : win0_8.index t 1 * 1408 ≤ (i 1).val ∧ (i 1).val < win0_8.index t 1 * 1408 + 1408) : i ∈ ((cfg0.win 8).blk t).view.set := by
  show i ∈ ((View.whole main_v5_3).slice (win0_8.rect t)).set
  rw [View.set_slice_whole, Rect.mem_set_unit]
  intro a
  match a with
  | ⟨0, _⟩ => exact h0
  | ⟨1, _⟩ => exact h1

theorem final0_8 (i : S8192x2816.Idx) (hi : (i 1).val < 1408) : ((dats m 0 c).arrAt 8 cfg0.N : S8192x2816.Idx → EReal) i
    = FF (HN (fx m c) (fg m c)) (fwg m c) (fwu m c) (i 0).val (i 1).val := by
  refine ((dats m 0 c).arrAt_eq_piecewise 8
    (fun i : S8192x2816.Idx => FF (HN (fx m c) (fg m c)) (fwg m c) (fwu m c) (i 0).val (i 1).val : Buf (Elt Ideal) ((c : Thread nD τ).loc main_v5_3)) (fun t _ => ?_) i).trans (if_pos ?_)
  · show (cfg0.win 8).cut (grid0.coords t) ((dats m 0 c).after 8 t) = _
    rw [after0_8]
    funext j
    rw [View.read_apply]
    refine (o0_8 m c t j).trans ?_
    show FF (HN (fx m c) (fg m c)) (fwg m c) (fwu m c) _ _ = FF (HN (fx m c) (fg m c)) (fwg m c) (fwu m c) _ _
    congr 1
    · show _ = win0_8.index t 0 * 512 + 1 * (j 0).val; rw [(idx0_8 t).1]; omega
    · show _ = win0_8.index t 1 * 1408 + 1 * (j 1).val; rw [(idx0_8 t).2]; omega
  · have b0 : (i 0 : Nat) < 8192 := (i 0).isLt
    refine ⟨⟨(i 0).val / 512, by rw [show cfg0.N = 16 from N_0]; omega⟩, flush0_8 _, mem0_8 _ _ ?_ ?_⟩
    · rw [(idx0_8 _).1]; dsimp only; omega
    · rw [(idx0_8 _).2]; omega

theorem mem0_9 (t : Fin cfg0.N) (i : S8192x1024.Idx)
    (h0 : win0_9.index t 0 * 512 ≤ (i 0).val ∧ (i 0).val < win0_9.index t 0 * 512 + 512)
    (h1 : win0_9.index t 1 * 1024 ≤ (i 1).val ∧ (i 1).val < win0_9.index t 1 * 1024 + 1024) : i ∈ ((cfg0.win 9).blk t).view.set := by
  show i ∈ ((View.whole main_v5_4).slice (win0_9.rect t)).set
  rw [View.set_slice_whole, Rect.mem_set_unit]
  intro a
  match a with
  | ⟨0, _⟩ => exact h0
  | ⟨1, _⟩ => exact h1

theorem final0_9 : (dats m 0 c).arrAt 9 cfg0.N
    = (fun i : S8192x1024.Idx => OUT0 m c (i 0).val (i 1).val : Buf (Elt Ideal) ((c : Thread nD τ).loc main_v5_4)) := by
  refine (dats m 0 c).arrAt_eq_of_cover 9 _ (fun t _ => ?_) fun i => ?_
  · show (cfg0.win 9).cut (grid0.coords t) ((dats m 0 c).after 9 t) = _
    rw [after0_9]
    funext j
    rw [View.read_apply]
    refine (o0_9 m c t j).trans ?_
    show OUT0 m c _ _ = OUT0 m c _ _
    congr 1
    · show _ = win0_9.index t 0 * 512 + 1 * (j 0).val; rw [(idx0_9 t).1]; omega
    · show _ = win0_9.index t 1 * 1024 + 1 * (j 1).val; rw [(idx0_9 t).2]; omega
  · have b0 : (i 0 : Nat) < 8192 := (i 0).isLt
    have b1 : (i 1 : Nat) < 1024 := (i 1).isLt
    refine ⟨⟨(i 0).val / 512, by rw [show cfg0.N = 16 from N_0]; omega⟩, flush0_9 _, mem0_9 _ _ ?_ ?_⟩
    · rw [(idx0_9 _).1]; dsimp only; omega
    · rw [(idx0_9 _).2]; omega

end Cert.FirstRun

end
-- ==== Proof.FirstAlg.lean ====
/- The first call of the feed-forward net's forward pass on its own: the kernel's five results are the reference's. -/
module

public import proofs.«01_k».proof.Proof.FirstRun
public import proofs.«01_k».proof.Proof.FwdAlg
public import proofs.«01_k».proof.Proof.Gen.ReferenceFfnFirstIdeal.Read
public import proofs.«01_k».proof.Defs

@[expose] public section

set_option maxRecDepth 16384

noncomputable section

namespace Cert.FirstAlg

open Cert.KernelFfnFirstIdeal Cert.KernelFfnFirstIdeal.Gen Cert.Rows Cert.FfnPay Cert.FirstRun Idealize.ShloMosaic Idealize.ShloMosaic.TcCoe Idealize.ShloMosaic.Tactic Idealize.SL.Sem
open Cert.FwdRun (SW DT FF PT)
open Cert.NormProj (HN)
open Cert.FfnRef (rx rg rwg rwu rwd one_bits)
open Cert.ReferenceFfnFirstIdeal.Read

/-! ## The reference -/

section
variable (x0 : Vec Ideal S8192x1024 .f32) (x1 : Vec Ideal S1x1024 .f32) (x2 x3 : Vec Ideal ⟨2, ![1024, 2816]⟩ .f32) (x4 : Vec Ideal ⟨2, ![2816, 1024]⟩ .f32)

theorem r13 (i : S8192x1024.Idx) : val_main_v13 (F := Ideal) x0 x1 i = HN (rx x0) (rg x1) (i 0).val (i 1).val :=
  FfnRef.r16 x0 x1 i

theorem r15 (i : S8192x1408.Idx) : val_main_v15 (F := Ideal) x0 x1 x2 i = DT (HN (rx x0) (rg x1)) (rwg x2) (i 0).val (i 1).val := by
  refine (val_main_v15_apply x0 x1 x2 i).trans ?_
  rw [DT]
  refine Finset.sum_congr rfl fun k _ => ?_
  rw [r13, val_main_v14_apply]
  exact congrArg₂ (· * ·) rfl (at2_eq x2 _ _ _ rfl rfl)

theorem r17 (i : S8192x1408.Idx) : val_main_v17 (F := Ideal) x0 x1 x3 i = DT (HN (rx x0) (rg x1)) (rwu x3) (i 0).val (i 1).val :=
  r15 x0 x1 x3 i

theorem r19 (i : S8192x1408.Idx) : val_main_v19 (F := Ideal) x0 x1 x2 x3 i = FF (HN (rx x0) (rg x1)) (rwg x2) (rwu x3) (i 0).val (i 1).val := by
  rw [val_main_v19_apply, val_main_v18_apply, val_main_call0_v5_apply, val_main_call0_v4_apply, val_main_call0_v3_apply, val_main_call0_v2_apply,
    val_main_call0_v1_apply, val_main_call0_v0_apply, FF, ← r15 x0 x1 x2 i, ← r17 x0 x1 x3 i]
  show (val_main_v15 (F := Ideal) x0 x1 x2 i * Ideal.div (Ideal.ofBits .f32 0x3F800000#32) (Ideal.ofBits .f32 0x3F800000#32 + Ideal.exp (-(val_main_v15 (F := Ideal) x0 x1 x2 i))))
    * val_main_v17 (F := Ideal) x0 x1 x3 i = _
  rw [one_bits, SW, FfnPay.sig, zero_sub]

theorem r26 (i : S8192x1024.Idx) : val_main_v26 (F := Ideal) x0 x1 x2 x3 x4 i
    = rx x0 (i 0).val (i 1).val + PT (HN (rx x0) (rg x1)) (rwg x2) (rwu x3) (rwd x4) 0 (i 0).val (i 1).val := by
  rw [val_main_v26_apply]
  refine congrArg₂ (· + ·) (at2_eq x0 _ _ _ rfl rfl) ((val_main_v25_apply x0 x1 x2 x3 x4 i).trans ?_)
  rw [PT]
  refine Finset.sum_congr rfl fun k _ => ?_
  rw [r19, val_main_v24_apply, zero_add]
  exact congrArg₂ (· * ·) rfl (at2_eq x4 _ _ _ rfl rfl)

end

variable (m : (ℓ : Loc nD τ sig) → Buf (Elt Ideal) ℓ) (c : Dev nD)

abbrev A0 : Vec Ideal ⟨2, ![8192, 1024]⟩ .f32 := m ((c : Thread nD τ).loc main_arg0)
abbrev A1 : Vec Ideal ⟨2, ![1, 1024]⟩ .f32 := m ((c : Thread nD τ).loc main_arg1)
abbrev A2 : Vec Ideal ⟨2, ![1024, 2816]⟩ .f32 := m ((c : Thread nD τ).loc main_arg2)
abbrev A3 : Vec Ideal ⟨2, ![1024, 2816]⟩ .f32 := m ((c : Thread nD τ).loc main_arg3)
abbrev A4 : Vec Ideal ⟨2, ![2816, 1024]⟩ .f32 := m ((c : Thread nD τ).loc main_arg4)

/-- The kernel's five results, as the reference's functions of the arguments. -/
def resH : Buf (Elt Ideal) ((c : Thread nD τ).loc main_v5_0) := val_main_v20 (F := Ideal) (A0 m c) (A1 m c)
def resA : Buf (Elt Ideal) ((c : Thread nD τ).loc main_v6) := val_main_v21 (F := Ideal) (A0 m c) (A1 m c) (A2 m c)
def resB : Buf (Elt Ideal) ((c : Thread nD τ).loc main_v7) := val_main_v22 (F := Ideal) (A0 m c) (A1 m c) (A3 m c)
def resF : Buf (Elt Ideal) ((c : Thread nD τ).loc main_v8) := val_main_v23 (F := Ideal) (A0 m c) (A1 m c) (A2 m c) (A3 m c)
def resP : Buf (Elt Ideal) ((c : Thread nD τ).loc main_v5_4) := val_main_v26 (F := Ideal) (A0 m c) (A1 m c) (A2 m c) (A3 m c) (A4 m c)

/-! ## The operations before the call -/

theorem host_wg : V m c main_v1 = (transpose S2816x1024 [1, 0] (A2 m c) transposes_S1024x2816_S2816x1024_1_0 : Vec Ideal S2816x1024 .f32) := by
  show StableHlo.after hostOps0 _ _ = _
  simp only [hostOps0]
  after_results_simp <;> rfl

theorem host_wu : V m c main_v3 = (transpose S2816x1024 [1, 0] (A3 m c) transposes_S1024x2816_S2816x1024_1_0 : Vec Ideal S2816x1024 .f32) := by
  show StableHlo.after hostOps0 _ _ = _
  simp only [hostOps0]
  after_results_simp <;> rfl

theorem host_wd : V m c main_v4 = A4 m c := by
  show StableHlo.after hostOps0 _ _ = _
  simp only [hostOps0]
  after_results_simp <;> rfl

theorem e_x : fx m c = rx (A0 m c) := by funext p q; unfold fx; rw [V_main_arg0 m c]
theorem e_g : fg m c = rg (A1 m c) := by funext q; unfold fg; rw [V_main_arg1 m c]
theorem e_wg : fwg m c = rwg (A2 m c) := by funext p q; unfold fwg; rw [host_wg]; exact FwdAlg.tr_apply _ p q
theorem e_wu : fwu m c = rwu (A3 m c) := by funext p q; unfold fwu; rw [host_wu]; exact FwdAlg.tr_apply _ p q
theorem e_wd : fwd m c = rwd (A4 m c) := by funext p q; unfold fwd; rw [host_wd]

/-! ## The operations after the call -/

/-- The contents the host's last lines read. -/
abbrev mid : Valuation τ sig (Elt Ideal) := Pipeline.withArrays cfg0.spec c (V0 m c) fun w => (dats m 0 c).arrAt w cfg0.N

/-- A column of the first half, in the whole array. -/
abbrev wide (i : S8192x1408.Idx) : S8192x2816.Idx := fun a => match a with
  | ⟨0, _⟩ => ⟨(i 0).val, (i 0).isLt⟩
  | ⟨1, _⟩ => ⟨(i 1).val, by have h : (i 1).val < 1408 := (i 1).isLt; show (i 1).val < 2816; omega⟩

/-- The slice of the first half, read at an entry. -/
theorem left (x : Vec Ideal S8192x2816 .bf16) (i : S8192x1408.Idx) :
    (extractStridedSlice S8192x1408 ![0, 0] x slices_S8192x2816_S8192x1408_0_0 : Vec Ideal S8192x1408 .bf16) i = x (wide i) := by
  unfold extractStridedSlice
  refine congrArg x (funext fun a => Fin.ext ?_)
  match a with
  | ⟨0, _⟩ => show 0 + (i 0).val = (i 0).val; omega
  | ⟨1, _⟩ => show 0 + (i 1).val = (i 1).val; omega

theorem mid_6 : mid m c (Proc.devRef .tc main_v5_1) = (dats m 0 c).arrAt 6 cfg0.N :=
  Pipeline.withArrays_arr cfg0.spec (show Function.Injective (Pipeline.arrRef spec0) by decide) c (V0 m c) _ 6

theorem last_6 : Pipeline.afterTail₀ cfgs (dats m) 0 (V0 m) [hostOps1] c main_v6 = resA m c := by
  have e : Pipeline.afterTail₀ cfgs (dats m) 0 (V0 m) [hostOps1] c main_v6
      = extractStridedSlice S8192x1408 ![0, 0] (mid m c (Proc.devRef .tc main_v5_1) : Vec Ideal S8192x2816 .bf16) slices_S8192x2816_S8192x1408_0_0 := by
    show StableHlo.after hostOps1 (mid m c) _ = _
    simp only [hostOps1]
    after_results_simp <;> rfl
  rw [e, mid_6]
  funext i
  refine (left _ i).trans ((final0_6 m c (wide i) (i 1).isLt).trans ?_)
  refine Eq.trans ?_ ((val_main_v21_apply ..).trans (r15 (A0 m c) (A1 m c) (A2 m c) i)).symm
  rw [e_x, e_g, e_wg]

theorem mid_7 : mid m c (Proc.devRef .tc main_v5_2) = (dats m 0 c).arrAt 7 cfg0.N :=
  Pipeline.withArrays_arr cfg0.spec (show Function.Injective (Pipeline.arrRef spec0) by decide) c (V0 m c) _ 7

theorem last_7 : Pipeline.afterTail₀ cfgs (dats m) 0 (V0 m) [hostOps1] c main_v7 = resB m c := by
  have e : Pipeline.afterTail₀ cfgs (dats m) 0 (V0 m) [hostOps1] c main_v7
      = extractStridedSlice S8192x1408 ![0, 0] (mid m c (Proc.devRef .tc main_v5_2) : Vec Ideal S8192x2816 .bf16) slices_S8192x2816_S8192x1408_0_0 := by
    show StableHlo.after hostOps1 (mid m c) _ = _
    simp only [hostOps1]
    after_results_simp <;> rfl
  rw [e, mid_7]
  funext i
  refine (left _ i).trans ((final0_7 m c (wide i) (i 1).isLt).trans ?_)
  refine Eq.trans ?_ ((val_main_v22_apply ..).trans (r17 (A0 m c) (A1 m c) (A3 m c) i)).symm
  rw [e_x, e_g, e_wu]

theorem mid_8 : mid m c (Proc.devRef .tc main_v5_3) = (dats m 0 c).arrAt 8 cfg0.N :=
  Pipeline.withArrays_arr cfg0.spec (show Function.Injective (Pipeline.arrRef spec0) by decide) c (V0 m c) _ 8

theorem last_8 : Pipeline.afterTail₀ cfgs (dats m) 0 (V0 m) [hostOps1] c main_v8 = resF m c := by
  have e : Pipeline.afterTail₀ cfgs (dats m) 0 (V0 m) [hostOps1] c main_v8
      = extractStridedSlice S8192x1408 ![0, 0] (mid m c (Proc.devRef .tc main_v5_3) : Vec Ideal S8192x2816 .bf16) slices_S8192x2816_S8192x1408_0_0 := by
    show StableHlo.after hostOps1 (mid m c) _ = _
    simp only [hostOps1]
    after_results_simp <;> rfl
  rw [e, mid_8]
  funext i
  refine (left _ i).trans ((final0_8 m c (wide i) (i 1).isLt).trans ?_)
  refine Eq.trans ?_ ((val_main_v23_apply ..).trans (r19 (A0 m c) (A1 m c) (A2 m c) (A3 m c) i)).symm
  rw [e_x, e_g, e_wg, e_wu]

/-! ## The results -/

theorem last_5 : (dats m 0 c).arrAt 5 cfg0.N = resH m c := by
  refine (final0_5 m c).trans ?_
  funext i
  show _ = val_main_v20 (F := Ideal) (A0 m c) (A1 m c) i
  refine Eq.trans ?_ ((val_main_v20_apply (F := Ideal) (A0 m c) (A1 m c) i).trans (r13 (A0 m c) (A1 m c) i)).symm
  rw [e_x, e_g]

theorem last_9 : (dats m 0 c).arrAt 9 cfg0.N = resP m c := by
  refine (final0_9 m c).trans ?_
  funext i
  refine Eq.trans ?_ (r26 (A0 m c) (A1 m c) (A2 m c) (A3 m c) (A4 m c) i).symm
  simp only [OUT0, e_x, e_g, e_wg, e_wu, e_wd]

/-- The kernel's and the reference's results are the same arrays. -/
theorem algebraic : Cert.algebraic_KernelFfnFirstIdeal_ReferenceFfnFirstIdeal := by
  intro m ρ m' ρ' _ hagree
  refine ⟨fun c => resH m c, fun c => resA m c, fun c => resB m c, fun c => resF m c, fun c => resP m c, ?_, ?_⟩
  · refine (θ_run Cert.KernelFfnFirstIdeal.defs _ _).mono (fun _ h c => ?_) (θ_run_and (unchanged m ρ) (run_main m ρ))
    have q : ∀ b ∈ Pipeline.restRefs sig spec0, _ := (h.2 c).2
    exact ⟨((h.2 c).1 5).trans (last_5 m c), (q main_v6 (by decide)).trans (last_6 m c), (q main_v7 (by decide)).trans (last_7 m c),
      (q main_v8 (by decide)).trans (last_8 m c), ((h.2 c).1 9).trans (last_9 m c), h.1 c⟩
  · refine (θ_run Cert.ReferenceFfnFirstIdeal.defs _ _).mono (fun _ h c => ?_) (Cert.ReferenceFfnFirstIdeal.Value.run (F := Ideal) m' ρ')
    obtain ⟨a0, a1, a2, a3, a4⟩ := hagree c
    refine ⟨(h c).1.trans ?_, (h c).2.1.trans ?_, (h c).2.2.1.trans ?_, (h c).2.2.2.1.trans ?_, (h c).2.2.2.2.1.trans ?_, (h c).2.2.2.2.2⟩
    · refine (val_main_v20_eq (F := Ideal) _ _).trans ?_
      rw [a0, a1]
      rfl
    · refine (val_main_v21_eq (F := Ideal) _ _ _).trans ?_
      rw [a0, a1, a2]
      rfl
    · refine (val_main_v22_eq (F := Ideal) _ _ _).trans ?_
      rw [a0, a1, a3]
      rfl
    · refine (val_main_v23_eq (F := Ideal) _ _ _ _).trans ?_
      rw [a0, a1, a2, a3]
      rfl
    · refine (val_main_v26_eq (F := Ideal) _ _ _ _ _).trans ?_
      rw [a0, a1, a2, a3, a4]
      rfl

end Cert.FirstAlg

end
-- ==== Proof.lean ====
module

public import proofs.«01_k».proof.Defs
public import proofs.«01_k».proof.Proof.Gen.KernelFfn
public import proofs.«01_k».proof.Proof.Gen.KernelFfn.Skeleton
public import proofs.«01_k».proof.Proof.Gen.KernelFfn.Launch
public import proofs.«01_k».proof.Proof.Gen.KernelFfn.Points
public import proofs.«01_k».proof.Proof.Gen.KernelFfn.Frame
public import proofs.«01_k».proof.Proof.Gen.KernelFfnIdeal
public import proofs.«01_k».proof.Proof.Gen.KernelFfnIdeal.Skeleton
public import proofs.«01_k».proof.Proof.Gen.KernelFfnIdeal.Launch
public import proofs.«01_k».proof.Proof.Gen.KernelFfnIdeal.Points
public import proofs.«01_k».proof.Proof.Gen.KernelFfnIdeal.Frame
public import proofs.«01_k».proof.Proof.Gen.ReferenceFfnIdeal
public import proofs.«01_k».proof.Proof.Gen.ReferenceFfnIdeal.Run
public import proofs.«01_k».proof.Proof.Gen.ReferenceFfnIdeal.Read
public import proofs.«01_k».proof.Proof.Gen.KernelGateUp
public import proofs.«01_k».proof.Proof.Gen.KernelGateUp.Skeleton
public import proofs.«01_k».proof.Proof.Gen.KernelGateUp.Launch
public import proofs.«01_k».proof.Proof.Gen.KernelGateUp.Points
public import proofs.«01_k».proof.Proof.Gen.KernelGateUp.Frame
public import proofs.«01_k».proof.Proof.Gen.KernelGateUpIdeal
public import proofs.«01_k».proof.Proof.Gen.KernelGateUpIdeal.Skeleton
public import proofs.«01_k».proof.Proof.Gen.KernelGateUpIdeal.Launch
public import proofs.«01_k».proof.Proof.Gen.KernelGateUpIdeal.Points
public import proofs.«01_k».proof.Proof.Gen.KernelGateUpIdeal.Frame
public import proofs.«01_k».proof.Proof.Gen.KernelGateUpIdeal.Value
public import proofs.«01_k».proof.Proof.Gen.ReferenceGateUpIdeal
public import proofs.«01_k».proof.Proof.Gen.ReferenceGateUpIdeal.Run
public import proofs.«01_k».proof.Proof.Gen.ReferenceGateUpIdeal.Read
public import proofs.«01_k».proof.Proof.Gen.KernelDown
public import proofs.«01_k».proof.Proof.Gen.KernelDown.Skeleton
public import proofs.«01_k».proof.Proof.Gen.KernelDown.Launch
public import proofs.«01_k».proof.Proof.Gen.KernelDown.Points
public import proofs.«01_k».proof.Proof.Gen.KernelDown.Frame
public import proofs.«01_k».proof.Proof.Gen.KernelDownIdeal
public import proofs.«01_k».proof.Proof.Gen.KernelDownIdeal.Skeleton
public import proofs.«01_k».proof.Proof.Gen.KernelDownIdeal.Launch
public import proofs.«01_k».proof.Proof.Gen.KernelDownIdeal.Points
public import proofs.«01_k».proof.Proof.Gen.KernelDownIdeal.Frame
public import proofs.«01_k».proof.Proof.Gen.KernelDownIdeal.Value
public import proofs.«01_k».proof.Proof.Gen.ReferenceDownIdeal
public import proofs.«01_k».proof.Proof.Gen.ReferenceDownIdeal.Run
public import proofs.«01_k».proof.Proof.Gen.ReferenceDownIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelOut
public import proofs.«01_k».proof.Proof.Gen.KernelOut.Skeleton
public import proofs.«01_k».proof.Proof.Gen.KernelOut.Launch
public import proofs.«01_k».proof.Proof.Gen.KernelOut.Points
public import proofs.«01_k».proof.Proof.Gen.KernelOut.Frame
public import proofs.«01_k».proof.Proof.Gen.KernelOutIdeal
public import proofs.«01_k».proof.Proof.Gen.KernelOutIdeal.Skeleton
public import proofs.«01_k».proof.Proof.Gen.KernelOutIdeal.Launch
public import proofs.«01_k».proof.Proof.Gen.KernelOutIdeal.Points
public import proofs.«01_k».proof.Proof.Gen.KernelOutIdeal.Frame
public import proofs.«01_k».proof.Proof.Gen.KernelOutIdeal.Value
public import proofs.«01_k».proof.Proof.Gen.ReferenceOutIdeal
public import proofs.«01_k».proof.Proof.Gen.ReferenceOutIdeal.Run
public import proofs.«01_k».proof.Proof.Gen.ReferenceOutIdeal.Read
public import proofs.«01_k».proof.Proof.Gen.KernelProj
public import proofs.«01_k».proof.Proof.Gen.KernelProj.Skeleton
public import proofs.«01_k».proof.Proof.Gen.KernelProj.Launch
public import proofs.«01_k».proof.Proof.Gen.KernelProj.Points
public import proofs.«01_k».proof.Proof.Gen.KernelProj.Frame
public import proofs.«01_k».proof.Proof.Gen.KernelProjIdeal
public import proofs.«01_k».proof.Proof.Gen.KernelProjIdeal.Skeleton
public import proofs.«01_k».proof.Proof.Gen.KernelProjIdeal.Launch
public import proofs.«01_k».proof.Proof.Gen.KernelProjIdeal.Points
public import proofs.«01_k».proof.Proof.Gen.KernelProjIdeal.Frame
public import proofs.«01_k».proof.Proof.Gen.KernelProjIdeal.Value
public import proofs.«01_k».proof.Proof.Gen.ReferenceProjIdeal
public import proofs.«01_k».proof.Proof.Gen.ReferenceProjIdeal.Run
public import proofs.«01_k».proof.Proof.Gen.ReferenceProjIdeal.Read
public import proofs.«01_k».proof.Proof.Gen.KernelNormProj
public import proofs.«01_k».proof.Proof.Gen.KernelNormProj.Skeleton
public import proofs.«01_k».proof.Proof.Gen.KernelNormProj.Launch
public import proofs.«01_k».proof.Proof.Gen.KernelNormProj.Points
public import proofs.«01_k».proof.Proof.Gen.KernelNormProj.Frame
public import proofs.«01_k».proof.Proof.Gen.KernelNormProjIdeal
public import proofs.«01_k».proof.Proof.Gen.KernelNormProjIdeal.Skeleton
public import proofs.«01_k».proof.Proof.Gen.KernelNormProjIdeal.Launch
public import proofs.«01_k».proof.Proof.Gen.KernelNormProjIdeal.Points
public import proofs.«01_k».proof.Proof.Gen.KernelNormProjIdeal.Frame
public import proofs.«01_k».proof.Proof.Gen.KernelNormProjIdeal.Value
public import proofs.«01_k».proof.Proof.Gen.ReferenceNormProjIdeal
public import proofs.«01_k».proof.Proof.Gen.ReferenceNormProjIdeal.Run
public import proofs.«01_k».proof.Proof.Gen.ReferenceNormProjIdeal.Read
public import proofs.«01_k».proof.Proof.Gen.KernelFfnFwd
public import proofs.«01_k».proof.Proof.Gen.KernelFfnFwd.Skeleton
public import proofs.«01_k».proof.Proof.Gen.KernelFfnFwd.Launch
public import proofs.«01_k».proof.Proof.Gen.KernelFfnFwd.Points
public import proofs.«01_k».proof.Proof.Gen.KernelFfnFwd.Frame
public import proofs.«01_k».proof.Proof.Gen.KernelFfnFwdIdeal
public import proofs.«01_k».proof.Proof.Gen.KernelFfnFwdIdeal.Skeleton
public import proofs.«01_k».proof.Proof.Gen.KernelFfnFwdIdeal.Launch
public import proofs.«01_k».proof.Proof.Gen.KernelFfnFwdIdeal.Points
public import proofs.«01_k».proof.Proof.Gen.KernelFfnFwdIdeal.Frame
public import proofs.«01_k».proof.Proof.Gen.ReferenceFfnFwdIdeal
public import proofs.«01_k».proof.Proof.Gen.ReferenceFfnFwdIdeal.Run
public import proofs.«01_k».proof.Proof.Gen.ReferenceFfnFwdIdeal.Read
public import proofs.«01_k».proof.Proof.Gen.KernelStepNorm
public import proofs.«01_k».proof.Proof.Gen.KernelStepNorm.Skeleton
public import proofs.«01_k».proof.Proof.Gen.KernelStepNorm.Launch
public import proofs.«01_k».proof.Proof.Gen.KernelStepNorm.Points
public import proofs.«01_k».proof.Proof.Gen.KernelStepNorm.Frame
public import proofs.«01_k».proof.Proof.Gen.KernelStepNormIdeal
public import proofs.«01_k».proof.Proof.Gen.KernelStepNormIdeal.Skeleton
public import proofs.«01_k».proof.Proof.Gen.KernelStepNormIdeal.Launch
public import proofs.«01_k».proof.Proof.Gen.KernelStepNormIdeal.Points
public import proofs.«01_k».proof.Proof.Gen.KernelStepNormIdeal.Frame
public import proofs.«01_k».proof.Proof.Gen.KernelStepNormIdeal.Value
public import proofs.«01_k».proof.Proof.Gen.ReferenceStepNormIdeal
public import proofs.«01_k».proof.Proof.Gen.ReferenceStepNormIdeal.Run
public import proofs.«01_k».proof.Proof.Gen.ReferenceStepNormIdeal.Read
public import proofs.«01_k».proof.Proof.Gen.KernelStepConv
public import proofs.«01_k».proof.Proof.Gen.KernelStepConv.Skeleton
public import proofs.«01_k».proof.Proof.Gen.KernelStepConv.Launch
public import proofs.«01_k».proof.Proof.Gen.KernelStepConv.Points
public import proofs.«01_k».proof.Proof.Gen.KernelStepConv.Frame
public import proofs.«01_k».proof.Proof.Gen.KernelStepConvIdeal
public import proofs.«01_k».proof.Proof.Gen.KernelStepConvIdeal.Skeleton
public import proofs.«01_k».proof.Proof.Gen.KernelStepConvIdeal.Launch
public import proofs.«01_k».proof.Proof.Gen.KernelStepConvIdeal.Points
public import proofs.«01_k».proof.Proof.Gen.KernelStepConvIdeal.Frame
public import proofs.«01_k».proof.Proof.Gen.KernelStepConvIdeal.Value
public import proofs.«01_k».proof.Proof.Gen.ReferenceStepConvIdeal
public import proofs.«01_k».proof.Proof.Gen.ReferenceStepConvIdeal.Run
public import proofs.«01_k».proof.Proof.Gen.ReferenceStepConvIdeal.Read
public import proofs.«01_k».proof.Proof.Gen.KernelStepHead
public import proofs.«01_k».proof.Proof.Gen.KernelStepHead.Skeleton
public import proofs.«01_k».proof.Proof.Gen.KernelStepHead.Launch
public import proofs.«01_k».proof.Proof.Gen.KernelStepHead.Points
public import proofs.«01_k».proof.Proof.Gen.KernelStepHead.Frame
public import proofs.«01_k».proof.Proof.Gen.KernelStepHeadIdeal
public import proofs.«01_k».proof.Proof.Gen.KernelStepHeadIdeal.Skeleton
public import proofs.«01_k».proof.Proof.Gen.KernelStepHeadIdeal.Launch
public import proofs.«01_k».proof.Proof.Gen.KernelStepHeadIdeal.Points
public import proofs.«01_k».proof.Proof.Gen.KernelStepHeadIdeal.Frame
public import proofs.«01_k».proof.Proof.Gen.KernelStepHeadIdeal.Value
public import proofs.«01_k».proof.Proof.Gen.ReferenceStepHeadIdeal
public import proofs.«01_k».proof.Proof.Gen.ReferenceStepHeadIdeal.Run
public import proofs.«01_k».proof.Proof.Gen.ReferenceStepHeadIdeal.Read
public import proofs.«01_k».proof.Proof.Gen.KernelStepSinks
public import proofs.«01_k».proof.Proof.Gen.KernelStepSinks.Skeleton
public import proofs.«01_k».proof.Proof.Gen.KernelStepSinks.Launch
public import proofs.«01_k».proof.Proof.Gen.KernelStepSinks.Points
public import proofs.«01_k».proof.Proof.Gen.KernelStepSinks.Frame
public import proofs.«01_k».proof.Proof.Gen.KernelStepSinksIdeal
public import proofs.«01_k».proof.Proof.Gen.KernelStepSinksIdeal.Skeleton
public import proofs.«01_k».proof.Proof.Gen.KernelStepSinksIdeal.Launch
public import proofs.«01_k».proof.Proof.Gen.KernelStepSinksIdeal.Points
public import proofs.«01_k».proof.Proof.Gen.KernelStepSinksIdeal.Frame
public import proofs.«01_k».proof.Proof.Gen.KernelStepSinksIdeal.Value
public import proofs.«01_k».proof.Proof.Gen.ReferenceStepSinksIdeal
public import proofs.«01_k».proof.Proof.Gen.ReferenceStepSinksIdeal.Run
public import proofs.«01_k».proof.Proof.Gen.ReferenceStepSinksIdeal.Read
public import proofs.«01_k».proof.Proof.Gen.KernelStepOut
public import proofs.«01_k».proof.Proof.Gen.KernelStepOut.Skeleton
public import proofs.«01_k».proof.Proof.Gen.KernelStepOut.Launch
public import proofs.«01_k».proof.Proof.Gen.KernelStepOut.Points
public import proofs.«01_k».proof.Proof.Gen.KernelStepOut.Frame
public import proofs.«01_k».proof.Proof.Gen.KernelStepOutIdeal
public import proofs.«01_k».proof.Proof.Gen.KernelStepOutIdeal.Skeleton
public import proofs.«01_k».proof.Proof.Gen.KernelStepOutIdeal.Launch
public import proofs.«01_k».proof.Proof.Gen.KernelStepOutIdeal.Points
public import proofs.«01_k».proof.Proof.Gen.KernelStepOutIdeal.Frame
public import proofs.«01_k».proof.Proof.Gen.KernelStepOutIdeal.Value
public import proofs.«01_k».proof.Proof.Gen.ReferenceStepOutIdeal
public import proofs.«01_k».proof.Proof.Gen.ReferenceStepOutIdeal.Run
public import proofs.«01_k».proof.Proof.Gen.ReferenceStepOutIdeal.Read
public import proofs.«01_k».proof.Proof.Gen.KernelStepWo
public import proofs.«01_k».proof.Proof.Gen.KernelStepWo.Skeleton
public import proofs.«01_k».proof.Proof.Gen.KernelStepWo.Launch
public import proofs.«01_k».proof.Proof.Gen.KernelStepWo.Points
public import proofs.«01_k».proof.Proof.Gen.KernelStepWo.Frame
public import proofs.«01_k».proof.Proof.Gen.KernelStepWoIdeal
public import proofs.«01_k».proof.Proof.Gen.KernelStepWoIdeal.Skeleton
public import proofs.«01_k».proof.Proof.Gen.KernelStepWoIdeal.Launch
public import proofs.«01_k».proof.Proof.Gen.KernelStepWoIdeal.Points
public import proofs.«01_k».proof.Proof.Gen.KernelStepWoIdeal.Frame
public import proofs.«01_k».proof.Proof.Gen.ReferenceStepWoIdeal
public import proofs.«01_k».proof.Proof.Gen.ReferenceStepWoIdeal.Run
public import proofs.«01_k».proof.Proof.Gen.ReferenceStepWoIdeal.Read
public import proofs.«01_k».proof.Proof.Gen.KernelStepIn
public import proofs.«01_k».proof.Proof.Gen.KernelStepIn.Skeleton
public import proofs.«01_k».proof.Proof.Gen.KernelStepIn.Launch
public import proofs.«01_k».proof.Proof.Gen.KernelStepIn.Points
public import proofs.«01_k».proof.Proof.Gen.KernelStepIn.Frame
public import proofs.«01_k».proof.Proof.Gen.KernelStepInIdeal
public import proofs.«01_k».proof.Proof.Gen.KernelStepInIdeal.Skeleton
public import proofs.«01_k».proof.Proof.Gen.KernelStepInIdeal.Launch
public import proofs.«01_k».proof.Proof.Gen.KernelStepInIdeal.Points
public import proofs.«01_k».proof.Proof.Gen.KernelStepInIdeal.Frame
public import proofs.«01_k».proof.Proof.Gen.ReferenceStepInIdeal
public import proofs.«01_k».proof.Proof.Gen.ReferenceStepInIdeal.Run
public import proofs.«01_k».proof.Proof.Gen.ReferenceStepInIdeal.Read
public import proofs.«01_k».proof.Proof.Gen.KernelStepFf
public import proofs.«01_k».proof.Proof.Gen.KernelStepFf.Skeleton
public import proofs.«01_k».proof.Proof.Gen.KernelStepFf.Launch
public import proofs.«01_k».proof.Proof.Gen.KernelStepFf.Points
public import proofs.«01_k».proof.Proof.Gen.KernelStepFf.Frame
public import proofs.«01_k».proof.Proof.Gen.KernelStepFfIdeal
public import proofs.«01_k».proof.Proof.Gen.KernelStepFfIdeal.Skeleton
public import proofs.«01_k».proof.Proof.Gen.KernelStepFfIdeal.Launch
public import proofs.«01_k».proof.Proof.Gen.KernelStepFfIdeal.Points
public import proofs.«01_k».proof.Proof.Gen.KernelStepFfIdeal.Frame
public import proofs.«01_k».proof.Proof.Gen.ReferenceStepFfIdeal
public import proofs.«01_k».proof.Proof.Gen.ReferenceStepFfIdeal.Run
public import proofs.«01_k».proof.Proof.Gen.ReferenceStepFfIdeal.Read
public import proofs.«01_k».proof.Proof.Gen.KernelNextWo
public import proofs.«01_k».proof.Proof.Gen.KernelNextWo.Skeleton
public import proofs.«01_k».proof.Proof.Gen.KernelNextWo.Launch
public import proofs.«01_k».proof.Proof.Gen.KernelNextWo.Points
public import proofs.«01_k».proof.Proof.Gen.KernelNextWo.Frame
public import proofs.«01_k».proof.Proof.Gen.KernelNextWoIdeal
public import proofs.«01_k».proof.Proof.Gen.KernelNextWoIdeal.Skeleton
public import proofs.«01_k».proof.Proof.Gen.KernelNextWoIdeal.Launch
public import proofs.«01_k».proof.Proof.Gen.KernelNextWoIdeal.Points
public import proofs.«01_k».proof.Proof.Gen.KernelNextWoIdeal.Frame
public import proofs.«01_k».proof.Proof.Gen.ReferenceNextWoIdeal
public import proofs.«01_k».proof.Proof.Gen.ReferenceNextWoIdeal.Run
public import proofs.«01_k».proof.Proof.Gen.ReferenceNextWoIdeal.Read
public import proofs.«01_k».proof.Proof.Gen.KernelNextIn
public import proofs.«01_k».proof.Proof.Gen.KernelNextIn.Skeleton
public import proofs.«01_k».proof.Proof.Gen.KernelNextIn.Launch
public import proofs.«01_k».proof.Proof.Gen.KernelNextIn.Points
public import proofs.«01_k».proof.Proof.Gen.KernelNextIn.Frame
public import proofs.«01_k».proof.Proof.Gen.KernelNextInIdeal
public import proofs.«01_k».proof.Proof.Gen.KernelNextInIdeal.Skeleton
public import proofs.«01_k».proof.Proof.Gen.KernelNextInIdeal.Launch
public import proofs.«01_k».proof.Proof.Gen.KernelNextInIdeal.Points
public import proofs.«01_k».proof.Proof.Gen.KernelNextInIdeal.Frame
public import proofs.«01_k».proof.Proof.Gen.ReferenceNextInIdeal
public import proofs.«01_k».proof.Proof.Gen.ReferenceNextInIdeal.Run
public import proofs.«01_k».proof.Proof.Gen.ReferenceNextInIdeal.Read
public import proofs.«01_k».proof.Proof.Gen.KernelNextFf
public import proofs.«01_k».proof.Proof.Gen.KernelNextFf.Skeleton
public import proofs.«01_k».proof.Proof.Gen.KernelNextFf.Launch
public import proofs.«01_k».proof.Proof.Gen.KernelNextFf.Points
public import proofs.«01_k».proof.Proof.Gen.KernelNextFf.Frame
public import proofs.«01_k».proof.Proof.Gen.KernelNextFfIdeal
public import proofs.«01_k».proof.Proof.Gen.KernelNextFfIdeal.Skeleton
public import proofs.«01_k».proof.Proof.Gen.KernelNextFfIdeal.Launch
public import proofs.«01_k».proof.Proof.Gen.KernelNextFfIdeal.Points
public import proofs.«01_k».proof.Proof.Gen.KernelNextFfIdeal.Frame
public import proofs.«01_k».proof.Proof.Gen.ReferenceNextFfIdeal
public import proofs.«01_k».proof.Proof.Gen.ReferenceNextFfIdeal.Run
public import proofs.«01_k».proof.Proof.Gen.ReferenceNextFfIdeal.Read
public import proofs.«01_k».proof.Proof.Gen.KernelFfnLoss
public import proofs.«01_k».proof.Proof.Gen.KernelFfnLoss.Skeleton
public import proofs.«01_k».proof.Proof.Gen.KernelFfnLoss.Launch
public import proofs.«01_k».proof.Proof.Gen.KernelFfnLoss.Points
public import proofs.«01_k».proof.Proof.Gen.KernelFfnLoss.Frame
public import proofs.«01_k».proof.Proof.Gen.KernelFfnLossIdeal
public import proofs.«01_k».proof.Proof.Gen.KernelFfnLossIdeal.Skeleton
public import proofs.«01_k».proof.Proof.Gen.KernelFfnLossIdeal.Launch
public import proofs.«01_k».proof.Proof.Gen.KernelFfnLossIdeal.Points
public import proofs.«01_k».proof.Proof.Gen.KernelFfnLossIdeal.Frame
public import proofs.«01_k».proof.Proof.Gen.ReferenceFfnLossIdeal
public import proofs.«01_k».proof.Proof.Gen.ReferenceFfnLossIdeal.Run
public import proofs.«01_k».proof.Proof.Gen.ReferenceFfnLossIdeal.Read
public import proofs.«01_k».proof.Proof.Gen.KernelFfnFirst
public import proofs.«01_k».proof.Proof.Gen.KernelFfnFirst.Skeleton
public import proofs.«01_k».proof.Proof.Gen.KernelFfnFirst.Launch
public import proofs.«01_k».proof.Proof.Gen.KernelFfnFirst.Points
public import proofs.«01_k».proof.Proof.Gen.KernelFfnFirst.Frame
public import proofs.«01_k».proof.Proof.Gen.KernelFfnFirstIdeal
public import proofs.«01_k».proof.Proof.Gen.KernelFfnFirstIdeal.Skeleton
public import proofs.«01_k».proof.Proof.Gen.KernelFfnFirstIdeal.Launch
public import proofs.«01_k».proof.Proof.Gen.KernelFfnFirstIdeal.Points
public import proofs.«01_k».proof.Proof.Gen.KernelFfnFirstIdeal.Frame
public import proofs.«01_k».proof.Proof.Gen.ReferenceFfnFirstIdeal
public import proofs.«01_k».proof.Proof.Gen.ReferenceFfnFirstIdeal.Run
public import proofs.«01_k».proof.Proof.Gen.ReferenceFfnFirstIdeal.Read
public import proofs.«01_k».proof.Proof.Gen.Pre_finite
public import proofs.«01_k».proof.Proof.FfnAlg
public import proofs.«01_k».proof.Proof.GateUp
public import proofs.«01_k».proof.Proof.Down
public import proofs.«01_k».proof.Proof.In
public import proofs.«01_k».proof.Proof.Out
public import proofs.«01_k».proof.Proof.Proj
public import proofs.«01_k».proof.Proof.NormProj
public import proofs.«01_k».proof.Proof.FwdAlg
public import proofs.«01_k».proof.Proof.StepNorm
public import proofs.«01_k».proof.Proof.StepConv
public import proofs.«01_k».proof.Proof.StepHead
public import proofs.«01_k».proof.Proof.StepSinks
public import proofs.«01_k».proof.Proof.StepOut
public import proofs.«01_k».proof.Proof.StepWo
public import proofs.«01_k».proof.Proof.StepIn
public import proofs.«01_k».proof.Proof.StepFf
public import proofs.«01_k».proof.Proof.NextWo
public import proofs.«01_k».proof.Proof.NextIn
public import proofs.«01_k».proof.Proof.NextFf
public import proofs.«01_k».proof.Proof.LossAlg
public import proofs.«01_k».proof.Proof.FirstAlg
public import Idealize.ShloMosaic.Adequacy
public import Idealize.ShloMosaic.Init

@[expose] public section

noncomputable section

namespace Cert.Proof

open Idealize.ShloMosaic Idealize.SL.Sem

theorem claim : Cert.Claim :=
  ⟨KernelFfn.Gen.facts, KernelFfnIdeal.Gen.facts, ReferenceFfnIdeal.Gen.facts, KernelGateUp.Gen.facts, KernelGateUpIdeal.Gen.facts, ReferenceGateUpIdeal.Gen.facts, KernelDown.Gen.facts, KernelDownIdeal.Gen.facts, ReferenceDownIdeal.Gen.facts, KernelIn.Gen.facts, KernelInIdeal.Gen.facts, ReferenceInIdeal.Gen.facts, KernelOut.Gen.facts, KernelOutIdeal.Gen.facts, ReferenceOutIdeal.Gen.facts, KernelProj.Gen.facts, KernelProjIdeal.Gen.facts, ReferenceProjIdeal.Gen.facts, KernelNormProj.Gen.facts, KernelNormProjIdeal.Gen.facts, ReferenceNormProjIdeal.Gen.facts, KernelFfnFwd.Gen.facts, KernelFfnFwdIdeal.Gen.facts, ReferenceFfnFwdIdeal.Gen.facts, KernelStepNorm.Gen.facts, KernelStepNormIdeal.Gen.facts, ReferenceStepNormIdeal.Gen.facts, KernelStepConv.Gen.facts, KernelStepConvIdeal.Gen.facts, ReferenceStepConvIdeal.Gen.facts, KernelStepHead.Gen.facts, KernelStepHeadIdeal.Gen.facts, ReferenceStepHeadIdeal.Gen.facts, KernelStepSinks.Gen.facts, KernelStepSinksIdeal.Gen.facts, ReferenceStepSinksIdeal.Gen.facts, KernelStepOut.Gen.facts, KernelStepOutIdeal.Gen.facts, ReferenceStepOutIdeal.Gen.facts, KernelStepWo.Gen.facts, KernelStepWoIdeal.Gen.facts, ReferenceStepWoIdeal.Gen.facts, KernelStepIn.Gen.facts, KernelStepInIdeal.Gen.facts, ReferenceStepInIdeal.Gen.facts, KernelStepFf.Gen.facts, KernelStepFfIdeal.Gen.facts, ReferenceStepFfIdeal.Gen.facts, KernelNextWo.Gen.facts, KernelNextWoIdeal.Gen.facts, ReferenceNextWoIdeal.Gen.facts, KernelNextIn.Gen.facts, KernelNextInIdeal.Gen.facts, ReferenceNextInIdeal.Gen.facts, KernelNextFf.Gen.facts, KernelNextFfIdeal.Gen.facts, ReferenceNextFfIdeal.Gen.facts, KernelFfnLoss.Gen.facts, KernelFfnLossIdeal.Gen.facts, ReferenceFfnLossIdeal.Gen.facts, KernelFfnFirst.Gen.facts, KernelFfnFirstIdeal.Gen.facts, ReferenceFfnFirstIdeal.Gen.facts, Pre_finite.Gen.facts,
    fun m ρ _ => Cert.KernelFfn.Gen.frame m ρ,
    fun m ρ _ => Cert.KernelFfnIdeal.Gen.frame m ρ,
    fun m ρ _ => Cert.KernelFfnIdeal.Gen.frame m ρ,
    fun m ρ _ => (θ_run Cert.ReferenceFfnIdeal.defs _ _).mono (fun r h => ⟨fun c => (h c).2.2.2.2, sem_eq_zero_of_no_sems (by decide) r.2⟩) (Cert.ReferenceFfnIdeal.Value.run (F := Ideal) m ρ),
    fun m ρ _ => (θ_run Cert.ReferenceFfnIdeal.defs _ _).mono (fun r h => ⟨fun c => (h c).2.2.2.2, sem_eq_zero_of_no_sems (by decide) r.2⟩) (Cert.ReferenceFfnIdeal.Value.run (F := Ideal) m ρ),
    fun m ρ _ => Cert.KernelGateUp.Gen.frame m ρ,
    fun m ρ _ => Cert.KernelGateUpIdeal.Gen.frame m ρ,
    fun m ρ _ => (θ_run Cert.ReferenceGateUpIdeal.defs _ _).mono (fun r h => ⟨fun c => (h c).2.2, sem_eq_zero_of_no_sems (by decide) r.2⟩) (Cert.ReferenceGateUpIdeal.Value.run (F := Ideal) m ρ),
    fun m ρ _ => Cert.KernelDown.Gen.frame m ρ,
    fun m ρ _ => Cert.KernelDownIdeal.Gen.frame m ρ,
    fun m ρ _ => (θ_run Cert.ReferenceDownIdeal.defs _ _).mono (fun r h => ⟨fun c => (h c).2, sem_eq_zero_of_no_sems (by decide) r.2⟩) (Cert.ReferenceDownIdeal.Value.run (F := Ideal) m ρ),
    fun m ρ _ => Cert.KernelIn.Gen.frame m ρ,
    fun m ρ _ => Cert.KernelInIdeal.Gen.frame m ρ,
    fun m ρ _ => (θ_run Cert.ReferenceInIdeal.defs _ _).mono (fun r h => ⟨fun c => (h c).2, sem_eq_zero_of_no_sems (by decide) r.2⟩) (Cert.ReferenceInIdeal.Value.run (F := Ideal) m ρ),
    fun m ρ _ => Cert.KernelOut.Gen.frame m ρ,
    fun m ρ _ => Cert.KernelOutIdeal.Gen.frame m ρ,
    fun m ρ _ => (θ_run Cert.ReferenceOutIdeal.defs _ _).mono (fun r h => ⟨fun c => (h c).2, sem_eq_zero_of_no_sems (by decide) r.2⟩) (Cert.ReferenceOutIdeal.Value.run (F := Ideal) m ρ),
    fun m ρ _ => Cert.KernelProj.Gen.frame m ρ,
    fun m ρ _ => Cert.KernelProjIdeal.Gen.frame m ρ,
    fun m ρ _ => (θ_run Cert.ReferenceProjIdeal.defs _ _).mono (fun r h => ⟨fun c => (h c).2.2, sem_eq_zero_of_no_sems (by decide) r.2⟩) (Cert.ReferenceProjIdeal.Value.run (F := Ideal) m ρ),
    fun m ρ _ => Cert.KernelNormProj.Gen.frame m ρ,
    fun m ρ _ => Cert.KernelNormProjIdeal.Gen.frame m ρ,
    fun m ρ _ => (θ_run Cert.ReferenceNormProjIdeal.defs _ _).mono (fun r h => ⟨fun c => (h c).2.2, sem_eq_zero_of_no_sems (by decide) r.2⟩) (Cert.ReferenceNormProjIdeal.Value.run (F := Ideal) m ρ),
    fun m ρ _ => Cert.KernelFfnFwd.Gen.frame m ρ,
    fun m ρ _ => Cert.KernelFfnFwdIdeal.Gen.frame m ρ,
    fun m ρ _ => (θ_run Cert.ReferenceFfnFwdIdeal.defs _ _).mono (fun r h => ⟨fun c => (h c).2.2.2.2.2, sem_eq_zero_of_no_sems (by decide) r.2⟩) (Cert.ReferenceFfnFwdIdeal.Value.run (F := Ideal) m ρ),
    fun m ρ _ => Cert.KernelStepNorm.Gen.frame m ρ,
    fun m ρ _ => Cert.KernelStepNormIdeal.Gen.frame m ρ,
    fun m ρ _ => (θ_run Cert.ReferenceStepNormIdeal.defs _ _).mono (fun r h => ⟨fun c => (h c).2.2.2, sem_eq_zero_of_no_sems (by decide) r.2⟩) (Cert.ReferenceStepNormIdeal.Value.run (F := Ideal) m ρ),
    fun m ρ _ => Cert.KernelStepConv.Gen.frame m ρ,
    fun m ρ _ => Cert.KernelStepConvIdeal.Gen.frame m ρ,
    fun m ρ _ => (θ_run Cert.ReferenceStepConvIdeal.defs _ _).mono (fun r h => ⟨fun c => (h c).2.2.2, sem_eq_zero_of_no_sems (by decide) r.2⟩) (Cert.ReferenceStepConvIdeal.Value.run (F := Ideal) m ρ),
    fun m ρ _ => Cert.KernelStepHead.Gen.frame m ρ,
    fun m ρ _ => Cert.KernelStepHeadIdeal.Gen.frame m ρ,
    fun m ρ _ => (θ_run Cert.ReferenceStepHeadIdeal.defs _ _).mono (fun r h => ⟨fun c => (h c).2.2.2, sem_eq_zero_of_no_sems (by decide) r.2⟩) (Cert.ReferenceStepHeadIdeal.Value.run (F := Ideal) m ρ),
    fun m ρ _ => Cert.KernelStepSinks.Gen.frame m ρ,
    fun m ρ _ => Cert.KernelStepSinksIdeal.Gen.frame m ρ,
    fun m ρ _ => (θ_run Cert.ReferenceStepSinksIdeal.defs _ _).mono (fun r h => ⟨fun c => (h c).2.2.2, sem_eq_zero_of_no_sems (by decide) r.2⟩) (Cert.ReferenceStepSinksIdeal.Value.run (F := Ideal) m ρ),
    fun m ρ _ => Cert.KernelStepOut.Gen.frame m ρ,
    fun m ρ _ => Cert.KernelStepOutIdeal.Gen.frame m ρ,
    fun m ρ _ => (θ_run Cert.ReferenceStepOutIdeal.defs _ _).mono (fun r h => ⟨fun c => (h c).2.2.2, sem_eq_zero_of_no_sems (by decide) r.2⟩) (Cert.ReferenceStepOutIdeal.Value.run (F := Ideal) m ρ),
    fun m ρ _ => Cert.KernelStepWo.Gen.frame m ρ (StepWo.ok_bits m),
    fun m ρ _ => Cert.KernelStepWoIdeal.Gen.frame m ρ (StepWo.ok m),
    fun m ρ _ => (θ_run Cert.ReferenceStepWoIdeal.defs _ _).mono (fun r h => ⟨fun c => (h c).2.2.2.2, sem_eq_zero_of_no_sems (by decide) r.2⟩) (Cert.ReferenceStepWoIdeal.Value.run (F := Ideal) m ρ),
    fun m ρ _ => Cert.KernelStepIn.Gen.frame m ρ (StepIn.ok_bits m),
    fun m ρ _ => Cert.KernelStepInIdeal.Gen.frame m ρ (StepIn.ok m),
    fun m ρ _ => (θ_run Cert.ReferenceStepInIdeal.defs _ _).mono (fun r h => ⟨fun c => (h c).2.2.2.2, sem_eq_zero_of_no_sems (by decide) r.2⟩) (Cert.ReferenceStepInIdeal.Value.run (F := Ideal) m ρ),
    fun m ρ _ => Cert.KernelStepFf.Gen.frame m ρ (StepFf.ok_bits m),
    fun m ρ _ => Cert.KernelStepFfIdeal.Gen.frame m ρ (StepFf.ok m),
    fun m ρ _ => (θ_run Cert.ReferenceStepFfIdeal.defs _ _).mono (fun r h => ⟨fun c => (h c).2.2.2.2, sem_eq_zero_of_no_sems (by decide) r.2⟩) (Cert.ReferenceStepFfIdeal.Value.run (F := Ideal) m ρ),
    fun m ρ _ => Cert.KernelNextWo.Gen.frame m ρ (NextWo.ok_bits m),
    fun m ρ _ => Cert.KernelNextWoIdeal.Gen.frame m ρ (NextWo.ok m),
    fun m ρ _ => (θ_run Cert.ReferenceNextWoIdeal.defs _ _).mono (fun r h => ⟨fun c => (h c).2.2.2.2, sem_eq_zero_of_no_sems (by decide) r.2⟩) (Cert.ReferenceNextWoIdeal.Value.run (F := Ideal) m ρ),
    fun m ρ _ => Cert.KernelNextIn.Gen.frame m ρ (NextIn.ok_bits m),
    fun m ρ _ => Cert.KernelNextInIdeal.Gen.frame m ρ (NextIn.ok m),
    fun m ρ _ => (θ_run Cert.ReferenceNextInIdeal.defs _ _).mono (fun r h => ⟨fun c => (h c).2.2.2.2, sem_eq_zero_of_no_sems (by decide) r.2⟩) (Cert.ReferenceNextInIdeal.Value.run (F := Ideal) m ρ),
    fun m ρ _ => Cert.KernelNextFf.Gen.frame m ρ (NextFf.ok_bits m),
    fun m ρ _ => Cert.KernelNextFfIdeal.Gen.frame m ρ (NextFf.ok m),
    fun m ρ _ => (θ_run Cert.ReferenceNextFfIdeal.defs _ _).mono (fun r h => ⟨fun c => (h c).2.2.2.2, sem_eq_zero_of_no_sems (by decide) r.2⟩) (Cert.ReferenceNextFfIdeal.Value.run (F := Ideal) m ρ),
    fun m ρ _ => Cert.KernelFfnLoss.Gen.frame m ρ,
    fun m ρ _ => Cert.KernelFfnLossIdeal.Gen.frame m ρ,
    fun m ρ _ => (θ_run Cert.ReferenceFfnLossIdeal.defs _ _).mono (fun r h => ⟨fun c => (h c).2.2.2.2.2, sem_eq_zero_of_no_sems (by decide) r.2⟩) (Cert.ReferenceFfnLossIdeal.Value.run (F := Ideal) m ρ),
    fun m ρ _ => Cert.KernelFfnFirst.Gen.frame m ρ,
    fun m ρ _ => Cert.KernelFfnFirstIdeal.Gen.frame m ρ,
    fun m ρ _ => (θ_run Cert.ReferenceFfnFirstIdeal.defs _ _).mono (fun r h => ⟨fun c => (h c).2.2.2.2.2, sem_eq_zero_of_no_sems (by decide) r.2⟩) (Cert.ReferenceFfnFirstIdeal.Value.run (F := Ideal) m ρ),
    trivial,
    FfnAlg.algebraic,
    trivial,
    GateUp.algebraic,
    trivial,
    Down.algebraic,
    trivial,
    In.algebraic,
    trivial,
    Out.algebraic,
    trivial,
    Proj.algebraic,
    trivial,
    NormProj.algebraic,
    trivial,
    FwdAlg.algebraic,
    trivial,
    StepNorm.algebraic,
    trivial,
    StepConv.algebraic,
    trivial,
    StepHead.algebraic,
    trivial,
    StepSinks.algebraic,
    trivial,
    StepOut.algebraic,
    trivial,
    StepWo.algebraic,
    trivial,
    StepIn.algebraic,
    trivial,
    StepFf.algebraic,
    trivial,
    NextWo.algebraic,
    trivial,
    NextIn.algebraic,
    trivial,
    NextFf.algebraic,
    trivial,
    LossAlg.algebraic,
    trivial,
    FirstAlg.algebraic⟩

end Cert.Proof

end
